-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_WeightsReference (m : (ℓ : Loc Cert.WeightsReference.nD Cert.WeightsReference.τ Cert.WeightsReference.sig) → Buf (Elt Bits) ℓ) : Prop :=
  True

def Pre_Gains (m : (ℓ : Loc Cert.Gains.nD Cert.Gains.τ Cert.Gains.sig) → Buf (Elt Bits) ℓ) : Prop :=
  True

def Pre_GainsIdeal (m : (ℓ : Loc Cert.GainsIdeal.nD Cert.GainsIdeal.τ Cert.GainsIdeal.sig) → Buf (Elt Ideal) ℓ) : Prop :=
  True

def Pre_GainsReferenceIdeal (m : (ℓ : Loc Cert.GainsReferenceIdeal.nD Cert.GainsReferenceIdeal.τ Cert.GainsReferenceIdeal.sig) → Buf (Elt Ideal) ℓ) : Prop :=
  True

def Pre_GainsReference (m : (ℓ : Loc Cert.GainsReference.nD Cert.GainsReference.τ Cert.GainsReference.sig) → Buf (Elt Bits) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_Update1x256 (m : (ℓ : Loc Cert.Update1x256.nD Cert.Update1x256.τ Cert.Update1x256.sig) → Buf (Elt Bits) ℓ) : Prop :=
  True

def Pre_Update1x256Ideal (m : (ℓ : Loc Cert.Update1x256Ideal.nD Cert.Update1x256Ideal.τ Cert.Update1x256Ideal.sig) → Buf (Elt Ideal) ℓ) : Prop :=
  True

def Pre_UpdateReference1x256Ideal (m : (ℓ : Loc Cert.UpdateReference1x256Ideal.nD Cert.UpdateReference1x256Ideal.τ Cert.UpdateReference1x256Ideal.sig) → Buf (Elt Ideal) ℓ) : Prop :=
  True

def Pre_Update1x512 (m : (ℓ : Loc Cert.Update1x512.nD Cert.Update1x512.τ Cert.Update1x512.sig) → Buf (Elt Bits) ℓ) : Prop :=
  True

def Pre_Update1x512Ideal (m : (ℓ : Loc Cert.Update1x512Ideal.nD Cert.Update1x512Ideal.τ Cert.Update1x512Ideal.sig) → Buf (Elt Ideal) ℓ) : Prop :=
  True

def Pre_UpdateReference1x512Ideal (m : (ℓ : Loc Cert.UpdateReference1x512Ideal.nD Cert.UpdateReference1x512Ideal.τ Cert.UpdateReference1x512Ideal.sig) → Buf (Elt Ideal) ℓ) : Prop :=
  True

def Pre_Update1x2048 (m : (ℓ : Loc Cert.Update1x2048.nD Cert.Update1x2048.τ Cert.Update1x2048.sig) → Buf (Elt Bits) ℓ) : Prop :=
  True

def Pre_Update1x2048Ideal (m : (ℓ : Loc Cert.Update1x2048Ideal.nD Cert.Update1x2048Ideal.τ Cert.Update1x2048Ideal.sig) → Buf (Elt Ideal) ℓ) : Prop :=
  True

def Pre_UpdateReference1x2048Ideal (m : (ℓ : Loc Cert.UpdateReference1x2048Ideal.nD Cert.UpdateReference1x2048Ideal.τ Cert.UpdateReference1x2048Ideal.sig) → Buf (Elt Ideal) ℓ) : Prop :=
  True

def Pre_Update2x2048 (m : (ℓ : Loc Cert.Update2x2048.nD Cert.Update2x2048.τ Cert.Update2x2048.sig) → Buf (Elt Bits) ℓ) : Prop :=
  True

def Pre_Update2x2048Ideal (m : (ℓ : Loc Cert.Update2x2048Ideal.nD Cert.Update2x2048Ideal.τ Cert.Update2x2048Ideal.sig) → Buf (Elt Ideal) ℓ) : Prop :=
  True

def Pre_UpdateReference2x2048Ideal (m : (ℓ : Loc Cert.UpdateReference2x2048Ideal.nD Cert.UpdateReference2x2048Ideal.τ Cert.UpdateReference2x2048Ideal.sig) → Buf (Elt Ideal) ℓ) : Prop :=
  True

def Pre_Update256x512 (m : (ℓ : Loc Cert.Update256x512.nD Cert.Update256x512.τ Cert.Update256x512.sig) → Buf (Elt Bits) ℓ) : Prop :=
  True

def Pre_Update256x512Ideal (m : (ℓ : Loc Cert.Update256x512Ideal.nD Cert.Update256x512Ideal.τ Cert.Update256x512Ideal.sig) → Buf (Elt Ideal) ℓ) : Prop :=
  True

def Pre_UpdateReference256x512Ideal (m : (ℓ : Loc Cert.UpdateReference256x512Ideal.nD Cert.UpdateReference256x512Ideal.τ Cert.UpdateReference256x512Ideal.sig) → Buf (Elt Ideal) ℓ) : Prop :=
  True

def Pre_Update256x576 (m : (ℓ : Loc Cert.Update256x576.nD Cert.Update256x576.τ Cert.Update256x576.sig) → Buf (Elt Bits) ℓ) : Prop :=
  True

def Pre_Update256x576Ideal (m : (ℓ : Loc Cert.Update256x576Ideal.nD Cert.Update256x576Ideal.τ Cert.Update256x576Ideal.sig) → Buf (Elt Ideal) ℓ) : Prop :=
  True

def Pre_UpdateReference256x576Ideal (m : (ℓ : Loc Cert.UpdateReference256x576Ideal.nD Cert.UpdateReference256x576Ideal.τ Cert.UpdateReference256x576Ideal.sig) → Buf (Elt Ideal) ℓ) : Prop :=
  True

def Pre_Update256x2048 (m : (ℓ : Loc Cert.Update256x2048.nD Cert.Update256x2048.τ Cert.Update256x2048.sig) → Buf (Elt Bits) ℓ) : Prop :=
  True

def Pre_Update256x2048Ideal (m : (ℓ : Loc Cert.Update256x2048Ideal.nD Cert.Update256x2048Ideal.τ Cert.Update256x2048Ideal.sig) → Buf (Elt Ideal) ℓ) : Prop :=
  True

def Pre_UpdateReference256x2048Ideal (m : (ℓ : Loc Cert.UpdateReference256x2048Ideal.nD Cert.UpdateReference256x2048Ideal.τ Cert.UpdateReference256x2048Ideal.sig) → Buf (Elt Ideal) ℓ) : Prop :=
  True

def Pre_Update512x384 (m : (ℓ : Loc Cert.Update512x384.nD Cert.Update512x384.τ Cert.Update512x384.sig) → Buf (Elt Bits) ℓ) : Prop :=
  True

def Pre_Update512x384Ideal (m : (ℓ : Loc Cert.Update512x384Ideal.nD Cert.Update512x384Ideal.τ Cert.Update512x384Ideal.sig) → Buf (Elt Ideal) ℓ) : Prop :=
  True

def Pre_UpdateReference512x384Ideal (m : (ℓ : Loc Cert.UpdateReference512x384Ideal.nD Cert.UpdateReference512x384Ideal.τ Cert.UpdateReference512x384Ideal.sig) → Buf (Elt Ideal) ℓ) : Prop :=
  True

def Pre_Update512x512 (m : (ℓ : Loc Cert.Update512x512.nD Cert.Update512x512.τ Cert.Update512x512.sig) → Buf (Elt Bits) ℓ) : Prop :=
  True

def Pre_Update512x512Ideal (m : (ℓ : Loc Cert.Update512x512Ideal.nD Cert.Update512x512Ideal.τ Cert.Update512x512Ideal.sig) → Buf (Elt Ideal) ℓ) : Prop :=
  True

def Pre_UpdateReference512x512Ideal (m : (ℓ : Loc Cert.UpdateReference512x512Ideal.nD Cert.UpdateReference512x512Ideal.τ Cert.UpdateReference512x512Ideal.sig) → Buf (Elt Ideal) ℓ) : Prop :=
  True

def Pre_Update1408x2048 (m : (ℓ : Loc Cert.Update1408x2048.nD Cert.Update1408x2048.τ Cert.Update1408x2048.sig) → Buf (Elt Bits) ℓ) : Prop :=
  True

def Pre_Update1408x2048Ideal (m : (ℓ : Loc Cert.Update1408x2048Ideal.nD Cert.Update1408x2048Ideal.τ Cert.Update1408x2048Ideal.sig) → Buf (Elt Ideal) ℓ) : Prop :=
  True

def Pre_UpdateReference1408x2048Ideal (m : (ℓ : Loc Cert.UpdateReference1408x2048Ideal.nD Cert.UpdateReference1408x2048Ideal.τ Cert.UpdateReference1408x2048Ideal.sig) → Buf (Elt Ideal) ℓ) : Prop :=
  True

def Pre_Update4096x704 (m : (ℓ : Loc Cert.Update4096x704.nD Cert.Update4096x704.τ Cert.Update4096x704.sig) → Buf (Elt Bits) ℓ) : Prop :=
  True

def Pre_Update4096x704Ideal (m : (ℓ : Loc Cert.Update4096x704Ideal.nD Cert.Update4096x704Ideal.τ Cert.Update4096x704Ideal.sig) → Buf (Elt Ideal) ℓ) : Prop :=
  True

def Pre_UpdateReference4096x704Ideal (m : (ℓ : Loc Cert.UpdateReference4096x704Ideal.nD Cert.UpdateReference4096x704Ideal.τ Cert.UpdateReference4096x704Ideal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsReferenceIdeal (m : (ℓ : Loc Cert.GradsReferenceIdeal.nD Cert.GradsReferenceIdeal.τ Cert.GradsReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_PoolPre (m : (ℓ : Loc Cert.PoolPre.nD Cert.PoolPre.τ Cert.PoolPre.sig) → Buf (Elt Bits) ℓ) : Prop :=
  True

def Pre_PoolPreIdeal (m : (ℓ : Loc Cert.PoolPreIdeal.nD Cert.PoolPreIdeal.τ Cert.PoolPreIdeal.sig) → Buf (Elt Ideal) ℓ) : Prop :=
  True

def Pre_PoolPreReferenceIdeal (m : (ℓ : Loc Cert.PoolPreReferenceIdeal.nD Cert.PoolPreReferenceIdeal.τ Cert.PoolPreReferenceIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixReferenceIdeal (m : (ℓ : Loc Cert.PoolMixReferenceIdeal.nD Cert.PoolMixReferenceIdeal.τ Cert.PoolMixReferenceIdeal.sig) → Buf (Elt Ideal) ℓ) : Prop :=
  True

def Pre_PoolMixBwd (m : (ℓ : Loc Cert.PoolMixBwd.nD Cert.PoolMixBwd.τ Cert.PoolMixBwd.sig) → Buf (Elt Bits) ℓ) : Prop :=
  True

def Pre_PoolMixBwdIdeal (m : (ℓ : Loc Cert.PoolMixBwdIdeal.nD Cert.PoolMixBwdIdeal.τ Cert.PoolMixBwdIdeal.sig) → Buf (Elt Ideal) ℓ) : Prop :=
  True

def Pre_PoolMixBwdReferenceIdeal (m : (ℓ : Loc Cert.PoolMixBwdReferenceIdeal.nD Cert.PoolMixBwdReferenceIdeal.τ Cert.PoolMixBwdReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormReferenceIdeal (m : (ℓ : Loc Cert.FfnNormReferenceIdeal.nD Cert.FfnNormReferenceIdeal.τ Cert.FfnNormReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactReferenceIdeal (m : (ℓ : Loc Cert.FfnDactReferenceIdeal.nD Cert.FfnDactReferenceIdeal.τ Cert.FfnDactReferenceIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdReferenceIdeal (m : (ℓ : Loc Cert.FfnDwdReferenceIdeal.nD Cert.FfnDwdReferenceIdeal.τ Cert.FfnDwdReferenceIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_FfnDwg (m : (ℓ : Loc Cert.FfnDwg.nD Cert.FfnDwg.τ Cert.FfnDwg.sig) → Buf (Elt Bits) ℓ) : Prop :=
  True

def Pre_FfnDwgIdeal (m : (ℓ : Loc Cert.FfnDwgIdeal.nD Cert.FfnDwgIdeal.τ Cert.FfnDwgIdeal.sig) → Buf (Elt Ideal) ℓ) : Prop :=
  True

def Pre_FfnDwgReferenceIdeal (m : (ℓ : Loc Cert.FfnDwgReferenceIdeal.nD Cert.FfnDwgReferenceIdeal.τ Cert.FfnDwgReferenceIdeal.sig) → Buf (Elt Ideal) ℓ) : Prop :=
  True

def Pre_FfnNormBwd (m : (ℓ : Loc Cert.FfnNormBwd.nD Cert.FfnNormBwd.τ Cert.FfnNormBwd.sig) → Buf (Elt Bits) ℓ) : Prop :=
  True

def Pre_FfnNormBwdIdeal (m : (ℓ : Loc Cert.FfnNormBwdIdeal.nD Cert.FfnNormBwdIdeal.τ Cert.FfnNormBwdIdeal.sig) → Buf (Elt Ideal) ℓ) : Prop :=
  True

def Pre_FfnNormBwdReferenceIdeal (m : (ℓ : Loc Cert.FfnNormBwdReferenceIdeal.nD Cert.FfnNormBwdReferenceIdeal.τ Cert.FfnNormBwdReferenceIdeal.sig) → Buf (Elt Ideal) ℓ) : Prop :=
  True

def Pre_AttnDelta (m : (ℓ : Loc Cert.AttnDelta.nD Cert.AttnDelta.τ Cert.AttnDelta.sig) → Buf (Elt Bits) ℓ) : Prop :=
  True

def Pre_AttnDeltaIdeal (m : (ℓ : Loc Cert.AttnDeltaIdeal.nD Cert.AttnDeltaIdeal.τ Cert.AttnDeltaIdeal.sig) → Buf (Elt Ideal) ℓ) : Prop :=
  True

def Pre_AttnDeltaReferenceIdeal (m : (ℓ : Loc Cert.AttnDeltaReferenceIdeal.nD Cert.AttnDeltaReferenceIdeal.τ Cert.AttnDeltaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0))
      ∧ r.2.sem = fun _ => 0)

def quiescent_WeightsReference [hWeightsReference : Cert.WeightsReference.Facts] : Prop :=
  ∀ (m : (ℓ : Loc Cert.WeightsReference.nD Cert.WeightsReference.τ Cert.WeightsReference.sig) → Buf (Elt Bits) ℓ) (g : Dev Cert.WeightsReference.nD → PrngReg), Pre_WeightsReference m →
    θ_run (Cert.WeightsReference.defs (F := Bits)) (onTc (τ := Cert.WeightsReference.τ) (Cert.WeightsReference.main (F := Bits))) ⟨m, fun _ => 0, g⟩ (fun r => (∀ c : Dev Cert.WeightsReference.nD,
      r.2.mem ((c.tc : Thread Cert.WeightsReference.nD Cert.WeightsReference.τ).loc Cert.WeightsReference.main_arg0) = m ((c.tc : Thread Cert.WeightsReference.nD Cert.WeightsReference.τ).loc Cert.WeightsReference.main_arg0))
      ∧ r.2.sem = fun _ => 0)

def quiescent_Gains [hGains : Cert.Gains.Facts] : Prop :=
  ∀ (m : (ℓ : Loc Cert.Gains.nD Cert.Gains.τ Cert.Gains.sig) → Buf (Elt Bits) ℓ) (g : Dev Cert.Gains.nD → PrngReg), Pre_Gains m →
    θ_run (Cert.Gains.defs (F := Bits)) (onTc (τ := Cert.Gains.τ) (Cert.Gains.main (F := Bits))) ⟨m, fun _ => 0, g⟩ (fun r => (∀ c : Dev Cert.Gains.nD,
      r.2.mem ((c.tc : Thread Cert.Gains.nD Cert.Gains.τ).loc Cert.Gains.main_arg0) = m ((c.tc : Thread Cert.Gains.nD Cert.Gains.τ).loc Cert.Gains.main_arg0))
      ∧ r.2.sem = fun _ => 0)

def quiescent_GainsIdeal [hGainsIdeal : Cert.GainsIdeal.Facts] : Prop :=
  ∀ (m : (ℓ : Loc Cert.GainsIdeal.nD Cert.GainsIdeal.τ Cert.GainsIdeal.sig) → Buf (Elt Ideal) ℓ) (g : Dev Cert.GainsIdeal.nD → PrngReg), Pre_GainsIdeal m →
    θ_run (Cert.GainsIdeal.defs (F := Ideal)) (onTc (τ := Cert.GainsIdeal.τ) (Cert.GainsIdeal.main (F := Ideal))) ⟨m, fun _ => 0, g⟩ (fun r => (∀ c : Dev Cert.GainsIdeal.nD,
      r.2.mem ((c.tc : Thread Cert.GainsIdeal.nD Cert.GainsIdeal.τ).loc Cert.GainsIdeal.main_arg0) = m ((c.tc : Thread Cert.GainsIdeal.nD Cert.GainsIdeal.τ).loc Cert.GainsIdeal.main_arg0))
      ∧ r.2.sem = fun _ => 0)

def quiescent_GainsReferenceIdeal [hGainsReferenceIdeal : Cert.GainsReferenceIdeal.Facts] : Prop :=
  ∀ (m : (ℓ : Loc Cert.GainsReferenceIdeal.nD Cert.GainsReferenceIdeal.τ Cert.GainsReferenceIdeal.sig) → Buf (Elt Ideal) ℓ) (g : Dev Cert.GainsReferenceIdeal.nD → PrngReg), Pre_GainsReferenceIdeal m →
    θ_run (Cert.GainsReferenceIdeal.defs (F := Ideal)) (onTc (τ := Cert.GainsReferenceIdeal.τ) (Cert.GainsReferenceIdeal.main (F := Ideal))) ⟨m, fun _ => 0, g⟩ (fun r => (∀ c : Dev Cert.GainsReferenceIdeal.nD,
      r.2.mem ((c.tc : Thread Cert.GainsReferenceIdeal.nD Cert.GainsReferenceIdeal.τ).loc Cert.GainsReferenceIdeal.main_arg0) = m ((c.tc : Thread Cert.GainsReferenceIdeal.nD Cert.GainsReferenceIdeal.τ).loc Cert.GainsReferenceIdeal.main_arg0))
      ∧ r.2.sem = fun _ => 0)

def quiescent_GainsReference [hGainsReference : Cert.GainsReference.Facts] : Prop :=
  ∀ (m : (ℓ : Loc Cert.GainsReference.nD Cert.GainsReference.τ Cert.GainsReference.sig) → Buf (Elt Bits) ℓ) (g : Dev Cert.GainsReference.nD → PrngReg), Pre_GainsReference m →
    θ_run (Cert.GainsReference.defs (F := Bits)) (onTc (τ := Cert.GainsReference.τ) (Cert.GainsReference.main (F := Bits))) ⟨m, fun _ => 0, g⟩ (fun r => (∀ c : Dev Cert.GainsReference.nD,
      r.2.mem ((c.tc : Thread Cert.GainsReference.nD Cert.GainsReference.τ).loc Cert.GainsReference.main_arg0) = m ((c.tc : Thread Cert.GainsReference.nD Cert.GainsReference.τ).loc Cert.GainsReference.main_arg0))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_Update1x256 [hUpdate1x256 : Cert.Update1x256.Facts] : Prop :=
  ∀ (m : (ℓ : Loc Cert.Update1x256.nD Cert.Update1x256.τ Cert.Update1x256.sig) → Buf (Elt Bits) ℓ) (g : Dev Cert.Update1x256.nD → PrngReg), Pre_Update1x256 m →
    θ_run (Cert.Update1x256.defs (F := Bits)) (onTc (τ := Cert.Update1x256.τ) (Cert.Update1x256.main (F := Bits))) ⟨m, fun _ => 0, g⟩ (fun r => (∀ c : Dev Cert.Update1x256.nD,
      r.2.mem ((c.tc : Thread Cert.Update1x256.nD Cert.Update1x256.τ).loc Cert.Update1x256.main_arg0) = m ((c.tc : Thread Cert.Update1x256.nD Cert.Update1x256.τ).loc Cert.Update1x256.main_arg0)
      ∧ r.2.mem ((c.tc : Thread Cert.Update1x256.nD Cert.Update1x256.τ).loc Cert.Update1x256.main_arg1) = m ((c.tc : Thread Cert.Update1x256.nD Cert.Update1x256.τ).loc Cert.Update1x256.main_arg1)
      ∧ r.2.mem ((c.tc : Thread Cert.Update1x256.nD Cert.Update1x256.τ).loc Cert.Update1x256.main_arg2) = m ((c.tc : Thread Cert.Update1x256.nD Cert.Update1x256.τ).loc Cert.Update1x256.main_arg2)
      ∧ r.2.mem ((c.tc : Thread Cert.Update1x256.nD Cert.Update1x256.τ).loc Cert.Update1x256.main_arg3) = m ((c.tc : Thread Cert.Update1x256.nD Cert.Update1x256.τ).loc Cert.Update1x256.main_arg3))
      ∧ r.2.sem = fun _ => 0)

def quiescent_Update1x256Ideal [hUpdate1x256Ideal : Cert.Update1x256Ideal.Facts] : Prop :=
  ∀ (m : (ℓ : Loc Cert.Update1x256Ideal.nD Cert.Update1x256Ideal.τ Cert.Update1x256Ideal.sig) → Buf (Elt Ideal) ℓ) (g : Dev Cert.Update1x256Ideal.nD → PrngReg), Pre_Update1x256Ideal m →
    θ_run (Cert.Update1x256Ideal.defs (F := Ideal)) (onTc (τ := Cert.Update1x256Ideal.τ) (Cert.Update1x256Ideal.main (F := Ideal))) ⟨m, fun _ => 0, g⟩ (fun r => (∀ c : Dev Cert.Update1x256Ideal.nD,
      r.2.mem ((c.tc : Thread Cert.Update1x256Ideal.nD Cert.Update1x256Ideal.τ).loc Cert.Update1x256Ideal.main_arg0) = m ((c.tc : Thread Cert.Update1x256Ideal.nD Cert.Update1x256Ideal.τ).loc Cert.Update1x256Ideal.main_arg0)
      ∧ r.2.mem ((c.tc : Thread Cert.Update1x256Ideal.nD Cert.Update1x256Ideal.τ).loc Cert.Update1x256Ideal.main_arg1) = m ((c.tc : Thread Cert.Update1x256Ideal.nD Cert.Update1x256Ideal.τ).loc Cert.Update1x256Ideal.main_arg1)
      ∧ r.2.mem ((c.tc : Thread Cert.Update1x256Ideal.nD Cert.Update1x256Ideal.τ).loc Cert.Update1x256Ideal.main_arg2) = m ((c.tc : Thread Cert.Update1x256Ideal.nD Cert.Update1x256Ideal.τ).loc Cert.Update1x256Ideal.main_arg2)
      ∧ r.2.mem ((c.tc : Thread Cert.Update1x256Ideal.nD Cert.Update1x256Ideal.τ).loc Cert.Update1x256Ideal.main_arg3) = m ((c.tc : Thread Cert.Update1x256Ideal.nD Cert.Update1x256Ideal.τ).loc Cert.Update1x256Ideal.main_arg3))
      ∧ r.2.sem = fun _ => 0)

def quiescent_UpdateReference1x256Ideal [hUpdateReference1x256Ideal : Cert.UpdateReference1x256Ideal.Facts] : Prop :=
  ∀ (m : (ℓ : Loc Cert.UpdateReference1x256Ideal.nD Cert.UpdateReference1x256Ideal.τ Cert.UpdateReference1x256Ideal.sig) → Buf (Elt Ideal) ℓ) (g : Dev Cert.UpdateReference1x256Ideal.nD → PrngReg), Pre_UpdateReference1x256Ideal m →
    θ_run (Cert.UpdateReference1x256Ideal.defs (F := Ideal)) (onTc (τ := Cert.UpdateReference1x256Ideal.τ) (Cert.UpdateReference1x256Ideal.main (F := Ideal))) ⟨m, fun _ => 0, g⟩ (fun r => (∀ c : Dev Cert.UpdateReference1x256Ideal.nD,
      r.2.mem ((c.tc : Thread Cert.UpdateReference1x256Ideal.nD Cert.UpdateReference1x256Ideal.τ).loc Cert.UpdateReference1x256Ideal.main_arg0) = m ((c.tc : Thread Cert.UpdateReference1x256Ideal.nD Cert.UpdateReference1x256Ideal.τ).loc Cert.UpdateReference1x256Ideal.main_arg0)
      ∧ r.2.mem ((c.tc : Thread Cert.UpdateReference1x256Ideal.nD Cert.UpdateReference1x256Ideal.τ).loc Cert.UpdateReference1x256Ideal.main_arg1) = m ((c.tc : Thread Cert.UpdateReference1x256Ideal.nD Cert.UpdateReference1x256Ideal.τ).loc Cert.UpdateReference1x256Ideal.main_arg1)
      ∧ r.2.mem ((c.tc : Thread Cert.UpdateReference1x256Ideal.nD Cert.UpdateReference1x256Ideal.τ).loc Cert.UpdateReference1x256Ideal.main_arg2) = m ((c.tc : Thread Cert.UpdateReference1x256Ideal.nD Cert.UpdateReference1x256Ideal.τ).loc Cert.UpdateReference1x256Ideal.main_arg2)
      ∧ r.2.mem ((c.tc : Thread Cert.UpdateReference1x256Ideal.nD Cert.UpdateReference1x256Ideal.τ).loc Cert.UpdateReference1x256Ideal.main_arg3) = m ((c.tc : Thread Cert.UpdateReference1x256Ideal.nD Cert.UpdateReference1x256Ideal.τ).loc Cert.UpdateReference1x256Ideal.main_arg3))
      ∧ r.2.sem = fun _ => 0)

def quiescent_Update1x512 [hUpdate1x512 : Cert.Update1x512.Facts] : Prop :=
  ∀ (m : (ℓ : Loc Cert.Update1x512.nD Cert.Update1x512.τ Cert.Update1x512.sig) → Buf (Elt Bits) ℓ) (g : Dev Cert.Update1x512.nD → PrngReg), Pre_Update1x512 m →
    θ_run (Cert.Update1x512.defs (F := Bits)) (onTc (τ := Cert.Update1x512.τ) (Cert.Update1x512.main (F := Bits))) ⟨m, fun _ => 0, g⟩ (fun r => (∀ c : Dev Cert.Update1x512.nD,
      r.2.mem ((c.tc : Thread Cert.Update1x512.nD Cert.Update1x512.τ).loc Cert.Update1x512.main_arg0) = m ((c.tc : Thread Cert.Update1x512.nD Cert.Update1x512.τ).loc Cert.Update1x512.main_arg0)
      ∧ r.2.mem ((c.tc : Thread Cert.Update1x512.nD Cert.Update1x512.τ).loc Cert.Update1x512.main_arg1) = m ((c.tc : Thread Cert.Update1x512.nD Cert.Update1x512.τ).loc Cert.Update1x512.main_arg1)
      ∧ r.2.mem ((c.tc : Thread Cert.Update1x512.nD Cert.Update1x512.τ).loc Cert.Update1x512.main_arg2) = m ((c.tc : Thread Cert.Update1x512.nD Cert.Update1x512.τ).loc Cert.Update1x512.main_arg2)
      ∧ r.2.mem ((c.tc : Thread Cert.Update1x512.nD Cert.Update1x512.τ).loc Cert.Update1x512.main_arg3) = m ((c.tc : Thread Cert.Update1x512.nD Cert.Update1x512.τ).loc Cert.Update1x512.main_arg3))
      ∧ r.2.sem = fun _ => 0)

def quiescent_Update1x512Ideal [hUpdate1x512Ideal : Cert.Update1x512Ideal.Facts] : Prop :=
  ∀ (m : (ℓ : Loc Cert.Update1x512Ideal.nD Cert.Update1x512Ideal.τ Cert.Update1x512Ideal.sig) → Buf (Elt Ideal) ℓ) (g : Dev Cert.Update1x512Ideal.nD → PrngReg), Pre_Update1x512Ideal m →
    θ_run (Cert.Update1x512Ideal.defs (F := Ideal)) (onTc (τ := Cert.Update1x512Ideal.τ) (Cert.Update1x512Ideal.main (F := Ideal))) ⟨m, fun _ => 0, g⟩ (fun r => (∀ c : Dev Cert.Update1x512Ideal.nD,
      r.2.mem ((c.tc : Thread Cert.Update1x512Ideal.nD Cert.Update1x512Ideal.τ).loc Cert.Update1x512Ideal.main_arg0) = m ((c.tc : Thread Cert.Update1x512Ideal.nD Cert.Update1x512Ideal.τ).loc Cert.Update1x512Ideal.main_arg0)
      ∧ r.2.mem ((c.tc : Thread Cert.Update1x512Ideal.nD Cert.Update1x512Ideal.τ).loc Cert.Update1x512Ideal.main_arg1) = m ((c.tc : Thread Cert.Update1x512Ideal.nD Cert.Update1x512Ideal.τ).loc Cert.Update1x512Ideal.main_arg1)
      ∧ r.2.mem ((c.tc : Thread Cert.Update1x512Ideal.nD Cert.Update1x512Ideal.τ).loc Cert.Update1x512Ideal.main_arg2) = m ((c.tc : Thread Cert.Update1x512Ideal.nD Cert.Update1x512Ideal.τ).loc Cert.Update1x512Ideal.main_arg2)
      ∧ r.2.mem ((c.tc : Thread Cert.Update1x512Ideal.nD Cert.Update1x512Ideal.τ).loc Cert.Update1x512Ideal.main_arg3) = m ((c.tc : Thread Cert.Update1x512Ideal.nD Cert.Update1x512Ideal.τ).loc Cert.Update1x512Ideal.main_arg3))
      ∧ r.2.sem = fun _ => 0)

def quiescent_UpdateReference1x512Ideal [hUpdateReference1x512Ideal : Cert.UpdateReference1x512Ideal.Facts] : Prop :=
  ∀ (m : (ℓ : Loc Cert.UpdateReference1x512Ideal.nD Cert.UpdateReference1x512Ideal.τ Cert.UpdateReference1x512Ideal.sig) → Buf (Elt Ideal) ℓ) (g : Dev Cert.UpdateReference1x512Ideal.nD → PrngReg), Pre_UpdateReference1x512Ideal m →
    θ_run (Cert.UpdateReference1x512Ideal.defs (F := Ideal)) (onTc (τ := Cert.UpdateReference1x512Ideal.τ) (Cert.UpdateReference1x512Ideal.main (F := Ideal))) ⟨m, fun _ => 0, g⟩ (fun r => (∀ c : Dev Cert.UpdateReference1x512Ideal.nD,
      r.2.mem ((c.tc : Thread Cert.UpdateReference1x512Ideal.nD Cert.UpdateReference1x512Ideal.τ).loc Cert.UpdateReference1x512Ideal.main_arg0) = m ((c.tc : Thread Cert.UpdateReference1x512Ideal.nD Cert.UpdateReference1x512Ideal.τ).loc Cert.UpdateReference1x512Ideal.main_arg0)
      ∧ r.2.mem ((c.tc : Thread Cert.UpdateReference1x512Ideal.nD Cert.UpdateReference1x512Ideal.τ).loc Cert.UpdateReference1x512Ideal.main_arg1) = m ((c.tc : Thread Cert.UpdateReference1x512Ideal.nD Cert.UpdateReference1x512Ideal.τ).loc Cert.UpdateReference1x512Ideal.main_arg1)
      ∧ r.2.mem ((c.tc : Thread Cert.UpdateReference1x512Ideal.nD Cert.UpdateReference1x512Ideal.τ).loc Cert.UpdateReference1x512Ideal.main_arg2) = m ((c.tc : Thread Cert.UpdateReference1x512Ideal.nD Cert.UpdateReference1x512Ideal.τ).loc Cert.UpdateReference1x512Ideal.main_arg2)
      ∧ r.2.mem ((c.tc : Thread Cert.UpdateReference1x512Ideal.nD Cert.UpdateReference1x512Ideal.τ).loc Cert.UpdateReference1x512Ideal.main_arg3) = m ((c.tc : Thread Cert.UpdateReference1x512Ideal.nD Cert.UpdateReference1x512Ideal.τ).loc Cert.UpdateReference1x512Ideal.main_arg3))
      ∧ r.2.sem = fun _ => 0)

def quiescent_Update1x2048 [hUpdate1x2048 : Cert.Update1x2048.Facts] : Prop :=
  ∀ (m : (ℓ : Loc Cert.Update1x2048.nD Cert.Update1x2048.τ Cert.Update1x2048.sig) → Buf (Elt Bits) ℓ) (g : Dev Cert.Update1x2048.nD → PrngReg), Pre_Update1x2048 m →
    θ_run (Cert.Update1x2048.defs (F := Bits)) (onTc (τ := Cert.Update1x2048.τ) (Cert.Update1x2048.main (F := Bits))) ⟨m, fun _ => 0, g⟩ (fun r => (∀ c : Dev Cert.Update1x2048.nD,
      r.2.mem ((c.tc : Thread Cert.Update1x2048.nD Cert.Update1x2048.τ).loc Cert.Update1x2048.main_arg0) = m ((c.tc : Thread Cert.Update1x2048.nD Cert.Update1x2048.τ).loc Cert.Update1x2048.main_arg0)
      ∧ r.2.mem ((c.tc : Thread Cert.Update1x2048.nD Cert.Update1x2048.τ).loc Cert.Update1x2048.main_arg1) = m ((c.tc : Thread Cert.Update1x2048.nD Cert.Update1x2048.τ).loc Cert.Update1x2048.main_arg1)
      ∧ r.2.mem ((c.tc : Thread Cert.Update1x2048.nD Cert.Update1x2048.τ).loc Cert.Update1x2048.main_arg2) = m ((c.tc : Thread Cert.Update1x2048.nD Cert.Update1x2048.τ).loc Cert.Update1x2048.main_arg2)
      ∧ r.2.mem ((c.tc : Thread Cert.Update1x2048.nD Cert.Update1x2048.τ).loc Cert.Update1x2048.main_arg3) = m ((c.tc : Thread Cert.Update1x2048.nD Cert.Update1x2048.τ).loc Cert.Update1x2048.main_arg3))
      ∧ r.2.sem = fun _ => 0)

def quiescent_Update1x2048Ideal [hUpdate1x2048Ideal : Cert.Update1x2048Ideal.Facts] : Prop :=
  ∀ (m : (ℓ : Loc Cert.Update1x2048Ideal.nD Cert.Update1x2048Ideal.τ Cert.Update1x2048Ideal.sig) → Buf (Elt Ideal) ℓ) (g : Dev Cert.Update1x2048Ideal.nD → PrngReg), Pre_Update1x2048Ideal m →
    θ_run (Cert.Update1x2048Ideal.defs (F := Ideal)) (onTc (τ := Cert.Update1x2048Ideal.τ) (Cert.Update1x2048Ideal.main (F := Ideal))) ⟨m, fun _ => 0, g⟩ (fun r => (∀ c : Dev Cert.Update1x2048Ideal.nD,
      r.2.mem ((c.tc : Thread Cert.Update1x2048Ideal.nD Cert.Update1x2048Ideal.τ).loc Cert.Update1x2048Ideal.main_arg0) = m ((c.tc : Thread Cert.Update1x2048Ideal.nD Cert.Update1x2048Ideal.τ).loc Cert.Update1x2048Ideal.main_arg0)
      ∧ r.2.mem ((c.tc : Thread Cert.Update1x2048Ideal.nD Cert.Update1x2048Ideal.τ).loc Cert.Update1x2048Ideal.main_arg1) = m ((c.tc : Thread Cert.Update1x2048Ideal.nD Cert.Update1x2048Ideal.τ).loc Cert.Update1x2048Ideal.main_arg1)
      ∧ r.2.mem ((c.tc : Thread Cert.Update1x2048Ideal.nD Cert.Update1x2048Ideal.τ).loc Cert.Update1x2048Ideal.main_arg2) = m ((c.tc : Thread Cert.Update1x2048Ideal.nD Cert.Update1x2048Ideal.τ).loc Cert.Update1x2048Ideal.main_arg2)
      ∧ r.2.mem ((c.tc : Thread Cert.Update1x2048Ideal.nD Cert.Update1x2048Ideal.τ).loc Cert.Update1x2048Ideal.main_arg3) = m ((c.tc : Thread Cert.Update1x2048Ideal.nD Cert.Update1x2048Ideal.τ).loc Cert.Update1x2048Ideal.main_arg3))
      ∧ r.2.sem = fun _ => 0)

def quiescent_UpdateReference1x2048Ideal [hUpdateReference1x2048Ideal : Cert.UpdateReference1x2048Ideal.Facts] : Prop :=
  ∀ (m : (ℓ : Loc Cert.UpdateReference1x2048Ideal.nD Cert.UpdateReference1x2048Ideal.τ Cert.UpdateReference1x2048Ideal.sig) → Buf (Elt Ideal) ℓ) (g : Dev Cert.UpdateReference1x2048Ideal.nD → PrngReg), Pre_UpdateReference1x2048Ideal m →
    θ_run (Cert.UpdateReference1x2048Ideal.defs (F := Ideal)) (onTc (τ := Cert.UpdateReference1x2048Ideal.τ) (Cert.UpdateReference1x2048Ideal.main (F := Ideal))) ⟨m, fun _ => 0, g⟩ (fun r => (∀ c : Dev Cert.UpdateReference1x2048Ideal.nD,
      r.2.mem ((c.tc : Thread Cert.UpdateReference1x2048Ideal.nD Cert.UpdateReference1x2048Ideal.τ).loc Cert.UpdateReference1x2048Ideal.main_arg0) = m ((c.tc : Thread Cert.UpdateReference1x2048Ideal.nD Cert.UpdateReference1x2048Ideal.τ).loc Cert.UpdateReference1x2048Ideal.main_arg0)
      ∧ r.2.mem ((c.tc : Thread Cert.UpdateReference1x2048Ideal.nD Cert.UpdateReference1x2048Ideal.τ).loc Cert.UpdateReference1x2048Ideal.main_arg1) = m ((c.tc : Thread Cert.UpdateReference1x2048Ideal.nD Cert.UpdateReference1x2048Ideal.τ).loc Cert.UpdateReference1x2048Ideal.main_arg1)
      ∧ r.2.mem ((c.tc : Thread Cert.UpdateReference1x2048Ideal.nD Cert.UpdateReference1x2048Ideal.τ).loc Cert.UpdateReference1x2048Ideal.main_arg2) = m ((c.tc : Thread Cert.UpdateReference1x2048Ideal.nD Cert.UpdateReference1x2048Ideal.τ).loc Cert.UpdateReference1x2048Ideal.main_arg2)
      ∧ r.2.mem ((c.tc : Thread Cert.UpdateReference1x2048Ideal.nD Cert.UpdateReference1x2048Ideal.τ).loc Cert.UpdateReference1x2048Ideal.main_arg3) = m ((c.tc : Thread Cert.UpdateReference1x2048Ideal.nD Cert.UpdateReference1x2048Ideal.τ).loc Cert.UpdateReference1x2048Ideal.main_arg3))
      ∧ r.2.sem = fun _ => 0)

def quiescent_Update2x2048 [hUpdate2x2048 : Cert.Update2x2048.Facts] : Prop :=
  ∀ (m : (ℓ : Loc Cert.Update2x2048.nD Cert.Update2x2048.τ Cert.Update2x2048.sig) → Buf (Elt Bits) ℓ) (g : Dev Cert.Update2x2048.nD → PrngReg), Pre_Update2x2048 m →
    θ_run (Cert.Update2x2048.defs (F := Bits)) (onTc (τ := Cert.Update2x2048.τ) (Cert.Update2x2048.main (F := Bits))) ⟨m, fun _ => 0, g⟩ (fun r => (∀ c : Dev Cert.Update2x2048.nD,
      r.2.mem ((c.tc : Thread Cert.Update2x2048.nD Cert.Update2x2048.τ).loc Cert.Update2x2048.main_arg0) = m ((c.tc : Thread Cert.Update2x2048.nD Cert.Update2x2048.τ).loc Cert.Update2x2048.main_arg0)
      ∧ r.2.mem ((c.tc : Thread Cert.Update2x2048.nD Cert.Update2x2048.τ).loc Cert.Update2x2048.main_arg1) = m ((c.tc : Thread Cert.Update2x2048.nD Cert.Update2x2048.τ).loc Cert.Update2x2048.main_arg1)
      ∧ r.2.mem ((c.tc : Thread Cert.Update2x2048.nD Cert.Update2x2048.τ).loc Cert.Update2x2048.main_arg2) = m ((c.tc : Thread Cert.Update2x2048.nD Cert.Update2x2048.τ).loc Cert.Update2x2048.main_arg2)
      ∧ r.2.mem ((c.tc : Thread Cert.Update2x2048.nD Cert.Update2x2048.τ).loc Cert.Update2x2048.main_arg3) = m ((c.tc : Thread Cert.Update2x2048.nD Cert.Update2x2048.τ).loc Cert.Update2x2048.main_arg3))
      ∧ r.2.sem = fun _ => 0)

def quiescent_Update2x2048Ideal [hUpdate2x2048Ideal : Cert.Update2x2048Ideal.Facts] : Prop :=
  ∀ (m : (ℓ : Loc Cert.Update2x2048Ideal.nD Cert.Update2x2048Ideal.τ Cert.Update2x2048Ideal.sig) → Buf (Elt Ideal) ℓ) (g : Dev Cert.Update2x2048Ideal.nD → PrngReg), Pre_Update2x2048Ideal m →
    θ_run (Cert.Update2x2048Ideal.defs (F := Ideal)) (onTc (τ := Cert.Update2x2048Ideal.τ) (Cert.Update2x2048Ideal.main (F := Ideal))) ⟨m, fun _ => 0, g⟩ (fun r => (∀ c : Dev Cert.Update2x2048Ideal.nD,
      r.2.mem ((c.tc : Thread Cert.Update2x2048Ideal.nD Cert.Update2x2048Ideal.τ).loc Cert.Update2x2048Ideal.main_arg0) = m ((c.tc : Thread Cert.Update2x2048Ideal.nD Cert.Update2x2048Ideal.τ).loc Cert.Update2x2048Ideal.main_arg0)
      ∧ r.2.mem ((c.tc : Thread Cert.Update2x2048Ideal.nD Cert.Update2x2048Ideal.τ).loc Cert.Update2x2048Ideal.main_arg1) = m ((c.tc : Thread Cert.Update2x2048Ideal.nD Cert.Update2x2048Ideal.τ).loc Cert.Update2x2048Ideal.main_arg1)
      ∧ r.2.mem ((c.tc : Thread Cert.Update2x2048Ideal.nD Cert.Update2x2048Ideal.τ).loc Cert.Update2x2048Ideal.main_arg2) = m ((c.tc : Thread Cert.Update2x2048Ideal.nD Cert.Update2x2048Ideal.τ).loc Cert.Update2x2048Ideal.main_arg2)
      ∧ r.2.mem ((c.tc : Thread Cert.Update2x2048Ideal.nD Cert.Update2x2048Ideal.τ).loc Cert.Update2x2048Ideal.main_arg3) = m ((c.tc : Thread Cert.Update2x2048Ideal.nD Cert.Update2x2048Ideal.τ).loc Cert.Update2x2048Ideal.main_arg3))
      ∧ r.2.sem = fun _ => 0)

def quiescent_UpdateReference2x2048Ideal [hUpdateReference2x2048Ideal : Cert.UpdateReference2x2048Ideal.Facts] : Prop :=
  ∀ (m : (ℓ : Loc Cert.UpdateReference2x2048Ideal.nD Cert.UpdateReference2x2048Ideal.τ Cert.UpdateReference2x2048Ideal.sig) → Buf (Elt Ideal) ℓ) (g : Dev Cert.UpdateReference2x2048Ideal.nD → PrngReg), Pre_UpdateReference2x2048Ideal m →
    θ_run (Cert.UpdateReference2x2048Ideal.defs (F := Ideal)) (onTc (τ := Cert.UpdateReference2x2048Ideal.τ) (Cert.UpdateReference2x2048Ideal.main (F := Ideal))) ⟨m, fun _ => 0, g⟩ (fun r => (∀ c : Dev Cert.UpdateReference2x2048Ideal.nD,
      r.2.mem ((c.tc : Thread Cert.UpdateReference2x2048Ideal.nD Cert.UpdateReference2x2048Ideal.τ).loc Cert.UpdateReference2x2048Ideal.main_arg0) = m ((c.tc : Thread Cert.UpdateReference2x2048Ideal.nD Cert.UpdateReference2x2048Ideal.τ).loc Cert.UpdateReference2x2048Ideal.main_arg0)
      ∧ r.2.mem ((c.tc : Thread Cert.UpdateReference2x2048Ideal.nD Cert.UpdateReference2x2048Ideal.τ).loc Cert.UpdateReference2x2048Ideal.main_arg1) = m ((c.tc : Thread Cert.UpdateReference2x2048Ideal.nD Cert.UpdateReference2x2048Ideal.τ).loc Cert.UpdateReference2x2048Ideal.main_arg1)
      ∧ r.2.mem ((c.tc : Thread Cert.UpdateReference2x2048Ideal.nD Cert.UpdateReference2x2048Ideal.τ).loc Cert.UpdateReference2x2048Ideal.main_arg2) = m ((c.tc : Thread Cert.UpdateReference2x2048Ideal.nD Cert.UpdateReference2x2048Ideal.τ).loc Cert.UpdateReference2x2048Ideal.main_arg2)
      ∧ r.2.mem ((c.tc : Thread Cert.UpdateReference2x2048Ideal.nD Cert.UpdateReference2x2048Ideal.τ).loc Cert.UpdateReference2x2048Ideal.main_arg3) = m ((c.tc : Thread Cert.UpdateReference2x2048Ideal.nD Cert.UpdateReference2x2048Ideal.τ).loc Cert.UpdateReference2x2048Ideal.main_arg3))
      ∧ r.2.sem = fun _ => 0)

def quiescent_Update256x512 [hUpdate256x512 : Cert.Update256x512.Facts] : Prop :=
  ∀ (m : (ℓ : Loc Cert.Update256x512.nD Cert.Update256x512.τ Cert.Update256x512.sig) → Buf (Elt Bits) ℓ) (g : Dev Cert.Update256x512.nD → PrngReg), Pre_Update256x512 m →
    θ_run (Cert.Update256x512.defs (F := Bits)) (onTc (τ := Cert.Update256x512.τ) (Cert.Update256x512.main (F := Bits))) ⟨m, fun _ => 0, g⟩ (fun r => (∀ c : Dev Cert.Update256x512.nD,
      r.2.mem ((c.tc : Thread Cert.Update256x512.nD Cert.Update256x512.τ).loc Cert.Update256x512.main_arg0) = m ((c.tc : Thread Cert.Update256x512.nD Cert.Update256x512.τ).loc Cert.Update256x512.main_arg0)
      ∧ r.2.mem ((c.tc : Thread Cert.Update256x512.nD Cert.Update256x512.τ).loc Cert.Update256x512.main_arg1) = m ((c.tc : Thread Cert.Update256x512.nD Cert.Update256x512.τ).loc Cert.Update256x512.main_arg1)
      ∧ r.2.mem ((c.tc : Thread Cert.Update256x512.nD Cert.Update256x512.τ).loc Cert.Update256x512.main_arg2) = m ((c.tc : Thread Cert.Update256x512.nD Cert.Update256x512.τ).loc Cert.Update256x512.main_arg2)
      ∧ r.2.mem ((c.tc : Thread Cert.Update256x512.nD Cert.Update256x512.τ).loc Cert.Update256x512.main_arg3) = m ((c.tc : Thread Cert.Update256x512.nD Cert.Update256x512.τ).loc Cert.Update256x512.main_arg3))
      ∧ r.2.sem = fun _ => 0)

def quiescent_Update256x512Ideal [hUpdate256x512Ideal : Cert.Update256x512Ideal.Facts] : Prop :=
  ∀ (m : (ℓ : Loc Cert.Update256x512Ideal.nD Cert.Update256x512Ideal.τ Cert.Update256x512Ideal.sig) → Buf (Elt Ideal) ℓ) (g : Dev Cert.Update256x512Ideal.nD → PrngReg), Pre_Update256x512Ideal m →
    θ_run (Cert.Update256x512Ideal.defs (F := Ideal)) (onTc (τ := Cert.Update256x512Ideal.τ) (Cert.Update256x512Ideal.main (F := Ideal))) ⟨m, fun _ => 0, g⟩ (fun r => (∀ c : Dev Cert.Update256x512Ideal.nD,
      r.2.mem ((c.tc : Thread Cert.Update256x512Ideal.nD Cert.Update256x512Ideal.τ).loc Cert.Update256x512Ideal.main_arg0) = m ((c.tc : Thread Cert.Update256x512Ideal.nD Cert.Update256x512Ideal.τ).loc Cert.Update256x512Ideal.main_arg0)
      ∧ r.2.mem ((c.tc : Thread Cert.Update256x512Ideal.nD Cert.Update256x512Ideal.τ).loc Cert.Update256x512Ideal.main_arg1) = m ((c.tc : Thread Cert.Update256x512Ideal.nD Cert.Update256x512Ideal.τ).loc Cert.Update256x512Ideal.main_arg1)
      ∧ r.2.mem ((c.tc : Thread Cert.Update256x512Ideal.nD Cert.Update256x512Ideal.τ).loc Cert.Update256x512Ideal.main_arg2) = m ((c.tc : Thread Cert.Update256x512Ideal.nD Cert.Update256x512Ideal.τ).loc Cert.Update256x512Ideal.main_arg2)
      ∧ r.2.mem ((c.tc : Thread Cert.Update256x512Ideal.nD Cert.Update256x512Ideal.τ).loc Cert.Update256x512Ideal.main_arg3) = m ((c.tc : Thread Cert.Update256x512Ideal.nD Cert.Update256x512Ideal.τ).loc Cert.Update256x512Ideal.main_arg3))
      ∧ r.2.sem = fun _ => 0)

def quiescent_UpdateReference256x512Ideal [hUpdateReference256x512Ideal : Cert.UpdateReference256x512Ideal.Facts] : Prop :=
  ∀ (m : (ℓ : Loc Cert.UpdateReference256x512Ideal.nD Cert.UpdateReference256x512Ideal.τ Cert.UpdateReference256x512Ideal.sig) → Buf (Elt Ideal) ℓ) (g : Dev Cert.UpdateReference256x512Ideal.nD → PrngReg), Pre_UpdateReference256x512Ideal m →
    θ_run (Cert.UpdateReference256x512Ideal.defs (F := Ideal)) (onTc (τ := Cert.UpdateReference256x512Ideal.τ) (Cert.UpdateReference256x512Ideal.main (F := Ideal))) ⟨m, fun _ => 0, g⟩ (fun r => (∀ c : Dev Cert.UpdateReference256x512Ideal.nD,
      r.2.mem ((c.tc : Thread Cert.UpdateReference256x512Ideal.nD Cert.UpdateReference256x512Ideal.τ).loc Cert.UpdateReference256x512Ideal.main_arg0) = m ((c.tc : Thread Cert.UpdateReference256x512Ideal.nD Cert.UpdateReference256x512Ideal.τ).loc Cert.UpdateReference256x512Ideal.main_arg0)
      ∧ r.2.mem ((c.tc : Thread Cert.UpdateReference256x512Ideal.nD Cert.UpdateReference256x512Ideal.τ).loc Cert.UpdateReference256x512Ideal.main_arg1) = m ((c.tc : Thread Cert.UpdateReference256x512Ideal.nD Cert.UpdateReference256x512Ideal.τ).loc Cert.UpdateReference256x512Ideal.main_arg1)
      ∧ r.2.mem ((c.tc : Thread Cert.UpdateReference256x512Ideal.nD Cert.UpdateReference256x512Ideal.τ).loc Cert.UpdateReference256x512Ideal.main_arg2) = m ((c.tc : Thread Cert.UpdateReference256x512Ideal.nD Cert.UpdateReference256x512Ideal.τ).loc Cert.UpdateReference256x512Ideal.main_arg2)
      ∧ r.2.mem ((c.tc : Thread Cert.UpdateReference256x512Ideal.nD Cert.UpdateReference256x512Ideal.τ).loc Cert.UpdateReference256x512Ideal.main_arg3) = m ((c.tc : Thread Cert.UpdateReference256x512Ideal.nD Cert.UpdateReference256x512Ideal.τ).loc Cert.UpdateReference256x512Ideal.main_arg3))
      ∧ r.2.sem = fun _ => 0)

def quiescent_Update256x576 [hUpdate256x576 : Cert.Update256x576.Facts] : Prop :=
  ∀ (m : (ℓ : Loc Cert.Update256x576.nD Cert.Update256x576.τ Cert.Update256x576.sig) → Buf (Elt Bits) ℓ) (g : Dev Cert.Update256x576.nD → PrngReg), Pre_Update256x576 m →
    θ_run (Cert.Update256x576.defs (F := Bits)) (onTc (τ := Cert.Update256x576.τ) (Cert.Update256x576.main (F := Bits))) ⟨m, fun _ => 0, g⟩ (fun r => (∀ c : Dev Cert.Update256x576.nD,
      r.2.mem ((c.tc : Thread Cert.Update256x576.nD Cert.Update256x576.τ).loc Cert.Update256x576.main_arg0) = m ((c.tc : Thread Cert.Update256x576.nD Cert.Update256x576.τ).loc Cert.Update256x576.main_arg0)
      ∧ r.2.mem ((c.tc : Thread Cert.Update256x576.nD Cert.Update256x576.τ).loc Cert.Update256x576.main_arg1) = m ((c.tc : Thread Cert.Update256x576.nD Cert.Update256x576.τ).loc Cert.Update256x576.main_arg1)
      ∧ r.2.mem ((c.tc : Thread Cert.Update256x576.nD Cert.Update256x576.τ).loc Cert.Update256x576.main_arg2) = m ((c.tc : Thread Cert.Update256x576.nD Cert.Update256x576.τ).loc Cert.Update256x576.main_arg2)
      ∧ r.2.mem ((c.tc : Thread Cert.Update256x576.nD Cert.Update256x576.τ).loc Cert.Update256x576.main_arg3) = m ((c.tc : Thread Cert.Update256x576.nD Cert.Update256x576.τ).loc Cert.Update256x576.main_arg3))
      ∧ r.2.sem = fun _ => 0)

def quiescent_Update256x576Ideal [hUpdate256x576Ideal : Cert.Update256x576Ideal.Facts] : Prop :=
  ∀ (m : (ℓ : Loc Cert.Update256x576Ideal.nD Cert.Update256x576Ideal.τ Cert.Update256x576Ideal.sig) → Buf (Elt Ideal) ℓ) (g : Dev Cert.Update256x576Ideal.nD → PrngReg), Pre_Update256x576Ideal m →
    θ_run (Cert.Update256x576Ideal.defs (F := Ideal)) (onTc (τ := Cert.Update256x576Ideal.τ) (Cert.Update256x576Ideal.main (F := Ideal))) ⟨m, fun _ => 0, g⟩ (fun r => (∀ c : Dev Cert.Update256x576Ideal.nD,
      r.2.mem ((c.tc : Thread Cert.Update256x576Ideal.nD Cert.Update256x576Ideal.τ).loc Cert.Update256x576Ideal.main_arg0) = m ((c.tc : Thread Cert.Update256x576Ideal.nD Cert.Update256x576Ideal.τ).loc Cert.Update256x576Ideal.main_arg0)
      ∧ r.2.mem ((c.tc : Thread Cert.Update256x576Ideal.nD Cert.Update256x576Ideal.τ).loc Cert.Update256x576Ideal.main_arg1) = m ((c.tc : Thread Cert.Update256x576Ideal.nD Cert.Update256x576Ideal.τ).loc Cert.Update256x576Ideal.main_arg1)
      ∧ r.2.mem ((c.tc : Thread Cert.Update256x576Ideal.nD Cert.Update256x576Ideal.τ).loc Cert.Update256x576Ideal.main_arg2) = m ((c.tc : Thread Cert.Update256x576Ideal.nD Cert.Update256x576Ideal.τ).loc Cert.Update256x576Ideal.main_arg2)
      ∧ r.2.mem ((c.tc : Thread Cert.Update256x576Ideal.nD Cert.Update256x576Ideal.τ).loc Cert.Update256x576Ideal.main_arg3) = m ((c.tc : Thread Cert.Update256x576Ideal.nD Cert.Update256x576Ideal.τ).loc Cert.Update256x576Ideal.main_arg3))
      ∧ r.2.sem = fun _ => 0)

def quiescent_UpdateReference256x576Ideal [hUpdateReference256x576Ideal : Cert.UpdateReference256x576Ideal.Facts] : Prop :=
  ∀ (m : (ℓ : Loc Cert.UpdateReference256x576Ideal.nD Cert.UpdateReference256x576Ideal.τ Cert.UpdateReference256x576Ideal.sig) → Buf (Elt Ideal) ℓ) (g : Dev Cert.UpdateReference256x576Ideal.nD → PrngReg), Pre_UpdateReference256x576Ideal m →
    θ_run (Cert.UpdateReference256x576Ideal.defs (F := Ideal)) (onTc (τ := Cert.UpdateReference256x576Ideal.τ) (Cert.UpdateReference256x576Ideal.main (F := Ideal))) ⟨m, fun _ => 0, g⟩ (fun r => (∀ c : Dev Cert.UpdateReference256x576Ideal.nD,
      r.2.mem ((c.tc : Thread Cert.UpdateReference256x576Ideal.nD Cert.UpdateReference256x576Ideal.τ).loc Cert.UpdateReference256x576Ideal.main_arg0) = m ((c.tc : Thread Cert.UpdateReference256x576Ideal.nD Cert.UpdateReference256x576Ideal.τ).loc Cert.UpdateReference256x576Ideal.main_arg0)
      ∧ r.2.mem ((c.tc : Thread Cert.UpdateReference256x576Ideal.nD Cert.UpdateReference256x576Ideal.τ).loc Cert.UpdateReference256x576Ideal.main_arg1) = m ((c.tc : Thread Cert.UpdateReference256x576Ideal.nD Cert.UpdateReference256x576Ideal.τ).loc Cert.UpdateReference256x576Ideal.main_arg1)
      ∧ r.2.mem ((c.tc : Thread Cert.UpdateReference256x576Ideal.nD Cert.UpdateReference256x576Ideal.τ).loc Cert.UpdateReference256x576Ideal.main_arg2) = m ((c.tc : Thread Cert.UpdateReference256x576Ideal.nD Cert.UpdateReference256x576Ideal.τ).loc Cert.UpdateReference256x576Ideal.main_arg2)
      ∧ r.2.mem ((c.tc : Thread Cert.UpdateReference256x576Ideal.nD Cert.UpdateReference256x576Ideal.τ).loc Cert.UpdateReference256x576Ideal.main_arg3) = m ((c.tc : Thread Cert.UpdateReference256x576Ideal.nD Cert.UpdateReference256x576Ideal.τ).loc Cert.UpdateReference256x576Ideal.main_arg3))
      ∧ r.2.sem = fun _ => 0)

def quiescent_Update256x2048 [hUpdate256x2048 : Cert.Update256x2048.Facts] : Prop :=
  ∀ (m : (ℓ : Loc Cert.Update256x2048.nD Cert.Update256x2048.τ Cert.Update256x2048.sig) → Buf (Elt Bits) ℓ) (g : Dev Cert.Update256x2048.nD → PrngReg), Pre_Update256x2048 m →
    θ_run (Cert.Update256x2048.defs (F := Bits)) (onTc (τ := Cert.Update256x2048.τ) (Cert.Update256x2048.main (F := Bits))) ⟨m, fun _ => 0, g⟩ (fun r => (∀ c : Dev Cert.Update256x2048.nD,
      r.2.mem ((c.tc : Thread Cert.Update256x2048.nD Cert.Update256x2048.τ).loc Cert.Update256x2048.main_arg0) = m ((c.tc : Thread Cert.Update256x2048.nD Cert.Update256x2048.τ).loc Cert.Update256x2048.main_arg0)
      ∧ r.2.mem ((c.tc : Thread Cert.Update256x2048.nD Cert.Update256x2048.τ).loc Cert.Update256x2048.main_arg1) = m ((c.tc : Thread Cert.Update256x2048.nD Cert.Update256x2048.τ).loc Cert.Update256x2048.main_arg1)
      ∧ r.2.mem ((c.tc : Thread Cert.Update256x2048.nD Cert.Update256x2048.τ).loc Cert.Update256x2048.main_arg2) = m ((c.tc : Thread Cert.Update256x2048.nD Cert.Update256x2048.τ).loc Cert.Update256x2048.main_arg2)
      ∧ r.2.mem ((c.tc : Thread Cert.Update256x2048.nD Cert.Update256x2048.τ).loc Cert.Update256x2048.main_arg3) = m ((c.tc : Thread Cert.Update256x2048.nD Cert.Update256x2048.τ).loc Cert.Update256x2048.main_arg3))
      ∧ r.2.sem = fun _ => 0)

def quiescent_Update256x2048Ideal [hUpdate256x2048Ideal : Cert.Update256x2048Ideal.Facts] : Prop :=
  ∀ (m : (ℓ : Loc Cert.Update256x2048Ideal.nD Cert.Update256x2048Ideal.τ Cert.Update256x2048Ideal.sig) → Buf (Elt Ideal) ℓ) (g : Dev Cert.Update256x2048Ideal.nD → PrngReg), Pre_Update256x2048Ideal m →
    θ_run (Cert.Update256x2048Ideal.defs (F := Ideal)) (onTc (τ := Cert.Update256x2048Ideal.τ) (Cert.Update256x2048Ideal.main (F := Ideal))) ⟨m, fun _ => 0, g⟩ (fun r => (∀ c : Dev Cert.Update256x2048Ideal.nD,
      r.2.mem ((c.tc : Thread Cert.Update256x2048Ideal.nD Cert.Update256x2048Ideal.τ).loc Cert.Update256x2048Ideal.main_arg0) = m ((c.tc : Thread Cert.Update256x2048Ideal.nD Cert.Update256x2048Ideal.τ).loc Cert.Update256x2048Ideal.main_arg0)
      ∧ r.2.mem ((c.tc : Thread Cert.Update256x2048Ideal.nD Cert.Update256x2048Ideal.τ).loc Cert.Update256x2048Ideal.main_arg1) = m ((c.tc : Thread Cert.Update256x2048Ideal.nD Cert.Update256x2048Ideal.τ).loc Cert.Update256x2048Ideal.main_arg1)
      ∧ r.2.mem ((c.tc : Thread Cert.Update256x2048Ideal.nD Cert.Update256x2048Ideal.τ).loc Cert.Update256x2048Ideal.main_arg2) = m ((c.tc : Thread Cert.Update256x2048Ideal.nD Cert.Update256x2048Ideal.τ).loc Cert.Update256x2048Ideal.main_arg2)
      ∧ r.2.mem ((c.tc : Thread Cert.Update256x2048Ideal.nD Cert.Update256x2048Ideal.τ).loc Cert.Update256x2048Ideal.main_arg3) = m ((c.tc : Thread Cert.Update256x2048Ideal.nD Cert.Update256x2048Ideal.τ).loc Cert.Update256x2048Ideal.main_arg3))
      ∧ r.2.sem = fun _ => 0)

def quiescent_UpdateReference256x2048Ideal [hUpdateReference256x2048Ideal : Cert.UpdateReference256x2048Ideal.Facts] : Prop :=
  ∀ (m : (ℓ : Loc Cert.UpdateReference256x2048Ideal.nD Cert.UpdateReference256x2048Ideal.τ Cert.UpdateReference256x2048Ideal.sig) → Buf (Elt Ideal) ℓ) (g : Dev Cert.UpdateReference256x2048Ideal.nD → PrngReg), Pre_UpdateReference256x2048Ideal m →
    θ_run (Cert.UpdateReference256x2048Ideal.defs (F := Ideal)) (onTc (τ := Cert.UpdateReference256x2048Ideal.τ) (Cert.UpdateReference256x2048Ideal.main (F := Ideal))) ⟨m, fun _ => 0, g⟩ (fun r => (∀ c : Dev Cert.UpdateReference256x2048Ideal.nD,
      r.2.mem ((c.tc : Thread Cert.UpdateReference256x2048Ideal.nD Cert.UpdateReference256x2048Ideal.τ).loc Cert.UpdateReference256x2048Ideal.main_arg0) = m ((c.tc : Thread Cert.UpdateReference256x2048Ideal.nD Cert.UpdateReference256x2048Ideal.τ).loc Cert.UpdateReference256x2048Ideal.main_arg0)
      ∧ r.2.mem ((c.tc : Thread Cert.UpdateReference256x2048Ideal.nD Cert.UpdateReference256x2048Ideal.τ).loc Cert.UpdateReference256x2048Ideal.main_arg1) = m ((c.tc : Thread Cert.UpdateReference256x2048Ideal.nD Cert.UpdateReference256x2048Ideal.τ).loc Cert.UpdateReference256x2048Ideal.main_arg1)
      ∧ r.2.mem ((c.tc : Thread Cert.UpdateReference256x2048Ideal.nD Cert.UpdateReference256x2048Ideal.τ).loc Cert.UpdateReference256x2048Ideal.main_arg2) = m ((c.tc : Thread Cert.UpdateReference256x2048Ideal.nD Cert.UpdateReference256x2048Ideal.τ).loc Cert.UpdateReference256x2048Ideal.main_arg2)
      ∧ r.2.mem ((c.tc : Thread Cert.UpdateReference256x2048Ideal.nD Cert.UpdateReference256x2048Ideal.τ).loc Cert.UpdateReference256x2048Ideal.main_arg3) = m ((c.tc : Thread Cert.UpdateReference256x2048Ideal.nD Cert.UpdateReference256x2048Ideal.τ).loc Cert.UpdateReference256x2048Ideal.main_arg3))
      ∧ r.2.sem = fun _ => 0)

def quiescent_Update512x384 [hUpdate512x384 : Cert.Update512x384.Facts] : Prop :=
  ∀ (m : (ℓ : Loc Cert.Update512x384.nD Cert.Update512x384.τ Cert.Update512x384.sig) → Buf (Elt Bits) ℓ) (g : Dev Cert.Update512x384.nD → PrngReg), Pre_Update512x384 m →
    θ_run (Cert.Update512x384.defs (F := Bits)) (onTc (τ := Cert.Update512x384.τ) (Cert.Update512x384.main (F := Bits))) ⟨m, fun _ => 0, g⟩ (fun r => (∀ c : Dev Cert.Update512x384.nD,
      r.2.mem ((c.tc : Thread Cert.Update512x384.nD Cert.Update512x384.τ).loc Cert.Update512x384.main_arg0) = m ((c.tc : Thread Cert.Update512x384.nD Cert.Update512x384.τ).loc Cert.Update512x384.main_arg0)
      ∧ r.2.mem ((c.tc : Thread Cert.Update512x384.nD Cert.Update512x384.τ).loc Cert.Update512x384.main_arg1) = m ((c.tc : Thread Cert.Update512x384.nD Cert.Update512x384.τ).loc Cert.Update512x384.main_arg1)
      ∧ r.2.mem ((c.tc : Thread Cert.Update512x384.nD Cert.Update512x384.τ).loc Cert.Update512x384.main_arg2) = m ((c.tc : Thread Cert.Update512x384.nD Cert.Update512x384.τ).loc Cert.Update512x384.main_arg2)
      ∧ r.2.mem ((c.tc : Thread Cert.Update512x384.nD Cert.Update512x384.τ).loc Cert.Update512x384.main_arg3) = m ((c.tc : Thread Cert.Update512x384.nD Cert.Update512x384.τ).loc Cert.Update512x384.main_arg3))
      ∧ r.2.sem = fun _ => 0)

def quiescent_Update512x384Ideal [hUpdate512x384Ideal : Cert.Update512x384Ideal.Facts] : Prop :=
  ∀ (m : (ℓ : Loc Cert.Update512x384Ideal.nD Cert.Update512x384Ideal.τ Cert.Update512x384Ideal.sig) → Buf (Elt Ideal) ℓ) (g : Dev Cert.Update512x384Ideal.nD → PrngReg), Pre_Update512x384Ideal m →
    θ_run (Cert.Update512x384Ideal.defs (F := Ideal)) (onTc (τ := Cert.Update512x384Ideal.τ) (Cert.Update512x384Ideal.main (F := Ideal))) ⟨m, fun _ => 0, g⟩ (fun r => (∀ c : Dev Cert.Update512x384Ideal.nD,
      r.2.mem ((c.tc : Thread Cert.Update512x384Ideal.nD Cert.Update512x384Ideal.τ).loc Cert.Update512x384Ideal.main_arg0) = m ((c.tc : Thread Cert.Update512x384Ideal.nD Cert.Update512x384Ideal.τ).loc Cert.Update512x384Ideal.main_arg0)
      ∧ r.2.mem ((c.tc : Thread Cert.Update512x384Ideal.nD Cert.Update512x384Ideal.τ).loc Cert.Update512x384Ideal.main_arg1) = m ((c.tc : Thread Cert.Update512x384Ideal.nD Cert.Update512x384Ideal.τ).loc Cert.Update512x384Ideal.main_arg1)
      ∧ r.2.mem ((c.tc : Thread Cert.Update512x384Ideal.nD Cert.Update512x384Ideal.τ).loc Cert.Update512x384Ideal.main_arg2) = m ((c.tc : Thread Cert.Update512x384Ideal.nD Cert.Update512x384Ideal.τ).loc Cert.Update512x384Ideal.main_arg2)
      ∧ r.2.mem ((c.tc : Thread Cert.Update512x384Ideal.nD Cert.Update512x384Ideal.τ).loc Cert.Update512x384Ideal.main_arg3) = m ((c.tc : Thread Cert.Update512x384Ideal.nD Cert.Update512x384Ideal.τ).loc Cert.Update512x384Ideal.main_arg3))
      ∧ r.2.sem = fun _ => 0)

def quiescent_UpdateReference512x384Ideal [hUpdateReference512x384Ideal : Cert.UpdateReference512x384Ideal.Facts] : Prop :=
  ∀ (m : (ℓ : Loc Cert.UpdateReference512x384Ideal.nD Cert.UpdateReference512x384Ideal.τ Cert.UpdateReference512x384Ideal.sig) → Buf (Elt Ideal) ℓ) (g : Dev Cert.UpdateReference512x384Ideal.nD → PrngReg), Pre_UpdateReference512x384Ideal m →
    θ_run (Cert.UpdateReference512x384Ideal.defs (F := Ideal)) (onTc (τ := Cert.UpdateReference512x384Ideal.τ) (Cert.UpdateReference512x384Ideal.main (F := Ideal))) ⟨m, fun _ => 0, g⟩ (fun r => (∀ c : Dev Cert.UpdateReference512x384Ideal.nD,
      r.2.mem ((c.tc : Thread Cert.UpdateReference512x384Ideal.nD Cert.UpdateReference512x384Ideal.τ).loc Cert.UpdateReference512x384Ideal.main_arg0) = m ((c.tc : Thread Cert.UpdateReference512x384Ideal.nD Cert.UpdateReference512x384Ideal.τ).loc Cert.UpdateReference512x384Ideal.main_arg0)
      ∧ r.2.mem ((c.tc : Thread Cert.UpdateReference512x384Ideal.nD Cert.UpdateReference512x384Ideal.τ).loc Cert.UpdateReference512x384Ideal.main_arg1) = m ((c.tc : Thread Cert.UpdateReference512x384Ideal.nD Cert.UpdateReference512x384Ideal.τ).loc Cert.UpdateReference512x384Ideal.main_arg1)
      ∧ r.2.mem ((c.tc : Thread Cert.UpdateReference512x384Ideal.nD Cert.UpdateReference512x384Ideal.τ).loc Cert.UpdateReference512x384Ideal.main_arg2) = m ((c.tc : Thread Cert.UpdateReference512x384Ideal.nD Cert.UpdateReference512x384Ideal.τ).loc Cert.UpdateReference512x384Ideal.main_arg2)
      ∧ r.2.mem ((c.tc : Thread Cert.UpdateReference512x384Ideal.nD Cert.UpdateReference512x384Ideal.τ).loc Cert.UpdateReference512x384Ideal.main_arg3) = m ((c.tc : Thread Cert.UpdateReference512x384Ideal.nD Cert.UpdateReference512x384Ideal.τ).loc Cert.UpdateReference512x384Ideal.main_arg3))
      ∧ r.2.sem = fun _ => 0)

def quiescent_Update512x512 [hUpdate512x512 : Cert.Update512x512.Facts] : Prop :=
  ∀ (m : (ℓ : Loc Cert.Update512x512.nD Cert.Update512x512.τ Cert.Update512x512.sig) → Buf (Elt Bits) ℓ) (g : Dev Cert.Update512x512.nD → PrngReg), Pre_Update512x512 m →
    θ_run (Cert.Update512x512.defs (F := Bits)) (onTc (τ := Cert.Update512x512.τ) (Cert.Update512x512.main (F := Bits))) ⟨m, fun _ => 0, g⟩ (fun r => (∀ c : Dev Cert.Update512x512.nD,
      r.2.mem ((c.tc : Thread Cert.Update512x512.nD Cert.Update512x512.τ).loc Cert.Update512x512.main_arg0) = m ((c.tc : Thread Cert.Update512x512.nD Cert.Update512x512.τ).loc Cert.Update512x512.main_arg0)
      ∧ r.2.mem ((c.tc : Thread Cert.Update512x512.nD Cert.Update512x512.τ).loc Cert.Update512x512.main_arg1) = m ((c.tc : Thread Cert.Update512x512.nD Cert.Update512x512.τ).loc Cert.Update512x512.main_arg1)
      ∧ r.2.mem ((c.tc : Thread Cert.Update512x512.nD Cert.Update512x512.τ).loc Cert.Update512x512.main_arg2) = m ((c.tc : Thread Cert.Update512x512.nD Cert.Update512x512.τ).loc Cert.Update512x512.main_arg2)
      ∧ r.2.mem ((c.tc : Thread Cert.Update512x512.nD Cert.Update512x512.τ).loc Cert.Update512x512.main_arg3) = m ((c.tc : Thread Cert.Update512x512.nD Cert.Update512x512.τ).loc Cert.Update512x512.main_arg3))
      ∧ r.2.sem = fun _ => 0)

def quiescent_Update512x512Ideal [hUpdate512x512Ideal : Cert.Update512x512Ideal.Facts] : Prop :=
  ∀ (m : (ℓ : Loc Cert.Update512x512Ideal.nD Cert.Update512x512Ideal.τ Cert.Update512x512Ideal.sig) → Buf (Elt Ideal) ℓ) (g : Dev Cert.Update512x512Ideal.nD → PrngReg), Pre_Update512x512Ideal m →
    θ_run (Cert.Update512x512Ideal.defs (F := Ideal)) (onTc (τ := Cert.Update512x512Ideal.τ) (Cert.Update512x512Ideal.main (F := Ideal))) ⟨m, fun _ => 0, g⟩ (fun r => (∀ c : Dev Cert.Update512x512Ideal.nD,
      r.2.mem ((c.tc : Thread Cert.Update512x512Ideal.nD Cert.Update512x512Ideal.τ).loc Cert.Update512x512Ideal.main_arg0) = m ((c.tc : Thread Cert.Update512x512Ideal.nD Cert.Update512x512Ideal.τ).loc Cert.Update512x512Ideal.main_arg0)
      ∧ r.2.mem ((c.tc : Thread Cert.Update512x512Ideal.nD Cert.Update512x512Ideal.τ).loc Cert.Update512x512Ideal.main_arg1) = m ((c.tc : Thread Cert.Update512x512Ideal.nD Cert.Update512x512Ideal.τ).loc Cert.Update512x512Ideal.main_arg1)
      ∧ r.2.mem ((c.tc : Thread Cert.Update512x512Ideal.nD Cert.Update512x512Ideal.τ).loc Cert.Update512x512Ideal.main_arg2) = m ((c.tc : Thread Cert.Update512x512Ideal.nD Cert.Update512x512Ideal.τ).loc Cert.Update512x512Ideal.main_arg2)
      ∧ r.2.mem ((c.tc : Thread Cert.Update512x512Ideal.nD Cert.Update512x512Ideal.τ).loc Cert.Update512x512Ideal.main_arg3) = m ((c.tc : Thread Cert.Update512x512Ideal.nD Cert.Update512x512Ideal.τ).loc Cert.Update512x512Ideal.main_arg3))
      ∧ r.2.sem = fun _ => 0)

def quiescent_UpdateReference512x512Ideal [hUpdateReference512x512Ideal : Cert.UpdateReference512x512Ideal.Facts] : Prop :=
  ∀ (m : (ℓ : Loc Cert.UpdateReference512x512Ideal.nD Cert.UpdateReference512x512Ideal.τ Cert.UpdateReference512x512Ideal.sig) → Buf (Elt Ideal) ℓ) (g : Dev Cert.UpdateReference512x512Ideal.nD → PrngReg), Pre_UpdateReference512x512Ideal m →
    θ_run (Cert.UpdateReference512x512Ideal.defs (F := Ideal)) (onTc (τ := Cert.UpdateReference512x512Ideal.τ) (Cert.UpdateReference512x512Ideal.main (F := Ideal))) ⟨m, fun _ => 0, g⟩ (fun r => (∀ c : Dev Cert.UpdateReference512x512Ideal.nD,
      r.2.mem ((c.tc : Thread Cert.UpdateReference512x512Ideal.nD Cert.UpdateReference512x512Ideal.τ).loc Cert.UpdateReference512x512Ideal.main_arg0) = m ((c.tc : Thread Cert.UpdateReference512x512Ideal.nD Cert.UpdateReference512x512Ideal.τ).loc Cert.UpdateReference512x512Ideal.main_arg0)
      ∧ r.2.mem ((c.tc : Thread Cert.UpdateReference512x512Ideal.nD Cert.UpdateReference512x512Ideal.τ).loc Cert.UpdateReference512x512Ideal.main_arg1) = m ((c.tc : Thread Cert.UpdateReference512x512Ideal.nD Cert.UpdateReference512x512Ideal.τ).loc Cert.UpdateReference512x512Ideal.main_arg1)
      ∧ r.2.mem ((c.tc : Thread Cert.UpdateReference512x512Ideal.nD Cert.UpdateReference512x512Ideal.τ).loc Cert.UpdateReference512x512Ideal.main_arg2) = m ((c.tc : Thread Cert.UpdateReference512x512Ideal.nD Cert.UpdateReference512x512Ideal.τ).loc Cert.UpdateReference512x512Ideal.main_arg2)
      ∧ r.2.mem ((c.tc : Thread Cert.UpdateReference512x512Ideal.nD Cert.UpdateReference512x512Ideal.τ).loc Cert.UpdateReference512x512Ideal.main_arg3) = m ((c.tc : Thread Cert.UpdateReference512x512Ideal.nD Cert.UpdateReference512x512Ideal.τ).loc Cert.UpdateReference512x512Ideal.main_arg3))
      ∧ r.2.sem = fun _ => 0)

def quiescent_Update1408x2048 [hUpdate1408x2048 : Cert.Update1408x2048.Facts] : Prop :=
  ∀ (m : (ℓ : Loc Cert.Update1408x2048.nD Cert.Update1408x2048.τ Cert.Update1408x2048.sig) → Buf (Elt Bits) ℓ) (g : Dev Cert.Update1408x2048.nD → PrngReg), Pre_Update1408x2048 m →
    θ_run (Cert.Update1408x2048.defs (F := Bits)) (onTc (τ := Cert.Update1408x2048.τ) (Cert.Update1408x2048.main (F := Bits))) ⟨m, fun _ => 0, g⟩ (fun r => (∀ c : Dev Cert.Update1408x2048.nD,
      r.2.mem ((c.tc : Thread Cert.Update1408x2048.nD Cert.Update1408x2048.τ).loc Cert.Update1408x2048.main_arg0) = m ((c.tc : Thread Cert.Update1408x2048.nD Cert.Update1408x2048.τ).loc Cert.Update1408x2048.main_arg0)
      ∧ r.2.mem ((c.tc : Thread Cert.Update1408x2048.nD Cert.Update1408x2048.τ).loc Cert.Update1408x2048.main_arg1) = m ((c.tc : Thread Cert.Update1408x2048.nD Cert.Update1408x2048.τ).loc Cert.Update1408x2048.main_arg1)
      ∧ r.2.mem ((c.tc : Thread Cert.Update1408x2048.nD Cert.Update1408x2048.τ).loc Cert.Update1408x2048.main_arg2) = m ((c.tc : Thread Cert.Update1408x2048.nD Cert.Update1408x2048.τ).loc Cert.Update1408x2048.main_arg2)
      ∧ r.2.mem ((c.tc : Thread Cert.Update1408x2048.nD Cert.Update1408x2048.τ).loc Cert.Update1408x2048.main_arg3) = m ((c.tc : Thread Cert.Update1408x2048.nD Cert.Update1408x2048.τ).loc Cert.Update1408x2048.main_arg3))
      ∧ r.2.sem = fun _ => 0)

def quiescent_Update1408x2048Ideal [hUpdate1408x2048Ideal : Cert.Update1408x2048Ideal.Facts] : Prop :=
  ∀ (m : (ℓ : Loc Cert.Update1408x2048Ideal.nD Cert.Update1408x2048Ideal.τ Cert.Update1408x2048Ideal.sig) → Buf (Elt Ideal) ℓ) (g : Dev Cert.Update1408x2048Ideal.nD → PrngReg), Pre_Update1408x2048Ideal m →
    θ_run (Cert.Update1408x2048Ideal.defs (F := Ideal)) (onTc (τ := Cert.Update1408x2048Ideal.τ) (Cert.Update1408x2048Ideal.main (F := Ideal))) ⟨m, fun _ => 0, g⟩ (fun r => (∀ c : Dev Cert.Update1408x2048Ideal.nD,
      r.2.mem ((c.tc : Thread Cert.Update1408x2048Ideal.nD Cert.Update1408x2048Ideal.τ).loc Cert.Update1408x2048Ideal.main_arg0) = m ((c.tc : Thread Cert.Update1408x2048Ideal.nD Cert.Update1408x2048Ideal.τ).loc Cert.Update1408x2048Ideal.main_arg0)
      ∧ r.2.mem ((c.tc : Thread Cert.Update1408x2048Ideal.nD Cert.Update1408x2048Ideal.τ).loc Cert.Update1408x2048Ideal.main_arg1) = m ((c.tc : Thread Cert.Update1408x2048Ideal.nD Cert.Update1408x2048Ideal.τ).loc Cert.Update1408x2048Ideal.main_arg1)
      ∧ r.2.mem ((c.tc : Thread Cert.Update1408x2048Ideal.nD Cert.Update1408x2048Ideal.τ).loc Cert.Update1408x2048Ideal.main_arg2) = m ((c.tc : Thread Cert.Update1408x2048Ideal.nD Cert.Update1408x2048Ideal.τ).loc Cert.Update1408x2048Ideal.main_arg2)
      ∧ r.2.mem ((c.tc : Thread Cert.Update1408x2048Ideal.nD Cert.Update1408x2048Ideal.τ).loc Cert.Update1408x2048Ideal.main_arg3) = m ((c.tc : Thread Cert.Update1408x2048Ideal.nD Cert.Update1408x2048Ideal.τ).loc Cert.Update1408x2048Ideal.main_arg3))
      ∧ r.2.sem = fun _ => 0)

def quiescent_UpdateReference1408x2048Ideal [hUpdateReference1408x2048Ideal : Cert.UpdateReference1408x2048Ideal.Facts] : Prop :=
  ∀ (m : (ℓ : Loc Cert.UpdateReference1408x2048Ideal.nD Cert.UpdateReference1408x2048Ideal.τ Cert.UpdateReference1408x2048Ideal.sig) → Buf (Elt Ideal) ℓ) (g : Dev Cert.UpdateReference1408x2048Ideal.nD → PrngReg), Pre_UpdateReference1408x2048Ideal m →
    θ_run (Cert.UpdateReference1408x2048Ideal.defs (F := Ideal)) (onTc (τ := Cert.UpdateReference1408x2048Ideal.τ) (Cert.UpdateReference1408x2048Ideal.main (F := Ideal))) ⟨m, fun _ => 0, g⟩ (fun r => (∀ c : Dev Cert.UpdateReference1408x2048Ideal.nD,
      r.2.mem ((c.tc : Thread Cert.UpdateReference1408x2048Ideal.nD Cert.UpdateReference1408x2048Ideal.τ).loc Cert.UpdateReference1408x2048Ideal.main_arg0) = m ((c.tc : Thread Cert.UpdateReference1408x2048Ideal.nD Cert.UpdateReference1408x2048Ideal.τ).loc Cert.UpdateReference1408x2048Ideal.main_arg0)
      ∧ r.2.mem ((c.tc : Thread Cert.UpdateReference1408x2048Ideal.nD Cert.UpdateReference1408x2048Ideal.τ).loc Cert.UpdateReference1408x2048Ideal.main_arg1) = m ((c.tc : Thread Cert.UpdateReference1408x2048Ideal.nD Cert.UpdateReference1408x2048Ideal.τ).loc Cert.UpdateReference1408x2048Ideal.main_arg1)
      ∧ r.2.mem ((c.tc : Thread Cert.UpdateReference1408x2048Ideal.nD Cert.UpdateReference1408x2048Ideal.τ).loc Cert.UpdateReference1408x2048Ideal.main_arg2) = m ((c.tc : Thread Cert.UpdateReference1408x2048Ideal.nD Cert.UpdateReference1408x2048Ideal.τ).loc Cert.UpdateReference1408x2048Ideal.main_arg2)
      ∧ r.2.mem ((c.tc : Thread Cert.UpdateReference1408x2048Ideal.nD Cert.UpdateReference1408x2048Ideal.τ).loc Cert.UpdateReference1408x2048Ideal.main_arg3) = m ((c.tc : Thread Cert.UpdateReference1408x2048Ideal.nD Cert.UpdateReference1408x2048Ideal.τ).loc Cert.UpdateReference1408x2048Ideal.main_arg3))
      ∧ r.2.sem = fun _ => 0)

def quiescent_Update4096x704 [hUpdate4096x704 : Cert.Update4096x704.Facts] : Prop :=
  ∀ (m : (ℓ : Loc Cert.Update4096x704.nD Cert.Update4096x704.τ Cert.Update4096x704.sig) → Buf (Elt Bits) ℓ) (g : Dev Cert.Update4096x704.nD → PrngReg), Pre_Update4096x704 m →
    θ_run (Cert.Update4096x704.defs (F := Bits)) (onTc (τ := Cert.Update4096x704.τ) (Cert.Update4096x704.main (F := Bits))) ⟨m, fun _ => 0, g⟩ (fun r => (∀ c : Dev Cert.Update4096x704.nD,
      r.2.mem ((c.tc : Thread Cert.Update4096x704.nD Cert.Update4096x704.τ).loc Cert.Update4096x704.main_arg0) = m ((c.tc : Thread Cert.Update4096x704.nD Cert.Update4096x704.τ).loc Cert.Update4096x704.main_arg0)
      ∧ r.2.mem ((c.tc : Thread Cert.Update4096x704.nD Cert.Update4096x704.τ).loc Cert.Update4096x704.main_arg1) = m ((c.tc : Thread Cert.Update4096x704.nD Cert.Update4096x704.τ).loc Cert.Update4096x704.main_arg1)
      ∧ r.2.mem ((c.tc : Thread Cert.Update4096x704.nD Cert.Update4096x704.τ).loc Cert.Update4096x704.main_arg2) = m ((c.tc : Thread Cert.Update4096x704.nD Cert.Update4096x704.τ).loc Cert.Update4096x704.main_arg2)
      ∧ r.2.mem ((c.tc : Thread Cert.Update4096x704.nD Cert.Update4096x704.τ).loc Cert.Update4096x704.main_arg3) = m ((c.tc : Thread Cert.Update4096x704.nD Cert.Update4096x704.τ).loc Cert.Update4096x704.main_arg3))
      ∧ r.2.sem = fun _ => 0)

def quiescent_Update4096x704Ideal [hUpdate4096x704Ideal : Cert.Update4096x704Ideal.Facts] : Prop :=
  ∀ (m : (ℓ : Loc Cert.Update4096x704Ideal.nD Cert.Update4096x704Ideal.τ Cert.Update4096x704Ideal.sig) → Buf (Elt Ideal) ℓ) (g : Dev Cert.Update4096x704Ideal.nD → PrngReg), Pre_Update4096x704Ideal m →
    θ_run (Cert.Update4096x704Ideal.defs (F := Ideal)) (onTc (τ := Cert.Update4096x704Ideal.τ) (Cert.Update4096x704Ideal.main (F := Ideal))) ⟨m, fun _ => 0, g⟩ (fun r => (∀ c : Dev Cert.Update4096x704Ideal.nD,
      r.2.mem ((c.tc : Thread Cert.Update4096x704Ideal.nD Cert.Update4096x704Ideal.τ).loc Cert.Update4096x704Ideal.main_arg0) = m ((c.tc : Thread Cert.Update4096x704Ideal.nD Cert.Update4096x704Ideal.τ).loc Cert.Update4096x704Ideal.main_arg0)
      ∧ r.2.mem ((c.tc : Thread Cert.Update4096x704Ideal.nD Cert.Update4096x704Ideal.τ).loc Cert.Update4096x704Ideal.main_arg1) = m ((c.tc : Thread Cert.Update4096x704Ideal.nD Cert.Update4096x704Ideal.τ).loc Cert.Update4096x704Ideal.main_arg1)
      ∧ r.2.mem ((c.tc : Thread Cert.Update4096x704Ideal.nD Cert.Update4096x704Ideal.τ).loc Cert.Update4096x704Ideal.main_arg2) = m ((c.tc : Thread Cert.Update4096x704Ideal.nD Cert.Update4096x704Ideal.τ).loc Cert.Update4096x704Ideal.main_arg2)
      ∧ r.2.mem ((c.tc : Thread Cert.Update4096x704Ideal.nD Cert.Update4096x704Ideal.τ).loc Cert.Update4096x704Ideal.main_arg3) = m ((c.tc : Thread Cert.Update4096x704Ideal.nD Cert.Update4096x704Ideal.τ).loc Cert.Update4096x704Ideal.main_arg3))
      ∧ r.2.sem = fun _ => 0)

def quiescent_UpdateReference4096x704Ideal [hUpdateReference4096x704Ideal : Cert.UpdateReference4096x704Ideal.Facts] : Prop :=
  ∀ (m : (ℓ : Loc Cert.UpdateReference4096x704Ideal.nD Cert.UpdateReference4096x704Ideal.τ Cert.UpdateReference4096x704Ideal.sig) → Buf (Elt Ideal) ℓ) (g : Dev Cert.UpdateReference4096x704Ideal.nD → PrngReg), Pre_UpdateReference4096x704Ideal m →
    θ_run (Cert.UpdateReference4096x704Ideal.defs (F := Ideal)) (onTc (τ := Cert.UpdateReference4096x704Ideal.τ) (Cert.UpdateReference4096x704Ideal.main (F := Ideal))) ⟨m, fun _ => 0, g⟩ (fun r => (∀ c : Dev Cert.UpdateReference4096x704Ideal.nD,
      r.2.mem ((c.tc : Thread Cert.UpdateReference4096x704Ideal.nD Cert.UpdateReference4096x704Ideal.τ).loc Cert.UpdateReference4096x704Ideal.main_arg0) = m ((c.tc : Thread Cert.UpdateReference4096x704Ideal.nD Cert.UpdateReference4096x704Ideal.τ).loc Cert.UpdateReference4096x704Ideal.main_arg0)
      ∧ r.2.mem ((c.tc : Thread Cert.UpdateReference4096x704Ideal.nD Cert.UpdateReference4096x704Ideal.τ).loc Cert.UpdateReference4096x704Ideal.main_arg1) = m ((c.tc : Thread Cert.UpdateReference4096x704Ideal.nD Cert.UpdateReference4096x704Ideal.τ).loc Cert.UpdateReference4096x704Ideal.main_arg1)
      ∧ r.2.mem ((c.tc : Thread Cert.UpdateReference4096x704Ideal.nD Cert.UpdateReference4096x704Ideal.τ).loc Cert.UpdateReference4096x704Ideal.main_arg2) = m ((c.tc : Thread Cert.UpdateReference4096x704Ideal.nD Cert.UpdateReference4096x704Ideal.τ).loc Cert.UpdateReference4096x704Ideal.main_arg2)
      ∧ r.2.mem ((c.tc : Thread Cert.UpdateReference4096x704Ideal.nD Cert.UpdateReference4096x704Ideal.τ).loc Cert.UpdateReference4096x704Ideal.main_arg3) = m ((c.tc : Thread Cert.UpdateReference4096x704Ideal.nD Cert.UpdateReference4096x704Ideal.τ).loc Cert.UpdateReference4096x704Ideal.main_arg3))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ r.2.sem = fun _ => 0)

def quiescent_GradsReferenceIdeal [hGradsReferenceIdeal : Cert.GradsReferenceIdeal.Facts] : Prop :=
  ∀ (m : (ℓ : Loc Cert.GradsReferenceIdeal.nD Cert.GradsReferenceIdeal.τ Cert.GradsReferenceIdeal.sig) → Buf (Elt Ideal) ℓ) (g : Dev Cert.GradsReferenceIdeal.nD → PrngReg), Pre_GradsReferenceIdeal m →
    θ_run (Cert.GradsReferenceIdeal.defs (F := Ideal)) (onTc (τ := Cert.GradsReferenceIdeal.τ) (Cert.GradsReferenceIdeal.main (F := Ideal))) ⟨m, fun _ => 0, g⟩ (fun r => (∀ c : Dev Cert.GradsReferenceIdeal.nD,
      r.2.mem ((c.tc : Thread Cert.GradsReferenceIdeal.nD Cert.GradsReferenceIdeal.τ).loc Cert.GradsReferenceIdeal.main_arg0) = m ((c.tc : Thread Cert.GradsReferenceIdeal.nD Cert.GradsReferenceIdeal.τ).loc Cert.GradsReferenceIdeal.main_arg0))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_PoolPre [hPoolPre : Cert.PoolPre.Facts] : Prop :=
  ∀ (m : (ℓ : Loc Cert.PoolPre.nD Cert.PoolPre.τ Cert.PoolPre.sig) → Buf (Elt Bits) ℓ) (g : Dev Cert.PoolPre.nD → PrngReg), Pre_PoolPre m →
    θ_run (Cert.PoolPre.defs (F := Bits)) (onTc (τ := Cert.PoolPre.τ) (Cert.PoolPre.main (F := Bits))) ⟨m, fun _ => 0, g⟩ (fun r => (∀ c : Dev Cert.PoolPre.nD,
      r.2.mem ((c.tc : Thread Cert.PoolPre.nD Cert.PoolPre.τ).loc Cert.PoolPre.main_arg0) = m ((c.tc : Thread Cert.PoolPre.nD Cert.PoolPre.τ).loc Cert.PoolPre.main_arg0)
      ∧ r.2.mem ((c.tc : Thread Cert.PoolPre.nD Cert.PoolPre.τ).loc Cert.PoolPre.main_arg1) = m ((c.tc : Thread Cert.PoolPre.nD Cert.PoolPre.τ).loc Cert.PoolPre.main_arg1))
      ∧ r.2.sem = fun _ => 0)

def quiescent_PoolPreIdeal [hPoolPreIdeal : Cert.PoolPreIdeal.Facts] : Prop :=
  ∀ (m : (ℓ : Loc Cert.PoolPreIdeal.nD Cert.PoolPreIdeal.τ Cert.PoolPreIdeal.sig) → Buf (Elt Ideal) ℓ) (g : Dev Cert.PoolPreIdeal.nD → PrngReg), Pre_PoolPreIdeal m →
    θ_run (Cert.PoolPreIdeal.defs (F := Ideal)) (onTc (τ := Cert.PoolPreIdeal.τ) (Cert.PoolPreIdeal.main (F := Ideal))) ⟨m, fun _ => 0, g⟩ (fun r => (∀ c : Dev Cert.PoolPreIdeal.nD,
      r.2.mem ((c.tc : Thread Cert.PoolPreIdeal.nD Cert.PoolPreIdeal.τ).loc Cert.PoolPreIdeal.main_arg0) = m ((c.tc : Thread Cert.PoolPreIdeal.nD Cert.PoolPreIdeal.τ).loc Cert.PoolPreIdeal.main_arg0)
      ∧ r.2.mem ((c.tc : Thread Cert.PoolPreIdeal.nD Cert.PoolPreIdeal.τ).loc Cert.PoolPreIdeal.main_arg1) = m ((c.tc : Thread Cert.PoolPreIdeal.nD Cert.PoolPreIdeal.τ).loc Cert.PoolPreIdeal.main_arg1))
      ∧ r.2.sem = fun _ => 0)

def quiescent_PoolPreReferenceIdeal [hPoolPreReferenceIdeal : Cert.PoolPreReferenceIdeal.Facts] : Prop :=
  ∀ (m : (ℓ : Loc Cert.PoolPreReferenceIdeal.nD Cert.PoolPreReferenceIdeal.τ Cert.PoolPreReferenceIdeal.sig) → Buf (Elt Ideal) ℓ) (g : Dev Cert.PoolPreReferenceIdeal.nD → PrngReg), Pre_PoolPreReferenceIdeal m →
    θ_run (Cert.PoolPreReferenceIdeal.defs (F := Ideal)) (onTc (τ := Cert.PoolPreReferenceIdeal.τ) (Cert.PoolPreReferenceIdeal.main (F := Ideal))) ⟨m, fun _ => 0, g⟩ (fun r => (∀ c : Dev Cert.PoolPreReferenceIdeal.nD,
      r.2.mem ((c.tc : Thread Cert.PoolPreReferenceIdeal.nD Cert.PoolPreReferenceIdeal.τ).loc Cert.PoolPreReferenceIdeal.main_arg0) = m ((c.tc : Thread Cert.PoolPreReferenceIdeal.nD Cert.PoolPreReferenceIdeal.τ).loc Cert.PoolPreReferenceIdeal.main_arg0)
      ∧ r.2.mem ((c.tc : Thread Cert.PoolPreReferenceIdeal.nD Cert.PoolPreReferenceIdeal.τ).loc Cert.PoolPreReferenceIdeal.main_arg1) = m ((c.tc : Thread Cert.PoolPreReferenceIdeal.nD Cert.PoolPreReferenceIdeal.τ).loc Cert.PoolPreReferenceIdeal.main_arg1))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1)
      ∧ r.2.mem ((c.tc : Thread Cert.PoolMix.nD Cert.PoolMix.τ).loc Cert.PoolMix.main_arg2) = m ((c.tc : Thread Cert.PoolMix.nD Cert.PoolMix.τ).loc Cert.PoolMix.main_arg2)
      ∧ r.2.mem ((c.tc : Thread Cert.PoolMix.nD Cert.PoolMix.τ).loc Cert.PoolMix.main_arg3) = m ((c.tc : Thread Cert.PoolMix.nD Cert.PoolMix.τ).loc Cert.PoolMix.main_arg3))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
      ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
      ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3))
      ∧ r.2.sem = fun _ => 0)

def quiescent_PoolMixReferenceIdeal [hPoolMixReferenceIdeal : Cert.PoolMixReferenceIdeal.Facts] : Prop :=
  ∀ (m : (ℓ : Loc Cert.PoolMixReferenceIdeal.nD Cert.PoolMixReferenceIdeal.τ Cert.PoolMixReferenceIdeal.sig) → Buf (Elt Ideal) ℓ) (g : Dev Cert.PoolMixReferenceIdeal.nD → PrngReg), Pre_PoolMixReferenceIdeal m →
    θ_run (Cert.PoolMixReferenceIdeal.defs (F := Ideal)) (onTc (τ := Cert.PoolMixReferenceIdeal.τ) (Cert.PoolMixReferenceIdeal.main (F := Ideal))) ⟨m, fun _ => 0, g⟩ (fun r => (∀ c : Dev Cert.PoolMixReferenceIdeal.nD,
      r.2.mem ((c.tc : Thread Cert.PoolMixReferenceIdeal.nD Cert.PoolMixReferenceIdeal.τ).loc Cert.PoolMixReferenceIdeal.main_arg0) = m ((c.tc : Thread Cert.PoolMixReferenceIdeal.nD Cert.PoolMixReferenceIdeal.τ).loc Cert.PoolMixReferenceIdeal.main_arg0)
      ∧ r.2.mem ((c.tc : Thread Cert.PoolMixReferenceIdeal.nD Cert.PoolMixReferenceIdeal.τ).loc Cert.PoolMixReferenceIdeal.main_arg1) = m ((c.tc : Thread Cert.PoolMixReferenceIdeal.nD Cert.PoolMixReferenceIdeal.τ).loc Cert.PoolMixReferenceIdeal.main_arg1)
      ∧ r.2.mem ((c.tc : Thread Cert.PoolMixReferenceIdeal.nD Cert.PoolMixReferenceIdeal.τ).loc Cert.PoolMixReferenceIdeal.main_arg2) = m ((c.tc : Thread Cert.PoolMixReferenceIdeal.nD Cert.PoolMixReferenceIdeal.τ).loc Cert.PoolMixReferenceIdeal.main_arg2)
      ∧ r.2.mem ((c.tc : Thread Cert.PoolMixReferenceIdeal.nD Cert.PoolMixReferenceIdeal.τ).loc Cert.PoolMixReferenceIdeal.main_arg3) = m ((c.tc : Thread Cert.PoolMixReferenceIdeal.nD Cert.PoolMixReferenceIdeal.τ).loc Cert.PoolMixReferenceIdeal.main_arg3))
      ∧ r.2.sem = fun _ => 0)

def quiescent_PoolMixBwd [hPoolMixBwd : Cert.PoolMixBwd.Facts] : Prop :=
  ∀ (m : (ℓ : Loc Cert.PoolMixBwd.nD Cert.PoolMixBwd.τ Cert.PoolMixBwd.sig) → Buf (Elt Bits) ℓ) (g : Dev Cert.PoolMixBwd.nD → PrngReg), Pre_PoolMixBwd m →
    θ_run (Cert.PoolMixBwd.defs (F := Bits)) (onTc (τ := Cert.PoolMixBwd.τ) (Cert.PoolMixBwd.main (F := Bits))) ⟨m, fun _ => 0, g⟩ (fun r => (∀ c : Dev Cert.PoolMixBwd.nD,
      r.2.mem ((c.tc : Thread Cert.PoolMixBwd.nD Cert.PoolMixBwd.τ).loc Cert.PoolMixBwd.main_arg0) = m ((c.tc : Thread Cert.PoolMixBwd.nD Cert.PoolMixBwd.τ).loc Cert.PoolMixBwd.main_arg0)
      ∧ r.2.mem ((c.tc : Thread Cert.PoolMixBwd.nD Cert.PoolMixBwd.τ).loc Cert.PoolMixBwd.main_arg1) = m ((c.tc : Thread Cert.PoolMixBwd.nD Cert.PoolMixBwd.τ).loc Cert.PoolMixBwd.main_arg1)
      ∧ r.2.mem ((c.tc : Thread Cert.PoolMixBwd.nD Cert.PoolMixBwd.τ).loc Cert.PoolMixBwd.main_arg2) = m ((c.tc : Thread Cert.PoolMixBwd.nD Cert.PoolMixBwd.τ).loc Cert.PoolMixBwd.main_arg2)
      ∧ r.2.mem ((c.tc : Thread Cert.PoolMixBwd.nD Cert.PoolMixBwd.τ).loc Cert.PoolMixBwd.main_arg3) = m ((c.tc : Thread Cert.PoolMixBwd.nD Cert.PoolMixBwd.τ).loc Cert.PoolMixBwd.main_arg3))
      ∧ r.2.sem = fun _ => 0)

def quiescent_PoolMixBwdIdeal [hPoolMixBwdIdeal : Cert.PoolMixBwdIdeal.Facts] : Prop :=
  ∀ (m : (ℓ : Loc Cert.PoolMixBwdIdeal.nD Cert.PoolMixBwdIdeal.τ Cert.PoolMixBwdIdeal.sig) → Buf (Elt Ideal) ℓ) (g : Dev Cert.PoolMixBwdIdeal.nD → PrngReg), Pre_PoolMixBwdIdeal m →
    θ_run (Cert.PoolMixBwdIdeal.defs (F := Ideal)) (onTc (τ := Cert.PoolMixBwdIdeal.τ) (Cert.PoolMixBwdIdeal.main (F := Ideal))) ⟨m, fun _ => 0, g⟩ (fun r => (∀ c : Dev Cert.PoolMixBwdIdeal.nD,
      r.2.mem ((c.tc : Thread Cert.PoolMixBwdIdeal.nD Cert.PoolMixBwdIdeal.τ).loc Cert.PoolMixBwdIdeal.main_arg0) = m ((c.tc : Thread Cert.PoolMixBwdIdeal.nD Cert.PoolMixBwdIdeal.τ).loc Cert.PoolMixBwdIdeal.main_arg0)
      ∧ r.2.mem ((c.tc : Thread Cert.PoolMixBwdIdeal.nD Cert.PoolMixBwdIdeal.τ).loc Cert.PoolMixBwdIdeal.main_arg1) = m ((c.tc : Thread Cert.PoolMixBwdIdeal.nD Cert.PoolMixBwdIdeal.τ).loc Cert.PoolMixBwdIdeal.main_arg1)
      ∧ r.2.mem ((c.tc : Thread Cert.PoolMixBwdIdeal.nD Cert.PoolMixBwdIdeal.τ).loc Cert.PoolMixBwdIdeal.main_arg2) = m ((c.tc : Thread Cert.PoolMixBwdIdeal.nD Cert.PoolMixBwdIdeal.τ).loc Cert.PoolMixBwdIdeal.main_arg2)
      ∧ r.2.mem ((c.tc : Thread Cert.PoolMixBwdIdeal.nD Cert.PoolMixBwdIdeal.τ).loc Cert.PoolMixBwdIdeal.main_arg3) = m ((c.tc : Thread Cert.PoolMixBwdIdeal.nD Cert.PoolMixBwdIdeal.τ).loc Cert.PoolMixBwdIdeal.main_arg3))
      ∧ r.2.sem = fun _ => 0)

def quiescent_PoolMixBwdReferenceIdeal [hPoolMixBwdReferenceIdeal : Cert.PoolMixBwdReferenceIdeal.Facts] : Prop :=
  ∀ (m : (ℓ : Loc Cert.PoolMixBwdReferenceIdeal.nD Cert.PoolMixBwdReferenceIdeal.τ Cert.PoolMixBwdReferenceIdeal.sig) → Buf (Elt Ideal) ℓ) (g : Dev Cert.PoolMixBwdReferenceIdeal.nD → PrngReg), Pre_PoolMixBwdReferenceIdeal m →
    θ_run (Cert.PoolMixBwdReferenceIdeal.defs (F := Ideal)) (onTc (τ := Cert.PoolMixBwdReferenceIdeal.τ) (Cert.PoolMixBwdReferenceIdeal.main (F := Ideal))) ⟨m, fun _ => 0, g⟩ (fun r => (∀ c : Dev Cert.PoolMixBwdReferenceIdeal.nD,
      r.2.mem ((c.tc : Thread Cert.PoolMixBwdReferenceIdeal.nD Cert.PoolMixBwdReferenceIdeal.τ).loc Cert.PoolMixBwdReferenceIdeal.main_arg0) = m ((c.tc : Thread Cert.PoolMixBwdReferenceIdeal.nD Cert.PoolMixBwdReferenceIdeal.τ).loc Cert.PoolMixBwdReferenceIdeal.main_arg0)
      ∧ r.2.mem ((c.tc : Thread Cert.PoolMixBwdReferenceIdeal.nD Cert.PoolMixBwdReferenceIdeal.τ).loc Cert.PoolMixBwdReferenceIdeal.main_arg1) = m ((c.tc : Thread Cert.PoolMixBwdReferenceIdeal.nD Cert.PoolMixBwdReferenceIdeal.τ).loc Cert.PoolMixBwdReferenceIdeal.main_arg1)
      ∧ r.2.mem ((c.tc : Thread Cert.PoolMixBwdReferenceIdeal.nD Cert.PoolMixBwdReferenceIdeal.τ).loc Cert.PoolMixBwdReferenceIdeal.main_arg2) = m ((c.tc : Thread Cert.PoolMixBwdReferenceIdeal.nD Cert.PoolMixBwdReferenceIdeal.τ).loc Cert.PoolMixBwdReferenceIdeal.main_arg2)
      ∧ r.2.mem ((c.tc : Thread Cert.PoolMixBwdReferenceIdeal.nD Cert.PoolMixBwdReferenceIdeal.τ).loc Cert.PoolMixBwdReferenceIdeal.main_arg3) = m ((c.tc : Thread Cert.PoolMixBwdReferenceIdeal.nD Cert.PoolMixBwdReferenceIdeal.τ).loc Cert.PoolMixBwdReferenceIdeal.main_arg3))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormReferenceIdeal [hFfnNormReferenceIdeal : Cert.FfnNormReferenceIdeal.Facts] : Prop :=
  ∀ (m : (ℓ : Loc Cert.FfnNormReferenceIdeal.nD Cert.FfnNormReferenceIdeal.τ Cert.FfnNormReferenceIdeal.sig) → Buf (Elt Ideal) ℓ) (g : Dev Cert.FfnNormReferenceIdeal.nD → PrngReg), Pre_FfnNormReferenceIdeal m →
    θ_run (Cert.FfnNormReferenceIdeal.defs (F := Ideal)) (onTc (τ := Cert.FfnNormReferenceIdeal.τ) (Cert.FfnNormReferenceIdeal.main (F := Ideal))) ⟨m, fun _ => 0, g⟩ (fun r => (∀ c : Dev Cert.FfnNormReferenceIdeal.nD,
      r.2.mem ((c.tc : Thread Cert.FfnNormReferenceIdeal.nD Cert.FfnNormReferenceIdeal.τ).loc Cert.FfnNormReferenceIdeal.main_arg0) = m ((c.tc : Thread Cert.FfnNormReferenceIdeal.nD Cert.FfnNormReferenceIdeal.τ).loc Cert.FfnNormReferenceIdeal.main_arg0)
      ∧ r.2.mem ((c.tc : Thread Cert.FfnNormReferenceIdeal.nD Cert.FfnNormReferenceIdeal.τ).loc Cert.FfnNormReferenceIdeal.main_arg1) = m ((c.tc : Thread Cert.FfnNormReferenceIdeal.nD Cert.FfnNormReferenceIdeal.τ).loc Cert.FfnNormReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactReferenceIdeal [hFfnDactReferenceIdeal : Cert.FfnDactReferenceIdeal.Facts] : Prop :=
  ∀ (m : (ℓ : Loc Cert.FfnDactReferenceIdeal.nD Cert.FfnDactReferenceIdeal.τ Cert.FfnDactReferenceIdeal.sig) → Buf (Elt Ideal) ℓ) (g : Dev Cert.FfnDactReferenceIdeal.nD → PrngReg), Pre_FfnDactReferenceIdeal m →
    θ_run (Cert.FfnDactReferenceIdeal.defs (F := Ideal)) (onTc (τ := Cert.FfnDactReferenceIdeal.τ) (Cert.FfnDactReferenceIdeal.main (F := Ideal))) ⟨m, fun _ => 0, g⟩ (fun r => (∀ c : Dev Cert.FfnDactReferenceIdeal.nD,
      r.2.mem ((c.tc : Thread Cert.FfnDactReferenceIdeal.nD Cert.FfnDactReferenceIdeal.τ).loc Cert.FfnDactReferenceIdeal.main_arg0) = m ((c.tc : Thread Cert.FfnDactReferenceIdeal.nD Cert.FfnDactReferenceIdeal.τ).loc Cert.FfnDactReferenceIdeal.main_arg0)
      ∧ r.2.mem ((c.tc : Thread Cert.FfnDactReferenceIdeal.nD Cert.FfnDactReferenceIdeal.τ).loc Cert.FfnDactReferenceIdeal.main_arg1) = m ((c.tc : Thread Cert.FfnDactReferenceIdeal.nD Cert.FfnDactReferenceIdeal.τ).loc Cert.FfnDactReferenceIdeal.main_arg1)
      ∧ r.2.mem ((c.tc : Thread Cert.FfnDactReferenceIdeal.nD Cert.FfnDactReferenceIdeal.τ).loc Cert.FfnDactReferenceIdeal.main_arg2) = m ((c.tc : Thread Cert.FfnDactReferenceIdeal.nD Cert.FfnDactReferenceIdeal.τ).loc Cert.FfnDactReferenceIdeal.main_arg2)
      ∧ r.2.mem ((c.tc : Thread Cert.FfnDactReferenceIdeal.nD Cert.FfnDactReferenceIdeal.τ).loc Cert.FfnDactReferenceIdeal.main_arg3) = m ((c.tc : Thread Cert.FfnDactReferenceIdeal.nD Cert.FfnDactReferenceIdeal.τ).loc Cert.FfnDactReferenceIdeal.main_arg3))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdReferenceIdeal [hFfnDwdReferenceIdeal : Cert.FfnDwdReferenceIdeal.Facts] : Prop :=
  ∀ (m : (ℓ : Loc Cert.FfnDwdReferenceIdeal.nD Cert.FfnDwdReferenceIdeal.τ Cert.FfnDwdReferenceIdeal.sig) → Buf (Elt Ideal) ℓ) (g : Dev Cert.FfnDwdReferenceIdeal.nD → PrngReg), Pre_FfnDwdReferenceIdeal m →
    θ_run (Cert.FfnDwdReferenceIdeal.defs (F := Ideal)) (onTc (τ := Cert.FfnDwdReferenceIdeal.τ) (Cert.FfnDwdReferenceIdeal.main (F := Ideal))) ⟨m, fun _ => 0, g⟩ (fun r => (∀ c : Dev Cert.FfnDwdReferenceIdeal.nD,
      r.2.mem ((c.tc : Thread Cert.FfnDwdReferenceIdeal.nD Cert.FfnDwdReferenceIdeal.τ).loc Cert.FfnDwdReferenceIdeal.main_arg0) = m ((c.tc : Thread Cert.FfnDwdReferenceIdeal.nD Cert.FfnDwdReferenceIdeal.τ).loc Cert.FfnDwdReferenceIdeal.main_arg0)
      ∧ r.2.mem ((c.tc : Thread Cert.FfnDwdReferenceIdeal.nD Cert.FfnDwdReferenceIdeal.τ).loc Cert.FfnDwdReferenceIdeal.main_arg1) = m ((c.tc : Thread Cert.FfnDwdReferenceIdeal.nD Cert.FfnDwdReferenceIdeal.τ).loc Cert.FfnDwdReferenceIdeal.main_arg1))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3))
      ∧ r.2.sem = fun _ => 0)

def quiescent_FfnDwg [hFfnDwg : Cert.FfnDwg.Facts] : Prop :=
  ∀ (m : (ℓ : Loc Cert.FfnDwg.nD Cert.FfnDwg.τ Cert.FfnDwg.sig) → Buf (Elt Bits) ℓ) (g : Dev Cert.FfnDwg.nD → PrngReg), Pre_FfnDwg m →
    θ_run (Cert.FfnDwg.defs (F := Bits)) (onTc (τ := Cert.FfnDwg.τ) (Cert.FfnDwg.main (F := Bits))) ⟨m, fun _ => 0, g⟩ (fun r => (∀ c : Dev Cert.FfnDwg.nD,
      r.2.mem ((c.tc : Thread Cert.FfnDwg.nD Cert.FfnDwg.τ).loc Cert.FfnDwg.main_arg0) = m ((c.tc : Thread Cert.FfnDwg.nD Cert.FfnDwg.τ).loc Cert.FfnDwg.main_arg0)
      ∧ r.2.mem ((c.tc : Thread Cert.FfnDwg.nD Cert.FfnDwg.τ).loc Cert.FfnDwg.main_arg1) = m ((c.tc : Thread Cert.FfnDwg.nD Cert.FfnDwg.τ).loc Cert.FfnDwg.main_arg1))
      ∧ r.2.sem = fun _ => 0)

def quiescent_FfnDwgIdeal [hFfnDwgIdeal : Cert.FfnDwgIdeal.Facts] : Prop :=
  ∀ (m : (ℓ : Loc Cert.FfnDwgIdeal.nD Cert.FfnDwgIdeal.τ Cert.FfnDwgIdeal.sig) → Buf (Elt Ideal) ℓ) (g : Dev Cert.FfnDwgIdeal.nD → PrngReg), Pre_FfnDwgIdeal m →
    θ_run (Cert.FfnDwgIdeal.defs (F := Ideal)) (onTc (τ := Cert.FfnDwgIdeal.τ) (Cert.FfnDwgIdeal.main (F := Ideal))) ⟨m, fun _ => 0, g⟩ (fun r => (∀ c : Dev Cert.FfnDwgIdeal.nD,
      r.2.mem ((c.tc : Thread Cert.FfnDwgIdeal.nD Cert.FfnDwgIdeal.τ).loc Cert.FfnDwgIdeal.main_arg0) = m ((c.tc : Thread Cert.FfnDwgIdeal.nD Cert.FfnDwgIdeal.τ).loc Cert.FfnDwgIdeal.main_arg0)
      ∧ r.2.mem ((c.tc : Thread Cert.FfnDwgIdeal.nD Cert.FfnDwgIdeal.τ).loc Cert.FfnDwgIdeal.main_arg1) = m ((c.tc : Thread Cert.FfnDwgIdeal.nD Cert.FfnDwgIdeal.τ).loc Cert.FfnDwgIdeal.main_arg1))
      ∧ r.2.sem = fun _ => 0)

def quiescent_FfnDwgReferenceIdeal [hFfnDwgReferenceIdeal : Cert.FfnDwgReferenceIdeal.Facts] : Prop :=
  ∀ (m : (ℓ : Loc Cert.FfnDwgReferenceIdeal.nD Cert.FfnDwgReferenceIdeal.τ Cert.FfnDwgReferenceIdeal.sig) → Buf (Elt Ideal) ℓ) (g : Dev Cert.FfnDwgReferenceIdeal.nD → PrngReg), Pre_FfnDwgReferenceIdeal m →
    θ_run (Cert.FfnDwgReferenceIdeal.defs (F := Ideal)) (onTc (τ := Cert.FfnDwgReferenceIdeal.τ) (Cert.FfnDwgReferenceIdeal.main (F := Ideal))) ⟨m, fun _ => 0, g⟩ (fun r => (∀ c : Dev Cert.FfnDwgReferenceIdeal.nD,
      r.2.mem ((c.tc : Thread Cert.FfnDwgReferenceIdeal.nD Cert.FfnDwgReferenceIdeal.τ).loc Cert.FfnDwgReferenceIdeal.main_arg0) = m ((c.tc : Thread Cert.FfnDwgReferenceIdeal.nD Cert.FfnDwgReferenceIdeal.τ).loc Cert.FfnDwgReferenceIdeal.main_arg0)
      ∧ r.2.mem ((c.tc : Thread Cert.FfnDwgReferenceIdeal.nD Cert.FfnDwgReferenceIdeal.τ).loc Cert.FfnDwgReferenceIdeal.main_arg1) = m ((c.tc : Thread Cert.FfnDwgReferenceIdeal.nD Cert.FfnDwgReferenceIdeal.τ).loc Cert.FfnDwgReferenceIdeal.main_arg1))
      ∧ r.2.sem = fun _ => 0)

def quiescent_FfnNormBwd [hFfnNormBwd : Cert.FfnNormBwd.Facts] : Prop :=
  ∀ (m : (ℓ : Loc Cert.FfnNormBwd.nD Cert.FfnNormBwd.τ Cert.FfnNormBwd.sig) → Buf (Elt Bits) ℓ) (g : Dev Cert.FfnNormBwd.nD → PrngReg), Pre_FfnNormBwd m →
    θ_run (Cert.FfnNormBwd.defs (F := Bits)) (onTc (τ := Cert.FfnNormBwd.τ) (Cert.FfnNormBwd.main (F := Bits))) ⟨m, fun _ => 0, g⟩ (fun r => (∀ c : Dev Cert.FfnNormBwd.nD,
      r.2.mem ((c.tc : Thread Cert.FfnNormBwd.nD Cert.FfnNormBwd.τ).loc Cert.FfnNormBwd.main_arg0) = m ((c.tc : Thread Cert.FfnNormBwd.nD Cert.FfnNormBwd.τ).loc Cert.FfnNormBwd.main_arg0)
      ∧ r.2.mem ((c.tc : Thread Cert.FfnNormBwd.nD Cert.FfnNormBwd.τ).loc Cert.FfnNormBwd.main_arg1) = m ((c.tc : Thread Cert.FfnNormBwd.nD Cert.FfnNormBwd.τ).loc Cert.FfnNormBwd.main_arg1)
      ∧ r.2.mem ((c.tc : Thread Cert.FfnNormBwd.nD Cert.FfnNormBwd.τ).loc Cert.FfnNormBwd.main_arg2) = m ((c.tc : Thread Cert.FfnNormBwd.nD Cert.FfnNormBwd.τ).loc Cert.FfnNormBwd.main_arg2)
      ∧ r.2.mem ((c.tc : Thread Cert.FfnNormBwd.nD Cert.FfnNormBwd.τ).loc Cert.FfnNormBwd.main_arg3) = m ((c.tc : Thread Cert.FfnNormBwd.nD Cert.FfnNormBwd.τ).loc Cert.FfnNormBwd.main_arg3))
      ∧ r.2.sem = fun _ => 0)

def quiescent_FfnNormBwdIdeal [hFfnNormBwdIdeal : Cert.FfnNormBwdIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg), Pre_FfnNormBwdIdeal m →
    θ_run (Cert.FfnNormBwdIdeal.defs (F := Ideal)) (onTc (τ := Cert.FfnNormBwdIdeal.τ) (Cert.FfnNormBwdIdeal.main (F := Ideal))) ⟨m, fun _ => 0, g⟩ (fun r => (∀ c : Dev Cert.FfnNormBwdIdeal.nD,
      r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
      ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
      ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
      ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3))
      ∧ r.2.sem = fun _ => 0)

def quiescent_FfnNormBwdReferenceIdeal [hFfnNormBwdReferenceIdeal : Cert.FfnNormBwdReferenceIdeal.Facts] : Prop :=
  ∀ (m : (ℓ : Loc Cert.FfnNormBwdReferenceIdeal.nD Cert.FfnNormBwdReferenceIdeal.τ Cert.FfnNormBwdReferenceIdeal.sig) → Buf (Elt Ideal) ℓ) (g : Dev Cert.FfnNormBwdReferenceIdeal.nD → PrngReg), Pre_FfnNormBwdReferenceIdeal m →
    θ_run (Cert.FfnNormBwdReferenceIdeal.defs (F := Ideal)) (onTc (τ := Cert.FfnNormBwdReferenceIdeal.τ) (Cert.FfnNormBwdReferenceIdeal.main (F := Ideal))) ⟨m, fun _ => 0, g⟩ (fun r => (∀ c : Dev Cert.FfnNormBwdReferenceIdeal.nD,
      r.2.mem ((c.tc : Thread Cert.FfnNormBwdReferenceIdeal.nD Cert.FfnNormBwdReferenceIdeal.τ).loc Cert.FfnNormBwdReferenceIdeal.main_arg0) = m ((c.tc : Thread Cert.FfnNormBwdReferenceIdeal.nD Cert.FfnNormBwdReferenceIdeal.τ).loc Cert.FfnNormBwdReferenceIdeal.main_arg0)
      ∧ r.2.mem ((c.tc : Thread Cert.FfnNormBwdReferenceIdeal.nD Cert.FfnNormBwdReferenceIdeal.τ).loc Cert.FfnNormBwdReferenceIdeal.main_arg1) = m ((c.tc : Thread Cert.FfnNormBwdReferenceIdeal.nD Cert.FfnNormBwdReferenceIdeal.τ).loc Cert.FfnNormBwdReferenceIdeal.main_arg1)
      ∧ r.2.mem ((c.tc : Thread Cert.FfnNormBwdReferenceIdeal.nD Cert.FfnNormBwdReferenceIdeal.τ).loc Cert.FfnNormBwdReferenceIdeal.main_arg2) = m ((c.tc : Thread Cert.FfnNormBwdReferenceIdeal.nD Cert.FfnNormBwdReferenceIdeal.τ).loc Cert.FfnNormBwdReferenceIdeal.main_arg2)
      ∧ r.2.mem ((c.tc : Thread Cert.FfnNormBwdReferenceIdeal.nD Cert.FfnNormBwdReferenceIdeal.τ).loc Cert.FfnNormBwdReferenceIdeal.main_arg3) = m ((c.tc : Thread Cert.FfnNormBwdReferenceIdeal.nD Cert.FfnNormBwdReferenceIdeal.τ).loc Cert.FfnNormBwdReferenceIdeal.main_arg3))
      ∧ r.2.sem = fun _ => 0)

def quiescent_AttnDelta [hAttnDelta : Cert.AttnDelta.Facts] : Prop :=
  ∀ (m : (ℓ : Loc Cert.AttnDelta.nD Cert.AttnDelta.τ Cert.AttnDelta.sig) → Buf (Elt Bits) ℓ) (g : Dev Cert.AttnDelta.nD → PrngReg), Pre_AttnDelta m →
    θ_run (Cert.AttnDelta.defs (F := Bits)) (onTc (τ := Cert.AttnDelta.τ) (Cert.AttnDelta.main (F := Bits))) ⟨m, fun _ => 0, g⟩ (fun r => (∀ c : Dev Cert.AttnDelta.nD,
      r.2.mem ((c.tc : Thread Cert.AttnDelta.nD Cert.AttnDelta.τ).loc Cert.AttnDelta.main_arg0) = m ((c.tc : Thread Cert.AttnDelta.nD Cert.AttnDelta.τ).loc Cert.AttnDelta.main_arg0)
      ∧ r.2.mem ((c.tc : Thread Cert.AttnDelta.nD Cert.AttnDelta.τ).loc Cert.AttnDelta.main_arg1) = m ((c.tc : Thread Cert.AttnDelta.nD Cert.AttnDelta.τ).loc Cert.AttnDelta.main_arg1))
      ∧ r.2.sem = fun _ => 0)

def quiescent_AttnDeltaIdeal [hAttnDeltaIdeal : Cert.AttnDeltaIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg), Pre_AttnDeltaIdeal m →
    θ_run (Cert.AttnDeltaIdeal.defs (F := Ideal)) (onTc (τ := Cert.AttnDeltaIdeal.τ) (Cert.AttnDeltaIdeal.main (F := Ideal))) ⟨m, fun _ => 0, g⟩ (fun r => (∀ c : Dev Cert.AttnDeltaIdeal.nD,
      r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
      ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ r.2.sem = fun _ => 0)

def quiescent_AttnDeltaReferenceIdeal [hAttnDeltaReferenceIdeal : Cert.AttnDeltaReferenceIdeal.Facts] : Prop :=
  ∀ (m : (ℓ : Loc Cert.AttnDeltaReferenceIdeal.nD Cert.AttnDeltaReferenceIdeal.τ Cert.AttnDeltaReferenceIdeal.sig) → Buf (Elt Ideal) ℓ) (g : Dev Cert.AttnDeltaReferenceIdeal.nD → PrngReg), Pre_AttnDeltaReferenceIdeal m →
    θ_run (Cert.AttnDeltaReferenceIdeal.defs (F := Ideal)) (onTc (τ := Cert.AttnDeltaReferenceIdeal.τ) (Cert.AttnDeltaReferenceIdeal.main (F := Ideal))) ⟨m, fun _ => 0, g⟩ (fun r => (∀ c : Dev Cert.AttnDeltaReferenceIdeal.nD,
      r.2.mem ((c.tc : Thread Cert.AttnDeltaReferenceIdeal.nD Cert.AttnDeltaReferenceIdeal.τ).loc Cert.AttnDeltaReferenceIdeal.main_arg0) = m ((c.tc : Thread Cert.AttnDeltaReferenceIdeal.nD Cert.AttnDeltaReferenceIdeal.τ).loc Cert.AttnDeltaReferenceIdeal.main_arg0)
      ∧ r.2.mem ((c.tc : Thread Cert.AttnDeltaReferenceIdeal.nD Cert.AttnDeltaReferenceIdeal.τ).loc Cert.AttnDeltaReferenceIdeal.main_arg1) = m ((c.tc : Thread Cert.AttnDeltaReferenceIdeal.nD Cert.AttnDeltaReferenceIdeal.τ).loc Cert.AttnDeltaReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 9856, 1024]⟩ ⟨3, ![64, 9856, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 9856, 1024]⟩ ⟨3, ![64, 9856, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 9856, 1024]⟩ ⟨3, ![64, 9856, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨3, ![8, 9856, 1024]⟩ ⟨3, ![64, 9856, 1024]⟩ 0 8 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.block ⟨2, ![9856, 1024]⟩ ⟨2, ![78848, 1024]⟩ 0 8 c (m' (((0 : Dev Cert.WeightsReferenceIdeal.nD).tc : Thread Cert.WeightsReferenceIdeal.nD Cert.WeightsReferenceIdeal.τ).loc Cert.WeightsReferenceIdeal.main_arg0))) →
    ∃ (v0 : Buf (Elt Ideal) (((0 : Dev Cert.WeightsReferenceIdeal.nD).tc : Thread Cert.WeightsReferenceIdeal.nD Cert.WeightsReferenceIdeal.τ).loc Cert.WeightsReferenceIdeal.main_v0)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1) = v0
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsReferenceIdeal.defs (F := Ideal)) (onTc (τ := Cert.WeightsReferenceIdeal.τ) (Cert.WeightsReferenceIdeal.main (F := Ideal))) ⟨m', fun _ => 0, g'⟩ (fun r =>
          r.2.mem (((0 : Dev Cert.WeightsReferenceIdeal.nD).tc : Thread Cert.WeightsReferenceIdeal.nD Cert.WeightsReferenceIdeal.τ).loc Cert.WeightsReferenceIdeal.main_v0) = v0
          ∧ r.2.mem (((0 : Dev Cert.WeightsReferenceIdeal.nD).tc : Thread Cert.WeightsReferenceIdeal.nD Cert.WeightsReferenceIdeal.τ).loc Cert.WeightsReferenceIdeal.main_arg0) = m' (((0 : Dev Cert.WeightsReferenceIdeal.nD).tc : Thread Cert.WeightsReferenceIdeal.nD Cert.WeightsReferenceIdeal.τ).loc Cert.WeightsReferenceIdeal.main_arg0))

def bitexact_Weights_WeightsReference [hWeights : Cert.Weights.Facts] [hWeightsReference : Cert.WeightsReference.Facts] : Prop :=
  ∀ (m : (ℓ : Loc Cert.Weights.nD Cert.Weights.τ Cert.Weights.sig) → Buf (Elt Bits) ℓ) (g : Dev Cert.Weights.nD → PrngReg)
    (m' : (ℓ : Loc Cert.WeightsReference.nD Cert.WeightsReference.τ Cert.WeightsReference.sig) → Buf (Elt Bits) ℓ) (g' : Dev Cert.WeightsReference.nD → PrngReg), Pre_Weights m →
    (∀ c : Dev Cert.Weights.nD,
      m ((c.tc : Thread Cert.Weights.nD Cert.Weights.τ).loc Cert.Weights.main_arg0) = Layout.block ⟨2, ![9856, 1024]⟩ ⟨2, ![78848, 1024]⟩ 0 8 c (m' (((0 : Dev Cert.WeightsReference.nD).tc : Thread Cert.WeightsReference.nD Cert.WeightsReference.τ).loc Cert.WeightsReference.main_arg0))) →
    ∃ (v0 : Buf (Elt Bits) (((0 : Dev Cert.WeightsReference.nD).tc : Thread Cert.WeightsReference.nD Cert.WeightsReference.τ).loc Cert.WeightsReference.main_v0)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1) = v0
          ∧ r.2.mem ((c.tc : Thread Cert.Weights.nD Cert.Weights.τ).loc Cert.Weights.main_arg0) = m ((c.tc : Thread Cert.Weights.nD Cert.Weights.τ).loc Cert.Weights.main_arg0))
      ∧ θ_run (Cert.WeightsReference.defs (F := Bits)) (onTc (τ := Cert.WeightsReference.τ) (Cert.WeightsReference.main (F := Bits))) ⟨m', fun _ => 0, g'⟩ (fun r =>
          r.2.mem (((0 : Dev Cert.WeightsReference.nD).tc : Thread Cert.WeightsReference.nD Cert.WeightsReference.τ).loc Cert.WeightsReference.main_v0) = v0
          ∧ r.2.mem (((0 : Dev Cert.WeightsReference.nD).tc : Thread Cert.WeightsReference.nD Cert.WeightsReference.τ).loc Cert.WeightsReference.main_arg0) = m' (((0 : Dev Cert.WeightsReference.nD).tc : Thread Cert.WeightsReference.nD Cert.WeightsReference.τ).loc Cert.WeightsReference.main_arg0))

def preserves_Gains_GainsIdeal : Prop :=
  True

def algebraic_GainsIdeal_GainsReferenceIdeal [hGainsIdeal : Cert.GainsIdeal.Facts] [hGainsReferenceIdeal : Cert.GainsReferenceIdeal.Facts] : Prop :=
  ∀ (m : (ℓ : Loc Cert.GainsIdeal.nD Cert.GainsIdeal.τ Cert.GainsIdeal.sig) → Buf (Elt Ideal) ℓ) (g : Dev Cert.GainsIdeal.nD → PrngReg)
    (m' : (ℓ : Loc Cert.GainsReferenceIdeal.nD Cert.GainsReferenceIdeal.τ Cert.GainsReferenceIdeal.sig) → Buf (Elt Ideal) ℓ) (g' : Dev Cert.GainsReferenceIdeal.nD → PrngReg), Pre_GainsIdeal m →
    (∀ c : Dev Cert.GainsIdeal.nD,
      m ((c.tc : Thread Cert.GainsIdeal.nD Cert.GainsIdeal.τ).loc Cert.GainsIdeal.main_arg0) = Layout.block ⟨2, ![64, 1024]⟩ ⟨2, ![512, 1024]⟩ 0 8 c (m' (((0 : Dev Cert.GainsReferenceIdeal.nD).tc : Thread Cert.GainsReferenceIdeal.nD Cert.GainsReferenceIdeal.τ).loc Cert.GainsReferenceIdeal.main_arg0))) →
    ∃ (v0 : Buf (Elt Ideal) (((0 : Dev Cert.GainsReferenceIdeal.nD).tc : Thread Cert.GainsReferenceIdeal.nD Cert.GainsReferenceIdeal.τ).loc Cert.GainsReferenceIdeal.main_v0)),
      θ_run (Cert.GainsIdeal.defs (F := Ideal)) (onTc (τ := Cert.GainsIdeal.τ) (Cert.GainsIdeal.main (F := Ideal))) ⟨m, fun _ => 0, g⟩ (fun r => ∀ c : Dev Cert.GainsIdeal.nD,
          r.2.mem ((c.tc : Thread Cert.GainsIdeal.nD Cert.GainsIdeal.τ).loc Cert.GainsIdeal.main_v1) = v0
          ∧ r.2.mem ((c.tc : Thread Cert.GainsIdeal.nD Cert.GainsIdeal.τ).loc Cert.GainsIdeal.main_arg0) = m ((c.tc : Thread Cert.GainsIdeal.nD Cert.GainsIdeal.τ).loc Cert.GainsIdeal.main_arg0))
      ∧ θ_run (Cert.GainsReferenceIdeal.defs (F := Ideal)) (onTc (τ := Cert.GainsReferenceIdeal.τ) (Cert.GainsReferenceIdeal.main (F := Ideal))) ⟨m', fun _ => 0, g'⟩ (fun r =>
          r.2.mem (((0 : Dev Cert.GainsReferenceIdeal.nD).tc : Thread Cert.GainsReferenceIdeal.nD Cert.GainsReferenceIdeal.τ).loc Cert.GainsReferenceIdeal.main_v0) = v0
          ∧ r.2.mem (((0 : Dev Cert.GainsReferenceIdeal.nD).tc : Thread Cert.GainsReferenceIdeal.nD Cert.GainsReferenceIdeal.τ).loc Cert.GainsReferenceIdeal.main_arg0) = m' (((0 : Dev Cert.GainsReferenceIdeal.nD).tc : Thread Cert.GainsReferenceIdeal.nD Cert.GainsReferenceIdeal.τ).loc Cert.GainsReferenceIdeal.main_arg0))

def bitexact_Gains_GainsReference [hGains : Cert.Gains.Facts] [hGainsReference : Cert.GainsReference.Facts] : Prop :=
  ∀ (m : (ℓ : Loc Cert.Gains.nD Cert.Gains.τ Cert.Gains.sig) → Buf (Elt Bits) ℓ) (g : Dev Cert.Gains.nD → PrngReg)
    (m' : (ℓ : Loc Cert.GainsReference.nD Cert.GainsReference.τ Cert.GainsReference.sig) → Buf (Elt Bits) ℓ) (g' : Dev Cert.GainsReference.nD → PrngReg), Pre_Gains m →
    (∀ c : Dev Cert.Gains.nD,
      m ((c.tc : Thread Cert.Gains.nD Cert.Gains.τ).loc Cert.Gains.main_arg0) = Layout.block ⟨2, ![64, 1024]⟩ ⟨2, ![512, 1024]⟩ 0 8 c (m' (((0 : Dev Cert.GainsReference.nD).tc : Thread Cert.GainsReference.nD Cert.GainsReference.τ).loc Cert.GainsReference.main_arg0))) →
    ∃ (v0 : Buf (Elt Bits) (((0 : Dev Cert.GainsReference.nD).tc : Thread Cert.GainsReference.nD Cert.GainsReference.τ).loc Cert.GainsReference.main_v0)),
      θ_run (Cert.Gains.defs (F := Bits)) (onTc (τ := Cert.Gains.τ) (Cert.Gains.main (F := Bits))) ⟨m, fun _ => 0, g⟩ (fun r => ∀ c : Dev Cert.Gains.nD,
          r.2.mem ((c.tc : Thread Cert.Gains.nD Cert.Gains.τ).loc Cert.Gains.main_v1) = v0
          ∧ r.2.mem ((c.tc : Thread Cert.Gains.nD Cert.Gains.τ).loc Cert.Gains.main_arg0) = m ((c.tc : Thread Cert.Gains.nD Cert.Gains.τ).loc Cert.Gains.main_arg0))
      ∧ θ_run (Cert.GainsReference.defs (F := Bits)) (onTc (τ := Cert.GainsReference.τ) (Cert.GainsReference.main (F := Bits))) ⟨m', fun _ => 0, g'⟩ (fun r =>
          r.2.mem (((0 : Dev Cert.GainsReference.nD).tc : Thread Cert.GainsReference.nD Cert.GainsReference.τ).loc Cert.GainsReference.main_v0) = v0
          ∧ r.2.mem (((0 : Dev Cert.GainsReference.nD).tc : Thread Cert.GainsReference.nD Cert.GainsReference.τ).loc Cert.GainsReference.main_arg0) = m' (((0 : Dev Cert.GainsReference.nD).tc : Thread Cert.GainsReference.nD Cert.GainsReference.τ).loc Cert.GainsReference.main_arg0))

def preserves_Sum_SumIdeal : Prop :=
  True

def algebraic_SumIdeal_SumReferenceIdeal [hSumIdeal : Cert.SumIdeal.Facts] [hSumReferenceIdeal : Cert.SumReferenceIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumIdeal m →
    (∀ c : Dev Cert.SumIdeal.nD,
      m' ((c.tc : Thread Cert.SumReferenceIdeal.nD Cert.SumReferenceIdeal.τ).loc Cert.SumReferenceIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_Update1x256_Update1x256Ideal : Prop :=
  True

def algebraic_Update1x256Ideal_UpdateReference1x256Ideal [hUpdate1x256Ideal : Cert.Update1x256Ideal.Facts] [hUpdateReference1x256Ideal : Cert.UpdateReference1x256Ideal.Facts] : Prop :=
  ∀ (m : (ℓ : Loc Cert.Update1x256Ideal.nD Cert.Update1x256Ideal.τ Cert.Update1x256Ideal.sig) → Buf (Elt Ideal) ℓ) (g : Dev Cert.Update1x256Ideal.nD → PrngReg)
    (m' : (ℓ : Loc Cert.UpdateReference1x256Ideal.nD Cert.UpdateReference1x256Ideal.τ Cert.UpdateReference1x256Ideal.sig) → Buf (Elt Ideal) ℓ) (g' : Dev Cert.UpdateReference1x256Ideal.nD → PrngReg), Pre_Update1x256Ideal m →
    (∀ c : Dev Cert.Update1x256Ideal.nD,
      m' ((c.tc : Thread Cert.UpdateReference1x256Ideal.nD Cert.UpdateReference1x256Ideal.τ).loc Cert.UpdateReference1x256Ideal.main_arg0) = m ((c.tc : Thread Cert.Update1x256Ideal.nD Cert.Update1x256Ideal.τ).loc Cert.Update1x256Ideal.main_arg0)
      ∧ m' ((c.tc : Thread Cert.UpdateReference1x256Ideal.nD Cert.UpdateReference1x256Ideal.τ).loc Cert.UpdateReference1x256Ideal.main_arg1) = m ((c.tc : Thread Cert.Update1x256Ideal.nD Cert.Update1x256Ideal.τ).loc Cert.Update1x256Ideal.main_arg1)
      ∧ m' ((c.tc : Thread Cert.UpdateReference1x256Ideal.nD Cert.UpdateReference1x256Ideal.τ).loc Cert.UpdateReference1x256Ideal.main_arg2) = m ((c.tc : Thread Cert.Update1x256Ideal.nD Cert.Update1x256Ideal.τ).loc Cert.Update1x256Ideal.main_arg2)
      ∧ m' ((c.tc : Thread Cert.UpdateReference1x256Ideal.nD Cert.UpdateReference1x256Ideal.τ).loc Cert.UpdateReference1x256Ideal.main_arg3) = m ((c.tc : Thread Cert.Update1x256Ideal.nD Cert.Update1x256Ideal.τ).loc Cert.Update1x256Ideal.main_arg3)) →
    ∃ (v0 : (c : Dev Cert.Update1x256Ideal.nD) → Buf (Elt Ideal) ((c.tc : Thread Cert.Update1x256Ideal.nD Cert.Update1x256Ideal.τ).loc Cert.Update1x256Ideal.main_v0_0)) (v1 : (c : Dev Cert.Update1x256Ideal.nD) → Buf (Elt Ideal) ((c.tc : Thread Cert.Update1x256Ideal.nD Cert.Update1x256Ideal.τ).loc Cert.Update1x256Ideal.main_v0_1)) (v2 : (c : Dev Cert.Update1x256Ideal.nD) → Buf (Elt Ideal) ((c.tc : Thread Cert.Update1x256Ideal.nD Cert.Update1x256Ideal.τ).loc Cert.Update1x256Ideal.main_v0_2)),
      θ_run (Cert.Update1x256Ideal.defs (F := Ideal)) (onTc (τ := Cert.Update1x256Ideal.τ) (Cert.Update1x256Ideal.main (F := Ideal))) ⟨m, fun _ => 0, g⟩ (fun r => ∀ c : Dev Cert.Update1x256Ideal.nD,
          r.2.mem ((c.tc : Thread Cert.Update1x256Ideal.nD Cert.Update1x256Ideal.τ).loc Cert.Update1x256Ideal.main_v0_0) = v0 c
          ∧ r.2.mem ((c.tc : Thread Cert.Update1x256Ideal.nD Cert.Update1x256Ideal.τ).loc Cert.Update1x256Ideal.main_v0_1) = v1 c
          ∧ r.2.mem ((c.tc : Thread Cert.Update1x256Ideal.nD Cert.Update1x256Ideal.τ).loc Cert.Update1x256Ideal.main_v0_2) = v2 c
          ∧ r.2.mem ((c.tc : Thread Cert.Update1x256Ideal.nD Cert.Update1x256Ideal.τ).loc Cert.Update1x256Ideal.main_arg0) = m ((c.tc : Thread Cert.Update1x256Ideal.nD Cert.Update1x256Ideal.τ).loc Cert.Update1x256Ideal.main_arg0)
          ∧ r.2.mem ((c.tc : Thread Cert.Update1x256Ideal.nD Cert.Update1x256Ideal.τ).loc Cert.Update1x256Ideal.main_arg1) = m ((c.tc : Thread Cert.Update1x256Ideal.nD Cert.Update1x256Ideal.τ).loc Cert.Update1x256Ideal.main_arg1)
          ∧ r.2.mem ((c.tc : Thread Cert.Update1x256Ideal.nD Cert.Update1x256Ideal.τ).loc Cert.Update1x256Ideal.main_arg2) = m ((c.tc : Thread Cert.Update1x256Ideal.nD Cert.Update1x256Ideal.τ).loc Cert.Update1x256Ideal.main_arg2)
          ∧ r.2.mem ((c.tc : Thread Cert.Update1x256Ideal.nD Cert.Update1x256Ideal.τ).loc Cert.Update1x256Ideal.main_arg3) = m ((c.tc : Thread Cert.Update1x256Ideal.nD Cert.Update1x256Ideal.τ).loc Cert.Update1x256Ideal.main_arg3))
      ∧ θ_run (Cert.UpdateReference1x256Ideal.defs (F := Ideal)) (onTc (τ := Cert.UpdateReference1x256Ideal.τ) (Cert.UpdateReference1x256Ideal.main (F := Ideal))) ⟨m', fun _ => 0, g'⟩ (fun r => ∀ c : Dev Cert.UpdateReference1x256Ideal.nD,
          r.2.mem ((c.tc : Thread Cert.UpdateReference1x256Ideal.nD Cert.UpdateReference1x256Ideal.τ).loc Cert.UpdateReference1x256Ideal.main_v23) = v0 c
          ∧ r.2.mem ((c.tc : Thread Cert.UpdateReference1x256Ideal.nD Cert.UpdateReference1x256Ideal.τ).loc Cert.UpdateReference1x256Ideal.main_v4) = v1 c
          ∧ r.2.mem ((c.tc : Thread Cert.UpdateReference1x256Ideal.nD Cert.UpdateReference1x256Ideal.τ).loc Cert.UpdateReference1x256Ideal.main_v10) = v2 c
          ∧ r.2.mem ((c.tc : Thread Cert.UpdateReference1x256Ideal.nD Cert.UpdateReference1x256Ideal.τ).loc Cert.UpdateReference1x256Ideal.main_arg0) = m' ((c.tc : Thread Cert.UpdateReference1x256Ideal.nD Cert.UpdateReference1x256Ideal.τ).loc Cert.UpdateReference1x256Ideal.main_arg0)
          ∧ r.2.mem ((c.tc : Thread Cert.UpdateReference1x256Ideal.nD Cert.UpdateReference1x256Ideal.τ).loc Cert.UpdateReference1x256Ideal.main_arg1) = m' ((c.tc : Thread Cert.UpdateReference1x256Ideal.nD Cert.UpdateReference1x256Ideal.τ).loc Cert.UpdateReference1x256Ideal.main_arg1)
          ∧ r.2.mem ((c.tc : Thread Cert.UpdateReference1x256Ideal.nD Cert.UpdateReference1x256Ideal.τ).loc Cert.UpdateReference1x256Ideal.main_arg2) = m' ((c.tc : Thread Cert.UpdateReference1x256Ideal.nD Cert.UpdateReference1x256Ideal.τ).loc Cert.UpdateReference1x256Ideal.main_arg2)
          ∧ r.2.mem ((c.tc : Thread Cert.UpdateReference1x256Ideal.nD Cert.UpdateReference1x256Ideal.τ).loc Cert.UpdateReference1x256Ideal.main_arg3) = m' ((c.tc : Thread Cert.UpdateReference1x256Ideal.nD Cert.UpdateReference1x256Ideal.τ).loc Cert.UpdateReference1x256Ideal.main_arg3))

def preserves_Update1x512_Update1x512Ideal : Prop :=
  True

def algebraic_Update1x512Ideal_UpdateReference1x512Ideal [hUpdate1x512Ideal : Cert.Update1x512Ideal.Facts] [hUpdateReference1x512Ideal : Cert.UpdateReference1x512Ideal.Facts] : Prop :=
  ∀ (m : (ℓ : Loc Cert.Update1x512Ideal.nD Cert.Update1x512Ideal.τ Cert.Update1x512Ideal.sig) → Buf (Elt Ideal) ℓ) (g : Dev Cert.Update1x512Ideal.nD → PrngReg)
    (m' : (ℓ : Loc Cert.UpdateReference1x512Ideal.nD Cert.UpdateReference1x512Ideal.τ Cert.UpdateReference1x512Ideal.sig) → Buf (Elt Ideal) ℓ) (g' : Dev Cert.UpdateReference1x512Ideal.nD → PrngReg), Pre_Update1x512Ideal m →
    (∀ c : Dev Cert.Update1x512Ideal.nD,
      m' ((c.tc : Thread Cert.UpdateReference1x512Ideal.nD Cert.UpdateReference1x512Ideal.τ).loc Cert.UpdateReference1x512Ideal.main_arg0) = m ((c.tc : Thread Cert.Update1x512Ideal.nD Cert.Update1x512Ideal.τ).loc Cert.Update1x512Ideal.main_arg0)
      ∧ m' ((c.tc : Thread Cert.UpdateReference1x512Ideal.nD Cert.UpdateReference1x512Ideal.τ).loc Cert.UpdateReference1x512Ideal.main_arg1) = m ((c.tc : Thread Cert.Update1x512Ideal.nD Cert.Update1x512Ideal.τ).loc Cert.Update1x512Ideal.main_arg1)
      ∧ m' ((c.tc : Thread Cert.UpdateReference1x512Ideal.nD Cert.UpdateReference1x512Ideal.τ).loc Cert.UpdateReference1x512Ideal.main_arg2) = m ((c.tc : Thread Cert.Update1x512Ideal.nD Cert.Update1x512Ideal.τ).loc Cert.Update1x512Ideal.main_arg2)
      ∧ m' ((c.tc : Thread Cert.UpdateReference1x512Ideal.nD Cert.UpdateReference1x512Ideal.τ).loc Cert.UpdateReference1x512Ideal.main_arg3) = m ((c.tc : Thread Cert.Update1x512Ideal.nD Cert.Update1x512Ideal.τ).loc Cert.Update1x512Ideal.main_arg3)) →
    ∃ (v0 : (c : Dev Cert.Update1x512Ideal.nD) → Buf (Elt Ideal) ((c.tc : Thread Cert.Update1x512Ideal.nD Cert.Update1x512Ideal.τ).loc Cert.Update1x512Ideal.main_v0_0)) (v1 : (c : Dev Cert.Update1x512Ideal.nD) → Buf (Elt Ideal) ((c.tc : Thread Cert.Update1x512Ideal.nD Cert.Update1x512Ideal.τ).loc Cert.Update1x512Ideal.main_v0_1)) (v2 : (c : Dev Cert.Update1x512Ideal.nD) → Buf (Elt Ideal) ((c.tc : Thread Cert.Update1x512Ideal.nD Cert.Update1x512Ideal.τ).loc Cert.Update1x512Ideal.main_v0_2)),
      θ_run (Cert.Update1x512Ideal.defs (F := Ideal)) (onTc (τ := Cert.Update1x512Ideal.τ) (Cert.Update1x512Ideal.main (F := Ideal))) ⟨m, fun _ => 0, g⟩ (fun r => ∀ c : Dev Cert.Update1x512Ideal.nD,
          r.2.mem ((c.tc : Thread Cert.Update1x512Ideal.nD Cert.Update1x512Ideal.τ).loc Cert.Update1x512Ideal.main_v0_0) = v0 c
          ∧ r.2.mem ((c.tc : Thread Cert.Update1x512Ideal.nD Cert.Update1x512Ideal.τ).loc Cert.Update1x512Ideal.main_v0_1) = v1 c
          ∧ r.2.mem ((c.tc : Thread Cert.Update1x512Ideal.nD Cert.Update1x512Ideal.τ).loc Cert.Update1x512Ideal.main_v0_2) = v2 c
          ∧ r.2.mem ((c.tc : Thread Cert.Update1x512Ideal.nD Cert.Update1x512Ideal.τ).loc Cert.Update1x512Ideal.main_arg0) = m ((c.tc : Thread Cert.Update1x512Ideal.nD Cert.Update1x512Ideal.τ).loc Cert.Update1x512Ideal.main_arg0)
          ∧ r.2.mem ((c.tc : Thread Cert.Update1x512Ideal.nD Cert.Update1x512Ideal.τ).loc Cert.Update1x512Ideal.main_arg1) = m ((c.tc : Thread Cert.Update1x512Ideal.nD Cert.Update1x512Ideal.τ).loc Cert.Update1x512Ideal.main_arg1)
          ∧ r.2.mem ((c.tc : Thread Cert.Update1x512Ideal.nD Cert.Update1x512Ideal.τ).loc Cert.Update1x512Ideal.main_arg2) = m ((c.tc : Thread Cert.Update1x512Ideal.nD Cert.Update1x512Ideal.τ).loc Cert.Update1x512Ideal.main_arg2)
          ∧ r.2.mem ((c.tc : Thread Cert.Update1x512Ideal.nD Cert.Update1x512Ideal.τ).loc Cert.Update1x512Ideal.main_arg3) = m ((c.tc : Thread Cert.Update1x512Ideal.nD Cert.Update1x512Ideal.τ).loc Cert.Update1x512Ideal.main_arg3))
      ∧ θ_run (Cert.UpdateReference1x512Ideal.defs (F := Ideal)) (onTc (τ := Cert.UpdateReference1x512Ideal.τ) (Cert.UpdateReference1x512Ideal.main (F := Ideal))) ⟨m', fun _ => 0, g'⟩ (fun r => ∀ c : Dev Cert.UpdateReference1x512Ideal.nD,
          r.2.mem ((c.tc : Thread Cert.UpdateReference1x512Ideal.nD Cert.UpdateReference1x512Ideal.τ).loc Cert.UpdateReference1x512Ideal.main_v23) = v0 c
          ∧ r.2.mem ((c.tc : Thread Cert.UpdateReference1x512Ideal.nD Cert.UpdateReference1x512Ideal.τ).loc Cert.UpdateReference1x512Ideal.main_v4) = v1 c
          ∧ r.2.mem ((c.tc : Thread Cert.UpdateReference1x512Ideal.nD Cert.UpdateReference1x512Ideal.τ).loc Cert.UpdateReference1x512Ideal.main_v10) = v2 c
          ∧ r.2.mem ((c.tc : Thread Cert.UpdateReference1x512Ideal.nD Cert.UpdateReference1x512Ideal.τ).loc Cert.UpdateReference1x512Ideal.main_arg0) = m' ((c.tc : Thread Cert.UpdateReference1x512Ideal.nD Cert.UpdateReference1x512Ideal.τ).loc Cert.UpdateReference1x512Ideal.main_arg0)
          ∧ r.2.mem ((c.tc : Thread Cert.UpdateReference1x512Ideal.nD Cert.UpdateReference1x512Ideal.τ).loc Cert.UpdateReference1x512Ideal.main_arg1) = m' ((c.tc : Thread Cert.UpdateReference1x512Ideal.nD Cert.UpdateReference1x512Ideal.τ).loc Cert.UpdateReference1x512Ideal.main_arg1)
          ∧ r.2.mem ((c.tc : Thread Cert.UpdateReference1x512Ideal.nD Cert.UpdateReference1x512Ideal.τ).loc Cert.UpdateReference1x512Ideal.main_arg2) = m' ((c.tc : Thread Cert.UpdateReference1x512Ideal.nD Cert.UpdateReference1x512Ideal.τ).loc Cert.UpdateReference1x512Ideal.main_arg2)
          ∧ r.2.mem ((c.tc : Thread Cert.UpdateReference1x512Ideal.nD Cert.UpdateReference1x512Ideal.τ).loc Cert.UpdateReference1x512Ideal.main_arg3) = m' ((c.tc : Thread Cert.UpdateReference1x512Ideal.nD Cert.UpdateReference1x512Ideal.τ).loc Cert.UpdateReference1x512Ideal.main_arg3))

def preserves_Update1x2048_Update1x2048Ideal : Prop :=
  True

def algebraic_Update1x2048Ideal_UpdateReference1x2048Ideal [hUpdate1x2048Ideal : Cert.Update1x2048Ideal.Facts] [hUpdateReference1x2048Ideal : Cert.UpdateReference1x2048Ideal.Facts] : Prop :=
  ∀ (m : (ℓ : Loc Cert.Update1x2048Ideal.nD Cert.Update1x2048Ideal.τ Cert.Update1x2048Ideal.sig) → Buf (Elt Ideal) ℓ) (g : Dev Cert.Update1x2048Ideal.nD → PrngReg)
    (m' : (ℓ : Loc Cert.UpdateReference1x2048Ideal.nD Cert.UpdateReference1x2048Ideal.τ Cert.UpdateReference1x2048Ideal.sig) → Buf (Elt Ideal) ℓ) (g' : Dev Cert.UpdateReference1x2048Ideal.nD → PrngReg), Pre_Update1x2048Ideal m →
    (∀ c : Dev Cert.Update1x2048Ideal.nD,
      m' ((c.tc : Thread Cert.UpdateReference1x2048Ideal.nD Cert.UpdateReference1x2048Ideal.τ).loc Cert.UpdateReference1x2048Ideal.main_arg0) = m ((c.tc : Thread Cert.Update1x2048Ideal.nD Cert.Update1x2048Ideal.τ).loc Cert.Update1x2048Ideal.main_arg0)
      ∧ m' ((c.tc : Thread Cert.UpdateReference1x2048Ideal.nD Cert.UpdateReference1x2048Ideal.τ).loc Cert.UpdateReference1x2048Ideal.main_arg1) = m ((c.tc : Thread Cert.Update1x2048Ideal.nD Cert.Update1x2048Ideal.τ).loc Cert.Update1x2048Ideal.main_arg1)
      ∧ m' ((c.tc : Thread Cert.UpdateReference1x2048Ideal.nD Cert.UpdateReference1x2048Ideal.τ).loc Cert.UpdateReference1x2048Ideal.main_arg2) = m ((c.tc : Thread Cert.Update1x2048Ideal.nD Cert.Update1x2048Ideal.τ).loc Cert.Update1x2048Ideal.main_arg2)
      ∧ m' ((c.tc : Thread Cert.UpdateReference1x2048Ideal.nD Cert.UpdateReference1x2048Ideal.τ).loc Cert.UpdateReference1x2048Ideal.main_arg3) = m ((c.tc : Thread Cert.Update1x2048Ideal.nD Cert.Update1x2048Ideal.τ).loc Cert.Update1x2048Ideal.main_arg3)) →
    ∃ (v0 : (c : Dev Cert.Update1x2048Ideal.nD) → Buf (Elt Ideal) ((c.tc : Thread Cert.Update1x2048Ideal.nD Cert.Update1x2048Ideal.τ).loc Cert.Update1x2048Ideal.main_v0_0)) (v1 : (c : Dev Cert.Update1x2048Ideal.nD) → Buf (Elt Ideal) ((c.tc : Thread Cert.Update1x2048Ideal.nD Cert.Update1x2048Ideal.τ).loc Cert.Update1x2048Ideal.main_v0_1)) (v2 : (c : Dev Cert.Update1x2048Ideal.nD) → Buf (Elt Ideal) ((c.tc : Thread Cert.Update1x2048Ideal.nD Cert.Update1x2048Ideal.τ).loc Cert.Update1x2048Ideal.main_v0_2)),
      θ_run (Cert.Update1x2048Ideal.defs (F := Ideal)) (onTc (τ := Cert.Update1x2048Ideal.τ) (Cert.Update1x2048Ideal.main (F := Ideal))) ⟨m, fun _ => 0, g⟩ (fun r => ∀ c : Dev Cert.Update1x2048Ideal.nD,
          r.2.mem ((c.tc : Thread Cert.Update1x2048Ideal.nD Cert.Update1x2048Ideal.τ).loc Cert.Update1x2048Ideal.main_v0_0) = v0 c
          ∧ r.2.mem ((c.tc : Thread Cert.Update1x2048Ideal.nD Cert.Update1x2048Ideal.τ).loc Cert.Update1x2048Ideal.main_v0_1) = v1 c
          ∧ r.2.mem ((c.tc : Thread Cert.Update1x2048Ideal.nD Cert.Update1x2048Ideal.τ).loc Cert.Update1x2048Ideal.main_v0_2) = v2 c
          ∧ r.2.mem ((c.tc : Thread Cert.Update1x2048Ideal.nD Cert.Update1x2048Ideal.τ).loc Cert.Update1x2048Ideal.main_arg0) = m ((c.tc : Thread Cert.Update1x2048Ideal.nD Cert.Update1x2048Ideal.τ).loc Cert.Update1x2048Ideal.main_arg0)
          ∧ r.2.mem ((c.tc : Thread Cert.Update1x2048Ideal.nD Cert.Update1x2048Ideal.τ).loc Cert.Update1x2048Ideal.main_arg1) = m ((c.tc : Thread Cert.Update1x2048Ideal.nD Cert.Update1x2048Ideal.τ).loc Cert.Update1x2048Ideal.main_arg1)
          ∧ r.2.mem ((c.tc : Thread Cert.Update1x2048Ideal.nD Cert.Update1x2048Ideal.τ).loc Cert.Update1x2048Ideal.main_arg2) = m ((c.tc : Thread Cert.Update1x2048Ideal.nD Cert.Update1x2048Ideal.τ).loc Cert.Update1x2048Ideal.main_arg2)
          ∧ r.2.mem ((c.tc : Thread Cert.Update1x2048Ideal.nD Cert.Update1x2048Ideal.τ).loc Cert.Update1x2048Ideal.main_arg3) = m ((c.tc : Thread Cert.Update1x2048Ideal.nD Cert.Update1x2048Ideal.τ).loc Cert.Update1x2048Ideal.main_arg3))
      ∧ θ_run (Cert.UpdateReference1x2048Ideal.defs (F := Ideal)) (onTc (τ := Cert.UpdateReference1x2048Ideal.τ) (Cert.UpdateReference1x2048Ideal.main (F := Ideal))) ⟨m', fun _ => 0, g'⟩ (fun r => ∀ c : Dev Cert.UpdateReference1x2048Ideal.nD,
          r.2.mem ((c.tc : Thread Cert.UpdateReference1x2048Ideal.nD Cert.UpdateReference1x2048Ideal.τ).loc Cert.UpdateReference1x2048Ideal.main_v23) = v0 c
          ∧ r.2.mem ((c.tc : Thread Cert.UpdateReference1x2048Ideal.nD Cert.UpdateReference1x2048Ideal.τ).loc Cert.UpdateReference1x2048Ideal.main_v4) = v1 c
          ∧ r.2.mem ((c.tc : Thread Cert.UpdateReference1x2048Ideal.nD Cert.UpdateReference1x2048Ideal.τ).loc Cert.UpdateReference1x2048Ideal.main_v10) = v2 c
          ∧ r.2.mem ((c.tc : Thread Cert.UpdateReference1x2048Ideal.nD Cert.UpdateReference1x2048Ideal.τ).loc Cert.UpdateReference1x2048Ideal.main_arg0) = m' ((c.tc : Thread Cert.UpdateReference1x2048Ideal.nD Cert.UpdateReference1x2048Ideal.τ).loc Cert.UpdateReference1x2048Ideal.main_arg0)
          ∧ r.2.mem ((c.tc : Thread Cert.UpdateReference1x2048Ideal.nD Cert.UpdateReference1x2048Ideal.τ).loc Cert.UpdateReference1x2048Ideal.main_arg1) = m' ((c.tc : Thread Cert.UpdateReference1x2048Ideal.nD Cert.UpdateReference1x2048Ideal.τ).loc Cert.UpdateReference1x2048Ideal.main_arg1)
          ∧ r.2.mem ((c.tc : Thread Cert.UpdateReference1x2048Ideal.nD Cert.UpdateReference1x2048Ideal.τ).loc Cert.UpdateReference1x2048Ideal.main_arg2) = m' ((c.tc : Thread Cert.UpdateReference1x2048Ideal.nD Cert.UpdateReference1x2048Ideal.τ).loc Cert.UpdateReference1x2048Ideal.main_arg2)
          ∧ r.2.mem ((c.tc : Thread Cert.UpdateReference1x2048Ideal.nD Cert.UpdateReference1x2048Ideal.τ).loc Cert.UpdateReference1x2048Ideal.main_arg3) = m' ((c.tc : Thread Cert.UpdateReference1x2048Ideal.nD Cert.UpdateReference1x2048Ideal.τ).loc Cert.UpdateReference1x2048Ideal.main_arg3))

def preserves_Update2x2048_Update2x2048Ideal : Prop :=
  True

def algebraic_Update2x2048Ideal_UpdateReference2x2048Ideal [hUpdate2x2048Ideal : Cert.Update2x2048Ideal.Facts] [hUpdateReference2x2048Ideal : Cert.UpdateReference2x2048Ideal.Facts] : Prop :=
  ∀ (m : (ℓ : Loc Cert.Update2x2048Ideal.nD Cert.Update2x2048Ideal.τ Cert.Update2x2048Ideal.sig) → Buf (Elt Ideal) ℓ) (g : Dev Cert.Update2x2048Ideal.nD → PrngReg)
    (m' : (ℓ : Loc Cert.UpdateReference2x2048Ideal.nD Cert.UpdateReference2x2048Ideal.τ Cert.UpdateReference2x2048Ideal.sig) → Buf (Elt Ideal) ℓ) (g' : Dev Cert.UpdateReference2x2048Ideal.nD → PrngReg), Pre_Update2x2048Ideal m →
    (∀ c : Dev Cert.Update2x2048Ideal.nD,
      m' ((c.tc : Thread Cert.UpdateReference2x2048Ideal.nD Cert.UpdateReference2x2048Ideal.τ).loc Cert.UpdateReference2x2048Ideal.main_arg0) = m ((c.tc : Thread Cert.Update2x2048Ideal.nD Cert.Update2x2048Ideal.τ).loc Cert.Update2x2048Ideal.main_arg0)
      ∧ m' ((c.tc : Thread Cert.UpdateReference2x2048Ideal.nD Cert.UpdateReference2x2048Ideal.τ).loc Cert.UpdateReference2x2048Ideal.main_arg1) = m ((c.tc : Thread Cert.Update2x2048Ideal.nD Cert.Update2x2048Ideal.τ).loc Cert.Update2x2048Ideal.main_arg1)
      ∧ m' ((c.tc : Thread Cert.UpdateReference2x2048Ideal.nD Cert.UpdateReference2x2048Ideal.τ).loc Cert.UpdateReference2x2048Ideal.main_arg2) = m ((c.tc : Thread Cert.Update2x2048Ideal.nD Cert.Update2x2048Ideal.τ).loc Cert.Update2x2048Ideal.main_arg2)
      ∧ m' ((c.tc : Thread Cert.UpdateReference2x2048Ideal.nD Cert.UpdateReference2x2048Ideal.τ).loc Cert.UpdateReference2x2048Ideal.main_arg3) = m ((c.tc : Thread Cert.Update2x2048Ideal.nD Cert.Update2x2048Ideal.τ).loc Cert.Update2x2048Ideal.main_arg3)) →
    ∃ (v0 : (c : Dev Cert.Update2x2048Ideal.nD) → Buf (Elt Ideal) ((c.tc : Thread Cert.Update2x2048Ideal.nD Cert.Update2x2048Ideal.τ).loc Cert.Update2x2048Ideal.main_v0_0)) (v1 : (c : Dev Cert.Update2x2048Ideal.nD) → Buf (Elt Ideal) ((c.tc : Thread Cert.Update2x2048Ideal.nD Cert.Update2x2048Ideal.τ).loc Cert.Update2x2048Ideal.main_v0_1)) (v2 : (c : Dev Cert.Update2x2048Ideal.nD) → Buf (Elt Ideal) ((c.tc : Thread Cert.Update2x2048Ideal.nD Cert.Update2x2048Ideal.τ).loc Cert.Update2x2048Ideal.main_v0_2)),
      θ_run (Cert.Update2x2048Ideal.defs (F := Ideal)) (onTc (τ := Cert.Update2x2048Ideal.τ) (Cert.Update2x2048Ideal.main (F := Ideal))) ⟨m, fun _ => 0, g⟩ (fun r => ∀ c : Dev Cert.Update2x2048Ideal.nD,
          r.2.mem ((c.tc : Thread Cert.Update2x2048Ideal.nD Cert.Update2x2048Ideal.τ).loc Cert.Update2x2048Ideal.main_v0_0) = v0 c
          ∧ r.2.mem ((c.tc : Thread Cert.Update2x2048Ideal.nD Cert.Update2x2048Ideal.τ).loc Cert.Update2x2048Ideal.main_v0_1) = v1 c
          ∧ r.2.mem ((c.tc : Thread Cert.Update2x2048Ideal.nD Cert.Update2x2048Ideal.τ).loc Cert.Update2x2048Ideal.main_v0_2) = v2 c
          ∧ r.2.mem ((c.tc : Thread Cert.Update2x2048Ideal.nD Cert.Update2x2048Ideal.τ).loc Cert.Update2x2048Ideal.main_arg0) = m ((c.tc : Thread Cert.Update2x2048Ideal.nD Cert.Update2x2048Ideal.τ).loc Cert.Update2x2048Ideal.main_arg0)
          ∧ r.2.mem ((c.tc : Thread Cert.Update2x2048Ideal.nD Cert.Update2x2048Ideal.τ).loc Cert.Update2x2048Ideal.main_arg1) = m ((c.tc : Thread Cert.Update2x2048Ideal.nD Cert.Update2x2048Ideal.τ).loc Cert.Update2x2048Ideal.main_arg1)
          ∧ r.2.mem ((c.tc : Thread Cert.Update2x2048Ideal.nD Cert.Update2x2048Ideal.τ).loc Cert.Update2x2048Ideal.main_arg2) = m ((c.tc : Thread Cert.Update2x2048Ideal.nD Cert.Update2x2048Ideal.τ).loc Cert.Update2x2048Ideal.main_arg2)
          ∧ r.2.mem ((c.tc : Thread Cert.Update2x2048Ideal.nD Cert.Update2x2048Ideal.τ).loc Cert.Update2x2048Ideal.main_arg3) = m ((c.tc : Thread Cert.Update2x2048Ideal.nD Cert.Update2x2048Ideal.τ).loc Cert.Update2x2048Ideal.main_arg3))
      ∧ θ_run (Cert.UpdateReference2x2048Ideal.defs (F := Ideal)) (onTc (τ := Cert.UpdateReference2x2048Ideal.τ) (Cert.UpdateReference2x2048Ideal.main (F := Ideal))) ⟨m', fun _ => 0, g'⟩ (fun r => ∀ c : Dev Cert.UpdateReference2x2048Ideal.nD,
          r.2.mem ((c.tc : Thread Cert.UpdateReference2x2048Ideal.nD Cert.UpdateReference2x2048Ideal.τ).loc Cert.UpdateReference2x2048Ideal.main_v23) = v0 c
          ∧ r.2.mem ((c.tc : Thread Cert.UpdateReference2x2048Ideal.nD Cert.UpdateReference2x2048Ideal.τ).loc Cert.UpdateReference2x2048Ideal.main_v4) = v1 c
          ∧ r.2.mem ((c.tc : Thread Cert.UpdateReference2x2048Ideal.nD Cert.UpdateReference2x2048Ideal.τ).loc Cert.UpdateReference2x2048Ideal.main_v10) = v2 c
          ∧ r.2.mem ((c.tc : Thread Cert.UpdateReference2x2048Ideal.nD Cert.UpdateReference2x2048Ideal.τ).loc Cert.UpdateReference2x2048Ideal.main_arg0) = m' ((c.tc : Thread Cert.UpdateReference2x2048Ideal.nD Cert.UpdateReference2x2048Ideal.τ).loc Cert.UpdateReference2x2048Ideal.main_arg0)
          ∧ r.2.mem ((c.tc : Thread Cert.UpdateReference2x2048Ideal.nD Cert.UpdateReference2x2048Ideal.τ).loc Cert.UpdateReference2x2048Ideal.main_arg1) = m' ((c.tc : Thread Cert.UpdateReference2x2048Ideal.nD Cert.UpdateReference2x2048Ideal.τ).loc Cert.UpdateReference2x2048Ideal.main_arg1)
          ∧ r.2.mem ((c.tc : Thread Cert.UpdateReference2x2048Ideal.nD Cert.UpdateReference2x2048Ideal.τ).loc Cert.UpdateReference2x2048Ideal.main_arg2) = m' ((c.tc : Thread Cert.UpdateReference2x2048Ideal.nD Cert.UpdateReference2x2048Ideal.τ).loc Cert.UpdateReference2x2048Ideal.main_arg2)
          ∧ r.2.mem ((c.tc : Thread Cert.UpdateReference2x2048Ideal.nD Cert.UpdateReference2x2048Ideal.τ).loc Cert.UpdateReference2x2048Ideal.main_arg3) = m' ((c.tc : Thread Cert.UpdateReference2x2048Ideal.nD Cert.UpdateReference2x2048Ideal.τ).loc Cert.UpdateReference2x2048Ideal.main_arg3))

def preserves_Update256x512_Update256x512Ideal : Prop :=
  True

def algebraic_Update256x512Ideal_UpdateReference256x512Ideal [hUpdate256x512Ideal : Cert.Update256x512Ideal.Facts] [hUpdateReference256x512Ideal : Cert.UpdateReference256x512Ideal.Facts] : Prop :=
  ∀ (m : (ℓ : Loc Cert.Update256x512Ideal.nD Cert.Update256x512Ideal.τ Cert.Update256x512Ideal.sig) → Buf (Elt Ideal) ℓ) (g : Dev Cert.Update256x512Ideal.nD → PrngReg)
    (m' : (ℓ : Loc Cert.UpdateReference256x512Ideal.nD Cert.UpdateReference256x512Ideal.τ Cert.UpdateReference256x512Ideal.sig) → Buf (Elt Ideal) ℓ) (g' : Dev Cert.UpdateReference256x512Ideal.nD → PrngReg), Pre_Update256x512Ideal m →
    (∀ c : Dev Cert.Update256x512Ideal.nD,
      m' ((c.tc : Thread Cert.UpdateReference256x512Ideal.nD Cert.UpdateReference256x512Ideal.τ).loc Cert.UpdateReference256x512Ideal.main_arg0) = m ((c.tc : Thread Cert.Update256x512Ideal.nD Cert.Update256x512Ideal.τ).loc Cert.Update256x512Ideal.main_arg0)
      ∧ m' ((c.tc : Thread Cert.UpdateReference256x512Ideal.nD Cert.UpdateReference256x512Ideal.τ).loc Cert.UpdateReference256x512Ideal.main_arg1) = m ((c.tc : Thread Cert.Update256x512Ideal.nD Cert.Update256x512Ideal.τ).loc Cert.Update256x512Ideal.main_arg1)
      ∧ m' ((c.tc : Thread Cert.UpdateReference256x512Ideal.nD Cert.UpdateReference256x512Ideal.τ).loc Cert.UpdateReference256x512Ideal.main_arg2) = m ((c.tc : Thread Cert.Update256x512Ideal.nD Cert.Update256x512Ideal.τ).loc Cert.Update256x512Ideal.main_arg2)
      ∧ m' ((c.tc : Thread Cert.UpdateReference256x512Ideal.nD Cert.UpdateReference256x512Ideal.τ).loc Cert.UpdateReference256x512Ideal.main_arg3) = m ((c.tc : Thread Cert.Update256x512Ideal.nD Cert.Update256x512Ideal.τ).loc Cert.Update256x512Ideal.main_arg3)) →
    ∃ (v0 : (c : Dev Cert.Update256x512Ideal.nD) → Buf (Elt Ideal) ((c.tc : Thread Cert.Update256x512Ideal.nD Cert.Update256x512Ideal.τ).loc Cert.Update256x512Ideal.main_v0_0)) (v1 : (c : Dev Cert.Update256x512Ideal.nD) → Buf (Elt Ideal) ((c.tc : Thread Cert.Update256x512Ideal.nD Cert.Update256x512Ideal.τ).loc Cert.Update256x512Ideal.main_v0_1)) (v2 : (c : Dev Cert.Update256x512Ideal.nD) → Buf (Elt Ideal) ((c.tc : Thread Cert.Update256x512Ideal.nD Cert.Update256x512Ideal.τ).loc Cert.Update256x512Ideal.main_v0_2)),
      θ_run (Cert.Update256x512Ideal.defs (F := Ideal)) (onTc (τ := Cert.Update256x512Ideal.τ) (Cert.Update256x512Ideal.main (F := Ideal))) ⟨m, fun _ => 0, g⟩ (fun r => ∀ c : Dev Cert.Update256x512Ideal.nD,
          r.2.mem ((c.tc : Thread Cert.Update256x512Ideal.nD Cert.Update256x512Ideal.τ).loc Cert.Update256x512Ideal.main_v0_0) = v0 c
          ∧ r.2.mem ((c.tc : Thread Cert.Update256x512Ideal.nD Cert.Update256x512Ideal.τ).loc Cert.Update256x512Ideal.main_v0_1) = v1 c
          ∧ r.2.mem ((c.tc : Thread Cert.Update256x512Ideal.nD Cert.Update256x512Ideal.τ).loc Cert.Update256x512Ideal.main_v0_2) = v2 c
          ∧ r.2.mem ((c.tc : Thread Cert.Update256x512Ideal.nD Cert.Update256x512Ideal.τ).loc Cert.Update256x512Ideal.main_arg0) = m ((c.tc : Thread Cert.Update256x512Ideal.nD Cert.Update256x512Ideal.τ).loc Cert.Update256x512Ideal.main_arg0)
          ∧ r.2.mem ((c.tc : Thread Cert.Update256x512Ideal.nD Cert.Update256x512Ideal.τ).loc Cert.Update256x512Ideal.main_arg1) = m ((c.tc : Thread Cert.Update256x512Ideal.nD Cert.Update256x512Ideal.τ).loc Cert.Update256x512Ideal.main_arg1)
          ∧ r.2.mem ((c.tc : Thread Cert.Update256x512Ideal.nD Cert.Update256x512Ideal.τ).loc Cert.Update256x512Ideal.main_arg2) = m ((c.tc : Thread Cert.Update256x512Ideal.nD Cert.Update256x512Ideal.τ).loc Cert.Update256x512Ideal.main_arg2)
          ∧ r.2.mem ((c.tc : Thread Cert.Update256x512Ideal.nD Cert.Update256x512Ideal.τ).loc Cert.Update256x512Ideal.main_arg3) = m ((c.tc : Thread Cert.Update256x512Ideal.nD Cert.Update256x512Ideal.τ).loc Cert.Update256x512Ideal.main_arg3))
      ∧ θ_run (Cert.UpdateReference256x512Ideal.defs (F := Ideal)) (onTc (τ := Cert.UpdateReference256x512Ideal.τ) (Cert.UpdateReference256x512Ideal.main (F := Ideal))) ⟨m', fun _ => 0, g'⟩ (fun r => ∀ c : Dev Cert.UpdateReference256x512Ideal.nD,
          r.2.mem ((c.tc : Thread Cert.UpdateReference256x512Ideal.nD Cert.UpdateReference256x512Ideal.τ).loc Cert.UpdateReference256x512Ideal.main_v23) = v0 c
          ∧ r.2.mem ((c.tc : Thread Cert.UpdateReference256x512Ideal.nD Cert.UpdateReference256x512Ideal.τ).loc Cert.UpdateReference256x512Ideal.main_v4) = v1 c
          ∧ r.2.mem ((c.tc : Thread Cert.UpdateReference256x512Ideal.nD Cert.UpdateReference256x512Ideal.τ).loc Cert.UpdateReference256x512Ideal.main_v10) = v2 c
          ∧ r.2.mem ((c.tc : Thread Cert.UpdateReference256x512Ideal.nD Cert.UpdateReference256x512Ideal.τ).loc Cert.UpdateReference256x512Ideal.main_arg0) = m' ((c.tc : Thread Cert.UpdateReference256x512Ideal.nD Cert.UpdateReference256x512Ideal.τ).loc Cert.UpdateReference256x512Ideal.main_arg0)
          ∧ r.2.mem ((c.tc : Thread Cert.UpdateReference256x512Ideal.nD Cert.UpdateReference256x512Ideal.τ).loc Cert.UpdateReference256x512Ideal.main_arg1) = m' ((c.tc : Thread Cert.UpdateReference256x512Ideal.nD Cert.UpdateReference256x512Ideal.τ).loc Cert.UpdateReference256x512Ideal.main_arg1)
          ∧ r.2.mem ((c.tc : Thread Cert.UpdateReference256x512Ideal.nD Cert.UpdateReference256x512Ideal.τ).loc Cert.UpdateReference256x512Ideal.main_arg2) = m' ((c.tc : Thread Cert.UpdateReference256x512Ideal.nD Cert.UpdateReference256x512Ideal.τ).loc Cert.UpdateReference256x512Ideal.main_arg2)
          ∧ r.2.mem ((c.tc : Thread Cert.UpdateReference256x512Ideal.nD Cert.UpdateReference256x512Ideal.τ).loc Cert.UpdateReference256x512Ideal.main_arg3) = m' ((c.tc : Thread Cert.UpdateReference256x512Ideal.nD Cert.UpdateReference256x512Ideal.τ).loc Cert.UpdateReference256x512Ideal.main_arg3))

def preserves_Update256x576_Update256x576Ideal : Prop :=
  True

def algebraic_Update256x576Ideal_UpdateReference256x576Ideal [hUpdate256x576Ideal : Cert.Update256x576Ideal.Facts] [hUpdateReference256x576Ideal : Cert.UpdateReference256x576Ideal.Facts] : Prop :=
  ∀ (m : (ℓ : Loc Cert.Update256x576Ideal.nD Cert.Update256x576Ideal.τ Cert.Update256x576Ideal.sig) → Buf (Elt Ideal) ℓ) (g : Dev Cert.Update256x576Ideal.nD → PrngReg)
    (m' : (ℓ : Loc Cert.UpdateReference256x576Ideal.nD Cert.UpdateReference256x576Ideal.τ Cert.UpdateReference256x576Ideal.sig) → Buf (Elt Ideal) ℓ) (g' : Dev Cert.UpdateReference256x576Ideal.nD → PrngReg), Pre_Update256x576Ideal m →
    (∀ c : Dev Cert.Update256x576Ideal.nD,
      m' ((c.tc : Thread Cert.UpdateReference256x576Ideal.nD Cert.UpdateReference256x576Ideal.τ).loc Cert.UpdateReference256x576Ideal.main_arg0) = m ((c.tc : Thread Cert.Update256x576Ideal.nD Cert.Update256x576Ideal.τ).loc Cert.Update256x576Ideal.main_arg0)
      ∧ m' ((c.tc : Thread Cert.UpdateReference256x576Ideal.nD Cert.UpdateReference256x576Ideal.τ).loc Cert.UpdateReference256x576Ideal.main_arg1) = m ((c.tc : Thread Cert.Update256x576Ideal.nD Cert.Update256x576Ideal.τ).loc Cert.Update256x576Ideal.main_arg1)
      ∧ m' ((c.tc : Thread Cert.UpdateReference256x576Ideal.nD Cert.UpdateReference256x576Ideal.τ).loc Cert.UpdateReference256x576Ideal.main_arg2) = m ((c.tc : Thread Cert.Update256x576Ideal.nD Cert.Update256x576Ideal.τ).loc Cert.Update256x576Ideal.main_arg2)
      ∧ m' ((c.tc : Thread Cert.UpdateReference256x576Ideal.nD Cert.UpdateReference256x576Ideal.τ).loc Cert.UpdateReference256x576Ideal.main_arg3) = m ((c.tc : Thread Cert.Update256x576Ideal.nD Cert.Update256x576Ideal.τ).loc Cert.Update256x576Ideal.main_arg3)) →
    ∃ (v0 : (c : Dev Cert.Update256x576Ideal.nD) → Buf (Elt Ideal) ((c.tc : Thread Cert.Update256x576Ideal.nD Cert.Update256x576Ideal.τ).loc Cert.Update256x576Ideal.main_v0_0)) (v1 : (c : Dev Cert.Update256x576Ideal.nD) → Buf (Elt Ideal) ((c.tc : Thread Cert.Update256x576Ideal.nD Cert.Update256x576Ideal.τ).loc Cert.Update256x576Ideal.main_v0_1)) (v2 : (c : Dev Cert.Update256x576Ideal.nD) → Buf (Elt Ideal) ((c.tc : Thread Cert.Update256x576Ideal.nD Cert.Update256x576Ideal.τ).loc Cert.Update256x576Ideal.main_v0_2)),
      θ_run (Cert.Update256x576Ideal.defs (F := Ideal)) (onTc (τ := Cert.Update256x576Ideal.τ) (Cert.Update256x576Ideal.main (F := Ideal))) ⟨m, fun _ => 0, g⟩ (fun r => ∀ c : Dev Cert.Update256x576Ideal.nD,
          r.2.mem ((c.tc : Thread Cert.Update256x576Ideal.nD Cert.Update256x576Ideal.τ).loc Cert.Update256x576Ideal.main_v0_0) = v0 c
          ∧ r.2.mem ((c.tc : Thread Cert.Update256x576Ideal.nD Cert.Update256x576Ideal.τ).loc Cert.Update256x576Ideal.main_v0_1) = v1 c
          ∧ r.2.mem ((c.tc : Thread Cert.Update256x576Ideal.nD Cert.Update256x576Ideal.τ).loc Cert.Update256x576Ideal.main_v0_2) = v2 c
          ∧ r.2.mem ((c.tc : Thread Cert.Update256x576Ideal.nD Cert.Update256x576Ideal.τ).loc Cert.Update256x576Ideal.main_arg0) = m ((c.tc : Thread Cert.Update256x576Ideal.nD Cert.Update256x576Ideal.τ).loc Cert.Update256x576Ideal.main_arg0)
          ∧ r.2.mem ((c.tc : Thread Cert.Update256x576Ideal.nD Cert.Update256x576Ideal.τ).loc Cert.Update256x576Ideal.main_arg1) = m ((c.tc : Thread Cert.Update256x576Ideal.nD Cert.Update256x576Ideal.τ).loc Cert.Update256x576Ideal.main_arg1)
          ∧ r.2.mem ((c.tc : Thread Cert.Update256x576Ideal.nD Cert.Update256x576Ideal.τ).loc Cert.Update256x576Ideal.main_arg2) = m ((c.tc : Thread Cert.Update256x576Ideal.nD Cert.Update256x576Ideal.τ).loc Cert.Update256x576Ideal.main_arg2)
          ∧ r.2.mem ((c.tc : Thread Cert.Update256x576Ideal.nD Cert.Update256x576Ideal.τ).loc Cert.Update256x576Ideal.main_arg3) = m ((c.tc : Thread Cert.Update256x576Ideal.nD Cert.Update256x576Ideal.τ).loc Cert.Update256x576Ideal.main_arg3))
      ∧ θ_run (Cert.UpdateReference256x576Ideal.defs (F := Ideal)) (onTc (τ := Cert.UpdateReference256x576Ideal.τ) (Cert.UpdateReference256x576Ideal.main (F := Ideal))) ⟨m', fun _ => 0, g'⟩ (fun r => ∀ c : Dev Cert.UpdateReference256x576Ideal.nD,
          r.2.mem ((c.tc : Thread Cert.UpdateReference256x576Ideal.nD Cert.UpdateReference256x576Ideal.τ).loc Cert.UpdateReference256x576Ideal.main_v23) = v0 c
          ∧ r.2.mem ((c.tc : Thread Cert.UpdateReference256x576Ideal.nD Cert.UpdateReference256x576Ideal.τ).loc Cert.UpdateReference256x576Ideal.main_v4) = v1 c
          ∧ r.2.mem ((c.tc : Thread Cert.UpdateReference256x576Ideal.nD Cert.UpdateReference256x576Ideal.τ).loc Cert.UpdateReference256x576Ideal.main_v10) = v2 c
          ∧ r.2.mem ((c.tc : Thread Cert.UpdateReference256x576Ideal.nD Cert.UpdateReference256x576Ideal.τ).loc Cert.UpdateReference256x576Ideal.main_arg0) = m' ((c.tc : Thread Cert.UpdateReference256x576Ideal.nD Cert.UpdateReference256x576Ideal.τ).loc Cert.UpdateReference256x576Ideal.main_arg0)
          ∧ r.2.mem ((c.tc : Thread Cert.UpdateReference256x576Ideal.nD Cert.UpdateReference256x576Ideal.τ).loc Cert.UpdateReference256x576Ideal.main_arg1) = m' ((c.tc : Thread Cert.UpdateReference256x576Ideal.nD Cert.UpdateReference256x576Ideal.τ).loc Cert.UpdateReference256x576Ideal.main_arg1)
          ∧ r.2.mem ((c.tc : Thread Cert.UpdateReference256x576Ideal.nD Cert.UpdateReference256x576Ideal.τ).loc Cert.UpdateReference256x576Ideal.main_arg2) = m' ((c.tc : Thread Cert.UpdateReference256x576Ideal.nD Cert.UpdateReference256x576Ideal.τ).loc Cert.UpdateReference256x576Ideal.main_arg2)
          ∧ r.2.mem ((c.tc : Thread Cert.UpdateReference256x576Ideal.nD Cert.UpdateReference256x576Ideal.τ).loc Cert.UpdateReference256x576Ideal.main_arg3) = m' ((c.tc : Thread Cert.UpdateReference256x576Ideal.nD Cert.UpdateReference256x576Ideal.τ).loc Cert.UpdateReference256x576Ideal.main_arg3))

def preserves_Update256x2048_Update256x2048Ideal : Prop :=
  True

def algebraic_Update256x2048Ideal_UpdateReference256x2048Ideal [hUpdate256x2048Ideal : Cert.Update256x2048Ideal.Facts] [hUpdateReference256x2048Ideal : Cert.UpdateReference256x2048Ideal.Facts] : Prop :=
  ∀ (m : (ℓ : Loc Cert.Update256x2048Ideal.nD Cert.Update256x2048Ideal.τ Cert.Update256x2048Ideal.sig) → Buf (Elt Ideal) ℓ) (g : Dev Cert.Update256x2048Ideal.nD → PrngReg)
    (m' : (ℓ : Loc Cert.UpdateReference256x2048Ideal.nD Cert.UpdateReference256x2048Ideal.τ Cert.UpdateReference256x2048Ideal.sig) → Buf (Elt Ideal) ℓ) (g' : Dev Cert.UpdateReference256x2048Ideal.nD → PrngReg), Pre_Update256x2048Ideal m →
    (∀ c : Dev Cert.Update256x2048Ideal.nD,
      m' ((c.tc : Thread Cert.UpdateReference256x2048Ideal.nD Cert.UpdateReference256x2048Ideal.τ).loc Cert.UpdateReference256x2048Ideal.main_arg0) = m ((c.tc : Thread Cert.Update256x2048Ideal.nD Cert.Update256x2048Ideal.τ).loc Cert.Update256x2048Ideal.main_arg0)
      ∧ m' ((c.tc : Thread Cert.UpdateReference256x2048Ideal.nD Cert.UpdateReference256x2048Ideal.τ).loc Cert.UpdateReference256x2048Ideal.main_arg1) = m ((c.tc : Thread Cert.Update256x2048Ideal.nD Cert.Update256x2048Ideal.τ).loc Cert.Update256x2048Ideal.main_arg1)
      ∧ m' ((c.tc : Thread Cert.UpdateReference256x2048Ideal.nD Cert.UpdateReference256x2048Ideal.τ).loc Cert.UpdateReference256x2048Ideal.main_arg2) = m ((c.tc : Thread Cert.Update256x2048Ideal.nD Cert.Update256x2048Ideal.τ).loc Cert.Update256x2048Ideal.main_arg2)
      ∧ m' ((c.tc : Thread Cert.UpdateReference256x2048Ideal.nD Cert.UpdateReference256x2048Ideal.τ).loc Cert.UpdateReference256x2048Ideal.main_arg3) = m ((c.tc : Thread Cert.Update256x2048Ideal.nD Cert.Update256x2048Ideal.τ).loc Cert.Update256x2048Ideal.main_arg3)) →
    ∃ (v0 : (c : Dev Cert.Update256x2048Ideal.nD) → Buf (Elt Ideal) ((c.tc : Thread Cert.Update256x2048Ideal.nD Cert.Update256x2048Ideal.τ).loc Cert.Update256x2048Ideal.main_v0_0)) (v1 : (c : Dev Cert.Update256x2048Ideal.nD) → Buf (Elt Ideal) ((c.tc : Thread Cert.Update256x2048Ideal.nD Cert.Update256x2048Ideal.τ).loc Cert.Update256x2048Ideal.main_v0_1)) (v2 : (c : Dev Cert.Update256x2048Ideal.nD) → Buf (Elt Ideal) ((c.tc : Thread Cert.Update256x2048Ideal.nD Cert.Update256x2048Ideal.τ).loc Cert.Update256x2048Ideal.main_v0_2)),
      θ_run (Cert.Update256x2048Ideal.defs (F := Ideal)) (onTc (τ := Cert.Update256x2048Ideal.τ) (Cert.Update256x2048Ideal.main (F := Ideal))) ⟨m, fun _ => 0, g⟩ (fun r => ∀ c : Dev Cert.Update256x2048Ideal.nD,
          r.2.mem ((c.tc : Thread Cert.Update256x2048Ideal.nD Cert.Update256x2048Ideal.τ).loc Cert.Update256x2048Ideal.main_v0_0) = v0 c
          ∧ r.2.mem ((c.tc : Thread Cert.Update256x2048Ideal.nD Cert.Update256x2048Ideal.τ).loc Cert.Update256x2048Ideal.main_v0_1) = v1 c
          ∧ r.2.mem ((c.tc : Thread Cert.Update256x2048Ideal.nD Cert.Update256x2048Ideal.τ).loc Cert.Update256x2048Ideal.main_v0_2) = v2 c
          ∧ r.2.mem ((c.tc : Thread Cert.Update256x2048Ideal.nD Cert.Update256x2048Ideal.τ).loc Cert.Update256x2048Ideal.main_arg0) = m ((c.tc : Thread Cert.Update256x2048Ideal.nD Cert.Update256x2048Ideal.τ).loc Cert.Update256x2048Ideal.main_arg0)
          ∧ r.2.mem ((c.tc : Thread Cert.Update256x2048Ideal.nD Cert.Update256x2048Ideal.τ).loc Cert.Update256x2048Ideal.main_arg1) = m ((c.tc : Thread Cert.Update256x2048Ideal.nD Cert.Update256x2048Ideal.τ).loc Cert.Update256x2048Ideal.main_arg1)
          ∧ r.2.mem ((c.tc : Thread Cert.Update256x2048Ideal.nD Cert.Update256x2048Ideal.τ).loc Cert.Update256x2048Ideal.main_arg2) = m ((c.tc : Thread Cert.Update256x2048Ideal.nD Cert.Update256x2048Ideal.τ).loc Cert.Update256x2048Ideal.main_arg2)
          ∧ r.2.mem ((c.tc : Thread Cert.Update256x2048Ideal.nD Cert.Update256x2048Ideal.τ).loc Cert.Update256x2048Ideal.main_arg3) = m ((c.tc : Thread Cert.Update256x2048Ideal.nD Cert.Update256x2048Ideal.τ).loc Cert.Update256x2048Ideal.main_arg3))
      ∧ θ_run (Cert.UpdateReference256x2048Ideal.defs (F := Ideal)) (onTc (τ := Cert.UpdateReference256x2048Ideal.τ) (Cert.UpdateReference256x2048Ideal.main (F := Ideal))) ⟨m', fun _ => 0, g'⟩ (fun r => ∀ c : Dev Cert.UpdateReference256x2048Ideal.nD,
          r.2.mem ((c.tc : Thread Cert.UpdateReference256x2048Ideal.nD Cert.UpdateReference256x2048Ideal.τ).loc Cert.UpdateReference256x2048Ideal.main_v23) = v0 c
          ∧ r.2.mem ((c.tc : Thread Cert.UpdateReference256x2048Ideal.nD Cert.UpdateReference256x2048Ideal.τ).loc Cert.UpdateReference256x2048Ideal.main_v4) = v1 c
          ∧ r.2.mem ((c.tc : Thread Cert.UpdateReference256x2048Ideal.nD Cert.UpdateReference256x2048Ideal.τ).loc Cert.UpdateReference256x2048Ideal.main_v10) = v2 c
          ∧ r.2.mem ((c.tc : Thread Cert.UpdateReference256x2048Ideal.nD Cert.UpdateReference256x2048Ideal.τ).loc Cert.UpdateReference256x2048Ideal.main_arg0) = m' ((c.tc : Thread Cert.UpdateReference256x2048Ideal.nD Cert.UpdateReference256x2048Ideal.τ).loc Cert.UpdateReference256x2048Ideal.main_arg0)
          ∧ r.2.mem ((c.tc : Thread Cert.UpdateReference256x2048Ideal.nD Cert.UpdateReference256x2048Ideal.τ).loc Cert.UpdateReference256x2048Ideal.main_arg1) = m' ((c.tc : Thread Cert.UpdateReference256x2048Ideal.nD Cert.UpdateReference256x2048Ideal.τ).loc Cert.UpdateReference256x2048Ideal.main_arg1)
          ∧ r.2.mem ((c.tc : Thread Cert.UpdateReference256x2048Ideal.nD Cert.UpdateReference256x2048Ideal.τ).loc Cert.UpdateReference256x2048Ideal.main_arg2) = m' ((c.tc : Thread Cert.UpdateReference256x2048Ideal.nD Cert.UpdateReference256x2048Ideal.τ).loc Cert.UpdateReference256x2048Ideal.main_arg2)
          ∧ r.2.mem ((c.tc : Thread Cert.UpdateReference256x2048Ideal.nD Cert.UpdateReference256x2048Ideal.τ).loc Cert.UpdateReference256x2048Ideal.main_arg3) = m' ((c.tc : Thread Cert.UpdateReference256x2048Ideal.nD Cert.UpdateReference256x2048Ideal.τ).loc Cert.UpdateReference256x2048Ideal.main_arg3))

def preserves_Update512x384_Update512x384Ideal : Prop :=
  True

def algebraic_Update512x384Ideal_UpdateReference512x384Ideal [hUpdate512x384Ideal : Cert.Update512x384Ideal.Facts] [hUpdateReference512x384Ideal : Cert.UpdateReference512x384Ideal.Facts] : Prop :=
  ∀ (m : (ℓ : Loc Cert.Update512x384Ideal.nD Cert.Update512x384Ideal.τ Cert.Update512x384Ideal.sig) → Buf (Elt Ideal) ℓ) (g : Dev Cert.Update512x384Ideal.nD → PrngReg)
    (m' : (ℓ : Loc Cert.UpdateReference512x384Ideal.nD Cert.UpdateReference512x384Ideal.τ Cert.UpdateReference512x384Ideal.sig) → Buf (Elt Ideal) ℓ) (g' : Dev Cert.UpdateReference512x384Ideal.nD → PrngReg), Pre_Update512x384Ideal m →
    (∀ c : Dev Cert.Update512x384Ideal.nD,
      m' ((c.tc : Thread Cert.UpdateReference512x384Ideal.nD Cert.UpdateReference512x384Ideal.τ).loc Cert.UpdateReference512x384Ideal.main_arg0) = m ((c.tc : Thread Cert.Update512x384Ideal.nD Cert.Update512x384Ideal.τ).loc Cert.Update512x384Ideal.main_arg0)
      ∧ m' ((c.tc : Thread Cert.UpdateReference512x384Ideal.nD Cert.UpdateReference512x384Ideal.τ).loc Cert.UpdateReference512x384Ideal.main_arg1) = m ((c.tc : Thread Cert.Update512x384Ideal.nD Cert.Update512x384Ideal.τ).loc Cert.Update512x384Ideal.main_arg1)
      ∧ m' ((c.tc : Thread Cert.UpdateReference512x384Ideal.nD Cert.UpdateReference512x384Ideal.τ).loc Cert.UpdateReference512x384Ideal.main_arg2) = m ((c.tc : Thread Cert.Update512x384Ideal.nD Cert.Update512x384Ideal.τ).loc Cert.Update512x384Ideal.main_arg2)
      ∧ m' ((c.tc : Thread Cert.UpdateReference512x384Ideal.nD Cert.UpdateReference512x384Ideal.τ).loc Cert.UpdateReference512x384Ideal.main_arg3) = m ((c.tc : Thread Cert.Update512x384Ideal.nD Cert.Update512x384Ideal.τ).loc Cert.Update512x384Ideal.main_arg3)) →
    ∃ (v0 : (c : Dev Cert.Update512x384Ideal.nD) → Buf (Elt Ideal) ((c.tc : Thread Cert.Update512x384Ideal.nD Cert.Update512x384Ideal.τ).loc Cert.Update512x384Ideal.main_v0_0)) (v1 : (c : Dev Cert.Update512x384Ideal.nD) → Buf (Elt Ideal) ((c.tc : Thread Cert.Update512x384Ideal.nD Cert.Update512x384Ideal.τ).loc Cert.Update512x384Ideal.main_v0_1)) (v2 : (c : Dev Cert.Update512x384Ideal.nD) → Buf (Elt Ideal) ((c.tc : Thread Cert.Update512x384Ideal.nD Cert.Update512x384Ideal.τ).loc Cert.Update512x384Ideal.main_v0_2)),
      θ_run (Cert.Update512x384Ideal.defs (F := Ideal)) (onTc (τ := Cert.Update512x384Ideal.τ) (Cert.Update512x384Ideal.main (F := Ideal))) ⟨m, fun _ => 0, g⟩ (fun r => ∀ c : Dev Cert.Update512x384Ideal.nD,
          r.2.mem ((c.tc : Thread Cert.Update512x384Ideal.nD Cert.Update512x384Ideal.τ).loc Cert.Update512x384Ideal.main_v0_0) = v0 c
          ∧ r.2.mem ((c.tc : Thread Cert.Update512x384Ideal.nD Cert.Update512x384Ideal.τ).loc Cert.Update512x384Ideal.main_v0_1) = v1 c
          ∧ r.2.mem ((c.tc : Thread Cert.Update512x384Ideal.nD Cert.Update512x384Ideal.τ).loc Cert.Update512x384Ideal.main_v0_2) = v2 c
          ∧ r.2.mem ((c.tc : Thread Cert.Update512x384Ideal.nD Cert.Update512x384Ideal.τ).loc Cert.Update512x384Ideal.main_arg0) = m ((c.tc : Thread Cert.Update512x384Ideal.nD Cert.Update512x384Ideal.τ).loc Cert.Update512x384Ideal.main_arg0)
          ∧ r.2.mem ((c.tc : Thread Cert.Update512x384Ideal.nD Cert.Update512x384Ideal.τ).loc Cert.Update512x384Ideal.main_arg1) = m ((c.tc : Thread Cert.Update512x384Ideal.nD Cert.Update512x384Ideal.τ).loc Cert.Update512x384Ideal.main_arg1)
          ∧ r.2.mem ((c.tc : Thread Cert.Update512x384Ideal.nD Cert.Update512x384Ideal.τ).loc Cert.Update512x384Ideal.main_arg2) = m ((c.tc : Thread Cert.Update512x384Ideal.nD Cert.Update512x384Ideal.τ).loc Cert.Update512x384Ideal.main_arg2)
          ∧ r.2.mem ((c.tc : Thread Cert.Update512x384Ideal.nD Cert.Update512x384Ideal.τ).loc Cert.Update512x384Ideal.main_arg3) = m ((c.tc : Thread Cert.Update512x384Ideal.nD Cert.Update512x384Ideal.τ).loc Cert.Update512x384Ideal.main_arg3))
      ∧ θ_run (Cert.UpdateReference512x384Ideal.defs (F := Ideal)) (onTc (τ := Cert.UpdateReference512x384Ideal.τ) (Cert.UpdateReference512x384Ideal.main (F := Ideal))) ⟨m', fun _ => 0, g'⟩ (fun r => ∀ c : Dev Cert.UpdateReference512x384Ideal.nD,
          r.2.mem ((c.tc : Thread Cert.UpdateReference512x384Ideal.nD Cert.UpdateReference512x384Ideal.τ).loc Cert.UpdateReference512x384Ideal.main_v23) = v0 c
          ∧ r.2.mem ((c.tc : Thread Cert.UpdateReference512x384Ideal.nD Cert.UpdateReference512x384Ideal.τ).loc Cert.UpdateReference512x384Ideal.main_v4) = v1 c
          ∧ r.2.mem ((c.tc : Thread Cert.UpdateReference512x384Ideal.nD Cert.UpdateReference512x384Ideal.τ).loc Cert.UpdateReference512x384Ideal.main_v10) = v2 c
          ∧ r.2.mem ((c.tc : Thread Cert.UpdateReference512x384Ideal.nD Cert.UpdateReference512x384Ideal.τ).loc Cert.UpdateReference512x384Ideal.main_arg0) = m' ((c.tc : Thread Cert.UpdateReference512x384Ideal.nD Cert.UpdateReference512x384Ideal.τ).loc Cert.UpdateReference512x384Ideal.main_arg0)
          ∧ r.2.mem ((c.tc : Thread Cert.UpdateReference512x384Ideal.nD Cert.UpdateReference512x384Ideal.τ).loc Cert.UpdateReference512x384Ideal.main_arg1) = m' ((c.tc : Thread Cert.UpdateReference512x384Ideal.nD Cert.UpdateReference512x384Ideal.τ).loc Cert.UpdateReference512x384Ideal.main_arg1)
          ∧ r.2.mem ((c.tc : Thread Cert.UpdateReference512x384Ideal.nD Cert.UpdateReference512x384Ideal.τ).loc Cert.UpdateReference512x384Ideal.main_arg2) = m' ((c.tc : Thread Cert.UpdateReference512x384Ideal.nD Cert.UpdateReference512x384Ideal.τ).loc Cert.UpdateReference512x384Ideal.main_arg2)
          ∧ r.2.mem ((c.tc : Thread Cert.UpdateReference512x384Ideal.nD Cert.UpdateReference512x384Ideal.τ).loc Cert.UpdateReference512x384Ideal.main_arg3) = m' ((c.tc : Thread Cert.UpdateReference512x384Ideal.nD Cert.UpdateReference512x384Ideal.τ).loc Cert.UpdateReference512x384Ideal.main_arg3))

def preserves_Update512x512_Update512x512Ideal : Prop :=
  True

def algebraic_Update512x512Ideal_UpdateReference512x512Ideal [hUpdate512x512Ideal : Cert.Update512x512Ideal.Facts] [hUpdateReference512x512Ideal : Cert.UpdateReference512x512Ideal.Facts] : Prop :=
  ∀ (m : (ℓ : Loc Cert.Update512x512Ideal.nD Cert.Update512x512Ideal.τ Cert.Update512x512Ideal.sig) → Buf (Elt Ideal) ℓ) (g : Dev Cert.Update512x512Ideal.nD → PrngReg)
    (m' : (ℓ : Loc Cert.UpdateReference512x512Ideal.nD Cert.UpdateReference512x512Ideal.τ Cert.UpdateReference512x512Ideal.sig) → Buf (Elt Ideal) ℓ) (g' : Dev Cert.UpdateReference512x512Ideal.nD → PrngReg), Pre_Update512x512Ideal m →
    (∀ c : Dev Cert.Update512x512Ideal.nD,
      m' ((c.tc : Thread Cert.UpdateReference512x512Ideal.nD Cert.UpdateReference512x512Ideal.τ).loc Cert.UpdateReference512x512Ideal.main_arg0) = m ((c.tc : Thread Cert.Update512x512Ideal.nD Cert.Update512x512Ideal.τ).loc Cert.Update512x512Ideal.main_arg0)
      ∧ m' ((c.tc : Thread Cert.UpdateReference512x512Ideal.nD Cert.UpdateReference512x512Ideal.τ).loc Cert.UpdateReference512x512Ideal.main_arg1) = m ((c.tc : Thread Cert.Update512x512Ideal.nD Cert.Update512x512Ideal.τ).loc Cert.Update512x512Ideal.main_arg1)
      ∧ m' ((c.tc : Thread Cert.UpdateReference512x512Ideal.nD Cert.UpdateReference512x512Ideal.τ).loc Cert.UpdateReference512x512Ideal.main_arg2) = m ((c.tc : Thread Cert.Update512x512Ideal.nD Cert.Update512x512Ideal.τ).loc Cert.Update512x512Ideal.main_arg2)
      ∧ m' ((c.tc : Thread Cert.UpdateReference512x512Ideal.nD Cert.UpdateReference512x512Ideal.τ).loc Cert.UpdateReference512x512Ideal.main_arg3) = m ((c.tc : Thread Cert.Update512x512Ideal.nD Cert.Update512x512Ideal.τ).loc Cert.Update512x512Ideal.main_arg3)) →
    ∃ (v0 : (c : Dev Cert.Update512x512Ideal.nD) → Buf (Elt Ideal) ((c.tc : Thread Cert.Update512x512Ideal.nD Cert.Update512x512Ideal.τ).loc Cert.Update512x512Ideal.main_v0_0)) (v1 : (c : Dev Cert.Update512x512Ideal.nD) → Buf (Elt Ideal) ((c.tc : Thread Cert.Update512x512Ideal.nD Cert.Update512x512Ideal.τ).loc Cert.Update512x512Ideal.main_v0_1)) (v2 : (c : Dev Cert.Update512x512Ideal.nD) → Buf (Elt Ideal) ((c.tc : Thread Cert.Update512x512Ideal.nD Cert.Update512x512Ideal.τ).loc Cert.Update512x512Ideal.main_v0_2)),
      θ_run (Cert.Update512x512Ideal.defs (F := Ideal)) (onTc (τ := Cert.Update512x512Ideal.τ) (Cert.Update512x512Ideal.main (F := Ideal))) ⟨m, fun _ => 0, g⟩ (fun r => ∀ c : Dev Cert.Update512x512Ideal.nD,
          r.2.mem ((c.tc : Thread Cert.Update512x512Ideal.nD Cert.Update512x512Ideal.τ).loc Cert.Update512x512Ideal.main_v0_0) = v0 c
          ∧ r.2.mem ((c.tc : Thread Cert.Update512x512Ideal.nD Cert.Update512x512Ideal.τ).loc Cert.Update512x512Ideal.main_v0_1) = v1 c
          ∧ r.2.mem ((c.tc : Thread Cert.Update512x512Ideal.nD Cert.Update512x512Ideal.τ).loc Cert.Update512x512Ideal.main_v0_2) = v2 c
          ∧ r.2.mem ((c.tc : Thread Cert.Update512x512Ideal.nD Cert.Update512x512Ideal.τ).loc Cert.Update512x512Ideal.main_arg0) = m ((c.tc : Thread Cert.Update512x512Ideal.nD Cert.Update512x512Ideal.τ).loc Cert.Update512x512Ideal.main_arg0)
          ∧ r.2.mem ((c.tc : Thread Cert.Update512x512Ideal.nD Cert.Update512x512Ideal.τ).loc Cert.Update512x512Ideal.main_arg1) = m ((c.tc : Thread Cert.Update512x512Ideal.nD Cert.Update512x512Ideal.τ).loc Cert.Update512x512Ideal.main_arg1)
          ∧ r.2.mem ((c.tc : Thread Cert.Update512x512Ideal.nD Cert.Update512x512Ideal.τ).loc Cert.Update512x512Ideal.main_arg2) = m ((c.tc : Thread Cert.Update512x512Ideal.nD Cert.Update512x512Ideal.τ).loc Cert.Update512x512Ideal.main_arg2)
          ∧ r.2.mem ((c.tc : Thread Cert.Update512x512Ideal.nD Cert.Update512x512Ideal.τ).loc Cert.Update512x512Ideal.main_arg3) = m ((c.tc : Thread Cert.Update512x512Ideal.nD Cert.Update512x512Ideal.τ).loc Cert.Update512x512Ideal.main_arg3))
      ∧ θ_run (Cert.UpdateReference512x512Ideal.defs (F := Ideal)) (onTc (τ := Cert.UpdateReference512x512Ideal.τ) (Cert.UpdateReference512x512Ideal.main (F := Ideal))) ⟨m', fun _ => 0, g'⟩ (fun r => ∀ c : Dev Cert.UpdateReference512x512Ideal.nD,
          r.2.mem ((c.tc : Thread Cert.UpdateReference512x512Ideal.nD Cert.UpdateReference512x512Ideal.τ).loc Cert.UpdateReference512x512Ideal.main_v23) = v0 c
          ∧ r.2.mem ((c.tc : Thread Cert.UpdateReference512x512Ideal.nD Cert.UpdateReference512x512Ideal.τ).loc Cert.UpdateReference512x512Ideal.main_v4) = v1 c
          ∧ r.2.mem ((c.tc : Thread Cert.UpdateReference512x512Ideal.nD Cert.UpdateReference512x512Ideal.τ).loc Cert.UpdateReference512x512Ideal.main_v10) = v2 c
          ∧ r.2.mem ((c.tc : Thread Cert.UpdateReference512x512Ideal.nD Cert.UpdateReference512x512Ideal.τ).loc Cert.UpdateReference512x512Ideal.main_arg0) = m' ((c.tc : Thread Cert.UpdateReference512x512Ideal.nD Cert.UpdateReference512x512Ideal.τ).loc Cert.UpdateReference512x512Ideal.main_arg0)
          ∧ r.2.mem ((c.tc : Thread Cert.UpdateReference512x512Ideal.nD Cert.UpdateReference512x512Ideal.τ).loc Cert.UpdateReference512x512Ideal.main_arg1) = m' ((c.tc : Thread Cert.UpdateReference512x512Ideal.nD Cert.UpdateReference512x512Ideal.τ).loc Cert.UpdateReference512x512Ideal.main_arg1)
          ∧ r.2.mem ((c.tc : Thread Cert.UpdateReference512x512Ideal.nD Cert.UpdateReference512x512Ideal.τ).loc Cert.UpdateReference512x512Ideal.main_arg2) = m' ((c.tc : Thread Cert.UpdateReference512x512Ideal.nD Cert.UpdateReference512x512Ideal.τ).loc Cert.UpdateReference512x512Ideal.main_arg2)
          ∧ r.2.mem ((c.tc : Thread Cert.UpdateReference512x512Ideal.nD Cert.UpdateReference512x512Ideal.τ).loc Cert.UpdateReference512x512Ideal.main_arg3) = m' ((c.tc : Thread Cert.UpdateReference512x512Ideal.nD Cert.UpdateReference512x512Ideal.τ).loc Cert.UpdateReference512x512Ideal.main_arg3))

def preserves_Update1408x2048_Update1408x2048Ideal : Prop :=
  True

def algebraic_Update1408x2048Ideal_UpdateReference1408x2048Ideal [hUpdate1408x2048Ideal : Cert.Update1408x2048Ideal.Facts] [hUpdateReference1408x2048Ideal : Cert.UpdateReference1408x2048Ideal.Facts] : Prop :=
  ∀ (m : (ℓ : Loc Cert.Update1408x2048Ideal.nD Cert.Update1408x2048Ideal.τ Cert.Update1408x2048Ideal.sig) → Buf (Elt Ideal) ℓ) (g : Dev Cert.Update1408x2048Ideal.nD → PrngReg)
    (m' : (ℓ : Loc Cert.UpdateReference1408x2048Ideal.nD Cert.UpdateReference1408x2048Ideal.τ Cert.UpdateReference1408x2048Ideal.sig) → Buf (Elt Ideal) ℓ) (g' : Dev Cert.UpdateReference1408x2048Ideal.nD → PrngReg), Pre_Update1408x2048Ideal m →
    (∀ c : Dev Cert.Update1408x2048Ideal.nD,
      m' ((c.tc : Thread Cert.UpdateReference1408x2048Ideal.nD Cert.UpdateReference1408x2048Ideal.τ).loc Cert.UpdateReference1408x2048Ideal.main_arg0) = m ((c.tc : Thread Cert.Update1408x2048Ideal.nD Cert.Update1408x2048Ideal.τ).loc Cert.Update1408x2048Ideal.main_arg0)
      ∧ m' ((c.tc : Thread Cert.UpdateReference1408x2048Ideal.nD Cert.UpdateReference1408x2048Ideal.τ).loc Cert.UpdateReference1408x2048Ideal.main_arg1) = m ((c.tc : Thread Cert.Update1408x2048Ideal.nD Cert.Update1408x2048Ideal.τ).loc Cert.Update1408x2048Ideal.main_arg1)
      ∧ m' ((c.tc : Thread Cert.UpdateReference1408x2048Ideal.nD Cert.UpdateReference1408x2048Ideal.τ).loc Cert.UpdateReference1408x2048Ideal.main_arg2) = m ((c.tc : Thread Cert.Update1408x2048Ideal.nD Cert.Update1408x2048Ideal.τ).loc Cert.Update1408x2048Ideal.main_arg2)
      ∧ m' ((c.tc : Thread Cert.UpdateReference1408x2048Ideal.nD Cert.UpdateReference1408x2048Ideal.τ).loc Cert.UpdateReference1408x2048Ideal.main_arg3) = m ((c.tc : Thread Cert.Update1408x2048Ideal.nD Cert.Update1408x2048Ideal.τ).loc Cert.Update1408x2048Ideal.main_arg3)) →
    ∃ (v0 : (c : Dev Cert.Update1408x2048Ideal.nD) → Buf (Elt Ideal) ((c.tc : Thread Cert.Update1408x2048Ideal.nD Cert.Update1408x2048Ideal.τ).loc Cert.Update1408x2048Ideal.main_v0_0)) (v1 : (c : Dev Cert.Update1408x2048Ideal.nD) → Buf (Elt Ideal) ((c.tc : Thread Cert.Update1408x2048Ideal.nD Cert.Update1408x2048Ideal.τ).loc Cert.Update1408x2048Ideal.main_v0_1)) (v2 : (c : Dev Cert.Update1408x2048Ideal.nD) → Buf (Elt Ideal) ((c.tc : Thread Cert.Update1408x2048Ideal.nD Cert.Update1408x2048Ideal.τ).loc Cert.Update1408x2048Ideal.main_v0_2)),
      θ_run (Cert.Update1408x2048Ideal.defs (F := Ideal)) (onTc (τ := Cert.Update1408x2048Ideal.τ) (Cert.Update1408x2048Ideal.main (F := Ideal))) ⟨m, fun _ => 0, g⟩ (fun r => ∀ c : Dev Cert.Update1408x2048Ideal.nD,
          r.2.mem ((c.tc : Thread Cert.Update1408x2048Ideal.nD Cert.Update1408x2048Ideal.τ).loc Cert.Update1408x2048Ideal.main_v0_0) = v0 c
          ∧ r.2.mem ((c.tc : Thread Cert.Update1408x2048Ideal.nD Cert.Update1408x2048Ideal.τ).loc Cert.Update1408x2048Ideal.main_v0_1) = v1 c
          ∧ r.2.mem ((c.tc : Thread Cert.Update1408x2048Ideal.nD Cert.Update1408x2048Ideal.τ).loc Cert.Update1408x2048Ideal.main_v0_2) = v2 c
          ∧ r.2.mem ((c.tc : Thread Cert.Update1408x2048Ideal.nD Cert.Update1408x2048Ideal.τ).loc Cert.Update1408x2048Ideal.main_arg0) = m ((c.tc : Thread Cert.Update1408x2048Ideal.nD Cert.Update1408x2048Ideal.τ).loc Cert.Update1408x2048Ideal.main_arg0)
          ∧ r.2.mem ((c.tc : Thread Cert.Update1408x2048Ideal.nD Cert.Update1408x2048Ideal.τ).loc Cert.Update1408x2048Ideal.main_arg1) = m ((c.tc : Thread Cert.Update1408x2048Ideal.nD Cert.Update1408x2048Ideal.τ).loc Cert.Update1408x2048Ideal.main_arg1)
          ∧ r.2.mem ((c.tc : Thread Cert.Update1408x2048Ideal.nD Cert.Update1408x2048Ideal.τ).loc Cert.Update1408x2048Ideal.main_arg2) = m ((c.tc : Thread Cert.Update1408x2048Ideal.nD Cert.Update1408x2048Ideal.τ).loc Cert.Update1408x2048Ideal.main_arg2)
          ∧ r.2.mem ((c.tc : Thread Cert.Update1408x2048Ideal.nD Cert.Update1408x2048Ideal.τ).loc Cert.Update1408x2048Ideal.main_arg3) = m ((c.tc : Thread Cert.Update1408x2048Ideal.nD Cert.Update1408x2048Ideal.τ).loc Cert.Update1408x2048Ideal.main_arg3))
      ∧ θ_run (Cert.UpdateReference1408x2048Ideal.defs (F := Ideal)) (onTc (τ := Cert.UpdateReference1408x2048Ideal.τ) (Cert.UpdateReference1408x2048Ideal.main (F := Ideal))) ⟨m', fun _ => 0, g'⟩ (fun r => ∀ c : Dev Cert.UpdateReference1408x2048Ideal.nD,
          r.2.mem ((c.tc : Thread Cert.UpdateReference1408x2048Ideal.nD Cert.UpdateReference1408x2048Ideal.τ).loc Cert.UpdateReference1408x2048Ideal.main_v23) = v0 c
          ∧ r.2.mem ((c.tc : Thread Cert.UpdateReference1408x2048Ideal.nD Cert.UpdateReference1408x2048Ideal.τ).loc Cert.UpdateReference1408x2048Ideal.main_v4) = v1 c
          ∧ r.2.mem ((c.tc : Thread Cert.UpdateReference1408x2048Ideal.nD Cert.UpdateReference1408x2048Ideal.τ).loc Cert.UpdateReference1408x2048Ideal.main_v10) = v2 c
          ∧ r.2.mem ((c.tc : Thread Cert.UpdateReference1408x2048Ideal.nD Cert.UpdateReference1408x2048Ideal.τ).loc Cert.UpdateReference1408x2048Ideal.main_arg0) = m' ((c.tc : Thread Cert.UpdateReference1408x2048Ideal.nD Cert.UpdateReference1408x2048Ideal.τ).loc Cert.UpdateReference1408x2048Ideal.main_arg0)
          ∧ r.2.mem ((c.tc : Thread Cert.UpdateReference1408x2048Ideal.nD Cert.UpdateReference1408x2048Ideal.τ).loc Cert.UpdateReference1408x2048Ideal.main_arg1) = m' ((c.tc : Thread Cert.UpdateReference1408x2048Ideal.nD Cert.UpdateReference1408x2048Ideal.τ).loc Cert.UpdateReference1408x2048Ideal.main_arg1)
          ∧ r.2.mem ((c.tc : Thread Cert.UpdateReference1408x2048Ideal.nD Cert.UpdateReference1408x2048Ideal.τ).loc Cert.UpdateReference1408x2048Ideal.main_arg2) = m' ((c.tc : Thread Cert.UpdateReference1408x2048Ideal.nD Cert.UpdateReference1408x2048Ideal.τ).loc Cert.UpdateReference1408x2048Ideal.main_arg2)
          ∧ r.2.mem ((c.tc : Thread Cert.UpdateReference1408x2048Ideal.nD Cert.UpdateReference1408x2048Ideal.τ).loc Cert.UpdateReference1408x2048Ideal.main_arg3) = m' ((c.tc : Thread Cert.UpdateReference1408x2048Ideal.nD Cert.UpdateReference1408x2048Ideal.τ).loc Cert.UpdateReference1408x2048Ideal.main_arg3))

def preserves_Update4096x704_Update4096x704Ideal : Prop :=
  True

def algebraic_Update4096x704Ideal_UpdateReference4096x704Ideal [hUpdate4096x704Ideal : Cert.Update4096x704Ideal.Facts] [hUpdateReference4096x704Ideal : Cert.UpdateReference4096x704Ideal.Facts] : Prop :=
  ∀ (m : (ℓ : Loc Cert.Update4096x704Ideal.nD Cert.Update4096x704Ideal.τ Cert.Update4096x704Ideal.sig) → Buf (Elt Ideal) ℓ) (g : Dev Cert.Update4096x704Ideal.nD → PrngReg)
    (m' : (ℓ : Loc Cert.UpdateReference4096x704Ideal.nD Cert.UpdateReference4096x704Ideal.τ Cert.UpdateReference4096x704Ideal.sig) → Buf (Elt Ideal) ℓ) (g' : Dev Cert.UpdateReference4096x704Ideal.nD → PrngReg), Pre_Update4096x704Ideal m →
    (∀ c : Dev Cert.Update4096x704Ideal.nD,
      m' ((c.tc : Thread Cert.UpdateReference4096x704Ideal.nD Cert.UpdateReference4096x704Ideal.τ).loc Cert.UpdateReference4096x704Ideal.main_arg0) = m ((c.tc : Thread Cert.Update4096x704Ideal.nD Cert.Update4096x704Ideal.τ).loc Cert.Update4096x704Ideal.main_arg0)
      ∧ m' ((c.tc : Thread Cert.UpdateReference4096x704Ideal.nD Cert.UpdateReference4096x704Ideal.τ).loc Cert.UpdateReference4096x704Ideal.main_arg1) = m ((c.tc : Thread Cert.Update4096x704Ideal.nD Cert.Update4096x704Ideal.τ).loc Cert.Update4096x704Ideal.main_arg1)
      ∧ m' ((c.tc : Thread Cert.UpdateReference4096x704Ideal.nD Cert.UpdateReference4096x704Ideal.τ).loc Cert.UpdateReference4096x704Ideal.main_arg2) = m ((c.tc : Thread Cert.Update4096x704Ideal.nD Cert.Update4096x704Ideal.τ).loc Cert.Update4096x704Ideal.main_arg2)
      ∧ m' ((c.tc : Thread Cert.UpdateReference4096x704Ideal.nD Cert.UpdateReference4096x704Ideal.τ).loc Cert.UpdateReference4096x704Ideal.main_arg3) = m ((c.tc : Thread Cert.Update4096x704Ideal.nD Cert.Update4096x704Ideal.τ).loc Cert.Update4096x704Ideal.main_arg3)) →
    ∃ (v0 : (c : Dev Cert.Update4096x704Ideal.nD) → Buf (Elt Ideal) ((c.tc : Thread Cert.Update4096x704Ideal.nD Cert.Update4096x704Ideal.τ).loc Cert.Update4096x704Ideal.main_v0_0)) (v1 : (c : Dev Cert.Update4096x704Ideal.nD) → Buf (Elt Ideal) ((c.tc : Thread Cert.Update4096x704Ideal.nD Cert.Update4096x704Ideal.τ).loc Cert.Update4096x704Ideal.main_v0_1)) (v2 : (c : Dev Cert.Update4096x704Ideal.nD) → Buf (Elt Ideal) ((c.tc : Thread Cert.Update4096x704Ideal.nD Cert.Update4096x704Ideal.τ).loc Cert.Update4096x704Ideal.main_v0_2)),
      θ_run (Cert.Update4096x704Ideal.defs (F := Ideal)) (onTc (τ := Cert.Update4096x704Ideal.τ) (Cert.Update4096x704Ideal.main (F := Ideal))) ⟨m, fun _ => 0, g⟩ (fun r => ∀ c : Dev Cert.Update4096x704Ideal.nD,
          r.2.mem ((c.tc : Thread Cert.Update4096x704Ideal.nD Cert.Update4096x704Ideal.τ).loc Cert.Update4096x704Ideal.main_v0_0) = v0 c
          ∧ r.2.mem ((c.tc : Thread Cert.Update4096x704Ideal.nD Cert.Update4096x704Ideal.τ).loc Cert.Update4096x704Ideal.main_v0_1) = v1 c
          ∧ r.2.mem ((c.tc : Thread Cert.Update4096x704Ideal.nD Cert.Update4096x704Ideal.τ).loc Cert.Update4096x704Ideal.main_v0_2) = v2 c
          ∧ r.2.mem ((c.tc : Thread Cert.Update4096x704Ideal.nD Cert.Update4096x704Ideal.τ).loc Cert.Update4096x704Ideal.main_arg0) = m ((c.tc : Thread Cert.Update4096x704Ideal.nD Cert.Update4096x704Ideal.τ).loc Cert.Update4096x704Ideal.main_arg0)
          ∧ r.2.mem ((c.tc : Thread Cert.Update4096x704Ideal.nD Cert.Update4096x704Ideal.τ).loc Cert.Update4096x704Ideal.main_arg1) = m ((c.tc : Thread Cert.Update4096x704Ideal.nD Cert.Update4096x704Ideal.τ).loc Cert.Update4096x704Ideal.main_arg1)
          ∧ r.2.mem ((c.tc : Thread Cert.Update4096x704Ideal.nD Cert.Update4096x704Ideal.τ).loc Cert.Update4096x704Ideal.main_arg2) = m ((c.tc : Thread Cert.Update4096x704Ideal.nD Cert.Update4096x704Ideal.τ).loc Cert.Update4096x704Ideal.main_arg2)
          ∧ r.2.mem ((c.tc : Thread Cert.Update4096x704Ideal.nD Cert.Update4096x704Ideal.τ).loc Cert.Update4096x704Ideal.main_arg3) = m ((c.tc : Thread Cert.Update4096x704Ideal.nD Cert.Update4096x704Ideal.τ).loc Cert.Update4096x704Ideal.main_arg3))
      ∧ θ_run (Cert.UpdateReference4096x704Ideal.defs (F := Ideal)) (onTc (τ := Cert.UpdateReference4096x704Ideal.τ) (Cert.UpdateReference4096x704Ideal.main (F := Ideal))) ⟨m', fun _ => 0, g'⟩ (fun r => ∀ c : Dev Cert.UpdateReference4096x704Ideal.nD,
          r.2.mem ((c.tc : Thread Cert.UpdateReference4096x704Ideal.nD Cert.UpdateReference4096x704Ideal.τ).loc Cert.UpdateReference4096x704Ideal.main_v23) = v0 c
          ∧ r.2.mem ((c.tc : Thread Cert.UpdateReference4096x704Ideal.nD Cert.UpdateReference4096x704Ideal.τ).loc Cert.UpdateReference4096x704Ideal.main_v4) = v1 c
          ∧ r.2.mem ((c.tc : Thread Cert.UpdateReference4096x704Ideal.nD Cert.UpdateReference4096x704Ideal.τ).loc Cert.UpdateReference4096x704Ideal.main_v10) = v2 c
          ∧ r.2.mem ((c.tc : Thread Cert.UpdateReference4096x704Ideal.nD Cert.UpdateReference4096x704Ideal.τ).loc Cert.UpdateReference4096x704Ideal.main_arg0) = m' ((c.tc : Thread Cert.UpdateReference4096x704Ideal.nD Cert.UpdateReference4096x704Ideal.τ).loc Cert.UpdateReference4096x704Ideal.main_arg0)
          ∧ r.2.mem ((c.tc : Thread Cert.UpdateReference4096x704Ideal.nD Cert.UpdateReference4096x704Ideal.τ).loc Cert.UpdateReference4096x704Ideal.main_arg1) = m' ((c.tc : Thread Cert.UpdateReference4096x704Ideal.nD Cert.UpdateReference4096x704Ideal.τ).loc Cert.UpdateReference4096x704Ideal.main_arg1)
          ∧ r.2.mem ((c.tc : Thread Cert.UpdateReference4096x704Ideal.nD Cert.UpdateReference4096x704Ideal.τ).loc Cert.UpdateReference4096x704Ideal.main_arg2) = m' ((c.tc : Thread Cert.UpdateReference4096x704Ideal.nD Cert.UpdateReference4096x704Ideal.τ).loc Cert.UpdateReference4096x704Ideal.main_arg2)
          ∧ r.2.mem ((c.tc : Thread Cert.UpdateReference4096x704Ideal.nD Cert.UpdateReference4096x704Ideal.τ).loc Cert.UpdateReference4096x704Ideal.main_arg3) = m' ((c.tc : Thread Cert.UpdateReference4096x704Ideal.nD Cert.UpdateReference4096x704Ideal.τ).loc Cert.UpdateReference4096x704Ideal.main_arg3))

def preserves_Grads_GradsIdeal : Prop :=
  True

def algebraic_GradsIdeal_GradsReferenceIdeal [hGradsIdeal : Cert.GradsIdeal.Facts] [hGradsReferenceIdeal : Cert.GradsReferenceIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsReferenceIdeal.nD Cert.GradsReferenceIdeal.τ Cert.GradsReferenceIdeal.sig) → Buf (Elt Ideal) ℓ) (g' : Dev Cert.GradsReferenceIdeal.nD → PrngReg), Pre_GradsIdeal m →
    (∀ c : Dev Cert.GradsIdeal.nD,
      m ((c.tc : Thread Cert.GradsIdeal.nD Cert.GradsIdeal.τ).loc Cert.GradsIdeal.main_arg0) = Layout.block ⟨3, ![8, 9856, 1024]⟩ ⟨3, ![64, 9856, 1024]⟩ 0 8 c (m' (((0 : Dev Cert.GradsReferenceIdeal.nD).tc : Thread Cert.GradsReferenceIdeal.nD Cert.GradsReferenceIdeal.τ).loc Cert.GradsReferenceIdeal.main_arg0))) →
    ∃ (v0 : Buf (Elt Ideal) (((0 : Dev Cert.GradsReferenceIdeal.nD).tc : Thread Cert.GradsReferenceIdeal.nD Cert.GradsReferenceIdeal.τ).loc Cert.GradsReferenceIdeal.main_v5)) (v1 : Buf (Elt Ideal) (((0 : Dev Cert.GradsReferenceIdeal.nD).tc : Thread Cert.GradsReferenceIdeal.nD Cert.GradsReferenceIdeal.τ).loc Cert.GradsReferenceIdeal.main_v8)) (v2 : Buf (Elt Ideal) (((0 : Dev Cert.GradsReferenceIdeal.nD).tc : Thread Cert.GradsReferenceIdeal.nD Cert.GradsReferenceIdeal.τ).loc Cert.GradsReferenceIdeal.main_v12)) (v3 : Buf (Elt Ideal) (((0 : Dev Cert.GradsReferenceIdeal.nD).tc : Thread Cert.GradsReferenceIdeal.nD Cert.GradsReferenceIdeal.τ).loc Cert.GradsReferenceIdeal.main_v16)) (v4 : Buf (Elt Ideal) (((0 : Dev Cert.GradsReferenceIdeal.nD).tc : Thread Cert.GradsReferenceIdeal.nD Cert.GradsReferenceIdeal.τ).loc Cert.GradsReferenceIdeal.main_v20)) (v5 : Buf (Elt Ideal) (((0 : Dev Cert.GradsReferenceIdeal.nD).tc : Thread Cert.GradsReferenceIdeal.nD Cert.GradsReferenceIdeal.τ).loc Cert.GradsReferenceIdeal.main_v24)) (v6 : Buf (Elt Ideal) (((0 : Dev Cert.GradsReferenceIdeal.nD).tc : Thread Cert.GradsReferenceIdeal.nD Cert.GradsReferenceIdeal.τ).loc Cert.GradsReferenceIdeal.main_v28)) (v7 : Buf (Elt Ideal) (((0 : Dev Cert.GradsReferenceIdeal.nD).tc : Thread Cert.GradsReferenceIdeal.nD Cert.GradsReferenceIdeal.τ).loc Cert.GradsReferenceIdeal.main_v32)) (v8 : Buf (Elt Ideal) (((0 : Dev Cert.GradsReferenceIdeal.nD).tc : Thread Cert.GradsReferenceIdeal.nD Cert.GradsReferenceIdeal.τ).loc Cert.GradsReferenceIdeal.main_v36)) (v9 : Buf (Elt Ideal) (((0 : Dev Cert.GradsReferenceIdeal.nD).tc : Thread Cert.GradsReferenceIdeal.nD Cert.GradsReferenceIdeal.τ).loc Cert.GradsReferenceIdeal.main_v40)) (v10 : Buf (Elt Ideal) (((0 : Dev Cert.GradsReferenceIdeal.nD).tc : Thread Cert.GradsReferenceIdeal.nD Cert.GradsReferenceIdeal.τ).loc Cert.GradsReferenceIdeal.main_v44)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v5) = Layout.block ⟨4, ![1, 4, 64, 512]⟩ ⟨4, ![1, 4, 512, 512]⟩ 2 8 c v0
          ∧ r.2.mem ((c.tc : Thread Cert.GradsIdeal.nD Cert.GradsIdeal.τ).loc Cert.GradsIdeal.main_v7) = Layout.block ⟨2, ![256, 576]⟩ ⟨2, ![2048, 576]⟩ 0 8 c v1
          ∧ r.2.mem ((c.tc : Thread Cert.GradsIdeal.nD Cert.GradsIdeal.τ).loc Cert.GradsIdeal.main_v9) = Layout.block ⟨2, ![512, 512]⟩ ⟨2, ![512, 4096]⟩ 1 8 c v2
          ∧ r.2.mem ((c.tc : Thread Cert.GradsIdeal.nD Cert.GradsIdeal.τ).loc Cert.GradsIdeal.main_v11) = Layout.block ⟨3, ![1, 256, 512]⟩ ⟨3, ![1, 2048, 512]⟩ 1 8 c v3
          ∧ r.2.mem ((c.tc : Thread Cert.GradsIdeal.nD Cert.GradsIdeal.τ).loc Cert.GradsIdeal.main_v13) = Layout.block ⟨3, ![1, 512, 384]⟩ ⟨3, ![1, 512, 3072]⟩ 2 8 c v4
          ∧ r.2.mem ((c.tc : Thread Cert.GradsIdeal.nD Cert.GradsIdeal.τ).loc Cert.GradsIdeal.main_v15) = Layout.block ⟨3, ![1, 256, 2048]⟩ ⟨3, ![1, 2048, 2048]⟩ 1 8 c v5
          ∧ r.2.mem ((c.tc : Thread Cert.GradsIdeal.nD Cert.GradsIdeal.τ).loc Cert.GradsIdeal.main_v17) = Layout.block ⟨3, ![2, 2048, 704]⟩ ⟨3, ![2, 2048, 5632]⟩ 2 8 c v6
          ∧ r.2.mem ((c.tc : Thread Cert.GradsIdeal.nD Cert.GradsIdeal.τ).loc Cert.GradsIdeal.main_v19) = Layout.block ⟨3, ![2, 2048, 704]⟩ ⟨3, ![2, 2048, 5632]⟩ 2 8 c v7
          ∧ r.2.mem ((c.tc : Thread Cert.GradsIdeal.nD Cert.GradsIdeal.τ).loc Cert.GradsIdeal.main_v21) = Layout.block ⟨3, ![2, 704, 2048]⟩ ⟨3, ![2, 5632, 2048]⟩ 1 8 c v8
          ∧ r.2.mem ((c.tc : Thread Cert.GradsIdeal.nD Cert.GradsIdeal.τ).loc Cert.GradsIdeal.main_v23) = Layout.block ⟨2, ![1, 256]⟩ ⟨2, ![1, 2048]⟩ 1 8 c v9
          ∧ r.2.mem ((c.tc : Thread Cert.GradsIdeal.nD Cert.GradsIdeal.τ).loc Cert.GradsIdeal.main_v25) = Layout.block ⟨2, ![1, 256]⟩ ⟨2, ![1, 2048]⟩ 1 8 c v10
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ θ_run (Cert.GradsReferenceIdeal.defs (F := Ideal)) (onTc (τ := Cert.GradsReferenceIdeal.τ) (Cert.GradsReferenceIdeal.main (F := Ideal))) ⟨m', fun _ => 0, g'⟩ (fun r =>
          r.2.mem (((0 : Dev Cert.GradsReferenceIdeal.nD).tc : Thread Cert.GradsReferenceIdeal.nD Cert.GradsReferenceIdeal.τ).loc Cert.GradsReferenceIdeal.main_v5) = v0
          ∧ r.2.mem (((0 : Dev Cert.GradsReferenceIdeal.nD).tc : Thread Cert.GradsReferenceIdeal.nD Cert.GradsReferenceIdeal.τ).loc Cert.GradsReferenceIdeal.main_v8) = v1
          ∧ r.2.mem (((0 : Dev Cert.GradsReferenceIdeal.nD).tc : Thread Cert.GradsReferenceIdeal.nD Cert.GradsReferenceIdeal.τ).loc Cert.GradsReferenceIdeal.main_v12) = v2
          ∧ r.2.mem (((0 : Dev Cert.GradsReferenceIdeal.nD).tc : Thread Cert.GradsReferenceIdeal.nD Cert.GradsReferenceIdeal.τ).loc Cert.GradsReferenceIdeal.main_v16) = v3
          ∧ r.2.mem (((0 : Dev Cert.GradsReferenceIdeal.nD).tc : Thread Cert.GradsReferenceIdeal.nD Cert.GradsReferenceIdeal.τ).loc Cert.GradsReferenceIdeal.main_v20) = v4
          ∧ r.2.mem (((0 : Dev Cert.GradsReferenceIdeal.nD).tc : Thread Cert.GradsReferenceIdeal.nD Cert.GradsReferenceIdeal.τ).loc Cert.GradsReferenceIdeal.main_v24) = v5
          ∧ r.2.mem (((0 : Dev Cert.GradsReferenceIdeal.nD).tc : Thread Cert.GradsReferenceIdeal.nD Cert.GradsReferenceIdeal.τ).loc Cert.GradsReferenceIdeal.main_v28) = v6
          ∧ r.2.mem (((0 : Dev Cert.GradsReferenceIdeal.nD).tc : Thread Cert.GradsReferenceIdeal.nD Cert.GradsReferenceIdeal.τ).loc Cert.GradsReferenceIdeal.main_v32) = v7
          ∧ r.2.mem (((0 : Dev Cert.GradsReferenceIdeal.nD).tc : Thread Cert.GradsReferenceIdeal.nD Cert.GradsReferenceIdeal.τ).loc Cert.GradsReferenceIdeal.main_v36) = v8
          ∧ r.2.mem (((0 : Dev Cert.GradsReferenceIdeal.nD).tc : Thread Cert.GradsReferenceIdeal.nD Cert.GradsReferenceIdeal.τ).loc Cert.GradsReferenceIdeal.main_v40) = v9
          ∧ r.2.mem (((0 : Dev Cert.GradsReferenceIdeal.nD).tc : Thread Cert.GradsReferenceIdeal.nD Cert.GradsReferenceIdeal.τ).loc Cert.GradsReferenceIdeal.main_v44) = v10
          ∧ r.2.mem (((0 : Dev Cert.GradsReferenceIdeal.nD).tc : Thread Cert.GradsReferenceIdeal.nD Cert.GradsReferenceIdeal.τ).loc Cert.GradsReferenceIdeal.main_arg0) = m' (((0 : Dev Cert.GradsReferenceIdeal.nD).tc : Thread Cert.GradsReferenceIdeal.nD Cert.GradsReferenceIdeal.τ).loc Cert.GradsReferenceIdeal.main_arg0))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v0_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v85) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v33) = v0 c
          ∧ r.2.mem ((c.tc : Thread Cert.LossHeadReferenceIdeal.nD Cert.LossHeadReferenceIdeal.τ).loc Cert.LossHeadReferenceIdeal.main_v32) = v1 c
          ∧ r.2.mem ((c.tc : Thread Cert.LossHeadReferenceIdeal.nD Cert.LossHeadReferenceIdeal.τ).loc Cert.LossHeadReferenceIdeal.main_v36) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_PoolPre_PoolPreIdeal : Prop :=
  True

def algebraic_PoolPreIdeal_PoolPreReferenceIdeal [hPoolPreIdeal : Cert.PoolPreIdeal.Facts] [hPoolPreReferenceIdeal : Cert.PoolPreReferenceIdeal.Facts] : Prop :=
  ∀ (m : (ℓ : Loc Cert.PoolPreIdeal.nD Cert.PoolPreIdeal.τ Cert.PoolPreIdeal.sig) → Buf (Elt Ideal) ℓ) (g : Dev Cert.PoolPreIdeal.nD → PrngReg)
    (m' : (ℓ : Loc Cert.PoolPreReferenceIdeal.nD Cert.PoolPreReferenceIdeal.τ Cert.PoolPreReferenceIdeal.sig) → Buf (Elt Ideal) ℓ) (g' : Dev Cert.PoolPreReferenceIdeal.nD → PrngReg), Pre_PoolPreIdeal m →
    (∀ c : Dev Cert.PoolPreIdeal.nD,
      m' ((c.tc : Thread Cert.PoolPreReferenceIdeal.nD Cert.PoolPreReferenceIdeal.τ).loc Cert.PoolPreReferenceIdeal.main_arg0) = m ((c.tc : Thread Cert.PoolPreIdeal.nD Cert.PoolPreIdeal.τ).loc Cert.PoolPreIdeal.main_arg0)
      ∧ m' ((c.tc : Thread Cert.PoolPreReferenceIdeal.nD Cert.PoolPreReferenceIdeal.τ).loc Cert.PoolPreReferenceIdeal.main_arg1) = m ((c.tc : Thread Cert.PoolPreIdeal.nD Cert.PoolPreIdeal.τ).loc Cert.PoolPreIdeal.main_arg1)) →
    ∃ (v0 : (c : Dev Cert.PoolPreIdeal.nD) → Buf (Elt Ideal) ((c.tc : Thread Cert.PoolPreIdeal.nD Cert.PoolPreIdeal.τ).loc Cert.PoolPreIdeal.main_v0)),
      θ_run (Cert.PoolPreIdeal.defs (F := Ideal)) (onTc (τ := Cert.PoolPreIdeal.τ) (Cert.PoolPreIdeal.main (F := Ideal))) ⟨m, fun _ => 0, g⟩ (fun r => ∀ c : Dev Cert.PoolPreIdeal.nD,
          r.2.mem ((c.tc : Thread Cert.PoolPreIdeal.nD Cert.PoolPreIdeal.τ).loc Cert.PoolPreIdeal.main_v0) = v0 c
          ∧ r.2.mem ((c.tc : Thread Cert.PoolPreIdeal.nD Cert.PoolPreIdeal.τ).loc Cert.PoolPreIdeal.main_arg0) = m ((c.tc : Thread Cert.PoolPreIdeal.nD Cert.PoolPreIdeal.τ).loc Cert.PoolPreIdeal.main_arg0)
          ∧ r.2.mem ((c.tc : Thread Cert.PoolPreIdeal.nD Cert.PoolPreIdeal.τ).loc Cert.PoolPreIdeal.main_arg1) = m ((c.tc : Thread Cert.PoolPreIdeal.nD Cert.PoolPreIdeal.τ).loc Cert.PoolPreIdeal.main_arg1))
      ∧ θ_run (Cert.PoolPreReferenceIdeal.defs (F := Ideal)) (onTc (τ := Cert.PoolPreReferenceIdeal.τ) (Cert.PoolPreReferenceIdeal.main (F := Ideal))) ⟨m', fun _ => 0, g'⟩ (fun r => ∀ c : Dev Cert.PoolPreReferenceIdeal.nD,
          r.2.mem ((c.tc : Thread Cert.PoolPreReferenceIdeal.nD Cert.PoolPreReferenceIdeal.τ).loc Cert.PoolPreReferenceIdeal.main_v75) = v0 c
          ∧ r.2.mem ((c.tc : Thread Cert.PoolPreReferenceIdeal.nD Cert.PoolPreReferenceIdeal.τ).loc Cert.PoolPreReferenceIdeal.main_arg0) = m' ((c.tc : Thread Cert.PoolPreReferenceIdeal.nD Cert.PoolPreReferenceIdeal.τ).loc Cert.PoolPreReferenceIdeal.main_arg0)
          ∧ r.2.mem ((c.tc : Thread Cert.PoolPreReferenceIdeal.nD Cert.PoolPreReferenceIdeal.τ).loc Cert.PoolPreReferenceIdeal.main_arg1) = m' ((c.tc : Thread Cert.PoolPreReferenceIdeal.nD Cert.PoolPreReferenceIdeal.τ).loc Cert.PoolPreReferenceIdeal.main_arg1))

def preserves_PoolMix_PoolMixIdeal : Prop :=
  True

def algebraic_PoolMixIdeal_PoolMixReferenceIdeal [hPoolMixIdeal : Cert.PoolMixIdeal.Facts] [hPoolMixReferenceIdeal : Cert.PoolMixReferenceIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixReferenceIdeal.nD Cert.PoolMixReferenceIdeal.τ Cert.PoolMixReferenceIdeal.sig) → Buf (Elt Ideal) ℓ) (g' : Dev Cert.PoolMixReferenceIdeal.nD → PrngReg), Pre_PoolMixIdeal m →
    (∀ c : Dev Cert.PoolMixIdeal.nD,
      m' ((c.tc : Thread Cert.PoolMixReferenceIdeal.nD Cert.PoolMixReferenceIdeal.τ).loc Cert.PoolMixReferenceIdeal.main_arg0) = m ((c.tc : Thread Cert.PoolMixIdeal.nD Cert.PoolMixIdeal.τ).loc Cert.PoolMixIdeal.main_arg0)
      ∧ m' ((c.tc : Thread Cert.PoolMixReferenceIdeal.nD Cert.PoolMixReferenceIdeal.τ).loc Cert.PoolMixReferenceIdeal.main_arg1) = m ((c.tc : Thread Cert.PoolMixIdeal.nD Cert.PoolMixIdeal.τ).loc Cert.PoolMixIdeal.main_arg1)
      ∧ m' ((c.tc : Thread Cert.PoolMixReferenceIdeal.nD Cert.PoolMixReferenceIdeal.τ).loc Cert.PoolMixReferenceIdeal.main_arg2) = m ((c.tc : Thread Cert.PoolMixIdeal.nD Cert.PoolMixIdeal.τ).loc Cert.PoolMixIdeal.main_arg2)
      ∧ m' ((c.tc : Thread Cert.PoolMixReferenceIdeal.nD Cert.PoolMixReferenceIdeal.τ).loc Cert.PoolMixReferenceIdeal.main_arg3) = m ((c.tc : Thread Cert.PoolMixIdeal.nD Cert.PoolMixIdeal.τ).loc Cert.PoolMixIdeal.main_arg3)) →
    ∃ (v0 : (c : Dev Cert.PoolMixIdeal.nD) → Buf (Elt Ideal) ((c.tc : Thread Cert.PoolMixIdeal.nD Cert.PoolMixIdeal.τ).loc Cert.PoolMixIdeal.main_v0)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v0) = v0 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
          ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
          ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3))
      ∧ θ_run (Cert.PoolMixReferenceIdeal.defs (F := Ideal)) (onTc (τ := Cert.PoolMixReferenceIdeal.τ) (Cert.PoolMixReferenceIdeal.main (F := Ideal))) ⟨m', fun _ => 0, g'⟩ (fun r => ∀ c : Dev Cert.PoolMixReferenceIdeal.nD,
          r.2.mem ((c.tc : Thread Cert.PoolMixReferenceIdeal.nD Cert.PoolMixReferenceIdeal.τ).loc Cert.PoolMixReferenceIdeal.main_v27) = v0 c
          ∧ r.2.mem ((c.tc : Thread Cert.PoolMixReferenceIdeal.nD Cert.PoolMixReferenceIdeal.τ).loc Cert.PoolMixReferenceIdeal.main_arg0) = m' ((c.tc : Thread Cert.PoolMixReferenceIdeal.nD Cert.PoolMixReferenceIdeal.τ).loc Cert.PoolMixReferenceIdeal.main_arg0)
          ∧ r.2.mem ((c.tc : Thread Cert.PoolMixReferenceIdeal.nD Cert.PoolMixReferenceIdeal.τ).loc Cert.PoolMixReferenceIdeal.main_arg1) = m' ((c.tc : Thread Cert.PoolMixReferenceIdeal.nD Cert.PoolMixReferenceIdeal.τ).loc Cert.PoolMixReferenceIdeal.main_arg1)
          ∧ r.2.mem ((c.tc : Thread Cert.PoolMixReferenceIdeal.nD Cert.PoolMixReferenceIdeal.τ).loc Cert.PoolMixReferenceIdeal.main_arg2) = m' ((c.tc : Thread Cert.PoolMixReferenceIdeal.nD Cert.PoolMixReferenceIdeal.τ).loc Cert.PoolMixReferenceIdeal.main_arg2)
          ∧ r.2.mem ((c.tc : Thread Cert.PoolMixReferenceIdeal.nD Cert.PoolMixReferenceIdeal.τ).loc Cert.PoolMixReferenceIdeal.main_arg3) = m' ((c.tc : Thread Cert.PoolMixReferenceIdeal.nD Cert.PoolMixReferenceIdeal.τ).loc Cert.PoolMixReferenceIdeal.main_arg3))

def preserves_PoolMixBwd_PoolMixBwdIdeal : Prop :=
  True

def algebraic_PoolMixBwdIdeal_PoolMixBwdReferenceIdeal [hPoolMixBwdIdeal : Cert.PoolMixBwdIdeal.Facts] [hPoolMixBwdReferenceIdeal : Cert.PoolMixBwdReferenceIdeal.Facts] : Prop :=
  ∀ (m : (ℓ : Loc Cert.PoolMixBwdIdeal.nD Cert.PoolMixBwdIdeal.τ Cert.PoolMixBwdIdeal.sig) → Buf (Elt Ideal) ℓ) (g : Dev Cert.PoolMixBwdIdeal.nD → PrngReg)
    (m' : (ℓ : Loc Cert.PoolMixBwdReferenceIdeal.nD Cert.PoolMixBwdReferenceIdeal.τ Cert.PoolMixBwdReferenceIdeal.sig) → Buf (Elt Ideal) ℓ) (g' : Dev Cert.PoolMixBwdReferenceIdeal.nD → PrngReg), Pre_PoolMixBwdIdeal m →
    (∀ c : Dev Cert.PoolMixBwdIdeal.nD,
      m' ((c.tc : Thread Cert.PoolMixBwdReferenceIdeal.nD Cert.PoolMixBwdReferenceIdeal.τ).loc Cert.PoolMixBwdReferenceIdeal.main_arg0) = m ((c.tc : Thread Cert.PoolMixBwdIdeal.nD Cert.PoolMixBwdIdeal.τ).loc Cert.PoolMixBwdIdeal.main_arg0)
      ∧ m' ((c.tc : Thread Cert.PoolMixBwdReferenceIdeal.nD Cert.PoolMixBwdReferenceIdeal.τ).loc Cert.PoolMixBwdReferenceIdeal.main_arg1) = m ((c.tc : Thread Cert.PoolMixBwdIdeal.nD Cert.PoolMixBwdIdeal.τ).loc Cert.PoolMixBwdIdeal.main_arg1)
      ∧ m' ((c.tc : Thread Cert.PoolMixBwdReferenceIdeal.nD Cert.PoolMixBwdReferenceIdeal.τ).loc Cert.PoolMixBwdReferenceIdeal.main_arg2) = m ((c.tc : Thread Cert.PoolMixBwdIdeal.nD Cert.PoolMixBwdIdeal.τ).loc Cert.PoolMixBwdIdeal.main_arg2)
      ∧ m' ((c.tc : Thread Cert.PoolMixBwdReferenceIdeal.nD Cert.PoolMixBwdReferenceIdeal.τ).loc Cert.PoolMixBwdReferenceIdeal.main_arg3) = m ((c.tc : Thread Cert.PoolMixBwdIdeal.nD Cert.PoolMixBwdIdeal.τ).loc Cert.PoolMixBwdIdeal.main_arg3)) →
    ∃ (v0 : (c : Dev Cert.PoolMixBwdIdeal.nD) → Buf (Elt Ideal) ((c.tc : Thread Cert.PoolMixBwdIdeal.nD Cert.PoolMixBwdIdeal.τ).loc Cert.PoolMixBwdIdeal.main_v0_0)) (v1 : (c : Dev Cert.PoolMixBwdIdeal.nD) → Buf (Elt Ideal) ((c.tc : Thread Cert.PoolMixBwdIdeal.nD Cert.PoolMixBwdIdeal.τ).loc Cert.PoolMixBwdIdeal.main_v0_1)) (v2 : (c : Dev Cert.PoolMixBwdIdeal.nD) → Buf (Elt Ideal) ((c.tc : Thread Cert.PoolMixBwdIdeal.nD Cert.PoolMixBwdIdeal.τ).loc Cert.PoolMixBwdIdeal.main_v0_2)),
      θ_run (Cert.PoolMixBwdIdeal.defs (F := Ideal)) (onTc (τ := Cert.PoolMixBwdIdeal.τ) (Cert.PoolMixBwdIdeal.main (F := Ideal))) ⟨m, fun _ => 0, g⟩ (fun r => ∀ c : Dev Cert.PoolMixBwdIdeal.nD,
          r.2.mem ((c.tc : Thread Cert.PoolMixBwdIdeal.nD Cert.PoolMixBwdIdeal.τ).loc Cert.PoolMixBwdIdeal.main_v0_0) = v0 c
          ∧ r.2.mem ((c.tc : Thread Cert.PoolMixBwdIdeal.nD Cert.PoolMixBwdIdeal.τ).loc Cert.PoolMixBwdIdeal.main_v0_1) = v1 c
          ∧ r.2.mem ((c.tc : Thread Cert.PoolMixBwdIdeal.nD Cert.PoolMixBwdIdeal.τ).loc Cert.PoolMixBwdIdeal.main_v0_2) = v2 c
          ∧ r.2.mem ((c.tc : Thread Cert.PoolMixBwdIdeal.nD Cert.PoolMixBwdIdeal.τ).loc Cert.PoolMixBwdIdeal.main_arg0) = m ((c.tc : Thread Cert.PoolMixBwdIdeal.nD Cert.PoolMixBwdIdeal.τ).loc Cert.PoolMixBwdIdeal.main_arg0)
          ∧ r.2.mem ((c.tc : Thread Cert.PoolMixBwdIdeal.nD Cert.PoolMixBwdIdeal.τ).loc Cert.PoolMixBwdIdeal.main_arg1) = m ((c.tc : Thread Cert.PoolMixBwdIdeal.nD Cert.PoolMixBwdIdeal.τ).loc Cert.PoolMixBwdIdeal.main_arg1)
          ∧ r.2.mem ((c.tc : Thread Cert.PoolMixBwdIdeal.nD Cert.PoolMixBwdIdeal.τ).loc Cert.PoolMixBwdIdeal.main_arg2) = m ((c.tc : Thread Cert.PoolMixBwdIdeal.nD Cert.PoolMixBwdIdeal.τ).loc Cert.PoolMixBwdIdeal.main_arg2)
          ∧ r.2.mem ((c.tc : Thread Cert.PoolMixBwdIdeal.nD Cert.PoolMixBwdIdeal.τ).loc Cert.PoolMixBwdIdeal.main_arg3) = m ((c.tc : Thread Cert.PoolMixBwdIdeal.nD Cert.PoolMixBwdIdeal.τ).loc Cert.PoolMixBwdIdeal.main_arg3))
      ∧ θ_run (Cert.PoolMixBwdReferenceIdeal.defs (F := Ideal)) (onTc (τ := Cert.PoolMixBwdReferenceIdeal.τ) (Cert.PoolMixBwdReferenceIdeal.main (F := Ideal))) ⟨m', fun _ => 0, g'⟩ (fun r => ∀ c : Dev Cert.PoolMixBwdReferenceIdeal.nD,
          r.2.mem ((c.tc : Thread Cert.PoolMixBwdReferenceIdeal.nD Cert.PoolMixBwdReferenceIdeal.τ).loc Cert.PoolMixBwdReferenceIdeal.main_v68) = v0 c
          ∧ r.2.mem ((c.tc : Thread Cert.PoolMixBwdReferenceIdeal.nD Cert.PoolMixBwdReferenceIdeal.τ).loc Cert.PoolMixBwdReferenceIdeal.main_v73) = v1 c
          ∧ r.2.mem ((c.tc : Thread Cert.PoolMixBwdReferenceIdeal.nD Cert.PoolMixBwdReferenceIdeal.τ).loc Cert.PoolMixBwdReferenceIdeal.main_v74) = v2 c
          ∧ r.2.mem ((c.tc : Thread Cert.PoolMixBwdReferenceIdeal.nD Cert.PoolMixBwdReferenceIdeal.τ).loc Cert.PoolMixBwdReferenceIdeal.main_arg0) = m' ((c.tc : Thread Cert.PoolMixBwdReferenceIdeal.nD Cert.PoolMixBwdReferenceIdeal.τ).loc Cert.PoolMixBwdReferenceIdeal.main_arg0)
          ∧ r.2.mem ((c.tc : Thread Cert.PoolMixBwdReferenceIdeal.nD Cert.PoolMixBwdReferenceIdeal.τ).loc Cert.PoolMixBwdReferenceIdeal.main_arg1) = m' ((c.tc : Thread Cert.PoolMixBwdReferenceIdeal.nD Cert.PoolMixBwdReferenceIdeal.τ).loc Cert.PoolMixBwdReferenceIdeal.main_arg1)
          ∧ r.2.mem ((c.tc : Thread Cert.PoolMixBwdReferenceIdeal.nD Cert.PoolMixBwdReferenceIdeal.τ).loc Cert.PoolMixBwdReferenceIdeal.main_arg2) = m' ((c.tc : Thread Cert.PoolMixBwdReferenceIdeal.nD Cert.PoolMixBwdReferenceIdeal.τ).loc Cert.PoolMixBwdReferenceIdeal.main_arg2)
          ∧ r.2.mem ((c.tc : Thread Cert.PoolMixBwdReferenceIdeal.nD Cert.PoolMixBwdReferenceIdeal.τ).loc Cert.PoolMixBwdReferenceIdeal.main_arg3) = m' ((c.tc : Thread Cert.PoolMixBwdReferenceIdeal.nD Cert.PoolMixBwdReferenceIdeal.τ).loc Cert.PoolMixBwdReferenceIdeal.main_arg3))

def preserves_FfnNorm_FfnNormIdeal : Prop :=
  True

def algebraic_FfnNormIdeal_FfnNormReferenceIdeal [hFfnNormIdeal : Cert.FfnNormIdeal.Facts] [hFfnNormReferenceIdeal : Cert.FfnNormReferenceIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormReferenceIdeal.nD Cert.FfnNormReferenceIdeal.τ Cert.FfnNormReferenceIdeal.sig) → Buf (Elt Ideal) ℓ) (g' : Dev Cert.FfnNormReferenceIdeal.nD → PrngReg), Pre_FfnNormIdeal m →
    (∀ c : Dev Cert.FfnNormIdeal.nD,
      m' ((c.tc : Thread Cert.FfnNormReferenceIdeal.nD Cert.FfnNormReferenceIdeal.τ).loc Cert.FfnNormReferenceIdeal.main_arg0) = m ((c.tc : Thread Cert.FfnNormIdeal.nD Cert.FfnNormIdeal.τ).loc Cert.FfnNormIdeal.main_arg0)
      ∧ m' ((c.tc : Thread Cert.FfnNormReferenceIdeal.nD Cert.FfnNormReferenceIdeal.τ).loc Cert.FfnNormReferenceIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormReferenceIdeal.defs (F := Ideal)) (onTc (τ := Cert.FfnNormReferenceIdeal.τ) (Cert.FfnNormReferenceIdeal.main (F := Ideal))) ⟨m', fun _ => 0, g'⟩ (fun r => ∀ c : Dev Cert.FfnNormReferenceIdeal.nD,
          r.2.mem ((c.tc : Thread Cert.FfnNormReferenceIdeal.nD Cert.FfnNormReferenceIdeal.τ).loc Cert.FfnNormReferenceIdeal.main_v12) = v0 c
          ∧ r.2.mem ((c.tc : Thread Cert.FfnNormReferenceIdeal.nD Cert.FfnNormReferenceIdeal.τ).loc Cert.FfnNormReferenceIdeal.main_arg0) = m' ((c.tc : Thread Cert.FfnNormReferenceIdeal.nD Cert.FfnNormReferenceIdeal.τ).loc Cert.FfnNormReferenceIdeal.main_arg0)
          ∧ r.2.mem ((c.tc : Thread Cert.FfnNormReferenceIdeal.nD Cert.FfnNormReferenceIdeal.τ).loc Cert.FfnNormReferenceIdeal.main_arg1) = m' ((c.tc : Thread Cert.FfnNormReferenceIdeal.nD Cert.FfnNormReferenceIdeal.τ).loc Cert.FfnNormReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v2) = v0 c
          ∧ r.2.mem ((c.tc : Thread Cert.FfnUpReferenceIdeal.nD Cert.FfnUpReferenceIdeal.τ).loc Cert.FfnUpReferenceIdeal.main_v5) = v1 c
          ∧ r.2.mem ((c.tc : Thread Cert.FfnUpReferenceIdeal.nD Cert.FfnUpReferenceIdeal.τ).loc Cert.FfnUpReferenceIdeal.main_v14) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_FfnDact_FfnDactIdeal : Prop :=
  True

def algebraic_FfnDactIdeal_FfnDactReferenceIdeal [hFfnDactIdeal : Cert.FfnDactIdeal.Facts] [hFfnDactReferenceIdeal : Cert.FfnDactReferenceIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactReferenceIdeal.nD Cert.FfnDactReferenceIdeal.τ Cert.FfnDactReferenceIdeal.sig) → Buf (Elt Ideal) ℓ) (g' : Dev Cert.FfnDactReferenceIdeal.nD → PrngReg), Pre_FfnDactIdeal m →
    (∀ c : Dev Cert.FfnDactIdeal.nD,
      m' ((c.tc : Thread Cert.FfnDactReferenceIdeal.nD Cert.FfnDactReferenceIdeal.τ).loc Cert.FfnDactReferenceIdeal.main_arg0) = m ((c.tc : Thread Cert.FfnDactIdeal.nD Cert.FfnDactIdeal.τ).loc Cert.FfnDactIdeal.main_arg0)
      ∧ m' ((c.tc : Thread Cert.FfnDactReferenceIdeal.nD Cert.FfnDactReferenceIdeal.τ).loc Cert.FfnDactReferenceIdeal.main_arg1) = m ((c.tc : Thread Cert.FfnDactIdeal.nD Cert.FfnDactIdeal.τ).loc Cert.FfnDactIdeal.main_arg1)
      ∧ m' ((c.tc : Thread Cert.FfnDactReferenceIdeal.nD Cert.FfnDactReferenceIdeal.τ).loc Cert.FfnDactReferenceIdeal.main_arg2) = m ((c.tc : Thread Cert.FfnDactIdeal.nD Cert.FfnDactIdeal.τ).loc Cert.FfnDactIdeal.main_arg2)
      ∧ m' ((c.tc : Thread Cert.FfnDactReferenceIdeal.nD Cert.FfnDactReferenceIdeal.τ).loc Cert.FfnDactReferenceIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v0_0)) (v1 : (c : Dev Cert.FfnDactIdeal.nD) → Buf (Elt Ideal) ((c.tc : Thread Cert.FfnDactIdeal.nD Cert.FfnDactIdeal.τ).loc Cert.FfnDactIdeal.main_v0_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0_0) = v0 c
          ∧ r.2.mem ((c.tc : Thread Cert.FfnDactIdeal.nD Cert.FfnDactIdeal.τ).loc Cert.FfnDactIdeal.main_v0_1) = v1 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.FfnDactReferenceIdeal.defs (F := Ideal)) (onTc (τ := Cert.FfnDactReferenceIdeal.τ) (Cert.FfnDactReferenceIdeal.main (F := Ideal))) ⟨m', fun _ => 0, g'⟩ (fun r => ∀ c : Dev Cert.FfnDactReferenceIdeal.nD,
          r.2.mem ((c.tc : Thread Cert.FfnDactReferenceIdeal.nD Cert.FfnDactReferenceIdeal.τ).loc Cert.FfnDactReferenceIdeal.main_v17) = v0 c
          ∧ r.2.mem ((c.tc : Thread Cert.FfnDactReferenceIdeal.nD Cert.FfnDactReferenceIdeal.τ).loc Cert.FfnDactReferenceIdeal.main_v20) = v1 c
          ∧ r.2.mem ((c.tc : Thread Cert.FfnDactReferenceIdeal.nD Cert.FfnDactReferenceIdeal.τ).loc Cert.FfnDactReferenceIdeal.main_arg0) = m' ((c.tc : Thread Cert.FfnDactReferenceIdeal.nD Cert.FfnDactReferenceIdeal.τ).loc Cert.FfnDactReferenceIdeal.main_arg0)
          ∧ r.2.mem ((c.tc : Thread Cert.FfnDactReferenceIdeal.nD Cert.FfnDactReferenceIdeal.τ).loc Cert.FfnDactReferenceIdeal.main_arg1) = m' ((c.tc : Thread Cert.FfnDactReferenceIdeal.nD Cert.FfnDactReferenceIdeal.τ).loc Cert.FfnDactReferenceIdeal.main_arg1)
          ∧ r.2.mem ((c.tc : Thread Cert.FfnDactReferenceIdeal.nD Cert.FfnDactReferenceIdeal.τ).loc Cert.FfnDactReferenceIdeal.main_arg2) = m' ((c.tc : Thread Cert.FfnDactReferenceIdeal.nD Cert.FfnDactReferenceIdeal.τ).loc Cert.FfnDactReferenceIdeal.main_arg2)
          ∧ r.2.mem ((c.tc : Thread Cert.FfnDactReferenceIdeal.nD Cert.FfnDactReferenceIdeal.τ).loc Cert.FfnDactReferenceIdeal.main_arg3) = m' ((c.tc : Thread Cert.FfnDactReferenceIdeal.nD Cert.FfnDactReferenceIdeal.τ).loc Cert.FfnDactReferenceIdeal.main_arg3))

def preserves_FfnDwd_FfnDwdIdeal : Prop :=
  True

def algebraic_FfnDwdIdeal_FfnDwdReferenceIdeal [hFfnDwdIdeal : Cert.FfnDwdIdeal.Facts] [hFfnDwdReferenceIdeal : Cert.FfnDwdReferenceIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdReferenceIdeal.nD Cert.FfnDwdReferenceIdeal.τ Cert.FfnDwdReferenceIdeal.sig) → Buf (Elt Ideal) ℓ) (g' : Dev Cert.FfnDwdReferenceIdeal.nD → PrngReg), Pre_FfnDwdIdeal m →
    (∀ c : Dev Cert.FfnDwdIdeal.nD,
      m' ((c.tc : Thread Cert.FfnDwdReferenceIdeal.nD Cert.FfnDwdReferenceIdeal.τ).loc Cert.FfnDwdReferenceIdeal.main_arg0) = m ((c.tc : Thread Cert.FfnDwdIdeal.nD Cert.FfnDwdIdeal.τ).loc Cert.FfnDwdIdeal.main_arg0)
      ∧ m' ((c.tc : Thread Cert.FfnDwdReferenceIdeal.nD Cert.FfnDwdReferenceIdeal.τ).loc Cert.FfnDwdReferenceIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdReferenceIdeal.defs (F := Ideal)) (onTc (τ := Cert.FfnDwdReferenceIdeal.τ) (Cert.FfnDwdReferenceIdeal.main (F := Ideal))) ⟨m', fun _ => 0, g'⟩ (fun r => ∀ c : Dev Cert.FfnDwdReferenceIdeal.nD,
          r.2.mem ((c.tc : Thread Cert.FfnDwdReferenceIdeal.nD Cert.FfnDwdReferenceIdeal.τ).loc Cert.FfnDwdReferenceIdeal.main_v2) = v0 c
          ∧ r.2.mem ((c.tc : Thread Cert.FfnDwdReferenceIdeal.nD Cert.FfnDwdReferenceIdeal.τ).loc Cert.FfnDwdReferenceIdeal.main_arg0) = m' ((c.tc : Thread Cert.FfnDwdReferenceIdeal.nD Cert.FfnDwdReferenceIdeal.τ).loc Cert.FfnDwdReferenceIdeal.main_arg0)
          ∧ r.2.mem ((c.tc : Thread Cert.FfnDwdReferenceIdeal.nD Cert.FfnDwdReferenceIdeal.τ).loc Cert.FfnDwdReferenceIdeal.main_arg1) = m' ((c.tc : Thread Cert.FfnDwdReferenceIdeal.nD Cert.FfnDwdReferenceIdeal.τ).loc Cert.FfnDwdReferenceIdeal.main_arg1))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)
      ∧ m' ((c.tc : Thread Cert.FfnDhReferenceIdeal.nD Cert.FfnDhReferenceIdeal.τ).loc Cert.FfnDhReferenceIdeal.main_arg2) = m ((c.tc : Thread Cert.FfnDhIdeal.nD Cert.FfnDhIdeal.τ).loc Cert.FfnDhIdeal.main_arg2)
      ∧ m' ((c.tc : Thread Cert.FfnDhReferenceIdeal.nD Cert.FfnDhReferenceIdeal.τ).loc Cert.FfnDhReferenceIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v8) = v0 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3))

def preserves_FfnDwg_FfnDwgIdeal : Prop :=
  True

def algebraic_FfnDwgIdeal_FfnDwgReferenceIdeal [hFfnDwgIdeal : Cert.FfnDwgIdeal.Facts] [hFfnDwgReferenceIdeal : Cert.FfnDwgReferenceIdeal.Facts] : Prop :=
  ∀ (m : (ℓ : Loc Cert.FfnDwgIdeal.nD Cert.FfnDwgIdeal.τ Cert.FfnDwgIdeal.sig) → Buf (Elt Ideal) ℓ) (g : Dev Cert.FfnDwgIdeal.nD → PrngReg)
    (m' : (ℓ : Loc Cert.FfnDwgReferenceIdeal.nD Cert.FfnDwgReferenceIdeal.τ Cert.FfnDwgReferenceIdeal.sig) → Buf (Elt Ideal) ℓ) (g' : Dev Cert.FfnDwgReferenceIdeal.nD → PrngReg), Pre_FfnDwgIdeal m →
    (∀ c : Dev Cert.FfnDwgIdeal.nD,
      m' ((c.tc : Thread Cert.FfnDwgReferenceIdeal.nD Cert.FfnDwgReferenceIdeal.τ).loc Cert.FfnDwgReferenceIdeal.main_arg0) = m ((c.tc : Thread Cert.FfnDwgIdeal.nD Cert.FfnDwgIdeal.τ).loc Cert.FfnDwgIdeal.main_arg0)
      ∧ m' ((c.tc : Thread Cert.FfnDwgReferenceIdeal.nD Cert.FfnDwgReferenceIdeal.τ).loc Cert.FfnDwgReferenceIdeal.main_arg1) = m ((c.tc : Thread Cert.FfnDwgIdeal.nD Cert.FfnDwgIdeal.τ).loc Cert.FfnDwgIdeal.main_arg1)) →
    ∃ (v0 : (c : Dev Cert.FfnDwgIdeal.nD) → Buf (Elt Ideal) ((c.tc : Thread Cert.FfnDwgIdeal.nD Cert.FfnDwgIdeal.τ).loc Cert.FfnDwgIdeal.main_v0)),
      θ_run (Cert.FfnDwgIdeal.defs (F := Ideal)) (onTc (τ := Cert.FfnDwgIdeal.τ) (Cert.FfnDwgIdeal.main (F := Ideal))) ⟨m, fun _ => 0, g⟩ (fun r => ∀ c : Dev Cert.FfnDwgIdeal.nD,
          r.2.mem ((c.tc : Thread Cert.FfnDwgIdeal.nD Cert.FfnDwgIdeal.τ).loc Cert.FfnDwgIdeal.main_v0) = v0 c
          ∧ r.2.mem ((c.tc : Thread Cert.FfnDwgIdeal.nD Cert.FfnDwgIdeal.τ).loc Cert.FfnDwgIdeal.main_arg0) = m ((c.tc : Thread Cert.FfnDwgIdeal.nD Cert.FfnDwgIdeal.τ).loc Cert.FfnDwgIdeal.main_arg0)
          ∧ r.2.mem ((c.tc : Thread Cert.FfnDwgIdeal.nD Cert.FfnDwgIdeal.τ).loc Cert.FfnDwgIdeal.main_arg1) = m ((c.tc : Thread Cert.FfnDwgIdeal.nD Cert.FfnDwgIdeal.τ).loc Cert.FfnDwgIdeal.main_arg1))
      ∧ θ_run (Cert.FfnDwgReferenceIdeal.defs (F := Ideal)) (onTc (τ := Cert.FfnDwgReferenceIdeal.τ) (Cert.FfnDwgReferenceIdeal.main (F := Ideal))) ⟨m', fun _ => 0, g'⟩ (fun r => ∀ c : Dev Cert.FfnDwgReferenceIdeal.nD,
          r.2.mem ((c.tc : Thread Cert.FfnDwgReferenceIdeal.nD Cert.FfnDwgReferenceIdeal.τ).loc Cert.FfnDwgReferenceIdeal.main_v3) = v0 c
          ∧ r.2.mem ((c.tc : Thread Cert.FfnDwgReferenceIdeal.nD Cert.FfnDwgReferenceIdeal.τ).loc Cert.FfnDwgReferenceIdeal.main_arg0) = m' ((c.tc : Thread Cert.FfnDwgReferenceIdeal.nD Cert.FfnDwgReferenceIdeal.τ).loc Cert.FfnDwgReferenceIdeal.main_arg0)
          ∧ r.2.mem ((c.tc : Thread Cert.FfnDwgReferenceIdeal.nD Cert.FfnDwgReferenceIdeal.τ).loc Cert.FfnDwgReferenceIdeal.main_arg1) = m' ((c.tc : Thread Cert.FfnDwgReferenceIdeal.nD Cert.FfnDwgReferenceIdeal.τ).loc Cert.FfnDwgReferenceIdeal.main_arg1))

def preserves_FfnNormBwd_FfnNormBwdIdeal : Prop :=
  True

def algebraic_FfnNormBwdIdeal_FfnNormBwdReferenceIdeal [hFfnNormBwdIdeal : Cert.FfnNormBwdIdeal.Facts] [hFfnNormBwdReferenceIdeal : Cert.FfnNormBwdReferenceIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg)
    (m' : (ℓ : Loc Cert.FfnNormBwdReferenceIdeal.nD Cert.FfnNormBwdReferenceIdeal.τ Cert.FfnNormBwdReferenceIdeal.sig) → Buf (Elt Ideal) ℓ) (g' : Dev Cert.FfnNormBwdReferenceIdeal.nD → PrngReg), Pre_FfnNormBwdIdeal m →
    (∀ c : Dev Cert.FfnNormBwdIdeal.nD,
      m' ((c.tc : Thread Cert.FfnNormBwdReferenceIdeal.nD Cert.FfnNormBwdReferenceIdeal.τ).loc Cert.FfnNormBwdReferenceIdeal.main_arg0) = m ((c.tc : Thread Cert.FfnNormBwdIdeal.nD Cert.FfnNormBwdIdeal.τ).loc Cert.FfnNormBwdIdeal.main_arg0)
      ∧ m' ((c.tc : Thread Cert.FfnNormBwdReferenceIdeal.nD Cert.FfnNormBwdReferenceIdeal.τ).loc Cert.FfnNormBwdReferenceIdeal.main_arg1) = m ((c.tc : Thread Cert.FfnNormBwdIdeal.nD Cert.FfnNormBwdIdeal.τ).loc Cert.FfnNormBwdIdeal.main_arg1)
      ∧ m' ((c.tc : Thread Cert.FfnNormBwdReferenceIdeal.nD Cert.FfnNormBwdReferenceIdeal.τ).loc Cert.FfnNormBwdReferenceIdeal.main_arg2) = m ((c.tc : Thread Cert.FfnNormBwdIdeal.nD Cert.FfnNormBwdIdeal.τ).loc Cert.FfnNormBwdIdeal.main_arg2)
      ∧ m' ((c.tc : Thread Cert.FfnNormBwdReferenceIdeal.nD Cert.FfnNormBwdReferenceIdeal.τ).loc Cert.FfnNormBwdReferenceIdeal.main_arg3) = m ((c.tc : Thread Cert.FfnNormBwdIdeal.nD Cert.FfnNormBwdIdeal.τ).loc Cert.FfnNormBwdIdeal.main_arg3)) →
    ∃ (v0 : (c : Dev Cert.FfnNormBwdIdeal.nD) → Buf (Elt Ideal) ((c.tc : Thread Cert.FfnNormBwdIdeal.nD Cert.FfnNormBwdIdeal.τ).loc Cert.FfnNormBwdIdeal.main_v0_0)) (v1 : (c : Dev Cert.FfnNormBwdIdeal.nD) → Buf (Elt Ideal) ((c.tc : Thread Cert.FfnNormBwdIdeal.nD Cert.FfnNormBwdIdeal.τ).loc Cert.FfnNormBwdIdeal.main_v0_1)),
      θ_run (Cert.FfnNormBwdIdeal.defs (F := Ideal)) (onTc (τ := Cert.FfnNormBwdIdeal.τ) (Cert.FfnNormBwdIdeal.main (F := Ideal))) ⟨m, fun _ => 0, g⟩ (fun r => ∀ c : Dev Cert.FfnNormBwdIdeal.nD,
          r.2.mem ((c.tc : Thread Cert.FfnNormBwdIdeal.nD Cert.FfnNormBwdIdeal.τ).loc Cert.FfnNormBwdIdeal.main_v0_0) = v0 c
          ∧ r.2.mem ((c.tc : Thread Cert.FfnNormBwdIdeal.nD Cert.FfnNormBwdIdeal.τ).loc Cert.FfnNormBwdIdeal.main_v0_1) = v1 c
          ∧ r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
          ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
          ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
          ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3))
      ∧ θ_run (Cert.FfnNormBwdReferenceIdeal.defs (F := Ideal)) (onTc (τ := Cert.FfnNormBwdReferenceIdeal.τ) (Cert.FfnNormBwdReferenceIdeal.main (F := Ideal))) ⟨m', fun _ => 0, g'⟩ (fun r => ∀ c : Dev Cert.FfnNormBwdReferenceIdeal.nD,
          r.2.mem ((c.tc : Thread Cert.FfnNormBwdReferenceIdeal.nD Cert.FfnNormBwdReferenceIdeal.τ).loc Cert.FfnNormBwdReferenceIdeal.main_v22) = v0 c
          ∧ r.2.mem ((c.tc : Thread Cert.FfnNormBwdReferenceIdeal.nD Cert.FfnNormBwdReferenceIdeal.τ).loc Cert.FfnNormBwdReferenceIdeal.main_v25) = v1 c
          ∧ r.2.mem ((c.tc : Thread Cert.FfnNormBwdReferenceIdeal.nD Cert.FfnNormBwdReferenceIdeal.τ).loc Cert.FfnNormBwdReferenceIdeal.main_arg0) = m' ((c.tc : Thread Cert.FfnNormBwdReferenceIdeal.nD Cert.FfnNormBwdReferenceIdeal.τ).loc Cert.FfnNormBwdReferenceIdeal.main_arg0)
          ∧ r.2.mem ((c.tc : Thread Cert.FfnNormBwdReferenceIdeal.nD Cert.FfnNormBwdReferenceIdeal.τ).loc Cert.FfnNormBwdReferenceIdeal.main_arg1) = m' ((c.tc : Thread Cert.FfnNormBwdReferenceIdeal.nD Cert.FfnNormBwdReferenceIdeal.τ).loc Cert.FfnNormBwdReferenceIdeal.main_arg1)
          ∧ r.2.mem ((c.tc : Thread Cert.FfnNormBwdReferenceIdeal.nD Cert.FfnNormBwdReferenceIdeal.τ).loc Cert.FfnNormBwdReferenceIdeal.main_arg2) = m' ((c.tc : Thread Cert.FfnNormBwdReferenceIdeal.nD Cert.FfnNormBwdReferenceIdeal.τ).loc Cert.FfnNormBwdReferenceIdeal.main_arg2)
          ∧ r.2.mem ((c.tc : Thread Cert.FfnNormBwdReferenceIdeal.nD Cert.FfnNormBwdReferenceIdeal.τ).loc Cert.FfnNormBwdReferenceIdeal.main_arg3) = m' ((c.tc : Thread Cert.FfnNormBwdReferenceIdeal.nD Cert.FfnNormBwdReferenceIdeal.τ).loc Cert.FfnNormBwdReferenceIdeal.main_arg3))

def preserves_AttnDelta_AttnDeltaIdeal : Prop :=
  True

def algebraic_AttnDeltaIdeal_AttnDeltaReferenceIdeal [hAttnDeltaIdeal : Cert.AttnDeltaIdeal.Facts] [hAttnDeltaReferenceIdeal : Cert.AttnDeltaReferenceIdeal.Facts] : Prop :=
  ∀ (m : (ℓ : Loc Cert.AttnDeltaIdeal.nD Cert.AttnDeltaIdeal.τ Cert.AttnDeltaIdeal.sig) → Buf (Elt Ideal) ℓ) (g : Dev Cert.AttnDeltaIdeal.nD → PrngReg)
    (m' : (ℓ : Loc Cert.AttnDeltaReferenceIdeal.nD Cert.AttnDeltaReferenceIdeal.τ Cert.AttnDeltaReferenceIdeal.sig) → Buf (Elt Ideal) ℓ) (g' : Dev Cert.AttnDeltaReferenceIdeal.nD → PrngReg), Pre_AttnDeltaIdeal m →
    (∀ c : Dev Cert.AttnDeltaIdeal.nD,
      m' ((c.tc : Thread Cert.AttnDeltaReferenceIdeal.nD Cert.AttnDeltaReferenceIdeal.τ).loc Cert.AttnDeltaReferenceIdeal.main_arg0) = m ((c.tc : Thread Cert.AttnDeltaIdeal.nD Cert.AttnDeltaIdeal.τ).loc Cert.AttnDeltaIdeal.main_arg0)
      ∧ m' ((c.tc : Thread Cert.AttnDeltaReferenceIdeal.nD Cert.AttnDeltaReferenceIdeal.τ).loc Cert.AttnDeltaReferenceIdeal.main_arg1) = m ((c.tc : Thread Cert.AttnDeltaIdeal.nD Cert.AttnDeltaIdeal.τ).loc Cert.AttnDeltaIdeal.main_arg1)) →
    ∃ (v0 : (c : Dev Cert.AttnDeltaIdeal.nD) → Buf (Elt Ideal) ((c.tc : Thread Cert.AttnDeltaIdeal.nD Cert.AttnDeltaIdeal.τ).loc Cert.AttnDeltaIdeal.main_v0)),
      θ_run (Cert.AttnDeltaIdeal.defs (F := Ideal)) (onTc (τ := Cert.AttnDeltaIdeal.τ) (Cert.AttnDeltaIdeal.main (F := Ideal))) ⟨m, fun _ => 0, g⟩ (fun r => ∀ c : Dev Cert.AttnDeltaIdeal.nD,
          r.2.mem ((c.tc : Thread Cert.AttnDeltaIdeal.nD Cert.AttnDeltaIdeal.τ).loc Cert.AttnDeltaIdeal.main_v0) = v0 c
          ∧ r.2.mem ((c.tc : Thread Cert.AttnDeltaIdeal.nD Cert.AttnDeltaIdeal.τ).loc Cert.AttnDeltaIdeal.main_arg0) = m ((c.tc : Thread Cert.AttnDeltaIdeal.nD Cert.AttnDeltaIdeal.τ).loc Cert.AttnDeltaIdeal.main_arg0)
          ∧ r.2.mem ((c.tc : Thread Cert.AttnDeltaIdeal.nD Cert.AttnDeltaIdeal.τ).loc Cert.AttnDeltaIdeal.main_arg1) = m ((c.tc : Thread Cert.AttnDeltaIdeal.nD Cert.AttnDeltaIdeal.τ).loc Cert.AttnDeltaIdeal.main_arg1))
      ∧ θ_run (Cert.AttnDeltaReferenceIdeal.defs (F := Ideal)) (onTc (τ := Cert.AttnDeltaReferenceIdeal.τ) (Cert.AttnDeltaReferenceIdeal.main (F := Ideal))) ⟨m', fun _ => 0, g'⟩ (fun r => ∀ c : Dev Cert.AttnDeltaReferenceIdeal.nD,
          r.2.mem ((c.tc : Thread Cert.AttnDeltaReferenceIdeal.nD Cert.AttnDeltaReferenceIdeal.τ).loc Cert.AttnDeltaReferenceIdeal.main_v7) = v0 c
          ∧ r.2.mem ((c.tc : Thread Cert.AttnDeltaReferenceIdeal.nD Cert.AttnDeltaReferenceIdeal.τ).loc Cert.AttnDeltaReferenceIdeal.main_arg0) = m' ((c.tc : Thread Cert.AttnDeltaReferenceIdeal.nD Cert.AttnDeltaReferenceIdeal.τ).loc Cert.AttnDeltaReferenceIdeal.main_arg0)
          ∧ r.2.mem ((c.tc : Thread Cert.AttnDeltaReferenceIdeal.nD Cert.AttnDeltaReferenceIdeal.τ).loc Cert.AttnDeltaReferenceIdeal.main_arg1) = m' ((c.tc : Thread Cert.AttnDeltaReferenceIdeal.nD Cert.AttnDeltaReferenceIdeal.τ).loc Cert.AttnDeltaReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hWeights : Cert.Weights.Facts) (hWeightsIdeal : Cert.WeightsIdeal.Facts) (hWeightsReferenceIdeal : Cert.WeightsReferenceIdeal.Facts) (hWeightsReference : Cert.WeightsReference.Facts) (hGains : Cert.Gains.Facts) (hGainsIdeal : Cert.GainsIdeal.Facts) (hGainsReferenceIdeal : Cert.GainsReferenceIdeal.Facts) (hGainsReference : Cert.GainsReference.Facts) (hSum : Cert.Sum.Facts) (hSumIdeal : Cert.SumIdeal.Facts) (hSumReferenceIdeal : Cert.SumReferenceIdeal.Facts) (hUpdate1x256 : Cert.Update1x256.Facts) (hUpdate1x256Ideal : Cert.Update1x256Ideal.Facts) (hUpdateReference1x256Ideal : Cert.UpdateReference1x256Ideal.Facts) (hUpdate1x512 : Cert.Update1x512.Facts) (hUpdate1x512Ideal : Cert.Update1x512Ideal.Facts) (hUpdateReference1x512Ideal : Cert.UpdateReference1x512Ideal.Facts) (hUpdate1x2048 : Cert.Update1x2048.Facts) (hUpdate1x2048Ideal : Cert.Update1x2048Ideal.Facts) (hUpdateReference1x2048Ideal : Cert.UpdateReference1x2048Ideal.Facts) (hUpdate2x2048 : Cert.Update2x2048.Facts) (hUpdate2x2048Ideal : Cert.Update2x2048Ideal.Facts) (hUpdateReference2x2048Ideal : Cert.UpdateReference2x2048Ideal.Facts) (hUpdate256x512 : Cert.Update256x512.Facts) (hUpdate256x512Ideal : Cert.Update256x512Ideal.Facts) (hUpdateReference256x512Ideal : Cert.UpdateReference256x512Ideal.Facts) (hUpdate256x576 : Cert.Update256x576.Facts) (hUpdate256x576Ideal : Cert.Update256x576Ideal.Facts) (hUpdateReference256x576Ideal : Cert.UpdateReference256x576Ideal.Facts) (hUpdate256x2048 : Cert.Update256x2048.Facts) (hUpdate256x2048Ideal : Cert.Update256x2048Ideal.Facts) (hUpdateReference256x2048Ideal : Cert.UpdateReference256x2048Ideal.Facts) (hUpdate512x384 : Cert.Update512x384.Facts) (hUpdate512x384Ideal : Cert.Update512x384Ideal.Facts) (hUpdateReference512x384Ideal : Cert.UpdateReference512x384Ideal.Facts) (hUpdate512x512 : Cert.Update512x512.Facts) (hUpdate512x512Ideal : Cert.Update512x512Ideal.Facts) (hUpdateReference512x512Ideal : Cert.UpdateReference512x512Ideal.Facts) (hUpdate1408x2048 : Cert.Update1408x2048.Facts) (hUpdate1408x2048Ideal : Cert.Update1408x2048Ideal.Facts) (hUpdateReference1408x2048Ideal : Cert.UpdateReference1408x2048Ideal.Facts) (hUpdate4096x704 : Cert.Update4096x704.Facts) (hUpdate4096x704Ideal : Cert.Update4096x704Ideal.Facts) (hUpdateReference4096x704Ideal : Cert.UpdateReference4096x704Ideal.Facts) (hGrads : Cert.Grads.Facts) (hGradsIdeal : Cert.GradsIdeal.Facts) (hGradsReferenceIdeal : Cert.GradsReferenceIdeal.Facts) (hGradX : Cert.GradX.Facts) (hGradXIdeal : Cert.GradXIdeal.Facts) (hGradXReferenceIdeal : Cert.GradXReferenceIdeal.Facts) (hLossHead : Cert.LossHead.Facts) (hLossHeadIdeal : Cert.LossHeadIdeal.Facts) (hLossHeadReferenceIdeal : Cert.LossHeadReferenceIdeal.Facts) (hPoolPre : Cert.PoolPre.Facts) (hPoolPreIdeal : Cert.PoolPreIdeal.Facts) (hPoolPreReferenceIdeal : Cert.PoolPreReferenceIdeal.Facts) (hPoolMix : Cert.PoolMix.Facts) (hPoolMixIdeal : Cert.PoolMixIdeal.Facts) (hPoolMixReferenceIdeal : Cert.PoolMixReferenceIdeal.Facts) (hPoolMixBwd : Cert.PoolMixBwd.Facts) (hPoolMixBwdIdeal : Cert.PoolMixBwdIdeal.Facts) (hPoolMixBwdReferenceIdeal : Cert.PoolMixBwdReferenceIdeal.Facts) (hFfnNorm : Cert.FfnNorm.Facts) (hFfnNormIdeal : Cert.FfnNormIdeal.Facts) (hFfnNormReferenceIdeal : Cert.FfnNormReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hFfnDact : Cert.FfnDact.Facts) (hFfnDactIdeal : Cert.FfnDactIdeal.Facts) (hFfnDactReferenceIdeal : Cert.FfnDactReferenceIdeal.Facts) (hFfnDwd : Cert.FfnDwd.Facts) (hFfnDwdIdeal : Cert.FfnDwdIdeal.Facts) (hFfnDwdReferenceIdeal : Cert.FfnDwdReferenceIdeal.Facts) (hFfnDh : Cert.FfnDh.Facts) (hFfnDhIdeal : Cert.FfnDhIdeal.Facts) (hFfnDhReferenceIdeal : Cert.FfnDhReferenceIdeal.Facts) (hFfnDwg : Cert.FfnDwg.Facts) (hFfnDwgIdeal : Cert.FfnDwgIdeal.Facts) (hFfnDwgReferenceIdeal : Cert.FfnDwgReferenceIdeal.Facts) (hFfnNormBwd : Cert.FfnNormBwd.Facts) (hFfnNormBwdIdeal : Cert.FfnNormBwdIdeal.Facts) (hFfnNormBwdReferenceIdeal : Cert.FfnNormBwdReferenceIdeal.Facts) (hAttnDelta : Cert.AttnDelta.Facts) (hAttnDeltaIdeal : Cert.AttnDeltaIdeal.Facts) (hAttnDeltaReferenceIdeal : Cert.AttnDeltaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_WeightsReference (hWeightsReference := hWeightsReference)
    ∧ quiescent_Gains (hGains := hGains)
    ∧ quiescent_GainsIdeal (hGainsIdeal := hGainsIdeal)
    ∧ quiescent_GainsReferenceIdeal (hGainsReferenceIdeal := hGainsReferenceIdeal)
    ∧ quiescent_GainsReference (hGainsReference := hGainsReference)
    ∧ quiescent_Sum (hSum := hSum)
    ∧ quiescent_SumIdeal (hSumIdeal := hSumIdeal)
    ∧ quiescent_SumReferenceIdeal (hSumReferenceIdeal := hSumReferenceIdeal)
    ∧ quiescent_Update1x256 (hUpdate1x256 := hUpdate1x256)
    ∧ quiescent_Update1x256Ideal (hUpdate1x256Ideal := hUpdate1x256Ideal)
    ∧ quiescent_UpdateReference1x256Ideal (hUpdateReference1x256Ideal := hUpdateReference1x256Ideal)
    ∧ quiescent_Update1x512 (hUpdate1x512 := hUpdate1x512)
    ∧ quiescent_Update1x512Ideal (hUpdate1x512Ideal := hUpdate1x512Ideal)
    ∧ quiescent_UpdateReference1x512Ideal (hUpdateReference1x512Ideal := hUpdateReference1x512Ideal)
    ∧ quiescent_Update1x2048 (hUpdate1x2048 := hUpdate1x2048)
    ∧ quiescent_Update1x2048Ideal (hUpdate1x2048Ideal := hUpdate1x2048Ideal)
    ∧ quiescent_UpdateReference1x2048Ideal (hUpdateReference1x2048Ideal := hUpdateReference1x2048Ideal)
    ∧ quiescent_Update2x2048 (hUpdate2x2048 := hUpdate2x2048)
    ∧ quiescent_Update2x2048Ideal (hUpdate2x2048Ideal := hUpdate2x2048Ideal)
    ∧ quiescent_UpdateReference2x2048Ideal (hUpdateReference2x2048Ideal := hUpdateReference2x2048Ideal)
    ∧ quiescent_Update256x512 (hUpdate256x512 := hUpdate256x512)
    ∧ quiescent_Update256x512Ideal (hUpdate256x512Ideal := hUpdate256x512Ideal)
    ∧ quiescent_UpdateReference256x512Ideal (hUpdateReference256x512Ideal := hUpdateReference256x512Ideal)
    ∧ quiescent_Update256x576 (hUpdate256x576 := hUpdate256x576)
    ∧ quiescent_Update256x576Ideal (hUpdate256x576Ideal := hUpdate256x576Ideal)
    ∧ quiescent_UpdateReference256x576Ideal (hUpdateReference256x576Ideal := hUpdateReference256x576Ideal)
    ∧ quiescent_Update256x2048 (hUpdate256x2048 := hUpdate256x2048)
    ∧ quiescent_Update256x2048Ideal (hUpdate256x2048Ideal := hUpdate256x2048Ideal)
    ∧ quiescent_UpdateReference256x2048Ideal (hUpdateReference256x2048Ideal := hUpdateReference256x2048Ideal)
    ∧ quiescent_Update512x384 (hUpdate512x384 := hUpdate512x384)
    ∧ quiescent_Update512x384Ideal (hUpdate512x384Ideal := hUpdate512x384Ideal)
    ∧ quiescent_UpdateReference512x384Ideal (hUpdateReference512x384Ideal := hUpdateReference512x384Ideal)
    ∧ quiescent_Update512x512 (hUpdate512x512 := hUpdate512x512)
    ∧ quiescent_Update512x512Ideal (hUpdate512x512Ideal := hUpdate512x512Ideal)
    ∧ quiescent_UpdateReference512x512Ideal (hUpdateReference512x512Ideal := hUpdateReference512x512Ideal)
    ∧ quiescent_Update1408x2048 (hUpdate1408x2048 := hUpdate1408x2048)
    ∧ quiescent_Update1408x2048Ideal (hUpdate1408x2048Ideal := hUpdate1408x2048Ideal)
    ∧ quiescent_UpdateReference1408x2048Ideal (hUpdateReference1408x2048Ideal := hUpdateReference1408x2048Ideal)
    ∧ quiescent_Update4096x704 (hUpdate4096x704 := hUpdate4096x704)
    ∧ quiescent_Update4096x704Ideal (hUpdate4096x704Ideal := hUpdate4096x704Ideal)
    ∧ quiescent_UpdateReference4096x704Ideal (hUpdateReference4096x704Ideal := hUpdateReference4096x704Ideal)
    ∧ quiescent_Grads (hGrads := hGrads)
    ∧ quiescent_GradsIdeal (hGradsIdeal := hGradsIdeal)
    ∧ quiescent_GradsReferenceIdeal (hGradsReferenceIdeal := hGradsReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_PoolPre (hPoolPre := hPoolPre)
    ∧ quiescent_PoolPreIdeal (hPoolPreIdeal := hPoolPreIdeal)
    ∧ quiescent_PoolPreReferenceIdeal (hPoolPreReferenceIdeal := hPoolPreReferenceIdeal)
    ∧ quiescent_PoolMix (hPoolMix := hPoolMix)
    ∧ quiescent_PoolMixIdeal (hPoolMixIdeal := hPoolMixIdeal)
    ∧ quiescent_PoolMixReferenceIdeal (hPoolMixReferenceIdeal := hPoolMixReferenceIdeal)
    ∧ quiescent_PoolMixBwd (hPoolMixBwd := hPoolMixBwd)
    ∧ quiescent_PoolMixBwdIdeal (hPoolMixBwdIdeal := hPoolMixBwdIdeal)
    ∧ quiescent_PoolMixBwdReferenceIdeal (hPoolMixBwdReferenceIdeal := hPoolMixBwdReferenceIdeal)
    ∧ quiescent_FfnNorm (hFfnNorm := hFfnNorm)
    ∧ quiescent_FfnNormIdeal (hFfnNormIdeal := hFfnNormIdeal)
    ∧ quiescent_FfnNormReferenceIdeal (hFfnNormReferenceIdeal := hFfnNormReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_FfnDact (hFfnDact := hFfnDact)
    ∧ quiescent_FfnDactIdeal (hFfnDactIdeal := hFfnDactIdeal)
    ∧ quiescent_FfnDactReferenceIdeal (hFfnDactReferenceIdeal := hFfnDactReferenceIdeal)
    ∧ quiescent_FfnDwd (hFfnDwd := hFfnDwd)
    ∧ quiescent_FfnDwdIdeal (hFfnDwdIdeal := hFfnDwdIdeal)
    ∧ quiescent_FfnDwdReferenceIdeal (hFfnDwdReferenceIdeal := hFfnDwdReferenceIdeal)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_FfnDwg (hFfnDwg := hFfnDwg)
    ∧ quiescent_FfnDwgIdeal (hFfnDwgIdeal := hFfnDwgIdeal)
    ∧ quiescent_FfnDwgReferenceIdeal (hFfnDwgReferenceIdeal := hFfnDwgReferenceIdeal)
    ∧ quiescent_FfnNormBwd (hFfnNormBwd := hFfnNormBwd)
    ∧ quiescent_FfnNormBwdIdeal (hFfnNormBwdIdeal := hFfnNormBwdIdeal)
    ∧ quiescent_FfnNormBwdReferenceIdeal (hFfnNormBwdReferenceIdeal := hFfnNormBwdReferenceIdeal)
    ∧ quiescent_AttnDelta (hAttnDelta := hAttnDelta)
    ∧ quiescent_AttnDeltaIdeal (hAttnDeltaIdeal := hAttnDeltaIdeal)
    ∧ quiescent_AttnDeltaReferenceIdeal (hAttnDeltaReferenceIdeal := hAttnDeltaReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Weights_WeightsIdeal
    ∧ algebraic_WeightsIdeal_WeightsReferenceIdeal (hWeightsIdeal := hWeightsIdeal) (hWeightsReferenceIdeal := hWeightsReferenceIdeal)
    ∧ bitexact_Weights_WeightsReference (hWeights := hWeights) (hWeightsReference := hWeightsReference)
    ∧ preserves_Gains_GainsIdeal
    ∧ algebraic_GainsIdeal_GainsReferenceIdeal (hGainsIdeal := hGainsIdeal) (hGainsReferenceIdeal := hGainsReferenceIdeal)
    ∧ bitexact_Gains_GainsReference (hGains := hGains) (hGainsReference := hGainsReference)
    ∧ preserves_Sum_SumIdeal
    ∧ algebraic_SumIdeal_SumReferenceIdeal (hSumIdeal := hSumIdeal) (hSumReferenceIdeal := hSumReferenceIdeal)
    ∧ preserves_Update1x256_Update1x256Ideal
    ∧ algebraic_Update1x256Ideal_UpdateReference1x256Ideal (hUpdate1x256Ideal := hUpdate1x256Ideal) (hUpdateReference1x256Ideal := hUpdateReference1x256Ideal)
    ∧ preserves_Update1x512_Update1x512Ideal
    ∧ algebraic_Update1x512Ideal_UpdateReference1x512Ideal (hUpdate1x512Ideal := hUpdate1x512Ideal) (hUpdateReference1x512Ideal := hUpdateReference1x512Ideal)
    ∧ preserves_Update1x2048_Update1x2048Ideal
    ∧ algebraic_Update1x2048Ideal_UpdateReference1x2048Ideal (hUpdate1x2048Ideal := hUpdate1x2048Ideal) (hUpdateReference1x2048Ideal := hUpdateReference1x2048Ideal)
    ∧ preserves_Update2x2048_Update2x2048Ideal
    ∧ algebraic_Update2x2048Ideal_UpdateReference2x2048Ideal (hUpdate2x2048Ideal := hUpdate2x2048Ideal) (hUpdateReference2x2048Ideal := hUpdateReference2x2048Ideal)
    ∧ preserves_Update256x512_Update256x512Ideal
    ∧ algebraic_Update256x512Ideal_UpdateReference256x512Ideal (hUpdate256x512Ideal := hUpdate256x512Ideal) (hUpdateReference256x512Ideal := hUpdateReference256x512Ideal)
    ∧ preserves_Update256x576_Update256x576Ideal
    ∧ algebraic_Update256x576Ideal_UpdateReference256x576Ideal (hUpdate256x576Ideal := hUpdate256x576Ideal) (hUpdateReference256x576Ideal := hUpdateReference256x576Ideal)
    ∧ preserves_Update256x2048_Update256x2048Ideal
    ∧ algebraic_Update256x2048Ideal_UpdateReference256x2048Ideal (hUpdate256x2048Ideal := hUpdate256x2048Ideal) (hUpdateReference256x2048Ideal := hUpdateReference256x2048Ideal)
    ∧ preserves_Update512x384_Update512x384Ideal
    ∧ algebraic_Update512x384Ideal_UpdateReference512x384Ideal (hUpdate512x384Ideal := hUpdate512x384Ideal) (hUpdateReference512x384Ideal := hUpdateReference512x384Ideal)
    ∧ preserves_Update512x512_Update512x512Ideal
    ∧ algebraic_Update512x512Ideal_UpdateReference512x512Ideal (hUpdate512x512Ideal := hUpdate512x512Ideal) (hUpdateReference512x512Ideal := hUpdateReference512x512Ideal)
    ∧ preserves_Update1408x2048_Update1408x2048Ideal
    ∧ algebraic_Update1408x2048Ideal_UpdateReference1408x2048Ideal (hUpdate1408x2048Ideal := hUpdate1408x2048Ideal) (hUpdateReference1408x2048Ideal := hUpdateReference1408x2048Ideal)
    ∧ preserves_Update4096x704_Update4096x704Ideal
    ∧ algebraic_Update4096x704Ideal_UpdateReference4096x704Ideal (hUpdate4096x704Ideal := hUpdate4096x704Ideal) (hUpdateReference4096x704Ideal := hUpdateReference4096x704Ideal)
    ∧ preserves_Grads_GradsIdeal
    ∧ algebraic_GradsIdeal_GradsReferenceIdeal (hGradsIdeal := hGradsIdeal) (hGradsReferenceIdeal := hGradsReferenceIdeal)
    ∧ preserves_GradX_GradXIdeal
    ∧ algebraic_GradXIdeal_GradXReferenceIdeal (hGradXIdeal := hGradXIdeal) (hGradXReferenceIdeal := hGradXReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_PoolPre_PoolPreIdeal
    ∧ algebraic_PoolPreIdeal_PoolPreReferenceIdeal (hPoolPreIdeal := hPoolPreIdeal) (hPoolPreReferenceIdeal := hPoolPreReferenceIdeal)
    ∧ preserves_PoolMix_PoolMixIdeal
    ∧ algebraic_PoolMixIdeal_PoolMixReferenceIdeal (hPoolMixIdeal := hPoolMixIdeal) (hPoolMixReferenceIdeal := hPoolMixReferenceIdeal)
    ∧ preserves_PoolMixBwd_PoolMixBwdIdeal
    ∧ algebraic_PoolMixBwdIdeal_PoolMixBwdReferenceIdeal (hPoolMixBwdIdeal := hPoolMixBwdIdeal) (hPoolMixBwdReferenceIdeal := hPoolMixBwdReferenceIdeal)
    ∧ preserves_FfnNorm_FfnNormIdeal
    ∧ algebraic_FfnNormIdeal_FfnNormReferenceIdeal (hFfnNormIdeal := hFfnNormIdeal) (hFfnNormReferenceIdeal := hFfnNormReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_FfnDact_FfnDactIdeal
    ∧ algebraic_FfnDactIdeal_FfnDactReferenceIdeal (hFfnDactIdeal := hFfnDactIdeal) (hFfnDactReferenceIdeal := hFfnDactReferenceIdeal)
    ∧ preserves_FfnDwd_FfnDwdIdeal
    ∧ algebraic_FfnDwdIdeal_FfnDwdReferenceIdeal (hFfnDwdIdeal := hFfnDwdIdeal) (hFfnDwdReferenceIdeal := hFfnDwdReferenceIdeal)
    ∧ preserves_FfnDh_FfnDhIdeal
    ∧ algebraic_FfnDhIdeal_FfnDhReferenceIdeal (hFfnDhIdeal := hFfnDhIdeal) (hFfnDhReferenceIdeal := hFfnDhReferenceIdeal)
    ∧ preserves_FfnDwg_FfnDwgIdeal
    ∧ algebraic_FfnDwgIdeal_FfnDwgReferenceIdeal (hFfnDwgIdeal := hFfnDwgIdeal) (hFfnDwgReferenceIdeal := hFfnDwgReferenceIdeal)
    ∧ preserves_FfnNormBwd_FfnNormBwdIdeal
    ∧ algebraic_FfnNormBwdIdeal_FfnNormBwdReferenceIdeal (hFfnNormBwdIdeal := hFfnNormBwdIdeal) (hFfnNormBwdReferenceIdeal := hFfnNormBwdReferenceIdeal)
    ∧ preserves_AttnDelta_AttnDeltaIdeal
    ∧ algebraic_AttnDeltaIdeal_AttnDeltaReferenceIdeal (hAttnDeltaIdeal := hAttnDeltaIdeal) (hAttnDeltaReferenceIdeal := hAttnDeltaReferenceIdeal)
-- ==== Kernel.lean ====
abbrev S8x9856x1024 : Shape := ⟨3, ![8, 9856, 1024]⟩
abbrev S7 : Shape := ⟨1, ![7]⟩
abbrev S_ : Shape := ⟨0, ![]⟩
abbrev S1x9856x1024 : Shape := ⟨3, ![1, 9856, 1024]⟩
abbrev S9856x1024 : Shape := ⟨2, ![9856, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x9856x1024, .f32⟩
  | .hbm, ⟨1, _⟩ => ⟨S8x9856x1024, .f32⟩
  | _, _ => ⟨S8x9856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_11 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v22 : BitVec 32 := Scalar.muli c4_i32_11 v15
  let c2_i32_12 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v23 : BitVec 32 := Scalar.muli c2_i32_12 v18
  let v24 : BitVec 32 := Scalar.addi v22 v23
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v25 : BitVec 32 := Scalar.addi v24 v21
  let c0_i32 : BitVec 32 := 0#32
  let c0_i32_13 : BitVec 32 := 0#32
  ![v25.toNat, 0, 0]
def k0_off2 (d0 : Dev nD) : Fin 3 → Nat :=
  let c4_i32_17 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v31 : BitVec 32 := Scalar.muli c4_i32_17 v15
  let c2_i32_18 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v32 : BitVec 32 := Scalar.muli c2_i32_18 v18
  let v33 : BitVec 32 := Scalar.addi v31 v32
  let c1_i32_16 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v30 : BitVec 32 := Scalar.subi c1_i32_16 v21
  let v34 : BitVec 32 := Scalar.addi v33 v30
  let c0_i32_29 : BitVec 32 := 0#32
  let c0_i32_30 : BitVec 32 := 0#32
  ![v34.toNat, 0, 0]
def k0_dev1 (d0 : Dev nD) : Nat :=
  let c0_i32_24 : BitVec 32 := 0#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let c4_i32_23 : BitVec 32 := 4#32
  let v39 : BitVec 32 := Scalar.muli v15 c4_i32_23
  let v40 : BitVec 32 := Scalar.addi c0_i32_24 v39
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let c2_i32_25 : BitVec 32 := 2#32
  let v41 : BitVec 32 := Scalar.muli v18 c2_i32_25
  let v42 : BitVec 32 := Scalar.addi v40 v41
  let c1_i32_16 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v30 : BitVec 32 := Scalar.subi c1_i32_16 v21
  let c1_i32_26 : BitVec 32 := 1#32
  let v43 : BitVec 32 := Scalar.muli v30 c1_i32_26
  let v44 : BitVec 32 := Scalar.addi v42 v43
  v44.toNat
def k0_off3 (d0 : Dev nD) : Fin 3 → Nat :=
  let c4_i32_32 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v54 : BitVec 32 := Scalar.muli c4_i32_32 v15
  let c2_i32_33 : BitVec 32 := 2#32
  let c1_i32_31 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v53 : BitVec 32 := Scalar.subi c1_i32_31 v18
  let v55 : BitVec 32 := Scalar.muli c2_i32_33 v53
  let v56 : BitVec 32 := Scalar.addi v54 v55
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v57 : BitVec 32 := Scalar.addi v56 v21
  let c0_i32_44 : BitVec 32 := 0#32
  let c0_i32_45 : BitVec 32 := 0#32
  ![v57.toNat, 0, 0]
def k0_dev2 (d0 : Dev nD) : Nat :=
  let c0_i32_39 : BitVec 32 := 0#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let c4_i32_38 : BitVec 32 := 4#32
  let v62 : BitVec 32 := Scalar.muli v15 c4_i32_38
  let v63 : BitVec 32 := Scalar.addi c0_i32_39 v62
  let c1_i32_31 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v53 : BitVec 32 := Scalar.subi c1_i32_31 v18
  let c2_i32_40 : BitVec 32 := 2#32
  let v64 : BitVec 32 := Scalar.muli v53 c2_i32_40
  let v65 : BitVec 32 := Scalar.addi v63 v64
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let c1_i32_41 : BitVec 32 := 1#32
  let v66 : BitVec 32 := Scalar.muli v21 c1_i32_41
  let v67 : BitVec 32 := Scalar.addi v65 v66
  v67.toNat
def k0_off4 (d0 : Dev nD) : Fin 3 → Nat :=
  let c4_i32_48 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v78 : BitVec 32 := Scalar.muli c4_i32_48 v15
  let c2_i32_49 : BitVec 32 := 2#32
  let c1_i32_46 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v76 : BitVec 32 := Scalar.subi c1_i32_46 v18
  let v79 : BitVec 32 := Scalar.muli c2_i32_49 v76
  let v80 : BitVec 32 := Scalar.addi v78 v79
  let c1_i32_47 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v77 : BitVec 32 := Scalar.subi c1_i32_47 v21
  let v81 : BitVec 32 := Scalar.addi v80 v77
  let c0_i32_60 : BitVec 32 := 0#32
  let c0_i32_61 : BitVec 32 := 0#32
  ![v81.toNat, 0, 0]
def k0_dev3 (d0 : Dev nD) : Nat :=
  let c0_i32_55 : BitVec 32 := 0#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let c4_i32_54 : BitVec 32 := 4#32
  let v86 : BitVec 32 := Scalar.muli v15 c4_i32_54
  let v87 : BitVec 32 := Scalar.addi c0_i32_55 v86
  let c1_i32_46 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v76 : BitVec 32 := Scalar.subi c1_i32_46 v18
  let c2_i32_56 : BitVec 32 := 2#32
  let v88 : BitVec 32 := Scalar.muli v76 c2_i32_56
  let v89 : BitVec 32 := Scalar.addi v87 v88
  let c1_i32_47 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v77 : BitVec 32 := Scalar.subi c1_i32_47 v21
  let c1_i32_57 : BitVec 32 := 1#32
  let v90 : BitVec 32 := Scalar.muli v77 c1_i32_57
  let v91 : BitVec 32 := Scalar.addi v89 v90
  v91.toNat
def k0_off5 (d0 : Dev nD) : Fin 3 → Nat :=
  let c4_i32_63 : BitVec 32 := 4#32
  let c1_i32_62 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v100 : BitVec 32 := Scalar.subi c1_i32_62 v15
  let v101 : BitVec 32 := Scalar.muli c4_i32_63 v100
  let c2_i32_64 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v102 : BitVec 32 := Scalar.muli c2_i32_64 v18
  let v103 : BitVec 32 := Scalar.addi v101 v102
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v104 : BitVec 32 := Scalar.addi v103 v21
  let c0_i32_74 : BitVec 32 := 0#32
  let c0_i32_75 : BitVec 32 := 0#32
  ![v104.toNat, 0, 0]
def k0_dev4 (d0 : Dev nD) : Nat :=
  let c0_i32_69 : BitVec 32 := 0#32
  let c1_i32_62 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v100 : BitVec 32 := Scalar.subi c1_i32_62 v15
  let c4_i32_68 : BitVec 32 := 4#32
  let v109 : BitVec 32 := Scalar.muli v100 c4_i32_68
  let v110 : BitVec 32 := Scalar.addi c0_i32_69 v109
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let c2_i32_70 : BitVec 32 := 2#32
  let v111 : BitVec 32 := Scalar.muli v18 c2_i32_70
  let v112 : BitVec 32 := Scalar.addi v110 v111
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let c1_i32_71 : BitVec 32 := 1#32
  let v113 : BitVec 32 := Scalar.muli v21 c1_i32_71
  let v114 : BitVec 32 := Scalar.addi v112 v113
  v114.toNat
def k0_off6 (d0 : Dev nD) : Fin 3 → Nat :=
  let c4_i32_78 : BitVec 32 := 4#32
  let c1_i32_76 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v123 : BitVec 32 := Scalar.subi c1_i32_76 v15
  let v125 : BitVec 32 := Scalar.muli c4_i32_78 v123
  let c2_i32_79 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v126 : BitVec 32 := Scalar.muli c2_i32_79 v18
  let v127 : BitVec 32 := Scalar.addi v125 v126
  let c1_i32_77 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v124 : BitVec 32 := Scalar.subi c1_i32_77 v21
  let v128 : BitVec 32 := Scalar.addi v127 v124
  let c0_i32_90 : BitVec 32 := 0#32
  let c0_i32_91 : BitVec 32 := 0#32
  ![v128.toNat, 0, 0]
def k0_dev5 (d0 : Dev nD) : Nat :=
  let c0_i32_85 : BitVec 32 := 0#32
  let c1_i32_76 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v123 : BitVec 32 := Scalar.subi c1_i32_76 v15
  let c4_i32_84 : BitVec 32 := 4#32
  let v133 : BitVec 32 := Scalar.muli v123 c4_i32_84
  let v134 : BitVec 32 := Scalar.addi c0_i32_85 v133
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let c2_i32_86 : BitVec 32 := 2#32
  let v135 : BitVec 32 := Scalar.muli v18 c2_i32_86
  let v136 : BitVec 32 := Scalar.addi v134 v135
  let c1_i32_77 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v124 : BitVec 32 := Scalar.subi c1_i32_77 v21
  let c1_i32_87 : BitVec 32 := 1#32
  let v137 : BitVec 32 := Scalar.muli v124 c1_i32_87
  let v138 : BitVec 32 := Scalar.addi v136 v137
  v138.toNat
def k0_off7 (d0 : Dev nD) : Fin 3 → Nat :=
  let c4_i32_94 : BitVec 32 := 4#32
  let c1_i32_92 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v147 : BitVec 32 := Scalar.subi c1_i32_92 v15
  let v149 : BitVec 32 := Scalar.muli c4_i32_94 v147
  let c2_i32_95 : BitVec 32 := 2#32
  let c1_i32_93 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v148 : BitVec 32 := Scalar.subi c1_i32_93 v18
  let v150 : BitVec 32 := Scalar.muli c2_i32_95 v148
  let v151 : BitVec 32 := Scalar.addi v149 v150
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v152 : BitVec 32 := Scalar.addi v151 v21
  let c0_i32_105 : BitVec 32 := 0#32
  let c0_i32_106 : BitVec 32 := 0#32
  ![v152.toNat, 0, 0]
def k0_dev6 (d0 : Dev nD) : Nat :=
  let c0_i32_100 : BitVec 32 := 0#32
  let c1_i32_92 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v147 : BitVec 32 := Scalar.subi c1_i32_92 v15
  let c4_i32_99 : BitVec 32 := 4#32
  let v157 : BitVec 32 := Scalar.muli v147 c4_i32_99
  let v158 : BitVec 32 := Scalar.addi c0_i32_100 v157
  let c1_i32_93 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v148 : BitVec 32 := Scalar.subi c1_i32_93 v18
  let c2_i32_101 : BitVec 32 := 2#32
  let v159 : BitVec 32 := Scalar.muli v148 c2_i32_101
  let v160 : BitVec 32 := Scalar.addi v158 v159
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let c1_i32_102 : BitVec 32 := 1#32
  let v161 : BitVec 32 := Scalar.muli v21 c1_i32_102
  let v162 : BitVec 32 := Scalar.addi v160 v161
  v162.toNat
def k0_off8 (d0 : Dev nD) : Fin 3 → Nat :=
  let c4_i32_110 : BitVec 32 := 4#32
  let c1_i32_107 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v171 : BitVec 32 := Scalar.subi c1_i32_107 v15
  let v174 : BitVec 32 := Scalar.muli c4_i32_110 v171
  let c2_i32_111 : BitVec 32 := 2#32
  let c1_i32_108 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v172 : BitVec 32 := Scalar.subi c1_i32_108 v18
  let v175 : BitVec 32 := Scalar.muli c2_i32_111 v172
  let v176 : BitVec 32 := Scalar.addi v174 v175
  let c1_i32_109 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v173 : BitVec 32 := Scalar.subi c1_i32_109 v21
  let v177 : BitVec 32 := Scalar.addi v176 v173
  let c0_i32_121 : BitVec 32 := 0#32
  let c0_i32_122 : BitVec 32 := 0#32
  ![v177.toNat, 0, 0]
def k0_dev7 (d0 : Dev nD) : Nat :=
  let c0_i32_116 : BitVec 32 := 0#32
  let c1_i32_107 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v171 : BitVec 32 := Scalar.subi c1_i32_107 v15
  let c4_i32_115 : BitVec 32 := 4#32
  let v182 : BitVec 32 := Scalar.muli v171 c4_i32_115
  let v183 : BitVec 32 := Scalar.addi c0_i32_116 v182
  let c1_i32_108 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v172 : BitVec 32 := Scalar.subi c1_i32_108 v18
  let c2_i32_117 : BitVec 32 := 2#32
  let v184 : BitVec 32 := Scalar.muli v172 c2_i32_117
  let v185 : BitVec 32 := Scalar.addi v183 v184
  let c1_i32_109 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v173 : BitVec 32 := Scalar.subi c1_i32_109 v21
  let c1_i32_118 : BitVec 32 := 1#32
  let v186 : BitVec 32 := Scalar.muli v173 c1_i32_118
  let v187 : BitVec 32 := Scalar.addi v185 v186
  v187.toNat
-- ==== Reference.lean ====
abbrev S64x9856x1024 : Shape := ⟨3, ![64, 9856, 1024]⟩
abbrev S8x8x9856x1024 : Shape := ⟨4, ![8, 8, 9856, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x9856x1024, .f32⟩
  | .hbm, ⟨1, _⟩ => ⟨S8x8x9856x1024, .f32⟩
  | .hbm, ⟨2, _⟩ => ⟨S8x8x9856x1024, .f32⟩
  | .hbm, ⟨3, _⟩ => ⟨S64x9856x1024, .f32⟩
  | _, _ => ⟨S64x9856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Weights.lean ====
abbrev S9856x1024 : Shape := ⟨2, ![9856, 1024]⟩
abbrev S8x9856x1024 : Shape := ⟨3, ![8, 9856, 1024]⟩
abbrev S7 : Shape := ⟨1, ![7]⟩
abbrev S_ : Shape := ⟨0, ![]⟩
abbrev S1x9856x1024 : Shape := ⟨3, ![1, 9856, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S9856x1024, .bf16⟩
  | .hbm, ⟨1, _⟩ => ⟨S8x9856x1024, .bf16⟩
  | _, _ => ⟨S9856x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v20 : BitVec 32 := Scalar.muli v2 c4_i32_11
  let v21 : BitVec 32 := Scalar.addi c0_i32_12 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v22 : BitVec 32 := Scalar.muli v5 c2_i32_13
  let v23 : BitVec 32 := Scalar.addi v21 v22
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_14 : BitVec 32 := 1#32
  let v24 : BitVec 32 := Scalar.muli v15 c1_i32_14
  let v25 : BitVec 32 := Scalar.addi v23 v24
  v25.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v37 : BitVec 32 := Scalar.muli v2 c4_i32_22
  let v38 : BitVec 32 := Scalar.addi c0_i32_23 v37
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_17 v5
  let c2_i32_24 : BitVec 32 := 2#32
  let v39 : BitVec 32 := Scalar.muli v32 c2_i32_24
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v41 : BitVec 32 := Scalar.muli v8 c1_i32_25
  let v42 : BitVec 32 := Scalar.addi v40 v41
  v42.toNat
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_36 : BitVec 32 := 2#32
  let v57 : BitVec 32 := Scalar.muli v49 c2_i32_36
  let v58 : BitVec 32 := Scalar.addi v56 v57
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_37 : BitVec 32 := 1#32
  let v59 : BitVec 32 := Scalar.muli v50 c1_i32_37
  let v60 : BitVec 32 := Scalar.addi v58 v59
  v60.toNat
def k0_dev4 (d0 : Dev nD) : Nat :=
  let c0_i32_45 : BitVec 32 := 0#32
  let c1_i32_40 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_40 v2
  let c4_i32_44 : BitVec 32 := 4#32
  let v72 : BitVec 32 := Scalar.muli v67 c4_i32_44
  let v73 : BitVec 32 := Scalar.addi c0_i32_45 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v74 : BitVec 32 := Scalar.muli v5 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_dev5 (d0 : Dev nD) : Nat :=
  let c0_i32_57 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_50 v2
  let c4_i32_56 : BitVec 32 := 4#32
  let v90 : BitVec 32 := Scalar.muli v84 c4_i32_56
  let v91 : BitVec 32 := Scalar.addi c0_i32_57 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v92 : BitVec 32 := Scalar.muli v5 c2_i32_58
  let v93 : BitVec 32 := Scalar.addi v91 v92
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_51 v8
  let c1_i32_59 : BitVec 32 := 1#32
  let v94 : BitVec 32 := Scalar.muli v85 c1_i32_59
  let v95 : BitVec 32 := Scalar.addi v93 v94
  v95.toNat
def k0_dev6 (d0 : Dev nD) : Nat :=
  let c0_i32_68 : BitVec 32 := 0#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v102 : BitVec 32 := Scalar.subi c1_i32_62 v2
  let c4_i32_67 : BitVec 32 := 4#32
  let v108 : BitVec 32 := Scalar.muli v102 c4_i32_67
  let v109 : BitVec 32 := Scalar.addi c0_i32_68 v108
  let c1_i32_63 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.subi c1_i32_63 v5
  let c2_i32_69 : BitVec 32 := 2#32
  let v110 : BitVec 32 := Scalar.muli v103 c2_i32_69
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v112 : BitVec 32 := Scalar.muli v8 c1_i32_70
  let v113 : BitVec 32 := Scalar.addi v111 v112
  v113.toNat
def k0_dev7 (d0 : Dev nD) : Nat :=
  let c0_i32_80 : BitVec 32 := 0#32
  let c1_i32_73 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.subi c1_i32_73 v2
  let c4_i32_79 : BitVec 32 := 4#32
  let v127 : BitVec 32 := Scalar.muli v120 c4_i32_79
  let v128 : BitVec 32 := Scalar.addi c0_i32_80 v127
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_74 v5
  let c2_i32_81 : BitVec 32 := 2#32
  let v129 : BitVec 32 := Scalar.muli v121 c2_i32_81
  let v130 : BitVec 32 := Scalar.addi v128 v129
  let c1_i32_75 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v122 : BitVec 32 := Scalar.subi c1_i32_75 v8
  let c1_i32_82 : BitVec 32 := 1#32
  let v131 : BitVec 32 := Scalar.muli v122 c1_i32_82
  let v132 : BitVec 32 := Scalar.addi v130 v131
  v132.toNat
def k0_off2 (d0 : Dev nD) : Fin 3 → Nat :=
  let c4_i32_86 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v140 : BitVec 32 := Scalar.muli c4_i32_86 v2
  let c2_i32_87 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v141 : BitVec 32 := Scalar.muli c2_i32_87 v5
  let v142 : BitVec 32 := Scalar.addi v140 v141
  let c1_i32_85 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v139 : BitVec 32 := Scalar.subi c1_i32_85 v8
  let v143 : BitVec 32 := Scalar.addi v142 v139
  let c0_i32_94 : BitVec 32 := 0#32
  let c0_i32_95 : BitVec 32 := 0#32
  ![v143.toNat, 0, 0]
def k0_off3 (d0 : Dev nD) : Fin 3 → Nat :=
  let c4_i32_97 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v155 : BitVec 32 := Scalar.muli c4_i32_97 v2
  let c2_i32_98 : BitVec 32 := 2#32
  let c1_i32_96 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.subi c1_i32_96 v5
  let v156 : BitVec 32 := Scalar.muli c2_i32_98 v154
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v158 : BitVec 32 := Scalar.addi v157 v8
  let c0_i32_105 : BitVec 32 := 0#32
  let c0_i32_106 : BitVec 32 := 0#32
  ![v158.toNat, 0, 0]
def k0_off4 (d0 : Dev nD) : Fin 3 → Nat :=
  let c4_i32_109 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v171 : BitVec 32 := Scalar.muli c4_i32_109 v2
  let c2_i32_110 : BitVec 32 := 2#32
  let c1_i32_107 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v169 : BitVec 32 := Scalar.subi c1_i32_107 v5
  let v172 : BitVec 32 := Scalar.muli c2_i32_110 v169
  let v173 : BitVec 32 := Scalar.addi v171 v172
  let c1_i32_108 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v170 : BitVec 32 := Scalar.subi c1_i32_108 v8
  let v174 : BitVec 32 := Scalar.addi v173 v170
  let c0_i32_117 : BitVec 32 := 0#32
  let c0_i32_118 : BitVec 32 := 0#32
  ![v174.toNat, 0, 0]
def k0_off5 (d0 : Dev nD) : Fin 3 → Nat :=
  let c4_i32_120 : BitVec 32 := 4#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v185 : BitVec 32 := Scalar.subi c1_i32_119 v2
  let v186 : BitVec 32 := Scalar.muli c4_i32_120 v185
  let c2_i32_121 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.muli c2_i32_121 v5
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v189 : BitVec 32 := Scalar.addi v188 v8
  let c0_i32_128 : BitVec 32 := 0#32
  let c0_i32_129 : BitVec 32 := 0#32
  ![v189.toNat, 0, 0]
def k0_off6 (d0 : Dev nD) : Fin 3 → Nat :=
  let c4_i32_132 : BitVec 32 := 4#32
  let c1_i32_130 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v200 : BitVec 32 := Scalar.subi c1_i32_130 v2
  let v202 : BitVec 32 := Scalar.muli c4_i32_132 v200
  let c2_i32_133 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.muli c2_i32_133 v5
  let v204 : BitVec 32 := Scalar.addi v202 v203
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v201 : BitVec 32 := Scalar.subi c1_i32_131 v8
  let v205 : BitVec 32 := Scalar.addi v204 v201
  let c0_i32_140 : BitVec 32 := 0#32
  let c0_i32_141 : BitVec 32 := 0#32
  ![v205.toNat, 0, 0]
def k0_off7 (d0 : Dev nD) : Fin 3 → Nat :=
  let c4_i32_144 : BitVec 32 := 4#32
  let c1_i32_142 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.subi c1_i32_142 v2
  let v218 : BitVec 32 := Scalar.muli c4_i32_144 v216
  let c2_i32_145 : BitVec 32 := 2#32
  let c1_i32_143 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.subi c1_i32_143 v5
  let v219 : BitVec 32 := Scalar.muli c2_i32_145 v217
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.addi v220 v8
  let c0_i32_152 : BitVec 32 := 0#32
  let c0_i32_153 : BitVec 32 := 0#32
  ![v221.toNat, 0, 0]
def k0_off8 (d0 : Dev nD) : Fin 3 → Nat :=
  let c4_i32_157 : BitVec 32 := 4#32
  let c1_i32_154 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.subi c1_i32_154 v2
  let v235 : BitVec 32 := Scalar.muli c4_i32_157 v232
  let c2_i32_158 : BitVec 32 := 2#32
  let c1_i32_155 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v233 : BitVec 32 := Scalar.subi c1_i32_155 v5
  let v236 : BitVec 32 := Scalar.muli c2_i32_158 v233
  let v237 : BitVec 32 := Scalar.addi v235 v236
  let c1_i32_156 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v234 : BitVec 32 := Scalar.subi c1_i32_156 v8
  let v238 : BitVec 32 := Scalar.addi v237 v234
  let c0_i32_165 : BitVec 32 := 0#32
  let c0_i32_166 : BitVec 32 := 0#32
  ![v238.toNat, 0, 0]
-- ==== WeightsReference.lean ====
abbrev S78848x1024 : Shape := ⟨2, ![78848, 1024]⟩
abbrev S8x9856x1024 : Shape := ⟨3, ![8, 9856, 1024]⟩

abbrev nBuf : Space → Nat
  | .hbm => 2
  | .vmem => 0
  | .smem => 0
  | _ => 0

abbrev bufTy : (tb : Table) → Fin (tcTables nBuf tb) → BufTy
  | .hbm, ⟨0, _⟩ => ⟨S78848x1024, .bf16⟩
  | .hbm, ⟨1, _⟩ => ⟨S8x9856x1024, .bf16⟩
  | _, _ => ⟨S78848x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Gains.lean ====
abbrev S64x1024 : Shape := ⟨2, ![64, 1024]⟩
abbrev S8x64x1024 : Shape := ⟨3, ![8, 64, 1024]⟩
abbrev S7 : Shape := ⟨1, ![7]⟩
abbrev S_ : Shape := ⟨0, ![]⟩
abbrev S1x64x1024 : Shape := ⟨3, ![1, 64, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v20 : BitVec 32 := Scalar.muli v2 c4_i32_11
  let v21 : BitVec 32 := Scalar.addi c0_i32_12 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v22 : BitVec 32 := Scalar.muli v5 c2_i32_13
  let v23 : BitVec 32 := Scalar.addi v21 v22
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_14 : BitVec 32 := 1#32
  let v24 : BitVec 32 := Scalar.muli v15 c1_i32_14
  let v25 : BitVec 32 := Scalar.addi v23 v24
  v25.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v37 : BitVec 32 := Scalar.muli v2 c4_i32_22
  let v38 : BitVec 32 := Scalar.addi c0_i32_23 v37
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_17 v5
  let c2_i32_24 : BitVec 32 := 2#32
  let v39 : BitVec 32 := Scalar.muli v32 c2_i32_24
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v41 : BitVec 32 := Scalar.muli v8 c1_i32_25
  let v42 : BitVec 32 := Scalar.addi v40 v41
  v42.toNat
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v49 : BitVec 32 := Scalar.subi c1_i32_28 v5
  let c2_i32_36 : BitVec 32 := 2#32
  let v57 : BitVec 32 := Scalar.muli v49 c2_i32_36
  let v58 : BitVec 32 := Scalar.addi v56 v57
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v50 : BitVec 32 := Scalar.subi c1_i32_29 v8
  let c1_i32_37 : BitVec 32 := 1#32
  let v59 : BitVec 32 := Scalar.muli v50 c1_i32_37
  let v60 : BitVec 32 := Scalar.addi v58 v59
  v60.toNat
def k0_dev4 (d0 : Dev nD) : Nat :=
  let c0_i32_45 : BitVec 32 := 0#32
  let c1_i32_40 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v67 : BitVec 32 := Scalar.subi c1_i32_40 v2
  let c4_i32_44 : BitVec 32 := 4#32
  let v72 : BitVec 32 := Scalar.muli v67 c4_i32_44
  let v73 : BitVec 32 := Scalar.addi c0_i32_45 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v74 : BitVec 32 := Scalar.muli v5 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_dev5 (d0 : Dev nD) : Nat :=
  let c0_i32_57 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_50 v2
  let c4_i32_56 : BitVec 32 := 4#32
  let v90 : BitVec 32 := Scalar.muli v84 c4_i32_56
  let v91 : BitVec 32 := Scalar.addi c0_i32_57 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v92 : BitVec 32 := Scalar.muli v5 c2_i32_58
  let v93 : BitVec 32 := Scalar.addi v91 v92
  let c1_i32_51 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_51 v8
  let c1_i32_59 : BitVec 32 := 1#32
  let v94 : BitVec 32 := Scalar.muli v85 c1_i32_59
  let v95 : BitVec 32 := Scalar.addi v93 v94
  v95.toNat
def k0_dev6 (d0 : Dev nD) : Nat :=
  let c0_i32_68 : BitVec 32 := 0#32
  let c1_i32_62 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v102 : BitVec 32 := Scalar.subi c1_i32_62 v2
  let c4_i32_67 : BitVec 32 := 4#32
  let v108 : BitVec 32 := Scalar.muli v102 c4_i32_67
  let v109 : BitVec 32 := Scalar.addi c0_i32_68 v108
  let c1_i32_63 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.subi c1_i32_63 v5
  let c2_i32_69 : BitVec 32 := 2#32
  let v110 : BitVec 32 := Scalar.muli v103 c2_i32_69
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v112 : BitVec 32 := Scalar.muli v8 c1_i32_70
  let v113 : BitVec 32 := Scalar.addi v111 v112
  v113.toNat
def k0_dev7 (d0 : Dev nD) : Nat :=
  let c0_i32_80 : BitVec 32 := 0#32
  let c1_i32_73 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v120 : BitVec 32 := Scalar.subi c1_i32_73 v2
  let c4_i32_79 : BitVec 32 := 4#32
  let v127 : BitVec 32 := Scalar.muli v120 c4_i32_79
  let v128 : BitVec 32 := Scalar.addi c0_i32_80 v127
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_74 v5
  let c2_i32_81 : BitVec 32 := 2#32
  let v129 : BitVec 32 := Scalar.muli v121 c2_i32_81
  let v130 : BitVec 32 := Scalar.addi v128 v129
  let c1_i32_75 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v122 : BitVec 32 := Scalar.subi c1_i32_75 v8
  let c1_i32_82 : BitVec 32 := 1#32
  let v131 : BitVec 32 := Scalar.muli v122 c1_i32_82
  let v132 : BitVec 32 := Scalar.addi v130 v131
  v132.toNat
def k0_off2 (d0 : Dev nD) : Fin 3 → Nat :=
  let c4_i32_86 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v140 : BitVec 32 := Scalar.muli c4_i32_86 v2
  let c2_i32_87 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v141 : BitVec 32 := Scalar.muli c2_i32_87 v5
  let v142 : BitVec 32 := Scalar.addi v140 v141
  let c1_i32_85 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v139 : BitVec 32 := Scalar.subi c1_i32_85 v8
  let v143 : BitVec 32 := Scalar.addi v142 v139
  let c0_i32_94 : BitVec 32 := 0#32
  let c0_i32_95 : BitVec 32 := 0#32
  ![v143.toNat, 0, 0]
def k0_off3 (d0 : Dev nD) : Fin 3 → Nat :=
  let c4_i32_97 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v155 : BitVec 32 := Scalar.muli c4_i32_97 v2
  let c2_i32_98 : BitVec 32 := 2#32
  let c1_i32_96 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.subi c1_i32_96 v5
  let v156 : BitVec 32 := Scalar.muli c2_i32_98 v154
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v158 : BitVec 32 := Scalar.addi v157 v8
  let c0_i32_105 : BitVec 32 := 0#32
  let c0_i32_106 : BitVec 32 := 0#32
  ![v158.toNat, 0, 0]
def k0_off4 (d0 : Dev nD) : Fin 3 → Nat :=
  let c4_i32_109 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v171 : BitVec 32 := Scalar.muli c4_i32_109 v2
  let c2_i32_110 : BitVec 32 := 2#32
  let c1_i32_107 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v169 : BitVec 32 := Scalar.subi c1_i32_107 v5
  let v172 : BitVec 32 := Scalar.muli c2_i32_110 v169
  let v173 : BitVec 32 := Scalar.addi v171 v172
  let c1_i32_108 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v170 : BitVec 32 := Scalar.subi c1_i32_108 v8
  let v174 : BitVec 32 := Scalar.addi v173 v170
  let c0_i32_117 : BitVec 32 := 0#32
  let c0_i32_118 : BitVec 32 := 0#32
  ![v174.toNat, 0, 0]
def k0_off5 (d0 : Dev nD) : Fin 3 → Nat :=
  let c4_i32_120 : BitVec 32 := 4#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v185 : BitVec 32 := Scalar.subi c1_i32_119 v2
  let v186 : BitVec 32 := Scalar.muli c4_i32_120 v185
  let c2_i32_121 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.muli c2_i32_121 v5
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v189 : BitVec 32 := Scalar.addi v188 v8
  let c0_i32_128 : BitVec 32 := 0#32
  let c0_i32_129 : BitVec 32 := 0#32
  ![v189.toNat, 0, 0]
def k0_off6 (d0 : Dev nD) : Fin 3 → Nat :=
  let c4_i32_132 : BitVec 32 := 4#32
  let c1_i32_130 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v200 : BitVec 32 := Scalar.subi c1_i32_130 v2
  let v202 : BitVec 32 := Scalar.muli c4_i32_132 v200
  let c2_i32_133 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.muli c2_i32_133 v5
  let v204 : BitVec 32 := Scalar.addi v202 v203
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v201 : BitVec 32 := Scalar.subi c1_i32_131 v8
  let v205 : BitVec 32 := Scalar.addi v204 v201
  let c0_i32_140 : BitVec 32 := 0#32
  let c0_i32_141 : BitVec 32 := 0#32
  ![v205.toNat, 0, 0]
def k0_off7 (d0 : Dev nD) : Fin 3 → Nat :=
  let c4_i32_144 : BitVec 32 := 4#32
  let c1_i32_142 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.subi c1_i32_142 v2
  let v218 : BitVec 32 := Scalar.muli c4_i32_144 v216
  let c2_i32_145 : BitVec 32 := 2#32
  let c1_i32_143 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.subi c1_i32_143 v5
  let v219 : BitVec 32 := Scalar.muli c2_i32_145 v217
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.addi v220 v8
  let c0_i32_152 : BitVec 32 := 0#32
  let c0_i32_153 : BitVec 32 := 0#32
  ![v221.toNat, 0, 0]
def k0_off8 (d0 : Dev nD) : Fin 3 → Nat :=
  let c4_i32_157 : BitVec 32 := 4#32
  let c1_i32_154 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.subi c1_i32_154 v2
  let v235 : BitVec 32 := Scalar.muli c4_i32_157 v232
  let c2_i32_158 : BitVec 32 := 2#32
  let c1_i32_155 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v233 : BitVec 32 := Scalar.subi c1_i32_155 v5
  let v236 : BitVec 32 := Scalar.muli c2_i32_158 v233
  let v237 : BitVec 32 := Scalar.addi v235 v236
  let c1_i32_156 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v234 : BitVec 32 := Scalar.subi c1_i32_156 v8
  let v238 : BitVec 32 := Scalar.addi v237 v234
  let c0_i32_165 : BitVec 32 := 0#32
  let c0_i32_166 : BitVec 32 := 0#32
  ![v238.toNat, 0, 0]
-- ==== GainsReference.lean ====
abbrev S512x1024 : Shape := ⟨2, ![512, 1024]⟩
abbrev S8x64x1024 : Shape := ⟨3, ![8, 64, 1024]⟩

abbrev nBuf : Space → Nat
  | .hbm => 2
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8x64x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Sum.lean ====
abbrev S8x9856x1024 : Shape := ⟨3, ![8, 9856, 1024]⟩
abbrev S9856x1024 : Shape := ⟨2, ![9856, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x9856x1024, .f32⟩
  | .hbm, ⟨1, _⟩ => ⟨S9856x1024, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | _, _ => ⟨S8x9856x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![154], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReferenceIdeal.lean ====
abbrev S8x9856x1024 : Shape := ⟨3, ![8, 9856, 1024]⟩
abbrev S_ : Shape := ⟨0, ![]⟩
abbrev S9856x1024 : Shape := ⟨2, ![9856, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x9856x1024, .f32⟩
  | .hbm, ⟨1, _⟩ => ⟨S_, .f32⟩
  | .hbm, ⟨2, _⟩ => ⟨S9856x1024, .f32⟩
  | _, _ => ⟨S8x9856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Update1x256.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update1x256Ideal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference1x256Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update1x512.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update1x512Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference1x512Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update1x2048.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update1x2048Ideal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference1x2048Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update2x2048.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update2x2048Ideal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference2x2048Ideal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update256x512.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update256x512Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference256x512Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update256x576.lean ====
abbrev S256x576 : Shape := ⟨2, ![256, 576]⟩

abbrev nBuf : Space → Nat
  | .hbm => 7
  | .vmem => 7
  | .smem => 0
  | _ => 0

abbrev bufTy : (tb : Table) → Fin (tcTables nBuf tb) → BufTy
  | .hbm, ⟨0, _⟩ => ⟨S256x576, .f32⟩
  | .hbm, ⟨1, _⟩ => ⟨S256x576, .f32⟩
  | .hbm, ⟨2, _⟩ => ⟨S256x576, .f32⟩
  | .hbm, ⟨3, _⟩ => ⟨S256x576, .f32⟩
  | .hbm, ⟨4, _⟩ => ⟨S256x576, .f32⟩
  | .hbm, ⟨5, _⟩ => ⟨S256x576, .f32⟩
  | .hbm, ⟨6, _⟩ => ⟨S256x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | _, _ => ⟨S256x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update256x576Ideal.lean ====
abbrev S256x576 : Shape := ⟨2, ![256, 576]⟩

abbrev nBuf : Space → Nat
  | .hbm => 7
  | .vmem => 7
  | .smem => 0
  | _ => 0

abbrev bufTy : (tb : Table) → Fin (tcTables nBuf tb) → BufTy
  | .hbm, ⟨0, _⟩ => ⟨S256x576, .f32⟩
  | .hbm, ⟨1, _⟩ => ⟨S256x576, .f32⟩
  | .hbm, ⟨2, _⟩ => ⟨S256x576, .f32⟩
  | .hbm, ⟨3, _⟩ => ⟨S256x576, .f32⟩
  | .hbm, ⟨4, _⟩ => ⟨S256x576, .f32⟩
  | .hbm, ⟨5, _⟩ => ⟨S256x576, .f32⟩
  | .hbm, ⟨6, _⟩ => ⟨S256x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | _, _ => ⟨S256x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference256x576Ideal.lean ====
abbrev S256x576 : Shape := ⟨2, ![256, 576]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x576, .f32⟩
  | .hbm, ⟨1, _⟩ => ⟨S256x576, .f32⟩
  | .hbm, ⟨2, _⟩ => ⟨S256x576, .f32⟩
  | .hbm, ⟨3, _⟩ => ⟨S256x576, .f32⟩
  | .hbm, ⟨4, _⟩ => ⟨S_, .f32⟩
  | .hbm, ⟨5, _⟩ => ⟨S256x576, .f32⟩
  | .hbm, ⟨6, _⟩ => ⟨S256x576, .f32⟩
  | .hbm, ⟨7, _⟩ => ⟨S_, .f32⟩
  | .hbm, ⟨8, _⟩ => ⟨S256x576, .f32⟩
  | .hbm, ⟨9, _⟩ => ⟨S256x576, .f32⟩
  | .hbm, ⟨10, _⟩ => ⟨S256x576, .f32⟩
  | .hbm, ⟨11, _⟩ => ⟨S_, .f32⟩
  | .hbm, ⟨12, _⟩ => ⟨S256x576, .f32⟩
  | .hbm, ⟨13, _⟩ => ⟨S256x576, .f32⟩
  | .hbm, ⟨14, _⟩ => ⟨S256x576, .f32⟩
  | .hbm, ⟨15, _⟩ => ⟨S_, .f32⟩
  | .hbm, ⟨16, _⟩ => ⟨S256x576, .f32⟩
  | .hbm, ⟨17, _⟩ => ⟨S256x576, .f32⟩
  | .hbm, ⟨18, _⟩ => ⟨S256x576, .f32⟩
  | .hbm, ⟨19, _⟩ => ⟨S_, .f32⟩
  | .hbm, ⟨20, _⟩ => ⟨S256x576, .f32⟩
  | .hbm, ⟨21, _⟩ => ⟨S256x576, .f32⟩
  | .hbm, ⟨22, _⟩ => ⟨S_, .f32⟩
  | .hbm, ⟨23, _⟩ => ⟨S256x576, .f32⟩
  | .hbm, ⟨24, _⟩ => ⟨S256x576, .f32⟩
  | .hbm, ⟨25, _⟩ => ⟨S256x576, .f32⟩
  | .hbm, ⟨26, _⟩ => ⟨S_, .f32⟩
  | .hbm, ⟨27, _⟩ => ⟨S256x576, .f32⟩
  | .hbm, ⟨28, _⟩ => ⟨S256x576, .f32⟩
  | .hbm, ⟨29, _⟩ => ⟨S256x576, .f32⟩
  | .hbm, ⟨30, _⟩ => ⟨S_, .f32⟩
  | .hbm, ⟨31, _⟩ => ⟨S256x576, .f32⟩
  | .hbm, ⟨32, _⟩ => ⟨S256x576, .f32⟩
  | .hbm, ⟨33, _⟩ => ⟨S256x576, .f32⟩
  | .hbm, ⟨34, _⟩ => ⟨S_, .f32⟩
  | .hbm, ⟨35, _⟩ => ⟨S256x576, .f32⟩
  | .hbm, ⟨36, _⟩ => ⟨S256x576, .f32⟩
  | _, _ => ⟨S256x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update256x2048.lean ====
abbrev S256x2048 : Shape := ⟨2, ![256, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Update256x2048Ideal.lean ====
abbrev S256x2048 : Shape := ⟨2, ![256, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateReference256x2048Ideal.lean ====
abbrev S256x2048 : Shape := ⟨2, ![256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update512x384.lean ====
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update512x384Ideal.lean ====
abbrev S512x384 : Shape := ⟨2, ![512, 384]⟩

abbrev nBuf : Space → Nat
  | .hbm => 7
  | .vmem => 7
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference512x384Ideal.lean ====
abbrev S512x384 : Shape := ⟨2, ![512, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S_, .f32⟩
  | .hbm, ⟨5, _⟩ => ⟨S512x384, .f32⟩
  | .hbm, ⟨6, _⟩ => ⟨S512x384, .f32⟩
  | .hbm, ⟨7, _⟩ => ⟨S_, .f32⟩
  | .hbm, ⟨8, _⟩ => ⟨S512x384, .f32⟩
  | .hbm, ⟨9, _⟩ => ⟨S512x384, .f32⟩
  | .hbm, ⟨10, _⟩ => ⟨S512x384, .f32⟩
  | .hbm, ⟨11, _⟩ => ⟨S_, .f32⟩
  | .hbm, ⟨12, _⟩ => ⟨S512x384, .f32⟩
  | .hbm, ⟨13, _⟩ => ⟨S512x384, .f32⟩
  | .hbm, ⟨14, _⟩ => ⟨S512x384, .f32⟩
  | .hbm, ⟨15, _⟩ => ⟨S_, .f32⟩
  | .hbm, ⟨16, _⟩ => ⟨S512x384, .f32⟩
  | .hbm, ⟨17, _⟩ => ⟨S512x384, .f32⟩
  | .hbm, ⟨18, _⟩ => ⟨S512x384, .f32⟩
  | .hbm, ⟨19, _⟩ => ⟨S_, .f32⟩
  | .hbm, ⟨20, _⟩ => ⟨S512x384, .f32⟩
  | .hbm, ⟨21, _⟩ => ⟨S512x384, .f32⟩
  | .hbm, ⟨22, _⟩ => ⟨S_, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S_, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S_, .f32⟩
  | .hbm, ⟨31, _⟩ => ⟨S512x384, .f32⟩
  | .hbm, ⟨32, _⟩ => ⟨S512x384, .f32⟩
  | .hbm, ⟨33, _⟩ => ⟨S512x384, .f32⟩
  | .hbm, ⟨34, _⟩ => ⟨S_, .f32⟩
  | .hbm, ⟨35, _⟩ => ⟨S512x384, .f32⟩
  | .hbm, ⟨36, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update512x512.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Update512x512Ideal.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateReference512x512Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update1408x2048.lean ====
abbrev S1408x2048 : Shape := ⟨2, ![1408, 2048]⟩
abbrev S88x2048 : Shape := ⟨2, ![88, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Update1408x2048Ideal.lean ====
abbrev S1408x2048 : Shape := ⟨2, ![1408, 2048]⟩
abbrev S88x2048 : Shape := ⟨2, ![88, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateReference1408x2048Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Update4096x704.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateReference4096x704Ideal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Grads.lean ====
abbrev S8x9856x1024 : Shape := ⟨3, ![8, 9856, 1024]⟩
abbrev S7 : Shape := ⟨1, ![7]⟩
abbrev S_ : Shape := ⟨0, ![]⟩
abbrev S1x9856x1024 : Shape := ⟨3, ![1, 9856, 1024]⟩
abbrev S9856x1024 : Shape := ⟨2, ![9856, 1024]⟩
abbrev S1 : Shape := ⟨1, ![1]⟩
abbrev S8x64x1024 : Shape := ⟨3, ![8, 64, 1024]⟩
abbrev S64x1024 : Shape := ⟨2, ![64, 1024]⟩
abbrev S1x64x1024 : Shape := ⟨3, ![1, 64, 1024]⟩
abbrev S10092544 : Shape := ⟨1, ![10092544]⟩
abbrev S131072 : Shape := ⟨1, ![131072]⟩
abbrev S1x4x64x512 : Shape := ⟨4, ![1, 4, 64, 512]⟩
abbrev S147456 : Shape := ⟨1, ![147456]⟩
abbrev S256x576 : Shape := ⟨2, ![256, 576]⟩
abbrev S262144 : Shape := ⟨1, ![262144]⟩
abbrev S512x512 : Shape := ⟨2, ![512, 512]⟩
abbrev S1x256x512 : Shape := ⟨3, ![1, 256, 512]⟩
abbrev S196608 : Shape := ⟨1, ![196608]⟩
abbrev S1x512x384 : Shape := ⟨3, ![1, 512, 384]⟩
abbrev S524288 : Shape := ⟨1, ![524288]⟩
abbrev S1x256x2048 : Shape := ⟨3, ![1, 256, 2048]⟩
abbrev S2883584 : Shape := ⟨1, ![2883584]⟩
abbrev S2x2048x704 : Shape := ⟨3, ![2, 2048, 704]⟩
abbrev S2x704x2048 : Shape := ⟨3, ![2, 704, 2048]⟩
abbrev S256 : Shape := ⟨1, ![256]⟩
abbrev S1x256 : Shape := ⟨2, ![1, 256]⟩

abbrev nBuf : Space → Nat
  | .hbm => 26
  | .vmem => 4
  | .smem => 0
  | _ => 0

abbrev bufTy : (tb : Table) → Fin (tcTables nBuf tb) → BufTy
  | .hbm, ⟨0, _⟩ => ⟨S8x9856x1024, .f32⟩
  | .hbm, ⟨1, _⟩ => ⟨S8x9856x1024, .f32⟩
  | .hbm, ⟨2, _⟩ => ⟨S9856x1024, .f32⟩
  | .hbm, ⟨3, _⟩ => ⟨S10092544, .f32⟩
  | .hbm, ⟨4, _⟩ => ⟨S131072, .f32⟩
  | .hbm, ⟨5, _⟩ => ⟨S1x4x64x512, .f32⟩
  | .hbm, ⟨6, _⟩ => ⟨S147456, .f32⟩
  | .hbm, ⟨7, _⟩ => ⟨S256x576, .f32⟩
  | .hbm, ⟨8, _⟩ => ⟨S262144, .f32⟩
  | .hbm, ⟨9, _⟩ => ⟨S512x512, .f32⟩
  | .hbm, ⟨10, _⟩ => ⟨S131072, .f32⟩
  | .hbm, ⟨11, _⟩ => ⟨S1x256x512, .f32⟩
  | .hbm, ⟨12, _⟩ => ⟨S196608, .f32⟩
  | .hbm, ⟨13, _⟩ => ⟨S1x512x384, .f32⟩
  | .hbm, ⟨14, _⟩ => ⟨S524288, .f32⟩
  | .hbm, ⟨15, _⟩ => ⟨S1x256x2048, .f32⟩
  | .hbm, ⟨16, _⟩ => ⟨S2883584, .f32⟩
  | .hbm, ⟨17, _⟩ => ⟨S2x2048x704, .f32⟩
  | .hbm, ⟨18, _⟩ => ⟨S2883584, .f32⟩
  | .hbm, ⟨19, _⟩ => ⟨S2x2048x704, .f32⟩
  | .hbm, ⟨20, _⟩ => ⟨S2883584, .f32⟩
  | .hbm, ⟨21, _⟩ => ⟨S2x704x2048, .f32⟩
  | .hbm, ⟨22, _⟩ => ⟨S256, .f32⟩
  | .hbm, ⟨23, _⟩ => ⟨S1x256, .f32⟩
  | .hbm, ⟨24, _⟩ => ⟨S256, .f32⟩
  | .hbm, ⟨25, _⟩ => ⟨S1x256, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | _, _ => ⟨S8x9856x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_v6 : Ref sig .tc := ⟨.hbm, 6, rfl⟩
abbrev main_v7 : Ref sig .tc := ⟨.hbm, 7, rfl⟩
abbrev main_v8 : Ref sig .tc := ⟨.hbm, 8, rfl⟩
abbrev main_v9 : Ref sig .tc := ⟨.hbm, 9, rfl⟩
abbrev main_v10 : Ref sig .tc := ⟨.hbm, 10, rfl⟩
abbrev main_v11 : Ref sig .tc := ⟨.hbm, 11, rfl⟩
abbrev main_v12 : Ref sig .tc := ⟨.hbm, 12, rfl⟩
abbrev main_v13 : Ref sig .tc := ⟨.hbm, 13, rfl⟩
abbrev main_v14 : Ref sig .tc := ⟨.hbm, 14, rfl⟩
abbrev main_v15 : Ref sig .tc := ⟨.hbm, 15, rfl⟩
abbrev main_v16 : Ref sig .tc := ⟨.hbm, 16, rfl⟩
abbrev main_v17 : Ref sig .tc := ⟨.hbm, 17, rfl⟩
abbrev main_v18 : Ref sig .tc := ⟨.hbm, 18, rfl⟩
abbrev main_v19 : Ref sig .tc := ⟨.hbm, 19, rfl⟩
abbrev main_v20 : Ref sig .tc := ⟨.hbm, 20, rfl⟩
abbrev main_v21 : Ref sig .tc := ⟨.hbm, 21, rfl⟩
abbrev main_v22 : Ref sig .tc := ⟨.hbm, 22, rfl⟩
abbrev main_v23 : Ref sig .tc := ⟨.hbm, 23, rfl⟩
abbrev main_v24 : Ref sig .tc := ⟨.hbm, 24, rfl⟩
abbrev main_v25 : Ref sig .tc := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_11 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v22 : BitVec 32 := Scalar.muli c4_i32_11 v15
  let c2_i32_12 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v23 : BitVec 32 := Scalar.muli c2_i32_12 v18
  let v24 : BitVec 32 := Scalar.addi v22 v23
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v25 : BitVec 32 := Scalar.addi v24 v21
  let c0_i32 : BitVec 32 := 0#32
  let c0_i32_13 : BitVec 32 := 0#32
  ![v25.toNat, 0, 0]
def k0_off2 (d0 : Dev nD) : Fin 3 → Nat :=
  let c4_i32_17 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v31 : BitVec 32 := Scalar.muli c4_i32_17 v15
  let c2_i32_18 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v32 : BitVec 32 := Scalar.muli c2_i32_18 v18
  let v33 : BitVec 32 := Scalar.addi v31 v32
  let c1_i32_16 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v30 : BitVec 32 := Scalar.subi c1_i32_16 v21
  let v34 : BitVec 32 := Scalar.addi v33 v30
  let c0_i32_29 : BitVec 32 := 0#32
  let c0_i32_30 : BitVec 32 := 0#32
  ![v34.toNat, 0, 0]
def k0_dev1 (d0 : Dev nD) : Nat :=
  let c0_i32_24 : BitVec 32 := 0#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let c4_i32_23 : BitVec 32 := 4#32
  let v39 : BitVec 32 := Scalar.muli v15 c4_i32_23
  let v40 : BitVec 32 := Scalar.addi c0_i32_24 v39
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let c2_i32_25 : BitVec 32 := 2#32
  let v41 : BitVec 32 := Scalar.muli v18 c2_i32_25
  let v42 : BitVec 32 := Scalar.addi v40 v41
  let c1_i32_16 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v30 : BitVec 32 := Scalar.subi c1_i32_16 v21
  let c1_i32_26 : BitVec 32 := 1#32
  let v43 : BitVec 32 := Scalar.muli v30 c1_i32_26
  let v44 : BitVec 32 := Scalar.addi v42 v43
  v44.toNat
def k0_off3 (d0 : Dev nD) : Fin 3 → Nat :=
  let c4_i32_32 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v54 : BitVec 32 := Scalar.muli c4_i32_32 v15
  let c2_i32_33 : BitVec 32 := 2#32
  let c1_i32_31 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v53 : BitVec 32 := Scalar.subi c1_i32_31 v18
  let v55 : BitVec 32 := Scalar.muli c2_i32_33 v53
  let v56 : BitVec 32 := Scalar.addi v54 v55
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v57 : BitVec 32 := Scalar.addi v56 v21
  let c0_i32_44 : BitVec 32 := 0#32
  let c0_i32_45 : BitVec 32 := 0#32
  ![v57.toNat, 0, 0]
def k0_dev2 (d0 : Dev nD) : Nat :=
  let c0_i32_39 : BitVec 32 := 0#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let c4_i32_38 : BitVec 32 := 4#32
  let v62 : BitVec 32 := Scalar.muli v15 c4_i32_38
  let v63 : BitVec 32 := Scalar.addi c0_i32_39 v62
  let c1_i32_31 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v53 : BitVec 32 := Scalar.subi c1_i32_31 v18
  let c2_i32_40 : BitVec 32 := 2#32
  let v64 : BitVec 32 := Scalar.muli v53 c2_i32_40
  let v65 : BitVec 32 := Scalar.addi v63 v64
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let c1_i32_41 : BitVec 32 := 1#32
  let v66 : BitVec 32 := Scalar.muli v21 c1_i32_41
  let v67 : BitVec 32 := Scalar.addi v65 v66
  v67.toNat
def k0_off4 (d0 : Dev nD) : Fin 3 → Nat :=
  let c4_i32_48 : BitVec 32 := 4#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v78 : BitVec 32 := Scalar.muli c4_i32_48 v15
  let c2_i32_49 : BitVec 32 := 2#32
  let c1_i32_46 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v76 : BitVec 32 := Scalar.subi c1_i32_46 v18
  let v79 : BitVec 32 := Scalar.muli c2_i32_49 v76
  let v80 : BitVec 32 := Scalar.addi v78 v79
  let c1_i32_47 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v77 : BitVec 32 := Scalar.subi c1_i32_47 v21
  let v81 : BitVec 32 := Scalar.addi v80 v77
  let c0_i32_60 : BitVec 32 := 0#32
  let c0_i32_61 : BitVec 32 := 0#32
  ![v81.toNat, 0, 0]
def k0_dev3 (d0 : Dev nD) : Nat :=
  let c0_i32_55 : BitVec 32 := 0#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let c4_i32_54 : BitVec 32 := 4#32
  let v86 : BitVec 32 := Scalar.muli v15 c4_i32_54
  let v87 : BitVec 32 := Scalar.addi c0_i32_55 v86
  let c1_i32_46 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v76 : BitVec 32 := Scalar.subi c1_i32_46 v18
  let c2_i32_56 : BitVec 32 := 2#32
  let v88 : BitVec 32 := Scalar.muli v76 c2_i32_56
  let v89 : BitVec 32 := Scalar.addi v87 v88
  let c1_i32_47 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v77 : BitVec 32 := Scalar.subi c1_i32_47 v21
  let c1_i32_57 : BitVec 32 := 1#32
  let v90 : BitVec 32 := Scalar.muli v77 c1_i32_57
  let v91 : BitVec 32 := Scalar.addi v89 v90
  v91.toNat
def k0_off5 (d0 : Dev nD) : Fin 3 → Nat :=
  let c4_i32_63 : BitVec 32 := 4#32
  let c1_i32_62 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v100 : BitVec 32 := Scalar.subi c1_i32_62 v15
  let v101 : BitVec 32 := Scalar.muli c4_i32_63 v100
  let c2_i32_64 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v102 : BitVec 32 := Scalar.muli c2_i32_64 v18
  let v103 : BitVec 32 := Scalar.addi v101 v102
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v104 : BitVec 32 := Scalar.addi v103 v21
  let c0_i32_74 : BitVec 32 := 0#32
  let c0_i32_75 : BitVec 32 := 0#32
  ![v104.toNat, 0, 0]
def k0_dev4 (d0 : Dev nD) : Nat :=
  let c0_i32_69 : BitVec 32 := 0#32
  let c1_i32_62 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v100 : BitVec 32 := Scalar.subi c1_i32_62 v15
  let c4_i32_68 : BitVec 32 := 4#32
  let v109 : BitVec 32 := Scalar.muli v100 c4_i32_68
  let v110 : BitVec 32 := Scalar.addi c0_i32_69 v109
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let c2_i32_70 : BitVec 32 := 2#32
  let v111 : BitVec 32 := Scalar.muli v18 c2_i32_70
  let v112 : BitVec 32 := Scalar.addi v110 v111
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let c1_i32_71 : BitVec 32 := 1#32
  let v113 : BitVec 32 := Scalar.muli v21 c1_i32_71
  let v114 : BitVec 32 := Scalar.addi v112 v113
  v114.toNat
def k0_off6 (d0 : Dev nD) : Fin 3 → Nat :=
  let c4_i32_78 : BitVec 32 := 4#32
  let c1_i32_76 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v123 : BitVec 32 := Scalar.subi c1_i32_76 v15
  let v125 : BitVec 32 := Scalar.muli c4_i32_78 v123
  let c2_i32_79 : BitVec 32 := 2#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v126 : BitVec 32 := Scalar.muli c2_i32_79 v18
  let v127 : BitVec 32 := Scalar.addi v125 v126
  let c1_i32_77 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v124 : BitVec 32 := Scalar.subi c1_i32_77 v21
  let v128 : BitVec 32 := Scalar.addi v127 v124
  let c0_i32_90 : BitVec 32 := 0#32
  let c0_i32_91 : BitVec 32 := 0#32
  ![v128.toNat, 0, 0]
def k0_dev5 (d0 : Dev nD) : Nat :=
  let c0_i32_85 : BitVec 32 := 0#32
  let c1_i32_76 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v123 : BitVec 32 := Scalar.subi c1_i32_76 v15
  let c4_i32_84 : BitVec 32 := 4#32
  let v133 : BitVec 32 := Scalar.muli v123 c4_i32_84
  let v134 : BitVec 32 := Scalar.addi c0_i32_85 v133
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let c2_i32_86 : BitVec 32 := 2#32
  let v135 : BitVec 32 := Scalar.muli v18 c2_i32_86
  let v136 : BitVec 32 := Scalar.addi v134 v135
  let c1_i32_77 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v124 : BitVec 32 := Scalar.subi c1_i32_77 v21
  let c1_i32_87 : BitVec 32 := 1#32
  let v137 : BitVec 32 := Scalar.muli v124 c1_i32_87
  let v138 : BitVec 32 := Scalar.addi v136 v137
  v138.toNat
def k0_off7 (d0 : Dev nD) : Fin 3 → Nat :=
  let c4_i32_94 : BitVec 32 := 4#32
  let c1_i32_92 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v147 : BitVec 32 := Scalar.subi c1_i32_92 v15
  let v149 : BitVec 32 := Scalar.muli c4_i32_94 v147
  let c2_i32_95 : BitVec 32 := 2#32
  let c1_i32_93 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v148 : BitVec 32 := Scalar.subi c1_i32_93 v18
  let v150 : BitVec 32 := Scalar.muli c2_i32_95 v148
  let v151 : BitVec 32 := Scalar.addi v149 v150
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v152 : BitVec 32 := Scalar.addi v151 v21
  let c0_i32_105 : BitVec 32 := 0#32
  let c0_i32_106 : BitVec 32 := 0#32
  ![v152.toNat, 0, 0]
def k0_dev6 (d0 : Dev nD) : Nat :=
  let c0_i32_100 : BitVec 32 := 0#32
  let c1_i32_92 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v147 : BitVec 32 := Scalar.subi c1_i32_92 v15
  let c4_i32_99 : BitVec 32 := 4#32
  let v157 : BitVec 32 := Scalar.muli v147 c4_i32_99
  let v158 : BitVec 32 := Scalar.addi c0_i32_100 v157
  let c1_i32_93 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v148 : BitVec 32 := Scalar.subi c1_i32_93 v18
  let c2_i32_101 : BitVec 32 := 2#32
  let v159 : BitVec 32 := Scalar.muli v148 c2_i32_101
  let v160 : BitVec 32 := Scalar.addi v158 v159
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let c1_i32_102 : BitVec 32 := 1#32
  let v161 : BitVec 32 := Scalar.muli v21 c1_i32_102
  let v162 : BitVec 32 := Scalar.addi v160 v161
  v162.toNat
def k0_off8 (d0 : Dev nD) : Fin 3 → Nat :=
  let c4_i32_110 : BitVec 32 := 4#32
  let c1_i32_107 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v171 : BitVec 32 := Scalar.subi c1_i32_107 v15
  let v174 : BitVec 32 := Scalar.muli c4_i32_110 v171
  let c2_i32_111 : BitVec 32 := 2#32
  let c1_i32_108 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v172 : BitVec 32 := Scalar.subi c1_i32_108 v18
  let v175 : BitVec 32 := Scalar.muli c2_i32_111 v172
  let v176 : BitVec 32 := Scalar.addi v174 v175
  let c1_i32_109 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v173 : BitVec 32 := Scalar.subi c1_i32_109 v21
  let v177 : BitVec 32 := Scalar.addi v176 v173
  let c0_i32_121 : BitVec 32 := 0#32
  let c0_i32_122 : BitVec 32 := 0#32
  ![v177.toNat, 0, 0]
def k0_dev7 (d0 : Dev nD) : Nat :=
  let c0_i32_116 : BitVec 32 := 0#32
  let c1_i32_107 : BitVec 32 := 1#32
  let v13 : BitVec 32 := Dev.word d0
  let c4_i32_6 : BitVec 32 := 4#32
  let v14 : BitVec 32 := Scalar.divsi v13 c4_i32_6
  let c2_i32_5 : BitVec 32 := 2#32
  let v15 : BitVec 32 := Scalar.remsi v14 c2_i32_5
  let v171 : BitVec 32 := Scalar.subi c1_i32_107 v15
  let c4_i32_115 : BitVec 32 := 4#32
  let v182 : BitVec 32 := Scalar.muli v171 c4_i32_115
  let v183 : BitVec 32 := Scalar.addi c0_i32_116 v182
  let c1_i32_108 : BitVec 32 := 1#32
  let v16 : BitVec 32 := Dev.word d0
  let c2_i32_8 : BitVec 32 := 2#32
  let v17 : BitVec 32 := Scalar.divsi v16 c2_i32_8
  let c2_i32_7 : BitVec 32 := 2#32
  let v18 : BitVec 32 := Scalar.remsi v17 c2_i32_7
  let v172 : BitVec 32 := Scalar.subi c1_i32_108 v18
  let c2_i32_117 : BitVec 32 := 2#32
  let v184 : BitVec 32 := Scalar.muli v172 c2_i32_117
  let v185 : BitVec 32 := Scalar.addi v183 v184
  let c1_i32_109 : BitVec 32 := 1#32
  let v19 : BitVec 32 := Dev.word d0
  let c1_i32_10 : BitVec 32 := 1#32
  let v20 : BitVec 32 := Scalar.divsi v19 c1_i32_10
  let c2_i32_9 : BitVec 32 := 2#32
  let v21 : BitVec 32 := Scalar.remsi v20 c2_i32_9
  let v173 : BitVec 32 := Scalar.subi c1_i32_109 v21
  let c1_i32_118 : BitVec 32 := 1#32
  let v186 : BitVec 32 := Scalar.muli v173 c1_i32_118
  let v187 : BitVec 32 := Scalar.addi v185 v186
  v187.toNat
abbrev grid1 : Pipeline.Grid := ⟨1, ![154], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== GradsReferenceIdeal.lean ====
abbrev S64x9856x1024 : Shape := ⟨3, ![64, 9856, 1024]⟩
abbrev S8x8x10092544 : Shape := ⟨3, ![8, 8, 10092544]⟩
abbrev S_ : Shape := ⟨0, ![]⟩
abbrev S8x10092544 : Shape := ⟨2, ![8, 10092544]⟩
abbrev S8x131072 : Shape := ⟨2, ![8, 131072]⟩
abbrev S8x1x4x64x512 : Shape := ⟨5, ![8, 1, 4, 64, 512]⟩
abbrev S1x4x8x64x512 : Shape := ⟨5, ![1, 4, 8, 64, 512]⟩
abbrev S1x4x512x512 : Shape := ⟨4, ![1, 4, 512, 512]⟩
abbrev S8x147456 : Shape := ⟨2, ![8, 147456]⟩
abbrev S8x256x576 : Shape := ⟨3, ![8, 256, 576]⟩
abbrev S2048x576 : Shape := ⟨2, ![2048, 576]⟩
abbrev S8x262144 : Shape := ⟨2, ![8, 262144]⟩
abbrev S8x512x512 : Shape := ⟨3, ![8, 512, 512]⟩
abbrev S512x8x512 : Shape := ⟨3, ![512, 8, 512]⟩
abbrev S512x4096 : Shape := ⟨2, ![512, 4096]⟩
abbrev S8x1x256x512 : Shape := ⟨4, ![8, 1, 256, 512]⟩
abbrev S1x8x256x512 : Shape := ⟨4, ![1, 8, 256, 512]⟩
abbrev S1x2048x512 : Shape := ⟨3, ![1, 2048, 512]⟩
abbrev S8x196608 : Shape := ⟨2, ![8, 196608]⟩
abbrev S8x1x512x384 : Shape := ⟨4, ![8, 1, 512, 384]⟩
abbrev S1x512x8x384 : Shape := ⟨4, ![1, 512, 8, 384]⟩
abbrev S1x512x3072 : Shape := ⟨3, ![1, 512, 3072]⟩
abbrev S8x524288 : Shape := ⟨2, ![8, 524288]⟩
abbrev S8x1x256x2048 : Shape := ⟨4, ![8, 1, 256, 2048]⟩
abbrev S1x8x256x2048 : Shape := ⟨4, ![1, 8, 256, 2048]⟩
abbrev S1x2048x2048 : Shape := ⟨3, ![1, 2048, 2048]⟩
abbrev S8x2883584 : Shape := ⟨2, ![8, 2883584]⟩
abbrev S8x2x2048x704 : Shape := ⟨4, ![8, 2, 2048, 704]⟩
abbrev S2x2048x8x704 : Shape := ⟨4, ![2, 2048, 8, 704]⟩
abbrev S2x2048x5632 : Shape := ⟨3, ![2, 2048, 5632]⟩
abbrev S8x2x704x2048 : Shape := ⟨4, ![8, 2, 704, 2048]⟩
abbrev S2x8x704x2048 : Shape := ⟨4, ![2, 8, 704, 2048]⟩
abbrev S2x5632x2048 : Shape := ⟨3, ![2, 5632, 2048]⟩
abbrev S8x256 : Shape := ⟨2, ![8, 256]⟩
abbrev S8x1x256 : Shape := ⟨3, ![8, 1, 256]⟩
abbrev S1x8x256 : Shape := ⟨3, ![1, 8, 256]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S64x9856x1024, .f32⟩
  | .hbm, ⟨1, _⟩ => ⟨S8x8x10092544, .f32⟩
  | .hbm, ⟨2, _⟩ => ⟨S_, .f32⟩
  | .hbm, ⟨3, _⟩ => ⟨S8x10092544, .f32⟩
  | .hbm, ⟨4, _⟩ => ⟨S8x131072, .f32⟩
  | .hbm, ⟨5, _⟩ => ⟨S8x1x4x64x512, .f32⟩
  | .hbm, ⟨6, _⟩ => ⟨S1x4x8x64x512, .f32⟩
  | .hbm, ⟨7, _⟩ => ⟨S1x4x512x512, .f32⟩
  | .hbm, ⟨8, _⟩ => ⟨S8x147456, .f32⟩
  | .hbm, ⟨9, _⟩ => ⟨S8x256x576, .f32⟩
  | .hbm, ⟨10, _⟩ => ⟨S2048x576, .f32⟩
  | .hbm, ⟨11, _⟩ => ⟨S8x262144, .f32⟩
  | .hbm, ⟨12, _⟩ => ⟨S8x512x512, .f32⟩
  | .hbm, ⟨13, _⟩ => ⟨S512x8x512, .f32⟩
  | .hbm, ⟨14, _⟩ => ⟨S512x4096, .f32⟩
  | .hbm, ⟨15, _⟩ => ⟨S8x131072, .f32⟩
  | .hbm, ⟨16, _⟩ => ⟨S8x1x256x512, .f32⟩
  | .hbm, ⟨17, _⟩ => ⟨S1x8x256x512, .f32⟩
  | .hbm, ⟨18, _⟩ => ⟨S1x2048x512, .f32⟩
  | .hbm, ⟨19, _⟩ => ⟨S8x196608, .f32⟩
  | .hbm, ⟨20, _⟩ => ⟨S8x1x512x384, .f32⟩
  | .hbm, ⟨21, _⟩ => ⟨S1x512x8x384, .f32⟩
  | .hbm, ⟨22, _⟩ => ⟨S1x512x3072, .f32⟩
  | .hbm, ⟨23, _⟩ => ⟨S8x524288, .f32⟩
  | .hbm, ⟨24, _⟩ => ⟨S8x1x256x2048, .f32⟩
  | .hbm, ⟨25, _⟩ => ⟨S1x8x256x2048, .f32⟩
  | .hbm, ⟨26, _⟩ => ⟨S1x2048x2048, .f32⟩
  | .hbm, ⟨27, _⟩ => ⟨S8x2883584, .f32⟩
  | .hbm, ⟨28, _⟩ => ⟨S8x2x2048x704, .f32⟩
  | .hbm, ⟨29, _⟩ => ⟨S2x2048x8x704, .f32⟩
  | .hbm, ⟨30, _⟩ => ⟨S2x2048x5632, .f32⟩
  | .hbm, ⟨31, _⟩ => ⟨S8x2883584, .f32⟩
  | .hbm, ⟨32, _⟩ => ⟨S8x2x2048x704, .f32⟩
  | .hbm, ⟨33, _⟩ => ⟨S2x2048x8x704, .f32⟩
  | .hbm, ⟨34, _⟩ => ⟨S2x2048x5632, .f32⟩
  | .hbm, ⟨35, _⟩ => ⟨S8x2883584, .f32⟩
  | .hbm, ⟨36, _⟩ => ⟨S8x2x704x2048, .f32⟩
  | .hbm, ⟨37, _⟩ => ⟨S2x8x704x2048, .f32⟩
  | .hbm, ⟨38, _⟩ => ⟨S2x5632x2048, .f32⟩
  | .hbm, ⟨39, _⟩ => ⟨S8x256, .f32⟩
  | .hbm, ⟨40, _⟩ => ⟨S8x1x256, .f32⟩
  | .hbm, ⟨41, _⟩ => ⟨S1x8x256, .f32⟩
  | .hbm, ⟨42, _⟩ => ⟨S1x2048, .f32⟩
  | .hbm, ⟨43, _⟩ => ⟨S8x256, .f32⟩
  | .hbm, ⟨44, _⟩ => ⟨S8x1x256, .f32⟩
  | .hbm, ⟨45, _⟩ => ⟨S1x8x256, .f32⟩
  | .hbm, ⟨46, _⟩ => ⟨S1x2048, .f32⟩
  | _, _ => ⟨S64x9856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩

abbrev nD : Nat := 1
abbrev τ : Topo := Topo.v7x

variable {F : FTy → Type} [FloatOps F]
-- ==== GradX.lean ====
abbrev S8192x2048 : Shape := ⟨2, ![8192, 2048]⟩
abbrev S1x2048 : Shape := ⟨2, ![1, 2048]⟩
abbrev S256x2048 : Shape := ⟨2, ![256, 2048]⟩
abbrev S16x2048 : Shape := ⟨2, ![16, 2048]⟩
abbrev S272x2048 : Shape := ⟨2, ![272, 2048]⟩
abbrev S272x1 : Shape := ⟨2, ![272, 1]⟩
abbrev S272x512 : Shape := ⟨2, ![272, 512]⟩
abbrev S256x512 : Shape := ⟨2, ![256, 512]⟩
abbrev S256 : Shape := ⟨1, ![256]⟩
abbrev S256x1 : Shape := ⟨2, ![256, 1]⟩
abbrev S2048 : Shape := ⟨1, ![2048]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S16x2048, .f32⟩
  | .local _ .vmem, ⟨6, _⟩ => ⟨S16x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradXReferenceIdeal.lean ====
abbrev S8192x2048 : Shape := ⟨2, ![8192, 2048]⟩
abbrev S1x2048 : Shape := ⟨2, ![1, 2048]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8192x512 : Shape := ⟨2, ![8192, 512]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192, .i32⟩
  | .hbm, ⟨5, _⟩ => ⟨S1x8192, .i32⟩
  | .hbm, ⟨6, _⟩ => ⟨S8192x1, .i32⟩
  | .hbm, ⟨7, _⟩ => ⟨S8192x8192, .i32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .f32⟩
  | .hbm, ⟨14, _⟩ => ⟨S8192x1, .f32⟩
  | .hbm, ⟨15, _⟩ => ⟨S8192x512, .f32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .i32⟩
  | .hbm, ⟨33, _⟩ => ⟨S8192x8192, .i32⟩
  | .hbm, ⟨34, _⟩ => ⟨S8192x8192, .i1⟩
  | .hbm, ⟨35, _⟩ => ⟨S_, .i32⟩
  | .hbm, ⟨36, _⟩ => ⟨S8192x8192, .i32⟩
  | .hbm, ⟨37, _⟩ => ⟨S8192x8192, .i1⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .i32⟩
  | .hbm, ⟨49, _⟩ => ⟨S8192x8192, .i32⟩
  | .hbm, ⟨50, _⟩ => ⟨S8192x8192, .i1⟩
  | .hbm, ⟨51, _⟩ => ⟨S_, .i32⟩
  | .hbm, ⟨52, _⟩ => ⟨S8192x8192, .i32⟩
  | .hbm, ⟨53, _⟩ => ⟨S8192x8192, .i1⟩
  | .hbm, ⟨54, _⟩ => ⟨S8192x8192, .i1⟩
  | .hbm, ⟨55, _⟩ => ⟨S8192x8192, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .i32⟩
  | .hbm, ⟨65, _⟩ => ⟨S8192x8192, .i32⟩
  | .hbm, ⟨66, _⟩ => ⟨S8192x8192, .i1⟩
  | .hbm, ⟨67, _⟩ => ⟨S_, .i32⟩
  | .hbm, ⟨68, _⟩ => ⟨S8192x8192, .i32⟩
  | .hbm, ⟨69, _⟩ => ⟨S8192x8192, .i1⟩
  | .hbm, ⟨70, _⟩ => ⟨S8192x8192, .i1⟩
  | .hbm, ⟨71, _⟩ => ⟨S8192x8192, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩

abbrev nD : Nat := 1
abbrev τ : Topo := Topo.v7x

variable {F : FTy → Type} [FloatOps F]
-- ==== LossHead.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x128, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x128, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== PoolPre.lean ====
abbrev S8192x2048 : Shape := ⟨2, ![8192, 2048]⟩
abbrev S1x2048 : Shape := ⟨2, ![1, 2048]⟩
abbrev S256x2048 : Shape := ⟨2, ![256, 2048]⟩
abbrev S16x2048 : Shape := ⟨2, ![16, 2048]⟩
abbrev S272x2048 : Shape := ⟨2, ![272, 2048]⟩
abbrev S272 : Shape := ⟨1, ![272]⟩
abbrev S272x1 : Shape := ⟨2, ![272, 1]⟩
abbrev S256x1 : Shape := ⟨2, ![256, 1]⟩
abbrev S272x512 : Shape := ⟨2, ![272, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolPreReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x512 : Shape := ⟨2, ![8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .f32⟩
  | .hbm, ⟨27, _⟩ => ⟨S8192x1, .f32⟩
  | .hbm, ⟨28, _⟩ => ⟨S8192x512, .f32⟩
  | .hbm, ⟨29, _⟩ => ⟨S_, .i32⟩
  | .hbm, ⟨30, _⟩ => ⟨S8192x8192, .i32⟩
  | .hbm, ⟨31, _⟩ => ⟨S8192x8192, .i1⟩
  | .hbm, ⟨32, _⟩ => ⟨S_, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x8192, .f32⟩
  | .hbm, ⟨37, _⟩ => ⟨S8192x512, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .i32⟩
  | .hbm, ⟨46, _⟩ => ⟨S8192x8192, .i32⟩
  | .hbm, ⟨47, _⟩ => ⟨S8192x8192, .i1⟩
  | .hbm, ⟨48, _⟩ => ⟨S_, .i32⟩
  | .hbm, ⟨49, _⟩ => ⟨S8192x8192, .i32⟩
  | .hbm, ⟨50, _⟩ => ⟨S8192x8192, .i1⟩
  | .hbm, ⟨51, _⟩ => ⟨S8192x8192, .i1⟩
  | .hbm, ⟨52, _⟩ => ⟨S8192x8192, .f32⟩
  | .hbm, ⟨53, _⟩ => ⟨S8192x512, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .i32⟩
  | .hbm, ⟨62, _⟩ => ⟨S8192x8192, .i32⟩
  | .hbm, ⟨63, _⟩ => ⟨S8192x8192, .i1⟩
  | .hbm, ⟨64, _⟩ => ⟨S_, .i32⟩
  | .hbm, ⟨65, _⟩ => ⟨S8192x8192, .i32⟩
  | .hbm, ⟨66, _⟩ => ⟨S8192x8192, .i1⟩
  | .hbm, ⟨67, _⟩ => ⟨S8192x8192, .i1⟩
  | .hbm, ⟨68, _⟩ => ⟨S8192x8192, .f32⟩
  | .hbm, ⟨69, _⟩ => ⟨S8192x512, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S_, .i32⟩
  | .hbm, ⟨78, _⟩ => ⟨S8192x8192, .i32⟩
  | .hbm, ⟨79, _⟩ => ⟨S8192x8192, .i1⟩
  | .hbm, ⟨80, _⟩ => ⟨S_, .i32⟩
  | .hbm, ⟨81, _⟩ => ⟨S8192x8192, .i32⟩
  | .hbm, ⟨82, _⟩ => ⟨S8192x8192, .i1⟩
  | .hbm, ⟨83, _⟩ => ⟨S8192x8192, .i1⟩
  | .hbm, ⟨84, _⟩ => ⟨S8192x8192, .f32⟩
  | .hbm, ⟨85, _⟩ => ⟨S8192x512, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S8192x2048, .f32⟩
  | .hbm, ⟨93, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_c_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_8 : Ref sig .tc := ⟨.hbm, 61, rfl⟩
abbrev main_v49 : Ref sig .tc := ⟨.hbm, 62, rfl⟩
abbrev main_v50 : Ref sig .tc := ⟨.hbm, 63, rfl⟩
abbrev main_c_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_11 : Ref sig .tc := ⟨.hbm, 77, rfl⟩
abbrev main_v62 : Ref sig .tc := ⟨.hbm, 78, rfl⟩
abbrev main_v63 : Ref sig .tc := ⟨.hbm, 79, rfl⟩
abbrev main_c_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== PoolMix.lean ====
abbrev S8192x2048 : Shape := ⟨2, ![8192, 2048]⟩
abbrev S4x512x512 : Shape := ⟨3, ![4, 512, 512]⟩
abbrev S1x2048 : Shape := ⟨2, ![1, 2048]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S1x2048, .f32⟩
  | .hbm, ⟨3, _⟩ => ⟨S8192x2048, .f32⟩
  | .hbm, ⟨4, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolMixReferenceIdeal.lean ====
abbrev S8192x2048 : Shape := ⟨2, ![8192, 2048]⟩
abbrev S4x512x512 : Shape := ⟨3, ![4, 512, 512]⟩
abbrev S1x2048 : Shape := ⟨2, ![1, 2048]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S1x2048, .f32⟩
  | .hbm, ⟨3, _⟩ => ⟨S8192x2048, .f32⟩
  | .hbm, ⟨4, _⟩ => ⟨S8192x512, .bf16⟩
  | .hbm, ⟨5, _⟩ => ⟨S8192x512, .f32⟩
  | .hbm, ⟨6, _⟩ => ⟨S1x512x512, .bf16⟩
  | .hbm, ⟨7, _⟩ => ⟨S512x512, .bf16⟩
  | .hbm, ⟨8, _⟩ => ⟨S512x512, .f32⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S1x512x512, .bf16⟩
  | .hbm, ⟨13, _⟩ => ⟨S512x512, .bf16⟩
  | .hbm, ⟨14, _⟩ => ⟨S512x512, .f32⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S1x512x512, .bf16⟩
  | .hbm, ⟨19, _⟩ => ⟨S512x512, .bf16⟩
  | .hbm, ⟨20, _⟩ => ⟨S512x512, .f32⟩
  | .hbm, ⟨21, _⟩ => ⟨S8192x512, .f32⟩
  | .hbm, ⟨22, _⟩ => ⟨S8192x512, .bf16⟩
  | .hbm, ⟨23, _⟩ => ⟨S8192x512, .f32⟩
  | .hbm, ⟨24, _⟩ => ⟨S1x512x512, .bf16⟩
  | .hbm, ⟨25, _⟩ => ⟨S512x512, .bf16⟩
  | .hbm, ⟨26, _⟩ => ⟨S512x512, .f32⟩
  | .hbm, ⟨27, _⟩ => ⟨S8192x512, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== PoolMixBwd.lean ====
abbrev S8192x2048 : Shape := ⟨2, ![8192, 2048]⟩
abbrev S4x512x512 : Shape := ⟨3, ![4, 512, 512]⟩
abbrev S1x2048 : Shape := ⟨2, ![1, 2048]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S4x512x512, .f32⟩
  | .hbm, ⟨6, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S1x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PoolMixBwdReferenceIdeal.lean ====
abbrev S8192x2048 : Shape := ⟨2, ![8192, 2048]⟩
abbrev S4x512x512 : Shape := ⟨3, ![4, 512, 512]⟩
abbrev S1x2048 : Shape := ⟨2, ![1, 2048]⟩
abbrev S8192x512 : Shape := ⟨2, ![8192, 512]⟩
abbrev S1x512x512 : Shape := ⟨3, ![1, 512, 512]⟩
abbrev S512x512 : Shape := ⟨2, ![512, 512]⟩
abbrev S1x512 : Shape := ⟨2, ![1, 512]⟩
abbrev S512x8192 : Shape := ⟨2, ![512, 8192]⟩
abbrev S_ : Shape := ⟨0, ![]⟩
abbrev S512 : Shape := ⟨1, ![512]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .bf16⟩
  | .hbm, ⟨2, _⟩ => ⟨S1x2048, .f32⟩
  | .hbm, ⟨3, _⟩ => ⟨S8192x2048, .f32⟩
  | .hbm, ⟨4, _⟩ => ⟨S8192x512, .bf16⟩
  | .hbm, ⟨5, _⟩ => ⟨S8192x512, .f32⟩
  | .hbm, ⟨6, _⟩ => ⟨S1x512x512, .bf16⟩
  | .hbm, ⟨7, _⟩ => ⟨S512x512, .bf16⟩
  | .hbm, ⟨8, _⟩ => ⟨S512x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S512x512, .f32⟩
  | .hbm, ⟨14, _⟩ => ⟨S8192x512, .f32⟩
  | .hbm, ⟨15, _⟩ => ⟨S512x8192, .f32⟩
  | .hbm, ⟨16, _⟩ => ⟨S512x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S8192x512, .bf16⟩
  | .hbm, ⟨23, _⟩ => ⟨S8192x512, .f32⟩
  | .hbm, ⟨24, _⟩ => ⟨S1x512x512, .bf16⟩
  | .hbm, ⟨25, _⟩ => ⟨S512x512, .bf16⟩
  | .hbm, ⟨26, _⟩ => ⟨S512x512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S512x512, .f32⟩
  | .hbm, ⟨32, _⟩ => ⟨S8192x512, .f32⟩
  | .hbm, ⟨33, _⟩ => ⟨S512x8192, .f32⟩
  | .hbm, ⟨34, _⟩ => ⟨S512x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S8192x512, .bf16⟩
  | .hbm, ⟨41, _⟩ => ⟨S8192x512, .f32⟩
  | .hbm, ⟨42, _⟩ => ⟨S1x512x512, .bf16⟩
  | .hbm, ⟨43, _⟩ => ⟨S512x512, .bf16⟩
  | .hbm, ⟨44, _⟩ => ⟨S512x512, .f32⟩
  | .hbm, ⟨45, _⟩ => ⟨S8192x512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S512x512, .f32⟩
  | .hbm, ⟨50, _⟩ => ⟨S8192x512, .f32⟩
  | .hbm, ⟨51, _⟩ => ⟨S512x8192, .f32⟩
  | .hbm, ⟨52, _⟩ => ⟨S512x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S8192x512, .bf16⟩
  | .hbm, ⟨59, _⟩ => ⟨S8192x512, .f32⟩
  | .hbm, ⟨60, _⟩ => ⟨S1x512x512, .bf16⟩
  | .hbm, ⟨61, _⟩ => ⟨S512x512, .bf16⟩
  | .hbm, ⟨62, _⟩ => ⟨S512x512, .f32⟩
  | .hbm, ⟨63, _⟩ => ⟨S8192x512, .f32⟩
  | .hbm, ⟨64, _⟩ => ⟨S1x512, .f32⟩
  | .hbm, ⟨65, _⟩ => ⟨S8192x512, .f32⟩
  | .hbm, ⟨66, _⟩ => ⟨S8192x512, .f32⟩
  | .hbm, ⟨67, _⟩ => ⟨S512x512, .f32⟩
  | .hbm, ⟨68, _⟩ => ⟨S8192x512, .f32⟩
  | .hbm, ⟨69, _⟩ => ⟨S512x8192, .f32⟩
  | .hbm, ⟨70, _⟩ => ⟨S512x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8192x2048, .f32⟩
  | .hbm, ⟨77, _⟩ => ⟨S1x512x512, .f32⟩
  | .hbm, ⟨78, _⟩ => ⟨S1x512x512, .f32⟩
  | .hbm, ⟨79, _⟩ => ⟨S1x512x512, .f32⟩
  | .hbm, ⟨80, _⟩ => ⟨S1x512x512, .f32⟩
  | .hbm, ⟨81, _⟩ => ⟨S4x512x512, .f32⟩
  | .hbm, ⟨82, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_0 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_2 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩

abbrev nD : Nat := 1
abbrev τ : Topo := Topo.v7x

variable {F : FTy → Type} [FloatOps F]
-- ==== FfnNorm.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnUp.lean ====
abbrev S8192x2048 : Shape := ⟨2, ![8192, 2048]⟩
abbrev S2048x5632 : Shape := ⟨2, ![2048, 5632]⟩
abbrev S8192x5632 : Shape := ⟨2, ![8192, 5632]⟩
abbrev S512x512 : Shape := ⟨2, ![512, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x5632, .f32⟩
  | .hbm, ⟨4, _⟩ => ⟨S8192x5632, .f32⟩
  | .hbm, ⟨5, _⟩ => ⟨S8192x5632, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnUpReferenceIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDact.lean ====
abbrev S8192x2048 : Shape := ⟨2, ![8192, 2048]⟩
abbrev S5632x2048 : Shape := ⟨2, ![5632, 2048]⟩
abbrev S8192x5632 : Shape := ⟨2, ![8192, 5632]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S5632x2048, .bf16⟩
  | .hbm, ⟨2, _⟩ => ⟨S8192x5632, .f32⟩
  | .hbm, ⟨3, _⟩ => ⟨S8192x5632, .f32⟩
  | .hbm, ⟨4, _⟩ => ⟨S8192x5632, .bf16⟩
  | .hbm, ⟨5, _⟩ => ⟨S8192x5632, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDactReferenceIdeal.lean ====
abbrev S8192x2048 : Shape := ⟨2, ![8192, 2048]⟩
abbrev S5632x2048 : Shape := ⟨2, ![5632, 2048]⟩
abbrev S8192x5632 : Shape := ⟨2, ![8192, 5632]⟩
abbrev S2048x5632 : Shape := ⟨2, ![2048, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .bf16⟩
  | .hbm, ⟨2, _⟩ => ⟨S8192x5632, .f32⟩
  | .hbm, ⟨3, _⟩ => ⟨S8192x5632, .f32⟩
  | .hbm, ⟨4, _⟩ => ⟨S5632x2048, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .bf16⟩
  | .hbm, ⟨26, _⟩ => ⟨S8192x5632, .f32⟩
  | .hbm, ⟨27, _⟩ => ⟨S8192x5632, .f32⟩
  | .hbm, ⟨28, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== FfnDwd.lean ====
abbrev S8192x5632 : Shape := ⟨2, ![8192, 5632]⟩
abbrev S8192x2048 : Shape := ⟨2, ![8192, 2048]⟩
abbrev S5632x2048 : Shape := ⟨2, ![5632, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdReferenceIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8192x5632, .f32⟩
  | .hbm, ⟨3, _⟩ => ⟨S5632x8192, .f32⟩
  | .hbm, ⟨4, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDh.lean ====
abbrev S8192x5632 : Shape := ⟨2, ![8192, 5632]⟩
abbrev S2048x5632 : Shape := ⟨2, ![2048, 5632]⟩
abbrev S8192x2048 : Shape := ⟨2, ![8192, 2048]⟩
abbrev S512x512 : Shape := ⟨2, ![512, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 11], ![false, false, false]⟩

def k0_cond2 (i : grid0.Coords) : BitVec 1 :=
  let arg2 : BitVec 32 := BitVec.ofNat 32 (i 2).val
  let c10_i32 : BitVec 32 := 10#32
  let v15 : BitVec 1 := Scalar.cmpi .eq arg2 c10_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDhReferenceIdeal.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x5632, .f32⟩
  | .hbm, ⟨5, _⟩ => ⟨S2048x5632, .f32⟩
  | .hbm, ⟨6, _⟩ => ⟨S5632x2048, .f32⟩
  | .hbm, ⟨7, _⟩ => ⟨S8192x2048, .f32⟩
  | .hbm, ⟨8, _⟩ => ⟨S8192x5632, .f32⟩
  | .hbm, ⟨9, _⟩ => ⟨S2048x5632, .f32⟩
  | .hbm, ⟨10, _⟩ => ⟨S5632x2048, .f32⟩
  | .hbm, ⟨11, _⟩ => ⟨S8192x2048, .f32⟩
  | .hbm, ⟨12, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnDwg.lean ====
abbrev S8192x2048 : Shape := ⟨2, ![8192, 2048]⟩
abbrev S8192x5632 : Shape := ⟨2, ![8192, 5632]⟩
abbrev S2048x5632 : Shape := ⟨2, ![2048, 5632]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwgReferenceIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S2048x8192, .f32⟩
  | .hbm, ⟨4, _⟩ => ⟨S8192x5632, .f32⟩
  | .hbm, ⟨5, _⟩ => ⟨S2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnNormBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnNormBwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== AttnDelta.lean ====
abbrev S8192x2048 : Shape := ⟨2, ![8192, 2048]⟩
abbrev S16x8192x1 : Shape := ⟨3, ![16, 8192, 1]⟩
abbrev S512x128 : Shape := ⟨2, ![512, 128]⟩
abbrev S1x512x1 : Shape := ⟨3, ![1, 512, 1]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S16x8192x1, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S1x512x1, .f32⟩
  | .local _ .vmem, ⟨5, _⟩ => ⟨S1x512x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnDeltaReferenceIdeal.lean ====
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S16x8192 : Shape := ⟨2, ![16, 8192]⟩
abbrev S16x8192x1 : Shape := ⟨3, ![16, 8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x16x128, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S_, .f32⟩
  | .hbm, ⟨8, _⟩ => ⟨S8192x16, .f32⟩
  | .hbm, ⟨9, _⟩ => ⟨S16x8192, .f32⟩
  | .hbm, ⟨10, _⟩ => ⟨S16x8192x1, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Exchange.lean ====
/-
# An exchange between all pairs of devices, over pairwise links

Every device holds one piece for every device. Link `k` of device `c` joins it with `peer k c`, whose link `k` joins it with `c`;
the links and the device itself reach every device once. A device copies its own piece into its own slot, sends over each link the
piece for the device at the other end into the slot that device keeps for it, and waits: for what its links deliver, for its own
sends to have been read, and for its own copy.

Per device there is one cell for each send, one for each receive and one for the copy, and each is credited once: the send and the copy cell by the
device itself, the receive cell of link `k` by `peer k c`. This file states that schedule with the contents of every landing, over any
program signature, and gives one rule for each of the three steps.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A device's cells: its sends, its receives, its own copy. -/
abbrev Cell (n : ℕ) : Type := Fin n ⊕ Fin n ⊕ Unit

abbrev snd {n : ℕ} (k : Fin n) : Cell n := .inl k
abbrev rcv {n : ℕ} (k : Fin n) : Cell n := .inr (.inl k)
abbrev loc {n : ℕ} : Cell n := .inr (.inr ())

/-- The semaphore behind each cell. -/
def semOf {sig : RefSig} {n : ℕ} (sendS recvS : Fin n → DmaSem sig) (locS : DmaSem sig) : Cell n → SemLoc sig
  | .inl k => .dma (sendS k)
  | .inr (.inl k) => .dma (recvS k)
  | .inr (.inr _) => .dma locS

/-- The links, the views of the pieces and slots, and the semaphores of an exchange. -/
structure Net (nD : ℕ) (sig : RefSig) where
  n : ℕ
  s : Shape
  e : EltTy
  /-- The piece for device `j`; the slot of device `j`. -/
  src : Dev nD → Memref sig .tc .hbm s e
  dst : Dev nD → Memref sig .tc .hbm s e
  sendS : Fin n → DmaSem sig
  recvS : Fin n → DmaSem sig
  locS : DmaSem sig
  sem_inj : Function.Injective (semOf sendS recvS locS)
  peer : Fin n → Dev nD → Dev nD
  invol : ∀ k c, peer k (peer k c) = c
  all : ∀ c, Function.Bijective (Sum.elim (fun k => peer k c) (fun _ : Unit => c))
  /-- What a landing credits. -/
  amt : ℕ
  amt_pos : 0 < amt
  credit : ∀ j, (dst j).view.dmaCredit = amt

variable {nD : ℕ} {τ : Topo} {sig : RefSig} {Val : EltTy → Type}

/-- The contents exchanged: what each device's pieces hold (each at a share), what each slot holds at the end, and that a landing makes it so. -/
structure Load (τ : Topo) (Val : EltTy → Type) (X : Net nD sig) where
  q : Dev nD → PosShare TreeShare
  sv : (c j : Dev nD) → Buf Val ((X.src j).view.loc (c : Thread nD τ))
  ov : (j d : Dev nD) → Buf Val ((X.dst j).view.loc (d : Thread nD τ))
  lands : ∀ (j d : Dev nD) (fd : Buf Val ((X.dst j).view.loc (d : Thread nD τ))), ∀ i ∈ (X.dst j).view.set,
    (X.dst j).view.write Val fd ((X.src d).view.read Val (sv j d)) Finset.univ i = ov j d i

abbrev UU (nD : ℕ) (τ : Topo) (sig : RefSig) : Type := UR sig nD τ × UR sig nD τ

local notation "𝕄" => MT nD τ sig Unit Val ℕ (UU nD τ sig) ℕ

theorem big_insert {I : Type} [DecidableEq I] {S : Finset I} {i : I} (h : i ∉ S) (Φ : I → sProp 𝕄) :
    bigSep (insert i S) Φ = iprop(Φ i ∗ bigSep S Φ) := BI.bigSep_insert h
theorem big_erase {I : Type} [DecidableEq I] {S : Finset I} {i : I} (h : i ∈ S) (Φ : I → sProp 𝕄) :
    bigSep S Φ = iprop(Φ i ∗ bigSep (S.erase i) Φ) := BI.bigSep_erase h
theorem big_empty {I : Type} (Φ : I → sProp 𝕄) : bigSep ∅ Φ = iprop(emp) := BI.bigSep_empty

/-- The copy of the algebra the exchange's cells live in. -/
abbrev ER : Emb (UR sig nD τ) (MT nD τ sig Unit Val ℕ (UU nD τ sig) ℕ) := embR

section Schedule

variable (X : Net nD sig) (D : Load τ Val X)

abbrev Net.sem : Cell X.n → SemLoc sig := semOf X.sendS X.recvS X.locS
abbrev Net.cell (c : Dev nD) (k : Cell X.n) : GSem nD τ sig := ((c : Thread nD τ), X.sem k)

/-- Device `c`'s piece for `j`; -/
def srcPts (c j : Dev nD) : sProp 𝕄 := (X.src j).view.loc (c : Thread nD τ) ↦[(X.src j).view.set]{D.q j} D.sv c j
/-- device `d`'s slot for what `j` sends, at `f`. -/
def dstPts (d j : Dev nD) (f : Buf Val ((X.dst j).view.loc (d : Thread nD τ))) : sProp 𝕄 :=
  (X.dst j).view.loc (d : Thread nD τ) ↦[(X.dst j).view.set]{fullShare} f

/-- What a cell's one credit brings its owner. -/
def pay (c : Dev nD) : Cell X.n → sProp 𝕄
  | .inl k => srcPts X D c (X.peer k c)
  | .inr (.inl k) => dstPts X c (X.peer k c) (D.ov (X.peer k c) c)
  | .inr (.inr _) => iprop(dstPts X c c (D.ov c c) ∗ srcPts X D c c)

theorem pay_peer (c : Dev nD) (k : Fin X.n) : pay X D (X.peer k c) (rcv k) = dstPts X (X.peer k c) c (D.ov c (X.peer k c)) := by
  show dstPts X (X.peer k c) (X.peer k (X.peer k c)) (D.ov (X.peer k (X.peer k c)) (X.peer k c)) = _
  rw [X.invol]

instance pay_storable (c : Dev nD) (k : Cell X.n) : BI.Storable (upEmb : UEmb _ 𝕄) (pay X D c k) := by
  rcases k with k | k | k <;> (simp only [pay, srcPts, dstPts]; infer_instance)

open Classical in
/-- One round of one duty on every cell. -/
def sched : Rounds.Schedule (GSem nD τ sig) Unit 𝕄 where
  duties g r := if r = 0 ∧ g.1.2 = .tc ∧ ∃ k, X.sem k = g.2 then {()} else ∅
  unitless _ := False
  amount _ _ _ := X.amt
  payload g _ _ := if h : ∃ k, X.sem k = g.2 then pay X D g.1.1 h.choose else iprop(emp)
  amount_pos _ _ _ _ := X.amt_pos

instance sched_storable (g : GSem nD τ sig) (r : ℕ) (d : Unit) : BI.Storable (upEmb : UEmb _ 𝕄) ((sched X D).payload g r d) := by
  unfold sched; dsimp only
  split <;> infer_instance

theorem duties_cell (c : Dev nD) (k : Cell X.n) : (sched X D).duties (X.cell c k) 0 = {()} := by
  unfold sched; exact if_pos ⟨rfl, rfl, k, rfl⟩
theorem duties_later (g : GSem nD τ sig) (r : ℕ) (h : 1 ≤ r) : (sched X D).duties g r = ∅ := by
  unfold sched; exact if_neg fun h' => by omega
theorem amount_cell (c : Dev nD) (k : Cell X.n) (u : Unit) : (sched X D).amount (X.cell c k) 0 u = X.amt := rfl
theorem expect_cell (c : Dev nD) (k : Cell X.n) : (sched X D).expect (X.cell c k) 0 = X.amt := by
  unfold Schedule.expect Schedule.amountOf; rw [duties_cell, Finset.sum_singleton]; rfl
theorem payload_cell (c : Dev nD) (k : Cell X.n) (u : Unit) : (sched X D).payload (X.cell c k) 0 u = pay X D c k := by
  have h : ∃ k', X.sem k' = (X.cell (τ := τ) c k).2 := ⟨k, rfl⟩
  unfold sched; dsimp only; rw [dif_pos h]
  exact congrArg (pay X D c) (X.sem_inj h.choose_spec)
theorem rest_cell (c : Dev nD) (k : Cell X.n) :
    bigSep ((sched X D).duties (X.cell c k) 0 \ ∅) (fun u => (sched X D).payload (X.cell c k) 0 u) = pay X D c k := by
  rw [Finset.sdiff_empty, duties_cell, bigSep_singleton, payload_cell]

/-- What device `c` owes at launch: the credit of every receive cell it pays. -/
abbrev owed (c : Dev nD) (S : Finset (Fin X.n)) : CellTallies nD τ sig Unit := ∑ k ∈ S, tallyAt (X.cell (X.peer k c) (rcv k)) () X.amt

abbrev ow (c : Dev nD) (O : CellTallies nD τ sig Unit) : sProp 𝕄 := iprop(∃ W, owes (c : Thread nD τ) O W)

variable (κ : Dev nD × Cell X.n → ℕ)

abbrev inv (c : Dev nD) (k : Cell X.n) : sProp 𝕄 := cellInv ER (sched X D) (κ (c, k)) (X.cell c k)
abbrev at0 (c : Dev nD) (k : Cell X.n) : sProp 𝕄 := atPos ER (X.cell c k) 0 ∅ 0
abbrev tok (c : Dev nD) (k : Cell X.n) : sProp 𝕄 := dutyTok ER (X.cell c k) 0 ()
abbrev mark (c : Dev nD) (k : Cell X.n) : sProp 𝕄 := reached ER (X.cell c k) 0
abbrev crd (c : Dev nD) (k : Cell X.n) : sProp 𝕄 := cred (tallyAt (X.cell c k) () X.amt)

/-- What device `c` copies its own piece with; what it sends over link `k` with; what it waits on a cell with; what a wait leaves. -/
def copyRes (c : Dev nD) : sProp 𝕄 :=
  iprop(inv X D κ c loc ∗ at0 X c loc ∗ srcPts X D c c ∗ (∃ f, dstPts X c c f) ∗ tok X c loc ∗ mark X c loc)
def sendRes (c : Dev nD) (k : Fin X.n) : sProp 𝕄 :=
  iprop(inv X D κ c (snd k) ∗ at0 X c (snd k) ∗ inv X D κ (X.peer k c) (rcv k) ∗ srcPts X D c (X.peer k c) ∗ (∃ f, dstPts X (X.peer k c) c f)
    ∗ tok X c (snd k) ∗ mark X c (snd k) ∗ tok X (X.peer k c) (rcv k) ∗ mark X (X.peer k c) (rcv k))
def ready (c : Dev nD) (k : Cell X.n) : sProp 𝕄 := iprop(inv X D κ c k ∗ at0 X c k ∗ crd X c k)
def got (c : Dev nD) (k : Cell X.n) : sProp 𝕄 := iprop(pay X D c k ∗ semVal (X.cell c k) 0)

/-- Where device `c` stands: the sends to be made, the waits it has the credit for, the waits done. -/
def state (c : Dev nD) (S : Finset (Fin X.n)) (R G : Finset (Cell X.n)) : sProp 𝕄 :=
  iprop(bigSep S (sendRes X D κ c) ∗ bigSep R (ready X D κ c) ∗ bigSep G (got X D c) ∗ ow c (owed X c S))

/-- The waits a device has the credit for once it has started its copy: its receives and the copy. -/
def rcvs : Fin X.n ↪ Cell X.n := ⟨rcv, fun _ _ h => Sum.inl.inj (Sum.inr.inj h)⟩
def waits₀ : Finset (Cell X.n) := insert loc (Finset.univ.map (rcvs X))
theorem loc_notMem : (loc : Cell X.n) ∉ Finset.univ.map (rcvs X) := by
  rw [Finset.mem_map]; rintro ⟨k, -, h⟩; cases h

/-- What a device starts from, and what it ends with. -/
def start (c : Dev nD) : sProp 𝕄 :=
  iprop(copyRes X D κ c ∗ bigSep Finset.univ (sendRes X D κ c) ∗ bigSep Finset.univ (fun k => ready X D κ c (rcv k)) ∗ ow c (owed X c Finset.univ))
def finish (c : Dev nD) : sProp 𝕄 := iprop(bigSep Finset.univ (got X D c) ∗ ow c 0)

theorem state_finish (c : Dev nD) : state X D κ c ∅ ∅ Finset.univ ⊢ finish X D c := by
  unfold state finish owed
  rw [Finset.sum_empty]
  iintro ⟨-, -, H, HO⟩
  isplitl [H] <;> iassumption

theorem state_done {κ : Dev nD × Cell X.n → ℕ} {c : Dev nD} {S : Finset (Fin X.n)} {R G : Finset (Cell X.n)} (hS : S = ∅) (hR : R = ∅) (hG : G = Finset.univ) :
    state X D κ c S R G ⊢ finish X D c := by
  subst hS hR hG; exact state_finish X D κ c

end Schedule

/-! ## The three steps -/

section Steps

variable (X : Net nD sig) (D : Load τ Val X) (κ : Dev nD × Cell X.n → ℕ)
variable {Λ : Labels} (defs : Defs nD τ sig Val Λ) (𝒱 : Variants)
variable {α : Type}

/-- The copy of the own piece. -/
theorem copy_step (c : Dev nD) {src dst : Memref sig .tc .hbm X.s X.e} {sm : DmaSem sig}
    (hs : src = X.src c) (hd : dst = X.dst c) (hsm : sm = X.locS)
    {hsrc : src.view.WordExact} {hdst : dst.view.WordExact} {hsem : DmaTarget.Typed (nD := nD) (p := (.tc : Proc τ)) .hbm (.dma sm) (.here dst)}
    {k : PUnit → Prog (TpuEff nD τ sig Val Λ .tc) α} {Q : α → sProp 𝕄} :
    start X D κ c ⊢ iprop((state X D κ c Finset.univ (waits₀ X) ∅ -∗ wp frame (wpE defs 𝒱 (c : Thread nD τ) none) Set.univ (k ⟨⟩) Q)
      -∗ wp frame (wpE defs 𝒱 (c : Thread nD τ) none) Set.univ (.op (.enqueueDma src (.here dst) (.dma sm) hsrc hdst hsem) k) Q) := by
  subst hs hd hsm
  unfold start copyRes
  iintro ⟨⟨#HI, Hat, Hsrc, ⟨%f, Hdst⟩, Ht, #Hm⟩, HS, HR, HO⟩ Hk
  unfold srcPts dstPts
  iapply (Rounds.wp_copy_pointsTo 𝒱 ER (sched X D) (c : Thread nD τ) none (κ := κ (c, loc)) (sem := .dma X.locS) (d := ()) (r := 0)
    (by rw [show (((c : Thread nD τ), SemLoc.dma X.locS) : GSem nD τ sig) = X.cell c loc from rfl, duties_cell]; exact Finset.mem_singleton_self _) () X.amt (X.credit c) rfl
    (by
      rw [show (((c : Thread nD τ), SemLoc.dma X.locS) : GSem nD τ sig) = X.cell c loc from rfl, payload_cell]
      unfold pay dstPts srcPts
      rw [pointsTo_congr (D.lands c c f)])) $$ [Hsrc Hdst Ht]
  · isplitr; · iexact HI
    isplitl [Hsrc]; · iexact Hsrc
    isplitl [Hdst]; · iexact Hdst
    isplitl [Ht]; · iexact Ht
    iexact Hm
  iintro Hc
  iapply Hk
  unfold state waits₀
  rw [big_insert (loc_notMem X), bigSep_map, big_empty]
  simp only [rcvs, Function.Embedding.coeFn_mk]
  isplitl [HS]; · iexact HS
  isplitr [HO]
  · isplitl [Hat Hc]
    · unfold ready
      isplitr; · iexact HI
      isplitl [Hat]; · iexact Hat
      iexact Hc
    · iexact HR
  isplitr; · iempintro
  iexact HO

/-- The send over link `k`, to a device `p` that is `peer k c`. -/
theorem send_step (c : Dev nD) (k : Fin X.n) {S : Finset (Fin X.n)} {R G : Finset (Cell X.n)} (hk : k ∈ S) (hR : snd k ∉ R) {p : Dev nD} (hp : p = X.peer k c)
    {src dst : Memref sig .tc .hbm X.s X.e} {sS sR : DmaSem sig}
    (hs : src = X.src (X.peer k c)) (hd : dst = X.dst c) (hsS : sS = X.sendS k) (hsR : sR = X.recvS k)
    {hsc : dst.view.ref.isScScratch = false}
    {hsrc : src.view.WordExact} {hdst : dst.view.WordExact}
    {hsem : DmaTarget.Typed .hbm (.dma sR) (.remote (p := (.tc : Proc τ)) (Dev.tc p : Thread nD τ) dst (.dma sS) hsc)}
    {kt : PUnit → Prog (TpuEff nD τ sig Val Λ .tc) α} {Q : α → sProp 𝕄} :
    state X D κ c S R G ⊢ iprop((state X D κ c (S.erase k) (insert (snd k) R) G -∗ wp frame (wpE defs 𝒱 (c : Thread nD τ) none) Set.univ (kt ⟨⟩) Q)
      -∗ wp frame (wpE defs 𝒱 (c : Thread nD τ) none) Set.univ
          (.op (.enqueueDma src (.remote (Dev.tc p : Thread nD τ) dst (.dma sS) hsc) (.dma sR) hsrc hdst hsem) kt) Q) := by
  subst hp hs hd hsS hsR
  unfold state
  rw [big_erase hk]
  unfold sendRes
  iintro ⟨⟨⟨#HI, Hat, #HI', Hsrc, ⟨%f, Hdst⟩, Ht, #Hm, Ht', #Hm'⟩, HS⟩, HR, HG, ⟨%W, HO⟩⟩ Hk
  unfold srcPts dstPts
  iapply (Rounds.wp_send_pointsTo 𝒱 ER (sched X D) (c : Thread nD τ) none (c' := (X.peer k c : Thread nD τ)) (κ₁ := κ (c, snd k)) (κ₂ := κ (X.peer k c, rcv k))
    (sS := .dma (X.sendS k)) (sem := .dma (X.recvS k)) (r₁ := 0) (r₂ := 0) (d₁ := ()) (d₂ := ()) (fd := f)
    (by rw [show (((c : Thread nD τ), SemLoc.dma (X.sendS k)) : GSem nD τ sig) = X.cell c (snd k) from rfl, duties_cell]; exact Finset.mem_singleton_self _)
    (by rw [show (((X.peer k c : Thread nD τ), SemLoc.dma (X.recvS k)) : GSem nD τ sig) = X.cell (X.peer k c) (rcv k) from rfl, duties_cell]; exact Finset.mem_singleton_self _)
    () () X.amt (X.credit c) rfl rfl (owed X c (S.erase k)) (Finset.sum_erase_add S _ hk).symm (W := W)
    (by
      rw [show (((c : Thread nD τ), SemLoc.dma (X.sendS k)) : GSem nD τ sig) = X.cell c (snd k) from rfl, payload_cell]
      exact BI.Entails.refl _)
    (by
      rw [show (((X.peer k c : Thread nD τ), SemLoc.dma (X.recvS k)) : GSem nD τ sig) = X.cell (X.peer k c) (rcv k) from rfl, payload_cell, pay_peer]
      unfold dstPts
      rw [pointsTo_congr (D.lands c (X.peer k c) f)])) $$ [Hsrc Hdst Ht Ht' HO]
  · isplitr; · iexact HI
    isplitr; · iexact HI'
    isplitl [Hsrc]; · iexact Hsrc
    isplitl [Hdst]; · iexact Hdst
    isplitl [HO]; · iexact HO
    isplitl [Ht]; · iexact Ht
    isplitr; · iexact Hm
    isplitl [Ht']; · iexact Ht'
    iexact Hm'
  iintro ⟨Hc, HO⟩
  iapply Hk
  rw [big_insert hR]
  isplitl [HS]; · iexact HS
  isplitl [Hat Hc HR]
  · isplitl [Hat Hc]
    · unfold ready
      isplitr; · iexact HI
      isplitl [Hat]; · iexact Hat
      iexact Hc
    · iexact HR
  isplitl [HG]; · iexact HG
  iexists W; iexact HO

/-- A wait on a cell, every send made: its payload, and its counter back at zero. -/
theorem wait_step (c : Dev nD) (k : Cell X.n) {R G : Finset (Cell X.n)} (hk : k ∈ R) (hG : k ∉ G) {sm : DmaSem sig} (hsm : .dma sm = X.sem k)
    {sp : Space} {s' : Shape} {e' : EltTy}
    {sp₂ : Space} {s₂ : Shape} {e₂ : EltTy} {src : Memref sig .tc sp s' e'} {dst : Memref sig .tc sp₂ s₂ e₂} (hd : dst.view.dmaCredit = X.amt) {hsrc : src.view.WordExact} {hdst : dst.view.WordExact}
    {kt : PUnit → Prog (TpuEff nD τ sig Val Λ .tc) α} {Q : α → sProp 𝕄} :
    state X D κ c ∅ R G ⊢ iprop((state X D κ c ∅ (R.erase k) (insert k G) -∗ wp frame (wpE defs 𝒱 (c : Thread nD τ) none) Set.univ (kt ⟨⟩) Q)
      -∗ wp frame (wpE defs 𝒱 (c : Thread nD τ) none) Set.univ (.op (.waitDma2 sm src dst hsrc hdst) kt) Q) := by
  unfold state
  rw [big_erase hk]
  unfold ready owed
  rw [Finset.sum_empty]
  iintro ⟨-, ⟨⟨#HI, Hat, Hc⟩, HR⟩, HG, ⟨%W, HO⟩⟩ Hk
  iapply (Rounds.wp_wait_rest_token 𝒱 ER (sched X D) (c : Thread nD τ) none (sm := X.sem k) (κ := κ (c, k))
    (k' := X.amt) (by rw [← hsm, ← hd]; exact wpE_waitDma2_eq 𝒱 (c : Thread nD τ) none Set.univ)
    (Set.mem_univ _) () (O := 0) (W := W) (R := 0) (m := 0) (T := ∅) (by rw [Nat.zero_add]; exact (expect_cell X D c k).symm)) $$ [Hat Hc HO]
  · isplitr; · iexact HI
    isplitl [Hc]; · iexact Hc
    isplitl [HO]; · iexact HO
    isplitr; · rw [MayWait_zero]; iempintro
    iexact Hat
  iintro ⟨HO, Hat, -, Hp⟩
  ihave Hp' := (Entails.of_eq (rest_cell X D c k)) $$ Hp
  iapply (fupd_wp frame (wpE defs 𝒱 (c : Thread nD τ) none) Set.univ _ _)
  imod (Rounds.cell_close ER (sched X D) (g := X.cell c k) (Set.mem_univ (κ (c, k))) id (R := 0 + 1) (duties_later X D _)) $$ [Hat] with Hz
  · isplitr; · iexact HI
    iexact Hat
  imodintro
  iapply Hk
  rw [big_insert hG, big_empty]
  isplitr; · iempintro
  isplitl [HR]; · iexact HR
  isplitl [Hp' Hz HG]
  · isplitl [Hp' Hz]
    · unfold got
      isplitl [Hp'] <;> iassumption
    · iexact HG
  iexists _; iexact HO

end Steps

end Cert.Exchange

end
-- ==== Proof.ExchangeDeal.lean ====
/-
# What an exchange starts from, dealt out of the whole machine's holdings, and what it ends with, put together

Before any device runs, all counters at zero and the ghost state of all cells give every cell's invariant; every slot goes to the
device that writes it, every receive cell's duty to the device that pays it. At the end a device has its pieces and its slots back.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type}

local notation "𝕄" => MT nD τ sig Unit Val ℕ (UU nD τ sig) ℕ

section Regroup

variable (X : Net nD sig)

/-- A device's cells are its sends, its receives and its copy. -/
theorem cells_split (Φ : Cell X.n → sProp 𝕄) :
    bigSep Finset.univ Φ = iprop((bigSep Finset.univ fun k => Φ (snd k)) ∗ (bigSep Finset.univ fun k => Φ (rcv k)) ∗ Φ loc) := by
  have h : bigSep Finset.univ (fun u : Unit => Φ (.inr (.inr u))) = Φ loc := by
    rw [show (Finset.univ : Finset Unit) = {()} from rfl, bigSep_singleton]
  rw [BI.bigSep_univ_sum, BI.bigSep_univ_sum (fun b => Φ (.inr b)), h]
  rfl

/-- Every device is at the other end of one link, or is the device itself. -/
theorem devs_split (c : Dev nD) (Φ : Dev nD → sProp 𝕄) :
    bigSep Finset.univ Φ = iprop((bigSep Finset.univ fun k => Φ (X.peer k c)) ∗ Φ c) := by
  have h : bigSep Finset.univ (fun u : Unit => Φ c) = Φ c := by
    rw [show (Finset.univ : Finset Unit) = {()} from rfl, bigSep_singleton]
  rw [BI.bigSep_univ_equiv (Equiv.ofBijective _ (X.all c)) Φ, BI.bigSep_univ_sum]
  rw [show bigSep Finset.univ (fun b : Unit => Φ (Equiv.ofBijective _ (X.all c) (.inr b))) = Φ c from h]
  rfl

theorem swap {A B : Type} [Fintype A] [Fintype B] (Φ : A → B → sProp 𝕄) :
    (bigSep Finset.univ fun a => bigSep Finset.univ fun b => Φ a b) = bigSep Finset.univ fun b => bigSep Finset.univ fun a => Φ a b := by
  rw [← BI.bigSep_univ_prod (fun p : A × B => Φ p.1 p.2), ← BI.bigSep_univ_prod (fun p : B × A => Φ p.2 p.1),
    BI.bigSep_univ_equiv (Equiv.prodComm B A) (fun p : A × B => Φ p.1 p.2)]
  rfl

/-- What is listed by a link's one end is what is listed by its other. -/
theorem cross (Φ : Fin X.n → Dev nD → Dev nD → sProp 𝕄) :
    (bigSep Finset.univ fun c => bigSep Finset.univ fun k => Φ k c (X.peer k c))
      = bigSep Finset.univ fun c => bigSep Finset.univ fun k => Φ k (X.peer k c) c := by
  rw [swap]
  conv_rhs => rw [swap]
  refine bigSep_congr fun k _ => ?_
  rw [BI.bigSep_univ_equiv (⟨X.peer k, X.peer k, X.invol k, X.invol k⟩ : Dev nD ≃ Dev nD) (fun c => Φ k c (X.peer k c))]
  refine bigSep_congr fun c _ => ?_
  show Φ k (X.peer k c) (X.peer k (X.peer k c)) = _
  rw [X.invol]

theorem take {I : Type} [Fintype I] [DecidableEq I] (i : I) (Φ : I → sProp 𝕄) : bigSep Finset.univ Φ ⊢ Φ i :=
  BI.bigSep_elim (Finset.mem_univ i)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Regroup

section Deal

variable (X : Net nD sig) (D : Load τ Val X)

/-! ## The launch credit -/

theorem cell_inj {c d : Dev nD} {k l : Cell X.n} (h : X.cell (τ := τ) c k = X.cell d l) : c = d ∧ k = l :=
  ⟨Fin.ext (congrArg (fun g : GSem nD τ sig => g.1.1.val) h), X.sem_inj (congrArg Prod.snd h)⟩

theorem owed_at (d c : Dev nD) (k : Fin X.n) :
    owed (τ := τ) X d Finset.univ (X.cell c (rcv k)) () = if d = X.peer k c then X.amt else 0 := by
  unfold owed
  rw [Finset.sum_apply, Finsupp.finset_sum_apply]
  have h (k' : Fin X.n) : tallyAt (X.cell (τ := τ) (X.peer k' d) (rcv k')) () X.amt (X.cell c (rcv k)) ()
      = if k' = k then (if d = X.peer k c then X.amt else 0) else 0 := by
    by_cases hk : k' = k
    · subst hk
      rw [if_pos rfl, tallyAt_apply]
      by_cases hd : d = X.peer k' c
      · subst hd; rw [X.invol, if_pos ⟨rfl, rfl⟩, if_pos rfl]
      · rw [if_neg hd, if_neg]
        rintro ⟨h, -⟩
        exact hd (by rw [(cell_inj X h).1, X.invol])
    · rw [if_neg hk, tallyAt_ne_cell]
      · rfl
      · intro h
        exact hk (Sum.inl.inj (Sum.inr.inj (cell_inj X h).2)).symm
  rw [Finset.sum_congr rfl fun k' _ => h k', Finset.sum_ite_eq' Finset.univ k, if_pos (Finset.mem_univ _)]

theorem launch_at (c : Dev nD) (k : Fin X.n) :
    tallyOn (X.cell (τ := τ) c (rcv k)) (launchCredit (Pipeline.owing fun c => owed X c Finset.univ) 0 (X.cell (τ := τ) c (rcv k)))
      = (tallyAt (X.cell c (rcv k)) () X.amt : CellTallies nD τ sig Unit) := by
  unfold tallyAt; refine congrArg _ (Finsupp.ext fun u => ?_); cases u
  rw [Pipeline.launchCredit_owing, Finsupp.single_eq_same, Finset.sum_congr rfl fun d _ => owed_at X d c k,
    Finset.sum_ite_eq' Finset.univ (X.peer k c) fun _ => X.amt, if_pos (Finset.mem_univ _)]

/-- A device's launch credit holds what its receives wait with. -/
theorem creds (c : Dev nD) :
    (Pipeline.launchCred (fun c => owed X c Finset.univ) c : sProp 𝕄) ⊢ bigSep Finset.univ fun k => crd X c (rcv k) := by
  classical
  unfold Pipeline.launchCred
  have hinj : Function.Injective fun k : Fin X.n => X.sem (rcv k) := fun a b h => Sum.inl.inj (Sum.inr.inj (X.sem_inj h))
  refine (BI.bigSep_subset (Finset.subset_univ (Finset.univ.map ⟨_, hinj⟩))).trans ?_
  rw [BI.bigSep_map]
  refine Entails.of_eq (bigSep_congr fun k _ => ?_)
  exact congrArg _ (launch_at X c k)

/-! ## The cells opened -/

/-- All cells of all devices. -/
def cellAt : Dev nD × Cell X.n ↪ GSem nD τ sig := ⟨fun ck => X.cell ck.1 ck.2, fun a b h => Prod.ext (cell_inj X h).1 (cell_inj X h).2⟩
def cellToks : Dev nD × Cell X.n ↪ GSem nD τ sig × ℕ × Unit := ⟨fun ck => (X.cell ck.1 ck.2, 0, ()), fun a b h => (cellAt X).injective (congrArg Prod.fst h)⟩

/-- The exchange's part of the launch element. -/
def launchElt : UR sig nD τ := initOf (Finset.univ.map (cellAt X)) (Finset.univ.map (cellToks X))

variable (κ : Dev nD × Cell X.n → ℕ)

/-- What every device may consult: every cell's invariant, and that round 0 is reached. -/
def records : sProp 𝕄 :=
  iprop((bigSep Finset.univ fun ck : Dev nD × Cell X.n => inv X D κ ck.1 ck.2) ∗ bigSep Finset.univ fun ck : Dev nD × Cell X.n => mark X ck.1 ck.2)

instance records_persistent : BI.Persistent (records X D κ) := by unfold records; infer_instance

theorem inv_of (c : Dev nD) (k : Cell X.n) : records X D κ ⊢ inv X D κ c k := by
  unfold records
  iintro ⟨#H, -⟩
  iapply (take (c, k) (fun ck : Dev nD × Cell X.n => inv X D κ ck.1 ck.2))
  iexact H

theorem mark_of (c : Dev nD) (k : Cell X.n) : records X D κ ⊢ mark X c k := by
  unfold records
  iintro ⟨-, #H⟩
  iapply (take (c, k) (fun ck : Dev nD × Cell X.n => (mark X ck.1 ck.2 : sProp 𝕄)))
  iexact H

/-- The counters at zero and the launch element open every cell. -/
theorem open_cells {E : Set ℕ} :
    iprop((bigSep Finset.univ fun c : Dev nD => bigSep Finset.univ fun k => semVal (X.cell c k) 0) ∗ BI.own ((ER : Emb _ 𝕄) (launchElt X)))
      ⊢ |={E}=> iprop(∃ κ, records X D κ ∗ (bigSep Finset.univ fun c : Dev nD => bigSep Finset.univ fun k => at0 X c k)
          ∗ bigSep Finset.univ fun c : Dev nD => bigSep Finset.univ fun k => tok X c k) := by
  iintro ⟨Hz, Hu⟩
  unfold launchElt
  imod (Rounds.fund ER (sched X D) (Finset.univ.map (cellAt X)) (Finset.univ.map (cellToks X))) $$ Hu with ⟨Hst, #Hr, Hat, Htok⟩
  ihave Hst' := (Entails.of_eq (BI.bigSep_map (cellAt X) (s := Finset.univ) (Φ := fun g => roundState ER (sched X D) g 0))) $$ Hst
  ihave Hr' := (Entails.of_eq (BI.bigSep_map (cellAt X) (s := Finset.univ) (Φ := fun g => (reached ER g 0 : sProp 𝕄)))) $$ Hr
  ihave Hat' := (Entails.of_eq ((BI.bigSep_map (cellAt X) (s := Finset.univ) (Φ := fun g => (atPos ER g 0 ∅ 0 : sProp 𝕄))).trans (BI.bigSep_univ_prod _))) $$ Hat
  ihave Htok' := (Entails.of_eq ((BI.bigSep_map (cellToks X) (s := Finset.univ) (Φ := fun x => (dutyTok ER x.1 x.2.1 x.2.2 : sProp 𝕄))).trans (BI.bigSep_univ_prod _))) $$ Htok
  ihave Hz' := (Entails.of_eq (BI.bigSep_univ_prod (fun ck : Dev nD × Cell X.n => (semVal (X.cell ck.1 ck.2) 0 : sProp 𝕄))).symm) $$ Hz
  imod (show iprop((bigSep Finset.univ fun ck : Dev nD × Cell X.n => (semVal (X.cell ck.1 ck.2) 0 : sProp 𝕄))
        ∗ bigSep Finset.univ fun ck : Dev nD × Cell X.n => roundState ER (sched X D) (cellAt X ck) 0)
      ⊢ (|={E}=> bigSep Finset.univ fun ck : Dev nD × Cell X.n => iprop(∃ κ : ℕ, cellInv ER (sched X D) κ (X.cell ck.1 ck.2)) : sProp 𝕄) from by
        rw [← bigSep_sep']
        exact (bigSep_mono fun ck _ => (Rounds.body_intro ER (sched X D) (X.cell ck.1 ck.2)).trans inv_alloc).trans (bigSep_fupd _ _)) $$ [Hz' Hst'] with Hinv
  · isplitl [Hz'] <;> iassumption
  ihave HK := (BI.bigSep_exists_pi Finset.univ (fun (ck : Dev nD × Cell X.n) (κ : ℕ) => (cellInv ER (sched X D) κ (X.cell ck.1 ck.2) : sProp 𝕄))) $$ Hinv
  icases HK with ⟨%κ, #HI⟩
  imodintro
  iexists κ
  isplitr
  · unfold records
    isplitl; · iexact HI
    iexact Hr'
  isplitl [Hat']; · iexact Hat'
  iexact Htok'

/-! ## Each device's start -/

theorem send_intro (c : Dev nD) (k : Fin X.n) :
    iprop(records X D κ ∗ (at0 X c (snd k) ∗ srcPts X D c (X.peer k c) ∗ (∃ f, dstPts X (X.peer k c) c f) ∗ tok X c (snd k) ∗ tok X (X.peer k c) (rcv k)))
      ⊢ sendRes X D κ c k := by
  unfold sendRes
  iintro ⟨#HR, Ha, Hs, Hd, Ht, Ht'⟩
  isplitr; · iapply (inv_of X D κ c (snd k)); iexact HR
  isplitl [Ha]; · iexact Ha
  isplitr; · iapply (inv_of X D κ (X.peer k c) (rcv k)); iexact HR
  isplitl [Hs]; · iexact Hs
  isplitl [Hd]; · iexact Hd
  isplitl [Ht]; · iexact Ht
  isplitr; · iapply (mark_of X D κ c (snd k)); iexact HR
  isplitl [Ht']; · iexact Ht'
  iapply (mark_of X D κ (X.peer k c) (rcv k)); iexact HR

theorem ready_intro (c : Dev nD) (k : Fin X.n) :
    iprop(records X D κ ∗ (at0 X c (rcv k) ∗ crd X c (rcv k))) ⊢ ready X D κ c (rcv k) := by
  unfold ready
  iintro ⟨#HR, Ha, Hc⟩
  isplitr; · iapply (inv_of X D κ c (rcv k)); iexact HR
  isplitl [Ha] <;> iassumption

theorem start_intro (c : Dev nD) :
    iprop(records X D κ
      ∗ (((bigSep Finset.univ fun k => at0 X c (snd k)) ∗ (bigSep Finset.univ fun k => at0 X c (rcv k)) ∗ at0 X c loc)
        ∗ ((bigSep Finset.univ fun k => tok X c (snd k)) ∗ (bigSep Finset.univ fun k => tok X (X.peer k c) (rcv k)) ∗ tok X c loc)
        ∗ ((bigSep Finset.univ fun k => srcPts X D c (X.peer k c)) ∗ srcPts X D c c)
        ∗ ((bigSep Finset.univ fun k => iprop(∃ f, dstPts X (X.peer k c) c f)) ∗ iprop(∃ f, dstPts X c c f))
        ∗ (bigSep Finset.univ fun k => crd X c (rcv k))
        ∗ ow c (owed X c Finset.univ)))
      ⊢ start X D κ c := by
  unfold start copyRes
  iintro ⟨#HR, ⟨Has, Har, Hal⟩, ⟨Hts, Htr, Htl⟩, ⟨Hss, Hsl⟩, ⟨Hds, Hdl⟩, Hc, HO⟩
  isplitl [Hal Htl Hsl Hdl]
  · isplitr; · iapply (inv_of X D κ c loc); iexact HR
    isplitl [Hal]; · iexact Hal
    isplitl [Hsl]; · iexact Hsl
    isplitl [Hdl]; · iexact Hdl
    isplitl [Htl]; · iexact Htl
    iapply (mark_of X D κ c loc); iexact HR
  isplitl [Has Hts Htr Hss Hds]
  · iapply (with_persistent (R := records X D κ) fun k _ => send_intro X D κ c k)
    isplitr; · iexact HR
    simp only [bigSep_sep']
    isplitl [Has]; · iexact Has
    isplitl [Hss]; · iexact Hss
    isplitl [Hds]; · iexact Hds
    isplitl [Hts] <;> iassumption
  isplitl [Har Hc]
  · iapply (with_persistent (R := records X D κ) fun k _ => ready_intro X D κ c k)
    isplitr; · iexact HR
    simp only [bigSep_sep']
    isplitl [Har] <;> iassumption
  iexact HO

/-- The whole machine's holdings give every device its start. -/
theorem deal {E : Set ℕ} :
    iprop((bigSep Finset.univ fun c : Dev nD => bigSep Finset.univ fun k => semVal (X.cell c k) 0) ∗ BI.own ((ER : Emb _ 𝕄) (launchElt X))
      ∗ (bigSep Finset.univ fun c : Dev nD => bigSep Finset.univ fun j => srcPts X D c j)
      ∗ (bigSep Finset.univ fun c : Dev nD => bigSep Finset.univ fun j => iprop(∃ f, dstPts X c j f))
      ∗ (bigSep Finset.univ fun c : Dev nD => Pipeline.launchCred (fun c => owed X c Finset.univ) c)
      ∗ (bigSep Finset.univ fun c : Dev nD => ow c (owed X c Finset.univ)))
      ⊢ |={E}=> iprop(∃ κ, bigSep Finset.univ fun c : Dev nD => start X D κ c) := by
  iintro ⟨Hz, Hu, Hs, Hd, Hc, HO⟩
  imod (open_cells X D) $$ [Hz Hu] with ⟨%κ, #HR, Hat, Htok⟩
  · isplitl [Hz] <;> iassumption
  imodintro
  iexists κ
  iapply (with_persistent (R := records X D κ) fun c _ => start_intro X D κ c)
  isplitr; · iexact HR
  simp only [bigSep_sep']
  isplitl [Hat]
  · ihave H := (Entails.of_eq (bigSep_congr fun c _ => cells_split X (fun k => at0 X c k))) $$ Hat
    simp only [bigSep_sep']
    iexact H
  isplitl [Htok]
  · ihave H := (Entails.of_eq (bigSep_congr fun c _ => cells_split X (fun k => tok X c k))) $$ Htok
    simp only [bigSep_sep']
    rw [cross X (fun k c d => tok X d (rcv k))]
    iexact H
  isplitl [Hs]
  · ihave H := (Entails.of_eq (bigSep_congr fun c _ => devs_split X c (fun j => srcPts X D c j))) $$ Hs
    simp only [bigSep_sep']
    iexact H
  isplitl [Hd]
  · ihave H := (Entails.of_eq (bigSep_congr fun c _ => devs_split X c (fun j => iprop(∃ f, dstPts X c j f)))) $$ Hd
    simp only [bigSep_sep']
    rw [cross X (fun k c d => iprop(∃ f, dstPts X d c f))]
    iexact H
  isplitl [Hc]
  · iapply (show (bigSep Finset.univ fun c : Dev nD => (Pipeline.launchCred (fun c => owed X c Finset.univ) c : sProp 𝕄))
        ⊢ bigSep Finset.univ fun c : Dev nD => bigSep Finset.univ fun k => crd X c (rcv k) from bigSep_mono fun c _ => creds X c)
    iexact Hc
  iexact HO

/-! ## Each device's end -/

theorem finish_elim (c : Dev nD) :
    finish X D c ⊢ iprop((bigSep Finset.univ fun j => srcPts X D c j) ∗ (bigSep Finset.univ fun j => dstPts X c j (D.ov j c))
      ∗ (bigSep Finset.univ fun k => semVal (X.cell c k) 0) ∗ ow c 0) := by
  unfold finish got
  rw [bigSep_sep', cells_split X (pay X D c), devs_split X c (fun j => srcPts X D c j), devs_split X c (fun j => dstPts X c j (D.ov j c))]
  unfold pay
  iintro ⟨⟨⟨Hs, Hd, Hdl, Hsl⟩, Hz⟩, HO⟩
  isplitl [Hs Hsl]
  · isplitl [Hs] <;> iassumption
  isplitl [Hd Hdl]
  · isplitl [Hd] <;> iassumption
  isplitl [Hz] <;> iassumption

end Deal

end Cert.Exchange

end
-- ==== Proof.ExchangeLaunch.lean ====
/-
# The launch of an exchange

The launch hands every core its own counters and buffers; an exchange needs them of all cores at once, before any core runs: a slot
belongs to the device that writes it, and a cell another device credits must be open by then. So the launch below gives its
certificate the holdings of the whole machine, the scoped counters among them, to deal out.
-/
module

public import proofs.«01_k».proof.Proof.ExchangeDeal
public import Idealize.ShloMosaic.Lib.Pipeline.Regions

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : ℕ} {τ : Topo} {sig : RefSig} {Val : EltTy → Type}

local notation "𝕄" => MT nD τ sig Unit Val ℕ (UU nD τ sig) ℕ

section Launch

variable [∀ e, Nonempty (Val e)] {Λ : Labels} (defs : Defs nD τ sig Val Λ) (𝒱 : Variants)

/-- From what the launch leaves of the whole machine, dealt as `T`, each core's run to `fin`, read as `QY` at the end. -/
theorem θ_launch (main : Dev nD → Prog (TpuEff nD τ sig Val Λ .tc) PUnit)
    (m : (ℓ : Loc nD τ sig) → Buf Val ℓ) (g : Dev nD → PrngReg) (O₀ : Dev nD → CellTallies nD τ sig Unit) (u₀ : UU nD τ sig)
    (T fin : Dev nD → sProp 𝕄) (QY : Dev nD → MemSt nD τ sig Val → Prop)
    (hinit : iprop((bigSep Finset.univ fun c : Dev nD => iprop(boundary (c : Thread nD τ) ∗ unscopedBufs c (fun b => m ((c : Thread nD τ).loc b))
        ∗ launchCred O₀ c ∗ owes (c : Thread nD τ) (O₀ c) ∅)) ∗ ownU u₀) ⊢ |={Set.univ}=> bigSep Finset.univ T)
    (hrun : ∀ c : Dev nD, T c ⊢ wp frame (wpE defs 𝒱 (c : Thread nD τ) none) Set.univ (main c) (fun _ => iprop(fin c ∗ boundary (c : Thread nD τ)
        ∗ ∃ W, owes (c : Thread nD τ) (0 : CellTallies nD τ sig Unit) W)))
    (hfin : ∀ (c : Dev nD) (s' : Phys nD τ sig Val), iprop(fin c ∗ SI s') ⊢ |={Set.univ}=> iprop(⌜QY c s'.mem⌝ ∗ SI s')) :
    θ_run defs (onTc (τ := τ) main) ⟨m, fun _ => 0, g⟩ (fun r => (∀ c : Dev nD, QY c r.2)
      ∧ (∀ (c : Dev nD) (sm : SemLoc sig), sm.isScoped .tc = true → r.2.sem ((c : Thread nD τ), sm) = 0)
      ∧ ∀ g' : GSem nD τ sig, g'.1.2 ≠ .tc → r.2.sem g' = 0) := by
  let fin' : Dev nD → sProp 𝕄 := fun c => iprop(fin c ∗ boundary (c : Thread nD τ))
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, fun c => (hr.1 c).2, hr.2⟩) (adequate_tpu defs _ _ _
    (reflect_intro_fupd_tc_sems (X := Unit) 𝒱 (owing O₀) 0 (noBookings fun _ => le_rfl) (owing_of_ne O₀) u₀ (fun _ => T) (fun _ => fin')
      (fun _ => iprop(emp)) Set.univ ?_ (fun _ c => ?_) fun _ => ?_))
  · iintro ⟨Hc, Hu⟩
    ihave Hc' := (show (bigSep Finset.univ fun d : Dev nD =>
          coreInit (Ix := Unit) (Name := ℕ) (U := UU nD τ sig) (Lvl := ℕ) (owing O₀) 0 (⟨m, fun _ => 0, g⟩ : MemSt nD τ sig Val) (d.tc : Thread nD τ))
        ⊢ bigSep Finset.univ fun c : Dev nD => iprop(boundary (c : Thread nD τ) ∗ unscopedBufs c (fun b => m ((c : Thread nD τ).loc b))
            ∗ launchCred O₀ c ∗ owes (c : Thread nD τ) (O₀ c) ∅) from
      bigSep_mono fun c _ => (coreInit_boundary_owing O₀ m g c).trans (by
        iintro ⟨Hb, Hub, -, HL, -, -, Hcr⟩
        isplitl [Hb]; · iexact Hb
        isplitl [Hub]; · iexact Hub
        isplitl [Hcr] <;> iassumption)) $$ Hc
    imod hinit $$ [Hc' Hu] with HT
    · isplitl [Hc'] <;> iassumption
    imodintro
    iexists ()
    isplitl [HT]; · iexact HT
    iempintro
  · refine (hrun c).trans (wp_mono _ _ _ fun _ => ?_)
    unfold post; simp only [liftTc_tc, fin']
    iintro ⟨Hf, Hb, HO⟩
    isplitr [HO]
    · isplitl [Hf] <;> iassumption
    · iexact HO
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Launch

section Region

variable {Λ₀ : Idealize.SL.Sem.Labels} {P : Type} [Fintype P] [DecidableEq P] [∀ e, Nonempty (Val e)]
variable (pcs : P → PCfg sig Λ₀ Val) (a : (p : P) → (pcs p).Adm)
variable (X : Net nD sig) (D : Load τ Val X)

/-- The invariant of the exchange's region before its one point and after; what it leaves. -/
def before (R : Dev nD → sProp 𝕄) (c : Dev nD) : sProp 𝕄 :=
  iprop((∃ κ, copyRes X D κ c ∗ bigSep Finset.univ (sendRes X D κ c) ∗ bigSep Finset.univ (fun k => ready X D κ c (rcv k))) ∗ R c)
def back (c : Dev nD) : sProp 𝕄 := iprop((bigSep Finset.univ fun j => srcPts X D c j) ∗ bigSep Finset.univ fun j => dstPts X c j (D.ov j c))
def behind (R : Dev nD → sProp 𝕄) (c : Dev nD) : sProp 𝕄 :=
  iprop((back X D c ∗ bigSep Finset.univ fun k => semVal (X.cell c k) 0) ∗ R c)

/-- The exchange's proof data on a pipeline with no windows. -/
def dat (cfg : Cfg sig Λ₀) (hW : cfg.W = 0) (R : Dev nD → sProp 𝕄) (c : Dev nD) : Dat τ Val Unit ℕ (UU nD τ sig) ℕ cfg c where
  A w := (hW ▸ w : Fin 0).elim0
  after w := (hW ▸ w : Fin 0).elim0
  Φ t := if t.val = 0 then before X D R c else behind X D R c
  q w := (hW ▸ w : Fin 0).elim0
  owed t := if t.val = 0 then owed X c Finset.univ else 0

theorem dat_Φ (cfg : Cfg sig Λ₀) (hW : cfg.W = 0) (R : Dev nD → sProp 𝕄) (c : Dev nD) (t : Fin (cfg.N + 1)) :
    (dat X D cfg hW R c).Φ t = if t.val = 0 then before X D R c else behind X D R c := rfl
theorem dat_owed (cfg : Cfg sig Λ₀) (hW : cfg.W = 0) (R : Dev nD → sProp 𝕄) (c : Dev nD) (t : Fin (cfg.N + 1)) :
    (dat X D cfg hW R c).owed t = if t.val = 0 then owed X c Finset.univ else 0 := rfl

theorem owesAt_intro {cfg : Cfg sig Λ₀} {c : Dev nD} (d : Dat τ Val Unit ℕ (UU nD τ sig) ℕ cfg c) (t : Fin (cfg.N + 1))
    (O : CellTallies nD τ sig Unit) (h0 : d.owed t = O) (hr : d.recorded t = Set.univ) :
    (ow c O : sProp 𝕄) ⊢ (d.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (d : Dat τ Val Unit ℕ (UU nD τ sig) ℕ cfg c) (t : Fin (cfg.N + 1))
    (O : CellTallies nD τ sig Unit) (h0 : d.owed t = O) :
    (d.owesAt () t : sProp 𝕄) ⊢ ow c O := by
  unfold Dat.owesAt Pipeline.owesWithin; rw [h0]
  iintro ⟨%W, -, HO⟩; iexists W; iexact HO

variable (pdats : (p : P) → (c : Dev nD) → Dat τ Val Unit ℕ (UU nD τ sig) ℕ (pin pcs a p) c)
  (phinj : Function.Injective (cellOf (nD := nD) (τ := τ) (pin pcs a))) (p : P)
  (defs₀ : Defs nD τ sig Val Λ₀) (𝒱₀ : Variants)

local notation "𝔻" => Pipeline.defs pcs defs₀
local notation "𝕍" => Variants.lift 𝒱₀

/-- A core's holdings around the region: the pipeline's own cells and ghost state, the cells neither uses. -/
def around (hw : WinFacts₀ (pin pcs a p).spec) (ho : OwnSemFacts (pin pcs a p).spec X.sem) (c : Dev nD) : sProp 𝕄 :=
  iprop(cellsSems0 (pin pcs a) p c ∗ idleSems0 (pin pcs a) phinj p ho c ∗ PerCore.cellsGhost (fun _ : Dev nD => pin pcs a) embL p c
    ∗ PerCore.toksInit (fun _ : Dev nD => pin pcs a) embL p c)

include phinj in
/-- The region: from a core's start to what the exchange gives back. -/
theorem region_run (hw : WinFacts₀ (pin pcs a p).spec) (hst : ∀ w s, (((pin pcs a p).spec w).stage s).IsWhole)
    (ho : OwnSemFacts (pin pcs a p).spec X.sem) (hW : (pin pcs a p).W = 0) (hN : (pin pcs a p).N = 1)
    (hpre : ∀ (c : Dev nD) q pf, (prefHeld (Ix := Unit) (Name := ℕ) (U := UU nD τ sig) (Lvl := ℕ) (pcs p).pre c q pf : sProp 𝕄) = BI.emp)
    (c : Dev nD) (hp : pdats p c = dat X D (pin pcs a p) hW (scopedRest (pin pcs a p).spec) c)
    (hbody : BodyObligationLoose (pdats p c) defs₀ 𝒱₀ () Set.univ)
    {α : Type} {k : PUnit → Prog (TpuEff nD τ sig Val (Pipeline.Sig Λ₀ P fun p => (pcs p).Adm) Proc.tc) α} {Q : α → sProp 𝕄} :
    iprop((∃ κ, start X D κ c) ∗ scopedBufs (c : Thread nD τ) ∗ around pcs a X phinj p hw ho c)
      ⊢ iprop(((back X D c ∗ scopedSems0 (c : Thread nD τ) ∗ scopedBufs (c : Thread nD τ) ∗ ow c 0) -∗ wp frame (wpE 𝔻 𝕍 (c : Thread nD τ) none) Set.univ (k ⟨⟩) Q)
        -∗ wp frame (wpE 𝔻 𝕍 (c : Thread nD τ) none) Set.univ (.op (.customCall (entry p) ()) k) Q) := by
  have hE : IsEmpty (Fin (pin pcs a p).W) := by rw [hW]; infer_instance
  have harr (Fa) : ((pdats p c).arrays Fa : sProp 𝕄) = BI.emp := by
    unfold Dat.arrays
    rw [Finset.univ_eq_empty, BI.bigSep_empty]
  have hΦ0 : (pdats p c).Φ 0 = before X D (scopedRest (pin pcs a p).spec) c := by rw [hp, dat_Φ]; exact if_pos rfl
  have hΦN : (pdats p c).Φ (Fin.last (pin pcs a p).N) = behind X D (scopedRest (pin pcs a p).spec) c := by
    rw [hp, dat_Φ]; exact if_neg (by rw [Fin.val_last, hN]; decide)
  have hO0 : (pdats p c).owed 0 = owed X c Finset.univ := by rw [hp, dat_owed]; exact if_pos rfl
  have hON : (pdats p c).owed (Fin.last (pin pcs a p).N) = 0 := by
    rw [hp, dat_owed]; exact if_neg (by rw [Fin.val_last, hN]; decide)
  have hr (t) : (pdats p c).recorded t = Set.univ := by rw [hp]; rfl
  have hsb := scopedBufs_split (Ix := Unit) (Name := ℕ) (U := UU nD τ sig) (Lvl := ℕ) (Val := Val) (nD := nD) (τ := τ) (pin pcs a) p hw.stage_scoped hw.stage_inj hst c
  unfold around
  iintro ⟨⟨%κx, Hst⟩, Hsc, Hcells, Hidle, Hg, Ht⟩ Hk
  iapply (fupd_wp frame (wpE 𝔻 𝕍 (c : Thread nD τ) none) Set.univ _ _)
  imod (cellsInit_alloc (pin pcs a) pdats embL phinj p c) $$ [Hcells Hg] with ⟨%κ, -, Hinit⟩
  · isplitl [Hcells] <;> iassumption
  imodintro
  unfold start
  icases Hst with ⟨H1, H2, H3, HO⟩
  iapply (wp_customCall_entry_frame pcs a pdats () embL κ phinj p defs₀ 𝒱₀ (fun _ => fullShare) c Set.univ (fun _ _ => Set.mem_univ _)
      hbody (fun w => hE.elim w) none (fun u h => nomatch h)
      (X := iprop(∃ κ, copyRes X D κ c ∗ bigSep Finset.univ (sendRes X D κ c) ∗ bigSep Finset.univ (fun k => ready X D κ c (rcv k))))
      (Y := back X D c) (R := scopedRest (pin pcs a p).spec c) (I := idleSems0 (pin pcs a) phinj p ho c)
      (Entails.of_eq hsb)
      (by
        rw [hΦ0, hpre]; unfold before
        iintro ⟨HX, -, HR⟩
        isplitl [HX] <;> iassumption)
      (by
        rw [hΦN, hsb, scopedSems0_split (pin pcs a) phinj p hw ho c]; unfold behind
        iintro ⟨⟨⟨Hb, Hz⟩, HR⟩, Hcs, Hs, Hi⟩
        isplitl [Hb]; · iexact Hb
        isplitl [Hz Hcs Hi]
        · isplitr [Hi]
          · isplitl [Hcs]; · iexact Hcs
            unfold ownSems0; iexact Hz
          · iexact Hi
        isplitl [Hs] <;> iassumption)
      (k := k) (Q := Q)) $$ [H1 H2 H3 HO Hsc Hidle Hinit Ht]
  · isplitl [HO Hinit Ht]
    · unfold EntryPre PerCore.EntryPre
      isplitr; · iapply (Entails.of_eq (harr _).symm); iempintro
      isplitl [HO]; · iapply (owesAt_intro (pdats p c) 0 _ hO0 (hr 0)); iexact HO
      isplitr
      · iapply (cellsWaits_intro (pin pcs a) pdats () p c (R := iprop(emp)) fun w => hE.elim w)
        iempintro
      isplitl [Hinit] <;> iassumption
    rw [hpre]
    isplitr; · iempintro
    isplitl [H1 H2 H3]
    · iexists κx
      isplitl [H1]; · iexact H1
      isplitl [H2] <;> iassumption
    isplitl [Hidle] <;> iassumption
  iintro ⟨Hpost, Hb, Hss, Hsb⟩
  iapply Hk
  isplitl [Hb]; · iexact Hb
  isplitl [Hss]; · iexact Hss
  isplitl [Hsb]; · iexact Hsb
  unfold EntryPost PerCore.EntryPost
  icases Hpost with ⟨-, HO⟩
  iapply (owesAt_elim (pdats p c) _ _ hON)
  iexact HO

/-- A core's holdings after the deal. -/
def dealt (ho : OwnSemFacts (pin pcs a p).spec X.sem) (Rest : Dev nD → sProp 𝕄) (c : Dev nD) : sProp 𝕄 :=
  iprop((∃ κ, start X D κ c) ∗ (scopedBufs (c : Thread nD τ) ∗ cellsSems0 (pin pcs a) p c ∗ idleSems0 (pin pcs a) phinj p ho c ∗ opIdle (c : Thread nD τ))
    ∗ (bigSep Finset.univ fun p' => PerCore.cellsGhost (fun _ : Dev nD => pin pcs a) embL p' c)
    ∗ (bigSep Finset.univ fun p' => PerCore.toksInit (fun _ : Dev nD => pin pcs a) embL p' c) ∗ Rest c)

/-- The ghost state of the pipelines' cells and of the exchange's. -/
def launchU : UU nD τ sig := (initOf (cells (pin pcs a) phinj) (launchToks (pin pcs a) phinj), launchElt X)

/-- What the launch leaves of the whole machine is dealt out. -/
theorem deal_launch (hw : WinFacts₀ (pin pcs a p).spec) (ho : OwnSemFacts (pin pcs a p).spec X.sem) (Rest : Dev nD → sProp 𝕄)
    (m : (ℓ : Loc nD τ sig) → Buf Val ℓ)
    (hbufs : ∀ c : Dev nD, (unscopedBufs c (fun b => m ((c : Thread nD τ).loc b)) : sProp 𝕄)
      ⊢ iprop((bigSep Finset.univ fun j => srcPts X D c j) ∗ (bigSep Finset.univ fun j => iprop(∃ f, dstPts X c j f)) ∗ Rest c)) :
    iprop((bigSep Finset.univ fun c : Dev nD => iprop(boundary (c : Thread nD τ) ∗ unscopedBufs c (fun b => m ((c : Thread nD τ).loc b))
        ∗ launchCred (fun c => owed X c Finset.univ) c ∗ owes (c : Thread nD τ) (owed X c Finset.univ) ∅)) ∗ ownU (launchU pcs a X phinj))
      ⊢ |={Set.univ}=> bigSep Finset.univ (dealt pcs a X D phinj p ho Rest) := by
  have hcore (c : Dev nD) : (iprop(boundary (c : Thread nD τ) ∗ unscopedBufs c (fun b => m ((c : Thread nD τ).loc b))
        ∗ launchCred (fun c => owed X c Finset.univ) c ∗ owes (c : Thread nD τ) (owed X c Finset.univ) ∅) : sProp 𝕄)
      ⊢ iprop((bigSep Finset.univ fun k => semVal (X.cell c k) 0) ∗ (bigSep Finset.univ fun j => srcPts X D c j)
        ∗ (bigSep Finset.univ fun j => iprop(∃ f, dstPts X c j f)) ∗ launchCred (fun c => owed X c Finset.univ) c ∗ ow c (owed X c Finset.univ)
        ∗ Rest c ∗ (scopedBufs (c : Thread nD τ) ∗ cellsSems0 (pin pcs a) p c ∗ idleSems0 (pin pcs a) phinj p ho c ∗ opIdle (c : Thread nD τ))) := by
    iintro ⟨Hb, Hu, Hc, HO⟩
    ihave Hb' := (show (boundary (c : Thread nD τ) : sProp 𝕄)
      ⊢ iprop(scopedBufs (c : Thread nD τ) ∗ ((cellsSems0 (pin pcs a) p c ∗ ownSems0 X.sem c) ∗ idleSems0 (pin pcs a) phinj p ho c) ∗ opIdle (c : Thread nD τ)) by
        rw [← scopedSems0_split (pin pcs a) phinj p hw ho c]; exact BI.Entails.refl _) $$ Hb
    icases Hb' with ⟨Hsb, ⟨⟨Hcs, Hos⟩, Hi⟩, Hid⟩
    ihave Hu' := (hbufs c) $$ Hu
    icases Hu' with ⟨Hs, Hd, HR⟩
    isplitl [Hos]; · unfold ownSems0; iexact Hos
    isplitl [Hs]; · iexact Hs
    isplitl [Hd]; · iexact Hd
    isplitl [Hc]; · iexact Hc
    isplitl [HO]; · unfold ow; iexists _; iexact HO
    isplitl [HR]; · iexact HR
    isplitl [Hsb]; · iexact Hsb
    isplitl [Hcs]; · iexact Hcs
    isplitl [Hi] <;> iassumption
  iintro ⟨H, Hu⟩
  unfold launchU
  ihave Hu' := (ownU_pair _ _) $$ Hu
  icases Hu' with ⟨HuL, HuR⟩
  imod (fund_ghost (pin pcs a) embL phinj) $$ HuL with ⟨Hg, Ht⟩
  ihave H' := (show _ ⊢ _ from bigSep_mono fun c (_ : c ∈ Finset.univ) => hcore c) $$ H
  simp only [bigSep_sep']
  icases H' with ⟨Hz, Hs, Hd, Hc, HO, HR, Hsb⟩
  imod (deal X D) $$ [Hz HuR Hs Hd Hc HO] with ⟨%κ, Hst⟩
  · isplitl [Hz]; · iexact Hz
    isplitl [HuR]; · iexact HuR
    isplitl [Hs]; · iexact Hs
    isplitl [Hd]; · iexact Hd
    isplitl [Hc] <;> iassumption
  imodintro
  unfold dealt
  simp only [bigSep_sep']
  isplitl [Hst]
  · iapply (show (bigSep Finset.univ fun c : Dev nD => start X D κ c) ⊢ bigSep Finset.univ fun c : Dev nD => iprop(∃ κ, start X D κ c) from
      bigSep_mono fun c _ => exists_intro_trans (Ψ := fun κ => start X D κ c) κ (BI.Entails.refl _))
    iexact Hst
  isplitl [Hsb]; · iexact Hsb
  isplitl [Hg]; · iexact Hg
  isplitl [Ht] <;> iassumption

end Region

end Cert.Exchange

end
-- ==== Proof.Rows.lean ====
/-
# The rows of a stack

A buffer `[n, R, C]` holds `n` rows of shape `[R, C]`; a row is a slice of the buffer with its leading axis dropped.
-/
module

public import proofs.«01_k».proof.Proof.Exchange
public import Idealize.ShloMosaic.Lib.ValueLayout

@[expose] public section

noncomputable section

namespace Cert.Exchange

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

abbrev Stack (n R C : ℕ) : Shape := ⟨3, ![n, R, C]⟩
abbrev Row (R C : ℕ) : Shape := ⟨2, ![R, C]⟩

variable {sig : RefSig} {n R C : ℕ} {e : EltTy}

theorem row_inb (j : Fin n) : ∀ a, (![j.val, 0, 0] : Fin 3 → ℕ) a + (Stack 1 R C).size a ≤ (Stack n R C).size a := by
  intro a
  match a with
  | ⟨0, _⟩ => exact j.isLt
  | ⟨1, _⟩ => exact (Nat.zero_add R).le
  | ⟨2, _⟩ => exact (Nat.zero_add C).le

/-- Row `j` of a stack. -/
def rowOf (m : Memref sig .tc .hbm (Stack n R C) e) (hq : (Stack 1 R C).Squeezes (Row R C)) (j : Fin n) : Memref sig .tc .hbm (Row R C) e :=
  (m.slice (Rect.unit (s := Stack n R C) ![j.val, 0, 0] (Stack 1 R C).size (row_inb j)) (fun _ => rfl)).squeeze (Row R C) hq

variable (m : Memref sig .tc .hbm (Stack n R C) e) (hq : (Stack 1 R C).Squeezes (Row R C)) (j : Fin n)

theorem rowOf_eq {off : Fin 3 → ℕ} (h : off = ![j.val, 0, 0]) (inb : ∀ a, off a + (Stack 1 R C).size a ≤ (Stack n R C).size a) :
    (m.slice (Rect.unit (s := Stack n R C) off (Stack 1 R C).size inb) (fun _ => rfl)).squeeze (Row R C) hq = rowOf m hq j := by
  subst h; rfl

theorem rowOf_emb (x : (Row R C).Idx) : (rowOf m hq j).view.emb x = m.view.emb (ix3 j (x 0) (x 1)) := by
  have h1 : (rowOf m hq j).view.emb x = m.view.emb ((Rect.unit (s := Stack n R C) ![j.val, 0, 0] (Stack 1 R C).size (row_inb j)).emb
      (Shape.reshapeEquiv hq.numel_eq x)) := rfl
  rw [h1]
  refine congrArg _ (funext fun a => Fin.ext ?_)
  have h2 : Shape.reshapeEquiv hq.numel_eq x = ix3 (⟨0, Nat.one_pos⟩ : Fin 1) (x 0) (x 1) := by
    conv_lhs => rw [show x = ix2 (x 0) (x 1) from (funext fun a => by match a with | ⟨0, _⟩ => rfl | ⟨1, _⟩ => rfl)]
    exact reshapeEquiv_ix2_1ab hq.numel_eq (x 0) (x 1)
  rw [Rect.emb_apply, h2]
  match a with
  | ⟨0, _⟩ => exact Nat.add_zero _
  | ⟨1, _⟩ => exact (Nat.zero_add _).trans (Nat.one_mul _)
  | ⟨2, _⟩ => exact (Nat.zero_add _).trans (Nat.one_mul _)

theorem mem_rowOf {i : m.view.ty.Idx} : Iff (i ∈ (rowOf m hq j).view.set) (∃ x : (Row R C).Idx, m.view.emb (ix3 j (x 0) (x 1)) = i) := by
  constructor
  · intro h
    obtain ⟨x, -, hx⟩ := Finset.mem_map.mp h
    exact ⟨x, (rowOf_emb m hq j x).symm.trans hx⟩
  · rintro ⟨x, hx⟩
    exact Finset.mem_map.mpr ⟨x, Finset.mem_univ x, (rowOf_emb m hq j x).trans hx⟩

theorem rowOf_disjoint {j j' : Fin n} (h : j ≠ j') : Disjoint (rowOf m hq j).view.set (rowOf m hq j').view.set := by
  refine Finset.disjoint_left.mpr fun i hi hi' => h ?_
  obtain ⟨x, hx⟩ := (mem_rowOf m hq j).mp hi
  obtain ⟨x', hx'⟩ := (mem_rowOf m hq j').mp hi'
  exact congrFun (m.view.emb.injective (hx.trans hx'.symm)) 0

theorem rows_set (hm : m.IsWhole) : (Finset.univ.biUnion fun j => (rowOf m hq j).view.set : Finset m.view.ty.Idx) = Finset.univ := by
  refine Finset.eq_univ_iff_forall.mpr fun i => Finset.mem_biUnion.mpr ?_
  have hi : i ∈ m.view.set := by rw [hm.set_eq_univ]; exact Finset.mem_univ i
  obtain ⟨y, -, hy⟩ := Finset.mem_map.mp hi
  refine ⟨y 0, Finset.mem_univ _, (mem_rowOf m hq (y 0)).mpr ⟨ix2 (y 1) (y 2), ?_⟩⟩
  rw [← hy]
  exact congrArg _ (funext fun a => by match a with | ⟨0, _⟩ => rfl | ⟨1, _⟩ => rfl | ⟨2, _⟩ => rfl)

variable {nD : ℕ} {τ : Topo} {Val : EltTy → Type}

local notation "𝕄" => MT nD τ sig Unit Val ℕ (UU nD τ sig) ℕ

/-- A whole stack is its rows. -/
theorem rows_split (hm : m.IsWhole) (c : Dev nD) (q : PosShare TreeShare) (f : Buf Val (m.view.loc (c : Thread nD τ))) :
    (m.view.loc (c : Thread nD τ) ↦{q} f : sProp 𝕄)
      = bigSep Finset.univ fun j : Fin n => ((rowOf m hq j).view.loc (c : Thread nD τ) ↦[(rowOf m hq j).view.set]{q} f : sProp 𝕄) := by
  have h := pointsTo_biUnion (Ix := Unit) (Name := ℕ) (U := UU nD τ sig) (Lvl := ℕ) (ℓ := m.view.loc (c : Thread nD τ)) (q := q) (f := f) (Finset.univ : Finset (Fin n))
    (fun j => (rowOf m hq j).view.set) (fun j _ j' _ hne => rowOf_disjoint m hq hne)
  rw [rows_set m hq hm] at h
  exact h

theorem read_rowOf (f : m.view.ty.Contents Val) (x : (Row R C).Idx) :
    (rowOf m hq j).view.read Val f x = m.view.read Val f (ix3 j (x 0) (x 1)) := by
  rw [View.read_apply (v := m.view), ← rowOf_emb m hq j x]; rfl

/-- What lands in a view is what the source's view reads. -/
theorem write_read_eq {s : Shape} {κ κ' : Kind} {sp sp' : Space} (v : View sig κ sp s e) (v' : View sig κ' sp' s e) (fd g : v.ty.Contents Val) (f : v'.ty.Contents Val)
    (h : ∀ x, v'.read Val f x = v.read Val g x) : ∀ i ∈ v.set, v.write Val fd (v'.read Val f) Finset.univ i = g i := by
  intro i hi
  obtain ⟨x, -, rfl⟩ := Finset.mem_map.mp hi
  rw [View.write_emb_of_mem _ _ (Finset.mem_univ x), h x, View.read_apply, cast_cast, cast_eq]

/-! ## Eight devices, linked pairwise -/

/-- Link `k` joins the devices whose ids differ by the bits of `k + 1`. -/
def hop (k : Fin 7) (c : Fin 8) : Fin 8 := ⟨c.val ^^^ (k.val + 1), (by decide : ∀ (k : Fin 7) (c : Fin 8), c.val ^^^ (k.val + 1) < 8) k c⟩

theorem hop_hop : ∀ (k : Fin 7) (c : Fin 8), hop k (hop k c) = c := by decide
theorem hop_all : ∀ c : Fin 8, Function.Bijective (Sum.elim (fun k => hop k c) (fun _ : Unit => c)) := by decide

end Cert.Exchange

end
-- ==== Proof.Scatter.lean ====
/-
# The exchange of the gradients

Every device holds a stack of eight rows of gradients, row `j` for device `j`, and ends with a stack of the rows the eight devices
held for it. The run is the exchange of `Exchange.lean` with the rows as pieces and as slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.ExchangeLaunch
public import proofs.«01_k».proof.Proof.Rows

@[expose] public section

noncomputable section

namespace Cert.Proof

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.Exchange Cert.KernelIdeal Cert.KernelIdeal.Gen

abbrev inM : Memref sig .tc .hbm (Stack 8 9856 1024) .f32 := Memref.whole main_arg0
abbrev outM : Memref sig .tc .hbm (Stack 8 9856 1024) .f32 := Memref.whole main_v1

theorem sem_inb (k : Fin 7) : ∀ a, (![k.val] : Fin 1 → Nat) a + S1.size a ≤ S7.size a := by
  revert k; decide

/-- The exchange's net. -/
def X : Net nD sig where
  n := 7
  s := Row 9856 1024
  e := .f32
  src := rowOf inM squeezes_S1x9856x1024_S9856x1024
  dst := rowOf outM squeezes_S1x9856x1024_S9856x1024
  sendS k := ((cc0_scratch0.slice (Rect.unit (s := S7) ![k.val] S1.size (sem_inb k))).squeeze S_ squeezes_S1_S_).sem
  recvS k := ((cc0_scratch1.slice (Rect.unit (s := S7) ![k.val] S1.size (sem_inb k))).squeeze S_ squeezes_S1_S_).sem
  locS := cc0_scratch2.sem
  sem_inj := by decide
  peer := hop
  invol := hop_hop
  all := hop_all
  amt := (rowOf outM squeezes_S1x9856x1024_S9856x1024 0).view.dmaCredit
  amt_pos := View.dmaCredit_pos _ (by decide)
  credit _ := rfl

variable {F : FTy → Type} [FloatOps F] (m : (ℓ : Loc nD τ sig) → Buf (Elt F) ℓ)

local notation "𝕄" => MT nD τ sig Unit (Elt F) ℕ (UU nD τ sig) ℕ

/-- What device `d` ends with: row `j` is device `j`'s row `d`. -/
def outV (d : Dev nD) : Buf (Elt F) ((d : Thread nD τ).loc main_v1) :=
  fun i : (Stack 8 9856 1024).Idx => m ((Dev.tc (τ := τ) (show Dev nD from i 0)).loc main_arg0) (show (Stack 8 9856 1024).Idx from ix3 (show Fin 8 from d) (i 1) (i 2))

abbrev inRow (j : Fin 8) := rowOf inM squeezes_S1x9856x1024_S9856x1024 j
abbrev outRow (j : Fin 8) := rowOf outM squeezes_S1x9856x1024_S9856x1024 j

theorem read_row (j d : Dev nD) (x : (Row 9856 1024).Idx) :
    (inRow d).view.read (Elt F) (m ((j : Thread nD τ).loc main_arg0)) x = (outRow j).view.read (Elt F) (outV m d) x :=
  (read_rowOf inM squeezes_S1x9856x1024_S9856x1024 d (m ((j : Thread nD τ).loc main_arg0)) x).trans
    (read_rowOf outM squeezes_S1x9856x1024_S9856x1024 j (outV m d) x).symm

theorem lands_row (j d : Dev nD) (fd : Buf (Elt F) ((d : Thread nD τ).loc main_v1)) :
    ∀ i ∈ (outRow j).view.set, (outRow j).view.write (Elt F) fd ((inRow d).view.read (Elt F) (m ((j : Thread nD τ).loc main_arg0))) Finset.univ i = outV m d i :=
  write_read_eq (outRow j).view (inRow d).view fd (outV m d) (m ((j : Thread nD τ).loc main_arg0)) (read_row m j d)

/-- The contents exchanged. -/
def D : Load τ (Elt F) X where
  q _ := fullShare
  sv c _ := m ((c : Thread nD τ).loc main_arg0)
  ov _ d := outV m d
  lands := lands_row m

abbrev 𝒱₀ : Variants := Variants.none

/-! ## The body -/

theorem off1 : ∀ d : Dev nD, k0_off1 d = ![d.val, 0, 0] := by decide +kernel
theorem off2 : ∀ d : Dev nD, k0_off2 d = ![(hop 0 d).val, 0, 0] := by decide +kernel
theorem off3 : ∀ d : Dev nD, k0_off3 d = ![(hop 1 d).val, 0, 0] := by decide +kernel
theorem off4 : ∀ d : Dev nD, k0_off4 d = ![(hop 2 d).val, 0, 0] := by decide +kernel
theorem off5 : ∀ d : Dev nD, k0_off5 d = ![(hop 3 d).val, 0, 0] := by decide +kernel
theorem off6 : ∀ d : Dev nD, k0_off6 d = ![(hop 4 d).val, 0, 0] := by decide +kernel
theorem off7 : ∀ d : Dev nD, k0_off7 d = ![(hop 5 d).val, 0, 0] := by decide +kernel
theorem off8 : ∀ d : Dev nD, k0_off8 d = ![(hop 6 d).val, 0, 0] := by decide +kernel
theorem dev1 : ∀ d : Dev nD, (⟨k0_dev1 d, k0_dev1_lt d⟩ : Dev nD) = hop 0 d := by decide +kernel
theorem dev2 : ∀ d : Dev nD, (⟨k0_dev2 d, k0_dev2_lt d⟩ : Dev nD) = hop 1 d := by decide +kernel
theorem dev3 : ∀ d : Dev nD, (⟨k0_dev3 d, k0_dev3_lt d⟩ : Dev nD) = hop 2 d := by decide +kernel
theorem dev4 : ∀ d : Dev nD, (⟨k0_dev4 d, k0_dev4_lt d⟩ : Dev nD) = hop 3 d := by decide +kernel
theorem dev5 : ∀ d : Dev nD, (⟨k0_dev5 d, k0_dev5_lt d⟩ : Dev nD) = hop 4 d := by decide +kernel
theorem dev6 : ∀ d : Dev nD, (⟨k0_dev6 d, k0_dev6_lt d⟩ : Dev nD) = hop 5 d := by decide +kernel
theorem dev7 : ∀ d : Dev nD, (⟨k0_dev7 d, k0_dev7_lt d⟩ : Dev nD) = hop 6 d := by decide +kernel

abbrev link (k : Fin 7) : Fin X.n := k

theorem sent : ((((((((Finset.univ : Finset (Fin 7)).erase 0).erase 1).erase 2).erase 3).erase 4).erase 5).erase 6) = ∅ := by decide

set_option maxHeartbeats 4000000 in
theorem body_run (κ : Dev nD × Cell X.n → ℕ) (c : Dev nD) (Kt : PUnit → sProp (MT nD τ sig Unit (Elt F) ℕ (UU nD τ sig) ℕ)) :
    iprop(start X (D m) κ c ∗ (finish X (D m) c -∗ Kt ⟨⟩))
      ⊢ wp frame (wpE (defs₀ (F := F)) 𝒱₀ (c : Thread nD τ) none) Set.univ
          (cc0_exchange_grads (Memref.whole main_arg0) (Memref.isWhole_whole _) (Memref.whole main_v1) (Memref.isWhole_whole _) cc0_scratch0 cc0_scratch1 cc0_scratch2) Kt := by
  simp only [cc0_exchange_grads_eq_skeleton]; unfold cc0_exchange_grads_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, Prog.bind_assoc, wp_deviceId]
  iintro ⟨Hst, Hk⟩
  iapply (copy_step X (D m) κ (defs₀ (F := F)) 𝒱₀ c (rowOf_eq inM squeezes_S1x9856x1024_S9856x1024 _ (off1 c) _)
    (rowOf_eq outM squeezes_S1x9856x1024_S9856x1024 _ (off1 c) _) rfl) $$ Hst
  iintro Hs
  iapply (send_step X (D m) κ (defs₀ (F := F)) 𝒱₀ c (link 0) (by decide) (by decide) (dev1 c)
    (rowOf_eq inM squeezes_S1x9856x1024_S9856x1024 _ (off2 c) _) (rowOf_eq outM squeezes_S1x9856x1024_S9856x1024 _ (off1 c) _) rfl rfl) $$ Hs
  iintro Hs
  iapply (send_step X (D m) κ (defs₀ (F := F)) 𝒱₀ c (link 1) (by decide) (by decide) (dev2 c)
    (rowOf_eq inM squeezes_S1x9856x1024_S9856x1024 _ (off3 c) _) (rowOf_eq outM squeezes_S1x9856x1024_S9856x1024 _ (off1 c) _) rfl rfl) $$ Hs
  iintro Hs
  iapply (send_step X (D m) κ (defs₀ (F := F)) 𝒱₀ c (link 2) (by decide) (by decide) (dev3 c)
    (rowOf_eq inM squeezes_S1x9856x1024_S9856x1024 _ (off4 c) _) (rowOf_eq outM squeezes_S1x9856x1024_S9856x1024 _ (off1 c) _) rfl rfl) $$ Hs
  iintro Hs
  iapply (send_step X (D m) κ (defs₀ (F := F)) 𝒱₀ c (link 3) (by decide) (by decide) (dev4 c)
    (rowOf_eq inM squeezes_S1x9856x1024_S9856x1024 _ (off5 c) _) (rowOf_eq outM squeezes_S1x9856x1024_S9856x1024 _ (off1 c) _) rfl rfl) $$ Hs
  iintro Hs
  iapply (send_step X (D m) κ (defs₀ (F := F)) 𝒱₀ c (link 4) (by decide) (by decide) (dev5 c)
    (rowOf_eq inM squeezes_S1x9856x1024_S9856x1024 _ (off6 c) _) (rowOf_eq outM squeezes_S1x9856x1024_S9856x1024 _ (off1 c) _) rfl rfl) $$ Hs
  iintro Hs
  iapply (send_step X (D m) κ (defs₀ (F := F)) 𝒱₀ c (link 5) (by decide) (by decide) (dev6 c)
    (rowOf_eq inM squeezes_S1x9856x1024_S9856x1024 _ (off7 c) _) (rowOf_eq outM squeezes_S1x9856x1024_S9856x1024 _ (off1 c) _) rfl rfl) $$ Hs
  iintro Hs
  iapply (send_step X (D m) κ (defs₀ (F := F)) 𝒱₀ c (link 6) (by decide) (by decide) (dev7 c)
    (rowOf_eq inM squeezes_S1x9856x1024_S9856x1024 _ (off8 c) _) (rowOf_eq outM squeezes_S1x9856x1024_S9856x1024 _ (off1 c) _) rfl rfl) $$ Hs
  iintro Hs
  have hz : ((((((((Finset.univ : Finset (Fin X.n)).erase (link 0)).erase (link 1)).erase (link 2)).erase (link 3)).erase
    (link 4)).erase (link 5)).erase (link 6)) = ∅ := sent
  rw [hz]
  iapply (wait_step X (D m) κ (defs₀ (F := F)) 𝒱₀ c (rcv (link 0)) (by decide) (by decide) rfl rfl) $$ Hs
  iintro Hs
  iapply (wait_step X (D m) κ (defs₀ (F := F)) 𝒱₀ c (rcv (link 1)) (by decide) (by decide) rfl rfl) $$ Hs
  iintro Hs
  iapply (wait_step X (D m) κ (defs₀ (F := F)) 𝒱₀ c (rcv (link 2)) (by decide) (by decide) rfl rfl) $$ Hs
  iintro Hs
  iapply (wait_step X (D m) κ (defs₀ (F := F)) 𝒱₀ c (rcv (link 3)) (by decide) (by decide) rfl rfl) $$ Hs
  iintro Hs
  iapply (wait_step X (D m) κ (defs₀ (F := F)) 𝒱₀ c (rcv (link 4)) (by decide) (by decide) rfl rfl) $$ Hs
  iintro Hs
  iapply (wait_step X (D m) κ (defs₀ (F := F)) 𝒱₀ c (rcv (link 5)) (by decide) (by decide) rfl rfl) $$ Hs
  iintro Hs
  iapply (wait_step X (D m) κ (defs₀ (F := F)) 𝒱₀ c (rcv (link 6)) (by decide) (by decide) rfl rfl) $$ Hs
  iintro Hs
  iapply (wait_step X (D m) κ (defs₀ (F := F)) 𝒱₀ c (snd (link 0)) (by decide) (by decide) rfl rfl) $$ Hs
  iintro Hs
  iapply (wait_step X (D m) κ (defs₀ (F := F)) 𝒱₀ c (snd (link 1)) (by decide) (by decide) rfl rfl) $$ Hs
  iintro Hs
  iapply (wait_step X (D m) κ (defs₀ (F := F)) 𝒱₀ c (snd (link 2)) (by decide) (by decide) rfl rfl) $$ Hs
  iintro Hs
  iapply (wait_step X (D m) κ (defs₀ (F := F)) 𝒱₀ c (snd (link 3)) (by decide) (by decide) rfl rfl) $$ Hs
  iintro Hs
  iapply (wait_step X (D m) κ (defs₀ (F := F)) 𝒱₀ c (snd (link 4)) (by decide) (by decide) rfl rfl) $$ Hs
  iintro Hs
  iapply (wait_step X (D m) κ (defs₀ (F := F)) 𝒱₀ c (snd (link 5)) (by decide) (by decide) rfl rfl) $$ Hs
  iintro Hs
  iapply (wait_step X (D m) κ (defs₀ (F := F)) 𝒱₀ c (snd (link 6)) (by decide) (by decide) rfl rfl) $$ Hs
  iintro Hs
  iapply (wait_step X (D m) κ (defs₀ (F := F)) 𝒱₀ c loc (by decide) (by decide) rfl rfl) $$ Hs
  iintro Hs
  rw [wp_ret]
  imodintro
  iapply Hk
  iapply (state_done X (D m) rfl (by decide) (by decide)) $$ Hs

abbrev adm : (p : Fin 1) → (pcfgs (F := F) p).Adm := fun p => (cfgs p).toPCfg_adm

theorem W_zero : (Pipeline.pin (pcfgs (F := F)) adm 0).W = 0 := rfl
theorem N_one : (Pipeline.pin (pcfgs (F := F)) adm 0).N = 1 := N_0

def pdats : (p : Fin 1) → (c : Dev nD) → Dat τ (Elt F) Unit ℕ (UU nD τ sig) ℕ (Pipeline.pin (pcfgs (F := F)) adm p) c
  | 0 => fun c => dat X (D m) (Pipeline.pin (pcfgs (F := F)) adm 0) W_zero (Pipeline.scopedRest (Pipeline.pin (pcfgs (F := F)) adm 0).spec) c

omit [FloatOps F] in
theorem bigSep_W0 (Φ : Fin 0 → sProp (MT nD τ sig Unit (Elt F) ℕ (UU nD τ sig) ℕ)) : bigSep Finset.univ Φ = BI.emp :=
  bigSep_univ_eq_bigSepL [] (by decide) (by decide) Φ

theorem body0 (c : Dev nD) : BodyObligation (pdats (F := F) m 0 c) defs₀ 𝒱₀ () Set.univ := fun t => by
  obtain rfl := fin_N0 t
  rw [bigSep_W0, bigSep_W0]
  rw [show (pdats m 0 c).Φ t0_0.castSucc = before X (D m) (Pipeline.scopedRest (Pipeline.pin (pcfgs (F := F)) adm 0).spec) c from rfl,
    show (pdats m 0 c).Φ t0_0.succ = behind X (D m) (Pipeline.scopedRest (Pipeline.pin (pcfgs (F := F)) adm 0).spec) c from rfl]
  unfold before behind back
  iintro ⟨⟨⟨%κ, H1, H2, H3⟩, HR⟩, HO, -⟩
  ihave HO' := (owesAt_elim (pdats m 0 c) _ (owed X c Finset.univ) rfl) $$ HO
  iapply (body_run m κ c _)
  isplitl [H1 H2 H3 HO']
  · unfold start
    isplitl [H1]; · iexact H1
    isplitl [H2]; · iexact H2
    isplitl [H3] <;> iassumption
  iintro Hf
  ihave Hf' := (finish_elim X (D m) c) $$ Hf
  icases Hf' with ⟨Hs, Hd, Hz, HO⟩
  isplitl [Hs Hd Hz HR]
  · isplitr [HR]
    · isplitr [Hz]
      · isplitl [Hs] <;> iassumption
      · iexact Hz
    · iexact HR
  isplitl [HO]; · iapply (owesAt_intro (pdats m 0 c) t0_0.succ 0 rfl rfl); iexact HO
  iempintro

/-! ## The run -/

theorem ownFacts₀ : Pipeline.OwnSemFacts (cfg0.spec) X.sem := ⟨by decide, by decide, fun _ w => w.elim0⟩
theorem ownFacts : Pipeline.OwnSemFacts (Pipeline.pin (pcfgs (F := F)) adm 0).spec X.sem := ownFacts₀

abbrev inPts (c : Dev nD) : sProp 𝕄 := (c : Thread nD τ).loc main_arg0 ↦{fullShare} m ((c : Thread nD τ).loc main_arg0)
abbrev outPts (c : Dev nD) (f : Buf (Elt F) ((c : Thread nD τ).loc main_v1)) : sProp 𝕄 := (c : Thread nD τ).loc main_v1 ↦{fullShare} f

theorem in_rows (c : Dev nD) : (inPts m c : sProp 𝕄) = bigSep Finset.univ fun j => srcPts X (D m) c j :=
  rows_split inM squeezes_S1x9856x1024_S9856x1024 (Memref.isWhole_whole _) c fullShare (m ((c : Thread nD τ).loc main_arg0))
theorem out_rows (c : Dev nD) (f : Buf (Elt F) ((c : Thread nD τ).loc main_v1)) :
    (outPts c f : sProp 𝕄) = bigSep Finset.univ fun j => (dstPts X c j f : sProp 𝕄) :=
  rows_split outM squeezes_S1x9856x1024_S9856x1024 (Memref.isWhole_whole _) c fullShare f

theorem bufs_split (c : Dev nD) : (unscopedBufs c (fun b => m ((c : Thread nD τ).loc b)) : sProp 𝕄)
    ⊢ iprop((bigSep Finset.univ fun j => srcPts X (D m) c j) ∗ (bigSep Finset.univ fun j => iprop(∃ f, dstPts X c j f)) ∗ emp) := by
  rw [Pipeline.unscopedBufs_split (Pipeline.pin (pcfgs (F := F)) adm) 0 winFacts0.arr_unscoped winFacts0.arr_inj c,
    show (Pipeline.unscopedRest (Pipeline.pin (pcfgs (F := F)) adm 0).spec c (fun b => m ((c : Thread nD τ).loc b)) : sProp 𝕄)
      = iprop(inPts m c ∗ outPts c (m ((c : Thread nD τ).loc main_v1))) from unscopedRest0_eq c _, in_rows, out_rows]
  iintro ⟨-, Hs, Hd⟩
  isplitl [Hs]; · iexact Hs
  isplitl [Hd]
  · iapply (show (bigSep Finset.univ fun j => (dstPts X c j (m ((c : Thread nD τ).loc main_v1)) : sProp 𝕄)) ⊢ bigSep Finset.univ fun j => iprop(∃ f, dstPts X c j f) from
      bigSep_mono fun j _ => exists_intro_trans (Ψ := fun f => dstPts X c j f) _ (BI.Entails.refl _))
    iexact Hd
  iempintro

set_option backward.isDefEq.respectTransparency.types false in
/-- Every run ends, with every device's input kept, its result the rows the devices held for it, and every counter at zero. -/
theorem run_main (ρ : Dev nD → PrngReg) : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = outV m c) ∧ r.2.sem = fun _ => 0) := by
  refine (θ_run (defs (F := F)) _ _).mono (fun r h => ⟨h.1, ?_⟩)
    (θ_launch (defs (F := F)) (Variants.lift 𝒱₀) (main (F := F)) m ρ (fun c => owed X c Finset.univ)
      (launchU (pcfgs (F := F)) adm X cellOf_inj) (dealt (pcfgs (F := F)) adm X (D m) cellOf_inj 0 ownFacts fun _ => iprop(emp))
      (fun c => iprop(inPts m c ∗ outPts c (outV m c)))
      (fun c s => s.mem ((c : Thread nD τ).loc main_arg0) = m ((c : Thread nD τ).loc main_arg0) ∧ s.mem ((c : Thread nD τ).loc main_v1) = outV m c)
      (deal_launch (pcfgs (F := F)) adm X (D m) cellOf_inj 0 winFacts0.to₀ ownFacts _ m (bufs_split m)) ?_ ?_)
  · funext g
    obtain ⟨⟨d, p⟩, sm⟩ := g
    by_cases hp : p = .tc
    · subst hp
      exact h.2.1 d sm ((by decide : ∀ sm : SemLoc sig, sm.isScoped .tc = true) sm)
    · exact h.2.2 _ hp
  · intro c
    rw [main_chain c]
    unfold dealt
    rw [show (Finset.univ : Finset (Fin 1)) = {0} from rfl, BI.bigSep_singleton, BI.bigSep_singleton]
    iintro ⟨Hst, ⟨Hsb, Hcs, Hi, Hid⟩, Hg, Ht, -⟩
    iapply (region_run (pcfgs (F := F)) adm X (D m) (pdats m) cellOf_inj 0 defs₀ 𝒱₀ winFacts0.to₀ stage_whole0 ownFacts W_zero N_one
      (fun c q pf => bigSep_W0 _) c rfl (body0 m c).loose) $$ [Hst Hsb Hcs Hi Hg Ht]
    · unfold around
      isplitl [Hst]; · iexact Hst
      isplitl [Hsb]; · iexact Hsb
      isplitl [Hcs]; · iexact Hcs
      isplitl [Hi]; · iexact Hi
      isplitl [Hg] <;> iassumption
    unfold back
    iintro ⟨⟨Hs, Hd⟩, Hss, Hsb, HO⟩
    simp only [Prog.bind, Pipeline.chain, Pure.pure]
    rw [wp_ret]
    imodintro
    rw [in_rows, out_rows]
    isplitl [Hs Hd]
    · isplitl [Hs]; · iexact Hs
      iexact Hd
    isplitr [HO]
    · iapply (show iprop(scopedBufs (c : Thread nD τ) ∗ scopedSems0 (c : Thread nD τ) ∗ opIdle (c : Thread nD τ)) ⊢ (boundary (c : Thread nD τ) : sProp 𝕄) from BI.Entails.refl _)
      isplitl [Hsb]; · iexact Hsb
      isplitl [Hss] <;> iassumption
    unfold ow; iexact HO
  · intro c s'
    iintro ⟨⟨Hx, Hy⟩, HSI⟩
    icombine HSI Hx gives %hx
    icombine HSI Hy gives %hy
    imodintro
    isplitr
    · ipureintro
      exact ⟨Buf.eq_of_forall_mem_univ hx, Buf.eq_of_forall_mem_univ hy⟩
    iexact HSI

end Cert.Proof

end
-- ==== Proof.Values.lean ====
/-
# The value of the exchange

Entry by entry: of an array cut into eight stacks of eight rows, row `j` of stack `c` of the array with the two indices exchanged is
row `c` of stack `j` of the array.
-/
module

public import proofs.«01_k».proof.Proof.Rows
public import Idealize.ShloMosaic.Lib.Pipeline.Value
public import Idealize.ShloMosaic.Lib.Layout

@[expose] public section

noncomputable section

namespace Cert.Exchange

open Idealize.ShloMosaic Idealize.ShloMosaic.ValueIdx Idealize.ShloMosaic.Pipeline

abbrev Four : Shape := ⟨4, ![8, 8, 9856, 1024]⟩

theorem swapped {α : Type} (A : (Stack 64 9856 1024).Idx → α) (h₁ : (Stack 64 9856 1024).ShapeCasts Four) (h₂ : Four.Transposes [1, 0, 2, 3] Four)
    (h₃ : Four.ShapeCasts (Stack 64 9856 1024)) (h : Layout.Tiles (Stack 8 9856 1024) (Stack 64 9856 1024) 0 8) (c : Fin 8) (i : (Stack 8 9856 1024).Idx) :
    Layout.block (Stack 8 9856 1024) (Stack 64 9856 1024) 0 8 c (shapeCast (Stack 64 9856 1024) (transpose Four [1, 0, 2, 3] (shapeCast Four A h₁) h₂) h₃) h i
      = Layout.block (Stack 8 9856 1024) (Stack 64 9856 1024) 0 8 (show Fin 8 from i 0) A h (ix3 c (i 1) (i 2)) := by
  refine (shapeCast_apply _ h₃ _ (ix4 c (i 0) (i 1) (i 2)) ?_).trans ?_
  · rw [Shape.rowMajor_val_four, Shape.rowMajor_val_three, Layout.Tiles.idx_val, Layout.Tiles.idx_val, Layout.Tiles.idx_val]
    show ((c.val * 8 + (i 0).val) * 9856 + (i 1).val) * 1024 + (i 2).val = ((c.val * 8 + (i 0).val) * 9856 + (i 1).val) * 1024 + (i 2).val
    rfl
  refine (transpose_apply _ _ h₂ _ (ix4 (i 0) c (i 1) (i 2)) ?_).trans ?_
  · intro b; fin_cases b <;> rfl
  refine shapeCast_apply _ h₁ _ _ ?_
  rw [Shape.rowMajor_val_four, Shape.rowMajor_val_three, Layout.Tiles.idx_val, Layout.Tiles.idx_val, Layout.Tiles.idx_val]
  rfl

/-- Of rows laid one after the other, the stack of the rows. -/
theorem stacked {α : Type} {R T : ℕ} (A : (Row T 1024).Idx → α) (h₁ : (Row T 1024).ShapeCasts (Stack 8 R 1024)) (h : Layout.Tiles (Row R 1024) (Row T 1024) 0 8)
    (i : (Stack 8 R 1024).Idx) :
    shapeCast (Stack 8 R 1024) A h₁ i = Layout.block (Row R 1024) (Row T 1024) 0 8 (show Fin 8 from i 0) A h (ix2 (i 1) (i 2)) := by
  refine shapeCast_apply _ h₁ _ _ ?_
  rw [Shape.rowMajor_val_three, Shape.rowMajor_val_two, Layout.Tiles.idx_val, Layout.Tiles.idx_val]
  rfl

end Cert.Exchange

end
-- ==== Proof.GatherWeights.lean ====
/-
# The gathering of the weights

Every device holds one row of weights and ends with the stack of the eight devices' rows. The run is the exchange of `Exchange.lean`
with the whole row as the piece every device is sent: a device's row is read by eight copies, each with an eighth of it.
-/
module

public import proofs.«01_k».proof.Proof.Gen.WeightsIdeal
public import proofs.«01_k».proof.Proof.Gen.WeightsIdeal.Skeleton
public import proofs.«01_k».proof.Proof.Gen.WeightsIdeal.Launch
public import proofs.«01_k».proof.Proof.ExchangeLaunch
public import proofs.«01_k».proof.Proof.Rows
public import Idealize.ShloMosaic.Lib.ShareLeaves

@[expose] public section

noncomputable section

namespace Cert.GatherWeights

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.Exchange Cert.WeightsIdeal Cert.WeightsIdeal.Gen

abbrev inM : Memref sig .tc .hbm (Row 9856 1024) .bf16 := Memref.whole main_arg0
abbrev outM : Memref sig .tc .hbm (Stack 8 9856 1024) .bf16 := Memref.whole main_v1

theorem sem_inb (k : Fin 7) : ∀ a, (![k.val] : Fin 1 → Nat) a + S1.size a ≤ S7.size a := by
  revert k; decide

/-- The exchange's net. -/
def X : Net nD sig where
  n := 7
  s := Row 9856 1024
  e := .bf16
  src _ := inM
  dst := rowOf outM squeezes_S1x9856x1024_S9856x1024
  sendS k := ((cc0_scratch0.slice (Rect.unit (s := S7) ![k.val] S1.size (sem_inb k))).squeeze S_ squeezes_S1_S_).sem
  recvS k := ((cc0_scratch1.slice (Rect.unit (s := S7) ![k.val] S1.size (sem_inb k))).squeeze S_ squeezes_S1_S_).sem
  locS := cc0_scratch2.sem
  sem_inj := by decide
  peer := hop
  invol := hop_hop
  all := hop_all
  amt := (rowOf outM squeezes_S1x9856x1024_S9856x1024 0).view.dmaCredit
  amt_pos := View.dmaCredit_pos _ (by decide)
  credit _ := rfl

variable {F : FTy → Type} [FloatOps F] (m : (ℓ : Loc nD τ sig) → Buf (Elt F) ℓ)

local notation "𝕄" => MT nD τ sig Unit (Elt F) ℕ (UU nD τ sig) ℕ

/-- What every device ends with: row `j` is device `j`'s row. -/
def outV (d : Dev nD) : Buf (Elt F) ((d : Thread nD τ).loc main_v1) :=
  fun i : (Stack 8 9856 1024).Idx => m ((Dev.tc (τ := τ) (show Dev nD from i 0)).loc main_arg0) (show (Row 9856 1024).Idx from ix2 (i 1) (i 2))

abbrev outRow (j : Fin 8) := rowOf outM squeezes_S1x9856x1024_S9856x1024 j

theorem read_row (j d : Dev nD) (x : (Row 9856 1024).Idx) :
    inM.view.read (Elt F) (m ((j : Thread nD τ).loc main_arg0)) x = (outRow j).view.read (Elt F) (outV m d) x :=
  .trans (congrArg (m ((j : Thread nD τ).loc main_arg0)) (show x = (show (Row 9856 1024).Idx from ix2 (x 0) (x 1)) from
      funext fun a => by match a with | ⟨0, _⟩ => rfl | ⟨1, _⟩ => rfl))
    (read_rowOf outM squeezes_S1x9856x1024_S9856x1024 j (outV m d) x).symm

theorem lands_row (j d : Dev nD) (fd : Buf (Elt F) ((d : Thread nD τ).loc main_v1)) :
    ∀ i ∈ (outRow j).view.set, (outRow j).view.write (Elt F) fd (inM.view.read (Elt F) (m ((j : Thread nD τ).loc main_arg0))) Finset.univ i = outV m d i :=
  write_read_eq (outRow j).view inM.view fd (outV m d) (m ((j : Thread nD τ).loc main_arg0)) (read_row m j d)

/-- The contents exchanged: each of the eight copies reads with an eighth of the device's row. -/
def D : Load τ (Elt F) X where
  q j := ShareLeaves.leaf 3 fullShare j
  sv c _ := m ((c : Thread nD τ).loc main_arg0)
  ov _ d := outV m d
  lands := lands_row m

abbrev 𝒱₀ : Variants := Variants.none

/-! ## The body -/

theorem off1 : ∀ d : Dev nD, k0_off1 d = ![d.val, 0, 0] := by decide +kernel
theorem dev1 : ∀ d : Dev nD, (⟨k0_dev1 d, k0_dev1_lt d⟩ : Dev nD) = hop 0 d := by decide +kernel
theorem dev2 : ∀ d : Dev nD, (⟨k0_dev2 d, k0_dev2_lt d⟩ : Dev nD) = hop 1 d := by decide +kernel
theorem dev3 : ∀ d : Dev nD, (⟨k0_dev3 d, k0_dev3_lt d⟩ : Dev nD) = hop 2 d := by decide +kernel
theorem dev4 : ∀ d : Dev nD, (⟨k0_dev4 d, k0_dev4_lt d⟩ : Dev nD) = hop 3 d := by decide +kernel
theorem dev5 : ∀ d : Dev nD, (⟨k0_dev5 d, k0_dev5_lt d⟩ : Dev nD) = hop 4 d := by decide +kernel
theorem dev6 : ∀ d : Dev nD, (⟨k0_dev6 d, k0_dev6_lt d⟩ : Dev nD) = hop 5 d := by decide +kernel
theorem dev7 : ∀ d : Dev nD, (⟨k0_dev7 d, k0_dev7_lt d⟩ : Dev nD) = hop 6 d := by decide +kernel

abbrev link (k : Fin 7) : Fin X.n := k

theorem sent : ((((((((Finset.univ : Finset (Fin 7)).erase 0).erase 1).erase 2).erase 3).erase 4).erase 5).erase 6) = ∅ := by decide

set_option maxHeartbeats 4000000 in
theorem body_run (κ : Dev nD × Cell X.n → ℕ) (c : Dev nD) (Kt : PUnit → sProp (MT nD τ sig Unit (Elt F) ℕ (UU nD τ sig) ℕ)) :
    iprop(start X (D m) κ c ∗ (finish X (D m) c -∗ Kt ⟨⟩))
      ⊢ wp frame (wpE (defs₀ (F := F)) 𝒱₀ (c : Thread nD τ) none) Set.univ
          (cc0_gather_weights (Memref.whole main_arg0) (Memref.isWhole_whole _) (Memref.whole main_v1) (Memref.isWhole_whole _) cc0_scratch0 cc0_scratch1 cc0_scratch2) Kt := by
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, Prog.bind_assoc, wp_deviceId]
  iintro ⟨Hst, Hk⟩
  iapply (copy_step X (D m) κ (defs₀ (F := F)) 𝒱₀ c rfl
    (rowOf_eq outM squeezes_S1x9856x1024_S9856x1024 _ (off1 c) _) rfl) $$ Hst
  iintro Hs
  iapply (send_step X (D m) κ (defs₀ (F := F)) 𝒱₀ c (link 0) (by decide) (by decide) (dev1 c)
    rfl (rowOf_eq outM squeezes_S1x9856x1024_S9856x1024 _ (off1 c) _) rfl rfl) $$ Hs
  iintro Hs
  iapply (send_step X (D m) κ (defs₀ (F := F)) 𝒱₀ c (link 1) (by decide) (by decide) (dev2 c)
    rfl (rowOf_eq outM squeezes_S1x9856x1024_S9856x1024 _ (off1 c) _) rfl rfl) $$ Hs
  iintro Hs
  iapply (send_step X (D m) κ (defs₀ (F := F)) 𝒱₀ c (link 2) (by decide) (by decide) (dev3 c)
    rfl (rowOf_eq outM squeezes_S1x9856x1024_S9856x1024 _ (off1 c) _) rfl rfl) $$ Hs
  iintro Hs
  iapply (send_step X (D m) κ (defs₀ (F := F)) 𝒱₀ c (link 3) (by decide) (by decide) (dev4 c)
    rfl (rowOf_eq outM squeezes_S1x9856x1024_S9856x1024 _ (off1 c) _) rfl rfl) $$ Hs
  iintro Hs
  iapply (send_step X (D m) κ (defs₀ (F := F)) 𝒱₀ c (link 4) (by decide) (by decide) (dev5 c)
    rfl (rowOf_eq outM squeezes_S1x9856x1024_S9856x1024 _ (off1 c) _) rfl rfl) $$ Hs
  iintro Hs
  iapply (send_step X (D m) κ (defs₀ (F := F)) 𝒱₀ c (link 5) (by decide) (by decide) (dev6 c)
    rfl (rowOf_eq outM squeezes_S1x9856x1024_S9856x1024 _ (off1 c) _) rfl rfl) $$ Hs
  iintro Hs
  iapply (send_step X (D m) κ (defs₀ (F := F)) 𝒱₀ c (link 6) (by decide) (by decide) (dev7 c)
    rfl (rowOf_eq outM squeezes_S1x9856x1024_S9856x1024 _ (off1 c) _) rfl rfl) $$ Hs
  iintro Hs
  have hz : ((((((((Finset.univ : Finset (Fin X.n)).erase (link 0)).erase (link 1)).erase (link 2)).erase (link 3)).erase
    (link 4)).erase (link 5)).erase (link 6)) = ∅ := sent
  rw [hz]
  iapply (wait_step X (D m) κ (defs₀ (F := F)) 𝒱₀ c (rcv (link 0)) (by decide) (by decide) rfl rfl) $$ Hs
  iintro Hs
  iapply (wait_step X (D m) κ (defs₀ (F := F)) 𝒱₀ c (rcv (link 1)) (by decide) (by decide) rfl rfl) $$ Hs
  iintro Hs
  iapply (wait_step X (D m) κ (defs₀ (F := F)) 𝒱₀ c (rcv (link 2)) (by decide) (by decide) rfl rfl) $$ Hs
  iintro Hs
  iapply (wait_step X (D m) κ (defs₀ (F := F)) 𝒱₀ c (rcv (link 3)) (by decide) (by decide) rfl rfl) $$ Hs
  iintro Hs
  iapply (wait_step X (D m) κ (defs₀ (F := F)) 𝒱₀ c (rcv (link 4)) (by decide) (by decide) rfl rfl) $$ Hs
  iintro Hs
  iapply (wait_step X (D m) κ (defs₀ (F := F)) 𝒱₀ c (rcv (link 5)) (by decide) (by decide) rfl rfl) $$ Hs
  iintro Hs
  iapply (wait_step X (D m) κ (defs₀ (F := F)) 𝒱₀ c (rcv (link 6)) (by decide) (by decide) rfl rfl) $$ Hs
  iintro Hs
  iapply (wait_step X (D m) κ (defs₀ (F := F)) 𝒱₀ c (snd (link 0)) (by decide) (by decide) rfl rfl) $$ Hs
  iintro Hs
  iapply (wait_step X (D m) κ (defs₀ (F := F)) 𝒱₀ c (snd (link 1)) (by decide) (by decide) rfl rfl) $$ Hs
  iintro Hs
  iapply (wait_step X (D m) κ (defs₀ (F := F)) 𝒱₀ c (snd (link 2)) (by decide) (by decide) rfl rfl) $$ Hs
  iintro Hs
  iapply (wait_step X (D m) κ (defs₀ (F := F)) 𝒱₀ c (snd (link 3)) (by decide) (by decide) rfl rfl) $$ Hs
  iintro Hs
  iapply (wait_step X (D m) κ (defs₀ (F := F)) 𝒱₀ c (snd (link 4)) (by decide) (by decide) rfl rfl) $$ Hs
  iintro Hs
  iapply (wait_step X (D m) κ (defs₀ (F := F)) 𝒱₀ c (snd (link 5)) (by decide) (by decide) rfl rfl) $$ Hs
  iintro Hs
  iapply (wait_step X (D m) κ (defs₀ (F := F)) 𝒱₀ c (snd (link 6)) (by decide) (by decide) rfl rfl) $$ Hs
  iintro Hs
  iapply (wait_step X (D m) κ (defs₀ (F := F)) 𝒱₀ c loc (by decide) (by decide) rfl rfl) $$ Hs
  iintro Hs
  rw [wp_ret]
  imodintro
  iapply Hk
  iapply (state_done X (D m) rfl (by decide) (by decide)) $$ Hs

abbrev adm : (p : Fin 1) → (pcfgs (F := F) p).Adm := fun p => (cfgs p).toPCfg_adm

theorem W_zero : (Pipeline.pin (pcfgs (F := F)) adm 0).W = 0 := rfl
theorem N_one : (Pipeline.pin (pcfgs (F := F)) adm 0).N = 1 := N_0

def pdats : (p : Fin 1) → (c : Dev nD) → Dat τ (Elt F) Unit ℕ (UU nD τ sig) ℕ (Pipeline.pin (pcfgs (F := F)) adm p) c
  | 0 => fun c => dat X (D m) (Pipeline.pin (pcfgs (F := F)) adm 0) W_zero (Pipeline.scopedRest (Pipeline.pin (pcfgs (F := F)) adm 0).spec) c

omit [FloatOps F] in
theorem bigSep_W0 (Φ : Fin 0 → sProp (MT nD τ sig Unit (Elt F) ℕ (UU nD τ sig) ℕ)) : bigSep Finset.univ Φ = BI.emp :=
  bigSep_univ_eq_bigSepL [] (by decide) (by decide) Φ

theorem body0 (c : Dev nD) : BodyObligation (pdats (F := F) m 0 c) defs₀ 𝒱₀ () Set.univ := fun t => by
  obtain rfl := fin_N0 t
  rw [bigSep_W0, bigSep_W0]
  rw [show (pdats m 0 c).Φ t0_0.castSucc = before X (D m) (Pipeline.scopedRest (Pipeline.pin (pcfgs (F := F)) adm 0).spec) c from rfl,
    show (pdats m 0 c).Φ t0_0.succ = behind X (D m) (Pipeline.scopedRest (Pipeline.pin (pcfgs (F := F)) adm 0).spec) c from rfl]
  unfold before behind back
  iintro ⟨⟨⟨%κ, H1, H2, H3⟩, HR⟩, HO, -⟩
  ihave HO' := (owesAt_elim (pdats m 0 c) _ (owed X c Finset.univ) rfl) $$ HO
  iapply (body_run m κ c _)
  isplitl [H1 H2 H3 HO']
  · unfold start
    isplitl [H1]; · iexact H1
    isplitl [H2]; · iexact H2
    isplitl [H3] <;> iassumption
  iintro Hf
  ihave Hf' := (finish_elim X (D m) c) $$ Hf
  icases Hf' with ⟨Hs, Hd, Hz, HO⟩
  isplitl [Hs Hd Hz HR]
  · isplitr [HR]
    · isplitr [Hz]
      · isplitl [Hs] <;> iassumption
      · iexact Hz
    · iexact HR
  isplitl [HO]; · iapply (owesAt_intro (pdats m 0 c) t0_0.succ 0 rfl rfl); iexact HO
  iempintro

/-! ## The run -/

theorem ownFacts₀ : Pipeline.OwnSemFacts (cfg0.spec) X.sem := ⟨by decide, by decide, fun _ w => w.elim0⟩
theorem ownFacts : Pipeline.OwnSemFacts (Pipeline.pin (pcfgs (F := F)) adm 0).spec X.sem := ownFacts₀

abbrev inPts (c : Dev nD) : sProp 𝕄 := (c : Thread nD τ).loc main_arg0 ↦{fullShare} m ((c : Thread nD τ).loc main_arg0)
abbrev outPts (c : Dev nD) (f : Buf (Elt F) ((c : Thread nD τ).loc main_v1)) : sProp 𝕄 := (c : Thread nD τ).loc main_v1 ↦{fullShare} f

theorem in_rows (c : Dev nD) : (inPts m c : sProp 𝕄) = bigSep Finset.univ fun j => srcPts X (D m) c j := by
  refine (ShareLeaves.pointsTo_leaves (ℓ := (c : Thread nD τ).loc main_arg0) Finset.univ (m ((c : Thread nD τ).loc main_arg0)) 3 fullShare).trans ?_
  refine congrArg (bigSep Finset.univ) (funext fun j : Fin 8 => ?_)
  have h : (X.src j).view.set = Finset.univ := (Memref.isWhole_whole main_arg0).set_eq_univ
  unfold srcPts
  rw [h]
  rfl
theorem out_rows (c : Dev nD) (f : Buf (Elt F) ((c : Thread nD τ).loc main_v1)) :
    (outPts c f : sProp 𝕄) = bigSep Finset.univ fun j => (dstPts X c j f : sProp 𝕄) :=
  rows_split outM squeezes_S1x9856x1024_S9856x1024 (Memref.isWhole_whole _) c fullShare f

theorem bufs_split (c : Dev nD) : (unscopedBufs c (fun b => m ((c : Thread nD τ).loc b)) : sProp 𝕄)
    ⊢ iprop((bigSep Finset.univ fun j => srcPts X (D m) c j) ∗ (bigSep Finset.univ fun j => iprop(∃ f, dstPts X c j f)) ∗ emp) := by
  rw [Pipeline.unscopedBufs_split (Pipeline.pin (pcfgs (F := F)) adm) 0 winFacts0.arr_unscoped winFacts0.arr_inj c,
    show (Pipeline.unscopedRest (Pipeline.pin (pcfgs (F := F)) adm 0).spec c (fun b => m ((c : Thread nD τ).loc b)) : sProp 𝕄)
      = iprop(inPts m c ∗ outPts c (m ((c : Thread nD τ).loc main_v1))) from unscopedRest0_eq c _, in_rows, out_rows]
  iintro ⟨-, Hs, Hd⟩
  isplitl [Hs]; · iexact Hs
  isplitl [Hd]
  · iapply (show (bigSep Finset.univ fun j => (dstPts X c j (m ((c : Thread nD τ).loc main_v1)) : sProp 𝕄)) ⊢ bigSep Finset.univ fun j => iprop(∃ f, dstPts X c j f) from
      bigSep_mono fun j _ => exists_intro_trans (Ψ := fun f => dstPts X c j f) _ (BI.Entails.refl _))
    iexact Hd
  iempintro

set_option backward.isDefEq.respectTransparency.types false in
/-- Every run ends, with every device's input kept, its result the rows the devices held for it, and every counter at zero. -/
theorem run_main (ρ : Dev nD → PrngReg) : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = outV m c) ∧ r.2.sem = fun _ => 0) := by
  refine (θ_run (defs (F := F)) _ _).mono (fun r h => ⟨h.1, ?_⟩)
    (θ_launch (defs (F := F)) (Variants.lift 𝒱₀) (main (F := F)) m ρ (fun c => owed X c Finset.univ)
      (launchU (pcfgs (F := F)) adm X cellOf_inj) (dealt (pcfgs (F := F)) adm X (D m) cellOf_inj 0 ownFacts fun _ => iprop(emp))
      (fun c => iprop(inPts m c ∗ outPts c (outV m c)))
      (fun c s => s.mem ((c : Thread nD τ).loc main_arg0) = m ((c : Thread nD τ).loc main_arg0) ∧ s.mem ((c : Thread nD τ).loc main_v1) = outV m c)
      (deal_launch (pcfgs (F := F)) adm X (D m) cellOf_inj 0 winFacts0.to₀ ownFacts _ m (bufs_split m)) ?_ ?_)
  · funext g
    obtain ⟨⟨d, p⟩, sm⟩ := g
    by_cases hp : p = .tc
    · subst hp
      exact h.2.1 d sm ((by decide : ∀ sm : SemLoc sig, sm.isScoped .tc = true) sm)
    · exact h.2.2 _ hp
  · intro c
    rw [main_chain c]
    unfold dealt
    rw [show (Finset.univ : Finset (Fin 1)) = {0} from rfl, BI.bigSep_singleton, BI.bigSep_singleton]
    iintro ⟨Hst, ⟨Hsb, Hcs, Hi, Hid⟩, Hg, Ht, -⟩
    iapply (region_run (pcfgs (F := F)) adm X (D m) (pdats m) cellOf_inj 0 defs₀ 𝒱₀ winFacts0.to₀ stage_whole0 ownFacts W_zero N_one
      (fun c q pf => bigSep_W0 _) c rfl (body0 m c).loose) $$ [Hst Hsb Hcs Hi Hg Ht]
    · unfold around
      isplitl [Hst]; · iexact Hst
      isplitl [Hsb]; · iexact Hsb
      isplitl [Hcs]; · iexact Hcs
      isplitl [Hi]; · iexact Hi
      isplitl [Hg] <;> iassumption
    unfold back
    iintro ⟨⟨Hs, Hd⟩, Hss, Hsb, HO⟩
    simp only [Prog.bind, Pipeline.chain, Pure.pure]
    rw [wp_ret]
    imodintro
    rw [in_rows, out_rows]
    isplitl [Hs Hd]
    · isplitl [Hs]; · iexact Hs
      iexact Hd
    isplitr [HO]
    · iapply (show iprop(scopedBufs (c : Thread nD τ) ∗ scopedSems0 (c : Thread nD τ) ∗ opIdle (c : Thread nD τ)) ⊢ (boundary (c : Thread nD τ) : sProp 𝕄) from BI.Entails.refl _)
      isplitl [Hsb]; · iexact Hsb
      isplitl [Hss] <;> iassumption
    unfold ow; iexact HO
  · intro c s'
    iintro ⟨⟨Hx, Hy⟩, HSI⟩
    icombine HSI Hx gives %hx
    icombine HSI Hy gives %hy
    imodintro
    isplitr
    · ipureintro
      exact ⟨Buf.eq_of_forall_mem_univ hx, Buf.eq_of_forall_mem_univ hy⟩
    iexact HSI

end Cert.GatherWeights

end
-- ==== Proof.WeightsClaims.lean ====
/-
# The gathering of the weights, certified
-/
module

public import proofs.«01_k».proof.Defs
public import proofs.«01_k».proof.Proof.Gen.Weights
public import proofs.«01_k».proof.Proof.Gen.WeightsIdeal
public import proofs.«01_k».proof.Proof.Gen.WeightsReference
public import proofs.«01_k».proof.Proof.Gen.WeightsReference.Run
public import proofs.«01_k».proof.Proof.Gen.WeightsReferenceIdeal
public import proofs.«01_k».proof.Proof.Gen.WeightsReferenceIdeal.Run
public import proofs.«01_k».proof.Proof.GatherWeights
public import proofs.«01_k».proof.Proof.Values
public import Idealize.ShloMosaic.Adequacy
public import Idealize.ShloMosaic.Init

@[expose] public section

noncomputable section

namespace Cert.GatherWeights

open Idealize.ShloMosaic Idealize.ShloMosaic.TcCoe Idealize.SL.Sem Cert.Exchange

section
variable {F : FTy → Type} [FloatOps F]

theorem run_kernel (m : (ℓ : Loc Cert.Weights.nD Cert.Weights.τ Cert.Weights.sig) → Buf (Elt F) ℓ) (ρ : Dev Cert.Weights.nD → PrngReg) :
    θ_run (Cert.Weights.defs (F := F)) (onTc (τ := Cert.Weights.τ) (Cert.Weights.main (F := F))) ⟨m, fun _ => 0, ρ⟩
      (fun r => (∀ c : Dev Cert.Weights.nD, r.2.mem ((c : Thread Cert.Weights.nD Cert.Weights.τ).loc Cert.Weights.main_arg0) = m ((c : Thread Cert.Weights.nD Cert.Weights.τ).loc Cert.Weights.main_arg0)
        ∧ r.2.mem ((c : Thread Cert.Weights.nD Cert.Weights.τ).loc Cert.Weights.main_v1) = outV (F := F) m c) ∧ r.2.sem = fun _ => 0) :=
  run_main (F := F) m ρ

/-- Every device's result is the reference's. -/
theorem result (m : (ℓ : Loc Cert.WeightsIdeal.nD Cert.WeightsIdeal.τ Cert.WeightsIdeal.sig) → Buf (Elt F) ℓ) (A : (Row 78848 1024).Idx → Elt F .bf16)
    (hm : ∀ c : Dev Cert.WeightsIdeal.nD, m ((c : Thread Cert.WeightsIdeal.nD Cert.WeightsIdeal.τ).loc Cert.WeightsIdeal.main_arg0)
      = Layout.block (Row 9856 1024) (Row 78848 1024) 0 8 c A)
    (h₁ : (Row 78848 1024).ShapeCasts (Stack 8 9856 1024)) (c : Fin 8) :
    outV m c = shapeCast (Stack 8 9856 1024) A h₁ := by
  funext i
  exact (congrFun (hm _) _).trans (stacked A h₁ _ i).symm

end

theorem frame_kernel : Cert.quiescent_Weights (hWeights := Cert.Weights.Gen.facts) := fun m g _ =>
  (θ_run Cert.Weights.defs _ _).mono (fun _ h => ⟨fun c => (h.1 c).1, h.2⟩) (run_kernel (F := Bits) m g)

theorem frame_kernelIdeal : Cert.quiescent_WeightsIdeal (hWeightsIdeal := Cert.WeightsIdeal.Gen.facts) := fun m g _ =>
  (θ_run Cert.WeightsIdeal.defs _ _).mono (fun _ h => ⟨fun c => (h.1 c).1, h.2⟩) (run_main (F := Ideal) m g)

theorem frame_referenceIdeal : Cert.quiescent_WeightsReferenceIdeal (hWeightsReferenceIdeal := Cert.WeightsReferenceIdeal.Gen.facts) := fun m g _ =>
  (θ_run Cert.WeightsReferenceIdeal.defs _ _).mono (fun r h => ⟨fun c => (h c).2, sem_eq_zero_of_no_sems rfl r.2⟩) (Cert.WeightsReferenceIdeal.Value.run (F := Ideal) m g)

theorem frame_reference : Cert.quiescent_WeightsReference (hWeightsReference := Cert.WeightsReference.Gen.facts) := fun m g _ =>
  (θ_run Cert.WeightsReference.defs _ _).mono (fun r h => ⟨fun c => (h c).2, sem_eq_zero_of_no_sems rfl r.2⟩) (Cert.WeightsReference.Value.run (F := Bits) m g)

theorem value_ideal : Cert.algebraic_WeightsIdeal_WeightsReferenceIdeal (hWeightsIdeal := Cert.WeightsIdeal.Gen.facts) (hWeightsReferenceIdeal := Cert.WeightsReferenceIdeal.Gen.facts) :=
  fun m g m' g' _ hm => ⟨_,
    (θ_run Cert.WeightsIdeal.defs _ _).mono (fun _ h c => ⟨(h.1 c).2.trans (result (F := Ideal) m _ hm _ c), (h.1 c).1⟩) (run_main (F := Ideal) m g),
    (θ_run Cert.WeightsReferenceIdeal.defs _ _).mono (fun _ h => h 0) (Cert.WeightsReferenceIdeal.Value.run (F := Ideal) m' g')⟩

theorem value_bits : Cert.bitexact_Weights_WeightsReference (hWeights := Cert.Weights.Gen.facts) (hWeightsReference := Cert.WeightsReference.Gen.facts) :=
  fun m g m' g' _ hm => ⟨_,
    (θ_run Cert.Weights.defs _ _).mono (fun _ h c => ⟨(h.1 c).2.trans (result (F := Bits) m _ hm _ c), (h.1 c).1⟩) (run_kernel (F := Bits) m g),
    (θ_run Cert.WeightsReference.defs _ _).mono (fun _ h => h 0) (Cert.WeightsReference.Value.run (F := Bits) m' g')⟩

end Cert.GatherWeights

end
-- ==== Proof.GatherGains.lean ====
/-
# The gathering of the gains

Every device holds one row of gains and ends with the stack of the eight devices' rows. The run is the exchange of `Exchange.lean`
with the whole row as the piece every device is sent: a device's row is read by eight copies, each with an eighth of it.
-/
module

public import proofs.«01_k».proof.Proof.Gen.GainsIdeal
public import proofs.«01_k».proof.Proof.Gen.GainsIdeal.Skeleton
public import proofs.«01_k».proof.Proof.Gen.GainsIdeal.Launch
public import proofs.«01_k».proof.Proof.ExchangeLaunch
public import proofs.«01_k».proof.Proof.Rows
public import Idealize.ShloMosaic.Lib.ShareLeaves

@[expose] public section

noncomputable section

namespace Cert.GatherGains

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.Exchange Cert.GainsIdeal Cert.GainsIdeal.Gen

abbrev inM : Memref sig .tc .hbm (Row 64 1024) .f32 := Memref.whole main_arg0
abbrev outM : Memref sig .tc .hbm (Stack 8 64 1024) .f32 := Memref.whole main_v1

theorem sem_inb (k : Fin 7) : ∀ a, (![k.val] : Fin 1 → Nat) a + S1.size a ≤ S7.size a := by
  revert k; decide

/-- The exchange's net. -/
def X : Net nD sig where
  n := 7
  s := Row 64 1024
  e := .f32
  src _ := inM
  dst := rowOf outM squeezes_S1x64x1024_S64x1024
  sendS k := ((cc0_scratch0.slice (Rect.unit (s := S7) ![k.val] S1.size (sem_inb k))).squeeze S_ squeezes_S1_S_).sem
  recvS k := ((cc0_scratch1.slice (Rect.unit (s := S7) ![k.val] S1.size (sem_inb k))).squeeze S_ squeezes_S1_S_).sem
  locS := cc0_scratch2.sem
  sem_inj := by decide
  peer := hop
  invol := hop_hop
  all := hop_all
  amt := (rowOf outM squeezes_S1x64x1024_S64x1024 0).view.dmaCredit
  amt_pos := View.dmaCredit_pos _ (by decide)
  credit _ := rfl

variable {F : FTy → Type} [FloatOps F] (m : (ℓ : Loc nD τ sig) → Buf (Elt F) ℓ)

local notation "𝕄" => MT nD τ sig Unit (Elt F) ℕ (UU nD τ sig) ℕ

/-- What every device ends with: row `j` is device `j`'s row. -/
def outV (d : Dev nD) : Buf (Elt F) ((d : Thread nD τ).loc main_v1) :=
  fun i : (Stack 8 64 1024).Idx => m ((Dev.tc (τ := τ) (show Dev nD from i 0)).loc main_arg0) (show (Row 64 1024).Idx from ix2 (i 1) (i 2))

abbrev outRow (j : Fin 8) := rowOf outM squeezes_S1x64x1024_S64x1024 j

theorem read_row (j d : Dev nD) (x : (Row 64 1024).Idx) :
    inM.view.read (Elt F) (m ((j : Thread nD τ).loc main_arg0)) x = (outRow j).view.read (Elt F) (outV m d) x :=
  .trans (congrArg (m ((j : Thread nD τ).loc main_arg0)) (show x = (show (Row 64 1024).Idx from ix2 (x 0) (x 1)) from
      funext fun a => by match a with | ⟨0, _⟩ => rfl | ⟨1, _⟩ => rfl))
    (read_rowOf outM squeezes_S1x64x1024_S64x1024 j (outV m d) x).symm

theorem lands_row (j d : Dev nD) (fd : Buf (Elt F) ((d : Thread nD τ).loc main_v1)) :
    ∀ i ∈ (outRow j).view.set, (outRow j).view.write (Elt F) fd (inM.view.read (Elt F) (m ((j : Thread nD τ).loc main_arg0))) Finset.univ i = outV m d i :=
  write_read_eq (outRow j).view inM.view fd (outV m d) (m ((j : Thread nD τ).loc main_arg0)) (read_row m j d)

/-- The contents exchanged: each of the eight copies reads with an eighth of the device's row. -/
def D : Load τ (Elt F) X where
  q j := ShareLeaves.leaf 3 fullShare j
  sv c _ := m ((c : Thread nD τ).loc main_arg0)
  ov _ d := outV m d
  lands := lands_row m

abbrev 𝒱₀ : Variants := Variants.none

/-! ## The body -/

theorem off1 : ∀ d : Dev nD, k0_off1 d = ![d.val, 0, 0] := by decide +kernel
theorem dev1 : ∀ d : Dev nD, (⟨k0_dev1 d, k0_dev1_lt d⟩ : Dev nD) = hop 0 d := by decide +kernel
theorem dev2 : ∀ d : Dev nD, (⟨k0_dev2 d, k0_dev2_lt d⟩ : Dev nD) = hop 1 d := by decide +kernel
theorem dev3 : ∀ d : Dev nD, (⟨k0_dev3 d, k0_dev3_lt d⟩ : Dev nD) = hop 2 d := by decide +kernel
theorem dev4 : ∀ d : Dev nD, (⟨k0_dev4 d, k0_dev4_lt d⟩ : Dev nD) = hop 3 d := by decide +kernel
theorem dev5 : ∀ d : Dev nD, (⟨k0_dev5 d, k0_dev5_lt d⟩ : Dev nD) = hop 4 d := by decide +kernel
theorem dev6 : ∀ d : Dev nD, (⟨k0_dev6 d, k0_dev6_lt d⟩ : Dev nD) = hop 5 d := by decide +kernel
theorem dev7 : ∀ d : Dev nD, (⟨k0_dev7 d, k0_dev7_lt d⟩ : Dev nD) = hop 6 d := by decide +kernel

abbrev link (k : Fin 7) : Fin X.n := k

theorem sent : ((((((((Finset.univ : Finset (Fin 7)).erase 0).erase 1).erase 2).erase 3).erase 4).erase 5).erase 6) = ∅ := by decide

set_option maxHeartbeats 4000000 in
theorem body_run (κ : Dev nD × Cell X.n → ℕ) (c : Dev nD) (Kt : PUnit → sProp (MT nD τ sig Unit (Elt F) ℕ (UU nD τ sig) ℕ)) :
    iprop(start X (D m) κ c ∗ (finish X (D m) c -∗ Kt ⟨⟩))
      ⊢ wp frame (wpE (defs₀ (F := F)) 𝒱₀ (c : Thread nD τ) none) Set.univ
          (cc0_gather_gains (Memref.whole main_arg0) (Memref.isWhole_whole _) (Memref.whole main_v1) (Memref.isWhole_whole _) cc0_scratch0 cc0_scratch1 cc0_scratch2) Kt := by
  simp only [cc0_gather_gains_eq_skeleton]; unfold cc0_gather_gains_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, Prog.bind_assoc, wp_deviceId]
  iintro ⟨Hst, Hk⟩
  iapply (copy_step X (D m) κ (defs₀ (F := F)) 𝒱₀ c rfl
    (rowOf_eq outM squeezes_S1x64x1024_S64x1024 _ (off1 c) _) rfl) $$ Hst
  iintro Hs
  iapply (send_step X (D m) κ (defs₀ (F := F)) 𝒱₀ c (link 0) (by decide) (by decide) (dev1 c)
    rfl (rowOf_eq outM squeezes_S1x64x1024_S64x1024 _ (off1 c) _) rfl rfl) $$ Hs
  iintro Hs
  iapply (send_step X (D m) κ (defs₀ (F := F)) 𝒱₀ c (link 1) (by decide) (by decide) (dev2 c)
    rfl (rowOf_eq outM squeezes_S1x64x1024_S64x1024 _ (off1 c) _) rfl rfl) $$ Hs
  iintro Hs
  iapply (send_step X (D m) κ (defs₀ (F := F)) 𝒱₀ c (link 2) (by decide) (by decide) (dev3 c)
    rfl (rowOf_eq outM squeezes_S1x64x1024_S64x1024 _ (off1 c) _) rfl rfl) $$ Hs
  iintro Hs
  iapply (send_step X (D m) κ (defs₀ (F := F)) 𝒱₀ c (link 3) (by decide) (by decide) (dev4 c)
    rfl (rowOf_eq outM squeezes_S1x64x1024_S64x1024 _ (off1 c) _) rfl rfl) $$ Hs
  iintro Hs
  iapply (send_step X (D m) κ (defs₀ (F := F)) 𝒱₀ c (link 4) (by decide) (by decide) (dev5 c)
    rfl (rowOf_eq outM squeezes_S1x64x1024_S64x1024 _ (off1 c) _) rfl rfl) $$ Hs
  iintro Hs
  iapply (send_step X (D m) κ (defs₀ (F := F)) 𝒱₀ c (link 5) (by decide) (by decide) (dev6 c)
    rfl (rowOf_eq outM squeezes_S1x64x1024_S64x1024 _ (off1 c) _) rfl rfl) $$ Hs
  iintro Hs
  iapply (send_step X (D m) κ (defs₀ (F := F)) 𝒱₀ c (link 6) (by decide) (by decide) (dev7 c)
    rfl (rowOf_eq outM squeezes_S1x64x1024_S64x1024 _ (off1 c) _) rfl rfl) $$ Hs
  iintro Hs
  have hz : ((((((((Finset.univ : Finset (Fin X.n)).erase (link 0)).erase (link 1)).erase (link 2)).erase (link 3)).erase
    (link 4)).erase (link 5)).erase (link 6)) = ∅ := sent
  rw [hz]
  iapply (wait_step X (D m) κ (defs₀ (F := F)) 𝒱₀ c (rcv (link 0)) (by decide) (by decide) rfl rfl) $$ Hs
  iintro Hs
  iapply (wait_step X (D m) κ (defs₀ (F := F)) 𝒱₀ c (rcv (link 1)) (by decide) (by decide) rfl rfl) $$ Hs
  iintro Hs
  iapply (wait_step X (D m) κ (defs₀ (F := F)) 𝒱₀ c (rcv (link 2)) (by decide) (by decide) rfl rfl) $$ Hs
  iintro Hs
  iapply (wait_step X (D m) κ (defs₀ (F := F)) 𝒱₀ c (rcv (link 3)) (by decide) (by decide) rfl rfl) $$ Hs
  iintro Hs
  iapply (wait_step X (D m) κ (defs₀ (F := F)) 𝒱₀ c (rcv (link 4)) (by decide) (by decide) rfl rfl) $$ Hs
  iintro Hs
  iapply (wait_step X (D m) κ (defs₀ (F := F)) 𝒱₀ c (rcv (link 5)) (by decide) (by decide) rfl rfl) $$ Hs
  iintro Hs
  iapply (wait_step X (D m) κ (defs₀ (F := F)) 𝒱₀ c (rcv (link 6)) (by decide) (by decide) rfl rfl) $$ Hs
  iintro Hs
  iapply (wait_step X (D m) κ (defs₀ (F := F)) 𝒱₀ c (snd (link 0)) (by decide) (by decide) rfl rfl) $$ Hs
  iintro Hs
  iapply (wait_step X (D m) κ (defs₀ (F := F)) 𝒱₀ c (snd (link 1)) (by decide) (by decide) rfl rfl) $$ Hs
  iintro Hs
  iapply (wait_step X (D m) κ (defs₀ (F := F)) 𝒱₀ c (snd (link 2)) (by decide) (by decide) rfl rfl) $$ Hs
  iintro Hs
  iapply (wait_step X (D m) κ (defs₀ (F := F)) 𝒱₀ c (snd (link 3)) (by decide) (by decide) rfl rfl) $$ Hs
  iintro Hs
  iapply (wait_step X (D m) κ (defs₀ (F := F)) 𝒱₀ c (snd (link 4)) (by decide) (by decide) rfl rfl) $$ Hs
  iintro Hs
  iapply (wait_step X (D m) κ (defs₀ (F := F)) 𝒱₀ c (snd (link 5)) (by decide) (by decide) rfl rfl) $$ Hs
  iintro Hs
  iapply (wait_step X (D m) κ (defs₀ (F := F)) 𝒱₀ c (snd (link 6)) (by decide) (by decide) rfl rfl) $$ Hs
  iintro Hs
  iapply (wait_step X (D m) κ (defs₀ (F := F)) 𝒱₀ c loc (by decide) (by decide) rfl rfl) $$ Hs
  iintro Hs
  rw [wp_ret]
  imodintro
  iapply Hk
  iapply (state_done X (D m) rfl (by decide) (by decide)) $$ Hs

abbrev adm : (p : Fin 1) → (pcfgs (F := F) p).Adm := fun p => (cfgs p).toPCfg_adm

theorem W_zero : (Pipeline.pin (pcfgs (F := F)) adm 0).W = 0 := rfl
theorem N_one : (Pipeline.pin (pcfgs (F := F)) adm 0).N = 1 := N_0

def pdats : (p : Fin 1) → (c : Dev nD) → Dat τ (Elt F) Unit ℕ (UU nD τ sig) ℕ (Pipeline.pin (pcfgs (F := F)) adm p) c
  | 0 => fun c => dat X (D m) (Pipeline.pin (pcfgs (F := F)) adm 0) W_zero (Pipeline.scopedRest (Pipeline.pin (pcfgs (F := F)) adm 0).spec) c

omit [FloatOps F] in
theorem bigSep_W0 (Φ : Fin 0 → sProp (MT nD τ sig Unit (Elt F) ℕ (UU nD τ sig) ℕ)) : bigSep Finset.univ Φ = BI.emp :=
  bigSep_univ_eq_bigSepL [] (by decide) (by decide) Φ

theorem body0 (c : Dev nD) : BodyObligation (pdats (F := F) m 0 c) defs₀ 𝒱₀ () Set.univ := fun t => by
  obtain rfl := fin_N0 t
  rw [bigSep_W0, bigSep_W0]
  rw [show (pdats m 0 c).Φ t0_0.castSucc = before X (D m) (Pipeline.scopedRest (Pipeline.pin (pcfgs (F := F)) adm 0).spec) c from rfl,
    show (pdats m 0 c).Φ t0_0.succ = behind X (D m) (Pipeline.scopedRest (Pipeline.pin (pcfgs (F := F)) adm 0).spec) c from rfl]
  unfold before behind back
  iintro ⟨⟨⟨%κ, H1, H2, H3⟩, HR⟩, HO, -⟩
  ihave HO' := (owesAt_elim (pdats m 0 c) _ (owed X c Finset.univ) rfl) $$ HO
  iapply (body_run m κ c _)
  isplitl [H1 H2 H3 HO']
  · unfold start
    isplitl [H1]; · iexact H1
    isplitl [H2]; · iexact H2
    isplitl [H3] <;> iassumption
  iintro Hf
  ihave Hf' := (finish_elim X (D m) c) $$ Hf
  icases Hf' with ⟨Hs, Hd, Hz, HO⟩
  isplitl [Hs Hd Hz HR]
  · isplitr [HR]
    · isplitr [Hz]
      · isplitl [Hs] <;> iassumption
      · iexact Hz
    · iexact HR
  isplitl [HO]; · iapply (owesAt_intro (pdats m 0 c) t0_0.succ 0 rfl rfl); iexact HO
  iempintro

/-! ## The run -/

theorem ownFacts₀ : Pipeline.OwnSemFacts (cfg0.spec) X.sem := ⟨by decide, by decide, fun _ w => w.elim0⟩
theorem ownFacts : Pipeline.OwnSemFacts (Pipeline.pin (pcfgs (F := F)) adm 0).spec X.sem := ownFacts₀

abbrev inPts (c : Dev nD) : sProp 𝕄 := (c : Thread nD τ).loc main_arg0 ↦{fullShare} m ((c : Thread nD τ).loc main_arg0)
abbrev outPts (c : Dev nD) (f : Buf (Elt F) ((c : Thread nD τ).loc main_v1)) : sProp 𝕄 := (c : Thread nD τ).loc main_v1 ↦{fullShare} f

theorem in_rows (c : Dev nD) : (inPts m c : sProp 𝕄) = bigSep Finset.univ fun j => srcPts X (D m) c j := by
  refine (ShareLeaves.pointsTo_leaves (ℓ := (c : Thread nD τ).loc main_arg0) Finset.univ (m ((c : Thread nD τ).loc main_arg0)) 3 fullShare).trans ?_
  refine congrArg (bigSep Finset.univ) (funext fun j : Fin 8 => ?_)
  have h : (X.src j).view.set = Finset.univ := (Memref.isWhole_whole main_arg0).set_eq_univ
  unfold srcPts
  rw [h]
  rfl
theorem out_rows (c : Dev nD) (f : Buf (Elt F) ((c : Thread nD τ).loc main_v1)) :
    (outPts c f : sProp 𝕄) = bigSep Finset.univ fun j => (dstPts X c j f : sProp 𝕄) :=
  rows_split outM squeezes_S1x64x1024_S64x1024 (Memref.isWhole_whole _) c fullShare f

theorem bufs_split (c : Dev nD) : (unscopedBufs c (fun b => m ((c : Thread nD τ).loc b)) : sProp 𝕄)
    ⊢ iprop((bigSep Finset.univ fun j => srcPts X (D m) c j) ∗ (bigSep Finset.univ fun j => iprop(∃ f, dstPts X c j f)) ∗ emp) := by
  rw [Pipeline.unscopedBufs_split (Pipeline.pin (pcfgs (F := F)) adm) 0 winFacts0.arr_unscoped winFacts0.arr_inj c,
    show (Pipeline.unscopedRest (Pipeline.pin (pcfgs (F := F)) adm 0).spec c (fun b => m ((c : Thread nD τ).loc b)) : sProp 𝕄)
      = iprop(inPts m c ∗ outPts c (m ((c : Thread nD τ).loc main_v1))) from unscopedRest0_eq c _, in_rows, out_rows]
  iintro ⟨-, Hs, Hd⟩
  isplitl [Hs]; · iexact Hs
  isplitl [Hd]
  · iapply (show (bigSep Finset.univ fun j => (dstPts X c j (m ((c : Thread nD τ).loc main_v1)) : sProp 𝕄)) ⊢ bigSep Finset.univ fun j => iprop(∃ f, dstPts X c j f) from
      bigSep_mono fun j _ => exists_intro_trans (Ψ := fun f => dstPts X c j f) _ (BI.Entails.refl _))
    iexact Hd
  iempintro

set_option backward.isDefEq.respectTransparency.types false in
/-- Every run ends, with every device's input kept, its result the rows the devices held for it, and every counter at zero. -/
theorem run_main (ρ : Dev nD → PrngReg) : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = outV m c) ∧ r.2.sem = fun _ => 0) := by
  refine (θ_run (defs (F := F)) _ _).mono (fun r h => ⟨h.1, ?_⟩)
    (θ_launch (defs (F := F)) (Variants.lift 𝒱₀) (main (F := F)) m ρ (fun c => owed X c Finset.univ)
      (launchU (pcfgs (F := F)) adm X cellOf_inj) (dealt (pcfgs (F := F)) adm X (D m) cellOf_inj 0 ownFacts fun _ => iprop(emp))
      (fun c => iprop(inPts m c ∗ outPts c (outV m c)))
      (fun c s => s.mem ((c : Thread nD τ).loc main_arg0) = m ((c : Thread nD τ).loc main_arg0) ∧ s.mem ((c : Thread nD τ).loc main_v1) = outV m c)
      (deal_launch (pcfgs (F := F)) adm X (D m) cellOf_inj 0 winFacts0.to₀ ownFacts _ m (bufs_split m)) ?_ ?_)
  · funext g
    obtain ⟨⟨d, p⟩, sm⟩ := g
    by_cases hp : p = .tc
    · subst hp
      exact h.2.1 d sm ((by decide : ∀ sm : SemLoc sig, sm.isScoped .tc = true) sm)
    · exact h.2.2 _ hp
  · intro c
    rw [main_chain c]
    unfold dealt
    rw [show (Finset.univ : Finset (Fin 1)) = {0} from rfl, BI.bigSep_singleton, BI.bigSep_singleton]
    iintro ⟨Hst, ⟨Hsb, Hcs, Hi, Hid⟩, Hg, Ht, -⟩
    iapply (region_run (pcfgs (F := F)) adm X (D m) (pdats m) cellOf_inj 0 defs₀ 𝒱₀ winFacts0.to₀ stage_whole0 ownFacts W_zero N_one
      (fun c q pf => bigSep_W0 _) c rfl (body0 m c).loose) $$ [Hst Hsb Hcs Hi Hg Ht]
    · unfold around
      isplitl [Hst]; · iexact Hst
      isplitl [Hsb]; · iexact Hsb
      isplitl [Hcs]; · iexact Hcs
      isplitl [Hi]; · iexact Hi
      isplitl [Hg] <;> iassumption
    unfold back
    iintro ⟨⟨Hs, Hd⟩, Hss, Hsb, HO⟩
    simp only [Prog.bind, Pipeline.chain, Pure.pure]
    rw [wp_ret]
    imodintro
    rw [in_rows, out_rows]
    isplitl [Hs Hd]
    · isplitl [Hs]; · iexact Hs
      iexact Hd
    isplitr [HO]
    · iapply (show iprop(scopedBufs (c : Thread nD τ) ∗ scopedSems0 (c : Thread nD τ) ∗ opIdle (c : Thread nD τ)) ⊢ (boundary (c : Thread nD τ) : sProp 𝕄) from BI.Entails.refl _)
      isplitl [Hsb]; · iexact Hsb
      isplitl [Hss] <;> iassumption
    unfold ow; iexact HO
  · intro c s'
    iintro ⟨⟨Hx, Hy⟩, HSI⟩
    icombine HSI Hx gives %hx
    icombine HSI Hy gives %hy
    imodintro
    isplitr
    · ipureintro
      exact ⟨Buf.eq_of_forall_mem_univ hx, Buf.eq_of_forall_mem_univ hy⟩
    iexact HSI

end Cert.GatherGains

end
-- ==== Proof.GainsClaims.lean ====
/-
# The gathering of the gains, certified
-/
module

public import proofs.«01_k».proof.Defs
public import proofs.«01_k».proof.Proof.Gen.Gains
public import proofs.«01_k».proof.Proof.Gen.GainsIdeal
public import proofs.«01_k».proof.Proof.Gen.GainsReference
public import proofs.«01_k».proof.Proof.Gen.GainsReference.Run
public import proofs.«01_k».proof.Proof.Gen.GainsReferenceIdeal
public import proofs.«01_k».proof.Proof.Gen.GainsReferenceIdeal.Run
public import proofs.«01_k».proof.Proof.GatherGains
public import proofs.«01_k».proof.Proof.Values
public import Idealize.ShloMosaic.Adequacy
public import Idealize.ShloMosaic.Init

@[expose] public section

noncomputable section

namespace Cert.GatherGains

open Idealize.ShloMosaic Idealize.ShloMosaic.TcCoe Idealize.SL.Sem Cert.Exchange

section
variable {F : FTy → Type} [FloatOps F]

theorem run_kernel (m : (ℓ : Loc Cert.Gains.nD Cert.Gains.τ Cert.Gains.sig) → Buf (Elt F) ℓ) (ρ : Dev Cert.Gains.nD → PrngReg) :
    θ_run (Cert.Gains.defs (F := F)) (onTc (τ := Cert.Gains.τ) (Cert.Gains.main (F := F))) ⟨m, fun _ => 0, ρ⟩
      (fun r => (∀ c : Dev Cert.Gains.nD, r.2.mem ((c : Thread Cert.Gains.nD Cert.Gains.τ).loc Cert.Gains.main_arg0) = m ((c : Thread Cert.Gains.nD Cert.Gains.τ).loc Cert.Gains.main_arg0)
        ∧ r.2.mem ((c : Thread Cert.Gains.nD Cert.Gains.τ).loc Cert.Gains.main_v1) = outV (F := F) m c) ∧ r.2.sem = fun _ => 0) :=
  run_main (F := F) m ρ

/-- Every device's result is the reference's. -/
theorem result (m : (ℓ : Loc Cert.GainsIdeal.nD Cert.GainsIdeal.τ Cert.GainsIdeal.sig) → Buf (Elt F) ℓ) (A : (Row 512 1024).Idx → Elt F .f32)
    (hm : ∀ c : Dev Cert.GainsIdeal.nD, m ((c : Thread Cert.GainsIdeal.nD Cert.GainsIdeal.τ).loc Cert.GainsIdeal.main_arg0)
      = Layout.block (Row 64 1024) (Row 512 1024) 0 8 c A)
    (h₁ : (Row 512 1024).ShapeCasts (Stack 8 64 1024)) (c : Fin 8) :
    outV m c = shapeCast (Stack 8 64 1024) A h₁ := by
  funext i
  exact (congrFun (hm _) _).trans (stacked A h₁ _ i).symm

end

theorem frame_kernel : Cert.quiescent_Gains (hGains := Cert.Gains.Gen.facts) := fun m g _ =>
  (θ_run Cert.Gains.defs _ _).mono (fun _ h => ⟨fun c => (h.1 c).1, h.2⟩) (run_kernel (F := Bits) m g)

theorem frame_kernelIdeal : Cert.quiescent_GainsIdeal (hGainsIdeal := Cert.GainsIdeal.Gen.facts) := fun m g _ =>
  (θ_run Cert.GainsIdeal.defs _ _).mono (fun _ h => ⟨fun c => (h.1 c).1, h.2⟩) (run_main (F := Ideal) m g)

theorem frame_referenceIdeal : Cert.quiescent_GainsReferenceIdeal (hGainsReferenceIdeal := Cert.GainsReferenceIdeal.Gen.facts) := fun m g _ =>
  (θ_run Cert.GainsReferenceIdeal.defs _ _).mono (fun r h => ⟨fun c => (h c).2, sem_eq_zero_of_no_sems rfl r.2⟩) (Cert.GainsReferenceIdeal.Value.run (F := Ideal) m g)

theorem frame_reference : Cert.quiescent_GainsReference (hGainsReference := Cert.GainsReference.Gen.facts) := fun m g _ =>
  (θ_run Cert.GainsReference.defs _ _).mono (fun r h => ⟨fun c => (h c).2, sem_eq_zero_of_no_sems rfl r.2⟩) (Cert.GainsReference.Value.run (F := Bits) m g)

theorem value_ideal : Cert.algebraic_GainsIdeal_GainsReferenceIdeal (hGainsIdeal := Cert.GainsIdeal.Gen.facts) (hGainsReferenceIdeal := Cert.GainsReferenceIdeal.Gen.facts) :=
  fun m g m' g' _ hm => ⟨_,
    (θ_run Cert.GainsIdeal.defs _ _).mono (fun _ h c => ⟨(h.1 c).2.trans (result (F := Ideal) m _ hm _ c), (h.1 c).1⟩) (run_main (F := Ideal) m g),
    (θ_run Cert.GainsReferenceIdeal.defs _ _).mono (fun _ h => h 0) (Cert.GainsReferenceIdeal.Value.run (F := Ideal) m' g')⟩

theorem value_bits : Cert.bitexact_Gains_GainsReference (hGains := Cert.Gains.Gen.facts) (hGainsReference := Cert.GainsReference.Gen.facts) :=
  fun m g m' g' _ hm => ⟨_,
    (θ_run Cert.Gains.defs _ _).mono (fun _ h c => ⟨(h.1 c).2.trans (result (F := Bits) m _ hm _ c), (h.1 c).1⟩) (run_kernel (F := Bits) m g),
    (θ_run Cert.GainsReference.defs _ _).mono (fun _ h => h 0) (Cert.GainsReference.Value.run (F := Bits) m' g')⟩

end Cert.GatherGains

end
-- ==== Proof.SumClaims.lean ====
/-
# The sum of the received rows, certified
-/
module

public import proofs.«01_k».proof.Defs
public import proofs.«01_k».proof.Proof.Gen.Sum
public import proofs.«01_k».proof.Proof.Gen.Sum.Frame
public import proofs.«01_k».proof.Proof.Gen.SumIdeal
public import proofs.«01_k».proof.Proof.Gen.SumIdeal.Frame
public import proofs.«01_k».proof.Proof.Gen.SumIdeal.Value
public import proofs.«01_k».proof.Proof.Gen.SumReferenceIdeal
public import proofs.«01_k».proof.Proof.Gen.SumReferenceIdeal.Run
public import Idealize.ShloMosaic.Adequacy
public import Idealize.ShloMosaic.Init
public import Idealize.ShloMosaic.Lib.Pointwise.Reduce

@[expose] public section

noncomputable section

namespace Cert.SumRows

open Idealize.ShloMosaic Idealize.ShloMosaic.TcCoe Idealize.SL.Sem
open Cert.SumIdeal Cert.SumIdeal.Gen Cert.SumIdeal.Value

section
variable {F : FTy → Type} [FloatOps F]

/-- The entry of row `k` under an entry of the sum. -/
abbrev entry (k : Fin 8) (i : S9856x1024.Idx) : S8x9856x1024.Idx := fun a => match a with
  | ⟨0, _⟩ => ⟨k.val, k.isLt⟩
  | ⟨1, _⟩ => ⟨(i 0).val, (i 0).isLt⟩
  | ⟨2, _⟩ => ⟨(i 1).val, (i 1).isLt⟩

/-- The eight rows added up, in their order. -/
abbrev total (x : S8x9856x1024.Idx → Elt F .f32) : S9856x1024.Idx → Elt F .f32 := fun i =>
  FloatOps.addf (FloatOps.addf (FloatOps.addf (FloatOps.addf (FloatOps.addf (FloatOps.addf (FloatOps.addf
    (x (entry 0 i)) (x (entry 1 i))) (x (entry 2 i))) (x (entry 3 i))) (x (entry 4 i))) (x (entry 5 i))) (x (entry 6 i))) (x (entry 7 i))

variable (m : (ℓ : Loc nD τ sig) → Buf (Elt F) ℓ) (ρ : Dev nD → PrngReg)

/-- The blocks of the rows and of the sum move together, and keep their other places. -/
theorem idx_facts : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 :=
  (by decide +kernel : ∀ t : Fin grid0.N, win0_0.index t (0 : Fin 3) = 0 ∧ win0_0.index t (1 : Fin 3) = win0_1.index t (0 : Fin 2)
    ∧ win0_0.index t (2 : Fin 3) = 0 ∧ win0_1.index t (1 : Fin 2) = 0)

theorem idx_onto : ∀ q : Fin 154, ∃ t : Fin cfg0.N, win0_1.index t = ![q.val, 0] :=
  (by decide +kernel : ∀ q : Fin 154, ∃ t : Fin grid0.N, win0_1.index t = ![q.val, 0])

theorem flushed_eq (c : Dev nD) (t : Fin cfg0.N) :
    (dats m 0 c).flushed 1 t = ((cfg0.win 1).blk t).view.read (Elt F) (total (V m c main_arg0)) := by
  rw [flushed1]
  unfold out0_1
  obtain ⟨e0, e1, e2, e3⟩ := idx_facts t
  funext j
  refine (canon1_eq _ _ _ _ _ _ _ _ (show S64x1024.Idx from j)).trans ?_
  have h (k : Fin 8) (z : S8x64x1024.Idx) (h0 : (z 0).val = k.val) (h1 : (z 1).val = (j 0).val) (h2 : (z 2).val = (j 1).val) :
      iblk m c 0 t z = V m c main_arg0 (entry k (((cfg0.win 1).blk t).view.emb j)) := by
    show V m c main_arg0 (((cfg0.win 0).blk t).view.emb z) = _
    congr 1
    funext a; apply Fin.ext
    match a with
    | ⟨0, _⟩ => show win0_0.index t (0 : Fin 3) * 8 + 1 * (z 0).val = k.val; omega
    | ⟨1, _⟩ => show win0_0.index t (1 : Fin 3) * 64 + 1 * (z 1).val = win0_1.index t (0 : Fin 2) * 64 + 1 * (j 0).val; omega
    | ⟨2, _⟩ => show win0_0.index t (2 : Fin 3) * 1024 + 1 * (z 2).val = win0_1.index t (1 : Fin 2) * 1024 + 1 * (j 1).val; omega
  have hj0 : (j 0).val < 64 := (j 0).isLt
  have hj1 : (j 1).val < 1024 := (j 1).isLt
  refine congrArg₂ _ (congrArg₂ _ (congrArg₂ _ (congrArg₂ _ (congrArg₂ _ (congrArg₂ _ (congrArg₂ _ (h 0 _ ?_ ?_ ?_) (h 1 _ ?_ ?_ ?_))
    (h 2 _ ?_ ?_ ?_)) (h 3 _ ?_ ?_ ?_)) (h 4 _ ?_ ?_ ?_)) (h 5 _ ?_ ?_ ?_)) (h 6 _ ?_ ?_ ?_)) (h 7 _ ?_ ?_ ?_)
  all_goals first
    | rfl
    | (show 0 + 1 * (j 0).val = (j 0).val; omega)
    | (show 0 + 1 * (j 1).val = (j 1).val; omega)

theorem covered (i : S9856x1024.Idx) : ∃ t : Fin cfg0.N, (cfg0.win 1).flush t = true ∧ i ∈ ((cfg0.win 1).blk t).view.set := by
  have hi0 : (i 0).val < 9856 := (i 0).isLt
  have hi1 : (i 1).val < 1024 := (i 1).isLt
  obtain ⟨t, ht⟩ := idx_onto ⟨(i 0).val / 64, by omega⟩
  have q0 : win0_1.index t (0 : Fin 2) = (i 0).val / 64 := congrFun ht 0
  have q1 : win0_1.index t (1 : Fin 2) = 0 := congrFun ht 1
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 1024 ≤ (i 1).val ∧ (i 1).val < win0_1.index t (1 : Fin 2) * 1024 + 1024; omega

/-- After the run the result is the sum of the rows. -/
theorem run : θ_run defs (onTc (τ := τ) (main (F := F))) ⟨m, fun _ => 0, ρ⟩ fun r => ∀ c : Dev nD,
      r.2.mem ((c : Thread nD τ).loc main_v0) = total (m ((c : Thread nD τ).loc main_arg0))
      ∧ r.2.mem ((c : Thread nD τ).loc main_arg0) = m ((c : Thread nD τ).loc main_arg0) :=
  (θ_run defs _ _).mono (fun _ h c => ⟨(h c).1.trans ((dats m 0 c).arrAt_eq_of_cover 1 _ (fun t _ => flushed_eq m c t) covered), (h c).2⟩)
    (run_blocks m ρ)

end

/-- Over the reals the rows added up in their order are their sum. -/
theorem total_sum (x : S8x9856x1024.Idx → Elt Ideal .f32) (i : S9856x1024.Idx) :
    total (F := Ideal) x i = ∑ k : Fin 8, (x (entry k i) : EReal) := by
  rw [Fin.sum_univ_eight]
  rfl

theorem total_eq (x : S8x9856x1024.Idx → Elt Ideal .f32) (h : S8x9856x1024.ReducesTo [0] S9856x1024) (h₀ : 0 < Cert.SumReferenceIdeal.S_.numel) :
    total (F := Ideal) x = Host.reduceAdd (F := Ideal) (φ := .f32) x (constant Cert.SumReferenceIdeal.S_ .f32 0x00000000#32) h h₀ := by
  funext i
  have e := Ideal.hostReduceAdd_r3_a0 h x (Ideal.ofBits .f32 0x00000000#32) i
  rw [Ideal.ofBits_zero_f32, zero_add] at e
  rw [total_sum]
  refine Eq.trans (Finset.sum_congr rfl fun k _ => congrArg x ?_) (Eq.trans e.symm ?_)
  · funext a; apply Fin.ext
    match a with
    | ⟨0, _⟩ => rfl
    | ⟨1, _⟩ => rfl
    | ⟨2, _⟩ => rfl
  · rw [← Ideal.ofBits_zero_f32]; rfl

theorem frame_kernel : Cert.quiescent_Sum (hSum := Cert.Sum.Gen.facts) := fun m g _ => Cert.Sum.Gen.frame (F := Bits) m g

theorem frame_kernelIdeal : Cert.quiescent_SumIdeal (hSumIdeal := Cert.SumIdeal.Gen.facts) := fun m g _ => Cert.SumIdeal.Gen.frame (F := Ideal) m g

theorem frame_referenceIdeal : Cert.quiescent_SumReferenceIdeal (hSumReferenceIdeal := Cert.SumReferenceIdeal.Gen.facts) := fun m g _ =>
  (θ_run Cert.SumReferenceIdeal.defs _ _).mono (fun r h => ⟨fun c => (h c).2, sem_eq_zero_of_no_sems rfl r.2⟩) (Cert.SumReferenceIdeal.Value.run (F := Ideal) m g)

theorem value_ideal : Cert.algebraic_SumIdeal_SumReferenceIdeal (hSumIdeal := Cert.SumIdeal.Gen.facts) (hSumReferenceIdeal := Cert.SumReferenceIdeal.Gen.facts) :=
  fun m g m' g' _ hm => ⟨_, run (F := Ideal) m g,
    (θ_run Cert.SumReferenceIdeal.defs _ _).mono (fun _ h c => ⟨(h c).1.trans (by rw [hm c]; exact (total_eq _ _ _).symm), (h c).2⟩)
      (Cert.SumReferenceIdeal.Value.run (F := Ideal) m' g')⟩

end Cert.SumRows

end
-- ==== Proof.UpdateClaims.lean ====
/-
# The updates of the weights, certified

Every call of `adamw` at once computes, entry by entry, what the reference computes: the weight's change and the two new moments.
-/
module

public import proofs.«01_k».proof.Defs
public import proofs.«01_k».proof.Proof.Gen.Update1x256
public import proofs.«01_k».proof.Proof.Gen.Update1x256.Frame
public import proofs.«01_k».proof.Proof.Gen.Update1x256Ideal
public import proofs.«01_k».proof.Proof.Gen.Update1x256Ideal.Frame
public import proofs.«01_k».proof.Proof.Gen.Update1x256Ideal.Value
public import proofs.«01_k».proof.Proof.Gen.UpdateReference1x256Ideal
public import proofs.«01_k».proof.Proof.Gen.UpdateReference1x256Ideal.Run
public import proofs.«01_k».proof.Proof.Gen.Update1x512
public import proofs.«01_k».proof.Proof.Gen.Update1x512.Frame
public import proofs.«01_k».proof.Proof.Gen.Update1x512Ideal
public import proofs.«01_k».proof.Proof.Gen.Update1x512Ideal.Frame
public import proofs.«01_k».proof.Proof.Gen.Update1x512Ideal.Value
public import proofs.«01_k».proof.Proof.Gen.UpdateReference1x512Ideal
public import proofs.«01_k».proof.Proof.Gen.UpdateReference1x512Ideal.Run
public import proofs.«01_k».proof.Proof.Gen.Update1x2048
public import proofs.«01_k».proof.Proof.Gen.Update1x2048.Frame
public import proofs.«01_k».proof.Proof.Gen.Update1x2048Ideal
public import proofs.«01_k».proof.Proof.Gen.Update1x2048Ideal.Frame
public import proofs.«01_k».proof.Proof.Gen.Update1x2048Ideal.Value
public import proofs.«01_k».proof.Proof.Gen.UpdateReference1x2048Ideal
public import proofs.«01_k».proof.Proof.Gen.UpdateReference1x2048Ideal.Run
public import proofs.«01_k».proof.Proof.Gen.Update2x2048
public import proofs.«01_k».proof.Proof.Gen.Update2x2048.Frame
public import proofs.«01_k».proof.Proof.Gen.Update2x2048Ideal
public import proofs.«01_k».proof.Proof.Gen.Update2x2048Ideal.Frame
public import proofs.«01_k».proof.Proof.Gen.Update2x2048Ideal.Value
public import proofs.«01_k».proof.Proof.Gen.UpdateReference2x2048Ideal
public import proofs.«01_k».proof.Proof.Gen.UpdateReference2x2048Ideal.Run
public import proofs.«01_k».proof.Proof.Gen.Update256x512
public import proofs.«01_k».proof.Proof.Gen.Update256x512.Frame
public import proofs.«01_k».proof.Proof.Gen.Update256x512Ideal
public import proofs.«01_k».proof.Proof.Gen.Update256x512Ideal.Frame
public import proofs.«01_k».proof.Proof.Gen.Update256x512Ideal.Value
public import proofs.«01_k».proof.Proof.Gen.UpdateReference256x512Ideal
public import proofs.«01_k».proof.Proof.Gen.UpdateReference256x512Ideal.Run
public import proofs.«01_k».proof.Proof.Gen.Update256x576
public import proofs.«01_k».proof.Proof.Gen.Update256x576.Frame
public import proofs.«01_k».proof.Proof.Gen.Update256x576Ideal
public import proofs.«01_k».proof.Proof.Gen.Update256x576Ideal.Frame
public import proofs.«01_k».proof.Proof.Gen.Update256x576Ideal.Value
public import proofs.«01_k».proof.Proof.Gen.UpdateReference256x576Ideal
public import proofs.«01_k».proof.Proof.Gen.UpdateReference256x576Ideal.Run
public import proofs.«01_k».proof.Proof.Gen.Update256x2048
public import proofs.«01_k».proof.Proof.Gen.Update256x2048.Frame
public import proofs.«01_k».proof.Proof.Gen.Update256x2048Ideal
public import proofs.«01_k».proof.Proof.Gen.Update256x2048Ideal.Frame
public import proofs.«01_k».proof.Proof.Gen.Update256x2048Ideal.Value
public import proofs.«01_k».proof.Proof.Gen.UpdateReference256x2048Ideal
public import proofs.«01_k».proof.Proof.Gen.UpdateReference256x2048Ideal.Run
public import proofs.«01_k».proof.Proof.Gen.Update512x384
public import proofs.«01_k».proof.Proof.Gen.Update512x384.Frame
public import proofs.«01_k».proof.Proof.Gen.Update512x384Ideal
public import proofs.«01_k».proof.Proof.Gen.Update512x384Ideal.Frame
public import proofs.«01_k».proof.Proof.Gen.Update512x384Ideal.Value
public import proofs.«01_k».proof.Proof.Gen.UpdateReference512x384Ideal
public import proofs.«01_k».proof.Proof.Gen.UpdateReference512x384Ideal.Run
public import proofs.«01_k».proof.Proof.Gen.Update512x512
public import proofs.«01_k».proof.Proof.Gen.Update512x512.Frame
public import proofs.«01_k».proof.Proof.Gen.Update512x512Ideal
public import proofs.«01_k».proof.Proof.Gen.Update512x512Ideal.Frame
public import proofs.«01_k».proof.Proof.Gen.Update512x512Ideal.Value
public import proofs.«01_k».proof.Proof.Gen.UpdateReference512x512Ideal
public import proofs.«01_k».proof.Proof.Gen.UpdateReference512x512Ideal.Run
public import proofs.«01_k».proof.Proof.Gen.Update1408x2048
public import proofs.«01_k».proof.Proof.Gen.Update1408x2048.Frame
public import proofs.«01_k».proof.Proof.Gen.Update1408x2048Ideal
public import proofs.«01_k».proof.Proof.Gen.Update1408x2048Ideal.Frame
public import proofs.«01_k».proof.Proof.Gen.Update1408x2048Ideal.Value
public import proofs.«01_k».proof.Proof.Gen.UpdateReference1408x2048Ideal
public import proofs.«01_k».proof.Proof.Gen.UpdateReference1408x2048Ideal.Run
public import proofs.«01_k».proof.Proof.Gen.Update4096x704
public import proofs.«01_k».proof.Proof.Gen.Update4096x704.Frame
public import proofs.«01_k».proof.Proof.Gen.Update4096x704Ideal
public import proofs.«01_k».proof.Proof.Gen.Update4096x704Ideal.Frame
public import proofs.«01_k».proof.Proof.Gen.Update4096x704Ideal.Value
public import proofs.«01_k».proof.Proof.Gen.UpdateReference4096x704Ideal
public import proofs.«01_k».proof.Proof.Gen.UpdateReference4096x704Ideal.Run
public import Idealize.ShloMosaic.Adequacy
public import Idealize.ShloMosaic.Init

@[expose] public section

noncomputable section

namespace Cert.Updates

open Idealize.ShloMosaic Idealize.ShloMosaic.TcCoe Idealize.SL.Sem

/-! ## The weights whose part on a device is a matrix of 1 rows and 256 columns -/

theorem frame_1x256 : Cert.quiescent_Update1x256 (hUpdate1x256 := Cert.Update1x256.Gen.facts) := fun m g _ =>
  Cert.Update1x256.Gen.frame (F := Bits) m g

theorem frame_ideal_1x256 : Cert.quiescent_Update1x256Ideal (hUpdate1x256Ideal := Cert.Update1x256Ideal.Gen.facts) := fun m g _ =>
  Cert.Update1x256Ideal.Gen.frame (F := Ideal) m g

theorem frame_reference_1x256 : Cert.quiescent_UpdateReference1x256Ideal (hUpdateReference1x256Ideal := Cert.UpdateReference1x256Ideal.Gen.facts) := fun m g _ =>
  (θ_run Cert.UpdateReference1x256Ideal.defs _ _).mono (fun r h => ⟨fun c => (h c).2.2.2, sem_eq_zero_of_no_sems rfl r.2⟩) (Cert.UpdateReference1x256Ideal.Value.run (F := Ideal) m g)

theorem value_1x256 : Cert.algebraic_Update1x256Ideal_UpdateReference1x256Ideal (hUpdate1x256Ideal := Cert.Update1x256Ideal.Gen.facts) (hUpdateReference1x256Ideal := Cert.UpdateReference1x256Ideal.Gen.facts) :=
  fun m g m' g' _ hm => ⟨_, _, _, Cert.Update1x256Ideal.Value.run (F := Ideal) m g,
    (θ_run Cert.UpdateReference1x256Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference1x256Ideal.Value.run (F := Ideal) m' g')⟩

/-! ## The weights whose part on a device is a matrix of 1 rows and 512 columns -/

theorem frame_1x512 : Cert.quiescent_Update1x512 (hUpdate1x512 := Cert.Update1x512.Gen.facts) := fun m g _ =>
  Cert.Update1x512.Gen.frame (F := Bits) m g

theorem frame_ideal_1x512 : Cert.quiescent_Update1x512Ideal (hUpdate1x512Ideal := Cert.Update1x512Ideal.Gen.facts) := fun m g _ =>
  Cert.Update1x512Ideal.Gen.frame (F := Ideal) m g

theorem frame_reference_1x512 : Cert.quiescent_UpdateReference1x512Ideal (hUpdateReference1x512Ideal := Cert.UpdateReference1x512Ideal.Gen.facts) := fun m g _ =>
  (θ_run Cert.UpdateReference1x512Ideal.defs _ _).mono (fun r h => ⟨fun c => (h c).2.2.2, sem_eq_zero_of_no_sems rfl r.2⟩) (Cert.UpdateReference1x512Ideal.Value.run (F := Ideal) m g)

theorem value_1x512 : Cert.algebraic_Update1x512Ideal_UpdateReference1x512Ideal (hUpdate1x512Ideal := Cert.Update1x512Ideal.Gen.facts) (hUpdateReference1x512Ideal := Cert.UpdateReference1x512Ideal.Gen.facts) :=
  fun m g m' g' _ hm => ⟨_, _, _, Cert.Update1x512Ideal.Value.run (F := Ideal) m g,
    (θ_run Cert.UpdateReference1x512Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference1x512Ideal.Value.run (F := Ideal) m' g')⟩

/-! ## The weights whose part on a device is a matrix of 1 rows and 2048 columns -/

theorem frame_1x2048 : Cert.quiescent_Update1x2048 (hUpdate1x2048 := Cert.Update1x2048.Gen.facts) := fun m g _ =>
  Cert.Update1x2048.Gen.frame (F := Bits) m g

theorem frame_ideal_1x2048 : Cert.quiescent_Update1x2048Ideal (hUpdate1x2048Ideal := Cert.Update1x2048Ideal.Gen.facts) := fun m g _ =>
  Cert.Update1x2048Ideal.Gen.frame (F := Ideal) m g

theorem frame_reference_1x2048 : Cert.quiescent_UpdateReference1x2048Ideal (hUpdateReference1x2048Ideal := Cert.UpdateReference1x2048Ideal.Gen.facts) := fun m g _ =>
  (θ_run Cert.UpdateReference1x2048Ideal.defs _ _).mono (fun r h => ⟨fun c => (h c).2.2.2, sem_eq_zero_of_no_sems rfl r.2⟩) (Cert.UpdateReference1x2048Ideal.Value.run (F := Ideal) m g)

theorem value_1x2048 : Cert.algebraic_Update1x2048Ideal_UpdateReference1x2048Ideal (hUpdate1x2048Ideal := Cert.Update1x2048Ideal.Gen.facts) (hUpdateReference1x2048Ideal := Cert.UpdateReference1x2048Ideal.Gen.facts) :=
  fun m g m' g' _ hm => ⟨_, _, _, Cert.Update1x2048Ideal.Value.run (F := Ideal) m g,
    (θ_run Cert.UpdateReference1x2048Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference1x2048Ideal.Value.run (F := Ideal) m' g')⟩

/-! ## The weights whose part on a device is a matrix of 2 rows and 2048 columns -/

theorem frame_2x2048 : Cert.quiescent_Update2x2048 (hUpdate2x2048 := Cert.Update2x2048.Gen.facts) := fun m g _ =>
  Cert.Update2x2048.Gen.frame (F := Bits) m g

theorem frame_ideal_2x2048 : Cert.quiescent_Update2x2048Ideal (hUpdate2x2048Ideal := Cert.Update2x2048Ideal.Gen.facts) := fun m g _ =>
  Cert.Update2x2048Ideal.Gen.frame (F := Ideal) m g

theorem frame_reference_2x2048 : Cert.quiescent_UpdateReference2x2048Ideal (hUpdateReference2x2048Ideal := Cert.UpdateReference2x2048Ideal.Gen.facts) := fun m g _ =>
  (θ_run Cert.UpdateReference2x2048Ideal.defs _ _).mono (fun r h => ⟨fun c => (h c).2.2.2, sem_eq_zero_of_no_sems rfl r.2⟩) (Cert.UpdateReference2x2048Ideal.Value.run (F := Ideal) m g)

theorem value_2x2048 : Cert.algebraic_Update2x2048Ideal_UpdateReference2x2048Ideal (hUpdate2x2048Ideal := Cert.Update2x2048Ideal.Gen.facts) (hUpdateReference2x2048Ideal := Cert.UpdateReference2x2048Ideal.Gen.facts) :=
  fun m g m' g' _ hm => ⟨_, _, _, Cert.Update2x2048Ideal.Value.run (F := Ideal) m g,
    (θ_run Cert.UpdateReference2x2048Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference2x2048Ideal.Value.run (F := Ideal) m' g')⟩

/-! ## The weights whose part on a device is a matrix of 256 rows and 512 columns -/

theorem frame_256x512 : Cert.quiescent_Update256x512 (hUpdate256x512 := Cert.Update256x512.Gen.facts) := fun m g _ =>
  Cert.Update256x512.Gen.frame (F := Bits) m g

theorem frame_ideal_256x512 : Cert.quiescent_Update256x512Ideal (hUpdate256x512Ideal := Cert.Update256x512Ideal.Gen.facts) := fun m g _ =>
  Cert.Update256x512Ideal.Gen.frame (F := Ideal) m g

theorem frame_reference_256x512 : Cert.quiescent_UpdateReference256x512Ideal (hUpdateReference256x512Ideal := Cert.UpdateReference256x512Ideal.Gen.facts) := fun m g _ =>
  (θ_run Cert.UpdateReference256x512Ideal.defs _ _).mono (fun r h => ⟨fun c => (h c).2.2.2, sem_eq_zero_of_no_sems rfl r.2⟩) (Cert.UpdateReference256x512Ideal.Value.run (F := Ideal) m g)

theorem value_256x512 : Cert.algebraic_Update256x512Ideal_UpdateReference256x512Ideal (hUpdate256x512Ideal := Cert.Update256x512Ideal.Gen.facts) (hUpdateReference256x512Ideal := Cert.UpdateReference256x512Ideal.Gen.facts) :=
  fun m g m' g' _ hm => ⟨_, _, _, Cert.Update256x512Ideal.Value.run (F := Ideal) m g,
    (θ_run Cert.UpdateReference256x512Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference256x512Ideal.Value.run (F := Ideal) m' g')⟩

/-! ## The weights whose part on a device is a matrix of 256 rows and 576 columns -/

theorem frame_256x576 : Cert.quiescent_Update256x576 (hUpdate256x576 := Cert.Update256x576.Gen.facts) := fun m g _ =>
  Cert.Update256x576.Gen.frame (F := Bits) m g

theorem frame_ideal_256x576 : Cert.quiescent_Update256x576Ideal (hUpdate256x576Ideal := Cert.Update256x576Ideal.Gen.facts) := fun m g _ =>
  Cert.Update256x576Ideal.Gen.frame (F := Ideal) m g

theorem frame_reference_256x576 : Cert.quiescent_UpdateReference256x576Ideal (hUpdateReference256x576Ideal := Cert.UpdateReference256x576Ideal.Gen.facts) := fun m g _ =>
  (θ_run Cert.UpdateReference256x576Ideal.defs _ _).mono (fun r h => ⟨fun c => (h c).2.2.2, sem_eq_zero_of_no_sems rfl r.2⟩) (Cert.UpdateReference256x576Ideal.Value.run (F := Ideal) m g)

theorem value_256x576 : Cert.algebraic_Update256x576Ideal_UpdateReference256x576Ideal (hUpdate256x576Ideal := Cert.Update256x576Ideal.Gen.facts) (hUpdateReference256x576Ideal := Cert.UpdateReference256x576Ideal.Gen.facts) :=
  fun m g m' g' _ hm => ⟨_, _, _, Cert.Update256x576Ideal.Value.run (F := Ideal) m g,
    (θ_run Cert.UpdateReference256x576Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference256x576Ideal.Value.run (F := Ideal) m' g')⟩

/-! ## The weights whose part on a device is a matrix of 256 rows and 2048 columns -/

theorem frame_256x2048 : Cert.quiescent_Update256x2048 (hUpdate256x2048 := Cert.Update256x2048.Gen.facts) := fun m g _ =>
  Cert.Update256x2048.Gen.frame (F := Bits) m g

theorem frame_ideal_256x2048 : Cert.quiescent_Update256x2048Ideal (hUpdate256x2048Ideal := Cert.Update256x2048Ideal.Gen.facts) := fun m g _ =>
  Cert.Update256x2048Ideal.Gen.frame (F := Ideal) m g

theorem frame_reference_256x2048 : Cert.quiescent_UpdateReference256x2048Ideal (hUpdateReference256x2048Ideal := Cert.UpdateReference256x2048Ideal.Gen.facts) := fun m g _ =>
  (θ_run Cert.UpdateReference256x2048Ideal.defs _ _).mono (fun r h => ⟨fun c => (h c).2.2.2, sem_eq_zero_of_no_sems rfl r.2⟩) (Cert.UpdateReference256x2048Ideal.Value.run (F := Ideal) m g)

theorem value_256x2048 : Cert.algebraic_Update256x2048Ideal_UpdateReference256x2048Ideal (hUpdate256x2048Ideal := Cert.Update256x2048Ideal.Gen.facts) (hUpdateReference256x2048Ideal := Cert.UpdateReference256x2048Ideal.Gen.facts) :=
  fun m g m' g' _ hm => ⟨_, _, _, Cert.Update256x2048Ideal.Value.run (F := Ideal) m g,
    (θ_run Cert.UpdateReference256x2048Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference256x2048Ideal.Value.run (F := Ideal) m' g')⟩

/-! ## The weights whose part on a device is a matrix of 512 rows and 384 columns -/

theorem frame_512x384 : Cert.quiescent_Update512x384 (hUpdate512x384 := Cert.Update512x384.Gen.facts) := fun m g _ =>
  Cert.Update512x384.Gen.frame (F := Bits) m g

theorem frame_ideal_512x384 : Cert.quiescent_Update512x384Ideal (hUpdate512x384Ideal := Cert.Update512x384Ideal.Gen.facts) := fun m g _ =>
  Cert.Update512x384Ideal.Gen.frame (F := Ideal) m g

theorem frame_reference_512x384 : Cert.quiescent_UpdateReference512x384Ideal (hUpdateReference512x384Ideal := Cert.UpdateReference512x384Ideal.Gen.facts) := fun m g _ =>
  (θ_run Cert.UpdateReference512x384Ideal.defs _ _).mono (fun r h => ⟨fun c => (h c).2.2.2, sem_eq_zero_of_no_sems rfl r.2⟩) (Cert.UpdateReference512x384Ideal.Value.run (F := Ideal) m g)

theorem value_512x384 : Cert.algebraic_Update512x384Ideal_UpdateReference512x384Ideal (hUpdate512x384Ideal := Cert.Update512x384Ideal.Gen.facts) (hUpdateReference512x384Ideal := Cert.UpdateReference512x384Ideal.Gen.facts) :=
  fun m g m' g' _ hm => ⟨_, _, _, Cert.Update512x384Ideal.Value.run (F := Ideal) m g,
    (θ_run Cert.UpdateReference512x384Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference512x384Ideal.Value.run (F := Ideal) m' g')⟩

/-! ## The weights whose part on a device is a matrix of 512 rows and 512 columns -/

theorem frame_512x512 : Cert.quiescent_Update512x512 (hUpdate512x512 := Cert.Update512x512.Gen.facts) := fun m g _ =>
  Cert.Update512x512.Gen.frame (F := Bits) m g

theorem frame_ideal_512x512 : Cert.quiescent_Update512x512Ideal (hUpdate512x512Ideal := Cert.Update512x512Ideal.Gen.facts) := fun m g _ =>
  Cert.Update512x512Ideal.Gen.frame (F := Ideal) m g

theorem frame_reference_512x512 : Cert.quiescent_UpdateReference512x512Ideal (hUpdateReference512x512Ideal := Cert.UpdateReference512x512Ideal.Gen.facts) := fun m g _ =>
  (θ_run Cert.UpdateReference512x512Ideal.defs _ _).mono (fun r h => ⟨fun c => (h c).2.2.2, sem_eq_zero_of_no_sems rfl r.2⟩) (Cert.UpdateReference512x512Ideal.Value.run (F := Ideal) m g)

theorem value_512x512 : Cert.algebraic_Update512x512Ideal_UpdateReference512x512Ideal (hUpdate512x512Ideal := Cert.Update512x512Ideal.Gen.facts) (hUpdateReference512x512Ideal := Cert.UpdateReference512x512Ideal.Gen.facts) :=
  fun m g m' g' _ hm => ⟨_, _, _, Cert.Update512x512Ideal.Value.run (F := Ideal) m g,
    (θ_run Cert.UpdateReference512x512Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference512x512Ideal.Value.run (F := Ideal) m' g')⟩

/-! ## The weights whose part on a device is a matrix of 1408 rows and 2048 columns -/

theorem frame_1408x2048 : Cert.quiescent_Update1408x2048 (hUpdate1408x2048 := Cert.Update1408x2048.Gen.facts) := fun m g _ =>
  Cert.Update1408x2048.Gen.frame (F := Bits) m g

theorem frame_ideal_1408x2048 : Cert.quiescent_Update1408x2048Ideal (hUpdate1408x2048Ideal := Cert.Update1408x2048Ideal.Gen.facts) := fun m g _ =>
  Cert.Update1408x2048Ideal.Gen.frame (F := Ideal) m g

theorem frame_reference_1408x2048 : Cert.quiescent_UpdateReference1408x2048Ideal (hUpdateReference1408x2048Ideal := Cert.UpdateReference1408x2048Ideal.Gen.facts) := fun m g _ =>
  (θ_run Cert.UpdateReference1408x2048Ideal.defs _ _).mono (fun r h => ⟨fun c => (h c).2.2.2, sem_eq_zero_of_no_sems rfl r.2⟩) (Cert.UpdateReference1408x2048Ideal.Value.run (F := Ideal) m g)

theorem value_1408x2048 : Cert.algebraic_Update1408x2048Ideal_UpdateReference1408x2048Ideal (hUpdate1408x2048Ideal := Cert.Update1408x2048Ideal.Gen.facts) (hUpdateReference1408x2048Ideal := Cert.UpdateReference1408x2048Ideal.Gen.facts) :=
  fun m g m' g' _ hm => ⟨_, _, _, Cert.Update1408x2048Ideal.Value.run (F := Ideal) m g,
    (θ_run Cert.UpdateReference1408x2048Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference1408x2048Ideal.Value.run (F := Ideal) m' g')⟩

/-! ## The weights whose part on a device is a matrix of 4096 rows and 704 columns -/

theorem frame_4096x704 : Cert.quiescent_Update4096x704 (hUpdate4096x704 := Cert.Update4096x704.Gen.facts) := fun m g _ =>
  Cert.Update4096x704.Gen.frame (F := Bits) m g

theorem frame_ideal_4096x704 : Cert.quiescent_Update4096x704Ideal (hUpdate4096x704Ideal := Cert.Update4096x704Ideal.Gen.facts) := fun m g _ =>
  Cert.Update4096x704Ideal.Gen.frame (F := Ideal) m g

theorem frame_reference_4096x704 : Cert.quiescent_UpdateReference4096x704Ideal (hUpdateReference4096x704Ideal := Cert.UpdateReference4096x704Ideal.Gen.facts) := fun m g _ =>
  (θ_run Cert.UpdateReference4096x704Ideal.defs _ _).mono (fun r h => ⟨fun c => (h c).2.2.2, sem_eq_zero_of_no_sems rfl r.2⟩) (Cert.UpdateReference4096x704Ideal.Value.run (F := Ideal) m g)

theorem value_4096x704 : Cert.algebraic_Update4096x704Ideal_UpdateReference4096x704Ideal (hUpdate4096x704Ideal := Cert.Update4096x704Ideal.Gen.facts) (hUpdateReference4096x704Ideal := Cert.UpdateReference4096x704Ideal.Gen.facts) :=
  fun m g m' g' _ hm => ⟨_, _, _, Cert.Update4096x704Ideal.Value.run (F := Ideal) m g,
    (θ_run Cert.UpdateReference4096x704Ideal.defs _ _).mono (fun r h c => ⟨(h c).1.trans (by
        rw [(hm c).1, (hm c).2.1, (hm c).2.2.1, (hm c).2.2.2]; rfl),
      (h c).2.1.trans (by rw [(hm c).2.1, (hm c).2.2.1]; rfl),
      (h c).2.2.1.trans (by rw [(hm c).2.1, (hm c).2.2.2]; rfl), (h c).2.2.2⟩)
      (Cert.UpdateReference4096x704Ideal.Value.run (F := Ideal) m' g')⟩

end Cert.Updates

end
-- ==== Proof.GradsExchange.lean ====
/-
# The exchange of the gradients, followed by the sum

Every device holds a stack of eight rows of gradients, row `j` for device `j`, and ends with a stack of the rows the eight devices
held for it. The run is the exchange of `Exchange.lean` with the rows as pieces and as slots.
-/
module

public import proofs.«01_k».proof.Proof.Gen.GradsIdeal
public import proofs.«01_k».proof.Proof.Gen.GradsIdeal.Skeleton
public import proofs.«01_k».proof.Proof.Gen.GradsIdeal.Launch
public import proofs.«01_k».proof.Proof.ExchangeLaunch
public import proofs.«01_k».proof.Proof.Rows

@[expose] public section

noncomputable section

namespace Cert.GradShards

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.Exchange Cert.GradsIdeal Cert.GradsIdeal.Gen

abbrev inM : Memref sig .tc .hbm (Stack 8 9856 1024) .f32 := Memref.whole main_arg0
abbrev outM : Memref sig .tc .hbm (Stack 8 9856 1024) .f32 := Memref.whole main_v1

theorem sem_inb (k : Fin 7) : ∀ a, (![k.val] : Fin 1 → Nat) a + S1.size a ≤ S7.size a := by
  revert k; decide

/-- The exchange's net. -/
def X : Net nD sig where
  n := 7
  s := Row 9856 1024
  e := .f32
  src := rowOf inM squeezes_S1x9856x1024_S9856x1024
  dst := rowOf outM squeezes_S1x9856x1024_S9856x1024
  sendS k := ((cc0_scratch0.slice (Rect.unit (s := S7) ![k.val] S1.size (sem_inb k))).squeeze S_ squeezes_S1_S_).sem
  recvS k := ((cc0_scratch1.slice (Rect.unit (s := S7) ![k.val] S1.size (sem_inb k))).squeeze S_ squeezes_S1_S_).sem
  locS := cc0_scratch2.sem
  sem_inj := by decide
  peer := hop
  invol := hop_hop
  all := hop_all
  amt := (rowOf outM squeezes_S1x9856x1024_S9856x1024 0).view.dmaCredit
  amt_pos := View.dmaCredit_pos _ (by decide)
  credit _ := rfl

variable {F : FTy → Type} [FloatOps F] (m : (ℓ : Loc nD τ sig) → Buf (Elt F) ℓ)

local notation "𝕄" => MT nD τ sig Unit (Elt F) ℕ (UU nD τ sig) ℕ

/-- What device `d` ends with: row `j` is device `j`'s row `d`. -/
def outV (d : Dev nD) : Buf (Elt F) ((d : Thread nD τ).loc main_v1) :=
  fun i : (Stack 8 9856 1024).Idx => m ((Dev.tc (τ := τ) (show Dev nD from i 0)).loc main_arg0) (show (Stack 8 9856 1024).Idx from ix3 (show Fin 8 from d) (i 1) (i 2))

abbrev inRow (j : Fin 8) := rowOf inM squeezes_S1x9856x1024_S9856x1024 j
abbrev outRow (j : Fin 8) := rowOf outM squeezes_S1x9856x1024_S9856x1024 j

theorem read_row (j d : Dev nD) (x : (Row 9856 1024).Idx) :
    (inRow d).view.read (Elt F) (m ((j : Thread nD τ).loc main_arg0)) x = (outRow j).view.read (Elt F) (outV m d) x :=
  (read_rowOf inM squeezes_S1x9856x1024_S9856x1024 d (m ((j : Thread nD τ).loc main_arg0)) x).trans
    (read_rowOf outM squeezes_S1x9856x1024_S9856x1024 j (outV m d) x).symm

theorem lands_row (j d : Dev nD) (fd : Buf (Elt F) ((d : Thread nD τ).loc main_v1)) :
    ∀ i ∈ (outRow j).view.set, (outRow j).view.write (Elt F) fd ((inRow d).view.read (Elt F) (m ((j : Thread nD τ).loc main_arg0))) Finset.univ i = outV m d i :=
  write_read_eq (outRow j).view (inRow d).view fd (outV m d) (m ((j : Thread nD τ).loc main_arg0)) (read_row m j d)

/-- The contents exchanged. -/
def D : Load τ (Elt F) X where
  q _ := fullShare
  sv c _ := m ((c : Thread nD τ).loc main_arg0)
  ov _ d := outV m d
  lands := lands_row m

abbrev 𝒱₀ : Variants := Variants.none

/-! ## The body -/

theorem off1 : ∀ d : Dev nD, k0_off1 d = ![d.val, 0, 0] := by decide +kernel
theorem off2 : ∀ d : Dev nD, k0_off2 d = ![(hop 0 d).val, 0, 0] := by decide +kernel
theorem off3 : ∀ d : Dev nD, k0_off3 d = ![(hop 1 d).val, 0, 0] := by decide +kernel
theorem off4 : ∀ d : Dev nD, k0_off4 d = ![(hop 2 d).val, 0, 0] := by decide +kernel
theorem off5 : ∀ d : Dev nD, k0_off5 d = ![(hop 3 d).val, 0, 0] := by decide +kernel
theorem off6 : ∀ d : Dev nD, k0_off6 d = ![(hop 4 d).val, 0, 0] := by decide +kernel
theorem off7 : ∀ d : Dev nD, k0_off7 d = ![(hop 5 d).val, 0, 0] := by decide +kernel
theorem off8 : ∀ d : Dev nD, k0_off8 d = ![(hop 6 d).val, 0, 0] := by decide +kernel
theorem dev1 : ∀ d : Dev nD, (⟨k0_dev1 d, k0_dev1_lt d⟩ : Dev nD) = hop 0 d := by decide +kernel
theorem dev2 : ∀ d : Dev nD, (⟨k0_dev2 d, k0_dev2_lt d⟩ : Dev nD) = hop 1 d := by decide +kernel
theorem dev3 : ∀ d : Dev nD, (⟨k0_dev3 d, k0_dev3_lt d⟩ : Dev nD) = hop 2 d := by decide +kernel
theorem dev4 : ∀ d : Dev nD, (⟨k0_dev4 d, k0_dev4_lt d⟩ : Dev nD) = hop 3 d := by decide +kernel
theorem dev5 : ∀ d : Dev nD, (⟨k0_dev5 d, k0_dev5_lt d⟩ : Dev nD) = hop 4 d := by decide +kernel
theorem dev6 : ∀ d : Dev nD, (⟨k0_dev6 d, k0_dev6_lt d⟩ : Dev nD) = hop 5 d := by decide +kernel
theorem dev7 : ∀ d : Dev nD, (⟨k0_dev7 d, k0_dev7_lt d⟩ : Dev nD) = hop 6 d := by decide +kernel

abbrev link (k : Fin 7) : Fin X.n := k

theorem sent : ((((((((Finset.univ : Finset (Fin 7)).erase 0).erase 1).erase 2).erase 3).erase 4).erase 5).erase 6) = ∅ := by decide

set_option maxHeartbeats 4000000 in
theorem body_run (κ : Dev nD × Cell X.n → ℕ) (c : Dev nD) (Kt : PUnit → sProp (MT nD τ sig Unit (Elt F) ℕ (UU nD τ sig) ℕ)) :
    iprop(start X (D m) κ c ∗ (finish X (D m) c -∗ Kt ⟨⟩))
      ⊢ wp frame (wpE (defs₀ (F := F)) 𝒱₀ (c : Thread nD τ) none) Set.univ
          (cc0_exchange_grads (Memref.whole main_arg0) (Memref.isWhole_whole _) (Memref.whole main_v1) (Memref.isWhole_whole _) cc0_scratch0 cc0_scratch1 cc0_scratch2) Kt := by
  simp only [cc0_exchange_grads_eq_skeleton]; unfold cc0_exchange_grads_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret, Prog.bind_assoc, wp_deviceId]
  iintro ⟨Hst, Hk⟩
  iapply (copy_step X (D m) κ (defs₀ (F := F)) 𝒱₀ c (rowOf_eq inM squeezes_S1x9856x1024_S9856x1024 _ (off1 c) _)
    (rowOf_eq outM squeezes_S1x9856x1024_S9856x1024 _ (off1 c) _) rfl) $$ Hst
  iintro Hs
  iapply (send_step X (D m) κ (defs₀ (F := F)) 𝒱₀ c (link 0) (by decide) (by decide) (dev1 c)
    (rowOf_eq inM squeezes_S1x9856x1024_S9856x1024 _ (off2 c) _) (rowOf_eq outM squeezes_S1x9856x1024_S9856x1024 _ (off1 c) _) rfl rfl) $$ Hs
  iintro Hs
  iapply (send_step X (D m) κ (defs₀ (F := F)) 𝒱₀ c (link 1) (by decide) (by decide) (dev2 c)
    (rowOf_eq inM squeezes_S1x9856x1024_S9856x1024 _ (off3 c) _) (rowOf_eq outM squeezes_S1x9856x1024_S9856x1024 _ (off1 c) _) rfl rfl) $$ Hs
  iintro Hs
  iapply (send_step X (D m) κ (defs₀ (F := F)) 𝒱₀ c (link 2) (by decide) (by decide) (dev3 c)
    (rowOf_eq inM squeezes_S1x9856x1024_S9856x1024 _ (off4 c) _) (rowOf_eq outM squeezes_S1x9856x1024_S9856x1024 _ (off1 c) _) rfl rfl) $$ Hs
  iintro Hs
  iapply (send_step X (D m) κ (defs₀ (F := F)) 𝒱₀ c (link 3) (by decide) (by decide) (dev4 c)
    (rowOf_eq inM squeezes_S1x9856x1024_S9856x1024 _ (off5 c) _) (rowOf_eq outM squeezes_S1x9856x1024_S9856x1024 _ (off1 c) _) rfl rfl) $$ Hs
  iintro Hs
  iapply (send_step X (D m) κ (defs₀ (F := F)) 𝒱₀ c (link 4) (by decide) (by decide) (dev5 c)
    (rowOf_eq inM squeezes_S1x9856x1024_S9856x1024 _ (off6 c) _) (rowOf_eq outM squeezes_S1x9856x1024_S9856x1024 _ (off1 c) _) rfl rfl) $$ Hs
  iintro Hs
  iapply (send_step X (D m) κ (defs₀ (F := F)) 𝒱₀ c (link 5) (by decide) (by decide) (dev6 c)
    (rowOf_eq inM squeezes_S1x9856x1024_S9856x1024 _ (off7 c) _) (rowOf_eq outM squeezes_S1x9856x1024_S9856x1024 _ (off1 c) _) rfl rfl) $$ Hs
  iintro Hs
  iapply (send_step X (D m) κ (defs₀ (F := F)) 𝒱₀ c (link 6) (by decide) (by decide) (dev7 c)
    (rowOf_eq inM squeezes_S1x9856x1024_S9856x1024 _ (off8 c) _) (rowOf_eq outM squeezes_S1x9856x1024_S9856x1024 _ (off1 c) _) rfl rfl) $$ Hs
  iintro Hs
  have hz : ((((((((Finset.univ : Finset (Fin X.n)).erase (link 0)).erase (link 1)).erase (link 2)).erase (link 3)).erase
    (link 4)).erase (link 5)).erase (link 6)) = ∅ := sent
  rw [hz]
  iapply (wait_step X (D m) κ (defs₀ (F := F)) 𝒱₀ c (rcv (link 0)) (by decide) (by decide) rfl rfl) $$ Hs
  iintro Hs
  iapply (wait_step X (D m) κ (defs₀ (F := F)) 𝒱₀ c (rcv (link 1)) (by decide) (by decide) rfl rfl) $$ Hs
  iintro Hs
  iapply (wait_step X (D m) κ (defs₀ (F := F)) 𝒱₀ c (rcv (link 2)) (by decide) (by decide) rfl rfl) $$ Hs
  iintro Hs
  iapply (wait_step X (D m) κ (defs₀ (F := F)) 𝒱₀ c (rcv (link 3)) (by decide) (by decide) rfl rfl) $$ Hs
  iintro Hs
  iapply (wait_step X (D m) κ (defs₀ (F := F)) 𝒱₀ c (rcv (link 4)) (by decide) (by decide) rfl rfl) $$ Hs
  iintro Hs
  iapply (wait_step X (D m) κ (defs₀ (F := F)) 𝒱₀ c (rcv (link 5)) (by decide) (by decide) rfl rfl) $$ Hs
  iintro Hs
  iapply (wait_step X (D m) κ (defs₀ (F := F)) 𝒱₀ c (rcv (link 6)) (by decide) (by decide) rfl rfl) $$ Hs
  iintro Hs
  iapply (wait_step X (D m) κ (defs₀ (F := F)) 𝒱₀ c (snd (link 0)) (by decide) (by decide) rfl rfl) $$ Hs
  iintro Hs
  iapply (wait_step X (D m) κ (defs₀ (F := F)) 𝒱₀ c (snd (link 1)) (by decide) (by decide) rfl rfl) $$ Hs
  iintro Hs
  iapply (wait_step X (D m) κ (defs₀ (F := F)) 𝒱₀ c (snd (link 2)) (by decide) (by decide) rfl rfl) $$ Hs
  iintro Hs
  iapply (wait_step X (D m) κ (defs₀ (F := F)) 𝒱₀ c (snd (link 3)) (by decide) (by decide) rfl rfl) $$ Hs
  iintro Hs
  iapply (wait_step X (D m) κ (defs₀ (F := F)) 𝒱₀ c (snd (link 4)) (by decide) (by decide) rfl rfl) $$ Hs
  iintro Hs
  iapply (wait_step X (D m) κ (defs₀ (F := F)) 𝒱₀ c (snd (link 5)) (by decide) (by decide) rfl rfl) $$ Hs
  iintro Hs
  iapply (wait_step X (D m) κ (defs₀ (F := F)) 𝒱₀ c (snd (link 6)) (by decide) (by decide) rfl rfl) $$ Hs
  iintro Hs
  iapply (wait_step X (D m) κ (defs₀ (F := F)) 𝒱₀ c loc (by decide) (by decide) rfl rfl) $$ Hs
  iintro Hs
  rw [wp_ret]
  imodintro
  iapply Hk
  iapply (state_done X (D m) rfl (by decide) (by decide)) $$ Hs

/-! ## The rows -/

theorem ownFacts₀ : Pipeline.OwnSemFacts (cfg0.spec) X.sem := ⟨by decide, by decide, fun _ w => w.elim0⟩

abbrev inPts (c : Dev nD) : sProp 𝕄 := (c : Thread nD τ).loc main_arg0 ↦{fullShare} m ((c : Thread nD τ).loc main_arg0)
abbrev outPts (c : Dev nD) (f : Buf (Elt F) ((c : Thread nD τ).loc main_v1)) : sProp 𝕄 := (c : Thread nD τ).loc main_v1 ↦{fullShare} f

theorem in_rows (c : Dev nD) : (inPts m c : sProp 𝕄) = bigSep Finset.univ fun j => srcPts X (D m) c j :=
  rows_split inM squeezes_S1x9856x1024_S9856x1024 (Memref.isWhole_whole _) c fullShare (m ((c : Thread nD τ).loc main_arg0))
theorem out_rows (c : Dev nD) (f : Buf (Elt F) ((c : Thread nD τ).loc main_v1)) :
    (outPts c f : sProp 𝕄) = bigSep Finset.univ fun j => (dstPts X c j f : sProp 𝕄) :=
  rows_split outM squeezes_S1x9856x1024_S9856x1024 (Memref.isWhole_whole _) c fullShare f

end Cert.GradShards

end
-- ==== Proof.GradsSum.lean ====
/-
# The sum region of the gradients

The second region of `Grads` adds the eight slots of the exchanged stack, 64 lines at a time. Its body's run, from any contents the
region finds in its arrays: each block of the result is the sum of the eight slots' blocks.
-/
module

public import proofs.«01_k».proof.Proof.Gen.GradsIdeal.Launch
public import proofs.«01_k».proof.Proof.Gen.GradsIdeal.Skeleton
public import proofs.«01_k».proof.Proof.Gen.GradsIdeal.Points
public import proofs.«01_k».proof.Proof.ExchangeLaunch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.GradShards

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Exchange Cert.GradsIdeal Cert.GradsIdeal.Gen

variable {F : FTy → Type} [FloatOps F]

local notation "𝕄" => MT nD τ sig Unit (Elt F) ℕ (UU nD τ sig) ℕ

-- What the region finds in the devices' buffers.
variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UU nD τ sig) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S8x64x1024 := Rect.unit (s := S8x64x1024) ![0, 0, 0] S1x64x1024.size inb_S8x64x1024_S1x64x1024_0_0_0
abbrev r1_1 : Rect S8x64x1024 := Rect.unit (s := S8x64x1024) ![1, 0, 0] S1x64x1024.size inb_S8x64x1024_S1x64x1024_1_0_0
abbrev r1_2 : Rect S8x64x1024 := Rect.unit (s := S8x64x1024) ![2, 0, 0] S1x64x1024.size inb_S8x64x1024_S1x64x1024_2_0_0
abbrev r1_3 : Rect S8x64x1024 := Rect.unit (s := S8x64x1024) ![3, 0, 0] S1x64x1024.size inb_S8x64x1024_S1x64x1024_3_0_0
abbrev r1_4 : Rect S8x64x1024 := Rect.unit (s := S8x64x1024) ![4, 0, 0] S1x64x1024.size inb_S8x64x1024_S1x64x1024_4_0_0
abbrev r1_5 : Rect S8x64x1024 := Rect.unit (s := S8x64x1024) ![5, 0, 0] S1x64x1024.size inb_S8x64x1024_S1x64x1024_5_0_0
abbrev r1_6 : Rect S8x64x1024 := Rect.unit (s := S8x64x1024) ![6, 0, 0] S1x64x1024.size inb_S8x64x1024_S1x64x1024_6_0_0
abbrev r1_7 : Rect S8x64x1024 := Rect.unit (s := S8x64x1024) ![7, 0, 0] S1x64x1024.size inb_S8x64x1024_S1x64x1024_7_0_0
abbrev r1_8 : Rect S64x1024 := Rect.unit (s := S64x1024) ![0, 0] S64x1024.size inb_S64x1024_S64x1024_0_0

/-! ## What the body leaves in each output window's buffer -/

def out1_1 (x0 : Vec F S8x64x1024 .f32) : Vec F S64x1024 .f32 :=
  View.canon [⟨r1_8, k1_pay1 (View.ld x0 r1_0) (View.ld x0 r1_1) (View.ld x0 r1_2) (View.ld x0 r1_3) (View.ld x0 r1_4) (View.ld x0 r1_5) (View.ld x0 r1_6) (View.ld x0 r1_7)⟩]

theorem cover1_1 (p0 : Vec F S64x1024 .f32) (y : S64x1024.Idx) :
    ∃ pc ∈ ([⟨r1_8, p0⟩] : List (View.Piece (Elt F) S64x1024 .f32)), y ∈ pc.1.set :=
  View.cover_of_tiled [⟨r1_8, p0⟩] S64x1024.size (by rfl) y

/-! ## The body's triple -/

set_option maxHeartbeats 1000000 in
theorem sound_kernel (c : Dev nD) (E : Set ℕ) (i : grid1.Coords) (arg1 : Memref sig .tc .vmem S8x64x1024 .f32) (harg1 : arg1.IsWhole) (arg2 : Memref sig .tc .vmem S64x1024 .f32) (harg2 : arg2.IsWhole)
    (x0 : Vec F S8x64x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1_sum_slots i arg1 harg1 arg2 harg2) K := by
  simp only [cc1_sum_slots_eq_skeleton]; unfold cc1_sum_slots_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

def sumDat (c : Dev nD) : Dat τ (Elt F) Unit ℕ (UU nD τ sig) ℕ cfg1 c where
  A w := V c (Pipeline.arrRef spec1 w)
  after w t := match w with
    | ⟨0, _⟩ => iblk V c 0 t
    | ⟨1, _⟩ => out1_1 (iblk V c 0 t)
  Φ _ := Pipeline.scopedRest spec1 c
  q _ := fullShare
  owed _ := 0

theorem A_eq (c : Dev nD) (w : Fin cfg1.W) : (sumDat V c).A w = V c (Pipeline.arrRef spec1 w) := by
  dsimp only [sumDat]

theorem after1_0 (c : Dev nD) (t : Fin cfg1.N) : (sumDat V c).after 0 t = iblk V c 0 t := by dsimp only [sumDat]
theorem after1_1 (c : Dev nD) (t : Fin cfg1.N) : (sumDat V c).after 1 t = out1_1 (iblk V c 0 t) := by dsimp only [sumDat]

theorem before1_0 (c : Dev nD) (t : Fin cfg1.N) (d) : (sumDat V c).before 0 t d = iblk V c 0 t :=
  before1_0_of V (sumDat V c) (A_eq V c 0) (after1_0 V c) t d

/-! ## The body obligation, at a generic point -/

def bodyPre (c : Dev nD) (t : Fin cfg1.N) : sProp 𝕄 :=
  iprop((sumDat V c).Φ t.castSucc ∗ (sumDat V c).owesAt () t.castSucc
    ∗ (∃ d, owns (c : Thread nD τ) (st1_0 t) fullShare ((sumDat V c).before 0 t d))
    ∗ (∃ d, owns (c : Thread nD τ) (st1_1 t) fullShare ((sumDat V c).before 1 t d)))

def bodyPost (c : Dev nD) (t : Fin cfg1.N) : sProp 𝕄 :=
  iprop((sumDat V c).Φ t.succ ∗ (sumDat V c).owesAt () t.succ
    ∗ owns (c : Thread nD τ) (st1_0 t) fullShare ((sumDat V c).after 0 t)
    ∗ owns (c : Thread nD τ) (st1_1 t) fullShare ((sumDat V c).after 1 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0]
  rw [show (sumDat V c).Φ t.succ = (sumDat V c).Φ t.castSucc from rfl,
    show (sumDat V c).owesAt () t.succ = (sumDat V c).owesAt () t.castSucc from rfl,
    after1_0, after1_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (sumDat (F := F) V c) (defs₀ (F := F)) Variants.none () Set.univ := fun t => by
  rw [bigSep_W1, bigSep_W1, defs₀_row]
  exact triple_restated (sound_body V c t) rfl .rfl fun _ => .rfl

end Cert.GradShards

end
-- ==== Proof.GradsRun.lean ====
/-
# The run of the gradients

The program exchanges the devices' stacks of gradients, adds the eight slots each device received and cuts the sum into the
gradients of the weights' shards. The exchange runs first, from what the launch deals; then the sum region and the host operations run
as segments over the device's unscoped buffers.
-/
module

public import proofs.«01_k».proof.Proof.Gen.GradsIdeal.Regions
public import proofs.«01_k».proof.Proof.GradsExchange
public import proofs.«01_k».proof.Proof.GradsSum
public import Idealize.ShloMosaic.Lib.Pipeline.RegionArrays
public import Idealize.ShloMosaic.Lib.Pipeline.FrameTail

@[expose] public section

noncomputable section

namespace Cert.GradShards

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg HostSeg RegionSeg arrRefs ucRefs)
open Cert.Exchange Cert.GradsIdeal Cert.GradsIdeal.Gen

variable {F : FTy → Type} [FloatOps F] (m : (ℓ : Loc nD τ sig) → Buf (Elt F) ℓ)

local notation "𝕄" => MT nD τ sig Unit (Elt F) ℕ (UU nD τ sig) ℕ

/-! ## The devices' buffers between the items -/

/-- After the exchange, -/
def afterSwap (c : Dev nD) : Valuation τ sig (Elt F) := Function.update (V0 m c) main_v1 (outV m c)
theorem afterSwap_v1 (c : Dev nD) : afterSwap m c main_v1 = outV m c := by
  unfold afterSwap; exact Function.update_self ..
theorem afterSwap_of (c : Dev nD) (b : DevRef τ sig) (h : b ≠ main_v1) : afterSwap m c b = m (c, b) := by
  unfold afterSwap; exact Function.update_of_ne h ..

/-- the sum region's proof data on them, -/
abbrev sum (c : Dev nD) : Dat τ (Elt F) Unit ℕ (UU nD τ sig) ℕ cfg1 c := sumDat (fun c b => afterSwap m c b) c

/-- after the sum, -/
def afterSum (c : Dev nD) : Valuation τ sig (Elt F) := Function.update (afterSwap m c) main_v2 ((sum m c).arrAt 1 cfg1.N)
theorem afterSum_v2 (c : Dev nD) : afterSum m c main_v2 = (sum m c).arrAt 1 cfg1.N := by
  unfold afterSum; exact Function.update_self ..
theorem afterSum_of (c : Dev nD) (b : DevRef τ sig) (h : b ≠ main_v2) : afterSum m c b = afterSwap m c b := by
  unfold afterSum; exact Function.update_of_ne h ..

/-- and at the end. -/
def atEnd (c : Dev nD) : Valuation τ sig (Elt F) := StableHlo.after hostOps2 (afterSum m c)

/-! ## The proof data -/

theorem W_zero : (Pipeline.pin (pcfgs (F := F)) adm 0).W = 0 := rfl
theorem N_one : (Pipeline.pin (pcfgs (F := F)) adm 0).N = 1 := N_0

def pdats : (p : Fin 2) → (c : Dev nD) → Dat τ (Elt F) Unit ℕ (UU nD τ sig) ℕ (Pipeline.pin (pcfgs (F := F)) adm p) c
  | 0 => fun c => dat X (D m) (Pipeline.pin (pcfgs (F := F)) adm 0) W_zero (Pipeline.scopedRest (Pipeline.pin (pcfgs (F := F)) adm 0).spec) c
  | 1 => fun c => sum m c

omit [FloatOps F] in
theorem bigSep_W0 (Φ : Fin 0 → sProp (MT nD τ sig Unit (Elt F) ℕ (UU nD τ sig) ℕ)) : bigSep Finset.univ Φ = BI.emp :=
  bigSep_univ_eq_bigSepL [] (by decide) (by decide) Φ

theorem body0 (c : Dev nD) : BodyObligation (pdats (F := F) m 0 c) defs₀ 𝒱₀ () Set.univ := fun t => by
  obtain rfl := fin_N0 t
  rw [bigSep_W0, bigSep_W0]
  rw [show (pdats m 0 c).Φ t0_0.castSucc = before X (D m) (Pipeline.scopedRest (Pipeline.pin (pcfgs (F := F)) adm 0).spec) c from rfl,
    show (pdats m 0 c).Φ t0_0.succ = behind X (D m) (Pipeline.scopedRest (Pipeline.pin (pcfgs (F := F)) adm 0).spec) c from rfl]
  unfold before behind back
  iintro ⟨⟨⟨%κ, H1, H2, H3⟩, HR⟩, HO, -⟩
  ihave HO' := (owesAt_elim (pdats m 0 c) _ (owed X c Finset.univ) rfl) $$ HO
  iapply (body_run m κ c _)
  isplitl [H1 H2 H3 HO']
  · unfold start
    isplitl [H1]; · iexact H1
    isplitl [H2]; · iexact H2
    isplitl [H3] <;> iassumption
  iintro Hf
  ihave Hf' := (finish_elim X (D m) c) $$ Hf
  icases Hf' with ⟨Hs, Hd, Hz, HO⟩
  isplitl [Hs Hd Hz HR]
  · isplitr [HR]
    · isplitr [Hz]
      · isplitl [Hs] <;> iassumption
      · iexact Hz
    · iexact HR
  isplitl [HO]; · iapply (owesAt_intro (pdats m 0 c) t0_0.succ 0 rfl rfl); iexact HO
  iempintro

theorem body1 (c : Dev nD) : BodyObligation (pdats (F := F) m 1 c) defs₀ 𝒱₀ () Set.univ :=
  body_obligation (fun c b => afterSwap m c b) c

theorem ownFacts : Pipeline.OwnSemFacts (Pipeline.pin (pcfgs (F := F)) adm 0).spec X.sem := ownFacts₀

/-! ## The sum region as a segment -/

/-- No wait is leveled. -/
abbrev noL : GSem nD τ sig → Finset Unit := fun _ => ∅
abbrev lv0 : GSem nD τ sig → Unit → ℕ := fun _ _ => 0

theorem kit1 : Pipeline.PLaunchFacts (nD := nD) (τ := τ) (pcfgs (F := F)) 1 := launch1.toP

theorem arr1_sub : arrRefs (τ := τ) (pcfgs (F := F) 1).spec ⊆ ucRefs τ sig :=
  Pipeline.arrRefs_sub_ucRefs _ kit1.win.arr_unscoped

theorem exit_arr (c : Dev nD) (w : Fin 2) :
    (pdats m 1 c).arrAt w (Pipeline.pin (pcfgs (F := F)) adm 1).N = afterSum m c (Proc.devRef .tc (Pipeline.arrRef (Pipeline.pin (pcfgs (F := F)) adm 1).spec w)) := by
  revert w
  refine Fin.forall_fin_two.mpr ⟨?_, ?_⟩
  · refine ((sum m c).arrAt_in 0 rfl _).trans ?_
    exact (afterSum_of m c main_v1 (by decide)).symm
  · exact (afterSum_v2 m c).symm

theorem exit_off (c : Dev nD) : ∀ b ∈ ucRefs τ sig \ arrRefs (τ := τ) (pcfgs (F := F) 1).spec, afterSwap m c b = afterSum m c b := fun b hb =>
  (afterSum_of m c b fun h => (Finset.mem_sdiff.mp hb).2 (by
    rw [h]
    exact Finset.mem_map.mpr ⟨main_v2, Finset.mem_image.mpr ⟨(1 : Fin 2), Finset.mem_univ _, rfl⟩, rfl⟩)).symm

theorem entry_held (c : Dev nD) : ((pdats m 1 c).arrays ((pdats m 1 c).arrAt · 0) : sProp 𝕄)
    = StableHlo.held (c.tc : Thread nD τ) (arrRefs (pcfgs (F := F) 1).spec) (afterSwap m c) :=
  Pipeline.arrays_held (pcfgs (F := F)) adm (pdats m) 1 kit1 c ((sum m c).share_full fun _ => rfl) _ _ fun _ => rfl

theorem exit_held (c : Dev nD) : ((pdats m 1 c).arrays ((pdats m 1 c).arrAt · (Pipeline.pin (pcfgs (F := F)) adm 1).N) : sProp 𝕄)
    = StableHlo.held (c.tc : Thread nD τ) (arrRefs (pcfgs (F := F) 1).spec) (afterSum m c) :=
  Pipeline.arrays_held (pcfgs (F := F)) adm (pdats m) 1 kit1 c ((sum m c).share_full fun _ => rfl) _ _ (exit_arr m c)

theorem noLevels : (levAts noL lv0 : sProp 𝕄) = iprop(emp) := by
  simp only [levAts, noL, bigSep_empty, bigSep_emp_const]
  rfl

def sumSeg : RegionSeg (pcfgs (F := F)) adm (pdats m) () defs₀ 𝒱₀ noL lv0 1 where
  win := (kit1 (F := F)).to₀.win
  block_pos := (kit1 (F := F)).to₀.block_pos
  stage_whole := (kit1 (F := F)).to₀.stage_whole
  K := PEmpty
  osem k := k.elim
  ho := Pipeline.OwnSemFacts.none _
  hbody c := (body1 m c).loose
  hwaits := Pipeline.hwaits_of_owed_zero (pcfgs (F := F)) adm (pdats m) () noL lv0 1 fun _ _ => rfl
  pre c := iprop(StableHlo.held (c.tc : Thread nD τ) (ucRefs τ sig) (afterSwap m c) ∗ ow c 0)
  post c := iprop(StableHlo.held (c.tc : Thread nD τ) (ucRefs τ sig) (afterSum m c) ∗ ow c 0)
  X _ := iprop(emp)
  Y _ := iprop(emp)
  Z c := StableHlo.held (c.tc : Thread nD τ) (ucRefs τ sig \ arrRefs (pcfgs (F := F) 1).spec) (afterSwap m c)
  hentry c := by
    rw [Pipeline.ownSems0_none, Pipeline.prefHeld_of_none _ rfl, StableHlo.held_sub_split (c.tc : Thread nD τ) (arr1_sub (F := F)) (afterSwap m c),
      ← entry_held]
    iintro ⟨⟨⟨Ha, Hu⟩, HO⟩, -, -⟩
    imodintro
    isplitl [Ha]; · iexact Ha
    isplitr; · iempintro
    isplitl [HO]; · iapply (owesAt_intro (pdats m 1 c) 0 0 rfl rfl); iexact HO
    isplitr; · iempintro
    iexact Hu
  hin c := by
    rw [Pipeline.prefHeld_of_none _ rfl]
    show _ ⊢ Pipeline.scopedRest (Pipeline.pin (pcfgs (F := F)) adm 1).spec c
    iintro ⟨-, -, Hr⟩
    iexact Hr
  hout c := by
    rw [Pipeline.ownSems0_none]
    show Pipeline.scopedRest (Pipeline.pin (pcfgs (F := F)) adm 1).spec c ⊢ _
    iintro Hr
    isplitr; · iempintro
    isplitr; · iempintro
    iexact Hr
  hexit c := by
    rw [StableHlo.held_sub_split (c.tc : Thread nD τ) (arr1_sub (F := F)) (afterSum m c),
      ← exit_held m c, ← StableHlo.held_congr (c.tc : Thread nD τ) (exit_off m c)]
    iintro ⟨Ha, HO, -, Hu⟩
    imodintro
    isplitl [Ha Hu]
    · isplitl [Ha]; · iexact Ha
      iexact Hu
    iapply (owesAt_elim (pdats m 1 c) _ 0 rfl); iexact HO

def cutSeg : HostSeg (Ix := Unit) (Name := ℕ) (U := UU nD τ sig) (Lvl := ℕ) (pcfgs (F := F)) defs₀ 𝒱₀ noL lv0 :=
  HostSeg.ofOps _ _ _ _ _ (ucRefs τ sig) hostOps2
    (fun op h => Pipeline.sub_ucRefs op ((List.forall_iff_forall_mem.mp hostOps2_sub) op h))
    (fun op h => (List.forall_iff_forall_mem.mp hostOps2_fresh) op h) (afterSum m) (fun c => ow c 0)

abbrev tail : List (Seg (pcfgs (F := F)) adm (pdats m) () defs₀ 𝒱₀ noL lv0) := [.region (sumSeg m), .host (cutSeg m)]

theorem tail_run (c : Dev nD) : Seg.run (tail m) = (Pipeline.chain
  [ Prog.lift (.customCall (Pipeline.entry 1) ()),
    StableHlo.seq hostOps2 ] : Prog (TpuEff nD τ sig (Elt F) (Pipeline.Sig Λ₀ (Fin 2) fun p => (pcfgs (F := F) p).Adm) .tc) PUnit) := by
  rw [Seg.run_eq_chain]; rfl

/-- The tail's run, from the device's buffers as the exchange leaves them. -/
theorem wp_tail (c : Dev nD) {Q : PUnit → sProp 𝕄} :
    iprop((iprop(boundary (c : Thread nD τ) ∗ StableHlo.held (c.tc : Thread nD τ) (ucRefs τ sig) (atEnd m c) ∗ ow c 0) -∗ Q ⟨⟩)
        ∗ boundary (c : Thread nD τ) ∗ (StableHlo.held (c.tc : Thread nD τ) (ucRefs τ sig) (afterSwap m c) ∗ ow c 0)
        ∗ (Pipeline.PerCore.cellsGhost (fun _ : Dev nD => Pipeline.pin (pcfgs (F := F)) adm) embL 1 c
          ∗ Pipeline.PerCore.toksInit (fun _ : Dev nD => Pipeline.pin (pcfgs (F := F)) adm) embL 1 c))
      ⊢ wp frame (wpE (defs (F := F)) (Variants.lift 𝒱₀) (c : Thread nD τ) none) Set.univ (Seg.run (tail m)) Q := by
  refine BIBase.Entails.trans ?_ (Pipeline.wp_segs (pcfgs (F := F)) adm (pdats m) () cellOf_inj embL defs₀ 𝒱₀ noL lv0 c (tail m) {1}
    (fun c => iprop(StableHlo.held (c.tc : Thread nD τ) (ucRefs τ sig) (afterSwap m c) ∗ ow c 0))
    (fun c => iprop(StableHlo.held (c.tc : Thread nD τ) (ucRefs τ sig) (atEnd m c) ∗ ow c 0))
    (by simp only [tail, Seg.pipes_host, Seg.pipes_region, Seg.pipes_nil]; decide)
    (by simp only [tail, Seg.pipes_host, Seg.pipes_region, Seg.pipes_nil]; decide)
    ⟨fun _ => .rfl, fun _ => .rfl, fun _ => .rfl⟩)
  iintro ⟨Hk, Hb, HT, Hg, Ht⟩
  isplitl [Hk]; · iexact Hk
  isplitl [Hb]; · iexact Hb
  isplitl [HT]; · iexact HT
  isplitr
  · rw [noLevels]; iempintro
  unfold Pipeline.ghostOn Pipeline.PerCore.ghostOn
  rw [BI.bigSep_singleton]
  isplitl [Hg]; · iexact Hg
  iexact Ht

/-! ## The run -/

abbrev swapped2 : Finset (DevRef τ sig) := {Proc.devRef .tc main_arg0, Proc.devRef .tc main_v1}

theorem swapped_sub : swapped2 ⊆ ucRefs τ sig := by decide

theorem held_swapped (c : Dev nD) (V : Valuation τ sig (Elt F)) : (StableHlo.held (c.tc : Thread nD τ) swapped2 V : sProp 𝕄)
    = iprop(((c : Thread nD τ).loc main_arg0 ↦{fullShare} V main_arg0) ∗ outPts c (V main_v1)) := by
  unfold StableHlo.held swapped2
  rw [bigSep_insert (by decide), bigSep_singleton]
  rfl

theorem afterSwap_off (c : Dev nD) : ∀ b ∈ ucRefs τ sig \ swapped2, V0 m c b = afterSwap m c b := fun b hb =>
  (afterSwap_of m c b fun h => (Finset.mem_sdiff.mp hb).2 (by rw [h]; decide)).symm

abbrev others (c : Dev nD) : sProp 𝕄 := StableHlo.held (c.tc : Thread nD τ) (ucRefs τ sig \ swapped2) (afterSwap m c)

theorem bufs_split (c : Dev nD) : (unscopedBufs c (fun b => m ((c : Thread nD τ).loc b)) : sProp 𝕄)
    ⊢ iprop((bigSep Finset.univ fun j => srcPts X (D m) c j) ∗ (bigSep Finset.univ fun j => iprop(∃ f, dstPts X c j f)) ∗ others m c) := by
  rw [show (unscopedBufs c (fun b => m ((c : Thread nD τ).loc b)) : sProp 𝕄) = StableHlo.held (c.tc : Thread nD τ) (ucRefs τ sig) (V0 m c) from
      Pipeline.unscopedBufs_held c (V0 m c),
    StableHlo.held_sub_split (c.tc : Thread nD τ) swapped_sub (V0 m c), held_swapped,
    StableHlo.held_congr (c.tc : Thread nD τ) (afterSwap_off m c),
    show ((c : Thread nD τ).loc main_arg0 ↦{fullShare} V0 m c main_arg0 : sProp 𝕄) = (inPts m c : sProp 𝕄) from rfl, in_rows, out_rows]
  iintro ⟨⟨Hs, Hd⟩, Hr⟩
  isplitl [Hs]; · iexact Hs
  isplitl [Hd]
  · iapply (show (bigSep Finset.univ fun j => (dstPts X c j (V0 m c main_v1) : sProp 𝕄)) ⊢ bigSep Finset.univ fun j => iprop(∃ f, dstPts X c j f) from
      bigSep_mono fun j _ => exists_intro_trans (Ψ := fun f => dstPts X c j f) _ (BI.Entails.refl _))
    iexact Hd
  iexact Hr

theorem joined (c : Dev nD) : iprop(back X (D m) c ∗ others m c) ⊢ (StableHlo.held (c.tc : Thread nD τ) (ucRefs τ sig) (afterSwap m c) : sProp 𝕄) := by
  rw [StableHlo.held_sub_split (c.tc : Thread nD τ) swapped_sub (afterSwap m c), held_swapped, afterSwap_v1, afterSwap_of m c main_arg0 (by decide),
    show ((c : Thread nD τ).loc main_arg0 ↦{fullShare} m (c, Proc.devRef .tc main_arg0) : sProp 𝕄) = (inPts m c : sProp 𝕄) from rfl, in_rows, out_rows]
  unfold back
  exact BI.Entails.refl _

set_option backward.isDefEq.respectTransparency.types false in
/-- Every run ends, with every unscoped buffer of every device at `atEnd` and every counter at zero. -/
theorem run_main (ρ : Dev nD → PrngReg) : θ_run (defs (F := F)) (onTc (τ := τ) (main (F := F))) ⟨m, fun _ => 0, ρ⟩
    (fun r => (∀ c : Dev nD, ∀ b ∈ ucRefs τ sig, r.2.mem (c, b) = atEnd m c b) ∧ r.2.sem = fun _ => 0) := by
  refine (θ_run (defs (F := F)) _ _).mono (fun r h => ⟨h.1, ?_⟩)
    (θ_launch (defs (F := F)) (Variants.lift 𝒱₀) (main (F := F)) m ρ (fun c => owed X c Finset.univ)
      (launchU (pcfgs (F := F)) adm X cellOf_inj) (dealt (pcfgs (F := F)) adm X (D m) cellOf_inj 0 ownFacts (others m))
      (fun c => StableHlo.held (c.tc : Thread nD τ) (ucRefs τ sig) (atEnd m c))
      (fun c s => ∀ b ∈ ucRefs τ sig, s.mem (c, b) = atEnd m c b)
      (deal_launch (pcfgs (F := F)) adm X (D m) cellOf_inj 0 winFacts0.to₀ ownFacts _ m (bufs_split m)) ?_ ?_)
  · funext g
    obtain ⟨⟨d, p⟩, sm⟩ := g
    by_cases hp : p = .tc
    · subst hp
      exact h.2.1 d sm (regions_no_unscoped sm)
    · exact h.2.2 _ hp
  · intro c
    rw [main_chain c]
    unfold dealt
    rw [bigSep_W1, bigSep_W1]
    iintro ⟨Hst, ⟨Hsb, Hcs, Hi, Hid⟩, ⟨Hg, Hg1⟩, ⟨Ht, Ht1⟩, HR⟩
    iapply (region_run (pcfgs (F := F)) adm X (D m) (pdats m) cellOf_inj 0 defs₀ 𝒱₀ winFacts0.to₀ stage_whole0 ownFacts W_zero N_one
      (fun c q pf => bigSep_W0 _) c rfl (body0 m c).loose) $$ [Hst Hsb Hcs Hi Hg Ht]
    · unfold around
      isplitl [Hst]; · iexact Hst
      isplitl [Hsb]; · iexact Hsb
      isplitl [Hcs]; · iexact Hcs
      isplitl [Hi]; · iexact Hi
      isplitl [Hg] <;> iassumption
    iintro ⟨Hb, Hss, Hsb, HO⟩
    simp only [Prog.bind, Pure.pure]
    have ht := wp_tail m c (Q := fun _ => iprop(StableHlo.held (c.tc : Thread nD τ) (ucRefs τ sig) (atEnd m c) ∗ boundary (c : Thread nD τ)
        ∗ ∃ W, owes (c : Thread nD τ) (0 : CellTallies nD τ sig Unit) W))
    rw [tail_run m c] at ht
    iapply ht
    isplitr [Hb Hss Hsb HO Hid Hg1 Ht1 HR]
    · unfold ow
      iintro ⟨Hbd, Hh, HO⟩
      isplitl [Hh]; · iexact Hh
      isplitl [Hbd]; · iexact Hbd
      iexact HO
    isplitl [Hss Hsb Hid]
    · iapply (show iprop(scopedBufs (c : Thread nD τ) ∗ scopedSems0 (c : Thread nD τ) ∗ opIdle (c : Thread nD τ)) ⊢ (boundary (c : Thread nD τ) : sProp 𝕄) from BI.Entails.refl _)
      isplitl [Hsb]; · iexact Hsb
      isplitl [Hss] <;> iassumption
    isplitl [Hb HR HO]
    · isplitl [Hb HR]
      · iapply (joined m c)
        isplitl [Hb] <;> iassumption
      iexact HO
    isplitl [Hg1] <;> iassumption
  · intro c s'
    unfold StableHlo.held
    iintro ⟨Hh, HSI⟩
    ihave Hr := (pointsTo_read_all (ucRefs τ sig) (fun b => ((c : Thread nD τ).1, b)) (atEnd m c) s') $$ [Hh HSI]
    · isplitl [Hh] <;> iassumption
    icases Hr with ⟨%h, HSI⟩
    imodintro
    isplitr
    · ipureintro
      exact h
    iexact HSI

end Cert.GradShards

end
-- ==== Proof.GradsValue.lean ====
/-
# The value of the gradients

The sum region leaves the eight slots added up, and the host operations cut the flattened sum into the gradients of the weights'
shards.
-/
module

public import proofs.«01_k».proof.Proof.GradsRun
public import proofs.«01_k».proof.Proof.SumClaims
public import Idealize.ShloMosaic.Lib.StableHlo.Run

@[expose] public section

noncomputable section

namespace Cert.GradShards

open Idealize.ShloMosaic Idealize.ShloMosaic.TcCoe Idealize.ShloMosaic.ValueIdx Idealize.SL.Sem Idealize.ShloMosaic.StableHlo
open Cert.Exchange Cert.GradsIdeal Cert.GradsIdeal.Gen
open Cert.SumRows (entry total)

variable {F : FTy → Type} [FloatOps F]

section
variable (V : (c : Dev nD) → (b : Ref sig .tc) → Buf (Elt F) ((c : Thread nD τ).loc b))

theorem idx_facts : ∀ t : Fin cfg1.N, win1_0.index t (0 : Fin 3) = 0 ∧ win1_0.index t (1 : Fin 3) = win1_1.index t (0 : Fin 2)
    ∧ win1_0.index t (2 : Fin 3) = 0 ∧ win1_1.index t (1 : Fin 2) = 0 :=
  (by decide +kernel : ∀ t : Fin grid1.N, win1_0.index t (0 : Fin 3) = 0 ∧ win1_0.index t (1 : Fin 3) = win1_1.index t (0 : Fin 2)
    ∧ win1_0.index t (2 : Fin 3) = 0 ∧ win1_1.index t (1 : Fin 2) = 0)

theorem idx_onto : ∀ q : Fin 154, ∃ t : Fin cfg1.N, win1_1.index t = ![q.val, 0] :=
  (by decide +kernel : ∀ q : Fin 154, ∃ t : Fin grid1.N, win1_1.index t = ![q.val, 0])

theorem flushed1 (c : Dev nD) (t : Fin cfg1.N) :
    (sumDat V c).flushed 1 t = (cfg1.win 1).cut (grid1.coords t) (out1_1 (iblk V c 0 t)) := by
  show (cfg1.win 1).cut (grid1.coords t) ((sumDat V c).after 1 t) = _
  rw [after1_1]

/-- A grid point writes back its block of the slots' sum. -/
theorem flushed_eq (c : Dev nD) (t : Fin cfg1.N) :
    (sumDat V c).flushed 1 t = ((cfg1.win 1).blk t).view.read (Elt F) (total (V c main_v1)) := by
  rw [flushed1]
  unfold out1_1
  obtain ⟨e0, e1, e2, e3⟩ := idx_facts t
  funext j
  refine (Cert.SumIdeal.Value.canon1_eq _ _ _ _ _ _ _ _ (show S64x1024.Idx from j)).trans ?_
  have h (k : Fin 8) (z : S8x64x1024.Idx) (h0 : (z 0).val = k.val) (h1 : (z 1).val = (j 0).val) (h2 : (z 2).val = (j 1).val) :
      iblk V c 0 t z = V c main_v1 (entry k (((cfg1.win 1).blk t).view.emb j)) := by
    show V c main_v1 (((cfg1.win 0).blk t).view.emb z) = _
    congr 1
    funext a; apply Fin.ext
    match a with
    | ⟨0, _⟩ => show win1_0.index t (0 : Fin 3) * 8 + 1 * (z 0).val = k.val; omega
    | ⟨1, _⟩ => show win1_0.index t (1 : Fin 3) * 64 + 1 * (z 1).val = win1_1.index t (0 : Fin 2) * 64 + 1 * (j 0).val; omega
    | ⟨2, _⟩ => show win1_0.index t (2 : Fin 3) * 1024 + 1 * (z 2).val = win1_1.index t (1 : Fin 2) * 1024 + 1 * (j 1).val; omega
  have hj0 : (j 0).val < 64 := (j 0).isLt
  have hj1 : (j 1).val < 1024 := (j 1).isLt
  refine congrArg₂ _ (congrArg₂ _ (congrArg₂ _ (congrArg₂ _ (congrArg₂ _ (congrArg₂ _ (congrArg₂ _ (h 0 _ ?_ ?_ ?_) (h 1 _ ?_ ?_ ?_))
    (h 2 _ ?_ ?_ ?_)) (h 3 _ ?_ ?_ ?_)) (h 4 _ ?_ ?_ ?_)) (h 5 _ ?_ ?_ ?_)) (h 6 _ ?_ ?_ ?_)) (h 7 _ ?_ ?_ ?_)
  all_goals first
    | rfl
    | (show 0 + 1 * (j 0).val = (j 0).val; omega)
    | (show 0 + 1 * (j 1).val = (j 1).val; omega)

theorem covered (i : S9856x1024.Idx) : ∃ t : Fin cfg1.N, (cfg1.win 1).flush t = true ∧ i ∈ ((cfg1.win 1).blk t).view.set := by
  have hi0 : (i 0).val < 9856 := (i 0).isLt
  have hi1 : (i 1).val < 1024 := (i 1).isLt
  obtain ⟨t, ht⟩ := idx_onto ⟨(i 0).val / 64, by omega⟩
  have q0 : win1_1.index t (0 : Fin 2) = (i 0).val / 64 := congrFun ht 0
  have q1 : win1_1.index t (1 : Fin 2) = 0 := congrFun ht 1
  refine ⟨t, flush1_1 t, ?_⟩
  show i ∈ ((View.whole main_v2).slice (win1_1.rect t)).set
  rw [View.set_slice_whole, Rect.mem_set_unit]
  intro a
  match a with
  | ⟨0, _⟩ => show win1_1.index t (0 : Fin 2) * 64 ≤ (i 0).val ∧ (i 0).val < win1_1.index t (0 : Fin 2) * 64 + 64; omega
  | ⟨1, _⟩ => show win1_1.index t (1 : Fin 2) * 1024 ≤ (i 1).val ∧ (i 1).val < win1_1.index t (1 : Fin 2) * 1024 + 1024; omega

end

variable (m : (ℓ : Loc nD τ sig) → Buf (Elt F) ℓ)

/-- After the sum region its array is the sum of the received slots. -/
theorem sum_eq (c : Dev nD) : afterSum m c main_v2 = total (outV m c) :=
  (afterSum_v2 m c).trans (((sum m c).arrAt_eq_of_cover 1 _ (fun t _ => flushed_eq _ c t) covered).trans (congrArg total (afterSwap_v1 m c)))

/-- The sum as one line. -/
abbrev line (c : Dev nD) : S10092544.Idx → Elt F .f32 := shapeCast S10092544 (total (outV m c)) shapeCasts_S9856x1024_S10092544

theorem end_arg0 (c : Dev nD) : atEnd m c main_arg0 = m ((c : Thread nD τ).loc main_arg0) :=
  (after_of_writes_sub hostOps2 _ hostOps2_writes (by decide)).trans
    ((afterSum_of m c _ (by decide)).trans (afterSwap_of m c _ (by decide)))

section
variable (U : Valuation τ sig (Elt F))

/-- A run of the sum in a shard's shape. -/
abbrev shard (s : Shape) (n off : ℕ) (f : S10092544.Idx → Elt F .f32) (h : S10092544.Slices ![off] ⟨1, ![n]⟩) (h₀ : (⟨1, ![n]⟩ : Shape).ShapeCasts s) : s.Idx → Elt F .f32 :=
  shapeCast s (extractStridedSlice ⟨1, ![n]⟩ ![off] f h) h₀

set_option maxHeartbeats 2000000

theorem ops_v5 : after hostOps2 U main_v5
    = shard S1x4x64x512 131072 0 (shapeCast S10092544 (U main_v2) shapeCasts_S9856x1024_S10092544) slices_S10092544_S131072_0 shapeCasts_S131072_S1x4x64x512 := by
  after_results_simp <;> rfl
theorem end_v5 (c : Dev nD) : atEnd m c main_v5 = shard S1x4x64x512 131072 0 (line m c) slices_S10092544_S131072_0 shapeCasts_S131072_S1x4x64x512 :=
  (ops_v5 _).trans (by rw [sum_eq])

theorem ops_v7 : after hostOps2 U main_v7
    = shard S256x576 147456 131072 (shapeCast S10092544 (U main_v2) shapeCasts_S9856x1024_S10092544) slices_S10092544_S147456_131072 shapeCasts_S147456_S256x576 := by
  after_results_simp <;> rfl
theorem end_v7 (c : Dev nD) : atEnd m c main_v7 = shard S256x576 147456 131072 (line m c) slices_S10092544_S147456_131072 shapeCasts_S147456_S256x576 :=
  (ops_v7 _).trans (by rw [sum_eq])

theorem ops_v9 : after hostOps2 U main_v9
    = shard S512x512 262144 278528 (shapeCast S10092544 (U main_v2) shapeCasts_S9856x1024_S10092544) slices_S10092544_S262144_278528 shapeCasts_S262144_S512x512 := by
  after_results_simp <;> rfl
theorem end_v9 (c : Dev nD) : atEnd m c main_v9 = shard S512x512 262144 278528 (line m c) slices_S10092544_S262144_278528 shapeCasts_S262144_S512x512 :=
  (ops_v9 _).trans (by rw [sum_eq])

theorem ops_v11 : after hostOps2 U main_v11
    = shard S1x256x512 131072 540672 (shapeCast S10092544 (U main_v2) shapeCasts_S9856x1024_S10092544) slices_S10092544_S131072_540672 shapeCasts_S131072_S1x256x512 := by
  after_results_simp <;> rfl
theorem end_v11 (c : Dev nD) : atEnd m c main_v11 = shard S1x256x512 131072 540672 (line m c) slices_S10092544_S131072_540672 shapeCasts_S131072_S1x256x512 :=
  (ops_v11 _).trans (by rw [sum_eq])

theorem ops_v13 : after hostOps2 U main_v13
    = shard S1x512x384 196608 671744 (shapeCast S10092544 (U main_v2) shapeCasts_S9856x1024_S10092544) slices_S10092544_S196608_671744 shapeCasts_S196608_S1x512x384 := by
  after_results_simp <;> rfl
theorem end_v13 (c : Dev nD) : atEnd m c main_v13 = shard S1x512x384 196608 671744 (line m c) slices_S10092544_S196608_671744 shapeCasts_S196608_S1x512x384 :=
  (ops_v13 _).trans (by rw [sum_eq])

theorem ops_v15 : after hostOps2 U main_v15
    = shard S1x256x2048 524288 868352 (shapeCast S10092544 (U main_v2) shapeCasts_S9856x1024_S10092544) slices_S10092544_S524288_868352 shapeCasts_S524288_S1x256x2048 := by
  after_results_simp <;> rfl
theorem end_v15 (c : Dev nD) : atEnd m c main_v15 = shard S1x256x2048 524288 868352 (line m c) slices_S10092544_S524288_868352 shapeCasts_S524288_S1x256x2048 :=
  (ops_v15 _).trans (by rw [sum_eq])

theorem ops_v17 : after hostOps2 U main_v17
    = shard S2x2048x704 2883584 1392640 (shapeCast S10092544 (U main_v2) shapeCasts_S9856x1024_S10092544) slices_S10092544_S2883584_1392640 shapeCasts_S2883584_S2x2048x704 := by
  after_results_simp <;> rfl
theorem end_v17 (c : Dev nD) : atEnd m c main_v17 = shard S2x2048x704 2883584 1392640 (line m c) slices_S10092544_S2883584_1392640 shapeCasts_S2883584_S2x2048x704 :=
  (ops_v17 _).trans (by rw [sum_eq])

theorem ops_v19 : after hostOps2 U main_v19
    = shard S2x2048x704 2883584 4276224 (shapeCast S10092544 (U main_v2) shapeCasts_S9856x1024_S10092544) slices_S10092544_S2883584_4276224 shapeCasts_S2883584_S2x2048x704 := by
  after_results_simp <;> rfl
theorem end_v19 (c : Dev nD) : atEnd m c main_v19 = shard S2x2048x704 2883584 4276224 (line m c) slices_S10092544_S2883584_4276224 shapeCasts_S2883584_S2x2048x704 :=
  (ops_v19 _).trans (by rw [sum_eq])

theorem ops_v21 : after hostOps2 U main_v21
    = shard S2x704x2048 2883584 7159808 (shapeCast S10092544 (U main_v2) shapeCasts_S9856x1024_S10092544) slices_S10092544_S2883584_7159808 shapeCasts_S2883584_S2x704x2048 := by
  after_results_simp <;> rfl
theorem end_v21 (c : Dev nD) : atEnd m c main_v21 = shard S2x704x2048 2883584 7159808 (line m c) slices_S10092544_S2883584_7159808 shapeCasts_S2883584_S2x704x2048 :=
  (ops_v21 _).trans (by rw [sum_eq])

theorem ops_v23 : after hostOps2 U main_v23
    = shard S1x256 256 10043392 (shapeCast S10092544 (U main_v2) shapeCasts_S9856x1024_S10092544) slices_S10092544_S256_10043392 shapeCasts_S256_S1x256 := by
  after_results_simp <;> rfl
theorem end_v23 (c : Dev nD) : atEnd m c main_v23 = shard S1x256 256 10043392 (line m c) slices_S10092544_S256_10043392 shapeCasts_S256_S1x256 :=
  (ops_v23 _).trans (by rw [sum_eq])

theorem ops_v25 : after hostOps2 U main_v25
    = shard S1x256 256 10043648 (shapeCast S10092544 (U main_v2) shapeCasts_S9856x1024_S10092544) slices_S10092544_S256_10043648 shapeCasts_S256_S1x256 := by
  after_results_simp <;> rfl
theorem end_v25 (c : Dev nD) : atEnd m c main_v25 = shard S1x256 256 10043648 (line m c) slices_S10092544_S256_10043648 shapeCasts_S256_S1x256 :=
  (ops_v25 _).trans (by rw [sum_eq])
end

end Cert.GradShards

end
-- ==== Proof.GradsCuts.lean ====
/-
# A shard's gradient in the packed sum

Device `c`'s packed gradients lie in row `c` of an array of eight rows. A shard of a weight is a run of that row, read in the shard's
shape; the whole weight is the eight runs laid side by side along the axis the weight is sharded over. The theorems say that the shard
is block `c` of the whole weight, one theorem for each rank and axis.
-/
module

public import Idealize.ShloMosaic.Lib.Pipeline.Value
public import Idealize.ShloMosaic.Lib.Layout
public import Idealize.ShloMosaic.Lib.ValueLayout
public import Mathlib.Tactic.FinCases
public import Mathlib.Tactic.Linarith
public import Mathlib.Tactic.Ring

@[expose] public section

noncomputable section

namespace Cert.GradShards

open Idealize.ShloMosaic Idealize.ShloMosaic.ValueIdx Idealize.ShloMosaic.Pipeline

abbrev Line (n : ℕ) : Shape := ⟨1, ![n]⟩
abbrev Rows (n : ℕ) : Shape := ⟨2, ![8, n]⟩

section
variable {α : Type} {n N off : ℕ} {K : (Line N).Idx → α} {R : (Rows N).Idx → α} {c : Fin 8}

theorem run_apply (hK : ∀ p : Fin N, K (ix1 p) = R (ix2 c p)) (h : (Line N).Slices ![off] (Line n)) (h' : (Rows N).Slices ![0, off] (Rows n)) (p : Fin n) :
    extractStridedSlice (Line n) ![off] K h (ix1 p) = extractStridedSlice (Rows n) ![0, off] R h' (ix2 c p) := by
  have hp : off + p.val < N := lt_of_lt_of_le (Nat.add_lt_add_left p.isLt _) (h.2 0)
  refine (extractStridedSlice_apply _ _ h _ (ix1 ⟨off + p.val, hp⟩) ?_).trans ((hK _).trans (extractStridedSlice_apply _ _ h' _ _ ?_).symm)
  · intro a
    match a with
    | ⟨0, _⟩ => rfl
  · intro a
    match a with
    | ⟨0, _⟩ => exact (Nat.zero_add c.val).symm
    | ⟨1, _⟩ => rfl

/-- Rank 2, sharded over axis 0. -/
theorem cut_2_0 (a b a' : ℕ) (ha : a' = 8 * a) (hn : n = a * b) (hK : ∀ p : Fin N, K (ix1 p) = R (ix2 c p))
    (h : (Line N).Slices ![off] (Line n)) (h' : (Rows N).Slices ![0, off] (Rows n)) (h₀ : (Line n).ShapeCasts ⟨2, ![a, b]⟩)
    (h₁ : (Rows n).ShapeCasts ⟨3, ![8, a, b]⟩) (h₃ : (⟨3, ![8, a, b]⟩ : Shape).ShapeCasts ⟨2, ![a', b]⟩)
    (hT : Layout.Tiles ⟨2, ![a, b]⟩ ⟨2, ![a', b]⟩ 0 8) :
    shapeCast ⟨2, ![a, b]⟩ (extractStridedSlice (Line n) ![off] K h) h₀
      = Layout.block ⟨2, ![a, b]⟩ ⟨2, ![a', b]⟩ 0 8 c (shapeCast _ (shapeCast _ (extractStridedSlice (Rows n) ![0, off] R h') h₁) h₃) hT := by
  subst ha hn
  funext i
  have hp : (i 0).val * b + (i 1).val < a * b := by
    have h0 : (i 0).val < a := (i 0).isLt
    have h1 : (i 1).val < b := (i 1).isLt
    nlinarith
  refine (shapeCast_apply _ h₀ _ (ix1 ⟨_, hp⟩) ?_).trans ((run_apply hK h h' _).trans ?_)
  · rw [Shape.rowMajor_val_one, Shape.rowMajor_val_two]; rfl
  symm
  refine (shapeCast_apply _ h₃ _ (ix3 c (i 0) (i 1)) ?_).trans (shapeCast_apply _ h₁ _ _ ?_)
  · rw [Shape.rowMajor_val_two, Shape.rowMajor_val_three, Layout.Tiles.idx_val, Layout.Tiles.idx_val]; rfl
  · rw [Shape.rowMajor_val_two, Shape.rowMajor_val_three]
    show c.val * (a * b) + ((i 0).val * b + (i 1).val) = (c.val * a + (i 0).val) * b + (i 1).val
    ring

/-- Rank 2, sharded over axis 1. -/
theorem cut_2_1 (a b b' : ℕ) (hb : b' = 8 * b) (hn : n = a * b) (hK : ∀ p : Fin N, K (ix1 p) = R (ix2 c p))
    (h : (Line N).Slices ![off] (Line n)) (h' : (Rows N).Slices ![0, off] (Rows n)) (h₀ : (Line n).ShapeCasts ⟨2, ![a, b]⟩)
    (h₁ : (Rows n).ShapeCasts ⟨3, ![8, a, b]⟩) (h₂ : (⟨3, ![8, a, b]⟩ : Shape).Transposes [1, 0, 2] ⟨3, ![a, 8, b]⟩)
    (h₃ : (⟨3, ![a, 8, b]⟩ : Shape).ShapeCasts ⟨2, ![a, b']⟩) (hT : Layout.Tiles ⟨2, ![a, b]⟩ ⟨2, ![a, b']⟩ 1 8) :
    shapeCast ⟨2, ![a, b]⟩ (extractStridedSlice (Line n) ![off] K h) h₀
      = Layout.block ⟨2, ![a, b]⟩ ⟨2, ![a, b']⟩ 1 8 c
          (shapeCast _ (transpose ⟨3, ![a, 8, b]⟩ [1, 0, 2] (shapeCast _ (extractStridedSlice (Rows n) ![0, off] R h') h₁) h₂) h₃) hT := by
  subst hb hn
  funext i
  have hp : (i 0).val * b + (i 1).val < a * b := by
    have h0 : (i 0).val < a := (i 0).isLt
    have h1 : (i 1).val < b := (i 1).isLt
    nlinarith
  refine (shapeCast_apply _ h₀ _ (ix1 ⟨_, hp⟩) ?_).trans ((run_apply hK h h' _).trans ?_)
  · rw [Shape.rowMajor_val_one, Shape.rowMajor_val_two]; rfl
  symm
  refine (shapeCast_apply _ h₃ _ (ix3 (i 0) c (i 1)) ?_).trans ((transpose_apply _ _ h₂ _ (ix3 c (i 0) (i 1)) ?_).trans (shapeCast_apply _ h₁ _ _ ?_))
  · rw [Shape.rowMajor_val_two, Shape.rowMajor_val_three, Layout.Tiles.idx_val, Layout.Tiles.idx_val]
    show ((i 0).val * 8 + c.val) * b + (i 1).val = (i 0).val * (8 * b) + (c.val * b + (i 1).val)
    ring
  · intro d; fin_cases d <;> rfl
  · rw [Shape.rowMajor_val_two, Shape.rowMajor_val_three]
    show c.val * (a * b) + ((i 0).val * b + (i 1).val) = (c.val * a + (i 0).val) * b + (i 1).val
    ring

theorem run_lt {a b e x y z : ℕ} (hx : x < a) (hy : y < b) (hz : z < e) : (x * b + y) * e + z < a * b * e := by
  have h : x * b + y < a * b := by nlinarith
  nlinarith

/-- Rank 3, sharded over axis 1. -/
theorem cut_3_1 (a b e b' : ℕ) (hb : b' = 8 * b) (hn : n = a * b * e) (hK : ∀ p : Fin N, K (ix1 p) = R (ix2 c p))
    (h : (Line N).Slices ![off] (Line n)) (h' : (Rows N).Slices ![0, off] (Rows n)) (h₀ : (Line n).ShapeCasts ⟨3, ![a, b, e]⟩)
    (h₁ : (Rows n).ShapeCasts ⟨4, ![8, a, b, e]⟩) (h₂ : (⟨4, ![8, a, b, e]⟩ : Shape).Transposes [1, 0, 2, 3] ⟨4, ![a, 8, b, e]⟩)
    (h₃ : (⟨4, ![a, 8, b, e]⟩ : Shape).ShapeCasts ⟨3, ![a, b', e]⟩) (hT : Layout.Tiles ⟨3, ![a, b, e]⟩ ⟨3, ![a, b', e]⟩ 1 8) :
    shapeCast ⟨3, ![a, b, e]⟩ (extractStridedSlice (Line n) ![off] K h) h₀
      = Layout.block ⟨3, ![a, b, e]⟩ ⟨3, ![a, b', e]⟩ 1 8 c
          (shapeCast _ (transpose ⟨4, ![a, 8, b, e]⟩ [1, 0, 2, 3] (shapeCast _ (extractStridedSlice (Rows n) ![0, off] R h') h₁) h₂) h₃) hT := by
  subst hb hn
  funext i
  refine (shapeCast_apply _ h₀ _ (ix1 ⟨_, run_lt (i 0).isLt (i 1).isLt (i 2).isLt⟩) ?_).trans ((run_apply hK h h' _).trans ?_)
  · rw [Shape.rowMajor_val_one, Shape.rowMajor_val_three]; rfl
  symm
  refine (shapeCast_apply _ h₃ _ (ix4 (i 0) c (i 1) (i 2)) ?_).trans ((transpose_apply _ _ h₂ _ (ix4 c (i 0) (i 1) (i 2)) ?_).trans (shapeCast_apply _ h₁ _ _ ?_))
  · rw [Shape.rowMajor_val_three, Shape.rowMajor_val_four, Layout.Tiles.idx_val, Layout.Tiles.idx_val, Layout.Tiles.idx_val]
    show (((i 0).val * 8 + c.val) * b + (i 1).val) * e + (i 2).val = ((i 0).val * (8 * b) + (c.val * b + (i 1).val)) * e + (i 2).val
    ring
  · intro d; fin_cases d <;> rfl
  · rw [Shape.rowMajor_val_two, Shape.rowMajor_val_four]
    show c.val * (a * b * e) + (((i 0).val * b + (i 1).val) * e + (i 2).val) = ((c.val * a + (i 0).val) * b + (i 1).val) * e + (i 2).val
    ring

/-- Rank 3, sharded over axis 2. -/
theorem cut_3_2 (a b e e' : ℕ) (he : e' = 8 * e) (hn : n = a * b * e) (hK : ∀ p : Fin N, K (ix1 p) = R (ix2 c p))
    (h : (Line N).Slices ![off] (Line n)) (h' : (Rows N).Slices ![0, off] (Rows n)) (h₀ : (Line n).ShapeCasts ⟨3, ![a, b, e]⟩)
    (h₁ : (Rows n).ShapeCasts ⟨4, ![8, a, b, e]⟩) (h₂ : (⟨4, ![8, a, b, e]⟩ : Shape).Transposes [1, 2, 0, 3] ⟨4, ![a, b, 8, e]⟩)
    (h₃ : (⟨4, ![a, b, 8, e]⟩ : Shape).ShapeCasts ⟨3, ![a, b, e']⟩) (hT : Layout.Tiles ⟨3, ![a, b, e]⟩ ⟨3, ![a, b, e']⟩ 2 8) :
    shapeCast ⟨3, ![a, b, e]⟩ (extractStridedSlice (Line n) ![off] K h) h₀
      = Layout.block ⟨3, ![a, b, e]⟩ ⟨3, ![a, b, e']⟩ 2 8 c
          (shapeCast _ (transpose ⟨4, ![a, b, 8, e]⟩ [1, 2, 0, 3] (shapeCast _ (extractStridedSlice (Rows n) ![0, off] R h') h₁) h₂) h₃) hT := by
  subst he hn
  funext i
  refine (shapeCast_apply _ h₀ _ (ix1 ⟨_, run_lt (i 0).isLt (i 1).isLt (i 2).isLt⟩) ?_).trans ((run_apply hK h h' _).trans ?_)
  · rw [Shape.rowMajor_val_one, Shape.rowMajor_val_three]; rfl
  symm
  refine (shapeCast_apply _ h₃ _ (ix4 (i 0) (i 1) c (i 2)) ?_).trans ((transpose_apply _ _ h₂ _ (ix4 c (i 0) (i 1) (i 2)) ?_).trans (shapeCast_apply _ h₁ _ _ ?_))
  · rw [Shape.rowMajor_val_three, Shape.rowMajor_val_four, Layout.Tiles.idx_val, Layout.Tiles.idx_val, Layout.Tiles.idx_val]
    show (((i 0).val * b + (i 1).val) * 8 + c.val) * e + (i 2).val = ((i 0).val * b + (i 1).val) * (8 * e) + (c.val * e + (i 2).val)
    ring
  · intro d; fin_cases d <;> rfl
  · rw [Shape.rowMajor_val_two, Shape.rowMajor_val_four]
    show c.val * (a * b * e) + (((i 0).val * b + (i 1).val) * e + (i 2).val) = ((c.val * a + (i 0).val) * b + (i 1).val) * e + (i 2).val
    ring

/-- Rank 4, sharded over axis 2. -/
theorem cut_4_2 (a b e f e' : ℕ) (he : e' = 8 * e) (hn : n = a * b * e * f) (hK : ∀ p : Fin N, K (ix1 p) = R (ix2 c p))
    (h : (Line N).Slices ![off] (Line n)) (h' : (Rows N).Slices ![0, off] (Rows n)) (h₀ : (Line n).ShapeCasts ⟨4, ![a, b, e, f]⟩)
    (h₁ : (Rows n).ShapeCasts ⟨5, ![8, a, b, e, f]⟩) (h₂ : (⟨5, ![8, a, b, e, f]⟩ : Shape).Transposes [1, 2, 0, 3, 4] ⟨5, ![a, b, 8, e, f]⟩)
    (h₃ : (⟨5, ![a, b, 8, e, f]⟩ : Shape).ShapeCasts ⟨4, ![a, b, e', f]⟩) (hT : Layout.Tiles ⟨4, ![a, b, e, f]⟩ ⟨4, ![a, b, e', f]⟩ 2 8) :
    shapeCast ⟨4, ![a, b, e, f]⟩ (extractStridedSlice (Line n) ![off] K h) h₀
      = Layout.block ⟨4, ![a, b, e, f]⟩ ⟨4, ![a, b, e', f]⟩ 2 8 c
          (shapeCast _ (transpose ⟨5, ![a, b, 8, e, f]⟩ [1, 2, 0, 3, 4] (shapeCast _ (extractStridedSlice (Rows n) ![0, off] R h') h₁) h₂) h₃) hT := by
  subst he hn
  funext i
  have hp : (((i 0).val * b + (i 1).val) * e + (i 2).val) * f + (i 3).val < a * b * e * f := by
    have h2 : ((i 0).val * b + (i 1).val) * e + (i 2).val < a * b * e := run_lt (i 0).isLt (i 1).isLt (i 2).isLt
    have h3 : (i 3).val < f := (i 3).isLt
    nlinarith
  refine (shapeCast_apply _ h₀ _ (ix1 ⟨_, hp⟩) ?_).trans ((run_apply hK h h' _).trans ?_)
  · rw [Shape.rowMajor_val_one, Shape.rowMajor_val_four]; rfl
  symm
  refine (shapeCast_apply _ h₃ _ (ix5 (i 0) (i 1) c (i 2) (i 3)) ?_).trans
    ((transpose_apply _ _ h₂ _ (ix5 c (i 0) (i 1) (i 2) (i 3)) ?_).trans (shapeCast_apply _ h₁ _ _ ?_))
  · rw [Shape.rowMajor_val_four, Shape.rowMajor_val_five, Layout.Tiles.idx_val, Layout.Tiles.idx_val, Layout.Tiles.idx_val, Layout.Tiles.idx_val]
    show ((((i 0).val * b + (i 1).val) * 8 + c.val) * e + (i 2).val) * f + (i 3).val
      = (((i 0).val * b + (i 1).val) * (8 * e) + (c.val * e + (i 2).val)) * f + (i 3).val
    ring
  · intro d; fin_cases d <;> rfl
  · rw [Shape.rowMajor_val_two, Shape.rowMajor_val_five]
    show c.val * (a * b * e * f) + ((((i 0).val * b + (i 1).val) * e + (i 2).val) * f + (i 3).val)
      = (((c.val * a + (i 0).val) * b + (i 1).val) * e + (i 2).val) * f + (i 3).val
    ring

end

end Cert.GradShards

end
-- ==== Proof.GradsClaims.lean ====
/-
# The gradients of the sharded weights, certified

Device `c`'s results are its blocks of the whole weights' gradients, each the sum over the devices of the partial gradients they hold.
-/
module

public import proofs.«01_k».proof.Defs
public import proofs.«01_k».proof.Proof.Gen.Grads
public import proofs.«01_k».proof.Proof.Gen.Grads.Launch
public import proofs.«01_k».proof.Proof.Gen.GradsIdeal
public import proofs.«01_k».proof.Proof.Gen.GradsReferenceIdeal
public import proofs.«01_k».proof.Proof.Gen.GradsReferenceIdeal.Run
public import proofs.«01_k».proof.Proof.GradsValue
public import proofs.«01_k».proof.Proof.GradsCuts
public import Idealize.ShloMosaic.Lib.Pointwise.Reduce
public import Idealize.ShloMosaic.Adequacy
public import Idealize.ShloMosaic.Init

@[expose] public section

noncomputable section

namespace Cert.GradShards

open Idealize.ShloMosaic Idealize.ShloMosaic.TcCoe Idealize.ShloMosaic.ValueIdx Idealize.ShloMosaic.Pipeline Idealize.SL.Sem
open Cert.Exchange
open Cert.SumRows (entry total total_sum)

section
variable {F : FTy → Type} [FloatOps F]

/-- The two programs' body tables are the same, label by label. -/
theorem defs₀_eq : Cert.Grads.defs₀ (F := F) = Cert.GradsIdeal.defs₀ (F := F) := by
  unfold Cert.Grads.defs₀ Cert.GradsIdeal.defs₀
  congr 1
  funext l a
  match l with
  | 0 => rfl
  | 1 => rfl
theorem defs_eq : Cert.Grads.defs (F := F) = Cert.GradsIdeal.defs (F := F) := by
  unfold Cert.Grads.defs Cert.GradsIdeal.defs
  rw [defs₀_eq]; rfl

theorem run_kernel (m : (ℓ : Loc Cert.Grads.nD Cert.Grads.τ Cert.Grads.sig) → Buf (Elt F) ℓ) (ρ : Dev Cert.Grads.nD → PrngReg) :
    θ_run (Cert.Grads.defs (F := F)) (onTc (τ := Cert.Grads.τ) (Cert.Grads.main (F := F))) ⟨m, fun _ => 0, ρ⟩
      (fun r => (∀ c : Dev Cert.Grads.nD, ∀ b ∈ ucRefs Cert.Grads.τ Cert.Grads.sig, r.2.mem (c, b) = atEnd (F := F) m c b) ∧ r.2.sem = fun _ => 0) := by
  rw [defs_eq]
  exact run_main (F := F) m ρ

open Cert.GradsIdeal in
theorem mem_uc (b : Ref sig .tc) (h : b.isScoped = false) : Proc.devRef (τ := τ) .tc b ∈ ucRefs τ sig :=
  Finset.mem_filter.mpr ⟨StableHlo.devRef_mem_tcRefs b, by rw [show (Proc.devRef (τ := τ) .tc b).isScoped = b.isScoped from rfl, h]; exact Bool.false_ne_true⟩

end

theorem frame_kernel : Cert.quiescent_Grads (hGrads := Cert.Grads.Gen.facts) := fun m g _ =>
  (θ_run Cert.Grads.defs _ _).mono (fun _ h => ⟨fun c => (h.1 c _ (mem_uc Cert.GradsIdeal.main_arg0 rfl)).trans (end_arg0 (F := Bits) m c), h.2⟩) (run_kernel (F := Bits) m g)

theorem frame_kernelIdeal : Cert.quiescent_GradsIdeal (hGradsIdeal := Cert.GradsIdeal.Gen.facts) := fun m g _ =>
  (θ_run Cert.GradsIdeal.defs _ _).mono (fun _ h => ⟨fun c => (h.1 c _ (mem_uc Cert.GradsIdeal.main_arg0 rfl)).trans (end_arg0 (F := Ideal) m c), h.2⟩) (run_main (F := Ideal) m g)

theorem frame_referenceIdeal : Cert.quiescent_GradsReferenceIdeal (hGradsReferenceIdeal := Cert.GradsReferenceIdeal.Gen.facts) := fun m g _ =>
  (θ_run Cert.GradsReferenceIdeal.defs _ _).mono (fun r h => ⟨fun c => (h c).2.2.2.2.2.2.2.2.2.2.2, sem_eq_zero_of_no_sems rfl r.2⟩) (Cert.GradsReferenceIdeal.Value.run (F := Ideal) m g)

section
open Cert.GradsReferenceIdeal

/-- The devices' stacks, summed over the devices that hold them. -/
abbrev sums (A : S64x9856x1024.Idx → Elt Ideal .f32) (h₁ : S64x9856x1024.ShapeCasts S8x8x10092544) (h : S8x8x10092544.ReducesTo [0] S8x10092544)
    (h₀ : 0 < S_.numel) : S8x10092544.Idx → Elt Ideal .f32 :=
  Host.reduceAdd (F := Ideal) (φ := .f32) (shapeCast S8x8x10092544 A h₁) (constant S_ .f32 0x00000000#32) h h₀

/-- Device `c`'s line is row `c` of the sums. -/
theorem line_eq (m : (ℓ : Loc Cert.GradsIdeal.nD Cert.GradsIdeal.τ Cert.GradsIdeal.sig) → Buf (Elt Ideal) ℓ) (A : S64x9856x1024.Idx → Elt Ideal .f32)
    (hm : ∀ c : Dev Cert.GradsIdeal.nD, m ((c.tc : Thread Cert.GradsIdeal.nD Cert.GradsIdeal.τ).loc Cert.GradsIdeal.main_arg0)
      = Layout.block ⟨3, ![8, 9856, 1024]⟩ ⟨3, ![64, 9856, 1024]⟩ 0 8 c A)
    (h₁ : S64x9856x1024.ShapeCasts S8x8x10092544) (h : S8x8x10092544.ReducesTo [0] S8x10092544) (h₀ : 0 < S_.numel) (c : Fin 8) (p : Fin 10092544) :
    line m c (ValueIdx.ix1 p) = sums A h₁ h h₀ (ValueIdx.ix2 c p) := by
  have hp := p.isLt
  have e := Ideal.hostReduceAdd_r3_a0 h (shapeCast S8x8x10092544 A h₁) (Ideal.ofBits .f32 0x00000000#32) (ValueIdx.ix2 c p)
  rw [Ideal.ofBits_zero_f32, zero_add] at e
  refine (shapeCast_apply _ _ _ (ValueIdx.ix2 (⟨p.val / 1024, by omega⟩ : Fin 9856) (⟨p.val % 1024, by omega⟩ : Fin 1024)) ?_).trans ?_
  · rw [Shape.rowMajor_val_one, Shape.rowMajor_val_two]
    show p.val / 1024 * 1024 + p.val % 1024 = p.val
    omega
  rw [total_sum]
  refine Eq.trans (Finset.sum_congr rfl fun k _ => ?_) (Eq.trans e.symm ?_)
  · refine (congrFun (hm k) (ValueIdx.ix3 c (⟨p.val / 1024, by omega⟩ : Fin 9856) (⟨p.val % 1024, by omega⟩ : Fin 1024))).trans (shapeCast_apply A h₁ _ _ ?_).symm
    rw [Shape.rowMajor_val_three, Shape.rowMajor_val_three, Layout.Tiles.idx_val, Layout.Tiles.idx_val, Layout.Tiles.idx_val]
    show ((k.val * 8 + c.val) * 9856 + p.val / 1024) * 1024 + p.val % 1024 = (k.val * 8 + c.val) * 10092544 + p.val
    omega
  · rw [← Ideal.ofBits_zero_f32]; rfl

end

theorem value_ideal : Cert.algebraic_GradsIdeal_GradsReferenceIdeal (hGradsIdeal := Cert.GradsIdeal.Gen.facts) (hGradsReferenceIdeal := Cert.GradsReferenceIdeal.Gen.facts) :=
  fun m g m' g' _ hm => ⟨_, _, _, _, _, _, _, _, _, _, _,
    (θ_run Cert.GradsIdeal.defs _ _).mono (fun _ h c =>
      have hK := line_eq m _ hm Cert.GradsReferenceIdeal.Gen.shapeCasts_S64x9856x1024_S8x8x10092544 Cert.GradsReferenceIdeal.Gen.reducesTo_S8x8x10092544_S8x10092544_d0 Cert.GradsReferenceIdeal.Gen.h_S_ c
      ⟨
      (h.1 c _ (mem_uc Cert.GradsIdeal.main_v5 rfl)).trans ((end_v5 (F := Ideal) m c).trans (cut_4_2 (n := 131072) 1 4 64 512 512 rfl rfl hK _ _ _ _ _ _ _)),
      (h.1 c _ (mem_uc Cert.GradsIdeal.main_v7 rfl)).trans ((end_v7 (F := Ideal) m c).trans (cut_2_0 (n := 147456) 256 576 2048 rfl rfl hK _ _ _ _ _ _)),
      (h.1 c _ (mem_uc Cert.GradsIdeal.main_v9 rfl)).trans ((end_v9 (F := Ideal) m c).trans (cut_2_1 (n := 262144) 512 512 4096 rfl rfl hK _ _ _ _ _ _ _)),
      (h.1 c _ (mem_uc Cert.GradsIdeal.main_v11 rfl)).trans ((end_v11 (F := Ideal) m c).trans (cut_3_1 (n := 131072) 1 256 512 2048 rfl rfl hK _ _ _ _ _ _ _)),
      (h.1 c _ (mem_uc Cert.GradsIdeal.main_v13 rfl)).trans ((end_v13 (F := Ideal) m c).trans (cut_3_2 (n := 196608) 1 512 384 3072 rfl rfl hK _ _ _ _ _ _ _)),
      (h.1 c _ (mem_uc Cert.GradsIdeal.main_v15 rfl)).trans ((end_v15 (F := Ideal) m c).trans (cut_3_1 (n := 524288) 1 256 2048 2048 rfl rfl hK _ _ _ _ _ _ _)),
      (h.1 c _ (mem_uc Cert.GradsIdeal.main_v17 rfl)).trans ((end_v17 (F := Ideal) m c).trans (cut_3_2 (n := 2883584) 2 2048 704 5632 rfl rfl hK _ _ _ _ _ _ _)),
      (h.1 c _ (mem_uc Cert.GradsIdeal.main_v19 rfl)).trans ((end_v19 (F := Ideal) m c).trans (cut_3_2 (n := 2883584) 2 2048 704 5632 rfl rfl hK _ _ _ _ _ _ _)),
      (h.1 c _ (mem_uc Cert.GradsIdeal.main_v21 rfl)).trans ((end_v21 (F := Ideal) m c).trans (cut_3_1 (n := 2883584) 2 704 2048 5632 rfl rfl hK _ _ _ _ _ _ _)),
      (h.1 c _ (mem_uc Cert.GradsIdeal.main_v23 rfl)).trans ((end_v23 (F := Ideal) m c).trans (cut_2_1 (n := 256) 1 256 2048 rfl rfl hK _ _ _ _ _ _ _)),
      (h.1 c _ (mem_uc Cert.GradsIdeal.main_v25 rfl)).trans ((end_v25 (F := Ideal) m c).trans (cut_2_1 (n := 256) 1 256 2048 rfl rfl hK _ _ _ _ _ _ _)),
      (h.1 c _ (mem_uc Cert.GradsIdeal.main_arg0 rfl)).trans (end_arg0 (F := Ideal) m c)⟩) (run_main (F := Ideal) m g),
    (θ_run Cert.GradsReferenceIdeal.defs _ _).mono (fun _ h => h 0) (Cert.GradsReferenceIdeal.Value.run (F := Ideal) m' g')⟩

end Cert.GradShards

end
-- ==== Proof.GradXPool.lean ====
/-
# The gradient of the pooled differences, a block at a time
-/
module

public import proofs.«01_k».proof.Proof.Gen.GradXIdeal.Skeleton
public import Idealize.ShloMosaic.Lib.IdealHost
public import Idealize.ShloMosaic.Lib.KernelVsHost
public import Idealize.ShloMosaic.Lib.Pointwise.Reduce
public import Idealize.ShloMosaic.Lib.Pointwise

@[expose] public section

noncomputable section

namespace Cert.GradXRows

open Idealize.ShloMosaic Idealize.ShloMosaic.TcCoe Idealize.SL.Sem
open Cert.GradXIdeal Cert.GradXIdeal.Gen

/-- How many positions a mean over the last `w` positions takes at position `t`. -/
def count (w : BitVec 32) (t : ℕ) : EReal := min (((t : ℝ) : EReal) + 1) (Ideal.ofBits .f32 w)

/-- What position `t` passes on to each position of its window; nothing after the last position. -/
def share (w : BitVec 32) (D : S8192x2048.Idx → Elt Ideal .f32) (c : Fin 2048) (t : ℕ) : EReal :=
  if h : t < 8192 then Ideal.div (D (ix2 ⟨t, h⟩ c)) (count w t) else 0

/-- What `n` positions from `t` on pass on to position `t`. -/
def window (n : ℕ) (w : BitVec 32) (D : S8192x2048.Idx → Elt Ideal .f32) (c : Fin 2048) (t : ℕ) : EReal :=
  ∑ s ∈ Finset.range n, share w D c (t + s)

theorem pay1_apply (i : grid0.Coords) (r : Fin 272) (z : Fin 1) : k0_pay1 i (ix2 r z) = BitVec.ofNat 32 (256 * (i 0).val + r.val) := by
  have hi : (i 0).val < 32 := (i 0).isLt
  have hr := r.isLt
  pointwise [k0_pay1]
  apply BitVec.eq_of_toNat_eq
  simp [IntOp.addi, Scalar.muli, IntOp.muli]
  omega

theorem toInt_small (n : ℕ) (h : n < 2 ^ 31) : (BitVec.ofNat 32 n).toInt = n := by
  rw [BitVec.toInt_eq_toNat_of_lt (by rw [BitVec.toNat_ofNat]; omega), BitVec.toNat_ofNat]
  omega

theorem pay3_apply (i : grid0.Coords) (r : Fin 272) (z : Fin 1) :
    k0_pay3 (F := Ideal) i (ix2 r z) = (((256 * (i 0).val + r.val : ℕ) : ℝ) : EReal) := by
  have hi : (i 0).val < 32 := (i 0).isLt
  have hr := r.isLt
  pointwise [k0_pay3]
  rw [pay1_apply]
  show (((BitVec.ofNat 32 (256 * (i 0).val + r.val)).toInt : ℝ) : EReal) = _
  rw [toInt_small _ (by omega)]
  norm_cast

/-- The rows of a block and of the sixteen that follow it. -/
theorem pay2_apply (i : grid0.Coords) (v0 : Vec Ideal S256x2048 .f32) (v1 : Vec Ideal S16x2048 .f32)
    (D : S8192x2048.Idx → Elt Ideal .f32)
    (h0 : ∀ (r : Fin 256) (c : Fin 2048), v0 (ix2 r c) = D (ix2 ⟨256 * (i 0).val + r.val, by have : (i 0).val < 32 := (i 0).isLt; omega⟩ c))
    (h1 : ∀ (r : Fin 16) (c : Fin 2048) (h : 256 * ((i 0).val + 1) + r.val < 8192), v1 (ix2 r c) = D (ix2 ⟨256 * ((i 0).val + 1) + r.val, h⟩ c))
    (r : Fin 272) (c : Fin 2048) :
    k0_pay2 i v0 v1 (ix2 r c) = if h : 256 * (i 0).val + r.val < 8192 then D (ix2 ⟨256 * (i 0).val + r.val, h⟩ c) else 0 := by
  have hi : (i 0).val < 32 := (i 0).isLt
  have hr := r.isLt
  pointwise [k0_pay2]
  rw [pay1_apply]
  have hc : IntOp.cmpi .slt (BitVec.ofNat 32 (256 * (i 0).val + r.val)) 8192#32 = BitVec.ofBool (decide (256 * (i 0).val + r.val < 8192)) := by
    have e : (BitVec.ofNat 32 (256 * (i 0).val + r.val)).slt 8192#32 = decide (256 * (i 0).val + r.val < 8192) := by
      rw [BitVec.slt_eq_decide, toInt_small _ (by omega)]
      simp
      omega
    exact congrArg BitVec.ofBool e
  rw [hc]
  by_cases h : 256 * (i 0).val + r.val < 8192
  · rw [dif_pos h]
    simp only [h, decide_true]
    show (if h : r.val < 256 then v0 (ix2 ⟨r.val, _⟩ c) else v1 (ix2 ⟨r.val - 256, _⟩ c)) = _
    by_cases hlt : r.val < 256
    · rw [dif_pos hlt]
      exact h0 ⟨r.val, hlt⟩ c
    · rw [dif_neg hlt, h1 ⟨r.val - 256, by omega⟩ c (by show 256 * ((i 0).val + 1) + (r.val - 256) < 8192; omega)]
      congr 2
      apply Fin.ext
      show 256 * ((i 0).val + 1) + (r.val - 256) = 256 * (i 0).val + r.val
      omega
  · rw [dif_neg h]
    simp only [h, decide_false]
    rfl

/-- What row `r` of the block reads of its own and the rows below it, after summing `n` of them. -/
def Sums (n : ℕ) (a : FVec Ideal S272x512 .f32) (f : ℕ → Fin 512 → EReal) : Prop :=
  ∀ (r : Fin 272) (c : Fin 512), r.val + n ≤ 272 → a (ix2 r c) = ∑ s ∈ Finset.range n, f (r.val + s) c

theorem Sums.double {n : ℕ} {a : FVec Ideal S272x512 .f32} {f : ℕ → Fin 512 → EReal} (ha : Sums n a f) (b : BitVec 32)
    (hb : b.toNat + n = 272) (hn : 0 < n) (hr : S272x512.Rotates 0 none) : Sums (n + n) (addf a (dynamicRotate 0 b none a hr)) f := by
  intro r c h
  have hr' := r.isLt
  have e : dynamicRotate 0 b none a hr (ix2 r c) = a (ix2 ⟨r.val + n, by omega⟩ c) :=
    dynamicRotate_apply 0 b a hr _ _ fun k => by
      match k with
      | ⟨0, _⟩ =>
        show r.val + n = (r.val + 272 - b.toNat % 272) % 272
        rw [Nat.mod_eq_of_lt (by omega : b.toNat < 272)]
        rw [show r.val + 272 - b.toNat = r.val + n by omega, Nat.mod_eq_of_lt (by omega)]
      | ⟨1, _⟩ => rfl
  show a (ix2 r c) + dynamicRotate 0 b none a hr (ix2 r c) = _
  rw [e, ha r c (by omega), ha _ c (by show r.val + n + n ≤ 272; omega), Finset.sum_range_add]
  simp only [add_assoc]

theorem two_eq : Ideal.ofBits .f32 0x40000000#32 = ((2 : ℝ) : EReal) := by
  simp [Ideal.ofBits, Ideal.ieee, -EReal.coe_mul]; norm_num

theorem four_eq : Ideal.ofBits .f32 0x40800000#32 = ((4 : ℝ) : EReal) := by
  simp [Ideal.ofBits, Ideal.ieee, -EReal.coe_mul]; norm_num

theorem eight_eq : Ideal.ofBits .f32 0x41000000#32 = ((8 : ℝ) : EReal) := by
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

/-- Nothing divided by a count is nothing. -/
theorem zero_div_count {w : BitVec 32} {y : ℝ} (hw : Ideal.ofBits .f32 w = (y : EReal)) (hy : 0 < y) (t : ℕ) : Ideal.div 0 (count w t) = 0 := by
  have e : count w t = ((min ((t : ℝ) + 1) y : ℝ) : EReal) := by
    unfold count
    rw [hw, ← EReal.coe_one, ← EReal.coe_add]
    exact (EReal.coe_strictMono.monotone.map_min).symm
  have h : min ((t : ℝ) + 1) y ≠ 0 := (lt_min (by positivity) hy).ne'
  rw [e, Ideal.div_coe h, zero_mul]

/-- The shares of one group's columns, for the rows of a block and the sixteen after it. -/
theorem quot_apply {w : BitVec 32} {y : ℝ} (hw : Ideal.ofBits .f32 w = (y : EReal)) (hy : 0 < y) (off T : ℕ) (hoff : off + 512 ≤ 2048)
    (v12 : FVec Ideal S272x2048 .f32) (v13 : FVec Ideal S272x1 .f32) (D : S8192x2048.Idx → Elt Ideal .f32)
    (h12 : ∀ (r : Fin 272) (c : Fin 2048), v12 (ix2 r c) = if h : T + r.val < 8192 then D (ix2 ⟨T + r.val, h⟩ c) else 0)
    (h13 : ∀ (r : Fin 272) (z : Fin 1), v13 (ix2 r z) = (((T + r.val : ℕ) : ℝ) : EReal))
    (hs : S272x2048.Slices ![0, off] S272x512) (hb : S272x1.Broadcasts S272x512) (r : Fin 272) (c : Fin 512) :
    divf (F := Ideal) (φ := .f32) (extractStridedSlice S272x512 ![0, off] v12 hs)
      (broadcastTo S272x512 (minimumf (F := Ideal) (φ := .f32) (addf v13 (broadcast S272x1 (Scalar.ofBits .f32 0x3F800000#32))) (broadcast S272x1 (Scalar.ofBits .f32 w))) hb) (ix2 r c)
      = share w D ⟨off + c.val, by omega⟩ (T + r.val) := by
  pointwise []
  rw [h12, h13]
  by_cases h : T + r.val < 8192
  · rw [dif_pos h, share, dif_pos h]
    rfl
  · rw [dif_neg h, share, dif_neg h]
    exact zero_div_count hw hy _

/-- A share is one of a sum of one. -/
theorem Sums.one {a : FVec Ideal S272x512 .f32} {f : ℕ → Fin 512 → EReal} (ha : ∀ (r : Fin 272) (c : Fin 512), a (ix2 r c) = f r.val c) :
    Sums 1 a f := by
  intro r c _
  rw [ha, Finset.sum_range_one, add_zero]

/-- The first rows of a block and of the sixteen after it are the block's. -/
theorem head_apply (x : FVec Ideal S272x512 .f32) (h : S272x512.Slices ![0, 0] S256x512) (r : Fin 256) (c : Fin 512) :
    extractStridedSlice S256x512 ![0, 0] x h (ix2 r c) = x (ix2 ⟨r.val, by omega⟩ c) := by
  pointwise []

/-- A group's columns are those from its first on. -/
theorem group_apply (off : ℕ) (hoff : off + 512 ≤ 2048) (x : FVec Ideal S272x2048 .f32) (h : S272x2048.Slices ![0, off] S272x512) (r : Fin 272) (c : Fin 512) :
    extractStridedSlice S272x512 ![0, off] x h (ix2 r c) = x (ix2 r ⟨off + c.val, by omega⟩) := by
  pointwise []

section
variable (i : grid0.Coords) (v0 : Vec Ideal S256x2048 .f32) (v1 : Vec Ideal S16x2048 .f32) (D : S8192x2048.Idx → Elt Ideal .f32)
  (h0 : ∀ (r : Fin 256) (c : Fin 2048), v0 (ix2 r c) = D (ix2 ⟨256 * (i 0).val + r.val, by have : (i 0).val < 32 := (i 0).isLt; omega⟩ c))
  (h1 : ∀ (r : Fin 16) (c : Fin 2048) (h : 256 * ((i 0).val + 1) + r.val < 8192), v1 (ix2 r c) = D (ix2 ⟨256 * ((i 0).val + 1) + r.val, h⟩ c))

include h0 h1

/-- What the differences of the first group pass on to a row of the block. -/
theorem pay4_apply (r : Fin 256) (c : Fin 512) :
    k0_pay4 i v0 v1 (ix2 r c) = window 2 0x40000000#32 D ⟨0 + c.val, by omega⟩ (256 * (i 0).val + r.val)
      - D (ix2 ⟨256 * (i 0).val + r.val, by have : (i 0).val < 32 := (i 0).isLt; omega⟩ ⟨0 + c.val, by omega⟩) := by
  have hi : (i 0).val < 32 := (i 0).isLt
  have q := Sums.one (f := fun t c => share 0x40000000#32 D ⟨0 + c.val, by omega⟩ (256 * (i 0).val + t))
    (quot_apply two_eq (by norm_num) 0 (256 * (i 0).val) (by omega) (k0_pay2 i v0 v1) (k0_pay3 i) D
      (pay2_apply i v0 v1 D h0 h1) (pay3_apply i) slices_S272x2048_o0_0_S272x512 broadcasts_S272x1_S272x512)
  have s0 := Sums.double q 271#32 rfl (by norm_num) rotates_S272x512_d0
  have e := s0 ⟨r.val, by omega⟩ c (by show r.val + 2 ≤ 272; omega)
  have d : k0_pay2 i v0 v1 (ix2 ⟨r.val, by omega⟩ ⟨0 + c.val, by omega⟩) = _ := pay2_apply i v0 v1 D h0 h1 ⟨r.val, by omega⟩ ⟨0 + c.val, by omega⟩
  rw [dif_pos (by show 256 * (i 0).val + r.val < 8192; omega)] at d
  have f : ∑ s ∈ Finset.range 2, share 0x40000000#32 D ⟨0 + c.val, by omega⟩ (256 * (i 0).val + (r.val + s))
      = window 2 0x40000000#32 D ⟨0 + c.val, by omega⟩ (256 * (i 0).val + r.val) :=
    Finset.sum_congr rfl fun s _ => by rw [← add_assoc]
  exact congrArg₂ (fun x y : EReal => x - y) ((head_apply _ _ r c).trans (e.trans f))
    ((head_apply _ _ r c).trans ((group_apply 0 (by omega) _ _ _ c).trans d))

/-- What the differences of the second group pass on to a row of the block. -/
theorem pay5_apply (r : Fin 256) (c : Fin 512) :
    k0_pay5 i v0 v1 (ix2 r c) = window 4 0x40800000#32 D ⟨512 + c.val, by omega⟩ (256 * (i 0).val + r.val)
      - D (ix2 ⟨256 * (i 0).val + r.val, by have : (i 0).val < 32 := (i 0).isLt; omega⟩ ⟨512 + c.val, by omega⟩) := by
  have hi : (i 0).val < 32 := (i 0).isLt
  have q := Sums.one (f := fun t c => share 0x40800000#32 D ⟨512 + c.val, by omega⟩ (256 * (i 0).val + t))
    (quot_apply four_eq (by norm_num) 512 (256 * (i 0).val) (by omega) (k0_pay2 i v0 v1) (k0_pay3 i) D
      (pay2_apply i v0 v1 D h0 h1) (pay3_apply i) slices_S272x2048_o0_512_S272x512 broadcasts_S272x1_S272x512)
  have s0 := Sums.double q 271#32 rfl (by norm_num) rotates_S272x512_d0
  have s1 := Sums.double s0 270#32 rfl (by norm_num) rotates_S272x512_d0
  have e := s1 ⟨r.val, by omega⟩ c (by show r.val + 4 ≤ 272; omega)
  have d : k0_pay2 i v0 v1 (ix2 ⟨r.val, by omega⟩ ⟨512 + c.val, by omega⟩) = _ := pay2_apply i v0 v1 D h0 h1 ⟨r.val, by omega⟩ ⟨512 + c.val, by omega⟩
  rw [dif_pos (by show 256 * (i 0).val + r.val < 8192; omega)] at d
  have f : ∑ s ∈ Finset.range 4, share 0x40800000#32 D ⟨512 + c.val, by omega⟩ (256 * (i 0).val + (r.val + s))
      = window 4 0x40800000#32 D ⟨512 + c.val, by omega⟩ (256 * (i 0).val + r.val) :=
    Finset.sum_congr rfl fun s _ => by rw [← add_assoc]
  exact congrArg₂ (fun x y : EReal => x - y) ((head_apply _ _ r c).trans (e.trans f))
    ((head_apply _ _ r c).trans ((group_apply 512 (by omega) _ _ _ c).trans d))

/-- What the differences of the third group pass on to a row of the block. -/
theorem pay6_apply (r : Fin 256) (c : Fin 512) :
    k0_pay6 (k0_pay2 i v0 v1) (k0_pay3 i) (ix2 r c) = window 8 0x41000000#32 D ⟨1024 + c.val, by omega⟩ (256 * (i 0).val + r.val)
      - D (ix2 ⟨256 * (i 0).val + r.val, by have : (i 0).val < 32 := (i 0).isLt; omega⟩ ⟨1024 + c.val, by omega⟩) := by
  have hi : (i 0).val < 32 := (i 0).isLt
  have q := Sums.one (f := fun t c => share 0x41000000#32 D ⟨1024 + c.val, by omega⟩ (256 * (i 0).val + t))
    (quot_apply eight_eq (by norm_num) 1024 (256 * (i 0).val) (by omega) (k0_pay2 i v0 v1) (k0_pay3 i) D
      (pay2_apply i v0 v1 D h0 h1) (pay3_apply i) slices_S272x2048_o0_1024_S272x512 broadcasts_S272x1_S272x512)
  have s0 := Sums.double q 271#32 rfl (by norm_num) rotates_S272x512_d0
  have s1 := Sums.double s0 270#32 rfl (by norm_num) rotates_S272x512_d0
  have s2 := Sums.double s1 268#32 rfl (by norm_num) rotates_S272x512_d0
  have e := s2 ⟨r.val, by omega⟩ c (by show r.val + 8 ≤ 272; omega)
  have d : k0_pay2 i v0 v1 (ix2 ⟨r.val, by omega⟩ ⟨1024 + c.val, by omega⟩) = _ := pay2_apply i v0 v1 D h0 h1 ⟨r.val, by omega⟩ ⟨1024 + c.val, by omega⟩
  rw [dif_pos (by show 256 * (i 0).val + r.val < 8192; omega)] at d
  have f : ∑ s ∈ Finset.range 8, share 0x41000000#32 D ⟨1024 + c.val, by omega⟩ (256 * (i 0).val + (r.val + s))
      = window 8 0x41000000#32 D ⟨1024 + c.val, by omega⟩ (256 * (i 0).val + r.val) :=
    Finset.sum_congr rfl fun s _ => by rw [← add_assoc]
  exact congrArg₂ (fun x y : EReal => x - y) ((head_apply _ _ r c).trans (e.trans f))
    ((head_apply _ _ r c).trans ((group_apply 1024 (by omega) _ _ _ c).trans d))

/-- What the differences of the fourth group pass on to a row of the block. -/
theorem pay7_apply (r : Fin 256) (c : Fin 512) :
    k0_pay7 (k0_pay2 i v0 v1) (k0_pay3 i) (ix2 r c) = window 16 0x41800000#32 D ⟨1536 + c.val, by omega⟩ (256 * (i 0).val + r.val)
      - D (ix2 ⟨256 * (i 0).val + r.val, by have : (i 0).val < 32 := (i 0).isLt; omega⟩ ⟨1536 + c.val, by omega⟩) := by
  have hi : (i 0).val < 32 := (i 0).isLt
  have q := Sums.one (f := fun t c => share 0x41800000#32 D ⟨1536 + c.val, by omega⟩ (256 * (i 0).val + t))
    (quot_apply sixteen_eq (by norm_num) 1536 (256 * (i 0).val) (by omega) (k0_pay2 i v0 v1) (k0_pay3 i) D
      (pay2_apply i v0 v1 D h0 h1) (pay3_apply i) slices_S272x2048_o0_1536_S272x512 broadcasts_S272x1_S272x512)
  have s0 := Sums.double q 271#32 rfl (by norm_num) rotates_S272x512_d0
  have s1 := Sums.double s0 270#32 rfl (by norm_num) rotates_S272x512_d0
  have s2 := Sums.double s1 268#32 rfl (by norm_num) rotates_S272x512_d0
  have s3 := Sums.double s2 264#32 rfl (by norm_num) rotates_S272x512_d0
  have e := s3 ⟨r.val, by omega⟩ c (by show r.val + 16 ≤ 272; omega)
  have d : k0_pay2 i v0 v1 (ix2 ⟨r.val, by omega⟩ ⟨1536 + c.val, by omega⟩) = _ := pay2_apply i v0 v1 D h0 h1 ⟨r.val, by omega⟩ ⟨1536 + c.val, by omega⟩
  rw [dif_pos (by show 256 * (i 0).val + r.val < 8192; omega)] at d
  have f : ∑ s ∈ Finset.range 16, share 0x41800000#32 D ⟨1536 + c.val, by omega⟩ (256 * (i 0).val + (r.val + s))
      = window 16 0x41800000#32 D ⟨1536 + c.val, by omega⟩ (256 * (i 0).val + r.val) :=
    Finset.sum_congr rfl fun s _ => by rw [← add_assoc]
  exact congrArg₂ (fun x y : EReal => x - y) ((head_apply _ _ r c).trans (e.trans f))
    ((head_apply _ _ r c).trans ((group_apply 1536 (by omega) _ _ _ c).trans d))

end

end Cert.GradXRows

end
-- ==== Proof.GradXBlock.lean ====
/-
# What a step leaves of the gradient of the rows
-/
module

public import proofs.«01_k».proof.Proof.Gen.GradXIdeal.Frame
public import proofs.«01_k».proof.Proof.GradXPool
public import Idealize.ShloMosaic.Lib.Pipeline.Value
public import Idealize.ShloMosaic.Lib.VecWindow

@[expose] public section

noncomputable section

namespace Cert.GradXRows

open Idealize.ShloMosaic Idealize.ShloMosaic.TcCoe Idealize.SL.Sem
open Cert.GradXIdeal Cert.GradXIdeal.Gen

section
variable {F : FTy → Type} [FloatOps F]

/-- What the differences pass on to the rows of a block: the four groups' columns side by side. -/
def passed (i : grid0.Coords) (v0 : Vec F S256x2048 .f32) (v1 : Vec F S16x2048 .f32) : Vec F S256x2048 .f32 := View.canon (Val := Elt F) (s := S256x2048) (e := .f32)
  [⟨Rect.unit ![0, 1536] S256x512.size inb_S256x2048_S256x512_0_1536, k0_pay7 (k0_pay2 i v0 v1) (k0_pay3 i)⟩,
    ⟨Rect.unit ![0, 1024] S256x512.size inb_S256x2048_S256x512_0_1024, k0_pay6 (k0_pay2 i v0 v1) (k0_pay3 i)⟩,
    ⟨Rect.unit ![0, 512] S256x512.size inb_S256x2048_S256x512_0_512, k0_pay5 i v0 v1⟩,
    ⟨Rect.unit ![0, 0] S256x512.size inb_S256x2048_S256x512_0_0, k0_pay4 i v0 v1⟩]

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole)
  (arg4 : Memref sig .tc .vmem S16x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S1x2048 .f32) (harg7 : arg7.IsWhole)
  (x0 : Vec F S256x2048 .f32) (x1 : Vec F S1x2048 .f32) (x2 : Vec F S256x2048 .f32) (x3 : Vec F S16x2048 .f32) (x4 : Vec F S256x2048 .f32)

theorem v80_A : kernelRun0_A.sl.v80 c i arg3 harg3 arg4 harg4 arg6 x2 x3 = passed i x2 x3 := by
  unfold kernelRun0_A.sl.v80 kernelRun0_A.sl.H5_4 kernelRun0_A.sl.r kernelRun0_A.sl.r_1
  have e2 : View.readAt (Elt F) arg3.view (Rect.unit (s := S256x2048) ![0, 0] S256x2048.size inb_S256x2048_S256x2048_0_0).toLoadRect (harg3.unread x2) = x2 :=
    (View.readAt_full _ _ _).trans (harg3.read_unread _)
  have e3 : View.readAt (Elt F) arg4.view (Rect.unit (s := S16x2048) ![0, 0] S16x2048.size inb_S16x2048_S16x2048_0_0).toLoadRect (harg4.unread x3) = x3 :=
    (View.readAt_full _ _ _).trans (harg4.read_unread _)
  rw [e2, e3, View.readCov_eq_canon']
  funext j
  exact congrArg (View.canon _) (funext fun a => Fin.ext (by
    match a with
    | ⟨0, _⟩ => show 0 + 1 * (j 0).val = (j 0).val; omega
    | ⟨1, _⟩ => show 0 + 1 * (j 1).val = (j 1).val; omega))

theorem out_A (hc0 : cond0_0 i) : out0_A_5 c i arg1 harg1 arg2 harg2 arg3 harg3 arg4 harg4 arg5 harg5 arg6 harg6 arg7 harg7 hc0 x0 x1 x2 x3 x4
    = k0_pay11 x0 x1 (passed i x2 x3) x4 := by
  unfold out0_A_5 kernelRun0_A
  dsimp only
  refine (View.read_writes_full VO0_5 _ _ _ _).trans ?_
  refine congr (congr (congr (congrArg k0_pay11 ?_) ?_) ?_) ?_
  · exact (View.readAt_full _ _ _).trans (harg1.read_unread _)
  · exact (View.readAt_full _ _ _).trans (harg2.read_unread _)
  · exact v80_A c i arg3 harg3 arg4 harg4 arg6 x2 x3
  · exact (View.readAt_full _ _ _).trans (harg5.read_unread _)

theorem v80_B : kernelRun0_B.sl.v80 c i arg3 harg3 arg4 harg4 arg6 x2 x3 = passed i x2 x3 := by
  unfold kernelRun0_B.sl.v80 kernelRun0_B.sl.H5_4 kernelRun0_B.sl.r kernelRun0_B.sl.r_1
  have e2 : View.readAt (Elt F) arg3.view (Rect.unit (s := S256x2048) ![0, 0] S256x2048.size inb_S256x2048_S256x2048_0_0).toLoadRect (harg3.unread x2) = x2 :=
    (View.readAt_full _ _ _).trans (harg3.read_unread _)
  have e3 : View.readAt (Elt F) arg4.view (Rect.unit (s := S16x2048) ![0, 0] S16x2048.size inb_S16x2048_S16x2048_0_0).toLoadRect (harg4.unread x3) = x3 :=
    (View.readAt_full _ _ _).trans (harg4.read_unread _)
  rw [e2, e3, View.readCov_eq_canon']
  funext j
  exact congrArg (View.canon _) (funext fun a => Fin.ext (by
    match a with
    | ⟨0, _⟩ => show 0 + 1 * (j 0).val = (j 0).val; omega
    | ⟨1, _⟩ => show 0 + 1 * (j 1).val = (j 1).val; omega))

theorem out_B (hc0 : ¬ cond0_0 i) (xo6 : Vec F S1x2048 .f32) : out0_B_5 c i arg1 harg1 arg2 harg2 arg3 harg3 arg4 harg4 arg5 harg5 arg6 harg6 arg7 harg7 hc0 x0 x1 x2 x3 x4 xo6
    = k0_pay11 x0 x1 (passed i x2 x3) x4 := by
  unfold out0_B_5 kernelRun0_B
  dsimp only
  refine (View.read_writes_full VO0_5 _ _ _ _).trans ?_
  refine congr (congr (congr (congrArg k0_pay11 ?_) ?_) ?_) ?_
  · exact (View.readAt_full _ _ _).trans (harg1.read_unread _)
  · exact (View.readAt_full _ _ _).trans (harg2.read_unread _)
  · exact v80_B c i arg3 harg3 arg4 harg4 arg6 x2 x3
  · exact (View.readAt_full _ _ _).trans (harg5.read_unread _)

end

/-- What the differences pass on to a row, less the row's own, in a group of the columns. -/
def part (n : ℕ) (w : BitVec 32) (D : S8192x2048.Idx → Elt Ideal .f32) (r : Fin 8192) (c : Fin 2048) : EReal := window n w D c r.val - D (ix2 r c)

/-- What the differences pass on to the rows. -/
def pooled (D : S8192x2048.Idx → Elt Ideal .f32) (r : Fin 8192) (c : Fin 2048) : EReal :=
  if c.val < 512 then part 2 0x40000000#32 D r c else if c.val < 1024 then part 4 0x40800000#32 D r c
  else if c.val < 1536 then part 8 0x41000000#32 D r c else part 16 0x41800000#32 D r c

/-- Row `r` of the block of step `i`. -/
def rowOf (i : grid0.Coords) (r : Fin 256) : Fin 8192 := ⟨256 * (i 0).val + r.val, by have : (i 0).val < 32 := (i 0).isLt; omega⟩

/-- A place of a group's columns in the block. -/
theorem place (off : ℕ) (hoff : off + 512 ≤ 2048) (inb : ∀ a, (![0, off] : Fin 2 → ℕ) a + S256x512.size a ≤ S256x2048.size a) (r : Fin 256) (c : Fin 512) :
    (Rect.unit (s := S256x2048) ![0, off] S256x512.size inb).emb (ix2 r c) = ix2 r ⟨off + c.val, by omega⟩ := by
  funext a
  apply Fin.ext
  match a with
  | ⟨0, _⟩ => show 0 + 1 * r.val = r.val; omega
  | ⟨1, _⟩ => show off + 1 * c.val = off + c.val; omega

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem passed_apply (i : grid0.Coords) (v0 : Vec Ideal S256x2048 .f32) (v1 : Vec Ideal S16x2048 .f32) (D : S8192x2048.Idx → Elt Ideal .f32)
    (h0 : ∀ (r : Fin 256) (c : Fin 2048), v0 (ix2 r c) = D (ix2 (rowOf i r) c))
    (h1 : ∀ (r : Fin 16) (c : Fin 2048) (h : 256 * ((i 0).val + 1) + r.val < 8192), v1 (ix2 r c) = D (ix2 ⟨256 * ((i 0).val + 1) + r.val, h⟩ c))
    (r : Fin 256) (c : Fin 2048) : passed i v0 v1 (ix2 r c) = pooled D (rowOf i r) c := by
  refine View.canon_apply_of_pieces (Val := Elt Ideal) (e := .f32) (fun j : S256x2048.Idx => pooled D (rowOf i (j 0)) (j 1)) _ ?_ (ix2 r c) ?_
  · intro p hp
    simp only [List.mem_cons, List.not_mem_nil, or_false] at hp
    rcases hp with rfl | rfl | rfl | rfl
    · intro z
      obtain ⟨x, y, rfl⟩ := exists_place z
      refine (pay7_apply i v0 v1 D h0 h1 x y).trans ?_
      refine Eq.trans ?_ (congrArg (fun j : S256x2048.Idx => pooled D (rowOf i (j 0)) (j 1)) (place 1536 (by omega) inb_S256x2048_S256x512_0_1536 x y)).symm
      show _ = pooled D (rowOf i x) ⟨1536 + y.val, _⟩
      rw [pooled, if_neg (by show ¬ 1536 + y.val < 512; omega), if_neg (by show ¬ 1536 + y.val < 1024; omega), if_neg (by show ¬ 1536 + y.val < 1536; omega)]
      rfl
    · intro z
      obtain ⟨x, y, rfl⟩ := exists_place z
      refine (pay6_apply i v0 v1 D h0 h1 x y).trans ?_
      refine Eq.trans ?_ (congrArg (fun j : S256x2048.Idx => pooled D (rowOf i (j 0)) (j 1)) (place 1024 (by omega) inb_S256x2048_S256x512_0_1024 x y)).symm
      show _ = pooled D (rowOf i x) ⟨1024 + y.val, _⟩
      rw [pooled, if_neg (by show ¬ 1024 + y.val < 512; omega), if_neg (by show ¬ 1024 + y.val < 1024; omega), if_pos (by show 1024 + y.val < 1536; omega)]
      rfl
    · intro z
      obtain ⟨x, y, rfl⟩ := exists_place z
      refine (pay5_apply i v0 v1 D h0 h1 x y).trans ?_
      refine Eq.trans ?_ (congrArg (fun j : S256x2048.Idx => pooled D (rowOf i (j 0)) (j 1)) (place 512 (by omega) inb_S256x2048_S256x512_0_512 x y)).symm
      show _ = pooled D (rowOf i x) ⟨512 + y.val, _⟩
      rw [pooled, if_neg (by show ¬ 512 + y.val < 512; omega), if_pos (by show 512 + y.val < 1024; omega)]
      rfl
    · intro z
      obtain ⟨x, y, rfl⟩ := exists_place z
      refine (pay4_apply i v0 v1 D h0 h1 x y).trans ?_
      refine Eq.trans ?_ (congrArg (fun j : S256x2048.Idx => pooled D (rowOf i (j 0)) (j 1)) (place 0 (by omega) inb_S256x2048_S256x512_0_0 x y)).symm
      show _ = pooled D (rowOf i x) ⟨0 + y.val, _⟩
      rw [pooled, if_pos (by show 0 + y.val < 512; omega)]
      rfl
  · have hr := r.isLt
    have hc := c.isLt
    have cov (off : ℕ) (inb : ∀ a, (![0, off] : Fin 2 → ℕ) a + S256x512.size a ≤ S256x2048.size a) (h : off ≤ c.val ∧ c.val < off + 512) :
        (ix2 r c : S256x2048.Idx) ∈ (Rect.unit (s := S256x2048) ![0, off] S256x512.size inb).set := by
      rw [Rect.mem_set_unit]
      intro a
      match a with
      | ⟨0, _⟩ => exact ⟨Nat.zero_le _, by show r.val < 0 + 256; omega⟩
      | ⟨1, _⟩ => exact h
    rcases (by omega : (1536 ≤ c.val ∧ c.val < 1536 + 512) ∨ (1024 ≤ c.val ∧ c.val < 1024 + 512) ∨ (512 ≤ c.val ∧ c.val < 512 + 512) ∨ (0 ≤ c.val ∧ c.val < 0 + 512))
      with h | h | h | h
    · exact ⟨_, .head _, cov 1536 inb_S256x2048_S256x512_0_1536 h⟩
    · exact ⟨_, .tail _ (.head _), cov 1024 inb_S256x2048_S256x512_0_1024 h⟩
    · exact ⟨_, .tail _ (.tail _ (.head _)), cov 512 inb_S256x2048_S256x512_0_512 h⟩
    · exact ⟨_, .tail _ (.tail _ (.tail _ (.head _))), cov 0 inb_S256x2048_S256x512_0_0 h⟩

/-- The mean of a row of 2048. -/
def rowMean (f : Fin 2048 → EReal) : EReal := Ideal.div (∑ k, f k) (Ideal.ofBits .f32 0x45000000#32)

/-- One over the root mean square of a row. -/
def rowScale (x : Fin 2048 → EReal) : EReal := Ideal.rsqrt (rowMean (fun k => x k * x k) + Ideal.ofBits .f32 0x358637BD#32)

/-- The gradient of a row at a column, from the row, the weights, what is passed on to the row and the gradient that goes around the norm. -/
def rowGrad (x g p res : Fin 2048 → EReal) (c : Fin 2048) : EReal :=
  res c + rowScale x * (p c * g c - x c * rowScale x * rowMean fun k => p k * g k * (x k * rowScale x))

theorem block_apply (v78 v80 v105 : Vec Ideal S256x2048 .f32) (v79 : Vec Ideal S1x2048 .f32) (r : Fin 256) (c : Fin 2048) :
    k0_pay11 v78 v79 v80 v105 (ix2 r c)
      = rowGrad (fun k => v78 (ix2 r k)) (fun k => v79 (ix2 0 k)) (fun k => v80 (ix2 r k)) (fun k => v105 (ix2 r k)) c := by
  pointwise [k0_pay11, k0_pay10, k0_pay9, k0_pay8]
  rfl

end Cert.GradXRows

end
-- ==== Proof.GradXReference.lean ====
/-
# The gradient of the rows, as the reference computes it
-/
module

public import proofs.«01_k».proof.Proof.Gen.GradXReferenceIdeal.Run
public import proofs.«01_k».proof.Proof.GradXBlock
public import Idealize.ShloMosaic.Lib.Pointwise.Contract

@[expose] public section

noncomputable section

namespace Cert.GradXRef

open Idealize.ShloMosaic Idealize.ShloMosaic.TcCoe Idealize.SL.Sem
open Cert.GradXReferenceIdeal Cert.GradXReferenceIdeal.Gen

/-- How far a column's position lies ahead of a row's. -/
def ahead : IVec S8192x8192 32 :=
  subi (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

section
variable {F : FTy → Type} [FloatOps F]

/-- Whether a row's position is one of those a column's position takes the mean of. -/
def held (n : BitVec 32) : FVec F S8192x8192 .f32 :=
  uitofp .f32 (andi (cmpi .sge ahead (broadcastInDim S8192x8192 ![] bcast_S_S8192x8192 (constantI S_ 32 0#32)))
    (cmpi .slt ahead (broadcastInDim S8192x8192 ![] bcast_S_S8192x8192 (constantI S_ 32 n))))

/-- How many positions there are up to each. -/
def taken : FVec F S8192x1 .f32 :=
  broadcastInDim S8192x1 ![0] bcast_S8192_S8192x1_0 (sitofp .f32 (addi (iotaInDim S8192 32 0) (broadcastInDim S8192 ![] bcast_S_S8192 (constantI S_ 32 1#32))))

/-- The differences of a group, each over the count of its window. -/
def shares (w : BitVec 32) (d : FVec F S8192x512 .f32) : FVec F S8192x512 .f32 :=
  Host.divf d (broadcastInDim S8192x512 ![0, 1] bcast_S8192x1_S8192x512_0_1 (minimumf taken (broadcastInDim S8192x1 ![] bcast_S_S8192x1 (constant S_ .f32 w))))

/-- What the differences of a group pass on, less themselves. -/
def group (n w : BitVec 32) (d : FVec F S8192x512 .f32) : FVec F S8192x512 .f32 :=
  subf (Host.dotGeneral dot_S8192x8192_S8192x512_S8192x512_1_0_0_1_n_n none (held n) (shares w d)) d

/-- What the differences pass on: the groups' columns side by side. -/
def passed (d : FVec F S8192x2048 .f32) : FVec F S8192x2048 .f32 :=
  concatenate S8192x2048 1 [⟨S8192x512, group 2#32 0x40000000#32 (extractStridedSlice S8192x512 ![0, 0] d slices_S8192x2048_S8192x512_0_0)⟩,
    ⟨S8192x512, group 4#32 0x40800000#32 (extractStridedSlice S8192x512 ![0, 512] d slices_S8192x2048_S8192x512_0_512)⟩,
    ⟨S8192x512, group 8#32 0x41000000#32 (extractStridedSlice S8192x512 ![0, 1024] d slices_S8192x2048_S8192x512_0_1024)⟩,
    ⟨S8192x512, group 16#32 0x41800000#32 (extractStridedSlice S8192x512 ![0, 1536] d slices_S8192x2048_S8192x512_0_1536)⟩]
    concatenates_S8192x512_S8192x512_S8192x512_S8192x512_S8192x2048_d1

/-- A row's mean. -/
def mean (x : FVec F S8192x2048 .f32) : FVec F S8192x1 .f32 :=
  Host.divf (broadcastInDim S8192x1 ![0] bcast_S8192_S8192x1_0 (Host.reduceAdd x (constant S_ .f32 0x00000000#32) reducesTo_S8192x2048_S8192_d1 h_S_))
    (broadcastInDim S8192x1 ![] bcast_S_S8192x1 (constant S_ .f32 0x45000000#32))

/-- One over the root mean square of a row. -/
def scale (x : FVec F S8192x2048 .f32) : FVec F S8192x1 .f32 :=
  Host.rsqrt (addf (mean (mulf x x)) (broadcastInDim S8192x1 ![] bcast_S_S8192x1 (constant S_ .f32 0x358637BD#32)))

/-- The normed rows. -/
def normed (x : FVec F S8192x2048 .f32) : FVec F S8192x2048 .f32 :=
  mulf x (broadcastInDim S8192x2048 ![0, 1] bcast_S8192x1_S8192x2048_0_1 (scale x))

/-- The gradient of the normed rows. -/
def dnormed (g : FVec F S1x2048 .f32) (p : FVec F S8192x2048 .f32) : FVec F S8192x2048 .f32 :=
  mulf p (broadcastInDim S8192x2048 ![0, 1] bcast_S1x2048_S8192x2048_0_1 g)

/-- The gradient of the rows. -/
def grad (x : FVec F S8192x2048 .f32) (g : FVec F S1x2048 .f32) (p res : FVec F S8192x2048 .f32) : FVec F S8192x2048 .f32 :=
  addf res (mulf (broadcastInDim S8192x2048 ![0, 1] bcast_S8192x1_S8192x2048_0_1 (scale x))
    (subf (dnormed g p) (mulf (normed x) (broadcastInDim S8192x2048 ![0, 1] bcast_S8192x1_S8192x2048_0_1 (mean (mulf (dnormed g p) (normed x)))))))

set_option maxRecDepth 8192 in
theorem out_eq (m : (ℓ : Loc nD τ sig) → Buf (Elt F) ℓ) (c : Dev nD) : Value.res_out0 m c
    = grad (m ((c.tc : Thread nD τ).loc main_arg0)) (m ((c.tc : Thread nD τ).loc main_arg1)) (passed (m ((c.tc : Thread nD τ).loc main_arg2))) (m ((c.tc : Thread nD τ).loc main_arg3)) := rfl

end

open Cert.GradXRows (count share window pooled part rowGrad toInt_small)

theorem taken_apply (r : Fin 8192) (z : Fin 1) : taken (F := Ideal) (ix2 r z) = ((r.val : ℝ) : EReal) + 1 := by
  have hr := r.isLt
  pointwise [taken]
  have e : (IntOp.addi (BitVec.ofNat 32 r.val) 1#32 : BitVec 32) = BitVec.ofNat 32 (r.val + 1) := by
    apply BitVec.eq_of_toNat_eq
    simp [IntOp.addi]
  rw [e]
  show (((BitVec.ofNat 32 (r.val + 1)).toInt : ℝ) : EReal) = _
  rw [toInt_small _ (by omega)]
  push_cast
  rfl

theorem shares_apply (w : BitVec 32) (d : FVec Ideal S8192x512 .f32) (r : Fin 8192) (c : Fin 512) :
    shares w d (ix2 r c) = Ideal.div (d (ix2 r c)) (count w r.val) := by
  pointwise [shares]
  rw [taken_apply]
  rfl

theorem held_apply (n : ℕ) (hn : n ≤ 16) (r s : Fin 8192) :
    held (F := Ideal) (BitVec.ofNat 32 n) (ix2 r s) = if r.val ≤ s.val ∧ s.val < r.val + n then 1 else 0 := by
  have hr := r.isLt
  have hs := s.isLt
  pointwise [held, ahead]
  have e : (IntOp.subi (BitVec.ofNat 32 s.val) (BitVec.ofNat 32 r.val) : BitVec 32).toInt = (s.val : ℤ) - r.val := by
    show (BitVec.ofNat 32 s.val - BitVec.ofNat 32 r.val).toInt = _
    rw [BitVec.toInt_sub, toInt_small _ (by omega), toInt_small _ (by omega), Int.bmod_eq_of_le] <;> omega
  have h1 : IntOp.cmpi .sge (IntOp.subi (BitVec.ofNat 32 s.val) (BitVec.ofNat 32 r.val)) 0#32 = BitVec.ofBool (decide (r.val ≤ s.val)) := by
    refine congrArg BitVec.ofBool (?_ : BitVec.sle 0#32 _ = _)
    rw [BitVec.sle_eq_decide, e]
    simp
  have h2 : IntOp.cmpi .slt (IntOp.subi (BitVec.ofNat 32 s.val) (BitVec.ofNat 32 r.val)) (BitVec.ofNat 32 n) = BitVec.ofBool (decide (s.val < r.val + n)) := by
    refine congrArg BitVec.ofBool (?_ : BitVec.slt _ _ = _)
    rw [BitVec.slt_eq_decide, e, toInt_small _ (by omega)]
    apply decide_eq_decide.mpr
    omega
  rw [h1, h2]
  by_cases a : r.val ≤ s.val <;> by_cases b : s.val < r.val + n <;> simp only [a, b, decide_true, decide_false, and_self, and_true, true_and, and_false, false_and, if_true, if_false]
  · show (((1 : ℕ) : ℝ) : EReal) = 1
    norm_cast
  all_goals
    show (((0 : ℕ) : ℝ) : EReal) = 0
    norm_cast

/-- The shares of the positions whose windows hold a position are those of the positions from it on. -/
theorem sum_held (m : ℕ) (f : ℕ → EReal) (hf : ∀ t, m ≤ t → f t = 0) (r n : ℕ) :
    ∑ s : Fin m, (if r ≤ s.val ∧ s.val < r + n then (1 : EReal) else 0) * f s.val = ∑ s ∈ Finset.range n, f (r + s) := by
  have e := Finset.sum_Ico_eq_sum_range f r (r + n)
  rw [Nat.add_sub_cancel_left] at e
  rw [← e]
  have q : ∑ s : Fin m, (if r ≤ s.val ∧ s.val < r + n then (1 : EReal) else 0) * f s.val
      = ∑ s ∈ Finset.range m, if r ≤ s ∧ s < r + n then f s else 0 := by
    rw [Finset.sum_range]
    refine Finset.sum_congr rfl fun s _ => ?_
    split <;> simp
  rw [q, ← Finset.sum_filter]
  refine Finset.sum_subset (fun s hs => ?_) fun s hs hn => ?_
  · simp only [Finset.mem_filter, Finset.mem_range, Finset.mem_Ico] at hs ⊢
    omega
  · simp only [Finset.mem_filter, Finset.mem_range, Finset.mem_Ico] at hs hn
    exact hf s (by omega)

theorem group_apply (n : ℕ) (hn : n ≤ 16) (w : BitVec 32) (off : ℕ) (hoff : off + 512 ≤ 2048) (d : FVec Ideal S8192x512 .f32) (D : FVec Ideal S8192x2048 .f32)
    (hd : ∀ (r : Fin 8192) (c : Fin 512), d (ix2 r c) = D (ix2 r ⟨off + c.val, by omega⟩)) (r : Fin 8192) (c : Fin 512) :
    group (BitVec.ofNat 32 n) w d (ix2 r c) = part n w D r ⟨off + c.val, by omega⟩ := by
  have e : (∑ s : Fin 8192, held (F := Ideal) (BitVec.ofNat 32 n) (ix2 r s) * shares w d (ix2 s c) : EReal) = window n w D ⟨off + c.val, by omega⟩ r.val := by
    refine Eq.trans (Finset.sum_congr rfl fun s _ => ?_) (sum_held 8192 (share w D ⟨off + c.val, by omega⟩) (fun t ht => dif_neg (by omega)) r.val n)
    rw [held_apply n hn, shares_apply, hd, share, dif_pos s.isLt]
  pointwise [group]
  rw [e, hd]
  rfl

theorem grad_apply (x : FVec Ideal S8192x2048 .f32) (g : FVec Ideal S1x2048 .f32) (p res : FVec Ideal S8192x2048 .f32) (r : Fin 8192) (c : Fin 2048) :
    grad x g p res (ix2 r c) = rowGrad (fun k => x (ix2 r k)) (fun k => g (ix2 0 k)) (fun k => p (ix2 r k)) (fun k => res (ix2 r k)) c := by
  pointwise [grad, dnormed, normed, scale, mean]
  rfl

theorem passed_apply (D : FVec Ideal S8192x2048 .f32) (r : Fin 8192) (c : Fin 2048) : passed D (ix2 r c) = pooled D r c := by
  have hc := c.isLt
  have cut (off : ℕ) (hoff : off + 512 ≤ 2048) (h : S8192x2048.Slices ![0, off] S8192x512) (r : Fin 8192) (c : Fin 512) :
      extractStridedSlice S8192x512 ![0, off] D h (ix2 r c) = D (ix2 r ⟨off + c.val, by omega⟩) := by
    pointwise []
  pointwise [passed]
  rw [pooled]
  by_cases h : c.val < 512
  · rw [dif_pos h, if_pos h]
    refine (group_apply 2 (by norm_num) _ 0 (by norm_num) _ D (cut 0 (by norm_num) _) r _).trans ?_
    exact congrArg (part 2 _ D r) (Fin.ext (by show 0 + c.val = c.val; omega))
  rw [dif_neg h, if_neg h]
  by_cases h : c.val < 1024
  · rw [dif_pos (by omega), if_pos h]
    refine (group_apply 4 (by norm_num) _ 512 (by norm_num) _ D (cut 512 (by norm_num) _) r _).trans ?_
    exact congrArg (part 4 _ D r) (Fin.ext (by show 512 + (c.val - 512) = c.val; omega))
  rw [dif_neg (by omega), if_neg h]
  by_cases h : c.val < 1536
  · rw [dif_pos (by omega), if_pos h]
    refine (group_apply 8 (by norm_num) _ 1024 (by norm_num) _ D (cut 1024 (by norm_num) _) r _).trans ?_
    exact congrArg (part 8 _ D r) (Fin.ext (by show 1024 + (c.val - 512 - 512) = c.val; omega))
  rw [dif_neg (by omega), if_neg h]
  refine (group_apply 16 (by norm_num) _ 1536 (by norm_num) _ D (cut 1536 (by norm_num) _) r _).trans ?_
  exact congrArg (part 16 _ D r) (Fin.ext (by show 1536 + (c.val - 512 - 512 - 512) = c.val; omega))

end Cert.GradXRef

end
-- ==== Proof.GradXClaims.lean ====
/-
# The gradient of x, certified
-/
module

public import proofs.«01_k».proof.Defs
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.GradXIdeal.Value
public import proofs.«01_k».proof.Proof.Gen.GradXReferenceIdeal
public import proofs.«01_k».proof.Proof.Gen.GradXReferenceIdeal.Run
public import proofs.«01_k».proof.Proof.GradXBlock
public import proofs.«01_k».proof.Proof.GradXReference
public import Idealize.ShloMosaic.Adequacy
public import Idealize.ShloMosaic.Init

@[expose] public section

noncomputable section

namespace Cert.GradXRows

open Idealize.ShloMosaic Idealize.ShloMosaic.TcCoe Idealize.SL.Sem
open Cert.GradXIdeal Cert.GradXIdeal.Gen Cert.GradXIdeal.Value

/-- The gradient of the rows. -/
def gradX (x : S8192x2048.Idx → Elt Ideal .f32) (g : S1x2048.Idx → Elt Ideal .f32) (d res : S8192x2048.Idx → Elt Ideal .f32) : S8192x2048.Idx → Elt Ideal .f32 :=
  fun j => rowGrad (fun k => x (ix2 (j 0) k)) (fun k => g (ix2 0 k)) (fun k => pooled d (j 0) k) (fun k => res (ix2 (j 0) k)) (j 1)

/-- Where the blocks lie, step by step. -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ win0_3.index t (0 : Fin 2) = min (16 * ((grid0.coords t 0).val + 1)) 511 ∧ win0_3.index t (1 : Fin 2) = 0
    ∧ win0_4.index t (0 : Fin 2) = (grid0.coords t 0).val ∧ win0_4.index t (1 : Fin 2) = 0
    ∧ win0_5.index t (0 : Fin 2) = (grid0.coords t 0).val ∧ win0_5.index t (1 : Fin 2) = 0 :=
  (by decide +kernel : ∀ t : Fin grid0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ win0_3.index t (0 : Fin 2) = min (16 * ((grid0.coords t 0).val + 1)) 511 ∧ win0_3.index t (1 : Fin 2) = 0
    ∧ win0_4.index t (0 : Fin 2) = (grid0.coords t 0).val ∧ win0_4.index t (1 : Fin 2) = 0
    ∧ win0_5.index t (0 : Fin 2) = (grid0.coords t 0).val ∧ win0_5.index t (1 : Fin 2) = 0)

theorem idx_onto : ∀ q : Fin 32, ∃ t : Fin cfg0.N, win0_5.index t = ![q.val, 0] :=
  (by decide +kernel : ∀ q : Fin 32, ∃ t : Fin grid0.N, win0_5.index t = ![q.val, 0])

variable (m : (ℓ : Loc nD τ sig) → Buf (Elt Ideal) ℓ) (ρ : Dev nD → PrngReg)

theorem step_eq (c : Dev nD) (t : Fin cfg0.N) (j : S256x2048.Idx) :
    k0_pay11 (iblk m c 0 t) (iblk m c 1 t) (passed (grid0.coords t) (iblk m c 2 t) (iblk m c 3 t)) (iblk m c 4 t) j
      = gradX (V m c main_arg0) (V m c main_arg1) (V m c main_arg2) (V m c main_arg3) (((cfg0.win 5).blk t).view.emb j) := by
  obtain ⟨a0, a1, b0, b1, c0, c1, d0, d1, e0, e1, f0, f1⟩ := idx_facts t
  have hi : (grid0.coords t 0).val < 32 := (grid0.coords t 0).isLt
  obtain ⟨r, k, rfl⟩ := exists_place j
  have p (k : Fin 2048) : ((cfg0.win 5).blk t).view.emb (ix2 r k) = (ix2 (rowOf (grid0.coords t) r) k : S8192x2048.Idx) := by
    funext a; apply Fin.ext
    match a with
    | ⟨0, _⟩ => show win0_5.index t (0 : Fin 2) * 256 + 1 * r.val = 256 * (grid0.coords t 0).val + r.val; omega
    | ⟨1, _⟩ => show win0_5.index t (1 : Fin 2) * 2048 + 1 * k.val = k.val; omega
  have h0 (k : Fin 2048) : iblk m c 0 t (ix2 r k) = V m c main_arg0 (ix2 (rowOf (grid0.coords t) r) k) := by
    show V m c main_arg0 (((cfg0.win 0).blk t).view.emb (ix2 r k)) = _
    congr 1; funext a; apply Fin.ext
    match a with
    | ⟨0, _⟩ => show win0_0.index t (0 : Fin 2) * 256 + 1 * r.val = 256 * (grid0.coords t 0).val + r.val; omega
    | ⟨1, _⟩ => show win0_0.index t (1 : Fin 2) * 2048 + 1 * k.val = k.val; omega
  have h1 (k : Fin 2048) : iblk m c 1 t (ix2 0 k) = V m c main_arg1 (ix2 0 k) := by
    show V m c main_arg1 (((cfg0.win 1).blk t).view.emb (ix2 0 k)) = _
    congr 1; funext a; apply Fin.ext
    match a with
    | ⟨0, _⟩ => show win0_1.index t (0 : Fin 2) * 1 + 1 * 0 = 0; omega
    | ⟨1, _⟩ => show win0_1.index t (1 : Fin 2) * 2048 + 1 * k.val = k.val; omega
  have h2 (r : Fin 256) (k : Fin 2048) : iblk m c 2 t (ix2 r k) = V m c main_arg2 (ix2 (rowOf (grid0.coords t) r) k) := by
    show V m c main_arg2 (((cfg0.win 2).blk t).view.emb (ix2 r k)) = _
    congr 1; funext a; apply Fin.ext
    match a with
    | ⟨0, _⟩ => show win0_2.index t (0 : Fin 2) * 256 + 1 * r.val = 256 * (grid0.coords t 0).val + r.val; omega
    | ⟨1, _⟩ => show win0_2.index t (1 : Fin 2) * 2048 + 1 * k.val = k.val; omega
  have h3 (r : Fin 16) (k : Fin 2048) (h : 256 * ((grid0.coords t 0).val + 1) + r.val < 8192) :
      iblk m c 3 t (ix2 r k) = V m c main_arg2 (ix2 ⟨256 * ((grid0.coords t 0).val + 1) + r.val, h⟩ k) := by
    show V m c main_arg2 (((cfg0.win 3).blk t).view.emb (ix2 r k)) = _
    congr 1; funext a; apply Fin.ext
    match a with
    | ⟨0, _⟩ => show win0_3.index t (0 : Fin 2) * 16 + 1 * r.val = 256 * ((grid0.coords t 0).val + 1) + r.val; omega
    | ⟨1, _⟩ => show win0_3.index t (1 : Fin 2) * 2048 + 1 * k.val = k.val; omega
  have h4 (k : Fin 2048) : iblk m c 4 t (ix2 r k) = V m c main_arg3 (ix2 (rowOf (grid0.coords t) r) k) := by
    show V m c main_arg3 (((cfg0.win 4).blk t).view.emb (ix2 r k)) = _
    congr 1; funext a; apply Fin.ext
    match a with
    | ⟨0, _⟩ => show win0_4.index t (0 : Fin 2) * 256 + 1 * r.val = 256 * (grid0.coords t 0).val + r.val; omega
    | ⟨1, _⟩ => show win0_4.index t (1 : Fin 2) * 2048 + 1 * k.val = k.val; omega
  have hp (k : Fin 2048) := passed_apply (grid0.coords t) (iblk m c 2 t) (iblk m c 3 t) (V m c main_arg2) h2 h3 r k
  rw [block_apply, p]
  simp only [h0, h1, h4, hp]
  rfl

theorem flushed_eq (c : Dev nD) (t : Fin cfg0.N) :
    (dats m 0 c).flushed 5 t = ((cfg0.win 5).blk t).view.read (Elt Ideal) (gradX (V m c main_arg0) (V m c main_arg1) (V m c main_arg2) (V m c main_arg3)) := by
  by_cases h0 : t.val % 32 = 0
  · rw [flushed5_A m c t h0, out_A]
    exact funext fun j => step_eq m c t j
  · rw [flushed5_B m c t h0, out_B]
    exact funext fun j => step_eq m c t j

theorem covered (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  show i ∈ ((View.whole main_v0_0).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

/-- After the run the result is the gradient of the rows. -/
theorem run : θ_run defs (onTc (τ := τ) (main (F := Ideal))) ⟨m, fun _ => 0, ρ⟩ fun r => ∀ c : Dev nD,
      r.2.mem ((c : Thread nD τ).loc main_v0_0)
        = gradX (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 5 _ (fun t _ => flushed_eq m c t) covered), (h c).2.2⟩)
    (run_blocks m ρ)

theorem gradX_eq (x : FVec Ideal S8192x2048 .f32) (g : FVec Ideal S1x2048 .f32) (d res : FVec Ideal S8192x2048 .f32) :
    gradX x g d res = Cert.GradXRef.grad x g (Cert.GradXRef.passed d) res := by
  funext j
  obtain ⟨r, k, rfl⟩ := exists_place j
  refine Eq.trans ?_ (Cert.GradXRef.grad_apply x g (Cert.GradXRef.passed d) res r k).symm
  simp only [Cert.GradXRef.passed_apply]
  rfl

theorem frame_kernel : Cert.quiescent_GradX (hGradX := Cert.GradX.Gen.facts) := fun m g _ => Cert.GradX.Gen.frame (F := Bits) m g

theorem frame_kernelIdeal : Cert.quiescent_GradXIdeal (hGradXIdeal := Cert.GradXIdeal.Gen.facts) := fun m g _ => Cert.GradXIdeal.Gen.frame (F := Ideal) m g

theorem frame_referenceIdeal : Cert.quiescent_GradXReferenceIdeal (hGradXReferenceIdeal := Cert.GradXReferenceIdeal.Gen.facts) := fun m g _ =>
  (θ_run Cert.GradXReferenceIdeal.defs _ _).mono (fun r h => ⟨fun c => (h c).2, sem_eq_zero_of_no_sems rfl r.2⟩) (Cert.GradXReferenceIdeal.Value.run (F := Ideal) m g)

theorem value_ideal : Cert.algebraic_GradXIdeal_GradXReferenceIdeal (hGradXIdeal := Cert.GradXIdeal.Gen.facts) (hGradXReferenceIdeal := Cert.GradXReferenceIdeal.Gen.facts) :=
  fun m g m' g' _ hm => ⟨_, run m g,
    (θ_run Cert.GradXReferenceIdeal.defs _ _).mono (fun _ h c => ⟨(h c).1.trans (by
      rw [← (hm c).1, ← (hm c).2.1, ← (hm c).2.2.1, ← (hm c).2.2.2]
      exact (Cert.GradXRef.out_eq m' c).trans (gradX_eq _ _ _ _).symm), (h c).2⟩)
      (Cert.GradXReferenceIdeal.Value.run (F := Ideal) m' g')⟩

end Cert.GradXRows

end
-- ==== Proof.LossHeadBlock.lean ====
/-
# What a step leaves of the loss and of its gradients
-/
module

public import proofs.«01_k».proof.Proof.Gen.LossHeadIdeal.Frame
public import Idealize.ShloMosaic.Lib.Pipeline.Value
public import Idealize.ShloMosaic.Lib.Pipeline.ValueKit
public import Idealize.ShloMosaic.Lib.VecWindow
public import Idealize.ShloMosaic.Lib.Pointwise.Contract

@[expose] public section

set_option maxRecDepth 16384

noncomputable section

namespace Cert.LossHeadRows

open Idealize.ShloMosaic Idealize.ShloMosaic.TcCoe Idealize.SL.Sem
open Cert.LossHeadIdeal Cert.LossHeadIdeal.Gen

section
variable {F : FTy → Type} [FloatOps F]

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole)
  (arg4 : Memref sig .tc .vmem S1x128 .f32) (harg4 : arg4.IsWhole) (arg5 : Memref sig .tc .vmem S256x2048 .f32) (harg5 : arg5.IsWhole) (arg6 : Memref sig .tc .vmem S1x2048 .f32) (harg6 : arg6.IsWhole)
  (x0 : Vec F S256x2048 .f32) (x1 : Vec F S1x2048 .f32) (x2 : Vec F S256x2048 .f32)

theorem loss_A (hc0 : cond0_0 i) : out0_A_3 c i arg1 harg1 arg2 harg2 arg3 harg3 arg4 harg4 arg5 harg5 arg6 harg6 hc0 x0 x1 x2
    = k0_pay3 (k0_pay5 x0 x1 x2) k0_pay1 := by
  frame_out

theorem grad_A (hc0 : cond0_0 i) : out0_A_4 c i arg1 harg1 arg2 harg2 arg3 harg3 arg4 harg4 arg5 harg5 arg6 harg6 hc0 x0 x1 x2
    = k0_pay9 x0 x1 x2 := by
  frame_out

theorem gain_A (hc0 : cond0_0 i) : out0_A_5 c i arg1 harg1 arg2 harg2 arg3 harg3 arg4 harg4 arg5 harg5 arg6 harg6 hc0 x0 x1 x2
    = k0_pay4 (k0_pay10 x0 x1 x2) k0_pay2 := by
  frame_out

variable (y3 : Vec F S1x128 .f32) (y5 : Vec F S1x2048 .f32)

theorem loss_B (hc0 : ¬ cond0_0 i) : out0_B_3 c i arg1 harg1 arg2 harg2 arg3 harg3 arg4 harg4 arg5 harg5 arg6 harg6 hc0 x0 x1 x2 y3 y5
    = k0_pay3 (k0_pay5 x0 x1 x2) y3 := by
  frame_out

theorem grad_B (hc0 : ¬ cond0_0 i) : out0_B_4 c i arg1 harg1 arg2 harg2 arg3 harg3 arg4 harg4 arg5 harg5 arg6 harg6 hc0 x0 x1 x2 y3 y5
    = k0_pay9 x0 x1 x2 := by
  frame_out

theorem gain_B (hc0 : ¬ cond0_0 i) : out0_B_5 c i arg1 harg1 arg2 harg2 arg3 harg3 arg4 harg4 arg5 harg5 arg6 harg6 hc0 x0 x1 x2 y3 y5
    = k0_pay4 (k0_pay10 x0 x1 x2) y5 := by
  frame_out

end

theorem width_eq : Ideal.ofBits .f32 0x45000000#32 = ((2048 : ℝ) : EReal) := by
  simp [Ideal.ofBits, Ideal.ieee, -EReal.coe_mul]; norm_num

theorem inverse_eq : Ideal.ofBits .f32 0x3A000000#32 = (((2048 : ℝ)⁻¹ : ℝ) : EReal) := by
  simp [Ideal.ofBits, Ideal.ieee, -EReal.coe_mul]; norm_num

theorem half_eq : Ideal.ofBits .f32 0x3F000000#32 = (((2 : ℝ)⁻¹ : ℝ) : EReal) := by
  simp [Ideal.ofBits, Ideal.ieee, -EReal.coe_mul]; norm_num

/-- Times one over the width is over the width. -/
theorem mul_inverse (x : EReal) : x * Ideal.ofBits .f32 0x3A000000#32 = Ideal.div x (Ideal.ofBits .f32 0x45000000#32) := by
  rw [width_eq, inverse_eq, Ideal.div_coe (by norm_num)]
  first | rfl | (congr 1; norm_num)

/-- The mean of a row. -/
def rowMean (f : Fin 2048 → EReal) : EReal := Ideal.div (∑ k, f k) (Ideal.ofBits .f32 0x45000000#32)

/-- One over the root mean square of a row. -/
def rowScale (x : Fin 2048 → EReal) : EReal := Ideal.rsqrt (rowMean (fun k => x k * x k) + Ideal.ofBits .f32 0x358637BD#32)

/-- How far the head's output of a row lies from the target. -/
def rowErr (x g t : Fin 2048 → EReal) (c : Fin 2048) : EReal := x c * rowScale x * g c - t c

/-- The gradient of the head's output. -/
def rowOut (x g t : Fin 2048 → EReal) (c : Fin 2048) : EReal := Ideal.div (rowErr x g t c) (Ideal.ofBits .f32 0x45000000#32)

/-- The gradient of a row. -/
def rowGrad (x g t : Fin 2048 → EReal) (c : Fin 2048) : EReal :=
  rowScale x * (rowOut x g t c * g c - x c * rowScale x * rowMean fun k => rowOut x g t k * g k * (x k * rowScale x))

/-- What a row adds to the gradient of the gain. -/
def rowGain (x g t : Fin 2048 → EReal) (c : Fin 2048) : EReal := rowOut x g t c * (x c * rowScale x)

/-- The mean square of a row's distance from the target. -/
def rowLoss (x g t : Fin 2048 → EReal) : EReal := rowMean fun k => rowErr x g t k * rowErr x g t k

variable (v0 v14 : Vec Ideal S256x2048 .f32) (v1 : Vec Ideal S1x2048 .f32)

theorem err_apply (r : Fin 256) (c : Fin 2048) : k0_pay5 v0 v1 v14 (ix2 r c)
    = rowErr (fun k => v0 (ix2 r k)) (fun k => v1 (ix2 0 k)) (fun k => v14 (ix2 r k)) c := by
  pointwise [k0_pay5]
  rfl

theorem dout_apply (r : Fin 256) (c : Fin 2048) : k0_pay6 v0 v1 v14 (ix2 r c)
    = rowOut (fun k => v0 (ix2 r k)) (fun k => v1 (ix2 0 k)) (fun k => v14 (ix2 r k)) c := by
  pointwise [k0_pay6]
  rw [err_apply, mul_inverse]
  rfl

theorem normed_apply (r : Fin 256) (c : Fin 2048) : k0_pay8 v0 (ix2 r c) = v0 (ix2 r c) * rowScale (fun k => v0 (ix2 r k)) := by
  pointwise [k0_pay8, k0_pay7]
  rfl

theorem scale_apply (r : Fin 256) (z : Fin 1) : k0_pay7 v0 (ix2 r z) = rowScale (fun k => v0 (ix2 r k)) := by
  pointwise [k0_pay7]
  rfl

theorem grad_apply (r : Fin 256) (c : Fin 2048) : k0_pay9 v0 v1 v14 (ix2 r c)
    = rowGrad (fun k => v0 (ix2 r k)) (fun k => v1 (ix2 0 k)) (fun k => v14 (ix2 r k)) c := by
  pointwise [k0_pay9]
  simp only [dout_apply, normed_apply, scale_apply]
  rfl

theorem gain_apply (acc : Vec Ideal S1x2048 .f32) (z : Fin 1) (c : Fin 2048) : k0_pay4 (k0_pay10 v0 v1 v14) acc (ix2 z c)
    = acc (ix2 z c) + ∑ r : Fin 256, rowGain (fun k => v0 (ix2 r k)) (fun k => v1 (ix2 0 k)) (fun k => v14 (ix2 r k)) c := by
  pointwise [k0_pay4, k0_pay10]
  simp only [dout_apply, normed_apply]
  rfl

theorem loss_apply (acc : Vec Ideal S1x128 .f32) (z : Fin 1) (c : Fin 128) : k0_pay3 (k0_pay5 v0 v1 v14) acc (ix2 z c)
    = acc (ix2 z c) + Ideal.ofBits .f32 0x3F000000#32 * ∑ r : Fin 256, rowLoss (fun k => v0 (ix2 r k)) (fun k => v1 (ix2 0 k)) (fun k => v14 (ix2 r k)) := by
  pointwise [k0_pay3]
  simp only [err_apply, mul_inverse]
  rfl

end Cert.LossHeadRows

end
-- ==== Proof.LossHeadReference.lean ====
/-
# The loss and its gradients, as the reference computes them
-/
module

public import proofs.«01_k».proof.Proof.Gen.LossHeadReferenceIdeal.Run
public import proofs.«01_k».proof.Proof.LossHeadBlock
public import Idealize.ShloMosaic.Lib.Pointwise.Contract

@[expose] public section

noncomputable section

namespace Cert.LossHeadRef

open Idealize.ShloMosaic Idealize.ShloMosaic.TcCoe Idealize.SL.Sem
open Cert.LossHeadReferenceIdeal Cert.LossHeadReferenceIdeal.Gen

section
variable {F : FTy → Type} [FloatOps F]

/-- A row's mean. -/
def mean (x : FVec F S8192x2048 .f32) : FVec F S8192x1 .f32 :=
  Host.divf (broadcastInDim S8192x1 ![0] bcast_S8192_S8192x1_0 (Host.reduceAdd x (constant S_ .f32 0x00000000#32) reducesTo_S8192x2048_S8192_d1 h_S_))
    (broadcastInDim S8192x1 ![] bcast_S_S8192x1 (constant S_ .f32 0x45000000#32))

/-- One over the root mean square of a row. -/
def scale (x : FVec F S8192x2048 .f32) : FVec F S8192x1 .f32 :=
  Host.rsqrt (addf (mean (mulf x x)) (broadcastInDim S8192x1 ![] bcast_S_S8192x1 (constant S_ .f32 0x358637BD#32)))

/-- The normed rows. -/
def normed (x : FVec F S8192x2048 .f32) : FVec F S8192x2048 .f32 :=
  mulf x (broadcastInDim S8192x2048 ![0, 1] bcast_S8192x1_S8192x2048_0_1 (scale x))

/-- How far the head's output lies from the target. -/
def err (x : FVec F S8192x2048 .f32) (g : FVec F S1x2048 .f32) (t : FVec F S8192x2048 .f32) : FVec F S8192x2048 .f32 :=
  subf (mulf (normed x) (broadcastInDim S8192x2048 ![0, 1] bcast_S1x2048_S8192x2048_0_1 g)) t

/-- The gradient of the head's output. -/
def dout (x : FVec F S8192x2048 .f32) (g : FVec F S1x2048 .f32) (t : FVec F S8192x2048 .f32) : FVec F S8192x2048 .f32 :=
  Host.divf (err x g t) (broadcastInDim S8192x2048 ![] bcast_S_S8192x2048 (constant S_ .f32 0x45000000#32))

/-- The gradient of the normed rows. -/
def dnormed (x : FVec F S8192x2048 .f32) (g : FVec F S1x2048 .f32) (t : FVec F S8192x2048 .f32) : FVec F S8192x2048 .f32 :=
  mulf (dout x g t) (broadcastInDim S8192x2048 ![0, 1] bcast_S1x2048_S8192x2048_0_1 g)

/-- The loss, in every lane. -/
def loss (x : FVec F S8192x2048 .f32) (g : FVec F S1x2048 .f32) (t : FVec F S8192x2048 .f32) : FVec F S1x128 .f32 :=
  broadcastInDim S1x128 ![] bcast_S_S1x128 (mulf (constant S_ .f32 0x3F000000#32)
    (Host.reduceAdd (Host.divf (Host.reduceAdd (mulf (err x g t) (err x g t)) (constant S_ .f32 0x00000000#32) reducesTo_S8192x2048_S8192_d1 h_S_)
      (broadcastInDim S8192 ![] bcast_S_S8192 (constant S_ .f32 0x45000000#32))) (constant S_ .f32 0x00000000#32) reducesTo_S8192_S_d0 h_S_))

/-- The gradient of the rows. -/
def grad (x : FVec F S8192x2048 .f32) (g : FVec F S1x2048 .f32) (t : FVec F S8192x2048 .f32) : FVec F S8192x2048 .f32 :=
  mulf (broadcastInDim S8192x2048 ![0, 1] bcast_S8192x1_S8192x2048_0_1 (scale x))
    (subf (dnormed x g t) (mulf (normed x) (broadcastInDim S8192x2048 ![0, 1] bcast_S8192x1_S8192x2048_0_1 (mean (mulf (dnormed x g t) (normed x))))))

/-- The gradient of the gain. -/
def gain (x : FVec F S8192x2048 .f32) (g : FVec F S1x2048 .f32) (t : FVec F S8192x2048 .f32) : FVec F S1x2048 .f32 :=
  broadcastInDim S1x2048 ![1] bcast_S2048_S1x2048_1
    (Host.reduceAdd (mulf (dout x g t) (normed x)) (constant S_ .f32 0x00000000#32) reducesTo_S8192x2048_S2048_d0 h_S_)

/-- After the reference's run its results are these. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
        = loss (m ((c.tc : Thread nD τ).loc main_arg0)) (m ((c.tc : Thread nD τ).loc main_arg1)) (m ((c.tc : Thread nD τ).loc main_arg2))
      ∧ r.2.mem ((c.tc : Thread nD τ).loc main_v32)
        = grad (m ((c.tc : Thread nD τ).loc main_arg0)) (m ((c.tc : Thread nD τ).loc main_arg1)) (m ((c.tc : Thread nD τ).loc main_arg2))
      ∧ r.2.mem ((c.tc : Thread nD τ).loc main_v36)
        = gain (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end

open Cert.LossHeadRows (rowMean rowScale rowErr rowOut rowGrad rowGain rowLoss)

variable (x t : FVec Ideal S8192x2048 .f32) (g : FVec Ideal S1x2048 .f32)

theorem grad_apply (r : Fin 8192) (c : Fin 2048) :
    grad x g t (ix2 r c) = rowGrad (fun k => x (ix2 r k)) (fun k => g (ix2 0 k)) (fun k => t (ix2 r k)) c := by
  pointwise [grad, dnormed, dout, err, normed, scale, mean]
  rfl

theorem gain_apply (z : Fin 1) (c : Fin 2048) :
    gain x g t (ix2 z c) = ∑ r : Fin 8192, rowGain (fun k => x (ix2 r k)) (fun k => g (ix2 0 k)) (fun k => t (ix2 r k)) c := by
  pointwise [gain, dout, err, normed, scale, mean]
  rfl

theorem loss_apply (z : Fin 1) (c : Fin 128) :
    loss x g t (ix2 z c) = Ideal.ofBits .f32 0x3F000000#32 * ∑ r : Fin 8192, rowLoss (fun k => x (ix2 r k)) (fun k => g (ix2 0 k)) (fun k => t (ix2 r k)) := by
  pointwise [loss, err, normed, scale, mean]
  rfl

end Cert.LossHeadRef

end
-- ==== Proof.LossHeadClaims.lean ====
/-
# The head of the loss, certified
-/
module

public import proofs.«01_k».proof.Defs
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.LossHeadBlock
public import proofs.«01_k».proof.Proof.LossHeadReference
public import Idealize.ShloMosaic.Adequacy
public import Idealize.ShloMosaic.Init

@[expose] public section

set_option maxRecDepth 16384

noncomputable section

namespace Cert.LossHeadRows

open Idealize.ShloMosaic Idealize.ShloMosaic.TcCoe Idealize.SL.Sem
open Cert.LossHeadIdeal Cert.LossHeadIdeal.Gen Cert.LossHeadIdeal.Value

variable (x : S8192x2048.Idx → Elt Ideal .f32) (g : S1x2048.Idx → Elt Ideal .f32) (y : S8192x2048.Idx → Elt Ideal .f32)

/-- The loss, in every lane. -/
def lossOf : S1x128.Idx → Elt Ideal .f32 := fun _ =>
  Ideal.ofBits .f32 0x3F000000#32 * ∑ r : Fin 8192, rowLoss (fun k => x (ix2 r k)) (fun k => g (ix2 0 k)) (fun k => y (ix2 r k))

/-- The gradient of the rows. -/
def gradOf : S8192x2048.Idx → Elt Ideal .f32 := fun j =>
  rowGrad (fun k => x (ix2 (j 0) k)) (fun k => g (ix2 0 k)) (fun k => y (ix2 (j 0) k)) (j 1)

/-- The gradient of the gain. -/
def gainOf : S1x2048.Idx → Elt Ideal .f32 := fun j =>
  ∑ r : Fin 8192, rowGain (fun k => x (ix2 r k)) (fun k => g (ix2 0 k)) (fun k => y (ix2 r k)) (j 1)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem steps : 8192 = cfg0.N * 256 := by rw [show cfg0.N = 32 from N_0]

/-- Row `r` of the block of step `t`. -/
def rowOf (t : Fin cfg0.N) (r : Fin 256) : Fin 8192 :=
  ⟨t.val * 256 + r.val, by have h : t.val < 32 := lt_of_lt_of_eq t.isLt N_0; omega⟩

/-- The sum over all the rows, step by step. -/
theorem sum_rows (f : Fin 8192 → EReal) : ∑ t : Fin cfg0.N, ∑ r : Fin 256, f (rowOf t r) = ∑ r, f r :=
  Fin.sum_mul_add_fin cfg0.N 256 f steps

/-- A half of a sum is the sum of the halves. -/
theorem half_sum {ι : Type} (s : Finset ι) (f : ι → EReal) :
    ∑ i ∈ s, Ideal.ofBits .f32 0x3F000000#32 * f i = Ideal.ofBits .f32 0x3F000000#32 * ∑ i ∈ s, f i := by
  classical
  rw [half_eq]
  induction s using Finset.induction_on with
  | empty => simp
  | insert a s ha ih =>
    rw [Finset.sum_insert ha, Finset.sum_insert ha, ih]
    exact (EReal.left_distrib_of_nonneg_of_ne_top (EReal.coe_nonneg.mpr (by norm_num)) (EReal.coe_ne_top _) _ _).symm

/-- Where the blocks lie, step by step. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_4.index t (0 : Fin 2) = t.val ∧ win0_4.index t (1 : Fin 2) = 0)

theorem idx_onto : ∀ q : Fin 32, ∃ t : Fin cfg0.N, win0_4.index t = ![q.val, 0] :=
  (by decide +kernel : ∀ q : Fin 32, ∃ t : Fin grid0.N, win0_4.index t = ![q.val, 0])

variable (m : (ℓ : Loc nD τ sig) → Buf (Elt Ideal) ℓ) (ρ : Dev nD → PrngReg)

theorem rows_apply (c : Dev nD) (t : Fin cfg0.N) (r : Fin 256) (k : Fin 2048) : iblk m c 0 t (ix2 r k) = V m c main_arg0 (ix2 (rowOf t r) k) := by
  obtain ⟨a0, a1, -⟩ := idx_facts t
  show V m c main_arg0 (((cfg0.win 0).blk t).view.emb (ix2 r k)) = _
  congr 1; funext a; apply Fin.ext
  match a with
  | ⟨0, _⟩ => show win0_0.index t (0 : Fin 2) * 256 + 1 * r.val = t.val * 256 + r.val; omega
  | ⟨1, _⟩ => show win0_0.index t (1 : Fin 2) * 2048 + 1 * k.val = k.val; omega

theorem gains_apply (c : Dev nD) (t : Fin cfg0.N) (k : Fin 2048) : iblk m c 1 t (ix2 0 k) = V m c main_arg1 (ix2 0 k) := by
  obtain ⟨-, -, b0, b1, -⟩ := idx_facts t
  show V m c main_arg1 (((cfg0.win 1).blk t).view.emb (ix2 0 k)) = _
  congr 1; funext a; apply Fin.ext
  match a with
  | ⟨0, _⟩ => show win0_1.index t (0 : Fin 2) * 1 + 1 * 0 = 0; omega
  | ⟨1, _⟩ => show win0_1.index t (1 : Fin 2) * 2048 + 1 * k.val = k.val; omega

theorem targets_apply (c : Dev nD) (t : Fin cfg0.N) (r : Fin 256) (k : Fin 2048) : iblk m c 2 t (ix2 r k) = V m c main_arg2 (ix2 (rowOf t r) k) := by
  obtain ⟨-, -, -, -, c0, c1, -⟩ := idx_facts t
  show V m c main_arg2 (((cfg0.win 2).blk t).view.emb (ix2 r k)) = _
  congr 1; funext a; apply Fin.ext
  match a with
  | ⟨0, _⟩ => show win0_2.index t (0 : Fin 2) * 256 + 1 * r.val = t.val * 256 + r.val; omega
  | ⟨1, _⟩ => show win0_2.index t (1 : Fin 2) * 2048 + 1 * k.val = k.val; omega

/-! ## The gradient of the rows -/

theorem step_grad (c : Dev nD) (t : Fin cfg0.N) (j : S256x2048.Idx) :
    k0_pay9 (iblk m c 0 t) (iblk m c 1 t) (iblk m c 2 t) j
      = gradOf (V m c main_arg0) (V m c main_arg1) (V m c main_arg2) (((cfg0.win 4).blk t).view.emb j) := by
  obtain ⟨-, -, -, -, -, -, e0, e1⟩ := idx_facts t
  obtain ⟨r, k, rfl⟩ := exists_place j
  have p : ((cfg0.win 4).blk t).view.emb (ix2 r k) = (ix2 (rowOf t r) k : S8192x2048.Idx) := by
    funext a; apply Fin.ext
    match a with
    | ⟨0, _⟩ => show win0_4.index t (0 : Fin 2) * 256 + 1 * r.val = t.val * 256 + r.val; omega
    | ⟨1, _⟩ => show win0_4.index t (1 : Fin 2) * 2048 + 1 * k.val = k.val; omega
  rw [grad_apply, p]
  simp only [rows_apply, gains_apply, targets_apply]
  rfl

theorem flushed_grad (c : Dev nD) (t : Fin cfg0.N) :
    (dats m 0 c).flushed 4 t = ((cfg0.win 4).blk t).view.read (Elt Ideal) (gradOf (V m c main_arg0) (V m c main_arg1) (V m c main_arg2)) := by
  by_cases h0 : t.val % 32 = 0
  · rw [flushed4_A m c t h0, grad_A]
    exact funext fun j => step_grad m c t j
  · rw [flushed4_B m c t h0, grad_B]
    exact funext fun j => step_grad m c t j

theorem covered (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := idx_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

/-! ## The sums over the steps -/

/-- The last step. -/
def last : Fin cfg0.N := ⟨31, by rw [show cfg0.N = 32 from N_0]; norm_num⟩

theorem last_val : last.val + 1 = cfg0.N := (show 32 = cfg0.N from N_0.symm)

theorem zero_eq : Ideal.ofBits .f32 0x00000000#32 = 0 := by
  simp [Ideal.ofBits, Ideal.ieee]

/-- What step `t` adds to the loss. -/
def addLoss (c : Dev nD) (t : Fin cfg0.N) : EReal :=
  Ideal.ofBits .f32 0x3F000000#32 * ∑ r : Fin 256, rowLoss (fun k => V m c main_arg0 (ix2 (rowOf t r) k)) (fun k => V m c main_arg1 (ix2 0 k)) (fun k => V m c main_arg2 (ix2 (rowOf t r) k))

/-- What step `t` adds to the gradient of the gain. -/
def addGain (c : Dev nD) (t : Fin cfg0.N) (k : Fin 2048) : EReal :=
  ∑ r : Fin 256, rowGain (fun k => V m c main_arg0 (ix2 (rowOf t r) k)) (fun k => V m c main_arg1 (ix2 0 k)) (fun k => V m c main_arg2 (ix2 (rowOf t r) k)) k

theorem step_loss (c : Dev nD) (t : Fin cfg0.N) (acc : Vec Ideal S1x128 .f32) (j : S1x128.Idx) :
    k0_pay3 (k0_pay5 (iblk m c 0 t) (iblk m c 1 t) (iblk m c 2 t)) acc j = acc j + addLoss m c t := by
  obtain ⟨z, k, rfl⟩ := exists_place j
  rw [loss_apply]
  simp only [rows_apply, gains_apply, targets_apply]
  rfl

theorem step_gain (c : Dev nD) (t : Fin cfg0.N) (acc : Vec Ideal S1x2048 .f32) (j : S1x2048.Idx) :
    k0_pay4 (k0_pay10 (iblk m c 0 t) (iblk m c 1 t) (iblk m c 2 t)) acc j = acc j + addGain m c t (j 1) := by
  obtain ⟨z, k, rfl⟩ := exists_place j
  rw [gain_apply]
  simp only [rows_apply, gains_apply, targets_apply]
  rfl

theorem last_loss (c : Dev nD) (j : S1x128.Idx) :
    (outsAt0 m c last.val last.isLt).1 j = lossOf (V m c main_arg0) (V m c main_arg1) (V m c main_arg2) j := by
  refine (Pipeline.eq_sum_fin_of_reset_step_apply_last (fun n h => (outsAt0 m c n h).1) 32 (fun _ => (0 : EReal)) (fun t _ => addLoss m c t)
    (fun t h i => ?_) (fun t h i => ?_) (le_of_eq N_0) last last_val j).trans ?_
  · rw [outsAt0_A m c t h, loss_A]
    exact (step_loss m c t _ i).trans (congrArg (· + addLoss m c t) zero_eq)
  · rw [outsAt0_B m c t h, loss_B]
    exact step_loss m c t _ i
  · rw [zero_add]
    unfold addLoss lossOf
    rw [half_sum]
    exact congrArg _ (sum_rows fun r => rowLoss (fun k => V m c main_arg0 (ix2 r k)) (fun k => V m c main_arg1 (ix2 0 k)) (fun k => V m c main_arg2 (ix2 r k)))

theorem last_gain (c : Dev nD) (j : S1x2048.Idx) :
    (outsAt0 m c last.val last.isLt).2.2 j = gainOf (V m c main_arg0) (V m c main_arg1) (V m c main_arg2) j := by
  refine (Pipeline.eq_sum_fin_of_reset_step_apply_last (fun n h => (outsAt0 m c n h).2.2) 32 (fun _ => (0 : EReal)) (fun t j => addGain m c t (j 1))
    (fun t h i => ?_) (fun t h i => ?_) (le_of_eq N_0) last last_val j).trans ?_
  · rw [outsAt0_A m c t h, gain_A]
    exact (step_gain m c t _ i).trans (congrArg (· + addGain m c t (i 1)) zero_eq)
  · rw [outsAt0_B m c t h, gain_B]
    exact step_gain m c t _ i
  · rw [zero_add]
    exact sum_rows fun r => rowGain (fun k => V m c main_arg0 (ix2 r k)) (fun k => V m c main_arg1 (ix2 0 k)) (fun k => V m c main_arg2 (ix2 r k)) (j 1)

theorem final_loss (c : Dev nD) : (dats m 0 c).arrAt 3 cfg0.N = lossOf (V m c main_arg0) (V m c main_arg1) (V m c main_arg2) := by
  refine (dats m 0 c).arrAt_eq_of_after_last 3 last (by decide +kernel) _ fun j => ?_
  exact (congrFun (after0_3 m c last) _).trans (last_loss m c j)

theorem final_gain (c : Dev nD) : (dats m 0 c).arrAt 5 cfg0.N = gainOf (V m c main_arg0) (V m c main_arg1) (V m c main_arg2) := by
  refine (dats m 0 c).arrAt_eq_of_after_last 5 last (by decide +kernel) _ fun j => ?_
  exact (congrFun (after0_5 m c last) _).trans (last_gain m c j)

/-! ## The claims -/

/-- After the run the results are the loss, the gradient of the rows and that of the gain. -/
theorem run : θ_run defs (onTc (τ := τ) (main (F := Ideal))) ⟨m, fun _ => 0, ρ⟩ fun r => ∀ c : Dev nD,
      r.2.mem ((c : Thread nD τ).loc main_v0_0)
        = lossOf (m ((c : Thread nD τ).loc main_arg0)) (m ((c : Thread nD τ).loc main_arg1)) (m ((c : Thread nD τ).loc main_arg2))
      ∧ r.2.mem ((c : Thread nD τ).loc main_v0_1)
        = gradOf (m ((c : Thread nD τ).loc main_arg0)) (m ((c : Thread nD τ).loc main_arg1)) (m ((c : Thread nD τ).loc main_arg2))
      ∧ r.2.mem ((c : Thread nD τ).loc main_v0_2)
        = gainOf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_loss m c),
      (h c).2.1.trans ((dats m 0 c).arrAt_eq_of_cover 4 _ (fun t _ => flushed_grad m c t) covered),
      (h c).2.2.1.trans (final_gain m c), (h c).2.2.2⟩)
    (run_blocks m ρ)

theorem lossOf_eq (x : FVec Ideal S8192x2048 .f32) (g : FVec Ideal S1x2048 .f32) (y : FVec Ideal S8192x2048 .f32) : lossOf x g y = Cert.LossHeadRef.loss x g y := by
  funext j
  obtain ⟨z, k, rfl⟩ := exists_place j
  exact (Cert.LossHeadRef.loss_apply x y g z k).symm

theorem gradOf_eq (x : FVec Ideal S8192x2048 .f32) (g : FVec Ideal S1x2048 .f32) (y : FVec Ideal S8192x2048 .f32) : gradOf x g y = Cert.LossHeadRef.grad x g y := by
  funext j
  obtain ⟨r, k, rfl⟩ := exists_place j
  exact (Cert.LossHeadRef.grad_apply x y g r k).symm

theorem gainOf_eq (x : FVec Ideal S8192x2048 .f32) (g : FVec Ideal S1x2048 .f32) (y : FVec Ideal S8192x2048 .f32) : gainOf x g y = Cert.LossHeadRef.gain x g y := by
  funext j
  obtain ⟨z, k, rfl⟩ := exists_place j
  exact (Cert.LossHeadRef.gain_apply x y g z k).symm

theorem frame_kernel : Cert.quiescent_LossHead (hLossHead := Cert.LossHead.Gen.facts) := fun m g _ => Cert.LossHead.Gen.frame (F := Bits) m g

theorem frame_kernelIdeal : Cert.quiescent_LossHeadIdeal (hLossHeadIdeal := Cert.LossHeadIdeal.Gen.facts) := fun m g _ => Cert.LossHeadIdeal.Gen.frame (F := Ideal) m g

theorem frame_referenceIdeal : Cert.quiescent_LossHeadReferenceIdeal (hLossHeadReferenceIdeal := Cert.LossHeadReferenceIdeal.Gen.facts) := fun m g _ =>
  (θ_run Cert.LossHeadReferenceIdeal.defs _ _).mono (fun r h => ⟨fun c => (h c).2.2.2, sem_eq_zero_of_no_sems rfl r.2⟩) (Cert.LossHeadReferenceIdeal.Value.run (F := Ideal) m g)

theorem value_ideal : Cert.algebraic_LossHeadIdeal_LossHeadReferenceIdeal (hLossHeadIdeal := Cert.LossHeadIdeal.Gen.facts) (hLossHeadReferenceIdeal := Cert.LossHeadReferenceIdeal.Gen.facts) :=
  fun m g m' g' _ hm => ⟨_, _, _, run m g,
    (θ_run Cert.LossHeadReferenceIdeal.defs _ _).mono (fun _ h c => ⟨(h c).1.trans (by
      rw [← (hm c).1, ← (hm c).2.1, ← (hm c).2.2]
      exact (lossOf_eq _ _ _).symm), (h c).2.1.trans (by
      rw [← (hm c).1, ← (hm c).2.1, ← (hm c).2.2]
      exact (gradOf_eq _ _ _).symm), (h c).2.2.1.trans (by
      rw [← (hm c).1, ← (hm c).2.1, ← (hm c).2.2]
      exact (gainOf_eq _ _ _).symm), (h c).2.2.2⟩)
      (Cert.LossHeadRef.run (F := Ideal) m' g')⟩

end Cert.LossHeadRows

end
-- ==== Proof.AttnDeltaClaims.lean ====
/-
# The rows' sums of the attention's output against its gradient, certified
-/
module

public import proofs.«01_k».proof.Defs
public import proofs.«01_k».proof.Proof.Gen.AttnDelta
public import proofs.«01_k».proof.Proof.Gen.AttnDelta.Frame
public import proofs.«01_k».proof.Proof.Gen.AttnDeltaIdeal
public import proofs.«01_k».proof.Proof.Gen.AttnDeltaIdeal.Frame
public import proofs.«01_k».proof.Proof.Gen.AttnDeltaIdeal.Value
public import proofs.«01_k».proof.Proof.Gen.AttnDeltaReferenceIdeal
public import proofs.«01_k».proof.Proof.Gen.AttnDeltaReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.AttnDeltaRows

open Idealize.ShloMosaic Idealize.ShloMosaic.TcCoe Idealize.SL.Sem
open Cert.AttnDeltaIdeal Cert.AttnDeltaIdeal.Gen Cert.AttnDeltaIdeal.Value

/-- A head's column. -/
def column (h : Fin 16) (k : Fin 128) : Fin 2048 := ⟨h.val * 128 + k.val, by omega⟩

/-- Every head's output against its gradient, row by row. -/
def sums (d o : S8192x2048.Idx → Elt Ideal .bf16) : S16x8192x1.Idx → Elt Ideal .f32 :=
  fun j => (∑ k : Fin 128, d (ix2 (j 1) (column (j 0) k)) * o (ix2 (j 1) (column (j 0) k)) : EReal)

theorem exists_place3 {l m n : ℕ} (j : Shape.Idx ⟨3, ![l, m, n]⟩) : ∃ (w : Fin l) (x : Fin m) (y : Fin n), j = ix3 w x y :=
  ⟨j 0, j 1, j 2, funext fun a => by match a with | ⟨0, _⟩ => rfl | ⟨1, _⟩ => rfl | ⟨2, _⟩ => rfl⟩

theorem block_apply (d o : Vec Ideal S512x128 .bf16) (q : Fin 1) (r : Fin 512) (z : Fin 1) :
    k0_pay1 d o (ix3 q r z) = (∑ k : Fin 128, d (ix2 r k) * o (ix2 r k) : EReal) := by
  pointwise [k0_pay1]

/-- Where the blocks lie, step by step. -/
theorem index_gradient : ∀ t : Fin cfg0.N, win0_0.index t = ![t.val / 16, t.val % 16] := (by decide +kernel : ∀ t : Fin grid0.N, _)
theorem index_output : ∀ t : Fin cfg0.N, win0_1.index t = ![t.val / 16, t.val % 16] := (by decide +kernel : ∀ t : Fin grid0.N, _)
theorem index_out : ∀ t : Fin cfg0.N, win0_2.index t = ![t.val % 16, t.val / 16, 0] := (by decide +kernel : ∀ t : Fin grid0.N, _)

variable (m : (ℓ : Loc nD τ sig) → Buf (Elt Ideal) ℓ) (ρ : Dev nD → PrngReg)

theorem final (c : Dev nD) : (dats m 0 c).arrAt 2 cfg0.N = sums (V m c main_arg0) (V m c main_arg1) := by
  refine (dats m 0 c).arrAt_eq_of_covers 2 _ (by decide +kernel) fun t hf y => ?_
  have hN : t.val < 256 := lt_of_lt_of_eq t.isLt N_0
  blk_simp
  rw [after0_2]
  frame_out
  obtain ⟨q, r, z, rfl⟩ := exists_place3 y
  refine (block_apply _ _ q r z).trans ?_
  unfold sums column
  refine Finset.sum_congr rfl fun k _ => congrArg₂ (fun x y : EReal => x * y) ?_ ?_
  · blk_simp [iblk]
    congr 1
    blk_ext [index_gradient, index_out]
  · blk_simp [iblk]
    congr 1
    blk_ext [index_output, index_out]

/-- After the run the result is the sums. -/
theorem run_sums : θ_run defs (onTc (τ := τ) (main (F := Ideal))) ⟨m, fun _ => 0, ρ⟩ fun r => ∀ c : Dev nD,
      r.2.mem ((c : Thread nD τ).loc main_v0) = sums (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.AttnDeltaRows

namespace Cert.AttnDeltaRef

open Idealize.ShloMosaic Idealize.ShloMosaic.TcCoe Idealize.SL.Sem
open Cert.AttnDeltaReferenceIdeal Cert.AttnDeltaReferenceIdeal.Gen
open Cert.AttnDeltaRows (exists_place3 column sums)

/-- The columns by their heads. -/
def heads (x : FVec Ideal S8192x2048 .bf16) : FVec Ideal S8192x16x128 .f32 := shapeCast _ (extf .f32 x bitsLt_bf16_f32) shapeCasts_S8192x2048_S8192x16x128

theorem heads_apply (x : FVec Ideal S8192x2048 .bf16) (r : Fin 8192) (h : Fin 16) (k : Fin 128) : heads x (ix3 r h k) = x (ix2 r (column h k)) := by
  pointwise [heads]
  rfl

theorem sums_eq (d o : FVec Ideal S8192x2048 .bf16) :
    broadcastInDim S16x8192x1 ![0, 1] bcast_S16x8192_S16x8192x1_0_1 (transpose S16x8192 [1, 0] (Host.reduceAdd (mulf (heads d) (heads o))
      (constant S_ .f32 0x00000000#32) reducesTo_S8192x16x128_S8192x16_d2 h_S_) transposes_S8192x16_S16x8192_1_0) = sums d o := by
  funext j
  obtain ⟨h, r, z, rfl⟩ := exists_place3 j
  pointwise []
  simp only [heads_apply]
  rfl

end Cert.AttnDeltaRef

namespace Cert.AttnDeltaRows

open Idealize.ShloMosaic Idealize.ShloMosaic.TcCoe Idealize.SL.Sem

theorem frame_kernel : Cert.quiescent_AttnDelta (hAttnDelta := Cert.AttnDelta.Gen.facts) := fun m g _ => Cert.AttnDelta.Gen.frame (F := Bits) m g

theorem frame_kernelIdeal : Cert.quiescent_AttnDeltaIdeal (hAttnDeltaIdeal := Cert.AttnDeltaIdeal.Gen.facts) := fun m g _ => Cert.AttnDeltaIdeal.Gen.frame (F := Ideal) m g

theorem frame_referenceIdeal : Cert.quiescent_AttnDeltaReferenceIdeal (hAttnDeltaReferenceIdeal := Cert.AttnDeltaReferenceIdeal.Gen.facts) := fun m g _ =>
  (θ_run Cert.AttnDeltaReferenceIdeal.defs _ _).mono (fun r h => ⟨fun c => (h c).2, sem_eq_zero_of_no_sems rfl r.2⟩) (Cert.AttnDeltaReferenceIdeal.Value.run (F := Ideal) m g)

theorem value_ideal : Cert.algebraic_AttnDeltaIdeal_AttnDeltaReferenceIdeal (hAttnDeltaIdeal := Cert.AttnDeltaIdeal.Gen.facts) (hAttnDeltaReferenceIdeal := Cert.AttnDeltaReferenceIdeal.Gen.facts) :=
  fun m g m' g' _ hm => ⟨_, run_sums m g,
    (θ_run Cert.AttnDeltaReferenceIdeal.defs _ _).mono (fun _ h c => ⟨(h c).1.trans (by
      rw [← (hm c).1, ← (hm c).2]
      exact Cert.AttnDeltaRef.sums_eq _ _), (h c).2⟩)
      (Cert.AttnDeltaReferenceIdeal.Value.run (F := Ideal) m' g')⟩

end Cert.AttnDeltaRows

end
-- ==== Proof.FfnDactClaims.lean ====
/-
# The gradients of the feed-forward's products, certified
-/
module

public import proofs.«01_k».proof.Defs
public import proofs.«01_k».proof.Proof.Gen.FfnDact
public import proofs.«01_k».proof.Proof.Gen.FfnDact.Frame
public import proofs.«01_k».proof.Proof.Gen.FfnDactIdeal
public import proofs.«01_k».proof.Proof.Gen.FfnDactIdeal.Frame
public import proofs.«01_k».proof.Proof.Gen.FfnDactIdeal.Value
public import proofs.«01_k».proof.Proof.Gen.FfnDactReferenceIdeal
public import proofs.«01_k».proof.Proof.Gen.FfnDactReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnDactRows

open Idealize.ShloMosaic Idealize.ShloMosaic.TcCoe Idealize.SL.Sem
open Cert.FfnDactIdeal Cert.FfnDactIdeal.Gen Cert.FfnDactIdeal.Value

/-- The gradient of the hidden units: the stream's gradient through the transposed weights. -/
def byUnits (dy : S8192x2048.Idx → Elt Ideal .f32) (w : S5632x2048.Idx → Elt Ideal .bf16) : S8192x5632.Idx → Elt Ideal .f32 :=
  fun j => (∑ k : Fin 2048, dy (ix2 (j 0) k) * w (ix2 (j 1) k) : EReal)

/-- The sigmoid, and a hidden unit's gradients by its gate and by the other product. -/
def sigmoid (g : EReal) : EReal := Ideal.div 1 (1 + Ideal.exp (-g))
def gateGrad (da g u : EReal) : EReal := da * u * (sigmoid g * (1 + g * (1 - sigmoid g)))
def upGrad (da g : EReal) : EReal := da * (g * sigmoid g)

/-- The gradients of the two products. -/
def byGate (dy : S8192x2048.Idx → Elt Ideal .f32) (w : S5632x2048.Idx → Elt Ideal .bf16) (g u : S8192x5632.Idx → Elt Ideal .f32) : S8192x5632.Idx → Elt Ideal .bf16 :=
  fun j => gateGrad (byUnits dy w j) (g j) (u j)
def byUp (dy : S8192x2048.Idx → Elt Ideal .f32) (w : S5632x2048.Idx → Elt Ideal .bf16) (g : S8192x5632.Idx → Elt Ideal .f32) : S8192x5632.Idx → Elt Ideal .bf16 :=
  fun j => upGrad (byUnits dy w j) (g j)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

/-- A block's product. -/
def part (a b : S512x512.Idx → EReal) (j : S512x512.Idx) : EReal := ∑ k : Fin 512, a (ix2 (j 0) k) * b (ix2 (j 1) k)

theorem init_apply (j : S512x512.Idx) : k0_pay1 (F := Ideal) j = (0 : EReal) := by
  obtain ⟨r, c, rfl⟩ := exists_place j
  pointwise [k0_pay1]

theorem step_apply (acc dy : Vec Ideal S512x512 .f32) (w : Vec Ideal S512x512 .bf16) (j : S512x512.Idx) :
    k0_pay2 acc dy w j = (acc j + part dy w j : EReal) := by
  obtain ⟨r, c, rfl⟩ := exists_place j
  pointwise [k0_pay2]
  rfl

theorem gate_apply (da g u : Vec Ideal S512x512 .f32) (j : S512x512.Idx) : k0_pay4 da g u j = gateGrad (da j) (g j) (u j) := by
  obtain ⟨r, c, rfl⟩ := exists_place j
  pointwise [k0_pay4, k0_pay3, gateGrad, sigmoid]
  rw [zero_sub]

theorem up_apply (da g : Vec Ideal S512x512 .f32) (j : S512x512.Idx) : k0_pay5 da g j = upGrad (da j) (g j) := by
  obtain ⟨r, c, rfl⟩ := exists_place j
  pointwise [k0_pay5, k0_pay3, upGrad, sigmoid]
  rw [zero_sub]

/-- Where the blocks lie, step by step. -/
theorem index_gradient : ∀ t : Fin cfg0.N, win0_0.index t = ![t.val / 44, t.val % 4] := (by decide +kernel : ∀ t : Fin grid0.N, _)
theorem index_weights : ∀ t : Fin cfg0.N, win0_1.index t = ![t.val / 4 % 11, t.val % 4] := (by decide +kernel : ∀ t : Fin grid0.N, _)
theorem index_gate : ∀ t : Fin cfg0.N, win0_2.index t = ![t.val / 44, t.val / 4 % 11] := (by decide +kernel : ∀ t : Fin grid0.N, _)
theorem index_up : ∀ t : Fin cfg0.N, win0_3.index t = ![t.val / 44, t.val / 4 % 11] := (by decide +kernel : ∀ t : Fin grid0.N, _)
theorem index_byGate : ∀ t : Fin cfg0.N, win0_4.index t = ![t.val / 44, t.val / 4 % 11] := (by decide +kernel : ∀ t : Fin grid0.N, _)
theorem index_byUp : ∀ t : Fin cfg0.N, win0_5.index t = ![t.val / 44, t.val / 4 % 11] := (by decide +kernel : ∀ t : Fin grid0.N, _)

variable (m : (ℓ : Loc nD τ sig) → Buf (Elt Ideal) ℓ) (ρ : Dev nD → PrngReg)

/-- What the blocks of a run add up to. -/
theorem carried (c : Dev nD) (t : Fin cfg0.N) (h : t.val % 4 = 3) (j : S512x512.Idx) :
    (outsAt0 m c t.val t.isLt).2.2 j = (∑ s : Fin 4, part (iblk m c 0 ⟨4 * (t.val / 4) + s.val, Pipeline.run_point_lt_of_flush t h s⟩) (iblk m c 1 ⟨4 * (t.val / 4) + s.val, Pipeline.run_point_lt_of_flush t h s⟩) j : EReal) := by
  refine (Pipeline.eq_sum_fin_of_reset_step_apply_of_flush (fun n h => (outsAt0 m c n h).2.2) 4 (fun _ => (0 : EReal)) (fun t j => part (iblk m c 0 t) (iblk m c 1 t) j)
    (fun t h i => ?_) (fun t h i => ?_) t h j).trans (zero_add _)
  · have h1 : ¬ t.val % 4 = 3 := by omega
    rw [outsAt0_A m c t h h1]
    frame_out
    exact (step_apply _ _ _ i).trans (congrArg (fun y : EReal => y + part (iblk m c 0 t) (iblk m c 1 t) i) (init_apply i))
  · by_cases h1 : t.val % 4 = 3
    · rw [outsAt0_C m c t h h1]
      frame_out
      exact (step_apply _ _ _ i).trans (congrArg (fun y : EReal => y + part (iblk m c 0 t) (iblk m c 1 t) i) (congrFun (Memref.IsWhole.read_unread _ _) i))
    · rw [outsAt0_B m c t h h1]
      frame_out
      exact (step_apply _ _ _ i).trans (congrArg (fun y : EReal => y + part (iblk m c 0 t) (iblk m c 1 t) i) (congrFun (Memref.IsWhole.read_unread _ _) i))

/-- What the last step of a run stores. -/
theorem gate_stored (c : Dev nD) (t : Fin cfg0.N) (h : t.val % 4 = 3) (j : S512x512.Idx) :
    (outsAt0 m c t.val t.isLt).1 j = k0_pay4 (outsAt0 m c t.val t.isLt).2.2 (iblk m c 2 t) (iblk m c 3 t) j := by
  have h0 : ¬ t.val % 4 = 0 := by omega
  rw [outsAt0_C m c t h0 h]
  frame_out

theorem up_stored (c : Dev nD) (t : Fin cfg0.N) (h : t.val % 4 = 3) (j : S512x512.Idx) :
    (outsAt0 m c t.val t.isLt).2.1 j = k0_pay5 (outsAt0 m c t.val t.isLt).2.2 (iblk m c 2 t) j := by
  have h0 : ¬ t.val % 4 = 0 := by omega
  rw [outsAt0_C m c t h0 h]
  frame_out

/-- A run's sum is the gradient of the hidden units, wherever the block stored lies at the run's place. -/
theorem units_sum (c : Dev nD) (t : Fin cfg0.N) (h : t.val % 4 = 3) (y : S512x512.Idx) (j : S8192x5632.Idx)
    (h0 : (j 0).val = t.val / 44 * 512 + (y 0).val) (h1 : (j 1).val = t.val / 4 % 11 * 512 + (y 1).val) :
    (outsAt0 m c t.val t.isLt).2.2 y = byUnits (V m c main_arg0) (V m c main_arg1) j := by
  have hN : t.val < 704 := lt_of_lt_of_eq t.isLt N_0
  rw [carried m c t h y]
  unfold byUnits part
  refine Fin.sum_mul_add_congr fun s k hl => ?_
  refine congrArg₂ (fun x y : EReal => x * y) ?_ ?_
  · blk_simp [iblk]
    congr 1
    blk_ext [index_gradient]
  · blk_simp [iblk]
    congr 1
    blk_ext [index_weights]

theorem final_gate (c : Dev nD) : (dats m 0 c).arrAt 4 cfg0.N = byGate (V m c main_arg0) (V m c main_arg1) (V m c main_arg2) (V m c main_arg3) := by
  refine (dats m 0 c).arrAt_eq_of_covers 4 _ (by decide +kernel) fun t hf y => ?_
  have h : t.val % 4 = 3 := (flush0_4 t).mp hf
  have hN : t.val < 704 := lt_of_lt_of_eq t.isLt N_0
  blk_simp
  rw [after0_4]
  refine ((gate_stored m c t h y).trans (gate_apply _ _ _ y)).trans ?_
  unfold byGate
  rw [units_sum m c t h y (((cfg0.win 4).blk t).view.emb y) (by blk_simp [index_byGate]) (by blk_simp [index_byGate])]
  refine congrArg₂ (gateGrad _) ?_ ?_
  · blk_simp [iblk]
    congr 1
    blk_ext [index_gate, index_byGate]
  · blk_simp [iblk]
    congr 1
    blk_ext [index_up, index_byGate]

theorem final_up (c : Dev nD) : (dats m 0 c).arrAt 5 cfg0.N = byUp (V m c main_arg0) (V m c main_arg1) (V m c main_arg2) := by
  refine (dats m 0 c).arrAt_eq_of_covers 5 _ (by decide +kernel) fun t hf y => ?_
  have h : t.val % 4 = 3 := (flush0_5 t).mp hf
  have hN : t.val < 704 := lt_of_lt_of_eq t.isLt N_0
  blk_simp
  rw [after0_5]
  refine ((up_stored m c t h y).trans (up_apply _ _ y)).trans ?_
  unfold byUp
  rw [units_sum m c t h y (((cfg0.win 5).blk t).view.emb y) (by blk_simp [index_byUp]) (by blk_simp [index_byUp])]
  refine congrArg (upGrad _) ?_
  blk_simp [iblk]
  congr 1
  blk_ext [index_gate, index_byUp]

/-- After the run the results are the gradients of the two products. -/
theorem run_gradients : θ_run defs (onTc (τ := τ) (main (F := Ideal))) ⟨m, fun _ => 0, ρ⟩ fun r => ∀ c : Dev nD,
      r.2.mem ((c : Thread nD τ).loc main_v0_0)
        = byGate (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = byUp (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_gate m c), (h c).2.1.trans (final_up m c), (h c).2.2⟩) (run_blocks m ρ)

end Cert.FfnDactRows

namespace Cert.FfnDactRef

open Idealize.ShloMosaic Idealize.ShloMosaic.TcCoe Idealize.SL.Sem
open Cert.FfnDactReferenceIdeal Cert.FfnDactReferenceIdeal.Gen
open Cert.FfnDactRows (exists_place byUnits sigmoid gateGrad upGrad byGate byUp)

theorem units_eq (dy : FVec Ideal S8192x2048 .f32) (w : FVec Ideal S5632x2048 .bf16) :
    Host.dotGeneral dot_S8192x2048_S2048x5632_S8192x5632_1_0_0_1_n_n none dy
      (transpose S2048x5632 [1, 0] (extf .f32 w bitsLt_bf16_f32) transposes_S5632x2048_S2048x5632_1_0) = byUnits dy w := by
  funext j
  obtain ⟨r, c, rfl⟩ := exists_place j
  pointwise []
  rfl

/-- Ones, and the sigmoid, as the reference has them. -/
def hostOne : FVec Ideal S8192x5632 .f32 := broadcastInDim S8192x5632 ![] bcast_S_S8192x5632 (constant S_ .f32 0x3F800000#32)
def hostSigmoid (g : FVec Ideal S8192x5632 .f32) : FVec Ideal S8192x5632 .f32 := Host.divf hostOne (addf hostOne (Host.exp (Host.negf g)))

theorem gate_eq (da g u : FVec Ideal S8192x5632 .f32) (j : S8192x5632.Idx) :
    truncf .bf16 (mulf (mulf da u) (mulf (hostSigmoid g) (addf hostOne (mulf g (subf hostOne (hostSigmoid g)))))) bitsLt_bf16_f32 j = gateGrad (da j) (g j) (u j) := by
  obtain ⟨r, c, rfl⟩ := exists_place j
  pointwise [gateGrad, sigmoid, hostSigmoid, hostOne]

theorem up_eq (da g : FVec Ideal S8192x5632 .f32) (j : S8192x5632.Idx) :
    truncf .bf16 (mulf da (mulf g (hostSigmoid g))) bitsLt_bf16_f32 j = upGrad (da j) (g j) := by
  obtain ⟨r, c, rfl⟩ := exists_place j
  pointwise [upGrad, sigmoid, hostSigmoid, hostOne]

end Cert.FfnDactRef

namespace Cert.FfnDactRows

open Idealize.ShloMosaic Idealize.ShloMosaic.TcCoe Idealize.SL.Sem

theorem frame_kernel : Cert.quiescent_FfnDact (hFfnDact := Cert.FfnDact.Gen.facts) := fun m g _ => Cert.FfnDact.Gen.frame (F := Bits) m g

theorem frame_kernelIdeal : Cert.quiescent_FfnDactIdeal (hFfnDactIdeal := Cert.FfnDactIdeal.Gen.facts) := fun m g _ => Cert.FfnDactIdeal.Gen.frame (F := Ideal) m g

theorem frame_referenceIdeal : Cert.quiescent_FfnDactReferenceIdeal (hFfnDactReferenceIdeal := Cert.FfnDactReferenceIdeal.Gen.facts) := fun m g _ =>
  (θ_run Cert.FfnDactReferenceIdeal.defs _ _).mono (fun r h => ⟨fun c => (h c).2.2, sem_eq_zero_of_no_sems rfl r.2⟩) (Cert.FfnDactReferenceIdeal.Value.run (F := Ideal) m g)

theorem value_ideal : Cert.algebraic_FfnDactIdeal_FfnDactReferenceIdeal (hFfnDactIdeal := Cert.FfnDactIdeal.Gen.facts) (hFfnDactReferenceIdeal := Cert.FfnDactReferenceIdeal.Gen.facts) :=
  fun m g m' g' _ hm => ⟨_, _, run_gradients m g,
    (θ_run Cert.FfnDactReferenceIdeal.defs _ _).mono (fun _ h c => ⟨(h c).1.trans (by
      rw [← (hm c).1, ← (hm c).2.1, ← (hm c).2.2.1, ← (hm c).2.2.2]
      rw [Cert.FfnDactRef.units_eq]
      exact funext fun j => Cert.FfnDactRef.gate_eq _ _ _ j), (h c).2.1.trans (by
      rw [← (hm c).1, ← (hm c).2.1, ← (hm c).2.2.1]
      rw [Cert.FfnDactRef.units_eq]
      exact funext fun j => Cert.FfnDactRef.up_eq _ _ j), (h c).2.2⟩)
      (Cert.FfnDactReferenceIdeal.Value.run (F := Ideal) m' g')⟩

end Cert.FfnDactRows

end
-- ==== Proof.FfnDwdClaims.lean ====
/-
# The gradient of the feed-forward's last weights, certified
-/
module

public import proofs.«01_k».proof.Defs
public import proofs.«01_k».proof.Proof.Gen.FfnDwd
public import proofs.«01_k».proof.Proof.Gen.FfnDwd.Frame
public import proofs.«01_k».proof.Proof.Gen.FfnDwdIdeal
public import proofs.«01_k».proof.Proof.Gen.FfnDwdIdeal.Frame
public import proofs.«01_k».proof.Proof.Gen.FfnDwdIdeal.Value
public import proofs.«01_k».proof.Proof.Gen.FfnDwdReferenceIdeal
public import proofs.«01_k».proof.Proof.Gen.FfnDwdReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnDwdRows

open Idealize.ShloMosaic Idealize.ShloMosaic.TcCoe Idealize.SL.Sem
open Cert.FfnDwdIdeal Cert.FfnDwdIdeal.Gen Cert.FfnDwdIdeal.Value

/-- The hidden units against the gradient, over the rows. -/
def product (a : S8192x5632.Idx → Elt Ideal .bf16) (b : S8192x2048.Idx → Elt Ideal .f32) : S5632x2048.Idx → Elt Ideal .f32 :=
  fun j => (∑ k : Fin 8192, a (ix2 k (j 0)) * b (ix2 k (j 1)) : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

/-- A block's product. -/
def part (a b : S512x512.Idx → EReal) (j : S512x512.Idx) : EReal := ∑ k : Fin 512, a (ix2 k (j 0)) * b (ix2 k (j 1))

theorem init_apply (j : S512x512.Idx) : k0_pay1 (F := Ideal) j = (0 : EReal) := by
  obtain ⟨r, c, rfl⟩ := exists_place j
  pointwise [k0_pay1]

theorem step_apply (a : Vec Ideal S512x512 .bf16) (b : Vec Ideal S512x512 .f32) (acc : Vec Ideal S512x512 .f32) (j : S512x512.Idx) :
    k0_pay2 a b acc j = (acc j + part a b j : EReal) := by
  obtain ⟨r, c, rfl⟩ := exists_place j
  pointwise [k0_pay2]
  rfl

/-- Where the blocks lie, step by step. -/
theorem index_left : ∀ t : Fin cfg0.N, win0_0.index t = ![t.val % 16, t.val / 64] := (by decide +kernel : ∀ t : Fin grid0.N, _)
theorem index_right : ∀ t : Fin cfg0.N, win0_1.index t = ![t.val % 16, t.val / 16 % 4] := (by decide +kernel : ∀ t : Fin grid0.N, _)
theorem index_out : ∀ t : Fin cfg0.N, win0_2.index t = ![t.val / 64, t.val / 16 % 4] := (by decide +kernel : ∀ t : Fin grid0.N, _)

variable (m : (ℓ : Loc nD τ sig) → Buf (Elt Ideal) ℓ) (ρ : Dev nD → PrngReg)

/-- What the blocks of a run add up to. -/
theorem carried (c : Dev nD) (t : Fin cfg0.N) (h : t.val % 16 = 15) (j : S512x512.Idx) :
    (outsAt0 m c t.val t.isLt).2 j
      = (∑ s : Fin 16, part (iblk m c 0 ⟨16 * (t.val / 16) + s.val, Pipeline.run_point_lt_of_flush t h s⟩) (iblk m c 1 ⟨16 * (t.val / 16) + s.val, Pipeline.run_point_lt_of_flush t h s⟩) j : EReal) := by
  refine (Pipeline.eq_sum_fin_of_reset_step_apply_of_flush (fun n h => (outsAt0 m c n h).2) 16 (fun _ => (0 : EReal)) (fun t j => part (iblk m c 0 t) (iblk m c 1 t) j)
    (fun t h i => ?_) (fun t h i => ?_) t h j).trans (zero_add _)
  · have h1 : ¬ t.val % 16 = 15 := by omega
    rw [outsAt0_A m c t h h1]
    frame_out
    exact (step_apply _ _ _ i).trans (congrArg (fun y : EReal => y + part (iblk m c 0 t) (iblk m c 1 t) i) (init_apply i))
  · by_cases h1 : t.val % 16 = 15
    · rw [outsAt0_C m c t h h1]
      frame_out
      exact (step_apply _ _ _ i).trans (congrArg (fun y : EReal => y + part (iblk m c 0 t) (iblk m c 1 t) i) (congrFun (Memref.IsWhole.read_unread _ _) i))
    · rw [outsAt0_B m c t h h1]
      frame_out
      exact (step_apply _ _ _ i).trans (congrArg (fun y : EReal => y + part (iblk m c 0 t) (iblk m c 1 t) i) (congrFun (Memref.IsWhole.read_unread _ _) i))

/-- What the last step of a run stores. -/
theorem stored (c : Dev nD) (t : Fin cfg0.N) (h : t.val % 16 = 15) (j : S512x512.Idx) :
    (outsAt0 m c t.val t.isLt).1 j = (outsAt0 m c t.val t.isLt).2 j := by
  have h0 : ¬ t.val % 16 = 0 := by omega
  rw [outsAt0_C m c t h0 h]
  frame_out

theorem final (c : Dev nD) : (dats m 0 c).arrAt 2 cfg0.N = product (V m c main_arg0) (V m c main_arg1) := by
  refine (dats m 0 c).arrAt_eq_of_covers 2 _ (by decide +kernel) fun t hf y => ?_
  have h : t.val % 16 = 15 := (flush0_2 t).mp hf
  have hN : t.val < 704 := lt_of_lt_of_eq t.isLt N_0
  blk_simp
  rw [after0_2]
  refine (stored m c t h y).trans ?_
  rw [carried m c t h y]
  unfold product part
  refine Fin.sum_mul_add_congr fun s k hl => ?_
  refine congrArg₂ (fun x y : EReal => x * y) ?_ ?_
  · blk_simp [iblk]
    congr 1
    blk_ext [index_left, index_out]
  · blk_simp [iblk]
    congr 1
    blk_ext [index_right, index_out]

/-- After the run the result is the product. -/
theorem run_product : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.FfnDwdRows

namespace Cert.FfnDwdRef

open Idealize.ShloMosaic Idealize.ShloMosaic.TcCoe Idealize.SL.Sem
open Cert.FfnDwdReferenceIdeal Cert.FfnDwdReferenceIdeal.Gen
open Cert.FfnDwdRows (exists_place product)

theorem product_eq (a : FVec Ideal S8192x5632 .bf16) (b : FVec Ideal S8192x2048 .f32) : Host.dotGeneral dot_S5632x8192_S8192x2048_S5632x2048_1_0_0_1_n_n none (transpose S5632x8192 [1, 0] (extf .f32 a bitsLt_bf16_f32) transposes_S8192x5632_S5632x8192_1_0) b = product a b := by
  funext j
  obtain ⟨r, c, rfl⟩ := exists_place j
  pointwise []
  rfl

end Cert.FfnDwdRef

namespace Cert.FfnDwdRows

open Idealize.ShloMosaic Idealize.ShloMosaic.TcCoe Idealize.SL.Sem

theorem frame_kernel : Cert.quiescent_FfnDwd (hFfnDwd := Cert.FfnDwd.Gen.facts) := fun m g _ => Cert.FfnDwd.Gen.frame (F := Bits) m g

theorem frame_kernelIdeal : Cert.quiescent_FfnDwdIdeal (hFfnDwdIdeal := Cert.FfnDwdIdeal.Gen.facts) := fun m g _ => Cert.FfnDwdIdeal.Gen.frame (F := Ideal) m g

theorem frame_referenceIdeal : Cert.quiescent_FfnDwdReferenceIdeal (hFfnDwdReferenceIdeal := Cert.FfnDwdReferenceIdeal.Gen.facts) := fun m g _ =>
  (θ_run Cert.FfnDwdReferenceIdeal.defs _ _).mono (fun r h => ⟨fun c => (h c).2, sem_eq_zero_of_no_sems rfl r.2⟩) (Cert.FfnDwdReferenceIdeal.Value.run (F := Ideal) m g)

theorem value_ideal : Cert.algebraic_FfnDwdIdeal_FfnDwdReferenceIdeal (hFfnDwdIdeal := Cert.FfnDwdIdeal.Gen.facts) (hFfnDwdReferenceIdeal := Cert.FfnDwdReferenceIdeal.Gen.facts) :=
  fun m g m' g' _ hm => ⟨_, run_product m g,
    (θ_run Cert.FfnDwdReferenceIdeal.defs _ _).mono (fun _ h c => ⟨(h c).1.trans (by
      rw [← (hm c).1, ← (hm c).2]
      exact Cert.FfnDwdRef.product_eq _ _), (h c).2⟩)
      (Cert.FfnDwdReferenceIdeal.Value.run (F := Ideal) m' g')⟩

end Cert.FfnDwdRows

end
-- ==== Proof.FfnDhClaims.lean ====
/-
# The gradient of the feed-forward's normed stream, certified
-/
module

public import proofs.«01_k».proof.Defs
public import proofs.«01_k».proof.Proof.Gen.FfnDh
public import proofs.«01_k».proof.Proof.Gen.FfnDh.Frame
public import proofs.«01_k».proof.Proof.Gen.FfnDhIdeal
public import proofs.«01_k».proof.Proof.Gen.FfnDhIdeal.Frame
public import proofs.«01_k».proof.Proof.Gen.FfnDhIdeal.Value
public import proofs.«01_k».proof.Proof.Gen.FfnDhReferenceIdeal
public import proofs.«01_k».proof.Proof.Gen.FfnDhReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnDhRows

open Idealize.ShloMosaic Idealize.ShloMosaic.TcCoe Idealize.SL.Sem
open Cert.FfnDhIdeal Cert.FfnDhIdeal.Gen Cert.FfnDhIdeal.Value

/-- A gradient through transposed weights. -/
def through (d : S8192x5632.Idx → Elt Ideal .bf16) (w : S2048x5632.Idx → Elt Ideal .bf16) : S8192x2048.Idx → Elt Ideal .f32 :=
  fun j => (∑ k : Fin 5632, d (ix2 (j 0) k) * w (ix2 (j 1) k) : EReal)

/-- The gradient of the normed stream: the gradients of the two products, through the weights of each. -/
def byNormed (d : S8192x5632.Idx → Elt Ideal .bf16) (w : S2048x5632.Idx → Elt Ideal .bf16) (e : S8192x5632.Idx → Elt Ideal .bf16) (v : S2048x5632.Idx → Elt Ideal .bf16) :
    S8192x2048.Idx → Elt Ideal .f32 := fun j => (through d w j + through e v j : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

/-- A block's product. -/
def part (a b : S512x512.Idx → EReal) (j : S512x512.Idx) : EReal := ∑ k : Fin 512, a (ix2 (j 0) k) * b (ix2 (j 1) k)

theorem init_apply (j : S512x512.Idx) : k0_pay1 (F := Ideal) j = (0 : EReal) := by
  obtain ⟨r, c, rfl⟩ := exists_place j
  pointwise [k0_pay1]

theorem step_apply (a b a' b' : Vec Ideal S512x512 .bf16) (acc : Vec Ideal S512x512 .f32) (j : S512x512.Idx) :
    k0_pay2 a b a' b' acc j = (acc j + (part a b j + part a' b' j) : EReal) := by
  obtain ⟨r, c, rfl⟩ := exists_place j
  pointwise [k0_pay2]
  rfl

/-- Where the blocks lie, step by step. -/
theorem index_gate : ∀ t : Fin cfg0.N, win0_0.index t = ![t.val / 44, t.val % 11] := (by decide +kernel : ∀ t : Fin grid0.N, _)
theorem index_gateWeights : ∀ t : Fin cfg0.N, win0_1.index t = ![t.val / 11 % 4, t.val % 11] := (by decide +kernel : ∀ t : Fin grid0.N, _)
theorem index_up : ∀ t : Fin cfg0.N, win0_2.index t = ![t.val / 44, t.val % 11] := (by decide +kernel : ∀ t : Fin grid0.N, _)
theorem index_upWeights : ∀ t : Fin cfg0.N, win0_3.index t = ![t.val / 11 % 4, t.val % 11] := (by decide +kernel : ∀ t : Fin grid0.N, _)
theorem index_out : ∀ t : Fin cfg0.N, win0_4.index t = ![t.val / 44, t.val / 11 % 4] := (by decide +kernel : ∀ t : Fin grid0.N, _)

variable (m : (ℓ : Loc nD τ sig) → Buf (Elt Ideal) ℓ) (ρ : Dev nD → PrngReg)

/-- What a step adds. -/
def added (c : Dev nD) (t : Fin cfg0.N) (j : S512x512.Idx) : EReal := part (iblk m c 0 t) (iblk m c 1 t) j + part (iblk m c 2 t) (iblk m c 3 t) j

/-- What the blocks of a run add up to. -/
theorem carried (c : Dev nD) (t : Fin cfg0.N) (h : t.val % 11 = 10) (j : S512x512.Idx) :
    (outsAt0 m c t.val t.isLt).2 j = (∑ s : Fin 11, added m c ⟨11 * (t.val / 11) + s.val, Pipeline.run_point_lt_of_flush t h s⟩ j : EReal) := by
  refine (Pipeline.eq_sum_fin_of_reset_step_apply_of_flush (fun n h => (outsAt0 m c n h).2) 11 (fun _ => (0 : EReal)) (fun t j => added m c t j)
    (fun t h i => ?_) (fun t h i => ?_) t h j).trans (zero_add _)
  · have h1 : ¬ t.val % 11 = 10 := by omega
    rw [outsAt0_A m c t h h1]
    frame_out
    exact (step_apply _ _ _ _ _ i).trans (congrArg (fun y : EReal => y + added m c t i) (init_apply i))
  · by_cases h1 : t.val % 11 = 10
    · rw [outsAt0_C m c t h h1]
      frame_out
      exact (step_apply _ _ _ _ _ i).trans (congrArg (fun y : EReal => y + added m c t i) (congrFun (Memref.IsWhole.read_unread _ _) i))
    · rw [outsAt0_B m c t h h1]
      frame_out
      exact (step_apply _ _ _ _ _ i).trans (congrArg (fun y : EReal => y + added m c t i) (congrFun (Memref.IsWhole.read_unread _ _) i))

/-- What the last step of a run stores. -/
theorem stored (c : Dev nD) (t : Fin cfg0.N) (h : t.val % 11 = 10) (j : S512x512.Idx) :
    (outsAt0 m c t.val t.isLt).1 j = (outsAt0 m c t.val t.isLt).2 j := by
  have h0 : ¬ t.val % 11 = 0 := by omega
  rw [outsAt0_C m c t h0 h]
  frame_out

theorem final (c : Dev nD) : (dats m 0 c).arrAt 4 cfg0.N = byNormed (V m c main_arg0) (V m c main_arg1) (V m c main_arg2) (V m c main_arg3) := by
  refine (dats m 0 c).arrAt_eq_of_covers 4 _ (by decide +kernel) fun t hf y => ?_
  have h : t.val % 11 = 10 := (flush0_4 t).mp hf
  have hN : t.val < 704 := lt_of_lt_of_eq t.isLt N_0
  blk_simp
  rw [after0_4]
  refine (stored m c t h y).trans ?_
  rw [carried m c t h y]
  unfold added byNormed through part
  refine (Finset.sum_add_distrib (M := EReal)).trans (congrArg₂ (fun x y : EReal => x + y) (Fin.sum_mul_add_congr fun s k hl => ?_) (Fin.sum_mul_add_congr fun s k hl => ?_))
  · refine congrArg₂ (fun x y : EReal => x * y) ?_ ?_
    · blk_simp [iblk]
      congr 1
      blk_ext [index_gate, index_out]
    · blk_simp [iblk]
      congr 1
      blk_ext [index_gateWeights, index_out]
  · refine congrArg₂ (fun x y : EReal => x * y) ?_ ?_
    · blk_simp [iblk]
      congr 1
      blk_ext [index_up, index_out]
    · blk_simp [iblk]
      congr 1
      blk_ext [index_upWeights, index_out]

/-- After the run the result is the gradient of the normed stream. -/
theorem run_byNormed : θ_run defs (onTc (τ := τ) (main (F := Ideal))) ⟨m, fun _ => 0, ρ⟩ fun r => ∀ c : Dev nD,
      r.2.mem ((c : Thread nD τ).loc main_v0)
        = byNormed (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.FfnDhRows

namespace Cert.FfnDhRef

open Idealize.ShloMosaic Idealize.ShloMosaic.TcCoe Idealize.SL.Sem
open Cert.FfnDhReferenceIdeal Cert.FfnDhReferenceIdeal.Gen
open Cert.FfnDhRows (exists_place through byNormed)

theorem through_eq (d : FVec Ideal S8192x5632 .bf16) (w : FVec Ideal S2048x5632 .bf16) :
    Host.dotGeneral dot_S8192x5632_S5632x2048_S8192x2048_1_0_0_1_n_n none (extf .f32 d bitsLt_bf16_f32)
      (transpose S5632x2048 [1, 0] (extf .f32 w bitsLt_bf16_f32) transposes_S2048x5632_S5632x2048_1_0) = through d w := by
  funext j
  obtain ⟨r, c, rfl⟩ := exists_place j
  pointwise []
  rfl

end Cert.FfnDhRef

namespace Cert.FfnDhRows

open Idealize.ShloMosaic Idealize.ShloMosaic.TcCoe Idealize.SL.Sem

theorem frame_kernel : Cert.quiescent_FfnDh (hFfnDh := Cert.FfnDh.Gen.facts) := fun m g _ => Cert.FfnDh.Gen.frame (F := Bits) m g

theorem frame_kernelIdeal : Cert.quiescent_FfnDhIdeal (hFfnDhIdeal := Cert.FfnDhIdeal.Gen.facts) := fun m g _ => Cert.FfnDhIdeal.Gen.frame (F := Ideal) m g

theorem frame_referenceIdeal : Cert.quiescent_FfnDhReferenceIdeal (hFfnDhReferenceIdeal := Cert.FfnDhReferenceIdeal.Gen.facts) := fun m g _ =>
  (θ_run Cert.FfnDhReferenceIdeal.defs _ _).mono (fun r h => ⟨fun c => (h c).2, sem_eq_zero_of_no_sems rfl r.2⟩) (Cert.FfnDhReferenceIdeal.Value.run (F := Ideal) m g)

theorem value_ideal : Cert.algebraic_FfnDhIdeal_FfnDhReferenceIdeal (hFfnDhIdeal := Cert.FfnDhIdeal.Gen.facts) (hFfnDhReferenceIdeal := Cert.FfnDhReferenceIdeal.Gen.facts) :=
  fun m g m' g' _ hm => ⟨_, run_byNormed m g,
    (θ_run Cert.FfnDhReferenceIdeal.defs _ _).mono (fun _ h c => ⟨(h c).1.trans (by
      rw [← (hm c).1, ← (hm c).2.1, ← (hm c).2.2.1, ← (hm c).2.2.2]
      rw [Cert.FfnDhRef.through_eq, Cert.FfnDhRef.through_eq]
      rfl), (h c).2⟩)
      (Cert.FfnDhReferenceIdeal.Value.run (F := Ideal) m' g')⟩

end Cert.FfnDhRows

end
-- ==== Proof.FfnDwgClaims.lean ====
/-
# The gradients of the feed-forward's first weights, certified
-/
module

public import proofs.«01_k».proof.Defs
public import proofs.«01_k».proof.Proof.Gen.FfnDwg
public import proofs.«01_k».proof.Proof.Gen.FfnDwg.Frame
public import proofs.«01_k».proof.Proof.Gen.FfnDwgIdeal
public import proofs.«01_k».proof.Proof.Gen.FfnDwgIdeal.Frame
public import proofs.«01_k».proof.Proof.Gen.FfnDwgIdeal.Value
public import proofs.«01_k».proof.Proof.Gen.FfnDwgReferenceIdeal
public import proofs.«01_k».proof.Proof.Gen.FfnDwgReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnDwgRows

open Idealize.ShloMosaic Idealize.ShloMosaic.TcCoe Idealize.SL.Sem
open Cert.FfnDwgIdeal Cert.FfnDwgIdeal.Gen Cert.FfnDwgIdeal.Value

/-- The normed stream against the gradient of a product, over the rows. -/
def product (a : S8192x2048.Idx → Elt Ideal .bf16) (b : S8192x5632.Idx → Elt Ideal .bf16) : S2048x5632.Idx → Elt Ideal .f32 :=
  fun j => (∑ k : Fin 8192, a (ix2 k (j 0)) * b (ix2 k (j 1)) : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

/-- A block's product. -/
def part (a b : S512x512.Idx → EReal) (j : S512x512.Idx) : EReal := ∑ k : Fin 512, a (ix2 k (j 0)) * b (ix2 k (j 1))

theorem init_apply (j : S512x512.Idx) : k0_pay1 (F := Ideal) j = (0 : EReal) := by
  obtain ⟨r, c, rfl⟩ := exists_place j
  pointwise [k0_pay1]

theorem step_apply (a : Vec Ideal S512x512 .bf16) (b : Vec Ideal S512x512 .bf16) (acc : Vec Ideal S512x512 .f32) (j : S512x512.Idx) :
    k0_pay2 a b acc j = (acc j + part a b j : EReal) := by
  obtain ⟨r, c, rfl⟩ := exists_place j
  pointwise [k0_pay2]
  rfl

/-- Where the blocks lie, step by step. -/
theorem index_left : ∀ t : Fin cfg0.N, win0_0.index t = ![t.val % 16, t.val / 176] := (by decide +kernel : ∀ t : Fin grid0.N, _)
theorem index_right : ∀ t : Fin cfg0.N, win0_1.index t = ![t.val % 16, t.val / 16 % 11] := (by decide +kernel : ∀ t : Fin grid0.N, _)
theorem index_out : ∀ t : Fin cfg0.N, win0_2.index t = ![t.val / 176, t.val / 16 % 11] := (by decide +kernel : ∀ t : Fin grid0.N, _)

variable (m : (ℓ : Loc nD τ sig) → Buf (Elt Ideal) ℓ) (ρ : Dev nD → PrngReg)

/-- What the blocks of a run add up to. -/
theorem carried (c : Dev nD) (t : Fin cfg0.N) (h : t.val % 16 = 15) (j : S512x512.Idx) :
    (outsAt0 m c t.val t.isLt).2 j
      = (∑ s : Fin 16, part (iblk m c 0 ⟨16 * (t.val / 16) + s.val, Pipeline.run_point_lt_of_flush t h s⟩) (iblk m c 1 ⟨16 * (t.val / 16) + s.val, Pipeline.run_point_lt_of_flush t h s⟩) j : EReal) := by
  refine (Pipeline.eq_sum_fin_of_reset_step_apply_of_flush (fun n h => (outsAt0 m c n h).2) 16 (fun _ => (0 : EReal)) (fun t j => part (iblk m c 0 t) (iblk m c 1 t) j)
    (fun t h i => ?_) (fun t h i => ?_) t h j).trans (zero_add _)
  · have h1 : ¬ t.val % 16 = 15 := by omega
    rw [outsAt0_A m c t h h1]
    frame_out
    exact (step_apply _ _ _ i).trans (congrArg (fun y : EReal => y + part (iblk m c 0 t) (iblk m c 1 t) i) (init_apply i))
  · by_cases h1 : t.val % 16 = 15
    · rw [outsAt0_C m c t h h1]
      frame_out
      exact (step_apply _ _ _ i).trans (congrArg (fun y : EReal => y + part (iblk m c 0 t) (iblk m c 1 t) i) (congrFun (Memref.IsWhole.read_unread _ _) i))
    · rw [outsAt0_B m c t h h1]
      frame_out
      exact (step_apply _ _ _ i).trans (congrArg (fun y : EReal => y + part (iblk m c 0 t) (iblk m c 1 t) i) (congrFun (Memref.IsWhole.read_unread _ _) i))

/-- What the last step of a run stores. -/
theorem stored (c : Dev nD) (t : Fin cfg0.N) (h : t.val % 16 = 15) (j : S512x512.Idx) :
    (outsAt0 m c t.val t.isLt).1 j = (outsAt0 m c t.val t.isLt).2 j := by
  have h0 : ¬ t.val % 16 = 0 := by omega
  rw [outsAt0_C m c t h0 h]
  frame_out

theorem final (c : Dev nD) : (dats m 0 c).arrAt 2 cfg0.N = product (V m c main_arg0) (V m c main_arg1) := by
  refine (dats m 0 c).arrAt_eq_of_covers 2 _ (by decide +kernel) fun t hf y => ?_
  have h : t.val % 16 = 15 := (flush0_2 t).mp hf
  have hN : t.val < 704 := lt_of_lt_of_eq t.isLt N_0
  blk_simp
  rw [after0_2]
  refine (stored m c t h y).trans ?_
  rw [carried m c t h y]
  unfold product part
  refine Fin.sum_mul_add_congr fun s k hl => ?_
  refine congrArg₂ (fun x y : EReal => x * y) ?_ ?_
  · blk_simp [iblk]
    congr 1
    blk_ext [index_left, index_out]
  · blk_simp [iblk]
    congr 1
    blk_ext [index_right, index_out]

/-- After the run the result is the product. -/
theorem run_product : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.FfnDwgRows

namespace Cert.FfnDwgRef

open Idealize.ShloMosaic Idealize.ShloMosaic.TcCoe Idealize.SL.Sem
open Cert.FfnDwgReferenceIdeal Cert.FfnDwgReferenceIdeal.Gen
open Cert.FfnDwgRows (exists_place product)

theorem product_eq (a : FVec Ideal S8192x2048 .bf16) (b : FVec Ideal S8192x5632 .bf16) : Host.dotGeneral dot_S2048x8192_S8192x5632_S2048x5632_1_0_0_1_n_n none (transpose S2048x8192 [1, 0] (extf .f32 a bitsLt_bf16_f32) transposes_S8192x2048_S2048x8192_1_0) (extf .f32 b bitsLt_bf16_f32) = product a b := by
  funext j
  obtain ⟨r, c, rfl⟩ := exists_place j
  pointwise []
  rfl

end Cert.FfnDwgRef

namespace Cert.FfnDwgRows

open Idealize.ShloMosaic Idealize.ShloMosaic.TcCoe Idealize.SL.Sem

theorem frame_kernel : Cert.quiescent_FfnDwg (hFfnDwg := Cert.FfnDwg.Gen.facts) := fun m g _ => Cert.FfnDwg.Gen.frame (F := Bits) m g

theorem frame_kernelIdeal : Cert.quiescent_FfnDwgIdeal (hFfnDwgIdeal := Cert.FfnDwgIdeal.Gen.facts) := fun m g _ => Cert.FfnDwgIdeal.Gen.frame (F := Ideal) m g

theorem frame_referenceIdeal : Cert.quiescent_FfnDwgReferenceIdeal (hFfnDwgReferenceIdeal := Cert.FfnDwgReferenceIdeal.Gen.facts) := fun m g _ =>
  (θ_run Cert.FfnDwgReferenceIdeal.defs _ _).mono (fun r h => ⟨fun c => (h c).2, sem_eq_zero_of_no_sems rfl r.2⟩) (Cert.FfnDwgReferenceIdeal.Value.run (F := Ideal) m g)

theorem value_ideal : Cert.algebraic_FfnDwgIdeal_FfnDwgReferenceIdeal (hFfnDwgIdeal := Cert.FfnDwgIdeal.Gen.facts) (hFfnDwgReferenceIdeal := Cert.FfnDwgReferenceIdeal.Gen.facts) :=
  fun m g m' g' _ hm => ⟨_, run_product m g,
    (θ_run Cert.FfnDwgReferenceIdeal.defs _ _).mono (fun _ h c => ⟨(h c).1.trans (by
      rw [← (hm c).1, ← (hm c).2]
      exact Cert.FfnDwgRef.product_eq _ _), (h c).2⟩)
      (Cert.FfnDwgReferenceIdeal.Value.run (F := Ideal) m' g')⟩

end Cert.FfnDwgRows

end
-- ==== Proof.FfnNormBwdClaims.lean ====
/-
# The gradient of the feed-forward's norm, certified
-/
module

public import proofs.«01_k».proof.Defs
public import proofs.«01_k».proof.Proof.Gen.FfnNormBwd
public import proofs.«01_k».proof.Proof.Gen.FfnNormBwd.Frame
public import proofs.«01_k».proof.Proof.Gen.FfnNormBwdIdeal
public import proofs.«01_k».proof.Proof.Gen.FfnNormBwdIdeal.Frame
public import proofs.«01_k».proof.Proof.Gen.FfnNormBwdIdeal.Value
public import proofs.«01_k».proof.Proof.Gen.FfnNormBwdReferenceIdeal
public import proofs.«01_k».proof.Proof.Gen.FfnNormBwdReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnNormBwdRows

open Idealize.ShloMosaic Idealize.ShloMosaic.TcCoe Idealize.SL.Sem
open Cert.FfnNormBwdIdeal Cert.FfnNormBwdIdeal.Gen Cert.FfnNormBwdIdeal.Value

/-- A row's scale, and the gradient of the row that is normed by it. -/
def scale (x : Fin 2048 → EReal) : EReal :=
  Ideal.rsqrt (Ideal.div (∑ k : Fin 2048, x k * x k) (Ideal.ofBits .f32 0x45000000#32) + Ideal.ofBits .f32 0x358637BD#32)
def rowGrad (x g y : Fin 2048 → EReal) (c : Fin 2048) : EReal :=
  scale x * (y c * g c - x c * scale x * Ideal.div (∑ k : Fin 2048, y k * g k * (x k * scale x)) (Ideal.ofBits .f32 0x45000000#32))

/-- The gradient of the stream: what passes by the feed-forward, and what passes through its norm. -/
def byStream (x : S8192x2048.Idx → Elt Ideal .f32) (g : S1x2048.Idx → Elt Ideal .f32) (y p : S8192x2048.Idx → Elt Ideal .f32) : S8192x2048.Idx → Elt Ideal .f32 := fun j =>
  (p j + rowGrad (fun k => x (ix2 (j 0) k)) (fun k => g (ix2 0 k)) (fun k => y (ix2 (j 0) k)) (j 1) : EReal)

/-- The gradient of the gains: over the rows. -/
def byGain (x y : S8192x2048.Idx → Elt Ideal .f32) : S1x2048.Idx → Elt Ideal .f32 := fun j =>
  (∑ r : Fin 8192, y (ix2 r (j 1)) * (x (ix2 r (j 1)) * scale fun k => x (ix2 r k)) : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem scale_apply (v0 : Vec Ideal S256x2048 .f32) (r : Fin 256) : k0_pay1 v0 (ix2 r 0) = scale fun k => v0 (ix2 r k) := by
  pointwise [k0_pay1]
  rfl

theorem normed_apply (v0 : Vec Ideal S256x2048 .f32) (r : Fin 256) (c : Fin 2048) : k0_pay2 v0 (ix2 r c) = (v0 (ix2 r c) * scale fun k => v0 (ix2 r k) : EReal) := by
  pointwise [k0_pay2]
  rw [scale_apply]

theorem stream_apply (v0 : Vec Ideal S256x2048 .f32) (v1 : Vec Ideal S1x2048 .f32) (v2 v26 : Vec Ideal S256x2048 .f32) (r : Fin 256) (c : Fin 2048) :
    k0_pay3 v0 v1 v2 v26 (ix2 r c) = (v26 (ix2 r c) + rowGrad (fun k => v0 (ix2 r k)) (fun k => v1 (ix2 0 k)) (fun k => v2 (ix2 r k)) c : EReal) := by
  pointwise [k0_pay3]
  simp only [normed_apply, scale_apply]
  rfl

/-- What a step adds to the gradient of the gains. -/
def gainPart (x y : S256x2048.Idx → EReal) (j : S1x2048.Idx) : EReal := ∑ r : Fin 256, y (ix2 r (j 1)) * (x (ix2 r (j 1)) * scale fun k => x (ix2 r k))

theorem gain_init (j : S1x2048.Idx) : k0_pay4 (F := Ideal) j = (0 : EReal) := by
  obtain ⟨r, c, rfl⟩ := exists_place j
  pointwise [k0_pay4]

theorem gain_step (v0 v2 : Vec Ideal S256x2048 .f32) (acc : Vec Ideal S1x2048 .f32) (j : S1x2048.Idx) :
    k0_pay5 v0 v2 acc j = (acc j + gainPart v0 v2 j : EReal) := by
  obtain ⟨q, c, rfl⟩ := exists_place j
  obtain rfl : q = 0 := Subsingleton.elim _ _
  pointwise [k0_pay5]
  simp only [normed_apply]
  rfl

/-- Where the blocks lie, step by step. -/
theorem index_rows : ∀ t : Fin cfg0.N, win0_0.index t = ![t.val, 0] := (by decide +kernel : ∀ t : Fin grid0.N, _)
theorem index_gains : ∀ t : Fin cfg0.N, win0_1.index t = ![0, 0] := (by decide +kernel : ∀ t : Fin grid0.N, _)
theorem index_gradient : ∀ t : Fin cfg0.N, win0_2.index t = ![t.val, 0] := (by decide +kernel : ∀ t : Fin grid0.N, _)
theorem index_passed : ∀ t : Fin cfg0.N, win0_3.index t = ![t.val, 0] := (by decide +kernel : ∀ t : Fin grid0.N, _)
theorem index_byStream : ∀ t : Fin cfg0.N, win0_4.index t = ![t.val, 0] := (by decide +kernel : ∀ t : Fin grid0.N, _)
theorem index_byGain : ∀ t : Fin cfg0.N, win0_5.index t = ![0, 0] := (by decide +kernel : ∀ t : Fin grid0.N, _)

variable (m : (ℓ : Loc nD τ sig) → Buf (Elt Ideal) ℓ) (ρ : Dev nD → PrngReg)

/-- What a step stores of the gradient of the stream. -/
theorem stream_stored (c : Dev nD) (t : Fin cfg0.N) (j : S256x2048.Idx) :
    (outsAt0 m c t.val t.isLt).1 j = k0_pay3 (iblk m c 0 t) (iblk m c 1 t) (iblk m c 2 t) (iblk m c 3 t) j := by
  by_cases h : t.val % 32 = 0
  · rw [outsAt0_A m c t h]
    frame_out
  · rw [outsAt0_B m c t h]
    frame_out

/-- What the steps add up to, for the gains. -/
theorem gain_carried (c : Dev nD) (t : Fin cfg0.N) (h : t.val % 32 = 31) (j : S1x2048.Idx) :
    (outsAt0 m c t.val t.isLt).2 j = (∑ s : Fin 32, gainPart (iblk m c 0 ⟨32 * (t.val / 32) + s.val, Pipeline.run_point_lt_of_flush t h s⟩) (iblk m c 2 ⟨32 * (t.val / 32) + s.val, Pipeline.run_point_lt_of_flush t h s⟩) j : EReal) := by
  refine (Pipeline.eq_sum_fin_of_reset_step_apply_of_flush (fun n h => (outsAt0 m c n h).2) 32 (fun _ => (0 : EReal)) (fun t j => gainPart (iblk m c 0 t) (iblk m c 2 t) j)
    (fun t h i => ?_) (fun t h i => ?_) t h j).trans (zero_add _)
  · rw [outsAt0_A m c t h]
    frame_out
    exact (gain_step _ _ _ i).trans (congrArg (fun y : EReal => y + gainPart (iblk m c 0 t) (iblk m c 2 t) i) (gain_init i))
  · rw [outsAt0_B m c t h]
    frame_out
    exact gain_step _ _ _ i

theorem final_stream (c : Dev nD) : (dats m 0 c).arrAt 4 cfg0.N = byStream (V m c main_arg0) (V m c main_arg1) (V m c main_arg2) (V m c main_arg3) := by
  refine (dats m 0 c).arrAt_eq_of_covers 4 _ (by decide +kernel) fun t hf y => ?_
  blk_simp
  rw [after0_4]
  refine (stream_stored m c t y).trans ?_
  obtain ⟨r, k, rfl⟩ := exists_place y
  refine (stream_apply _ _ _ _ r k).trans ?_
  have hx (l : Fin 2048) : iblk m c 0 t (ix2 r l) = V m c main_arg0 (ix2 ((win0_4.blk t).view.emb (ix2 r k) 0) l) := by
    blk_simp [iblk]
    congr 1
    blk_ext [index_rows, index_byStream]
  have hg (l : Fin 2048) : iblk m c 1 t (ix2 0 l) = V m c main_arg1 (ix2 0 l) := by
    blk_simp [iblk]
    congr 1
    blk_ext [index_gains]
  have hy (l : Fin 2048) : iblk m c 2 t (ix2 r l) = V m c main_arg2 (ix2 ((win0_4.blk t).view.emb (ix2 r k) 0) l) := by
    blk_simp [iblk]
    congr 1
    blk_ext [index_gradient, index_byStream]
  have hp : iblk m c 3 t (ix2 r k) = V m c main_arg3 ((win0_4.blk t).view.emb (ix2 r k)) := by
    blk_simp [iblk]
    congr 1
    blk_ext [index_passed, index_byStream]
  have hk : (win0_4.blk t).view.emb (ix2 r k) 1 = k := by
    refine Fin.ext ?_
    blk_simp [index_byStream]
  unfold byStream
  refine congrArg₂ (fun x y : EReal => x + y) hp ?_
  rw [funext hx, funext hg, funext hy]
  exact congrArg (rowGrad _ _ _) hk.symm

theorem final_gain (c : Dev nD) : (dats m 0 c).arrAt 5 cfg0.N = byGain (V m c main_arg0) (V m c main_arg2) := by
  refine (dats m 0 c).arrAt_eq_of_covers 5 _ (by decide +kernel) fun t hf y => ?_
  have h : t.val % 32 = 31 := (flush0_5 t).mp hf
  have hN : t.val < 32 := lt_of_lt_of_eq t.isLt N_0
  blk_simp
  rw [after0_5]
  refine (gain_carried m c t h y).trans ?_
  obtain ⟨q, a, rfl⟩ := exists_place y
  unfold byGain gainPart
  refine Fin.sum_mul_add_congr fun s k hl => ?_
  refine congrArg₂ (fun x y : EReal => x * y) ?_ (congrArg₂ (fun x y : EReal => x * y) ?_ (congrArg scale (funext fun l => ?_)))
  · blk_simp [iblk]
    congr 1
    blk_ext [index_gradient, index_byGain]
  · blk_simp [iblk]
    congr 1
    blk_ext [index_rows, index_byGain]
  · blk_simp [iblk]
    congr 1
    blk_ext [index_rows, index_byGain]

/-- After the run the results are the gradients of the stream and of the gains. -/
theorem run_gradients : θ_run defs (onTc (τ := τ) (main (F := Ideal))) ⟨m, fun _ => 0, ρ⟩ fun r => ∀ c : Dev nD,
      r.2.mem ((c : Thread nD τ).loc main_v0_0)
        = byStream (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = byGain (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_stream m c), (h c).2.1.trans (final_gain m c), (h c).2.2⟩) (run_blocks m ρ)

end Cert.FfnNormBwdRows

namespace Cert.FfnNormBwdRef

open Idealize.ShloMosaic Idealize.ShloMosaic.TcCoe Idealize.SL.Sem
open Cert.FfnNormBwdReferenceIdeal Cert.FfnNormBwdReferenceIdeal.Gen
open Cert.FfnNormBwdRows (exists_place scale rowGrad byStream byGain)

variable (x : FVec Ideal S8192x2048 .f32) (g : FVec Ideal S1x2048 .f32) (y p : FVec Ideal S8192x2048 .f32)

/-- The reference's sums over a row, and the scale of every row. -/
def hostSum (v : FVec Ideal S8192x2048 .f32) : FVec Ideal S8192 .f32 := Host.reduceAdd v (constant S_ .f32 0x00000000#32) reducesTo_S8192x2048_S8192_d1 h_S_
def hostMean (v : FVec Ideal S8192x2048 .f32) : FVec Ideal S8192x1 .f32 :=
  Host.divf (broadcastInDim S8192x1 ![0] bcast_S8192_S8192x1_0 (hostSum v)) (broadcastInDim S8192x1 ![] bcast_S_S8192x1 (constant S_ .f32 0x45000000#32))
def hostScale : FVec Ideal S8192x1 .f32 :=
  Host.rsqrt (addf (hostMean (mulf x x)) (broadcastInDim S8192x1 ![] bcast_S_S8192x1 (constant S_ .f32 0x358637BD#32)))
def hostWide (v : FVec Ideal S8192x1 .f32) : FVec Ideal S8192x2048 .f32 := broadcastInDim S8192x2048 ![0, 1] bcast_S8192x1_S8192x2048_0_1 v
def hostNormed : FVec Ideal S8192x2048 .f32 := mulf x (hostWide (hostScale x))
def hostGained : FVec Ideal S8192x2048 .f32 := mulf y (broadcastInDim S8192x2048 ![0, 1] bcast_S1x2048_S8192x2048_0_1 g)

theorem hostSum_apply (v : FVec Ideal S8192x2048 .f32) (r : Fin 8192) : hostSum v (ix1 r) = (∑ k : Fin 2048, v (ix2 r k) : EReal) := by
  pointwise [hostSum]

theorem hostMean_apply (v : FVec Ideal S8192x2048 .f32) (r : Fin 8192) :
    hostMean v (ix2 r 0) = Ideal.div (∑ k : Fin 2048, v (ix2 r k)) (Ideal.ofBits .f32 0x45000000#32) := by
  pointwise [hostMean]
  rw [hostSum_apply]

theorem hostScale_apply (r : Fin 8192) : hostScale x (ix2 r 0) = scale fun k => x (ix2 r k) := by
  pointwise [hostScale]
  rw [hostMean_apply]
  rfl

theorem hostNormed_apply (r : Fin 8192) (c : Fin 2048) : hostNormed x (ix2 r c) = (x (ix2 r c) * scale fun k => x (ix2 r k) : EReal) := by
  pointwise [hostNormed, hostWide]
  rw [hostScale_apply]

theorem hostGained_apply (r : Fin 8192) (c : Fin 2048) : hostGained g y (ix2 r c) = (y (ix2 r c) * g (ix2 0 c) : EReal) := by
  pointwise [hostGained]

theorem stream_eq :
    addf p (mulf (hostWide (hostScale x)) (subf (hostGained g y) (mulf (hostNormed x) (hostWide (hostMean (mulf (hostGained g y) (hostNormed x))))))) = byStream x g y p := by
  funext j
  obtain ⟨r, c, rfl⟩ := exists_place j
  pointwise [hostWide]
  rw [hostScale_apply, hostMean_apply, hostGained_apply, hostNormed_apply]
  unfold byStream rowGrad
  refine congrArg₂ (fun x y : EReal => x + y) rfl (congrArg₂ (fun x y : EReal => x * y) rfl (congrArg₂ (fun x y : EReal => x - y) rfl
    (congrArg₂ (fun x y : EReal => x * y) rfl (congrArg₂ Ideal.div (Finset.sum_congr rfl fun k _ => ?_) rfl))))
  exact congrArg₂ (fun x y : EReal => x * y) (hostGained_apply g y r k) (hostNormed_apply x r k)

theorem gain_eq :
    broadcastInDim S1x2048 ![1] bcast_S2048_S1x2048_1 (Host.reduceAdd (mulf y (hostNormed x)) (constant S_ .f32 0x00000000#32) reducesTo_S8192x2048_S2048_d0 h_S_) = byGain x y := by
  funext j
  obtain ⟨q, c, rfl⟩ := exists_place j
  pointwise []
  simp only [hostNormed_apply]
  rfl

end Cert.FfnNormBwdRef

namespace Cert.FfnNormBwdRows

open Idealize.ShloMosaic Idealize.ShloMosaic.TcCoe Idealize.SL.Sem

theorem frame_kernel : Cert.quiescent_FfnNormBwd (hFfnNormBwd := Cert.FfnNormBwd.Gen.facts) := fun m g _ => Cert.FfnNormBwd.Gen.frame (F := Bits) m g

theorem frame_kernelIdeal : Cert.quiescent_FfnNormBwdIdeal (hFfnNormBwdIdeal := Cert.FfnNormBwdIdeal.Gen.facts) := fun m g _ => Cert.FfnNormBwdIdeal.Gen.frame (F := Ideal) m g

theorem frame_referenceIdeal : Cert.quiescent_FfnNormBwdReferenceIdeal (hFfnNormBwdReferenceIdeal := Cert.FfnNormBwdReferenceIdeal.Gen.facts) := fun m g _ =>
  (θ_run Cert.FfnNormBwdReferenceIdeal.defs _ _).mono (fun r h => ⟨fun c => (h c).2.2, sem_eq_zero_of_no_sems rfl r.2⟩) (Cert.FfnNormBwdReferenceIdeal.Value.run (F := Ideal) m g)

theorem value_ideal : Cert.algebraic_FfnNormBwdIdeal_FfnNormBwdReferenceIdeal (hFfnNormBwdIdeal := Cert.FfnNormBwdIdeal.Gen.facts) (hFfnNormBwdReferenceIdeal := Cert.FfnNormBwdReferenceIdeal.Gen.facts) :=
  fun m g m' g' _ hm => ⟨_, _, run_gradients m g,
    (θ_run Cert.FfnNormBwdReferenceIdeal.defs _ _).mono (fun _ h c => ⟨(h c).1.trans (by
      rw [← (hm c).1, ← (hm c).2.1, ← (hm c).2.2.1, ← (hm c).2.2.2]
      exact Cert.FfnNormBwdRef.stream_eq _ _ _ _), (h c).2.1.trans (by
      rw [← (hm c).1, ← (hm c).2.2.1]
      exact Cert.FfnNormBwdRef.gain_eq _ _), (h c).2.2⟩)
      (Cert.FfnNormBwdReferenceIdeal.Value.run (F := Ideal) m' g')⟩

end Cert.FfnNormBwdRows

end
-- ==== Proof.FfnDownClaims.lean ====
/-
# The stream after the feed-forward, certified
-/
module

public import proofs.«01_k».proof.Defs
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnDownRows

open Idealize.ShloMosaic Idealize.ShloMosaic.TcCoe Idealize.SL.Sem
open Cert.FfnDownIdeal Cert.FfnDownIdeal.Gen Cert.FfnDownIdeal.Value

/-- The stream after the feed-forward: the stream before it, and the hidden units through the weights. -/
def stream (a : S8192x5632.Idx → Elt Ideal .bf16) (w : S5632x2048.Idx → Elt Ideal .bf16) (x : S8192x2048.Idx → Elt Ideal .f32) : S8192x2048.Idx → Elt Ideal .f32 :=
  fun j => (x j + ∑ k : Fin 5632, a (ix2 (j 0) k) * w (ix2 k (j 1)) : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

/-- A block's product. -/
def part (a w : S512x512.Idx → EReal) (j : S512x512.Idx) : EReal := ∑ k : Fin 512, a (ix2 (j 0) k) * w (ix2 k (j 1))

theorem init_apply (j : S512x512.Idx) : k0_pay1 (F := Ideal) j = (0 : EReal) := by
  obtain ⟨r, c, rfl⟩ := exists_place j
  pointwise [k0_pay1]

theorem step_apply (a w : Vec Ideal S512x512 .bf16) (acc : Vec Ideal S512x512 .f32) (j : S512x512.Idx) :
    k0_pay2 a w acc j = (acc j + part a w j : EReal) := by
  obtain ⟨r, c, rfl⟩ := exists_place j
  pointwise [k0_pay2]
  rfl

theorem last_apply (acc x : Vec Ideal S512x512 .f32) (j : S512x512.Idx) : k0_pay3 acc x j = (x j + acc j : EReal) := rfl

/-- Where the blocks lie, step by step. -/
theorem index_hidden : ∀ t : Fin cfg0.N, win0_0.index t = ![t.val / 44, t.val % 11] := (by decide +kernel : ∀ t : Fin grid0.N, _)
theorem index_weights : ∀ t : Fin cfg0.N, win0_1.index t = ![t.val % 11, t.val / 11 % 4] := (by decide +kernel : ∀ t : Fin grid0.N, _)
theorem index_before : ∀ t : Fin cfg0.N, win0_2.index t = ![t.val / 44, t.val / 11 % 4] := (by decide +kernel : ∀ t : Fin grid0.N, _)
theorem index_after : ∀ t : Fin cfg0.N, win0_3.index t = ![t.val / 44, t.val / 11 % 4] := (by decide +kernel : ∀ t : Fin grid0.N, _)

variable (m : (ℓ : Loc nD τ sig) → Buf (Elt Ideal) ℓ) (ρ : Dev nD → PrngReg)

/-- What the blocks of a run add up to. -/
theorem carried (c : Dev nD) (t : Fin cfg0.N) (h : t.val % 11 = 10) (j : S512x512.Idx) :
    (outsAt0 m c t.val t.isLt).2 j
      = (∑ s : Fin 11, part (iblk m c 0 ⟨11 * (t.val / 11) + s.val, Pipeline.run_point_lt_of_flush t h s⟩) (iblk m c 1 ⟨11 * (t.val / 11) + s.val, Pipeline.run_point_lt_of_flush t h s⟩) j : EReal) := by
  refine (Pipeline.eq_sum_fin_of_reset_step_apply_of_flush (fun n h => (outsAt0 m c n h).2) 11 (fun _ => (0 : EReal)) (fun t j => part (iblk m c 0 t) (iblk m c 1 t) j)
    (fun t h i => ?_) (fun t h i => ?_) t h j).trans (zero_add _)
  · have h1 : ¬ t.val % 11 = 10 := by omega
    rw [outsAt0_A m c t h h1]
    frame_out
    exact (step_apply _ _ _ i).trans (congrArg (· + part (iblk m c 0 t) (iblk m c 1 t) i) (init_apply i))
  · by_cases h1 : t.val % 11 = 10
    · rw [outsAt0_C m c t h h1]
      frame_out
      exact (step_apply _ _ _ i).trans (congrArg (fun y : EReal => y + part (iblk m c 0 t) (iblk m c 1 t) i) (congrFun (Memref.IsWhole.read_unread _ _) i))
    · rw [outsAt0_B m c t h h1]
      frame_out
      exact (step_apply _ _ _ i).trans (congrArg (fun y : EReal => y + part (iblk m c 0 t) (iblk m c 1 t) i) (congrFun (Memref.IsWhole.read_unread _ _) i))

/-- What the last step of a run stores. -/
theorem stored (c : Dev nD) (t : Fin cfg0.N) (h : t.val % 11 = 10) (j : S512x512.Idx) :
    (outsAt0 m c t.val t.isLt).1 j = k0_pay3 (outsAt0 m c t.val t.isLt).2 (iblk m c 2 t) j := by
  have h0 : ¬ t.val % 11 = 0 := by omega
  rw [outsAt0_C m c t h0 h]
  frame_out

theorem final (c : Dev nD) : (dats m 0 c).arrAt 3 cfg0.N = stream (V m c main_arg0) (V m c main_arg1) (V m c main_arg2) := by
  refine (dats m 0 c).arrAt_eq_of_covers 3 _ (by decide +kernel) fun t hf y => ?_
  have h : t.val % 11 = 10 := (flush0_3 t).mp hf
  have hN : t.val < 704 := lt_of_lt_of_eq t.isLt N_0
  blk_simp
  rw [after0_3]
  refine ((stored m c t h y).trans (last_apply _ _ y)).trans ?_
  rw [carried m c t h y]
  unfold stream part
  refine congrArg₂ (fun x y : EReal => x + y) ?_ ?_
  · blk_simp [iblk]
    congr 1
    blk_ext [index_before, index_after]
  · refine Fin.sum_mul_add_congr fun s k hl => ?_
    refine congrArg₂ (fun x y : EReal => x * y) ?_ ?_
    · blk_simp [iblk]
      congr 1
      blk_ext [index_hidden, index_after]
    · blk_simp [iblk]
      congr 1
      blk_ext [index_weights, index_after]

/-- After the run the result is the stream after the feed-forward. -/
theorem run_stream : θ_run defs (onTc (τ := τ) (main (F := Ideal))) ⟨m, fun _ => 0, ρ⟩ fun r => ∀ c : Dev nD,
      r.2.mem ((c : Thread nD τ).loc main_v0)
        = stream (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.FfnDownRows

namespace Cert.FfnDownRef

open Idealize.ShloMosaic Idealize.ShloMosaic.TcCoe Idealize.SL.Sem
open Cert.FfnDownReferenceIdeal Cert.FfnDownReferenceIdeal.Gen
open Cert.FfnDownRows (exists_place stream)

theorem stream_eq (a : FVec Ideal S8192x5632 .bf16) (w : FVec Ideal S5632x2048 .bf16) (x : FVec Ideal S8192x2048 .f32) :
    addf x (Host.dotGeneral dot_S8192x5632_S5632x2048_S8192x2048_1_0_0_1_n_n none (extf .f32 a bitsLt_bf16_f32) (extf .f32 w bitsLt_bf16_f32)) = stream a w x := by
  funext j
  obtain ⟨r, c, rfl⟩ := exists_place j
  pointwise []
  rfl

end Cert.FfnDownRef

namespace Cert.FfnDownRows

open Idealize.ShloMosaic Idealize.ShloMosaic.TcCoe Idealize.SL.Sem

theorem frame_kernel : Cert.quiescent_FfnDown (hFfnDown := Cert.FfnDown.Gen.facts) := fun m g _ => Cert.FfnDown.Gen.frame (F := Bits) m g

theorem frame_kernelIdeal : Cert.quiescent_FfnDownIdeal (hFfnDownIdeal := Cert.FfnDownIdeal.Gen.facts) := fun m g _ => Cert.FfnDownIdeal.Gen.frame (F := Ideal) m g

theorem frame_referenceIdeal : Cert.quiescent_FfnDownReferenceIdeal (hFfnDownReferenceIdeal := Cert.FfnDownReferenceIdeal.Gen.facts) := fun m g _ =>
  (θ_run Cert.FfnDownReferenceIdeal.defs _ _).mono (fun r h => ⟨fun c => (h c).2, sem_eq_zero_of_no_sems rfl r.2⟩) (Cert.FfnDownReferenceIdeal.Value.run (F := Ideal) m g)

theorem value_ideal : Cert.algebraic_FfnDownIdeal_FfnDownReferenceIdeal (hFfnDownIdeal := Cert.FfnDownIdeal.Gen.facts) (hFfnDownReferenceIdeal := Cert.FfnDownReferenceIdeal.Gen.facts) :=
  fun m g m' g' _ hm => ⟨_, run_stream m g,
    (θ_run Cert.FfnDownReferenceIdeal.defs _ _).mono (fun _ h c => ⟨(h c).1.trans (by
      rw [← (hm c).1, ← (hm c).2.1, ← (hm c).2.2]
      exact Cert.FfnDownRef.stream_eq _ _ _), (h c).2⟩)
      (Cert.FfnDownReferenceIdeal.Value.run (F := Ideal) m' g')⟩

end Cert.FfnDownRows

end
-- ==== Proof.FfnUpClaims.lean ====
/-
# The products and hidden units of the feed-forward, certified
-/
module

public import proofs.«01_k».proof.Defs
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpReferenceIdeal
public import proofs.«01_k».proof.Proof.Gen.FfnUpReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnUpRows

open Idealize.ShloMosaic Idealize.ShloMosaic.TcCoe Idealize.SL.Sem
open Cert.FfnUpIdeal Cert.FfnUpIdeal.Gen Cert.FfnUpIdeal.Value

/-- A product of the normed stream with a matrix of weights. -/
def product (h : S8192x2048.Idx → Elt Ideal .bf16) (w : S2048x5632.Idx → Elt Ideal .bf16) : S8192x5632.Idx → Elt Ideal .f32 :=
  fun j => (∑ k : Fin 2048, h (ix2 (j 0) k) * w (ix2 k (j 1)) : EReal)

/-- A hidden unit: the gate times its sigmoid, times the other product. -/
def gated (g u : EReal) : EReal := g * Ideal.div 1 (1 + Ideal.exp (-g)) * u

/-- The hidden units. -/
def units (h : S8192x2048.Idx → Elt Ideal .bf16) (w v : S2048x5632.Idx → Elt Ideal .bf16) : S8192x5632.Idx → Elt Ideal .bf16 :=
  fun j => gated (product h w j) (product h v j)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

/-- A block's product. -/
def part (a w : S512x512.Idx → EReal) (j : S512x512.Idx) : EReal := ∑ k : Fin 512, a (ix2 (j 0) k) * w (ix2 k (j 1))

theorem gate_init (j : S512x512.Idx) : k0_pay1 (F := Ideal) j = (0 : EReal) := by
  obtain ⟨r, c, rfl⟩ := exists_place j
  pointwise [k0_pay1]

theorem up_init (j : S512x512.Idx) : k0_pay2 (F := Ideal) j = (0 : EReal) := by
  obtain ⟨r, c, rfl⟩ := exists_place j
  pointwise [k0_pay2]

theorem gate_step (a w : Vec Ideal S512x512 .bf16) (acc : Vec Ideal S512x512 .f32) (j : S512x512.Idx) :
    k0_pay3 a acc w j = (acc j + part a w j : EReal) := by
  obtain ⟨r, c, rfl⟩ := exists_place j
  pointwise [k0_pay3]
  rfl

theorem up_step (a w : Vec Ideal S512x512 .bf16) (acc : Vec Ideal S512x512 .f32) (j : S512x512.Idx) :
    k0_pay4 a acc w j = (acc j + part a w j : EReal) := by
  obtain ⟨r, c, rfl⟩ := exists_place j
  pointwise [k0_pay4]
  rfl

theorem unit_apply (g u : Vec Ideal S512x512 .f32) (j : S512x512.Idx) : k0_pay5 g u j = gated (g j) (u j) := by
  obtain ⟨r, c, rfl⟩ := exists_place j
  pointwise [k0_pay5, gated]
  rw [zero_sub]

/-- Where the blocks lie, step by step. -/
theorem index_normed : ∀ t : Fin cfg0.N, win0_0.index t = ![t.val / 44, t.val % 4] := (by decide +kernel : ∀ t : Fin grid0.N, _)
theorem index_gate : ∀ t : Fin cfg0.N, win0_1.index t = ![t.val % 4, t.val / 4 % 11] := (by decide +kernel : ∀ t : Fin grid0.N, _)
theorem index_up : ∀ t : Fin cfg0.N, win0_2.index t = ![t.val % 4, t.val / 4 % 11] := (by decide +kernel : ∀ t : Fin grid0.N, _)
theorem index_first : ∀ t : Fin cfg0.N, win0_3.index t = ![t.val / 44, t.val / 4 % 11] := (by decide +kernel : ∀ t : Fin grid0.N, _)
theorem index_second : ∀ t : Fin cfg0.N, win0_4.index t = ![t.val / 44, t.val / 4 % 11] := (by decide +kernel : ∀ t : Fin grid0.N, _)
theorem index_third : ∀ t : Fin cfg0.N, win0_5.index t = ![t.val / 44, t.val / 4 % 11] := (by decide +kernel : ∀ t : Fin grid0.N, _)

variable (m : (ℓ : Loc nD τ sig) → Buf (Elt Ideal) ℓ) (ρ : Dev nD → PrngReg)

/-- What the blocks of a run add up to, for the gate. -/
theorem gate_carried (c : Dev nD) (t : Fin cfg0.N) (h : t.val % 4 = 3) (j : S512x512.Idx) :
    (outsAt0 m c t.val t.isLt).2.2.2.1 j
      = (∑ s : Fin 4, part (iblk m c 0 ⟨4 * (t.val / 4) + s.val, Pipeline.run_point_lt_of_flush t h s⟩) (iblk m c 1 ⟨4 * (t.val / 4) + s.val, Pipeline.run_point_lt_of_flush t h s⟩) j : EReal) := by
  refine (Pipeline.eq_sum_fin_of_reset_step_apply_of_flush (fun n h => (outsAt0 m c n h).2.2.2.1) 4 (fun _ => (0 : EReal)) (fun t j => part (iblk m c 0 t) (iblk m c 1 t) j)
    (fun t h i => ?_) (fun t h i => ?_) t h j).trans (zero_add _)
  · have h1 : ¬ t.val % 4 = 3 := by omega
    rw [outsAt0_A m c t h h1]
    frame_out
    exact (gate_step _ _ _ i).trans (congrArg (· + part (iblk m c 0 t) (iblk m c 1 t) i) (gate_init i))
  · by_cases h1 : t.val % 4 = 3
    · rw [outsAt0_C m c t h h1]
      frame_out
      exact (gate_step _ _ _ i).trans (congrArg (fun y : EReal => y + part (iblk m c 0 t) (iblk m c 1 t) i) (congrFun (Memref.IsWhole.read_unread _ _) i))
    · rw [outsAt0_B m c t h h1]
      frame_out
      exact (gate_step _ _ _ i).trans (congrArg (fun y : EReal => y + part (iblk m c 0 t) (iblk m c 1 t) i) (congrFun (Memref.IsWhole.read_unread _ _) i))

/-- What the blocks of a run add up to, for the other product. -/
theorem up_carried (c : Dev nD) (t : Fin cfg0.N) (h : t.val % 4 = 3) (j : S512x512.Idx) :
    (outsAt0 m c t.val t.isLt).2.2.2.2 j
      = (∑ s : Fin 4, part (iblk m c 0 ⟨4 * (t.val / 4) + s.val, Pipeline.run_point_lt_of_flush t h s⟩) (iblk m c 2 ⟨4 * (t.val / 4) + s.val, Pipeline.run_point_lt_of_flush t h s⟩) j : EReal) := by
  refine (Pipeline.eq_sum_fin_of_reset_step_apply_of_flush (fun n h => (outsAt0 m c n h).2.2.2.2) 4 (fun _ => (0 : EReal)) (fun t j => part (iblk m c 0 t) (iblk m c 2 t) j)
    (fun t h i => ?_) (fun t h i => ?_) t h j).trans (zero_add _)
  · have h1 : ¬ t.val % 4 = 3 := by omega
    rw [outsAt0_A m c t h h1]
    frame_out
    exact (up_step _ _ _ i).trans (congrArg (· + part (iblk m c 0 t) (iblk m c 2 t) i) (up_init i))
  · by_cases h1 : t.val % 4 = 3
    · rw [outsAt0_C m c t h h1]
      frame_out
      exact (up_step _ _ _ i).trans (congrArg (fun y : EReal => y + part (iblk m c 0 t) (iblk m c 2 t) i) (congrFun (Memref.IsWhole.read_unread _ _) i))
    · rw [outsAt0_B m c t h h1]
      frame_out
      exact (up_step _ _ _ i).trans (congrArg (fun y : EReal => y + part (iblk m c 0 t) (iblk m c 2 t) i) (congrFun (Memref.IsWhole.read_unread _ _) i))

theorem gate_stored (c : Dev nD) (t : Fin cfg0.N) (h : t.val % 4 = 3) (j : S512x512.Idx) :
    (outsAt0 m c t.val t.isLt).1 j = (outsAt0 m c t.val t.isLt).2.2.2.1 j := by
  have h0 : ¬ t.val % 4 = 0 := by omega
  rw [outsAt0_C m c t h0 h]
  frame_out

theorem up_stored (c : Dev nD) (t : Fin cfg0.N) (h : t.val % 4 = 3) (j : S512x512.Idx) :
    (outsAt0 m c t.val t.isLt).2.1 j = (outsAt0 m c t.val t.isLt).2.2.2.2 j := by
  have h0 : ¬ t.val % 4 = 0 := by omega
  rw [outsAt0_C m c t h0 h]
  frame_out

theorem units_stored (c : Dev nD) (t : Fin cfg0.N) (h : t.val % 4 = 3) (j : S512x512.Idx) :
    (outsAt0 m c t.val t.isLt).2.2.1 j = k0_pay5 (outsAt0 m c t.val t.isLt).2.2.2.1 (outsAt0 m c t.val t.isLt).2.2.2.2 j := by
  have h0 : ¬ t.val % 4 = 0 := by omega
  rw [outsAt0_C m c t h0 h]
  frame_out

/-- A run's sum is the product, wherever the block stored lies at the run's place. -/
theorem gate_sum (c : Dev nD) (t : Fin cfg0.N) (h : t.val % 4 = 3) (y : S512x512.Idx) (j : S8192x5632.Idx)
    (h0 : (j 0).val = t.val / 44 * 512 + (y 0).val) (h1 : (j 1).val = t.val / 4 % 11 * 512 + (y 1).val) :
    (outsAt0 m c t.val t.isLt).2.2.2.1 y = product (V m c main_arg0) (V m c main_arg1) j := by
  have hN : t.val < 704 := lt_of_lt_of_eq t.isLt N_0
  rw [gate_carried m c t h y]
  unfold product part
  refine Fin.sum_mul_add_congr fun s k hl => ?_
  refine congrArg₂ (fun x y : EReal => x * y) ?_ ?_
  · blk_simp [iblk]
    congr 1
    blk_ext [index_normed]
  · blk_simp [iblk]
    congr 1
    blk_ext [index_gate]

/-- A run's sum is the product, wherever the block stored lies at the run's place. -/
theorem up_sum (c : Dev nD) (t : Fin cfg0.N) (h : t.val % 4 = 3) (y : S512x512.Idx) (j : S8192x5632.Idx)
    (h0 : (j 0).val = t.val / 44 * 512 + (y 0).val) (h1 : (j 1).val = t.val / 4 % 11 * 512 + (y 1).val) :
    (outsAt0 m c t.val t.isLt).2.2.2.2 y = product (V m c main_arg0) (V m c main_arg2) j := by
  have hN : t.val < 704 := lt_of_lt_of_eq t.isLt N_0
  rw [up_carried m c t h y]
  unfold product part
  refine Fin.sum_mul_add_congr fun s k hl => ?_
  refine congrArg₂ (fun x y : EReal => x * y) ?_ ?_
  · blk_simp [iblk]
    congr 1
    blk_ext [index_normed]
  · blk_simp [iblk]
    congr 1
    blk_ext [index_up]

theorem final_gate (c : Dev nD) : (dats m 0 c).arrAt 3 cfg0.N = product (V m c main_arg0) (V m c main_arg1) := by
  refine (dats m 0 c).arrAt_eq_of_covers 3 _ (by decide +kernel) fun t hf y => ?_
  have h : t.val % 4 = 3 := (flush0_3 t).mp hf
  blk_simp
  rw [after0_3]
  refine (gate_stored m c t h y).trans (gate_sum m c t h y _ ?_ ?_) <;> blk_simp [index_first]

theorem final_up (c : Dev nD) : (dats m 0 c).arrAt 4 cfg0.N = product (V m c main_arg0) (V m c main_arg2) := by
  refine (dats m 0 c).arrAt_eq_of_covers 4 _ (by decide +kernel) fun t hf y => ?_
  have h : t.val % 4 = 3 := (flush0_4 t).mp hf
  blk_simp
  rw [after0_4]
  refine (up_stored m c t h y).trans (up_sum m c t h y _ ?_ ?_) <;> blk_simp [index_second]

theorem final_units (c : Dev nD) : (dats m 0 c).arrAt 5 cfg0.N = units (V m c main_arg0) (V m c main_arg1) (V m c main_arg2) := by
  refine (dats m 0 c).arrAt_eq_of_covers 5 _ (by decide +kernel) fun t hf y => ?_
  have h : t.val % 4 = 3 := (flush0_5 t).mp hf
  blk_simp
  rw [after0_5]
  refine ((units_stored m c t h y).trans (unit_apply _ _ y)).trans ?_
  refine congrArg₂ gated (gate_sum m c t h y _ ?_ ?_) (up_sum m c t h y _ ?_ ?_) <;> blk_simp [index_third]

/-- After the run the results are the two products and the hidden units. -/
theorem run_units : θ_run defs (onTc (τ := τ) (main (F := Ideal))) ⟨m, fun _ => 0, ρ⟩ fun r => ∀ c : Dev nD,
      r.2.mem ((c : Thread nD τ).loc main_v0_0) = product (m ((c : Thread nD τ).loc main_arg0)) (m ((c : Thread nD τ).loc main_arg1))
      ∧ r.2.mem ((c : Thread nD τ).loc main_v0_1) = product (m ((c : Thread nD τ).loc main_arg0)) (m ((c : Thread nD τ).loc main_arg2))
      ∧ r.2.mem ((c : Thread nD τ).loc main_v0_2) = units (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_gate m c), (h c).2.1.trans (final_up m c), (h c).2.2.1.trans (final_units m c), (h c).2.2.2⟩) (run_blocks m ρ)

end Cert.FfnUpRows

namespace Cert.FfnUpRef

open Idealize.ShloMosaic Idealize.ShloMosaic.TcCoe Idealize.SL.Sem
open Cert.FfnUpReferenceIdeal Cert.FfnUpReferenceIdeal.Gen
open Cert.FfnUpRows (exists_place product gated units)

theorem product_eq (h : FVec Ideal S8192x2048 .bf16) (w : FVec Ideal S2048x5632 .bf16) :
    Host.dotGeneral dot_S8192x2048_S2048x5632_S8192x5632_1_0_0_1_n_n none (extf .f32 h bitsLt_bf16_f32) (extf .f32 w bitsLt_bf16_f32) = product h w := by
  funext j
  obtain ⟨r, c, rfl⟩ := exists_place j
  pointwise []
  rfl

theorem units_eq (g u : FVec Ideal S8192x5632 .f32) (j : S8192x5632.Idx) :
    truncf .bf16 (mulf (mulf g (Host.divf (broadcastInDim S8192x5632 ![] bcast_S_S8192x5632 (constant S_ .f32 0x3F800000#32)) (addf (broadcastInDim S8192x5632 ![] bcast_S_S8192x5632 (constant S_ .f32 0x3F800000#32)) (Host.exp (Host.negf g))))) u) bitsLt_bf16_f32 j = gated (g j) (u j) := by
  obtain ⟨r, c, rfl⟩ := exists_place j
  pointwise [gated]

end Cert.FfnUpRef

namespace Cert.FfnUpRows

open Idealize.ShloMosaic Idealize.ShloMosaic.TcCoe Idealize.SL.Sem

theorem frame_kernel : Cert.quiescent_FfnUp (hFfnUp := Cert.FfnUp.Gen.facts) := fun m g _ => Cert.FfnUp.Gen.frame (F := Bits) m g

theorem frame_kernelIdeal : Cert.quiescent_FfnUpIdeal (hFfnUpIdeal := Cert.FfnUpIdeal.Gen.facts) := fun m g _ => Cert.FfnUpIdeal.Gen.frame (F := Ideal) m g

theorem frame_referenceIdeal : Cert.quiescent_FfnUpReferenceIdeal (hFfnUpReferenceIdeal := Cert.FfnUpReferenceIdeal.Gen.facts) := fun m g _ =>
  (θ_run Cert.FfnUpReferenceIdeal.defs _ _).mono (fun r h => ⟨fun c => (h c).2.2.2, sem_eq_zero_of_no_sems rfl r.2⟩) (Cert.FfnUpReferenceIdeal.Value.run (F := Ideal) m g)

theorem value_ideal : Cert.algebraic_FfnUpIdeal_FfnUpReferenceIdeal (hFfnUpIdeal := Cert.FfnUpIdeal.Gen.facts) (hFfnUpReferenceIdeal := Cert.FfnUpReferenceIdeal.Gen.facts) :=
  fun m g m' g' _ hm => ⟨_, _, _, run_units m g,
    (θ_run Cert.FfnUpReferenceIdeal.defs _ _).mono (fun _ h c => ⟨(h c).1.trans (by
      rw [← (hm c).1, ← (hm c).2.1]
      exact Cert.FfnUpRef.product_eq _ _), (h c).2.1.trans (by
      rw [← (hm c).1, ← (hm c).2.2]
      exact Cert.FfnUpRef.product_eq _ _), (h c).2.2.1.trans (by
      rw [← (hm c).1, ← (hm c).2.1, ← (hm c).2.2]
      funext j
      refine (Cert.FfnUpRef.units_eq _ _ j).trans ?_
      rw [Cert.FfnUpRef.product_eq, Cert.FfnUpRef.product_eq]
      rfl), (h c).2.2.2⟩)
      (Cert.FfnUpReferenceIdeal.Value.run (F := Ideal) m' g')⟩

end Cert.FfnUpRows

end
-- ==== Proof.FfnNormClaims.lean ====
/-
# The norm of the feed-forward, certified
-/
module

public import proofs.«01_k».proof.Defs
public import proofs.«01_k».proof.Proof.Gen.FfnNorm
public import proofs.«01_k».proof.Proof.Gen.FfnNorm.Frame
public import proofs.«01_k».proof.Proof.Gen.FfnNormIdeal
public import proofs.«01_k».proof.Proof.Gen.FfnNormIdeal.Frame
public import proofs.«01_k».proof.Proof.Gen.FfnNormIdeal.Value
public import proofs.«01_k».proof.Proof.Gen.FfnNormReferenceIdeal
public import proofs.«01_k».proof.Proof.Gen.FfnNormReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.FfnNormRows

open Idealize.ShloMosaic Idealize.ShloMosaic.TcCoe Idealize.SL.Sem
open Cert.FfnNormIdeal Cert.FfnNormIdeal.Gen Cert.FfnNormIdeal.Value

/-- The normed rows. -/
def normed (x : S8192x2048.Idx → Elt Ideal .f32) (g : S1x2048.Idx → Elt Ideal .f32) : S8192x2048.Idx → Elt Ideal .bf16 := fun j =>
  x j * Ideal.rsqrt (Ideal.div (∑ k : Fin 2048, x (ix2 (j 0) k) * x (ix2 (j 0) k)) (Ideal.ofBits .f32 0x45000000#32) + Ideal.ofBits .f32 0x358637BD#32)
    * g (ix2 0 (j 1))

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem block_apply (v0 : Vec Ideal S256x2048 .f32) (v11 : Vec Ideal S1x2048 .f32) (r : Fin 256) (c : Fin 2048) :
    k0_pay1 v0 v11 (ix2 r c)
      = v0 (ix2 r c) * Ideal.rsqrt (Ideal.div (∑ k : Fin 2048, v0 (ix2 r k) * v0 (ix2 r k)) (Ideal.ofBits .f32 0x45000000#32) + Ideal.ofBits .f32 0x358637BD#32)
        * v11 (ix2 0 c) := by
  pointwise [k0_pay1]

/-- Where the blocks lie, step by step. -/
theorem index_rows : ∀ t : Fin cfg0.N, win0_0.index t = ![t.val, 0] := (by decide +kernel : ∀ t : Fin grid0.N, _)
theorem index_gains : ∀ t : Fin cfg0.N, win0_1.index t = ![0, 0] := (by decide +kernel : ∀ t : Fin grid0.N, _)
theorem index_out : ∀ t : Fin cfg0.N, win0_2.index t = ![t.val, 0] := (by decide +kernel : ∀ t : Fin grid0.N, _)

variable (m : (ℓ : Loc nD τ sig) → Buf (Elt Ideal) ℓ) (ρ : Dev nD → PrngReg)

theorem final (c : Dev nD) : (dats m 0 c).arrAt 2 cfg0.N = normed (V m c main_arg0) (V m c main_arg1) := by
  refine (dats m 0 c).arrAt_eq_of_covers 2 _ (by decide +kernel) fun t hf y => ?_
  blk_simp
  rw [after0_2]
  frame_out
  obtain ⟨r, k, rfl⟩ := exists_place y
  refine (block_apply _ _ r k).trans ?_
  have hx (l : Fin 2048) : iblk m c 0 t (ix2 r l) = V m c main_arg0 (ix2 ((win0_2.blk t).view.emb (ix2 r k) 0) l) := by
    blk_simp [iblk]
    congr 1
    blk_ext [index_rows, index_out]
  have hk : iblk m c 0 t (ix2 r k) = V m c main_arg0 ((win0_2.blk t).view.emb (ix2 r k)) := by
    blk_simp [iblk]
    congr 1
    blk_ext [index_rows, index_out]
  have hg : iblk m c 1 t (ix2 0 k) = V m c main_arg1 (ix2 0 ((win0_2.blk t).view.emb (ix2 r k) 1)) := by
    blk_simp [iblk]
    congr 1
    blk_ext [index_gains, index_out]
  unfold normed
  rw [hk, hg]
  simp only [hx]

/-- After the run the result is the normed rows. -/
theorem run_normed : θ_run defs (onTc (τ := τ) (main (F := Ideal))) ⟨m, fun _ => 0, ρ⟩ fun r => ∀ c : Dev nD,
      r.2.mem ((c : Thread nD τ).loc main_v0) = normed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.FfnNormRows

namespace Cert.FfnNormRef

open Idealize.ShloMosaic Idealize.ShloMosaic.TcCoe Idealize.SL.Sem
open Cert.FfnNormReferenceIdeal Cert.FfnNormReferenceIdeal.Gen
open Cert.FfnNormRows (exists_place normed)

variable (x : FVec Ideal S8192x2048 .f32) (g : FVec Ideal S1x2048 .f32)

/-- The reference's sums of squares. -/
def hostSquares : FVec Ideal S8192 .f32 :=
  Host.reduceAdd (mulf x x) (constant S_ .f32 0x00000000#32) reducesTo_S8192x2048_S8192_d1 h_S_

/-- The reference's scale of every row. -/
def hostScale : FVec Ideal S8192x1 .f32 :=
  Host.rsqrt (addf
    (Host.divf (broadcastInDim S8192x1 ![0] bcast_S8192_S8192x1_0 (hostSquares x)) (broadcastInDim S8192x1 ![] bcast_S_S8192x1 (constant S_ .f32 0x45000000#32)))
    (broadcastInDim S8192x1 ![] bcast_S_S8192x1 (constant S_ .f32 0x358637BD#32)))

theorem hostSquares_apply (r : Fin 8192) : hostSquares x (ix1 r) = ∑ k : Fin 2048, x (ix2 r k) * x (ix2 r k) := by
  pointwise [hostSquares]

theorem normed_eq :
    truncf .bf16 (mulf (mulf x (broadcastInDim S8192x2048 ![0, 1] bcast_S8192x1_S8192x2048_0_1 (hostScale x))) (broadcastInDim S8192x2048 ![0, 1] bcast_S1x2048_S8192x2048_0_1 g)) bitsLt_bf16_f32
      = normed x g := by
  funext j
  obtain ⟨r, c, rfl⟩ := exists_place j
  pointwise [hostScale]
  rw [hostSquares_apply]
  rfl

end Cert.FfnNormRef

namespace Cert.FfnNormRows

open Idealize.ShloMosaic Idealize.ShloMosaic.TcCoe Idealize.SL.Sem

theorem frame_kernel : Cert.quiescent_FfnNorm (hFfnNorm := Cert.FfnNorm.Gen.facts) := fun m g _ => Cert.FfnNorm.Gen.frame (F := Bits) m g

theorem frame_kernelIdeal : Cert.quiescent_FfnNormIdeal (hFfnNormIdeal := Cert.FfnNormIdeal.Gen.facts) := fun m g _ => Cert.FfnNormIdeal.Gen.frame (F := Ideal) m g

theorem frame_referenceIdeal : Cert.quiescent_FfnNormReferenceIdeal (hFfnNormReferenceIdeal := Cert.FfnNormReferenceIdeal.Gen.facts) := fun m g _ =>
  (θ_run Cert.FfnNormReferenceIdeal.defs _ _).mono (fun r h => ⟨fun c => (h c).2, sem_eq_zero_of_no_sems rfl r.2⟩) (Cert.FfnNormReferenceIdeal.Value.run (F := Ideal) m g)

theorem value_ideal : Cert.algebraic_FfnNormIdeal_FfnNormReferenceIdeal (hFfnNormIdeal := Cert.FfnNormIdeal.Gen.facts) (hFfnNormReferenceIdeal := Cert.FfnNormReferenceIdeal.Gen.facts) :=
  fun m g m' g' _ hm => ⟨_, run_normed m g,
    (θ_run Cert.FfnNormReferenceIdeal.defs _ _).mono (fun _ h c => ⟨(h c).1.trans (by
      rw [← (hm c).1, ← (hm c).2]
      exact Cert.FfnNormRef.normed_eq _ _), (h c).2⟩)
      (Cert.FfnNormReferenceIdeal.Value.run (F := Ideal) m' g')⟩

end Cert.FfnNormRows

end
-- ==== Proof.PoolMixBwdClaims.lean ====
/-
# The gradients of the mixer, certified
-/
module

public import proofs.«01_k».proof.Defs
public import proofs.«01_k».proof.Proof.Gen.PoolMixBwd
public import proofs.«01_k».proof.Proof.Gen.PoolMixBwd.Frame
public import proofs.«01_k».proof.Proof.Gen.PoolMixBwdIdeal
public import proofs.«01_k».proof.Proof.Gen.PoolMixBwdIdeal.Frame
public import proofs.«01_k».proof.Proof.Gen.PoolMixBwdIdeal.Value
public import proofs.«01_k».proof.Proof.Gen.PoolMixBwdReferenceIdeal
public import proofs.«01_k».proof.Proof.Gen.PoolMixBwdReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.PoolMixBwdRows

open Idealize.ShloMosaic Idealize.ShloMosaic.TcCoe Idealize.SL.Sem
open Cert.PoolMixBwdIdeal Cert.PoolMixBwdIdeal.Gen Cert.PoolMixBwdIdeal.Value

/-- The group of a column, and its place among the group's. -/
def groupOf (c : Fin 2048) : Fin 4 := ⟨c.val / 512, by omega⟩
def within (c : Fin 2048) : Fin 512 := ⟨c.val % 512, by omega⟩

/-- The columns of a column's group, and those of a group. -/
def column (c : Fin 2048) (k : Fin 512) : Fin 2048 := ⟨c.val / 512 * 512 + k.val, by omega⟩
def columnIn (g : Fin 4) (k : Fin 512) : Fin 2048 := ⟨g.val * 512 + k.val, by omega⟩

/-- The gradient of the differences: the gradient scaled, through the transposed weights of its group. -/
def byDifferences (w : S4x512x512.Idx → Elt Ideal .bf16) (s : S1x2048.Idx → Elt Ideal .f32) (dy : S8192x2048.Idx → Elt Ideal .f32) : S8192x2048.Idx → Elt Ideal .f32 := fun j =>
  (∑ k : Fin 512, (dy (ix2 (j 0) (column (j 1) k)) * s (ix2 0 (column (j 1) k))) * w (ix3 (groupOf (j 1)) (within (j 1)) k) : EReal)

/-- The gradient of the weights: every group's differences against the scaled gradient, over the rows. -/
def byWeights (d : S8192x2048.Idx → Elt Ideal .bf16) (s : S1x2048.Idx → Elt Ideal .f32) (dy : S8192x2048.Idx → Elt Ideal .f32) : S4x512x512.Idx → Elt Ideal .f32 := fun j =>
  (∑ r : Fin 8192, d (ix2 r (columnIn (j 0) (j 1))) * (dy (ix2 r (columnIn (j 0) (j 2))) * s (ix2 0 (columnIn (j 0) (j 2)))) : EReal)

/-- The gradient of the scales: the gradient against the differences through the weights, over the rows. -/
def byScale (d : S8192x2048.Idx → Elt Ideal .bf16) (w : S4x512x512.Idx → Elt Ideal .bf16) (dy : S8192x2048.Idx → Elt Ideal .f32) : S1x2048.Idx → Elt Ideal .f32 := fun j =>
  (∑ r : Fin 8192, dy (ix2 r (j 1)) * (∑ k : Fin 512, d (ix2 r (column (j 1) k)) * w (ix3 (groupOf (j 1)) k (within (j 1)))) : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem exists_place3 {l m n : ℕ} (j : Shape.Idx ⟨3, ![l, m, n]⟩) : ∃ (x : Fin l) (y : Fin m) (z : Fin n), j = ix3 x y z :=
  ⟨j 0, j 1, j 2, funext fun a => by match a with | ⟨0, _⟩ => rfl | ⟨1, _⟩ => rfl | ⟨2, _⟩ => rfl⟩

/-- A block's part of the weights' gradient, and of the scales'. -/
def weightsPart (d dy : S512x512.Idx → EReal) (s : S1x512.Idx → EReal) (j : S1x512x512.Idx) : EReal :=
  ∑ k : Fin 512, d (ix2 k (j 1)) * (dy (ix2 k (j 2)) * s (ix2 0 (j 2)))
def scalePart (d dy : S512x512.Idx → EReal) (w : S1x512x512.Idx → EReal) (j : S1x512.Idx) : EReal :=
  ∑ k : Fin 512, dy (ix2 k (j 1)) * ∑ l : Fin 512, d (ix2 k l) * w (ix3 0 l (j 1))

theorem differences_apply (dy : Vec Ideal S512x512 .f32) (s : Vec Ideal S1x512 .f32) (w : Vec Ideal S1x512x512 .bf16) (r c : Fin 512) :
    k0_pay3 dy s w (ix2 r c) = (∑ k : Fin 512, (dy (ix2 r k) * s (ix2 0 k)) * w (ix3 0 c k) : EReal) := by
  pointwise [k0_pay3, k0_pay2]

theorem weights_init (j : S1x512x512.Idx) : k0_pay4 (F := Ideal) j = (0 : EReal) := by
  obtain ⟨q, r, c, rfl⟩ := exists_place3 j
  pointwise [k0_pay4]

theorem scale_init (j : S1x512.Idx) : k0_pay5 (F := Ideal) j = (0 : EReal) := by
  obtain ⟨r, c, rfl⟩ := exists_place j
  pointwise [k0_pay5]

theorem weights_step (d : Vec Ideal S512x512 .bf16) (dy : Vec Ideal S512x512 .f32) (s : Vec Ideal S1x512 .f32) (acc : Vec Ideal S1x512x512 .f32) (j : S1x512x512.Idx) :
    k0_pay6 d dy s acc j = (acc j + weightsPart d dy s j : EReal) := by
  obtain ⟨q, r, c, rfl⟩ := exists_place3 j
  obtain rfl : q = 0 := Subsingleton.elim _ _
  pointwise [k0_pay6, k0_pay2]
  rfl

theorem scale_step (d : Vec Ideal S512x512 .bf16) (dy : Vec Ideal S512x512 .f32) (w : Vec Ideal S1x512x512 .bf16) (acc : Vec Ideal S1x512 .f32) (j : S1x512.Idx) :
    k0_pay1 (k0_pay7 acc) (k0_pay8 d dy w) j = (acc j + scalePart d dy w j : EReal) := by
  obtain ⟨q, c, rfl⟩ := exists_place j
  obtain rfl : q = 0 := Subsingleton.elim _ _
  pointwise [k0_pay1, k0_pay7, k0_pay8]
  rfl

/-- Where the blocks lie, step by step. -/
theorem index_differences : ∀ t : Fin cfg0.N, win0_0.index t = ![t.val % 16, t.val / 16] := (by decide +kernel : ∀ t : Fin grid0.N, _)
theorem index_weights : ∀ t : Fin cfg0.N, win0_1.index t = ![t.val / 16, 0, 0] := (by decide +kernel : ∀ t : Fin grid0.N, _)
theorem index_scale : ∀ t : Fin cfg0.N, win0_2.index t = ![0, t.val / 16] := (by decide +kernel : ∀ t : Fin grid0.N, _)
theorem index_gradient : ∀ t : Fin cfg0.N, win0_3.index t = ![t.val % 16, t.val / 16] := (by decide +kernel : ∀ t : Fin grid0.N, _)
theorem index_byDifferences : ∀ t : Fin cfg0.N, win0_4.index t = ![t.val % 16, t.val / 16] := (by decide +kernel : ∀ t : Fin grid0.N, _)
theorem index_byWeights : ∀ t : Fin cfg0.N, win0_5.index t = ![t.val / 16, 0, 0] := (by decide +kernel : ∀ t : Fin grid0.N, _)
theorem index_byScale : ∀ t : Fin cfg0.N, win0_6.index t = ![0, t.val / 16] := (by decide +kernel : ∀ t : Fin grid0.N, _)

variable (m : (ℓ : Loc nD τ sig) → Buf (Elt Ideal) ℓ) (ρ : Dev nD → PrngReg)

/-- What every step stores of the differences' gradient. -/
theorem differences_stored (c : Dev nD) (t : Fin cfg0.N) (j : S512x512.Idx) :
    (outsAt0 m c t.val t.isLt).1 j = k0_pay3 (iblk m c 3 t) (iblk m c 2 t) (iblk m c 1 t) j := by
  by_cases h : t.val % 16 = 0
  · rw [outsAt0_A m c t h]
    frame_out
  · rw [outsAt0_B m c t h]
    frame_out

/-- What a group's steps add up to, for the weights. -/
theorem weights_carried (c : Dev nD) (t : Fin cfg0.N) (h : t.val % 16 = 15) (j : S1x512x512.Idx) :
    (outsAt0 m c t.val t.isLt).2.1 j
      = (∑ s : Fin 16, weightsPart (iblk m c 0 ⟨16 * (t.val / 16) + s.val, Pipeline.run_point_lt_of_flush t h s⟩) (iblk m c 3 ⟨16 * (t.val / 16) + s.val, Pipeline.run_point_lt_of_flush t h s⟩) (iblk m c 2 ⟨16 * (t.val / 16) + s.val, Pipeline.run_point_lt_of_flush t h s⟩) j : EReal) := by
  refine (Pipeline.eq_sum_fin_of_reset_step_apply_of_flush (fun n h => (outsAt0 m c n h).2.1) 16 (fun _ => (0 : EReal)) (fun t j => weightsPart (iblk m c 0 t) (iblk m c 3 t) (iblk m c 2 t) j)
    (fun t h i => ?_) (fun t h i => ?_) t h j).trans (zero_add _)
  · rw [outsAt0_A m c t h]
    frame_out
    exact (weights_step _ _ _ _ i).trans (congrArg (fun y : EReal => y + weightsPart (iblk m c 0 t) (iblk m c 3 t) (iblk m c 2 t) i) (weights_init i))
  · rw [outsAt0_B m c t h]
    frame_out
    exact weights_step _ _ _ _ i

/-- What a group's steps add up to, for the scales. -/
theorem scale_carried (c : Dev nD) (t : Fin cfg0.N) (h : t.val % 16 = 15) (j : S1x512.Idx) :
    (outsAt0 m c t.val t.isLt).2.2 j
      = (∑ s : Fin 16, scalePart (iblk m c 0 ⟨16 * (t.val / 16) + s.val, Pipeline.run_point_lt_of_flush t h s⟩) (iblk m c 3 ⟨16 * (t.val / 16) + s.val, Pipeline.run_point_lt_of_flush t h s⟩) (iblk m c 1 ⟨16 * (t.val / 16) + s.val, Pipeline.run_point_lt_of_flush t h s⟩) j : EReal) := by
  refine (Pipeline.eq_sum_fin_of_reset_step_apply_of_flush (fun n h => (outsAt0 m c n h).2.2) 16 (fun _ => (0 : EReal)) (fun t j => scalePart (iblk m c 0 t) (iblk m c 3 t) (iblk m c 1 t) j)
    (fun t h i => ?_) (fun t h i => ?_) t h j).trans (zero_add _)
  · rw [outsAt0_A m c t h]
    frame_out
    exact (scale_step _ _ _ _ i).trans (congrArg (fun y : EReal => y + scalePart (iblk m c 0 t) (iblk m c 3 t) (iblk m c 1 t) i) (scale_init i))
  · rw [outsAt0_B m c t h]
    frame_out
    exact scale_step _ _ _ _ i

theorem final_differences (c : Dev nD) : (dats m 0 c).arrAt 4 cfg0.N = byDifferences (V m c main_arg1) (V m c main_arg2) (V m c main_arg3) := by
  refine (dats m 0 c).arrAt_eq_of_covers 4 _ (by decide +kernel) fun t hf y => ?_
  have hN : t.val < 64 := lt_of_lt_of_eq t.isLt N_0
  blk_simp
  rw [after0_4]
  refine (differences_stored m c t y).trans ?_
  obtain ⟨r, k, rfl⟩ := exists_place y
  refine (differences_apply _ _ _ r k).trans ?_
  unfold byDifferences
  refine Finset.sum_congr rfl fun l _ => congrArg₂ (fun x y : EReal => x * y) (congrArg₂ (fun x y : EReal => x * y) ?_ ?_) ?_
  · blk_simp [iblk]
    congr 1
    blk_ext [index_gradient, index_byDifferences, column]
  · blk_simp [iblk]
    congr 1
    blk_ext [index_scale, index_byDifferences, column]
  · blk_simp [iblk]
    congr 1
    blk_ext [index_weights, index_byDifferences, groupOf, within]

theorem final_weights (c : Dev nD) : (dats m 0 c).arrAt 5 cfg0.N = byWeights (V m c main_arg0) (V m c main_arg2) (V m c main_arg3) := by
  refine (dats m 0 c).arrAt_eq_of_covers 5 _ (by decide +kernel) fun t hf y => ?_
  have h : t.val % 16 = 15 := (flush0_5 t).mp hf
  have hN : t.val < 64 := lt_of_lt_of_eq t.isLt N_0
  blk_simp
  rw [after0_5]
  refine (weights_carried m c t h y).trans ?_
  obtain ⟨q, a, b, rfl⟩ := exists_place3 y
  unfold byWeights weightsPart
  refine Fin.sum_mul_add_congr fun s k hl => ?_
  refine congrArg₂ (fun x y : EReal => x * y) ?_ (congrArg₂ (fun x y : EReal => x * y) ?_ ?_)
  · blk_simp [iblk]
    congr 1
    blk_ext [index_differences, index_byWeights, columnIn]
  · blk_simp [iblk]
    congr 1
    blk_ext [index_gradient, index_byWeights, columnIn]
  · blk_simp [iblk]
    congr 1
    blk_ext [index_scale, index_byWeights, columnIn]

theorem final_scale (c : Dev nD) : (dats m 0 c).arrAt 6 cfg0.N = byScale (V m c main_arg0) (V m c main_arg1) (V m c main_arg3) := by
  refine (dats m 0 c).arrAt_eq_of_covers 6 _ (by decide +kernel) fun t hf y => ?_
  have h : t.val % 16 = 15 := (flush0_6 t).mp hf
  have hN : t.val < 64 := lt_of_lt_of_eq t.isLt N_0
  blk_simp
  rw [after0_6]
  refine (scale_carried m c t h y).trans ?_
  obtain ⟨q, a, rfl⟩ := exists_place y
  unfold byScale scalePart
  refine Fin.sum_mul_add_congr fun s k hl => ?_
  refine congrArg₂ (fun x y : EReal => x * y) ?_ (Finset.sum_congr rfl fun l _ => congrArg₂ (fun x y : EReal => x * y) ?_ ?_)
  · blk_simp [iblk]
    congr 1
    blk_ext [index_gradient, index_byScale]
  · blk_simp [iblk]
    congr 1
    blk_ext [index_differences, index_byScale, column]
  · blk_simp [iblk]
    congr 1
    blk_ext [index_weights, index_byScale, groupOf, within]

/-- After the run the results are the gradients of the differences, the weights and the scales. -/
theorem run_gradients : θ_run defs (onTc (τ := τ) (main (F := Ideal))) ⟨m, fun _ => 0, ρ⟩ fun r => ∀ c : Dev nD,
      r.2.mem ((c : Thread nD τ).loc main_v0_0) = byDifferences (m ((c : Thread nD τ).loc main_arg1)) (m ((c : Thread nD τ).loc main_arg2)) (m ((c : Thread nD τ).loc main_arg3))
      ∧ r.2.mem ((c : Thread nD τ).loc main_v0_1) = byWeights (m ((c : Thread nD τ).loc main_arg0)) (m ((c : Thread nD τ).loc main_arg2)) (m ((c : Thread nD τ).loc main_arg3))
      ∧ r.2.mem ((c : Thread nD τ).loc main_v0_2) = byScale (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_differences m c), (h c).2.1.trans (final_weights m c), (h c).2.2.1.trans (final_scale m c), (h c).2.2.2⟩) (run_blocks m ρ)

end Cert.PoolMixBwdRows

namespace Cert.PoolMixBwdRef

open Idealize.ShloMosaic Idealize.ShloMosaic.TcCoe Idealize.SL.Sem
open Cert.PoolMixBwdReferenceIdeal Cert.PoolMixBwdReferenceIdeal.Gen
open Cert.PoolMixBwdRows (exists_place exists_place3 column columnIn groupOf within byDifferences byWeights byScale)

/-- A group's gradients, as the reference has them. -/
def hostScaled (s : FVec Ideal S1x512 .f32) (g : FVec Ideal S8192x512 .f32) : FVec Ideal S8192x512 .f32 :=
  mulf g (broadcastInDim S8192x512 ![0, 1] bcast_S1x512_S8192x512_0_1 s)
def hostWide (w : FVec Ideal S1x512x512 .bf16) : FVec Ideal S512x512 .f32 := extf .f32 (shapeCast S512x512 w shapeCasts_S1x512x512_S512x512) bitsLt_bf16_f32
def hostDifferences (w : FVec Ideal S1x512x512 .bf16) (s : FVec Ideal S1x512 .f32) (g : FVec Ideal S8192x512 .f32) : FVec Ideal S8192x512 .f32 :=
  Host.dotGeneral dot_S8192x512_S512x512_S8192x512_1_0_0_1_n_n none (hostScaled s g) (transpose S512x512 [1, 0] (hostWide w) transposes_S512x512_S512x512_1_0)
def hostWeights (d : FVec Ideal S8192x512 .bf16) (s : FVec Ideal S1x512 .f32) (g : FVec Ideal S8192x512 .f32) : FVec Ideal S1x512x512 .f32 :=
  broadcastInDim S1x512x512 ![1, 2] bcast_S512x512_S1x512x512_1_2 (Host.dotGeneral dot_S512x8192_S8192x512_S512x512_1_0_0_1_n_n none
    (transpose S512x8192 [1, 0] (extf .f32 d bitsLt_bf16_f32) transposes_S8192x512_S512x8192_1_0) (hostScaled s g))
def hostScale (d : FVec Ideal S8192x512 .bf16) (w : FVec Ideal S1x512x512 .bf16) (g : FVec Ideal S8192x512 .f32) : FVec Ideal S1x512 .f32 :=
  broadcastInDim S1x512 ![1] bcast_S512_S1x512_1 (Host.reduceAdd (mulf g (Host.dotGeneral dot_S8192x512_S512x512_S8192x512_1_0_0_1_n_n none
    (extf .f32 d bitsLt_bf16_f32) (hostWide w))) (constant S_ .f32 0x00000000#32) reducesTo_S8192x512_S512_d0 h_S_)

theorem hostDifferences_apply (w : FVec Ideal S1x512x512 .bf16) (s : FVec Ideal S1x512 .f32) (g : FVec Ideal S8192x512 .f32) (r : Fin 8192) (c : Fin 512) :
    hostDifferences w s g (ix2 r c) = (∑ k : Fin 512, (g (ix2 r k) * s (ix2 0 k)) * w (ix3 0 c k) : EReal) := by
  pointwise [hostDifferences, hostScaled, hostWide]

theorem hostWeights_apply (d : FVec Ideal S8192x512 .bf16) (s : FVec Ideal S1x512 .f32) (g : FVec Ideal S8192x512 .f32) (q : Fin 1) (a b : Fin 512) :
    hostWeights d s g (ix3 q a b) = (∑ r : Fin 8192, d (ix2 r a) * (g (ix2 r b) * s (ix2 0 b)) : EReal) := by
  pointwise [hostWeights, hostScaled]

theorem hostScale_apply (d : FVec Ideal S8192x512 .bf16) (w : FVec Ideal S1x512x512 .bf16) (g : FVec Ideal S8192x512 .f32) (q : Fin 1) (c : Fin 512) :
    hostScale d w g (ix2 q c) = (∑ r : Fin 8192, g (ix2 r c) * (∑ k : Fin 512, d (ix2 r k) * w (ix3 0 k c)) : EReal) := by
  pointwise [hostScale, hostWide]

variable (d : FVec Ideal S8192x2048 .bf16) (w : FVec Ideal S4x512x512 .bf16) (s : FVec Ideal S1x2048 .f32) (g : FVec Ideal S8192x2048 .f32)

/-- A group's operands are those from its first on. -/
theorem rows_cut (x : FVec Ideal S8192x2048 .f32) (q : Fin 4) (h : S8192x2048.Slices ![0, q.val * 512] S8192x512) (r : Fin 8192) (k : Fin 512) :
    extractStridedSlice S8192x512 ![0, q.val * 512] x h (ix2 r k) = x (ix2 r (columnIn q k)) := by
  pointwise [columnIn]

theorem differences_cut (x : FVec Ideal S8192x2048 .bf16) (q : Fin 4) (h : S8192x2048.Slices ![0, q.val * 512] S8192x512) (r : Fin 8192) (k : Fin 512) :
    extractStridedSlice S8192x512 ![0, q.val * 512] x h (ix2 r k) = x (ix2 r (columnIn q k)) := by
  pointwise [columnIn]

theorem scale_cut (q : Fin 4) (h : S1x2048.Slices ![0, q.val * 512] S1x512) (k : Fin 512) :
    extractStridedSlice S1x512 ![0, q.val * 512] s h (ix2 0 k) = s (ix2 0 (columnIn q k)) := by
  pointwise [columnIn]

theorem weights_cut (q : Fin 4) (h : S4x512x512.Slices ![q.val, 0, 0] S1x512x512) (k l : Fin 512) :
    extractStridedSlice S1x512x512 ![q.val, 0, 0] w h (ix3 0 k l) = w (ix3 q k l) := by
  pointwise []

theorem groupOf_columnIn (q : Fin 4) (k : Fin 512) : groupOf (columnIn q k) = q := Fin.ext (by show (q.val * 512 + k.val) / 512 = q.val; omega)
theorem within_columnIn (q : Fin 4) (k : Fin 512) : within (columnIn q k) = k := Fin.ext (by show (q.val * 512 + k.val) % 512 = k.val; omega)
theorem column_columnIn (q : Fin 4) (k l : Fin 512) : column (columnIn q k) l = columnIn q l := Fin.ext (by show (q.val * 512 + k.val) / 512 * 512 + l.val = q.val * 512 + l.val; omega)

theorem differences_at (q : Fin 4) (hw : S4x512x512.Slices ![q.val, 0, 0] S1x512x512) (hs : S1x2048.Slices ![0, q.val * 512] S1x512) (hg : S8192x2048.Slices ![0, q.val * 512] S8192x512)
    (r : Fin 8192) (c : Fin 2048) (k : Fin 512) (hc : columnIn q k = c) :
    hostDifferences (extractStridedSlice S1x512x512 ![q.val, 0, 0] w hw) (extractStridedSlice S1x512 ![0, q.val * 512] s hs) (extractStridedSlice S8192x512 ![0, q.val * 512] g hg) (ix2 r k)
      = byDifferences w s g (ix2 r c) := by
  subst hc
  rw [hostDifferences_apply]
  show _ = (∑ l : Fin 512, (g (ix2 r (column (columnIn q k) l)) * s (ix2 0 (column (columnIn q k) l))) * w (ix3 (groupOf (columnIn q k)) (within (columnIn q k)) l) : EReal)
  refine Finset.sum_congr rfl fun l _ => ?_
  rw [rows_cut, scale_cut, weights_cut, column_columnIn, groupOf_columnIn, within_columnIn]

theorem weights_at (q : Fin 4) (hd : S8192x2048.Slices ![0, q.val * 512] S8192x512) (hs : S1x2048.Slices ![0, q.val * 512] S1x512) (hg : S8192x2048.Slices ![0, q.val * 512] S8192x512)
    (p : Fin 1) (a b : Fin 512) :
    hostWeights (extractStridedSlice S8192x512 ![0, q.val * 512] d hd) (extractStridedSlice S1x512 ![0, q.val * 512] s hs) (extractStridedSlice S8192x512 ![0, q.val * 512] g hg) (ix3 p a b)
      = byWeights d s g (ix3 q a b) := by
  rw [hostWeights_apply]
  show _ = (∑ r : Fin 8192, d (ix2 r (columnIn q a)) * (g (ix2 r (columnIn q b)) * s (ix2 0 (columnIn q b))) : EReal)
  refine Finset.sum_congr rfl fun l _ => ?_
  rw [differences_cut, rows_cut, scale_cut]

theorem scale_at (q : Fin 4) (hd : S8192x2048.Slices ![0, q.val * 512] S8192x512) (hw : S4x512x512.Slices ![q.val, 0, 0] S1x512x512) (hg : S8192x2048.Slices ![0, q.val * 512] S8192x512)
    (p : Fin 1) (c : Fin 2048) (k : Fin 512) (hc : columnIn q k = c) :
    hostScale (extractStridedSlice S8192x512 ![0, q.val * 512] d hd) (extractStridedSlice S1x512x512 ![q.val, 0, 0] w hw) (extractStridedSlice S8192x512 ![0, q.val * 512] g hg) (ix2 p k)
      = byScale d w g (ix2 p c) := by
  subst hc
  rw [hostScale_apply]
  show _ = (∑ r : Fin 8192, g (ix2 r (columnIn q k)) * (∑ l : Fin 512, d (ix2 r (column (columnIn q k) l)) * w (ix3 (groupOf (columnIn q k)) l (within (columnIn q k)))) : EReal)
  refine Finset.sum_congr rfl fun r _ => ?_
  rw [rows_cut]
  refine congrArg (fun y : EReal => g (ix2 r (columnIn q k)) * y) (Finset.sum_congr rfl fun l _ => ?_)
  rw [differences_cut, weights_cut, column_columnIn, groupOf_columnIn, within_columnIn]

/-- The groups' gradients together, as the reference has them. -/
def hostAllDifferences : FVec Ideal S8192x2048 .f32 :=
  concatenate S8192x2048 1 [⟨S8192x512, hostDifferences (extractStridedSlice S1x512x512 ![0, 0, 0] w slices_S4x512x512_S1x512x512_0_0_0) (extractStridedSlice S1x512 ![0, 0] s slices_S1x2048_S1x512_0_0) (extractStridedSlice S8192x512 ![0, 0] g slices_S8192x2048_S8192x512_0_0)⟩,
    ⟨S8192x512, hostDifferences (extractStridedSlice S1x512x512 ![1, 0, 0] w slices_S4x512x512_S1x512x512_1_0_0) (extractStridedSlice S1x512 ![0, 512] s slices_S1x2048_S1x512_0_512) (extractStridedSlice S8192x512 ![0, 512] g slices_S8192x2048_S8192x512_0_512)⟩,
    ⟨S8192x512, hostDifferences (extractStridedSlice S1x512x512 ![2, 0, 0] w slices_S4x512x512_S1x512x512_2_0_0) (extractStridedSlice S1x512 ![0, 1024] s slices_S1x2048_S1x512_0_1024) (extractStridedSlice S8192x512 ![0, 1024] g slices_S8192x2048_S8192x512_0_1024)⟩,
    ⟨S8192x512, hostDifferences (extractStridedSlice S1x512x512 ![3, 0, 0] w slices_S4x512x512_S1x512x512_3_0_0) (extractStridedSlice S1x512 ![0, 1536] s slices_S1x2048_S1x512_0_1536) (extractStridedSlice S8192x512 ![0, 1536] g slices_S8192x2048_S8192x512_0_1536)⟩]
    concatenates_S8192x512_S8192x512_S8192x512_S8192x512_S8192x2048_d1

def hostAllWeights : FVec Ideal S4x512x512 .f32 :=
  concatenate S4x512x512 0 [⟨S1x512x512, hostWeights (extractStridedSlice S8192x512 ![0, 0] d slices_S8192x2048_S8192x512_0_0) (extractStridedSlice S1x512 ![0, 0] s slices_S1x2048_S1x512_0_0) (extractStridedSlice S8192x512 ![0, 0] g slices_S8192x2048_S8192x512_0_0)⟩,
    ⟨S1x512x512, hostWeights (extractStridedSlice S8192x512 ![0, 512] d slices_S8192x2048_S8192x512_0_512) (extractStridedSlice S1x512 ![0, 512] s slices_S1x2048_S1x512_0_512) (extractStridedSlice S8192x512 ![0, 512] g slices_S8192x2048_S8192x512_0_512)⟩,
    ⟨S1x512x512, hostWeights (extractStridedSlice S8192x512 ![0, 1024] d slices_S8192x2048_S8192x512_0_1024) (extractStridedSlice S1x512 ![0, 1024] s slices_S1x2048_S1x512_0_1024) (extractStridedSlice S8192x512 ![0, 1024] g slices_S8192x2048_S8192x512_0_1024)⟩,
    ⟨S1x512x512, hostWeights (extractStridedSlice S8192x512 ![0, 1536] d slices_S8192x2048_S8192x512_0_1536) (extractStridedSlice S1x512 ![0, 1536] s slices_S1x2048_S1x512_0_1536) (extractStridedSlice S8192x512 ![0, 1536] g slices_S8192x2048_S8192x512_0_1536)⟩]
    concatenates_S1x512x512_S1x512x512_S1x512x512_S1x512x512_S4x512x512_d0

def hostAllScale : FVec Ideal S1x2048 .f32 :=
  concatenate S1x2048 1 [⟨S1x512, hostScale (extractStridedSlice S8192x512 ![0, 0] d slices_S8192x2048_S8192x512_0_0) (extractStridedSlice S1x512x512 ![0, 0, 0] w slices_S4x512x512_S1x512x512_0_0_0) (extractStridedSlice S8192x512 ![0, 0] g slices_S8192x2048_S8192x512_0_0)⟩,
    ⟨S1x512, hostScale (extractStridedSlice S8192x512 ![0, 512] d slices_S8192x2048_S8192x512_0_512) (extractStridedSlice S1x512x512 ![1, 0, 0] w slices_S4x512x512_S1x512x512_1_0_0) (extractStridedSlice S8192x512 ![0, 512] g slices_S8192x2048_S8192x512_0_512)⟩,
    ⟨S1x512, hostScale (extractStridedSlice S8192x512 ![0, 1024] d slices_S8192x2048_S8192x512_0_1024) (extractStridedSlice S1x512x512 ![2, 0, 0] w slices_S4x512x512_S1x512x512_2_0_0) (extractStridedSlice S8192x512 ![0, 1024] g slices_S8192x2048_S8192x512_0_1024)⟩,
    ⟨S1x512, hostScale (extractStridedSlice S8192x512 ![0, 1536] d slices_S8192x2048_S8192x512_0_1536) (extractStridedSlice S1x512x512 ![3, 0, 0] w slices_S4x512x512_S1x512x512_3_0_0) (extractStridedSlice S8192x512 ![0, 1536] g slices_S8192x2048_S8192x512_0_1536)⟩]
    concatenates_S1x512_S1x512_S1x512_S1x512_S1x2048_d1

theorem hostAllDifferences_eq : hostAllDifferences w s g = byDifferences w s g := by
  funext j
  obtain ⟨r, c, rfl⟩ := exists_place j
  have hc := c.isLt
  pointwise [hostAllDifferences]
  by_cases h : c.val < 512
  · rw [dif_pos h]
    exact differences_at w s g ⟨0, by norm_num⟩ _ _ _ r c _ (Fin.ext (by show 0 * 512 + c.val = c.val; omega))
  rw [dif_neg h]
  by_cases h : c.val < 1024
  · rw [dif_pos (by omega)]
    exact differences_at w s g ⟨1, by norm_num⟩ _ _ _ r c _ (Fin.ext (by show 1 * 512 + (c.val - 512) = c.val; omega))
  rw [dif_neg (by omega)]
  by_cases h : c.val < 1536
  · rw [dif_pos (by omega)]
    exact differences_at w s g ⟨2, by norm_num⟩ _ _ _ r c _ (Fin.ext (by show 2 * 512 + (c.val - 512 - 512) = c.val; omega))
  rw [dif_neg (by omega)]
  exact differences_at w s g ⟨3, by norm_num⟩ _ _ _ r c _ (Fin.ext (by show 3 * 512 + (c.val - 512 - 512 - 512) = c.val; omega))

/-- Four parts of a row, at their columns. -/
theorem row_of_parts (x0 x1 x2 x3 : FVec Ideal S1x512 .f32) (z : FVec Ideal S1x2048 .f32) (r : Fin 1) (c : Fin 2048)
    (h0 : ∀ k c, columnIn ⟨0, by norm_num⟩ k = c → x0 (ix2 r k) = z (ix2 r c)) (h1 : ∀ k c, columnIn ⟨1, by norm_num⟩ k = c → x1 (ix2 r k) = z (ix2 r c))
    (h2 : ∀ k c, columnIn ⟨2, by norm_num⟩ k = c → x2 (ix2 r k) = z (ix2 r c)) (h3 : ∀ k c, columnIn ⟨3, by norm_num⟩ k = c → x3 (ix2 r k) = z (ix2 r c)) :
    concatenate S1x2048 1 [⟨S1x512, x0⟩, ⟨S1x512, x1⟩, ⟨S1x512, x2⟩, ⟨S1x512, x3⟩] concatenates_S1x512_S1x512_S1x512_S1x512_S1x2048_d1 (ix2 r c) = z (ix2 r c) := by
  have hc := c.isLt
  obtain rfl : r = 0 := Subsingleton.elim _ _
  pointwise []
  by_cases h : c.val < 512
  · rw [dif_pos h]
    refine h0 _ c (Fin.ext ?_)
    show 0 * 512 + c.val = c.val
    omega
  rw [dif_neg h]
  by_cases h : c.val < 1024
  · rw [dif_pos (by omega)]
    refine h1 _ c (Fin.ext ?_)
    show 1 * 512 + (c.val - 512) = c.val
    omega
  rw [dif_neg (by omega)]
  by_cases h : c.val < 1536
  · rw [dif_pos (by omega)]
    refine h2 _ c (Fin.ext ?_)
    show 2 * 512 + (c.val - 512 - 512) = c.val
    omega
  rw [dif_neg (by omega)]
  refine h3 _ c (Fin.ext ?_)
  show 3 * 512 + (c.val - 512 - 512 - 512) = c.val
  omega

theorem hostAllScale_eq : hostAllScale d w g = byScale d w g := by
  funext j
  obtain ⟨r, c, rfl⟩ := exists_place j
  unfold hostAllScale
  exact row_of_parts _ _ _ _ _ r c (fun k c h => scale_at d w g ⟨0, by norm_num⟩ _ _ _ r c k h) (fun k c h => scale_at d w g ⟨1, by norm_num⟩ _ _ _ r c k h)
    (fun k c h => scale_at d w g ⟨2, by norm_num⟩ _ _ _ r c k h) (fun k c h => scale_at d w g ⟨3, by norm_num⟩ _ _ _ r c k h)

theorem hostAllWeights_eq : hostAllWeights d s g = byWeights d s g := by
  funext j
  obtain ⟨q, a, b, rfl⟩ := exists_place3 j
  match q with
  | ⟨0, _⟩ =>
    pointwise [hostAllWeights]
    exact weights_at d s g ⟨0, by norm_num⟩ _ _ _ _ a b
  | ⟨1, _⟩ =>
    pointwise [hostAllWeights]
    exact weights_at d s g ⟨1, by norm_num⟩ _ _ _ _ a b
  | ⟨2, _⟩ =>
    pointwise [hostAllWeights]
    exact weights_at d s g ⟨2, by norm_num⟩ _ _ _ _ a b
  | ⟨3, _⟩ =>
    pointwise [hostAllWeights]
    exact weights_at d s g ⟨3, by norm_num⟩ _ _ _ _ a b

end Cert.PoolMixBwdRef

namespace Cert.PoolMixBwdRows

open Idealize.ShloMosaic Idealize.ShloMosaic.TcCoe Idealize.SL.Sem

theorem frame_kernel : Cert.quiescent_PoolMixBwd (hPoolMixBwd := Cert.PoolMixBwd.Gen.facts) := fun m g _ => Cert.PoolMixBwd.Gen.frame (F := Bits) m g

theorem frame_kernelIdeal : Cert.quiescent_PoolMixBwdIdeal (hPoolMixBwdIdeal := Cert.PoolMixBwdIdeal.Gen.facts) := fun m g _ => Cert.PoolMixBwdIdeal.Gen.frame (F := Ideal) m g

theorem frame_referenceIdeal : Cert.quiescent_PoolMixBwdReferenceIdeal (hPoolMixBwdReferenceIdeal := Cert.PoolMixBwdReferenceIdeal.Gen.facts) := fun m g _ =>
  (θ_run Cert.PoolMixBwdReferenceIdeal.defs _ _).mono (fun r h => ⟨fun c => (h c).2.2.2, sem_eq_zero_of_no_sems rfl r.2⟩) (Cert.PoolMixBwdReferenceIdeal.Value.run (F := Ideal) m g)

theorem value_ideal : Cert.algebraic_PoolMixBwdIdeal_PoolMixBwdReferenceIdeal (hPoolMixBwdIdeal := Cert.PoolMixBwdIdeal.Gen.facts) (hPoolMixBwdReferenceIdeal := Cert.PoolMixBwdReferenceIdeal.Gen.facts) :=
  fun m g m' g' _ hm => ⟨_, _, _, run_gradients m g,
    (θ_run Cert.PoolMixBwdReferenceIdeal.defs _ _).mono (fun _ h c => ⟨(h c).1.trans (by
      rw [← (hm c).2.1, ← (hm c).2.2.1, ← (hm c).2.2.2]
      exact Cert.PoolMixBwdRef.hostAllDifferences_eq _ _ _), (h c).2.1.trans (by
      rw [← (hm c).1, ← (hm c).2.2.1, ← (hm c).2.2.2]
      exact Cert.PoolMixBwdRef.hostAllWeights_eq _ _ _), (h c).2.2.1.trans (by
      rw [← (hm c).1, ← (hm c).2.1, ← (hm c).2.2.2]
      exact Cert.PoolMixBwdRef.hostAllScale_eq _ _ _), (h c).2.2.2⟩)
      (Cert.PoolMixBwdReferenceIdeal.Value.run (F := Ideal) m' g')⟩

end Cert.PoolMixBwdRows

end
-- ==== Proof.PoolMixClaims.lean ====
/-
# The mixer of the pooled differences, certified
-/
module

public import proofs.«01_k».proof.Defs
public import proofs.«01_k».proof.Proof.Gen.PoolMix
public import proofs.«01_k».proof.Proof.Gen.PoolMix.Frame
public import proofs.«01_k».proof.Proof.Gen.PoolMixIdeal
public import proofs.«01_k».proof.Proof.Gen.PoolMixIdeal.Frame
public import proofs.«01_k».proof.Proof.Gen.PoolMixIdeal.Value
public import proofs.«01_k».proof.Proof.Gen.PoolMixReferenceIdeal
public import proofs.«01_k».proof.Proof.Gen.PoolMixReferenceIdeal.Run
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.PoolMixRows

open Idealize.ShloMosaic Idealize.ShloMosaic.TcCoe Idealize.SL.Sem
open Cert.PoolMixIdeal Cert.PoolMixIdeal.Gen Cert.PoolMixIdeal.Value

/-- The group of a column, and its place among the group's. -/
def groupOf (c : Fin 2048) : Fin 4 := ⟨c.val / 512, by omega⟩
def within (c : Fin 2048) : Fin 512 := ⟨c.val % 512, by omega⟩

/-- The columns of a column's group. -/
def column (c : Fin 2048) (k : Fin 512) : Fin 2048 := ⟨c.val / 512 * 512 + k.val, by omega⟩

/-- The stream after the mixer: the stream before it, and every group's differences through the group's weights, scaled. -/
def mixed (d : S8192x2048.Idx → Elt Ideal .bf16) (w : S4x512x512.Idx → Elt Ideal .bf16) (s : S1x2048.Idx → Elt Ideal .f32)
    (x : S8192x2048.Idx → Elt Ideal .f32) : S8192x2048.Idx → Elt Ideal .f32 := fun j =>
  (x j + (∑ k : Fin 512, d (ix2 (j 0) (column (j 1) k)) * w (ix3 (groupOf (j 1)) k (within (j 1)))) * s (ix2 0 (j 1)) : EReal)

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem block_apply (d : Vec Ideal S512x512 .bf16) (w : Vec Ideal S1x512x512 .bf16) (x : Vec Ideal S512x512 .f32) (s : Vec Ideal S1x512 .f32) (r c : Fin 512) :
    k0_pay1 d w x s (ix2 r c) = (x (ix2 r c) + (∑ k : Fin 512, d (ix2 r k) * w (ix3 0 k c)) * s (ix2 0 c) : EReal) := by
  pointwise [k0_pay1]

/-- Where the blocks lie, step by step. -/
theorem index_differences : ∀ t : Fin cfg0.N, win0_0.index t = ![t.val / 4, t.val % 4] := (by decide +kernel : ∀ t : Fin grid0.N, _)
theorem index_weights : ∀ t : Fin cfg0.N, win0_1.index t = ![t.val % 4, 0, 0] := (by decide +kernel : ∀ t : Fin grid0.N, _)
theorem index_scale : ∀ t : Fin cfg0.N, win0_2.index t = ![0, t.val % 4] := (by decide +kernel : ∀ t : Fin grid0.N, _)
theorem index_before : ∀ t : Fin cfg0.N, win0_3.index t = ![t.val / 4, t.val % 4] := (by decide +kernel : ∀ t : Fin grid0.N, _)
theorem index_after : ∀ t : Fin cfg0.N, win0_4.index t = ![t.val / 4, t.val % 4] := (by decide +kernel : ∀ t : Fin grid0.N, _)

variable (m : (ℓ : Loc nD τ sig) → Buf (Elt Ideal) ℓ) (ρ : Dev nD → PrngReg)

theorem final (c : Dev nD) : (dats m 0 c).arrAt 4 cfg0.N = mixed (V m c main_arg0) (V m c main_arg1) (V m c main_arg2) (V m c main_arg3) := by
  refine (dats m 0 c).arrAt_eq_of_covers 4 _ (by decide +kernel) fun t hf y => ?_
  have hN : t.val < 64 := lt_of_lt_of_eq t.isLt N_0
  blk_simp
  rw [after0_4]
  frame_out
  obtain ⟨r, k, rfl⟩ := exists_place y
  refine (block_apply _ _ _ _ r k).trans ?_
  unfold mixed
  refine congrArg₂ (fun x y : EReal => x + y) ?_ (congrArg₂ (fun x y : EReal => x * y) (Finset.sum_congr rfl fun l _ => congrArg₂ (fun x y : EReal => x * y) ?_ ?_) ?_)
  · blk_simp [iblk]
    congr 1
    blk_ext [index_before, index_after]
  · blk_simp [iblk]
    congr 1
    blk_ext [index_differences, index_after, column]
  · blk_simp [iblk]
    congr 1
    blk_ext [index_weights, index_after, groupOf, within]
  · blk_simp [iblk]
    congr 1
    blk_ext [index_scale, index_after]

/-- After the run the result is the stream after the mixer. -/
theorem run_mixed : θ_run defs (onTc (τ := τ) (main (F := Ideal))) ⟨m, fun _ => 0, ρ⟩ fun r => ∀ c : Dev nD,
      r.2.mem ((c : Thread nD τ).loc main_v0)
        = mixed (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.PoolMixRows

namespace Cert.PoolMixRef

open Idealize.ShloMosaic Idealize.ShloMosaic.TcCoe Idealize.SL.Sem
open Cert.PoolMixReferenceIdeal Cert.PoolMixReferenceIdeal.Gen
open Cert.PoolMixRows (exists_place mixed column groupOf within)

variable (d : FVec Ideal S8192x2048 .bf16) (w : FVec Ideal S4x512x512 .bf16) (s : FVec Ideal S1x2048 .f32) (x : FVec Ideal S8192x2048 .f32)

/-- A group's differences through its weights, as the reference has them. -/
def hostGroup (d : FVec Ideal S8192x512 .bf16) (w : FVec Ideal S1x512x512 .bf16) : FVec Ideal S8192x512 .f32 :=
  Host.dotGeneral dot_S8192x512_S512x512_S8192x512_1_0_0_1_n_n none (extf .f32 d bitsLt_bf16_f32)
    (extf .f32 (shapeCast S512x512 w shapeCasts_S1x512x512_S512x512) bitsLt_bf16_f32)

/-- The groups side by side, as the reference has them. -/
def hostGroups : FVec Ideal S8192x2048 .f32 :=
  concatenate S8192x2048 1 [⟨S8192x512, hostGroup (extractStridedSlice S8192x512 ![0, 0] d slices_S8192x2048_S8192x512_0_0) (extractStridedSlice S1x512x512 ![0, 0, 0] w slices_S4x512x512_S1x512x512_0_0_0)⟩,
    ⟨S8192x512, hostGroup (extractStridedSlice S8192x512 ![0, 512] d slices_S8192x2048_S8192x512_0_512) (extractStridedSlice S1x512x512 ![1, 0, 0] w slices_S4x512x512_S1x512x512_1_0_0)⟩,
    ⟨S8192x512, hostGroup (extractStridedSlice S8192x512 ![0, 1024] d slices_S8192x2048_S8192x512_0_1024) (extractStridedSlice S1x512x512 ![2, 0, 0] w slices_S4x512x512_S1x512x512_2_0_0)⟩,
    ⟨S8192x512, hostGroup (extractStridedSlice S8192x512 ![0, 1536] d slices_S8192x2048_S8192x512_0_1536) (extractStridedSlice S1x512x512 ![3, 0, 0] w slices_S4x512x512_S1x512x512_3_0_0)⟩]
    concatenates_S8192x512_S8192x512_S8192x512_S8192x512_S8192x2048_d1

theorem hostGroup_apply (d : FVec Ideal S8192x512 .bf16) (w : FVec Ideal S1x512x512 .bf16) (r : Fin 8192) (c : Fin 512) :
    hostGroup d w (ix2 r c) = (∑ k : Fin 512, d (ix2 r k) * w (ix3 0 k c) : EReal) := by
  pointwise [hostGroup]

/-- A group's columns and weights are those from its first on. -/
theorem cut_apply (g : ℕ) (hg : g < 4) (hd : S8192x2048.Slices ![0, g * 512] S8192x512) (hw : S4x512x512.Slices ![g, 0, 0] S1x512x512) (r : Fin 8192) (c : Fin 512) :
    hostGroup (extractStridedSlice S8192x512 ![0, g * 512] d hd) (extractStridedSlice S1x512x512 ![g, 0, 0] w hw) (ix2 r c)
      = (∑ k : Fin 512, d (ix2 r ⟨g * 512 + k.val, by omega⟩) * w (ix3 ⟨g, hg⟩ k c) : EReal) := by
  rw [hostGroup_apply]
  refine Finset.sum_congr rfl fun k _ => congrArg₂ (fun x y : EReal => x * y) ?_ ?_
  · pointwise []
  · pointwise []

theorem at_group (g : ℕ) (hg : g < 4) (r : Fin 8192) (c : Fin 2048) (h : c.val / 512 = g) (c' : Fin 512) (hc : c'.val = c.val - g * 512) :
    (∑ k : Fin 512, d (ix2 r ⟨g * 512 + k.val, by omega⟩) * w (ix3 ⟨g, hg⟩ k c') : EReal)
      = ∑ k : Fin 512, d (ix2 r (column c k)) * w (ix3 (groupOf c) k (within c)) := by
  subst h
  have e : c' = within c := Fin.ext (by show c'.val = c.val % 512; omega)
  rw [e]
  rfl

theorem hostGroups_apply (r : Fin 8192) (c : Fin 2048) :
    hostGroups d w (ix2 r c) = (∑ k : Fin 512, d (ix2 r (column c k)) * w (ix3 (groupOf c) k (within c)) : EReal) := by
  have hc := c.isLt
  pointwise [hostGroups]
  by_cases h : c.val < 512
  · rw [dif_pos h]
    exact (cut_apply d w 0 (by norm_num) _ _ r _).trans (at_group d w 0 (by norm_num) r c (by omega) _ (by show c.val = c.val - 0 * 512; omega))
  rw [dif_neg h]
  by_cases h : c.val < 1024
  · rw [dif_pos (by omega)]
    exact (cut_apply d w 1 (by norm_num) _ _ r _).trans (at_group d w 1 (by norm_num) r c (by omega) _ (by show c.val - 512 = _; omega))
  rw [dif_neg (by omega)]
  by_cases h : c.val < 1536
  · rw [dif_pos (by omega)]
    exact (cut_apply d w 2 (by norm_num) _ _ r _).trans (at_group d w 2 (by norm_num) r c (by omega) _ (by show c.val - 512 - 512 = _; omega))
  rw [dif_neg (by omega)]
  exact (cut_apply d w 3 (by norm_num) _ _ r _).trans (at_group d w 3 (by norm_num) r c (by omega) _ (by show c.val - 512 - 512 - 512 = _; omega))

theorem mixed_eq : addf x (mulf (hostGroups d w) (broadcastInDim S8192x2048 ![0, 1] bcast_S1x2048_S8192x2048_0_1 s)) = mixed d w s x := by
  funext j
  obtain ⟨r, c, rfl⟩ := exists_place j
  pointwise []
  rw [hostGroups_apply]
  rfl

end Cert.PoolMixRef

namespace Cert.PoolMixRows

open Idealize.ShloMosaic Idealize.ShloMosaic.TcCoe Idealize.SL.Sem

theorem frame_kernel : Cert.quiescent_PoolMix (hPoolMix := Cert.PoolMix.Gen.facts) := fun m g _ => Cert.PoolMix.Gen.frame (F := Bits) m g

theorem frame_kernelIdeal : Cert.quiescent_PoolMixIdeal (hPoolMixIdeal := Cert.PoolMixIdeal.Gen.facts) := fun m g _ => Cert.PoolMixIdeal.Gen.frame (F := Ideal) m g

theorem frame_referenceIdeal : Cert.quiescent_PoolMixReferenceIdeal (hPoolMixReferenceIdeal := Cert.PoolMixReferenceIdeal.Gen.facts) := fun m g _ =>
  (θ_run Cert.PoolMixReferenceIdeal.defs _ _).mono (fun r h => ⟨fun c => (h c).2, sem_eq_zero_of_no_sems rfl r.2⟩) (Cert.PoolMixReferenceIdeal.Value.run (F := Ideal) m g)

theorem value_ideal : Cert.algebraic_PoolMixIdeal_PoolMixReferenceIdeal (hPoolMixIdeal := Cert.PoolMixIdeal.Gen.facts) (hPoolMixReferenceIdeal := Cert.PoolMixReferenceIdeal.Gen.facts) :=
  fun m g m' g' _ hm => ⟨_, run_mixed m g,
    (θ_run Cert.PoolMixReferenceIdeal.defs _ _).mono (fun _ h c => ⟨(h c).1.trans (by
      rw [← (hm c).1, ← (hm c).2.1, ← (hm c).2.2.1, ← (hm c).2.2.2]
      exact Cert.PoolMixRef.mixed_eq _ _ _ _), (h c).2⟩)
      (Cert.PoolMixReferenceIdeal.Value.run (F := Ideal) m' g')⟩

end Cert.PoolMixRows

end
-- ==== Proof.PoolPreBlock.lean ====
/-
# The pooled differences, a block at a time
-/
module

public import proofs.«01_k».proof.Proof.Gen.PoolPreIdeal
public import proofs.«01_k».proof.Proof.Gen.PoolPreIdeal.Frame
public import proofs.«01_k».proof.Proof.Gen.PoolPreIdeal.Value
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Init

@[expose] public section

set_option maxRecDepth 16384

noncomputable section

namespace Cert.PoolPreRows

open Idealize.ShloMosaic Idealize.ShloMosaic.TcCoe Idealize.SL.Sem
open Cert.PoolPreIdeal Cert.PoolPreIdeal.Gen Cert.PoolPreIdeal.Value

/-- How many positions a mean over the last `w` positions takes at position `t`. -/
def count (w : BitVec 32) (t : ℕ) : EReal := min (((t : ℝ) : EReal) + 1) (Ideal.ofBits .f32 w)

/-- The normed rows. -/
def normed (x : S8192x2048.Idx → Elt Ideal .f32) (g : S1x2048.Idx → Elt Ideal .f32) (r : Fin 8192) (c : Fin 2048) : EReal :=
  x (ix2 r c) * Ideal.rsqrt (Ideal.div (∑ k : Fin 2048, x (ix2 r k) * x (ix2 r k)) (Ideal.ofBits .f32 0x45000000#32) + Ideal.ofBits .f32 0x358637BD#32)
    * g (ix2 0 c)

/-- The normed value sixteen positions before position `t`; nothing before the first position. -/
def late (H : Fin 8192 → Fin 2048 → EReal) (c : Fin 2048) (t : ℕ) : EReal :=
  if h : 16 ≤ t ∧ t < 8208 then H ⟨t - 16, by omega⟩ c else 0

/-- What the `n` positions up to position `t` add up to. -/
def window (n : ℕ) (H : Fin 8192 → Fin 2048 → EReal) (c : Fin 2048) (t : ℕ) : EReal :=
  ∑ s ∈ Finset.range n, late H c (t + 16 - s)

/-- The mean over the last positions, less the position's own value. -/
def part (n : ℕ) (w : BitVec 32) (H : Fin 8192 → Fin 2048 → EReal) (r : Fin 8192) (c : Fin 2048) : EReal :=
  Ideal.div (window n H c r.val) (count w r.val) - H r c

/-- The pooled differences: two, four, eight and sixteen positions, a group of the columns each. -/
def pooled (H : Fin 8192 → Fin 2048 → EReal) (r : Fin 8192) (c : Fin 2048) : EReal :=
  if c.val < 512 then part 2 0x40000000#32 H r c else if c.val < 1024 then part 4 0x40800000#32 H r c
  else if c.val < 1536 then part 8 0x41000000#32 H r c else part 16 0x41800000#32 H r c

/-- Row `r` of the block of step `i`. -/
def rowOf (i : grid0.Coords) (r : Fin 256) : Fin 8192 := ⟨256 * (i 0).val + r.val, by have : (i 0).val < 32 := (i 0).isLt; omega⟩

theorem exists_place {m n : ℕ} (j : Shape.Idx ⟨2, ![m, n]⟩) : ∃ (x : Fin m) (y : Fin n), j = ix2 x y :=
  ⟨j 0, j 1, funext fun a => by match a with | ⟨0, _⟩ => rfl | ⟨1, _⟩ => rfl⟩

theorem toInt_small (n : ℕ) (h : n < 2 ^ 31) : (BitVec.ofNat 32 n).toInt = n := by
  rw [BitVec.toInt_eq_toNat_of_lt (by rw [BitVec.toNat_ofNat]; omega), BitVec.toNat_ofNat]
  omega

theorem pay2_apply (i : grid0.Coords) (r : Fin 272) (z : Fin 1) : (k0_pay2 i (ix2 r z)).toInt = ((256 * (i 0).val + r.val : ℕ) : ℤ) - 16 := by
  have hi : (i 0).val < 32 := (i 0).isLt
  have hr := r.isLt
  pointwise [k0_pay2]
  have e : (BitVec.ofNat 32 (i 0).val * 256#32 - 16#32 + BitVec.ofNat 32 r.val : BitVec 32) = BitVec.ofNat 32 (256 * (i 0).val + r.val) - BitVec.ofNat 32 16 := by
    apply BitVec.eq_of_toNat_eq
    simp
    omega
  refine (congrArg BitVec.toInt e).trans ?_
  rw [BitVec.toInt_sub, toInt_small _ (by omega), toInt_small _ (by omega), Int.bmod_eq_of_le] <;> omega

theorem pay4_apply (i : grid0.Coords) (r : Fin 256) (z : Fin 1) :
    k0_pay4 (F := Ideal) i (ix2 r z) = (((256 * (i 0).val + r.val : ℕ) : ℝ) : EReal) := by
  have hr := r.isLt
  pointwise [k0_pay4]
  refine (?_ : (((k0_pay2 i (ix2 ⟨16 + r.val, by omega⟩ z)).toInt : ℝ) : EReal) = _)
  rw [pay2_apply]
  congr 1
  push_cast
  ring

/-- The normed rows of a block and of the sixteen before it. -/
theorem pay3_apply (i : grid0.Coords) (v0 : Vec Ideal S16x2048 .f32) (v1 : Vec Ideal S256x2048 .f32) (v13 : Vec Ideal S1x2048 .f32)
    (x : S8192x2048.Idx → Elt Ideal .f32)
    (h0 : ∀ (r : Fin 16) (c : Fin 2048) (h : 16 ≤ 256 * (i 0).val + r.val) (h' : 256 * (i 0).val + r.val - 16 < 8192), v0 (ix2 r c) = x (ix2 ⟨256 * (i 0).val + r.val - 16, h'⟩ c))
    (h1 : ∀ (r : Fin 256) (c : Fin 2048), v1 (ix2 r c) = x (ix2 (rowOf i r) c))
    (r : Fin 272) (c : Fin 2048) :
    k0_pay3 i v0 v1 v13 (ix2 r c) = late (normed x v13) c (256 * (i 0).val + r.val) := by
  have hi : (i 0).val < 32 := (i 0).isLt
  have hr := r.isLt
  pointwise [k0_pay3]
  have hc : IntOp.cmpi .sge (k0_pay2 i (ix2 r 0)) 0#32 = BitVec.ofBool (decide (16 ≤ 256 * (i 0).val + r.val)) := by
    refine congrArg BitVec.ofBool (?_ : BitVec.sle 0#32 _ = _)
    rw [BitVec.sle_eq_decide, pay2_apply]
    simp
    omega
  rw [hc]
  by_cases h : 16 ≤ 256 * (i 0).val + r.val
  · have hx (k : Fin 2048) : (if h : r.val < 16 then v0 (ix2 ⟨r.val, h⟩ k) else v1 (ix2 ⟨r.val - 16, by omega⟩ k)) = x (ix2 ⟨256 * (i 0).val + r.val - 16, by omega⟩ k) := by
      by_cases hlt : r.val < 16
      · rw [dif_pos hlt]
        exact h0 ⟨r.val, hlt⟩ k h (by show 256 * (i 0).val + r.val - 16 < 8192; omega)
      · rw [dif_neg hlt, h1]
        congr 2
        apply Fin.ext
        show 256 * (i 0).val + (r.val - 16) = 256 * (i 0).val + r.val - 16
        omega
    simp only [h, decide_true]
    rw [late, dif_pos (show 16 ≤ 256 * (i 0).val + r.val ∧ 256 * (i 0).val + r.val < 8208 from ⟨h, by omega⟩)]
    unfold normed
    simp only [← hx]
    rfl
  · rw [late, dif_neg (show ¬ (16 ≤ 256 * (i 0).val + r.val ∧ 256 * (i 0).val + r.val < 8208) by omega)]
    simp only [h, decide_false]
    rfl

/-- What row `r` of the block reads of its own and the rows above it, after summing `n` of them. -/
def Sums (n : ℕ) (a : FVec Ideal S272x512 .f32) (f : ℕ → Fin 512 → EReal) : Prop :=
  ∀ (r : Fin 272) (c : Fin 512), n ≤ r.val + 1 → a (ix2 r c) = ∑ s ∈ Finset.range n, f (r.val - s) c

theorem Sums.double {n : ℕ} {a : FVec Ideal S272x512 .f32} {f : ℕ → Fin 512 → EReal} (ha : Sums n a f) (b : BitVec 32)
    (hb : b.toNat = n) (hn : 0 < n) (hr : S272x512.Rotates 0 none) : Sums (n + n) (addf a (dynamicRotate 0 b none a hr)) f := by
  intro r c h
  have hr' := r.isLt
  have e : dynamicRotate 0 b none a hr (ix2 r c) = a (ix2 ⟨r.val - n, by omega⟩ c) :=
    dynamicRotate_apply 0 b a hr _ _ fun k => by
      match k with
      | ⟨0, _⟩ =>
        show r.val - n = (r.val + 272 - b.toNat % 272) % 272
        rw [hb, Nat.mod_eq_of_lt (by omega : n < 272)]
        omega
      | ⟨1, _⟩ => rfl
  show a (ix2 r c) + dynamicRotate 0 b none a hr (ix2 r c) = _
  rw [e, ha r c (by omega), ha _ c (by show n ≤ r.val - n + 1; omega), Finset.sum_range_add]
  simp only [Nat.sub_sub]

/-- A value is one of a sum of one. -/
theorem Sums.one {a : FVec Ideal S272x512 .f32} {f : ℕ → Fin 512 → EReal} (ha : ∀ (r : Fin 272) (c : Fin 512), a (ix2 r c) = f r.val c) :
    Sums 1 a f := by
  intro r c _
  rw [ha, Finset.sum_range_one, Nat.sub_zero]

/-- A group's columns are those from its first on. -/
theorem group_apply (off : ℕ) (hoff : off + 512 ≤ 2048) (x : FVec Ideal S272x2048 .f32) (h : S272x2048.Slices ![0, off] S272x512) (r : Fin 272) (c : Fin 512) :
    extractStridedSlice S272x512 ![0, off] x h (ix2 r c) = x (ix2 r ⟨off + c.val, by omega⟩) := by
  pointwise []

/-- The mean of a group's sums, less the rows' own, for the rows of the block. -/
theorem mean_apply (w : BitVec 32) (a b : FVec Ideal S272x512 .f32) (v : FVec Ideal S256x1 .f32) (h : S272x512.Slices ![16, 0] S256x512) (hb : S256x1.Broadcasts S256x512)
    (r : Fin 256) (c : Fin 512) :
    truncf (F := Ideal) .bf16 (subf (divf (extractStridedSlice S256x512 ![16, 0] a h)
        (broadcastTo S256x512 (minimumf (F := Ideal) (φ := .f32) (addf v (broadcast S256x1 (Scalar.ofBits .f32 0x3F800000#32))) (broadcast S256x1 (Scalar.ofBits .f32 w))) hb))
        (extractStridedSlice S256x512 ![16, 0] b h)) bitsLt_bf16_f32 (ix2 r c)
      = (Ideal.div (a (ix2 ⟨16 + r.val, by omega⟩ c)) (min (v (ix2 r 0) + 1) (Ideal.ofBits .f32 w)) - b (ix2 ⟨16 + r.val, by omega⟩ c) : EReal) := by
  pointwise []

section
variable (i : grid0.Coords) (v0 : Vec Ideal S16x2048 .f32) (v1 : Vec Ideal S256x2048 .f32) (v13 : Vec Ideal S1x2048 .f32)
  (x : S8192x2048.Idx → Elt Ideal .f32)
  (h0 : ∀ (r : Fin 16) (c : Fin 2048) (h : 16 ≤ 256 * (i 0).val + r.val) (h' : 256 * (i 0).val + r.val - 16 < 8192), v0 (ix2 r c) = x (ix2 ⟨256 * (i 0).val + r.val - 16, h'⟩ c))
  (h1 : ∀ (r : Fin 256) (c : Fin 2048), v1 (ix2 r c) = x (ix2 (rowOf i r) c))

include h0 h1

/-- A group's own values. -/
theorem own_apply (off : ℕ) (hoff : off + 512 ≤ 2048) (hs : S272x2048.Slices ![0, off] S272x512) (r : Fin 272) (c : Fin 512) :
    extractStridedSlice S272x512 ![0, off] (k0_pay3 i v0 v1 v13) hs (ix2 r c) = late (normed x v13) ⟨off + c.val, by omega⟩ (256 * (i 0).val + r.val) :=
  (group_apply off hoff _ hs r c).trans (pay3_apply i v0 v1 v13 x h0 h1 r _)

/-- From a group's sums to its differences. -/
theorem close_apply (n : ℕ) (hn : n ≤ 16) (w : BitVec 32) (off : ℕ) (hoff : off + 512 ≤ 2048) (hs : S272x2048.Slices ![0, off] S272x512) (a : FVec Ideal S272x512 .f32)
    (ha : Sums n a fun t c => late (normed x v13) ⟨off + c.val, by omega⟩ (256 * (i 0).val + t)) (h : S272x512.Slices ![16, 0] S256x512) (hb : S256x1.Broadcasts S256x512)
    (r : Fin 256) (c : Fin 512) :
    truncf (F := Ideal) .bf16 (subf (divf (extractStridedSlice S256x512 ![16, 0] a h)
        (broadcastTo S256x512 (minimumf (F := Ideal) (φ := .f32) (addf (k0_pay4 i) (broadcast S256x1 (Scalar.ofBits .f32 0x3F800000#32))) (broadcast S256x1 (Scalar.ofBits .f32 w))) hb))
        (extractStridedSlice S256x512 ![16, 0] (extractStridedSlice S272x512 ![0, off] (k0_pay3 i v0 v1 v13) hs) h)) bitsLt_bf16_f32 (ix2 r c)
      = part n w (normed x v13) (rowOf i r) ⟨off + c.val, by omega⟩ := by
  have hi : (i 0).val < 32 := (i 0).isLt
  have hr := r.isLt
  rw [mean_apply, ha _ c (by show n ≤ 16 + r.val + 1; omega), own_apply i v0 v1 v13 x h0 h1 off hoff, pay4_apply]
  refine congrArg₂ (fun x y : EReal => x - y) (congrArg (fun y : EReal => Ideal.div y _) (Finset.sum_congr rfl fun s hs => congrArg (late _ _) ?_)) ?_
  · have := Finset.mem_range.mp hs
    show 256 * (i 0).val + (16 + r.val - s) = 256 * (i 0).val + r.val + 16 - s
    omega
  · rw [late, dif_pos (by show 16 ≤ 256 * (i 0).val + (16 + r.val) ∧ 256 * (i 0).val + (16 + r.val) < 8208; omega)]
    refine congrArg (fun r => normed x v13 r _) (Fin.ext ?_)
    show 256 * (i 0).val + (16 + r.val) - 16 = 256 * (i 0).val + r.val
    omega

/-- The differences of the first group, in a row of the block. -/
theorem first_apply (r : Fin 256) (c : Fin 512) :
    k0_pay5 i v0 v1 v13 (ix2 r c) = part 2 0x40000000#32 (normed x v13) (rowOf i r) ⟨0 + c.val, by omega⟩ := by
  have q := Sums.one (f := fun t c => late (normed x v13) ⟨0 + c.val, by omega⟩ (256 * (i 0).val + t)) (own_apply i v0 v1 v13 x h0 h1 0 (by norm_num) slices_S272x2048_o0_0_S272x512)
  have s0 := Sums.double q 1#32 rfl (by norm_num) rotates_S272x512_d0
  exact close_apply i v0 v1 v13 x h0 h1 2 (by norm_num) 0x40000000#32 0 (by norm_num) slices_S272x2048_o0_0_S272x512 _ s0 slices_S272x512_o16_0_S256x512 broadcasts_S256x1_S256x512 r c

/-- The differences of the second group, in a row of the block. -/
theorem second_apply (r : Fin 256) (c : Fin 512) :
    k0_pay6 (k0_pay3 i v0 v1 v13) (k0_pay4 i) (ix2 r c) = part 4 0x40800000#32 (normed x v13) (rowOf i r) ⟨512 + c.val, by omega⟩ := by
  have q := Sums.one (f := fun t c => late (normed x v13) ⟨512 + c.val, by omega⟩ (256 * (i 0).val + t)) (own_apply i v0 v1 v13 x h0 h1 512 (by norm_num) slices_S272x2048_o0_512_S272x512)
  have s0 := Sums.double q 1#32 rfl (by norm_num) rotates_S272x512_d0
  have s1 := Sums.double s0 2#32 rfl (by norm_num) rotates_S272x512_d0
  exact close_apply i v0 v1 v13 x h0 h1 4 (by norm_num) 0x40800000#32 512 (by norm_num) slices_S272x2048_o0_512_S272x512 _ s1 slices_S272x512_o16_0_S256x512 broadcasts_S256x1_S256x512 r c

/-- The differences of the third group, in a row of the block. -/
theorem third_apply (r : Fin 256) (c : Fin 512) :
    k0_pay7 (k0_pay3 i v0 v1 v13) (k0_pay4 i) (ix2 r c) = part 8 0x41000000#32 (normed x v13) (rowOf i r) ⟨1024 + c.val, by omega⟩ := by
  have q := Sums.one (f := fun t c => late (normed x v13) ⟨1024 + c.val, by omega⟩ (256 * (i 0).val + t)) (own_apply i v0 v1 v13 x h0 h1 1024 (by norm_num) slices_S272x2048_o0_1024_S272x512)
  have s0 := Sums.double q 1#32 rfl (by norm_num) rotates_S272x512_d0
  have s1 := Sums.double s0 2#32 rfl (by norm_num) rotates_S272x512_d0
  have s2 := Sums.double s1 4#32 rfl (by norm_num) rotates_S272x512_d0
  exact close_apply i v0 v1 v13 x h0 h1 8 (by norm_num) 0x41000000#32 1024 (by norm_num) slices_S272x2048_o0_1024_S272x512 _ s2 slices_S272x512_o16_0_S256x512 broadcasts_S256x1_S256x512 r c

/-- The differences of the fourth group, in a row of the block. -/
theorem fourth_apply (r : Fin 256) (c : Fin 512) :
    k0_pay1 (k0_pay4 i) (k0_pay8 (k0_pay3 i v0 v1 v13)) (k0_pay9 (k0_pay3 i v0 v1 v13)) 4#32 (ix2 r c) = part 16 0x41800000#32 (normed x v13) (rowOf i r) ⟨1536 + c.val, by omega⟩ := by
  have q := Sums.one (f := fun t c => late (normed x v13) ⟨1536 + c.val, by omega⟩ (256 * (i 0).val + t)) (own_apply i v0 v1 v13 x h0 h1 1536 (by norm_num) slices_S272x2048_o0_1536_S272x512)
  have s0 := Sums.double q 1#32 rfl (by norm_num) rotates_S272x512_d0
  have s1 := Sums.double s0 2#32 rfl (by norm_num) rotates_S272x512_d0
  have s2 := Sums.double s1 4#32 rfl (by norm_num) rotates_S272x512_d0
  have s3 := Sums.double s2 8#32 rfl (by norm_num) rotates_S272x512_d0
  exact close_apply i v0 v1 v13 x h0 h1 16 (by norm_num) 0x41800000#32 1536 (by norm_num) slices_S272x2048_o0_1536_S272x512 _ s3 slices_S272x512_o16_0_S256x512 broadcasts_S256x1_S256x512 r c

end

/-- A place of a group's columns in the block. -/
theorem place (off : ℕ) (hoff : off + 512 ≤ 2048) (inb : ∀ a, (![0, off] : Fin 2 → ℕ) a + S256x512.size a ≤ S256x2048.size a) (r : Fin 256) (c : Fin 512) :
    (Rect.unit (s := S256x2048) ![0, off] S256x512.size inb).emb (ix2 r c) = ix2 r ⟨off + c.val, by omega⟩ := by
  funext a
  apply Fin.ext
  match a with
  | ⟨0, _⟩ => show 0 + 1 * r.val = r.val; omega
  | ⟨1, _⟩ => show off + 1 * c.val = off + c.val; omega

/-- What a step stores: the four groups' columns side by side. -/
def stored (i : grid0.Coords) (v0 : Vec Ideal S16x2048 .f32) (v1 : Vec Ideal S256x2048 .f32) (v13 : Vec Ideal S1x2048 .f32) : Vec Ideal S256x2048 .bf16 := View.canon (Val := Elt Ideal) (s := S256x2048) (e := .bf16)
  [⟨Rect.unit ![0, 1536] S256x512.size inb_S256x2048_S256x512_0_1536, k0_pay1 (k0_pay4 i) (k0_pay8 (k0_pay3 i v0 v1 v13)) (k0_pay9 (k0_pay3 i v0 v1 v13)) 4#32⟩,
    ⟨Rect.unit ![0, 1024] S256x512.size inb_S256x2048_S256x512_0_1024, k0_pay7 (k0_pay3 i v0 v1 v13) (k0_pay4 i)⟩,
    ⟨Rect.unit ![0, 512] S256x512.size inb_S256x2048_S256x512_0_512, k0_pay6 (k0_pay3 i v0 v1 v13) (k0_pay4 i)⟩,
    ⟨Rect.unit ![0, 0] S256x512.size inb_S256x2048_S256x512_0_0, k0_pay5 i v0 v1 v13⟩]

theorem out_stored (i : grid0.Coords) (v0 : Vec Ideal S16x2048 .f32) (v1 : Vec Ideal S256x2048 .f32) (v13 : Vec Ideal S1x2048 .f32) :
    out0_3 i v1 v0 v13 = stored i v0 v1 v13 := by
  unfold out0_3 k0_pay11 k0_pay10 stored
  frame_out

/-- The differences of a block. -/
theorem block_apply (i : grid0.Coords) (v0 : Vec Ideal S16x2048 .f32) (v1 : Vec Ideal S256x2048 .f32) (v13 : Vec Ideal S1x2048 .f32)
    (x : S8192x2048.Idx → Elt Ideal .f32)
    (h0 : ∀ (r : Fin 16) (c : Fin 2048) (h : 16 ≤ 256 * (i 0).val + r.val) (h' : 256 * (i 0).val + r.val - 16 < 8192), v0 (ix2 r c) = x (ix2 ⟨256 * (i 0).val + r.val - 16, h'⟩ c))
    (h1 : ∀ (r : Fin 256) (c : Fin 2048), v1 (ix2 r c) = x (ix2 (rowOf i r) c)) (r : Fin 256) (c : Fin 2048) :
    out0_3 i v1 v0 v13 (ix2 r c) = pooled (normed x v13) (rowOf i r) c := by
  rw [out_stored]
  refine View.canon_apply_of_pieces (Val := Elt Ideal) (e := .bf16) (fun j : S256x2048.Idx => pooled (normed x v13) (rowOf i (j 0)) (j 1)) _ ?_ (ix2 r c) ?_
  · intro p hp
    simp only [List.mem_cons, List.not_mem_nil, or_false] at hp
    rcases hp with rfl | rfl | rfl | rfl
    · intro z
      obtain ⟨a, b, rfl⟩ := exists_place z
      refine (fourth_apply i v0 v1 v13 x h0 h1 a b).trans ?_
      refine Eq.trans ?_ (congrArg (fun j : S256x2048.Idx => pooled (normed x v13) (rowOf i (j 0)) (j 1)) (place 1536 (by omega) inb_S256x2048_S256x512_0_1536 a b)).symm
      show _ = pooled (normed x v13) (rowOf i a) ⟨1536 + b.val, _⟩
      rw [pooled, if_neg (by show ¬ 1536 + b.val < 512; omega), if_neg (by show ¬ 1536 + b.val < 1024; omega), if_neg (by show ¬ 1536 + b.val < 1536; omega)]
    · intro z
      obtain ⟨a, b, rfl⟩ := exists_place z
      refine (third_apply i v0 v1 v13 x h0 h1 a b).trans ?_
      refine Eq.trans ?_ (congrArg (fun j : S256x2048.Idx => pooled (normed x v13) (rowOf i (j 0)) (j 1)) (place 1024 (by omega) inb_S256x2048_S256x512_0_1024 a b)).symm
      show _ = pooled (normed x v13) (rowOf i a) ⟨1024 + b.val, _⟩
      rw [pooled, if_neg (by show ¬ 1024 + b.val < 512; omega), if_neg (by show ¬ 1024 + b.val < 1024; omega), if_pos (by show 1024 + b.val < 1536; omega)]
    · intro z
      obtain ⟨a, b, rfl⟩ := exists_place z
      refine (second_apply i v0 v1 v13 x h0 h1 a b).trans ?_
      refine Eq.trans ?_ (congrArg (fun j : S256x2048.Idx => pooled (normed x v13) (rowOf i (j 0)) (j 1)) (place 512 (by omega) inb_S256x2048_S256x512_0_512 a b)).symm
      show _ = pooled (normed x v13) (rowOf i a) ⟨512 + b.val, _⟩
      rw [pooled, if_neg (by show ¬ 512 + b.val < 512; omega), if_pos (by show 512 + b.val < 1024; omega)]
    · intro z
      obtain ⟨a, b, rfl⟩ := exists_place z
      refine (first_apply i v0 v1 v13 x h0 h1 a b).trans ?_
      refine Eq.trans ?_ (congrArg (fun j : S256x2048.Idx => pooled (normed x v13) (rowOf i (j 0)) (j 1)) (place 0 (by omega) inb_S256x2048_S256x512_0_0 a b)).symm
      show _ = pooled (normed x v13) (rowOf i a) ⟨0 + b.val, _⟩
      rw [pooled, if_pos (by show 0 + b.val < 512; omega)]
  · have hr := r.isLt
    have hc := c.isLt
    have cov (off : ℕ) (inb : ∀ a, (![0, off] : Fin 2 → ℕ) a + S256x512.size a ≤ S256x2048.size a) (h : off ≤ c.val ∧ c.val < off + 512) :
        (ix2 r c : S256x2048.Idx) ∈ (Rect.unit (s := S256x2048) ![0, off] S256x512.size inb).set := by
      rw [Rect.mem_set_unit]
      intro a
      match a with
      | ⟨0, _⟩ => exact ⟨Nat.zero_le _, by show r.val < 0 + 256; omega⟩
      | ⟨1, _⟩ => exact h
    rcases (by omega : (1536 ≤ c.val ∧ c.val < 1536 + 512) ∨ (1024 ≤ c.val ∧ c.val < 1024 + 512) ∨ (512 ≤ c.val ∧ c.val < 512 + 512) ∨ (0 ≤ c.val ∧ c.val < 0 + 512))
      with h | h | h | h
    · exact ⟨_, .head _, cov 1536 inb_S256x2048_S256x512_0_1536 h⟩
    · exact ⟨_, .tail _ (.head _), cov 1024 inb_S256x2048_S256x512_0_1024 h⟩
    · exact ⟨_, .tail _ (.tail _ (.head _)), cov 512 inb_S256x2048_S256x512_0_512 h⟩
    · exact ⟨_, .tail _ (.tail _ (.tail _ (.head _))), cov 0 inb_S256x2048_S256x512_0_0 h⟩

end Cert.PoolPreRows

end
-- ==== Proof.PoolPreReference.lean ====
/-
# The pooled differences, as the reference computes them
-/
module

public import proofs.«01_k».proof.Proof.Gen.PoolPreReferenceIdeal.Run
public import proofs.«01_k».proof.Proof.PoolPreBlock
public import Idealize.ShloMosaic.Lib.Pointwise.Contract

@[expose] public section

set_option maxRecDepth 16384

noncomputable section

namespace Cert.PoolPreRef

open Idealize.ShloMosaic Idealize.ShloMosaic.TcCoe Idealize.SL.Sem
open Cert.PoolPreReferenceIdeal Cert.PoolPreReferenceIdeal.Gen

/-- How far a column's position lies behind a row's. -/
def behind : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

section
variable {F : FTy → Type} [FloatOps F]

/-- Whether a column's position is one of those a row's position takes the mean of. -/
def held (n : BitVec 32) : FVec F S8192x8192 .f32 :=
  uitofp .f32 (andi (cmpi .sge behind (broadcastInDim S8192x8192 ![] bcast_S_S8192x8192 (constantI S_ 32 0#32)))
    (cmpi .slt behind (broadcastInDim S8192x8192 ![] bcast_S_S8192x8192 (constantI S_ 32 n))))

/-- How many positions there are up to each. -/
def taken : FVec F S8192x1 .f32 :=
  broadcastInDim S8192x1 ![0] bcast_S8192_S8192x1_0 (sitofp .f32 (addi (iotaInDim S8192 32 0) (broadcastInDim S8192 ![] bcast_S_S8192 (constantI S_ 32 1#32))))

/-- The means of a group, less the group's own values. -/
def group (n w : BitVec 32) (h : FVec F S8192x512 .f32) : FVec F S8192x512 .f32 :=
  subf (Host.divf (Host.dotGeneral dot_S8192x8192_S8192x512_S8192x512_1_0_0_1_n_n none (held n) h)
    (broadcastInDim S8192x512 ![0, 1] bcast_S8192x1_S8192x512_0_1 (minimumf taken (broadcastInDim S8192x1 ![] bcast_S_S8192x1 (constant S_ .f32 w))))) h

/-- The groups' columns side by side. -/
def pooled (h : FVec F S8192x2048 .f32) : FVec F S8192x2048 .bf16 :=
  truncf .bf16 (concatenate S8192x2048 1 [⟨S8192x512, group 2#32 0x40000000#32 (extractStridedSlice S8192x512 ![0, 0] h slices_S8192x2048_S8192x512_0_0)⟩,
    ⟨S8192x512, group 4#32 0x40800000#32 (extractStridedSlice S8192x512 ![0, 512] h slices_S8192x2048_S8192x512_0_512)⟩,
    ⟨S8192x512, group 8#32 0x41000000#32 (extractStridedSlice S8192x512 ![0, 1024] h slices_S8192x2048_S8192x512_0_1024)⟩,
    ⟨S8192x512, group 16#32 0x41800000#32 (extractStridedSlice S8192x512 ![0, 1536] h slices_S8192x2048_S8192x512_0_1536)⟩]
    concatenates_S8192x512_S8192x512_S8192x512_S8192x512_S8192x2048_d1) bitsLt_bf16_f32

/-- The normed rows. -/
def normed (x : FVec F S8192x2048 .f32) (g : FVec F S1x2048 .f32) : FVec F S8192x2048 .f32 :=
  mulf (mulf x (broadcastInDim S8192x2048 ![0, 1] bcast_S8192x1_S8192x2048_0_1 (Host.rsqrt (addf
    (Host.divf (broadcastInDim S8192x1 ![0] bcast_S8192_S8192x1_0 (Host.reduceAdd (mulf x x) (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 g)

theorem out_eq (m : (ℓ : Loc nD τ sig) → Buf (Elt F) ℓ) (c : Dev nD) : Value.res_main_v75 m c
    = pooled (normed (m ((c.tc : Thread nD τ).loc main_arg0)) (m ((c.tc : Thread nD τ).loc main_arg1))) := rfl

end

open Cert.PoolPreRows (count late window part toInt_small exists_place)

theorem taken_apply (r : Fin 8192) (z : Fin 1) : taken (F := Ideal) (ix2 r z) = ((r.val : ℝ) : EReal) + 1 := by
  have hr := r.isLt
  pointwise [taken]
  have e : (IntOp.addi (BitVec.ofNat 32 r.val) 1#32 : BitVec 32) = BitVec.ofNat 32 (r.val + 1) := by
    apply BitVec.eq_of_toNat_eq
    simp [IntOp.addi]
  rw [e]
  show (((BitVec.ofNat 32 (r.val + 1)).toInt : ℝ) : EReal) = _
  rw [toInt_small _ (by omega)]
  push_cast
  rfl

theorem held_apply (n : ℕ) (hn : n ≤ 16) (r s : Fin 8192) :
    held (F := Ideal) (BitVec.ofNat 32 n) (ix2 r s) = if s.val ≤ r.val ∧ r.val < s.val + n then 1 else 0 := by
  have hr := r.isLt
  have hs := s.isLt
  pointwise [held, behind]
  have e : (IntOp.subi (BitVec.ofNat 32 r.val) (BitVec.ofNat 32 s.val) : BitVec 32).toInt = (r.val : ℤ) - s.val := by
    show (BitVec.ofNat 32 r.val - BitVec.ofNat 32 s.val).toInt = _
    rw [BitVec.toInt_sub, toInt_small _ (by omega), toInt_small _ (by omega), Int.bmod_eq_of_le] <;> omega
  have h1 : IntOp.cmpi .sge (IntOp.subi (BitVec.ofNat 32 r.val) (BitVec.ofNat 32 s.val)) 0#32 = BitVec.ofBool (decide (s.val ≤ r.val)) := by
    refine congrArg BitVec.ofBool (?_ : BitVec.sle 0#32 _ = _)
    rw [BitVec.sle_eq_decide, e]
    simp
  have h2 : IntOp.cmpi .slt (IntOp.subi (BitVec.ofNat 32 r.val) (BitVec.ofNat 32 s.val)) (BitVec.ofNat 32 n) = BitVec.ofBool (decide (r.val < s.val + n)) := by
    refine congrArg BitVec.ofBool (?_ : BitVec.slt _ _ = _)
    rw [BitVec.slt_eq_decide, e, toInt_small _ (by omega)]
    apply decide_eq_decide.mpr
    omega
  rw [h1, h2]
  by_cases a : s.val ≤ r.val <;> by_cases b : r.val < s.val + n <;> simp only [a, b, decide_true, decide_false, and_self, and_true, true_and, and_false, false_and, if_true, if_false]
  · show (((1 : ℕ) : ℝ) : EReal) = 1
    norm_cast
  all_goals
    show (((0 : ℕ) : ℝ) : EReal) = 0
    norm_cast

/-- The values of the positions in a position's window are those of the positions up to it. -/
theorem sum_held (m : ℕ) (f : ℕ → EReal) (hf : ∀ t, t < 16 → f t = 0) (r n : ℕ) (hr : r < m) (hn : n ≤ 16) :
    ∑ s : Fin m, (if s.val ≤ r ∧ r < s.val + n then (1 : EReal) else 0) * f (s.val + 16) = ∑ s ∈ Finset.range n, f (r + 16 - s) := by
  have q : ∑ s : Fin m, (if s.val ≤ r ∧ r < s.val + n then (1 : EReal) else 0) * f (s.val + 16)
      = ∑ s ∈ Finset.range m, if s ≤ r ∧ r < s + n then f (s + 16) else 0 := by
    rw [Finset.sum_range]
    refine Finset.sum_congr rfl fun s _ => ?_
    split <;> simp
  have z : ∑ s ∈ Finset.range n, f (r + 16 - s) = ∑ s ∈ (Finset.range n).filter (· ≤ r), f (r + 16 - s) := by
    refine (Finset.sum_subset (Finset.filter_subset _ _) fun s hs hn => hf _ ?_).symm
    simp only [Finset.mem_filter, Finset.mem_range] at hs hn
    omega
  rw [q, ← Finset.sum_filter, z]
  refine Finset.sum_bij' (fun s _ => r - s) (fun s _ => r - s) ?_ ?_ ?_ ?_ ?_
  all_goals
    intro s hs
    simp only [Finset.mem_filter, Finset.mem_range] at hs ⊢
  · omega
  · omega
  · omega
  · omega
  · exact congrArg f (by omega)

theorem group_apply (n : ℕ) (hn : n ≤ 16) (w : BitVec 32) (off : ℕ) (hoff : off + 512 ≤ 2048) (h : FVec Ideal S8192x512 .f32) (H : Fin 8192 → Fin 2048 → EReal)
    (hh : ∀ (r : Fin 8192) (c : Fin 512), h (ix2 r c) = H r ⟨off + c.val, by omega⟩) (r : Fin 8192) (c : Fin 512) :
    group (BitVec.ofNat 32 n) w h (ix2 r c) = part n w H r ⟨off + c.val, by omega⟩ := by
  have e : (∑ s : Fin 8192, held (F := Ideal) (BitVec.ofNat 32 n) (ix2 r s) * h (ix2 s c) : EReal) = window n H ⟨off + c.val, by omega⟩ r.val := by
    refine Eq.trans (Finset.sum_congr rfl fun s _ => ?_) (sum_held 8192 (late H ⟨off + c.val, by omega⟩) (fun t ht => dif_neg (by omega)) r.val n r.isLt hn)
    rw [held_apply n hn, hh, late, dif_pos ⟨by omega, by omega⟩]
    rfl
  pointwise [group]
  rw [e, hh, taken_apply]
  rfl

theorem normed_apply (x : FVec Ideal S8192x2048 .f32) (g : FVec Ideal S1x2048 .f32) (r : Fin 8192) (c : Fin 2048) : normed x g (ix2 r c) = Cert.PoolPreRows.normed x g r c := by
  pointwise [normed]
  rfl

theorem pooled_apply (h : FVec Ideal S8192x2048 .f32) (H : Fin 8192 → Fin 2048 → EReal) (hh : ∀ r c, h (ix2 r c) = H r c) (r : Fin 8192) (c : Fin 2048) :
    pooled h (ix2 r c) = Cert.PoolPreRows.pooled H r c := by
  have hc := c.isLt
  have cut (off : ℕ) (hoff : off + 512 ≤ 2048) (hs : S8192x2048.Slices ![0, off] S8192x512) (r : Fin 8192) (c : Fin 512) :
      extractStridedSlice S8192x512 ![0, off] h hs (ix2 r c) = H r ⟨off + c.val, by omega⟩ := by
    rw [← hh]
    pointwise []
  pointwise [pooled]
  rw [Cert.PoolPreRows.pooled]
  by_cases h : c.val < 512
  · rw [dif_pos h, if_pos h]
    refine (group_apply 2 (by norm_num) _ 0 (by norm_num) _ H (cut 0 (by norm_num) _) r _).trans ?_
    exact congrArg (part 2 _ H r) (Fin.ext (by show 0 + c.val = c.val; omega))
  rw [dif_neg h, if_neg h]
  by_cases h : c.val < 1024
  · rw [dif_pos (by omega), if_pos h]
    refine (group_apply 4 (by norm_num) _ 512 (by norm_num) _ H (cut 512 (by norm_num) _) r _).trans ?_
    exact congrArg (part 4 _ H r) (Fin.ext (by show 512 + (c.val - 512) = c.val; omega))
  rw [dif_neg (by omega), if_neg h]
  by_cases h : c.val < 1536
  · rw [dif_pos (by omega), if_pos h]
    refine (group_apply 8 (by norm_num) _ 1024 (by norm_num) _ H (cut 1024 (by norm_num) _) r _).trans ?_
    exact congrArg (part 8 _ H r) (Fin.ext (by show 1024 + (c.val - 512 - 512) = c.val; omega))
  rw [dif_neg (by omega), if_neg h]
  refine (group_apply 16 (by norm_num) _ 1536 (by norm_num) _ H (cut 1536 (by norm_num) _) r _).trans ?_
  exact congrArg (part 16 _ H r) (Fin.ext (by show 1536 + (c.val - 512 - 512 - 512) = c.val; omega))

theorem differences_eq (x : FVec Ideal S8192x2048 .f32) (g : FVec Ideal S1x2048 .f32) :
    pooled (normed x g) = fun j => Cert.PoolPreRows.pooled (Cert.PoolPreRows.normed x g) (j 0) (j 1) := by
  funext j
  obtain ⟨r, c, rfl⟩ := exists_place j
  exact pooled_apply _ _ (normed_apply x g) r c

end Cert.PoolPreRef

end
-- ==== Proof.PoolPreClaims.lean ====
/-
# The pooled differences, certified
-/
module

public import proofs.«01_k».proof.Defs
public import proofs.«01_k».proof.Proof.Gen.PoolPre
public import proofs.«01_k».proof.Proof.Gen.PoolPre.Frame
public import proofs.«01_k».proof.Proof.Gen.PoolPreIdeal
public import proofs.«01_k».proof.Proof.Gen.PoolPreIdeal.Frame
public import proofs.«01_k».proof.Proof.Gen.PoolPreIdeal.Value
public import proofs.«01_k».proof.Proof.Gen.PoolPreReferenceIdeal
public import proofs.«01_k».proof.Proof.Gen.PoolPreReferenceIdeal.Run
public import proofs.«01_k».proof.Proof.PoolPreBlock
public import proofs.«01_k».proof.Proof.PoolPreReference
public import Idealize.ShloMosaic.Lib.IdealHost
public import Idealize.ShloMosaic.Lib.KernelVsHost
public import Idealize.ShloMosaic.Lib.Pipeline.Value
public import Idealize.ShloMosaic.Lib.Pipeline.ValueKit
public import Idealize.ShloMosaic.Lib.VecWindow
public import Idealize.ShloMosaic.Lib.Pointwise
public import Idealize.ShloMosaic.Lib.Pointwise.Reduce
public import Idealize.ShloMosaic.Lib.Pointwise.Contract
public import Idealize.ShloMosaic.Adequacy
public import Idealize.ShloMosaic.Init

@[expose] public section

set_option maxRecDepth 16384

noncomputable section

namespace Cert.PoolPreRows

open Idealize.ShloMosaic Idealize.ShloMosaic.TcCoe Idealize.SL.Sem
open Cert.PoolPreIdeal Cert.PoolPreIdeal.Gen Cert.PoolPreIdeal.Value

/-- The pooled differences of the normed rows. -/
def differences (x : S8192x2048.Idx → Elt Ideal .f32) (g : S1x2048.Idx → Elt Ideal .f32) : S8192x2048.Idx → Elt Ideal .bf16 :=
  fun j => pooled (normed x g) (j 0) (j 1)

/-- Where the blocks lie, step by step. -/
theorem index_rows : ∀ t : Fin cfg0.N, win0_0.index t = ![(grid0.coords t 0).val, 0] := (by decide +kernel : ∀ t : Fin grid0.N, _)
theorem index_before : ∀ t : Fin cfg0.N, win0_1.index t = ![16 * (grid0.coords t 0).val - 1, 0] := (by decide +kernel : ∀ t : Fin grid0.N, _)
theorem index_gains : ∀ t : Fin cfg0.N, win0_2.index t = ![0, 0] := (by decide +kernel : ∀ t : Fin grid0.N, _)
theorem index_out : ∀ t : Fin cfg0.N, win0_3.index t = ![(grid0.coords t 0).val, 0] := (by decide +kernel : ∀ t : Fin grid0.N, _)

variable (m : (ℓ : Loc nD τ sig) → Buf (Elt Ideal) ℓ) (ρ : Dev nD → PrngReg)

theorem final (c : Dev nD) : (dats m 0 c).arrAt 3 cfg0.N = differences (V m c main_arg0) (V m c main_arg1) := by
  refine (dats m 0 c).arrAt_eq_of_covers 3 _ (by decide +kernel) fun t hf y => ?_
  have hi : (grid0.coords t 0).val < 32 := (grid0.coords t 0).isLt
  blk_simp
  rw [after0_3]
  obtain ⟨r, k, rfl⟩ := exists_place y
  refine (block_apply (grid0.coords t) (iblk m c 1 t) (iblk m c 0 t) (iblk m c 2 t) (V m c main_arg0) (fun r k h h' => ?_) (fun r k => ?_) r k).trans ?_
  · blk_simp [iblk]
    congr 1
    blk_ext [index_before]
  · blk_simp [iblk]
    congr 1
    blk_ext [index_rows, rowOf]
  · have hg (k : Fin 2048) : iblk m c 2 t (ix2 0 k) = V m c main_arg1 (ix2 0 k) := by
      blk_simp [iblk]
      congr 1
      blk_ext [index_gains]
    have hn : normed (V m c main_arg0) (iblk m c 2 t) = normed (V m c main_arg0) (V m c main_arg1) := by
      funext r k
      unfold normed
      rw [hg]
    rw [hn]
    unfold differences
    refine congrArg₂ (pooled _) (Fin.ext ?_) (Fin.ext ?_)
    · blk_simp [index_out, rowOf]
      exact congrArg (· + r.val) (Nat.mul_comm _ _)
    · blk_simp [index_out]

/-- After the run the result is the pooled differences. -/
theorem run_differences : θ_run defs (onTc (τ := τ) (main (F := Ideal))) ⟨m, fun _ => 0, ρ⟩ fun r => ∀ c : Dev nD,
      r.2.mem ((c : Thread nD τ).loc main_v0) = differences (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

theorem frame_kernel : Cert.quiescent_PoolPre (hPoolPre := Cert.PoolPre.Gen.facts) := fun m g _ => Cert.PoolPre.Gen.frame (F := Bits) m g

theorem frame_kernelIdeal : Cert.quiescent_PoolPreIdeal (hPoolPreIdeal := Cert.PoolPreIdeal.Gen.facts) := fun m g _ => Cert.PoolPreIdeal.Gen.frame (F := Ideal) m g

theorem frame_referenceIdeal : Cert.quiescent_PoolPreReferenceIdeal (hPoolPreReferenceIdeal := Cert.PoolPreReferenceIdeal.Gen.facts) := fun m g _ =>
  (θ_run Cert.PoolPreReferenceIdeal.defs _ _).mono (fun r h => ⟨fun c => (h c).2, sem_eq_zero_of_no_sems rfl r.2⟩) (Cert.PoolPreReferenceIdeal.Value.run (F := Ideal) m g)

theorem value_ideal : Cert.algebraic_PoolPreIdeal_PoolPreReferenceIdeal (hPoolPreIdeal := Cert.PoolPreIdeal.Gen.facts) (hPoolPreReferenceIdeal := Cert.PoolPreReferenceIdeal.Gen.facts) :=
  fun m g m' g' _ hm => ⟨_, run_differences m g,
    (θ_run Cert.PoolPreReferenceIdeal.defs _ _).mono (fun _ h c => ⟨(h c).1.trans (by
      rw [Cert.PoolPreRef.out_eq, ← (hm c).1, ← (hm c).2]
      exact Cert.PoolPreRef.differences_eq _ _), (h c).2⟩)
      (Cert.PoolPreReferenceIdeal.Value.run (F := Ideal) m' g')⟩

end Cert.PoolPreRows

end
-- ==== Proof.lean ====
/-
# The exchange of the gradients, certified

The run of `Scatter.lean` gives the frame of the kernel at either float values; with the index computation of `Values.lean` and the
run of the reference it gives both value claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Weights
public import proofs.«01_k».proof.Proof.Gen.Weights.Launch
public import proofs.«01_k».proof.Proof.Gen.WeightsIdeal
public import proofs.«01_k».proof.Proof.Gen.WeightsIdeal.Skeleton
public import proofs.«01_k».proof.Proof.Gen.WeightsIdeal.Launch
public import proofs.«01_k».proof.Proof.Gen.WeightsReference
public import proofs.«01_k».proof.Proof.Gen.WeightsReference.Run
public import proofs.«01_k».proof.Proof.Gen.WeightsReferenceIdeal
public import proofs.«01_k».proof.Proof.Gen.WeightsReferenceIdeal.Run
public import proofs.«01_k».proof.Proof.Gen.Gains
public import proofs.«01_k».proof.Proof.Gen.Gains.Launch
public import proofs.«01_k».proof.Proof.Gen.GainsIdeal
public import proofs.«01_k».proof.Proof.Gen.GainsIdeal.Skeleton
public import proofs.«01_k».proof.Proof.Gen.GainsIdeal.Launch
public import proofs.«01_k».proof.Proof.Gen.GainsReference
public import proofs.«01_k».proof.Proof.Gen.GainsReference.Run
public import proofs.«01_k».proof.Proof.Gen.GainsReferenceIdeal
public import proofs.«01_k».proof.Proof.Gen.GainsReferenceIdeal.Run
public import proofs.«01_k».proof.Proof.Scatter
public import proofs.«01_k».proof.Proof.Values
public import proofs.«01_k».proof.Proof.WeightsClaims
public import proofs.«01_k».proof.Proof.GainsClaims
public import proofs.«01_k».proof.Proof.SumClaims
public import proofs.«01_k».proof.Proof.UpdateClaims
public import proofs.«01_k».proof.Proof.GradsClaims
public import proofs.«01_k».proof.Proof.GradXClaims
public import proofs.«01_k».proof.Proof.LossHeadClaims
public import proofs.«01_k».proof.Proof.AttnDeltaClaims
public import proofs.«01_k».proof.Proof.FfnDactClaims
public import proofs.«01_k».proof.Proof.FfnDwdClaims
public import proofs.«01_k».proof.Proof.FfnDhClaims
public import proofs.«01_k».proof.Proof.FfnDwgClaims
public import proofs.«01_k».proof.Proof.FfnNormBwdClaims
public import proofs.«01_k».proof.Proof.FfnDownClaims
public import proofs.«01_k».proof.Proof.FfnUpClaims
public import proofs.«01_k».proof.Proof.FfnNormClaims
public import proofs.«01_k».proof.Proof.PoolMixBwdClaims
public import proofs.«01_k».proof.Proof.PoolMixClaims
public import proofs.«01_k».proof.Proof.PoolPreClaims
public import Idealize.ShloMosaic.Adequacy
public import Idealize.ShloMosaic.Init

@[expose] public section

noncomputable section

namespace Cert.Proof

open Idealize.ShloMosaic Idealize.ShloMosaic.TcCoe Idealize.SL.Sem Cert.Exchange

section
variable {F : FTy → Type} [FloatOps F]

theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD, r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_v1) = outV (F := F) m c) ∧ r.2.sem = fun _ => 0) :=
  run_main (F := F) m ρ

/-- Device `c`'s result is block `c` of the reference's. -/
theorem result (m : (ℓ : Loc Cert.KernelIdeal.nD Cert.KernelIdeal.τ Cert.KernelIdeal.sig) → Buf (Elt F) ℓ) (A : (Stack 64 9856 1024).Idx → Elt F .f32)
    (hm : ∀ c : Dev Cert.KernelIdeal.nD, m ((c : Thread Cert.KernelIdeal.nD Cert.KernelIdeal.τ).loc Cert.KernelIdeal.main_arg0)
      = Layout.block (Stack 8 9856 1024) (Stack 64 9856 1024) 0 8 c A)
    (h₁ : (Stack 64 9856 1024).ShapeCasts Four) (h₂ : Four.Transposes [1, 0, 2, 3] Four) (h₃ : Four.ShapeCasts (Stack 64 9856 1024)) (c : Fin 8) :
    outV m c = Layout.block (Stack 8 9856 1024) (Stack 64 9856 1024) 0 8 c (shapeCast (Stack 64 9856 1024) (transpose Four [1, 0, 2, 3] (shapeCast Four A h₁) h₂) h₃) := by
  funext i
  exact (congrFun (hm _) _).trans (swapped A h₁ h₂ h₃ _ c i).symm

end

theorem frame_kernel : Cert.quiescent_Kernel (hKernel := Cert.Kernel.Gen.facts) := fun m g _ =>
  (θ_run Cert.Kernel.defs _ _).mono (fun _ h => ⟨fun c => (h.1 c).1, h.2⟩) (run_kernel (F := Bits) m g)

theorem frame_kernelIdeal : Cert.quiescent_KernelIdeal (hKernelIdeal := Cert.KernelIdeal.Gen.facts) := fun m g _ =>
  (θ_run Cert.KernelIdeal.defs _ _).mono (fun _ h => ⟨fun c => (h.1 c).1, h.2⟩) (run_main (F := Ideal) m g)

theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run (F := Ideal) m g)

theorem frame_reference : Cert.quiescent_Reference (hReference := Cert.Reference.Gen.facts) := fun m g _ =>
  (θ_run Cert.Reference.defs _ _).mono (fun r h => ⟨fun c => (h c).2, sem_eq_zero_of_no_sems rfl r.2⟩) (Cert.Reference.Value.run (F := Bits) m g)

theorem value_ideal : Cert.algebraic_KernelIdeal_ReferenceIdeal (hKernelIdeal := Cert.KernelIdeal.Gen.facts) (hReferenceIdeal := Cert.ReferenceIdeal.Gen.facts) :=
  fun m g m' g' _ hm => ⟨_,
    (θ_run Cert.KernelIdeal.defs _ _).mono (fun _ h c => ⟨(h.1 c).2.trans (result (F := Ideal) m _ hm _ _ _ c), (h.1 c).1⟩) (run_main (F := Ideal) m g),
    (θ_run Cert.ReferenceIdeal.defs _ _).mono (fun _ h => h 0) (Cert.ReferenceIdeal.Value.run (F := Ideal) m' g')⟩

theorem value_bits : Cert.bitexact_Kernel_Reference (hKernel := Cert.Kernel.Gen.facts) (hReference := Cert.Reference.Gen.facts) :=
  fun m g m' g' _ hm => ⟨_,
    (θ_run Cert.Kernel.defs _ _).mono (fun _ h c => ⟨(h.1 c).2.trans (result (F := Bits) m _ hm _ _ _ c), (h.1 c).1⟩) (run_kernel (F := Bits) m g),
    (θ_run Cert.Reference.defs _ _).mono (fun _ h => h 0) (Cert.Reference.Value.run (F := Bits) m' g')⟩

theorem claim : Cert.Claim := ⟨Cert.Kernel.Gen.facts, Cert.KernelIdeal.Gen.facts, Cert.ReferenceIdeal.Gen.facts, Cert.Reference.Gen.facts,
  Cert.Weights.Gen.facts, Cert.WeightsIdeal.Gen.facts, Cert.WeightsReferenceIdeal.Gen.facts, Cert.WeightsReference.Gen.facts,
  Cert.Gains.Gen.facts, Cert.GainsIdeal.Gen.facts, Cert.GainsReferenceIdeal.Gen.facts, Cert.GainsReference.Gen.facts,
  Cert.Sum.Gen.facts, Cert.SumIdeal.Gen.facts, Cert.SumReferenceIdeal.Gen.facts,
  Cert.Update1x256.Gen.facts, Cert.Update1x256Ideal.Gen.facts, Cert.UpdateReference1x256Ideal.Gen.facts,
  Cert.Update1x512.Gen.facts, Cert.Update1x512Ideal.Gen.facts, Cert.UpdateReference1x512Ideal.Gen.facts,
  Cert.Update1x2048.Gen.facts, Cert.Update1x2048Ideal.Gen.facts, Cert.UpdateReference1x2048Ideal.Gen.facts,
  Cert.Update2x2048.Gen.facts, Cert.Update2x2048Ideal.Gen.facts, Cert.UpdateReference2x2048Ideal.Gen.facts,
  Cert.Update256x512.Gen.facts, Cert.Update256x512Ideal.Gen.facts, Cert.UpdateReference256x512Ideal.Gen.facts,
  Cert.Update256x576.Gen.facts, Cert.Update256x576Ideal.Gen.facts, Cert.UpdateReference256x576Ideal.Gen.facts,
  Cert.Update256x2048.Gen.facts, Cert.Update256x2048Ideal.Gen.facts, Cert.UpdateReference256x2048Ideal.Gen.facts,
  Cert.Update512x384.Gen.facts, Cert.Update512x384Ideal.Gen.facts, Cert.UpdateReference512x384Ideal.Gen.facts,
  Cert.Update512x512.Gen.facts, Cert.Update512x512Ideal.Gen.facts, Cert.UpdateReference512x512Ideal.Gen.facts,
  Cert.Update1408x2048.Gen.facts, Cert.Update1408x2048Ideal.Gen.facts, Cert.UpdateReference1408x2048Ideal.Gen.facts,
  Cert.Update4096x704.Gen.facts, Cert.Update4096x704Ideal.Gen.facts, Cert.UpdateReference4096x704Ideal.Gen.facts,
  Cert.Grads.Gen.facts, Cert.GradsIdeal.Gen.facts, Cert.GradsReferenceIdeal.Gen.facts,
  Cert.GradX.Gen.facts, Cert.GradXIdeal.Gen.facts, Cert.GradXReferenceIdeal.Gen.facts,
  Cert.LossHead.Gen.facts, Cert.LossHeadIdeal.Gen.facts, Cert.LossHeadReferenceIdeal.Gen.facts,
  Cert.PoolPre.Gen.facts, Cert.PoolPreIdeal.Gen.facts, Cert.PoolPreReferenceIdeal.Gen.facts,
  Cert.PoolMix.Gen.facts, Cert.PoolMixIdeal.Gen.facts, Cert.PoolMixReferenceIdeal.Gen.facts,
  Cert.PoolMixBwd.Gen.facts, Cert.PoolMixBwdIdeal.Gen.facts, Cert.PoolMixBwdReferenceIdeal.Gen.facts,
  Cert.FfnNorm.Gen.facts, Cert.FfnNormIdeal.Gen.facts, Cert.FfnNormReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.FfnDact.Gen.facts, Cert.FfnDactIdeal.Gen.facts, Cert.FfnDactReferenceIdeal.Gen.facts,
  Cert.FfnDwd.Gen.facts, Cert.FfnDwdIdeal.Gen.facts, Cert.FfnDwdReferenceIdeal.Gen.facts,
  Cert.FfnDh.Gen.facts, Cert.FfnDhIdeal.Gen.facts, Cert.FfnDhReferenceIdeal.Gen.facts,
  Cert.FfnDwg.Gen.facts, Cert.FfnDwgIdeal.Gen.facts, Cert.FfnDwgReferenceIdeal.Gen.facts,
  Cert.FfnNormBwd.Gen.facts, Cert.FfnNormBwdIdeal.Gen.facts, Cert.FfnNormBwdReferenceIdeal.Gen.facts,
  Cert.AttnDelta.Gen.facts, Cert.AttnDeltaIdeal.Gen.facts, Cert.AttnDeltaReferenceIdeal.Gen.facts,
  frame_kernel, frame_kernelIdeal, frame_referenceIdeal, frame_reference,
  GatherWeights.frame_kernel, GatherWeights.frame_kernelIdeal, GatherWeights.frame_referenceIdeal, GatherWeights.frame_reference,
  GatherGains.frame_kernel, GatherGains.frame_kernelIdeal, GatherGains.frame_referenceIdeal, GatherGains.frame_reference,
  SumRows.frame_kernel, SumRows.frame_kernelIdeal, SumRows.frame_referenceIdeal,
  Updates.frame_1x256, Updates.frame_ideal_1x256, Updates.frame_reference_1x256,
  Updates.frame_1x512, Updates.frame_ideal_1x512, Updates.frame_reference_1x512,
  Updates.frame_1x2048, Updates.frame_ideal_1x2048, Updates.frame_reference_1x2048,
  Updates.frame_2x2048, Updates.frame_ideal_2x2048, Updates.frame_reference_2x2048,
  Updates.frame_256x512, Updates.frame_ideal_256x512, Updates.frame_reference_256x512,
  Updates.frame_256x576, Updates.frame_ideal_256x576, Updates.frame_reference_256x576,
  Updates.frame_256x2048, Updates.frame_ideal_256x2048, Updates.frame_reference_256x2048,
  Updates.frame_512x384, Updates.frame_ideal_512x384, Updates.frame_reference_512x384,
  Updates.frame_512x512, Updates.frame_ideal_512x512, Updates.frame_reference_512x512,
  Updates.frame_1408x2048, Updates.frame_ideal_1408x2048, Updates.frame_reference_1408x2048,
  Updates.frame_4096x704, Updates.frame_ideal_4096x704, Updates.frame_reference_4096x704,
  GradShards.frame_kernel, GradShards.frame_kernelIdeal, GradShards.frame_referenceIdeal,
  GradXRows.frame_kernel, GradXRows.frame_kernelIdeal, GradXRows.frame_referenceIdeal,
  LossHeadRows.frame_kernel, LossHeadRows.frame_kernelIdeal, LossHeadRows.frame_referenceIdeal,
  PoolPreRows.frame_kernel, PoolPreRows.frame_kernelIdeal, PoolPreRows.frame_referenceIdeal,
  PoolMixRows.frame_kernel, PoolMixRows.frame_kernelIdeal, PoolMixRows.frame_referenceIdeal,
  PoolMixBwdRows.frame_kernel, PoolMixBwdRows.frame_kernelIdeal, PoolMixBwdRows.frame_referenceIdeal,
  FfnNormRows.frame_kernel, FfnNormRows.frame_kernelIdeal, FfnNormRows.frame_referenceIdeal,
  FfnUpRows.frame_kernel, FfnUpRows.frame_kernelIdeal, FfnUpRows.frame_referenceIdeal,
  FfnDownRows.frame_kernel, FfnDownRows.frame_kernelIdeal, FfnDownRows.frame_referenceIdeal,
  FfnDactRows.frame_kernel, FfnDactRows.frame_kernelIdeal, FfnDactRows.frame_referenceIdeal,
  FfnDwdRows.frame_kernel, FfnDwdRows.frame_kernelIdeal, FfnDwdRows.frame_referenceIdeal,
  FfnDhRows.frame_kernel, FfnDhRows.frame_kernelIdeal, FfnDhRows.frame_referenceIdeal,
  FfnDwgRows.frame_kernel, FfnDwgRows.frame_kernelIdeal, FfnDwgRows.frame_referenceIdeal,
  FfnNormBwdRows.frame_kernel, FfnNormBwdRows.frame_kernelIdeal, FfnNormBwdRows.frame_referenceIdeal,
  AttnDeltaRows.frame_kernel, AttnDeltaRows.frame_kernelIdeal, AttnDeltaRows.frame_referenceIdeal,
  trivial, value_ideal, value_bits,
  trivial, GatherWeights.value_ideal, GatherWeights.value_bits,
  trivial, GatherGains.value_ideal, GatherGains.value_bits,
  trivial, SumRows.value_ideal,
  trivial, Updates.value_1x256,
  trivial, Updates.value_1x512,
  trivial, Updates.value_1x2048,
  trivial, Updates.value_2x2048,
  trivial, Updates.value_256x512,
  trivial, Updates.value_256x576,
  trivial, Updates.value_256x2048,
  trivial, Updates.value_512x384,
  trivial, Updates.value_512x512,
  trivial, Updates.value_1408x2048,
  trivial, Updates.value_4096x704,
  trivial, GradShards.value_ideal,
  trivial, GradXRows.value_ideal,
  trivial, LossHeadRows.value_ideal,
  trivial, PoolPreRows.value_ideal,
  trivial, PoolMixRows.value_ideal,
  trivial, PoolMixBwdRows.value_ideal,
  trivial, FfnNormRows.value_ideal,
  trivial, FfnUpRows.value_ideal,
  trivial, FfnDownRows.value_ideal,
  trivial, FfnDactRows.value_ideal,
  trivial, FfnDwdRows.value_ideal,
  trivial, FfnDhRows.value_ideal,
  trivial, FfnDwgRows.value_ideal,
  trivial, FfnNormBwdRows.value_ideal,
  trivial, AttnDeltaRows.value_ideal⟩

end Cert.Proof

end
